-- ==== Defs.lean ====
def Pre_EvenBwd (m : (ℓ : Loc Cert.EvenBwd.nD Cert.EvenBwd.τ Cert.EvenBwd.sig) → Buf (Elt Bits) ℓ) : Prop :=
  True

def Pre_EvenBwdIdeal (m : (ℓ : Loc Cert.EvenBwdIdeal.nD Cert.EvenBwdIdeal.τ Cert.EvenBwdIdeal.sig) → Buf (Elt Ideal) ℓ) : Prop :=
  True

def Pre_EvenBwdIdeal_even_finite [hPre_even_finite : Cert.Pre_even_finite.Facts] (m : (ℓ : Loc Cert.EvenBwdIdeal.nD Cert.EvenBwdIdeal.τ Cert.EvenBwdIdeal.sig) → Buf (Elt Ideal) ℓ) : Prop :=
  ∀ c : Dev Cert.EvenBwdIdeal.nD,
    (Cert.Pre_even_finite.fn (F := Ideal) (m ((c.tc : Thread Cert.EvenBwdIdeal.nD Cert.EvenBwdIdeal.τ).loc Cert.EvenBwdIdeal.main_arg0)) (m ((c.tc : Thread Cert.EvenBwdIdeal.nD Cert.EvenBwdIdeal.τ).loc Cert.EvenBwdIdeal.main_arg1)) (m ((c.tc : Thread Cert.EvenBwdIdeal.nD Cert.EvenBwdIdeal.τ).loc Cert.EvenBwdIdeal.main_arg2)) (m ((c.tc : Thread Cert.EvenBwdIdeal.nD Cert.EvenBwdIdeal.τ).loc Cert.EvenBwdIdeal.main_arg3)) (m ((c.tc : Thread Cert.EvenBwdIdeal.nD Cert.EvenBwdIdeal.τ).loc Cert.EvenBwdIdeal.main_arg4)) (m ((c.tc : Thread Cert.EvenBwdIdeal.nD Cert.EvenBwdIdeal.τ).loc Cert.EvenBwdIdeal.main_arg5)) (m ((c.tc : Thread Cert.EvenBwdIdeal.nD Cert.EvenBwdIdeal.τ).loc Cert.EvenBwdIdeal.main_arg6)) (m ((c.tc : Thread Cert.EvenBwdIdeal.nD Cert.EvenBwdIdeal.τ).loc Cert.EvenBwdIdeal.main_arg7))).1 = (fun _ => 1#1)
    ∧ (Cert.Pre_even_finite.fn (F := Ideal) (m ((c.tc : Thread Cert.EvenBwdIdeal.nD Cert.EvenBwdIdeal.τ).loc Cert.EvenBwdIdeal.main_arg0)) (m ((c.tc : Thread Cert.EvenBwdIdeal.nD Cert.EvenBwdIdeal.τ).loc Cert.EvenBwdIdeal.main_arg1)) (m ((c.tc : Thread Cert.EvenBwdIdeal.nD Cert.EvenBwdIdeal.τ).loc Cert.EvenBwdIdeal.main_arg2)) (m ((c.tc : Thread Cert.EvenBwdIdeal.nD Cert.EvenBwdIdeal.τ).loc Cert.EvenBwdIdeal.main_arg3)) (m ((c.tc : Thread Cert.EvenBwdIdeal.nD Cert.EvenBwdIdeal.τ).loc Cert.EvenBwdIdeal.main_arg4)) (m ((c.tc : Thread Cert.EvenBwdIdeal.nD Cert.EvenBwdIdeal.τ).loc Cert.EvenBwdIdeal.main_arg5)) (m ((c.tc : Thread Cert.EvenBwdIdeal.nD Cert.EvenBwdIdeal.τ).loc Cert.EvenBwdIdeal.main_arg6)) (m ((c.tc : Thread Cert.EvenBwdIdeal.nD Cert.EvenBwdIdeal.τ).loc Cert.EvenBwdIdeal.main_arg7))).2.1 = (fun _ => 1#1)
    ∧ (Cert.Pre_even_finite.fn (F := Ideal) (m ((c.tc : Thread Cert.EvenBwdIdeal.nD Cert.EvenBwdIdeal.τ).loc Cert.EvenBwdIdeal.main_arg0)) (m ((c.tc : Thread Cert.EvenBwdIdeal.nD Cert.EvenBwdIdeal.τ).loc Cert.EvenBwdIdeal.main_arg1)) (m ((c.tc : Thread Cert.EvenBwdIdeal.nD Cert.EvenBwdIdeal.τ).loc Cert.EvenBwdIdeal.main_arg2)) (m ((c.tc : Thread Cert.EvenBwdIdeal.nD Cert.EvenBwdIdeal.τ).loc Cert.EvenBwdIdeal.main_arg3)) (m ((c.tc : Thread Cert.EvenBwdIdeal.nD Cert.EvenBwdIdeal.τ).loc Cert.EvenBwdIdeal.main_arg4)) (m ((c.tc : Thread Cert.EvenBwdIdeal.nD Cert.EvenBwdIdeal.τ).loc Cert.EvenBwdIdeal.main_arg5)) (m ((c.tc : Thread Cert.EvenBwdIdeal.nD Cert.EvenBwdIdeal.τ).loc Cert.EvenBwdIdeal.main_arg6)) (m ((c.tc : Thread Cert.EvenBwdIdeal.nD Cert.EvenBwdIdeal.τ).loc Cert.EvenBwdIdeal.main_arg7))).2.2.1 = (fun _ => 1#1)
    ∧ (Cert.Pre_even_finite.fn (F := Ideal) (m ((c.tc : Thread Cert.EvenBwdIdeal.nD Cert.EvenBwdIdeal.τ).loc Cert.EvenBwdIdeal.main_arg0)) (m ((c.tc : Thread Cert.EvenBwdIdeal.nD Cert.EvenBwdIdeal.τ).loc Cert.EvenBwdIdeal.main_arg1)) (m ((c.tc : Thread Cert.EvenBwdIdeal.nD Cert.EvenBwdIdeal.τ).loc Cert.EvenBwdIdeal.main_arg2)) (m ((c.tc : Thread Cert.EvenBwdIdeal.nD Cert.EvenBwdIdeal.τ).loc Cert.EvenBwdIdeal.main_arg3)) (m ((c.tc : Thread Cert.EvenBwdIdeal.nD Cert.EvenBwdIdeal.τ).loc Cert.EvenBwdIdeal.main_arg4)) (m ((c.tc : Thread Cert.EvenBwdIdeal.nD Cert.EvenBwdIdeal.τ).loc Cert.EvenBwdIdeal.main_arg5)) (m ((c.tc : Thread Cert.EvenBwdIdeal.nD Cert.EvenBwdIdeal.τ).loc Cert.EvenBwdIdeal.main_arg6)) (m ((c.tc : Thread Cert.EvenBwdIdeal.nD Cert.EvenBwdIdeal.τ).loc Cert.EvenBwdIdeal.main_arg7))).2.2.2 = (fun _ => 1#1)

def Pre_EvenBwdRefIdeal (m : (ℓ : Loc Cert.EvenBwdRefIdeal.nD Cert.EvenBwdRefIdeal.τ Cert.EvenBwdRefIdeal.sig) → Buf (Elt Ideal) ℓ) : Prop :=
  True

def Pre_EvenBwdRefIdeal_even_finite [hPre_even_finite : Cert.Pre_even_finite.Facts] (m : (ℓ : Loc Cert.EvenBwdRefIdeal.nD Cert.EvenBwdRefIdeal.τ Cert.EvenBwdRefIdeal.sig) → Buf (Elt Ideal) ℓ) : Prop :=
  ∀ c : Dev Cert.EvenBwdRefIdeal.nD,
    (Cert.Pre_even_finite.fn (F := Ideal) (m ((c.tc : Thread Cert.EvenBwdRefIdeal.nD Cert.EvenBwdRefIdeal.τ).loc Cert.EvenBwdRefIdeal.main_arg0)) (m ((c.tc : Thread Cert.EvenBwdRefIdeal.nD Cert.EvenBwdRefIdeal.τ).loc Cert.EvenBwdRefIdeal.main_arg1)) (m ((c.tc : Thread Cert.EvenBwdRefIdeal.nD Cert.EvenBwdRefIdeal.τ).loc Cert.EvenBwdRefIdeal.main_arg2)) (m ((c.tc : Thread Cert.EvenBwdRefIdeal.nD Cert.EvenBwdRefIdeal.τ).loc Cert.EvenBwdRefIdeal.main_arg3)) (m ((c.tc : Thread Cert.EvenBwdRefIdeal.nD Cert.EvenBwdRefIdeal.τ).loc Cert.EvenBwdRefIdeal.main_arg4)) (m ((c.tc : Thread Cert.EvenBwdRefIdeal.nD Cert.EvenBwdRefIdeal.τ).loc Cert.EvenBwdRefIdeal.main_arg5)) (m ((c.tc : Thread Cert.EvenBwdRefIdeal.nD Cert.EvenBwdRefIdeal.τ).loc Cert.EvenBwdRefIdeal.main_arg6)) (m ((c.tc : Thread Cert.EvenBwdRefIdeal.nD Cert.EvenBwdRefIdeal.τ).loc Cert.EvenBwdRefIdeal.main_arg7))).1 = (fun _ => 1#1)
    ∧ (Cert.Pre_even_finite.fn (F := Ideal) (m ((c.tc : Thread Cert.EvenBwdRefIdeal.nD Cert.EvenBwdRefIdeal.τ).loc Cert.EvenBwdRefIdeal.main_arg0)) (m ((c.tc : Thread Cert.EvenBwdRefIdeal.nD Cert.EvenBwdRefIdeal.τ).loc Cert.EvenBwdRefIdeal.main_arg1)) (m ((c.tc : Thread Cert.EvenBwdRefIdeal.nD Cert.EvenBwdRefIdeal.τ).loc Cert.EvenBwdRefIdeal.main_arg2)) (m ((c.tc : Thread Cert.EvenBwdRefIdeal.nD Cert.EvenBwdRefIdeal.τ).loc Cert.EvenBwdRefIdeal.main_arg3)) (m ((c.tc : Thread Cert.EvenBwdRefIdeal.nD Cert.EvenBwdRefIdeal.τ).loc Cert.EvenBwdRefIdeal.main_arg4)) (m ((c.tc : Thread Cert.EvenBwdRefIdeal.nD Cert.EvenBwdRefIdeal.τ).loc Cert.EvenBwdRefIdeal.main_arg5)) (m ((c.tc : Thread Cert.EvenBwdRefIdeal.nD Cert.EvenBwdRefIdeal.τ).loc Cert.EvenBwdRefIdeal.main_arg6)) (m ((c.tc : Thread Cert.EvenBwdRefIdeal.nD Cert.EvenBwdRefIdeal.τ).loc Cert.EvenBwdRefIdeal.main_arg7))).2.1 = (fun _ => 1#1)
    ∧ (Cert.Pre_even_finite.fn (F := Ideal) (m ((c.tc : Thread Cert.EvenBwdRefIdeal.nD Cert.EvenBwdRefIdeal.τ).loc Cert.EvenBwdRefIdeal.main_arg0)) (m ((c.tc : Thread Cert.EvenBwdRefIdeal.nD Cert.EvenBwdRefIdeal.τ).loc Cert.EvenBwdRefIdeal.main_arg1)) (m ((c.tc : Thread Cert.EvenBwdRefIdeal.nD Cert.EvenBwdRefIdeal.τ).loc Cert.EvenBwdRefIdeal.main_arg2)) (m ((c.tc : Thread Cert.EvenBwdRefIdeal.nD Cert.EvenBwdRefIdeal.τ).loc Cert.EvenBwdRefIdeal.main_arg3)) (m ((c.tc : Thread Cert.EvenBwdRefIdeal.nD Cert.EvenBwdRefIdeal.τ).loc Cert.EvenBwdRefIdeal.main_arg4)) (m ((c.tc : Thread Cert.EvenBwdRefIdeal.nD Cert.EvenBwdRefIdeal.τ).loc Cert.EvenBwdRefIdeal.main_arg5)) (m ((c.tc : Thread Cert.EvenBwdRefIdeal.nD Cert.EvenBwdRefIdeal.τ).loc Cert.EvenBwdRefIdeal.main_arg6)) (m ((c.tc : Thread Cert.EvenBwdRefIdeal.nD Cert.EvenBwdRefIdeal.τ).loc Cert.EvenBwdRefIdeal.main_arg7))).2.2.1 = (fun _ => 1#1)
    ∧ (Cert.Pre_even_finite.fn (F := Ideal) (m ((c.tc : Thread Cert.EvenBwdRefIdeal.nD Cert.EvenBwdRefIdeal.τ).loc Cert.EvenBwdRefIdeal.main_arg0)) (m ((c.tc : Thread Cert.EvenBwdRefIdeal.nD Cert.EvenBwdRefIdeal.τ).loc Cert.EvenBwdRefIdeal.main_arg1)) (m ((c.tc : Thread Cert.EvenBwdRefIdeal.nD Cert.EvenBwdRefIdeal.τ).loc Cert.EvenBwdRefIdeal.main_arg2)) (m ((c.tc : Thread Cert.EvenBwdRefIdeal.nD Cert.EvenBwdRefIdeal.τ).loc Cert.EvenBwdRefIdeal.main_arg3)) (m ((c.tc : Thread Cert.EvenBwdRefIdeal.nD Cert.EvenBwdRefIdeal.τ).loc Cert.EvenBwdRefIdeal.main_arg4)) (m ((c.tc : Thread Cert.EvenBwdRefIdeal.nD Cert.EvenBwdRefIdeal.τ).loc Cert.EvenBwdRefIdeal.main_arg5)) (m ((c.tc : Thread Cert.EvenBwdRefIdeal.nD Cert.EvenBwdRefIdeal.τ).loc Cert.EvenBwdRefIdeal.main_arg6)) (m ((c.tc : Thread Cert.EvenBwdRefIdeal.nD Cert.EvenBwdRefIdeal.τ).loc Cert.EvenBwdRefIdeal.main_arg7))).2.2.2 = (fun _ => 1#1)

def Pre_DwFfn (m : (ℓ : Loc Cert.DwFfn.nD Cert.DwFfn.τ Cert.DwFfn.sig) → Buf (Elt Bits) ℓ) : Prop :=
  True

def Pre_DwFfnIdeal (m : (ℓ : Loc Cert.DwFfnIdeal.nD Cert.DwFfnIdeal.τ Cert.DwFfnIdeal.sig) → Buf (Elt Ideal) ℓ) : Prop :=
  True

def Pre_DwFfnRefIdeal (m : (ℓ : Loc Cert.DwFfnRefIdeal.nD Cert.DwFfnRefIdeal.τ Cert.DwFfnRefIdeal.sig) → Buf (Elt Ideal) ℓ) : Prop :=
  True

def Pre_DxFfn (m : (ℓ : Loc Cert.DxFfn.nD Cert.DxFfn.τ Cert.DxFfn.sig) → Buf (Elt Bits) ℓ) : Prop :=
  True

def Pre_DxFfnIdeal (m : (ℓ : Loc Cert.DxFfnIdeal.nD Cert.DxFfnIdeal.τ Cert.DxFfnIdeal.sig) → Buf (Elt Ideal) ℓ) : Prop :=
  True

def Pre_DxFfnRefIdeal (m : (ℓ : Loc Cert.DxFfnRefIdeal.nD Cert.DxFfnRefIdeal.τ Cert.DxFfnRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DxOut (m : (ℓ : Loc Cert.DxOut.nD Cert.DxOut.τ Cert.DxOut.sig) → Buf (Elt Bits) ℓ) : Prop :=
  True

def Pre_DxOutIdeal (m : (ℓ : Loc Cert.DxOutIdeal.nD Cert.DxOutIdeal.τ Cert.DxOutIdeal.sig) → Buf (Elt Ideal) ℓ) : Prop :=
  True

def Pre_DxOutRefIdeal (m : (ℓ : Loc Cert.DxOutRefIdeal.nD Cert.DxOutRefIdeal.τ Cert.DxOutRefIdeal.sig) → Buf (Elt Ideal) ℓ) : Prop :=
  True

def Pre_DwInO (m : (ℓ : Loc Cert.DwInO.nD Cert.DwInO.τ Cert.DwInO.sig) → Buf (Elt Bits) ℓ) : Prop :=
  True

def Pre_DwInOIdeal (m : (ℓ : Loc Cert.DwInOIdeal.nD Cert.DwInOIdeal.τ Cert.DwInOIdeal.sig) → Buf (Elt Ideal) ℓ) : Prop :=
  True

def Pre_DwInORefIdeal (m : (ℓ : Loc Cert.DwInORefIdeal.nD Cert.DwInORefIdeal.τ Cert.DwInORefIdeal.sig) → Buf (Elt Ideal) ℓ) : Prop :=
  True

def Pre_DxInO (m : (ℓ : Loc Cert.DxInO.nD Cert.DxInO.τ Cert.DxInO.sig) → Buf (Elt Bits) ℓ) : Prop :=
  True

def Pre_DxInOIdeal (m : (ℓ : Loc Cert.DxInOIdeal.nD Cert.DxInOIdeal.τ Cert.DxInOIdeal.sig) → Buf (Elt Ideal) ℓ) : Prop :=
  True

def Pre_DxInORefIdeal (m : (ℓ : Loc Cert.DxInORefIdeal.nD Cert.DxInORefIdeal.τ Cert.DxInORefIdeal.sig) → Buf (Elt Ideal) ℓ) : Prop :=
  True

def Pre_DwInE (m : (ℓ : Loc Cert.DwInE.nD Cert.DwInE.τ Cert.DwInE.sig) → Buf (Elt Bits) ℓ) : Prop :=
  True

def Pre_DwInEIdeal (m : (ℓ : Loc Cert.DwInEIdeal.nD Cert.DwInEIdeal.τ Cert.DwInEIdeal.sig) → Buf (Elt Ideal) ℓ) : Prop :=
  True

def Pre_DwInERefIdeal (m : (ℓ : Loc Cert.DwInERefIdeal.nD Cert.DwInERefIdeal.τ Cert.DwInERefIdeal.sig) → Buf (Elt Ideal) ℓ) : Prop :=
  True

def Pre_DxInE (m : (ℓ : Loc Cert.DxInE.nD Cert.DxInE.τ Cert.DxInE.sig) → Buf (Elt Bits) ℓ) : Prop :=
  True

def Pre_DxInEIdeal (m : (ℓ : Loc Cert.DxInEIdeal.nD Cert.DxInEIdeal.τ Cert.DxInEIdeal.sig) → Buf (Elt Ideal) ℓ) : Prop :=
  True

def Pre_DxInERefIdeal (m : (ℓ : Loc Cert.DxInERefIdeal.nD Cert.DxInERefIdeal.τ Cert.DxInERefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_InO (m : (ℓ : Loc Cert.InO.nD Cert.InO.τ Cert.InO.sig) → Buf (Elt Bits) ℓ) : Prop :=
  True

def Pre_InOIdeal (m : (ℓ : Loc Cert.InOIdeal.nD Cert.InOIdeal.τ Cert.InOIdeal.sig) → Buf (Elt Ideal) ℓ) : Prop :=
  True

def Pre_InORefIdeal (m : (ℓ : Loc Cert.InORefIdeal.nD Cert.InORefIdeal.τ Cert.InORefIdeal.sig) → Buf (Elt Ideal) ℓ) : Prop :=
  True

def Pre_InE (m : (ℓ : Loc Cert.InE.nD Cert.InE.τ Cert.InE.sig) → Buf (Elt Bits) ℓ) : Prop :=
  True

def Pre_InEIdeal (m : (ℓ : Loc Cert.InEIdeal.nD Cert.InEIdeal.τ Cert.InEIdeal.sig) → Buf (Elt Ideal) ℓ) : Prop :=
  True

def Pre_InERefIdeal (m : (ℓ : Loc Cert.InERefIdeal.nD Cert.InERefIdeal.τ Cert.InERefIdeal.sig) → Buf (Elt Ideal) ℓ) : Prop :=
  True

def Pre_OutMix (m : (ℓ : Loc Cert.OutMix.nD Cert.OutMix.τ Cert.OutMix.sig) → Buf (Elt Bits) ℓ) : Prop :=
  True

def Pre_OutMixIdeal (m : (ℓ : Loc Cert.OutMixIdeal.nD Cert.OutMixIdeal.τ Cert.OutMixIdeal.sig) → Buf (Elt Ideal) ℓ) : Prop :=
  True

def Pre_OutMixRefIdeal (m : (ℓ : Loc Cert.OutMixRefIdeal.nD Cert.OutMixRefIdeal.τ Cert.OutMixRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_swiglu_finite [hPre_swiglu_finite : Cert.Pre_swiglu_finite.Facts] (m : (ℓ : Loc Cert.FfnIdeal.nD Cert.FfnIdeal.τ Cert.FfnIdeal.sig) → Buf (Elt Ideal) ℓ) : Prop :=
  ∀ c : Dev Cert.FfnIdeal.nD,
    (Cert.Pre_swiglu_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_swiglu_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_swiglu_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_swiglu_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_swiglu_finite [hPre_swiglu_finite : Cert.Pre_swiglu_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_swiglu_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).1 = (fun _ => 1#1)
    ∧ (Cert.Pre_swiglu_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.1 = (fun _ => 1#1)
    ∧ (Cert.Pre_swiglu_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.1 = (fun _ => 1#1)
    ∧ (Cert.Pre_swiglu_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2 = (fun _ => 1#1)

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_AdamInE (m : (ℓ : Loc Cert.AdamInE.nD Cert.AdamInE.τ Cert.AdamInE.sig) → Buf (Elt Bits) ℓ) : Prop :=
  True

def Pre_AdamInEIdeal (m : (ℓ : Loc Cert.AdamInEIdeal.nD Cert.AdamInEIdeal.τ Cert.AdamInEIdeal.sig) → Buf (Elt Ideal) ℓ) : Prop :=
  True

def Pre_AdamInERefIdeal (m : (ℓ : Loc Cert.AdamInERefIdeal.nD Cert.AdamInERefIdeal.τ Cert.AdamInERefIdeal.sig) → Buf (Elt Ideal) ℓ) : Prop :=
  True

def Pre_AdamInO (m : (ℓ : Loc Cert.AdamInO.nD Cert.AdamInO.τ Cert.AdamInO.sig) → Buf (Elt Bits) ℓ) : Prop :=
  True

def Pre_AdamInOIdeal (m : (ℓ : Loc Cert.AdamInOIdeal.nD Cert.AdamInOIdeal.τ Cert.AdamInOIdeal.sig) → Buf (Elt Ideal) ℓ) : Prop :=
  True

def Pre_AdamInORefIdeal (m : (ℓ : Loc Cert.AdamInORefIdeal.nD Cert.AdamInORefIdeal.τ Cert.AdamInORefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_EvenBwd [hEvenBwd : Cert.EvenBwd.Facts] : Prop :=
  ∀ (m : (ℓ : Loc Cert.EvenBwd.nD Cert.EvenBwd.τ Cert.EvenBwd.sig) → Buf (Elt Bits) ℓ) (g : Dev Cert.EvenBwd.nD → PrngReg), Pre_EvenBwd m →
    θ_run (Cert.EvenBwd.defs (F := Bits)) (onTc (τ := Cert.EvenBwd.τ) (Cert.EvenBwd.main (F := Bits))) ⟨m, fun _ => 0, g⟩ (fun r => (∀ c : Dev Cert.EvenBwd.nD,
      r.2.mem ((c.tc : Thread Cert.EvenBwd.nD Cert.EvenBwd.τ).loc Cert.EvenBwd.main_arg0) = m ((c.tc : Thread Cert.EvenBwd.nD Cert.EvenBwd.τ).loc Cert.EvenBwd.main_arg0)
      ∧ r.2.mem ((c.tc : Thread Cert.EvenBwd.nD Cert.EvenBwd.τ).loc Cert.EvenBwd.main_arg1) = m ((c.tc : Thread Cert.EvenBwd.nD Cert.EvenBwd.τ).loc Cert.EvenBwd.main_arg1)
      ∧ r.2.mem ((c.tc : Thread Cert.EvenBwd.nD Cert.EvenBwd.τ).loc Cert.EvenBwd.main_arg2) = m ((c.tc : Thread Cert.EvenBwd.nD Cert.EvenBwd.τ).loc Cert.EvenBwd.main_arg2)
      ∧ r.2.mem ((c.tc : Thread Cert.EvenBwd.nD Cert.EvenBwd.τ).loc Cert.EvenBwd.main_arg3) = m ((c.tc : Thread Cert.EvenBwd.nD Cert.EvenBwd.τ).loc Cert.EvenBwd.main_arg3)
      ∧ r.2.mem ((c.tc : Thread Cert.EvenBwd.nD Cert.EvenBwd.τ).loc Cert.EvenBwd.main_arg4) = m ((c.tc : Thread Cert.EvenBwd.nD Cert.EvenBwd.τ).loc Cert.EvenBwd.main_arg4)
      ∧ r.2.mem ((c.tc : Thread Cert.EvenBwd.nD Cert.EvenBwd.τ).loc Cert.EvenBwd.main_arg5) = m ((c.tc : Thread Cert.EvenBwd.nD Cert.EvenBwd.τ).loc Cert.EvenBwd.main_arg5)
      ∧ r.2.mem ((c.tc : Thread Cert.EvenBwd.nD Cert.EvenBwd.τ).loc Cert.EvenBwd.main_arg6) = m ((c.tc : Thread Cert.EvenBwd.nD Cert.EvenBwd.τ).loc Cert.EvenBwd.main_arg6)
      ∧ r.2.mem ((c.tc : Thread Cert.EvenBwd.nD Cert.EvenBwd.τ).loc Cert.EvenBwd.main_arg7) = m ((c.tc : Thread Cert.EvenBwd.nD Cert.EvenBwd.τ).loc Cert.EvenBwd.main_arg7))
      ∧ r.2.sem = fun _ => 0)

def quiescent_EvenBwdIdeal [hEvenBwdIdeal : Cert.EvenBwdIdeal.Facts] : Prop :=
  ∀ (m : (ℓ : Loc Cert.EvenBwdIdeal.nD Cert.EvenBwdIdeal.τ Cert.EvenBwdIdeal.sig) → Buf (Elt Ideal) ℓ) (g : Dev Cert.EvenBwdIdeal.nD → PrngReg), Pre_EvenBwdIdeal m →
    θ_run (Cert.EvenBwdIdeal.defs (F := Ideal)) (onTc (τ := Cert.EvenBwdIdeal.τ) (Cert.EvenBwdIdeal.main (F := Ideal))) ⟨m, fun _ => 0, g⟩ (fun r => (∀ c : Dev Cert.EvenBwdIdeal.nD,
      r.2.mem ((c.tc : Thread Cert.EvenBwdIdeal.nD Cert.EvenBwdIdeal.τ).loc Cert.EvenBwdIdeal.main_arg0) = m ((c.tc : Thread Cert.EvenBwdIdeal.nD Cert.EvenBwdIdeal.τ).loc Cert.EvenBwdIdeal.main_arg0)
      ∧ r.2.mem ((c.tc : Thread Cert.EvenBwdIdeal.nD Cert.EvenBwdIdeal.τ).loc Cert.EvenBwdIdeal.main_arg1) = m ((c.tc : Thread Cert.EvenBwdIdeal.nD Cert.EvenBwdIdeal.τ).loc Cert.EvenBwdIdeal.main_arg1)
      ∧ r.2.mem ((c.tc : Thread Cert.EvenBwdIdeal.nD Cert.EvenBwdIdeal.τ).loc Cert.EvenBwdIdeal.main_arg2) = m ((c.tc : Thread Cert.EvenBwdIdeal.nD Cert.EvenBwdIdeal.τ).loc Cert.EvenBwdIdeal.main_arg2)
      ∧ r.2.mem ((c.tc : Thread Cert.EvenBwdIdeal.nD Cert.EvenBwdIdeal.τ).loc Cert.EvenBwdIdeal.main_arg3) = m ((c.tc : Thread Cert.EvenBwdIdeal.nD Cert.EvenBwdIdeal.τ).loc Cert.EvenBwdIdeal.main_arg3)
      ∧ r.2.mem ((c.tc : Thread Cert.EvenBwdIdeal.nD Cert.EvenBwdIdeal.τ).loc Cert.EvenBwdIdeal.main_arg4) = m ((c.tc : Thread Cert.EvenBwdIdeal.nD Cert.EvenBwdIdeal.τ).loc Cert.EvenBwdIdeal.main_arg4)
      ∧ r.2.mem ((c.tc : Thread Cert.EvenBwdIdeal.nD Cert.EvenBwdIdeal.τ).loc Cert.EvenBwdIdeal.main_arg5) = m ((c.tc : Thread Cert.EvenBwdIdeal.nD Cert.EvenBwdIdeal.τ).loc Cert.EvenBwdIdeal.main_arg5)
      ∧ r.2.mem ((c.tc : Thread Cert.EvenBwdIdeal.nD Cert.EvenBwdIdeal.τ).loc Cert.EvenBwdIdeal.main_arg6) = m ((c.tc : Thread Cert.EvenBwdIdeal.nD Cert.EvenBwdIdeal.τ).loc Cert.EvenBwdIdeal.main_arg6)
      ∧ r.2.mem ((c.tc : Thread Cert.EvenBwdIdeal.nD Cert.EvenBwdIdeal.τ).loc Cert.EvenBwdIdeal.main_arg7) = m ((c.tc : Thread Cert.EvenBwdIdeal.nD Cert.EvenBwdIdeal.τ).loc Cert.EvenBwdIdeal.main_arg7))
      ∧ r.2.sem = fun _ => 0)

def quiescent_EvenBwdIdeal_pre_even_finite [hEvenBwdIdeal : Cert.EvenBwdIdeal.Facts] [hPre_even_finite : Cert.Pre_even_finite.Facts] : Prop :=
  ∀ (m : (ℓ : Loc Cert.EvenBwdIdeal.nD Cert.EvenBwdIdeal.τ Cert.EvenBwdIdeal.sig) → Buf (Elt Ideal) ℓ) (g : Dev Cert.EvenBwdIdeal.nD → PrngReg), Pre_EvenBwdIdeal_even_finite m →
    θ_run (Cert.EvenBwdIdeal.defs (F := Ideal)) (onTc (τ := Cert.EvenBwdIdeal.τ) (Cert.EvenBwdIdeal.main (F := Ideal))) ⟨m, fun _ => 0, g⟩ (fun r => (∀ c : Dev Cert.EvenBwdIdeal.nD,
      r.2.mem ((c.tc : Thread Cert.EvenBwdIdeal.nD Cert.EvenBwdIdeal.τ).loc Cert.EvenBwdIdeal.main_arg0) = m ((c.tc : Thread Cert.EvenBwdIdeal.nD Cert.EvenBwdIdeal.τ).loc Cert.EvenBwdIdeal.main_arg0)
      ∧ r.2.mem ((c.tc : Thread Cert.EvenBwdIdeal.nD Cert.EvenBwdIdeal.τ).loc Cert.EvenBwdIdeal.main_arg1) = m ((c.tc : Thread Cert.EvenBwdIdeal.nD Cert.EvenBwdIdeal.τ).loc Cert.EvenBwdIdeal.main_arg1)
      ∧ r.2.mem ((c.tc : Thread Cert.EvenBwdIdeal.nD Cert.EvenBwdIdeal.τ).loc Cert.EvenBwdIdeal.main_arg2) = m ((c.tc : Thread Cert.EvenBwdIdeal.nD Cert.EvenBwdIdeal.τ).loc Cert.EvenBwdIdeal.main_arg2)
      ∧ r.2.mem ((c.tc : Thread Cert.EvenBwdIdeal.nD Cert.EvenBwdIdeal.τ).loc Cert.EvenBwdIdeal.main_arg3) = m ((c.tc : Thread Cert.EvenBwdIdeal.nD Cert.EvenBwdIdeal.τ).loc Cert.EvenBwdIdeal.main_arg3)
      ∧ r.2.mem ((c.tc : Thread Cert.EvenBwdIdeal.nD Cert.EvenBwdIdeal.τ).loc Cert.EvenBwdIdeal.main_arg4) = m ((c.tc : Thread Cert.EvenBwdIdeal.nD Cert.EvenBwdIdeal.τ).loc Cert.EvenBwdIdeal.main_arg4)
      ∧ r.2.mem ((c.tc : Thread Cert.EvenBwdIdeal.nD Cert.EvenBwdIdeal.τ).loc Cert.EvenBwdIdeal.main_arg5) = m ((c.tc : Thread Cert.EvenBwdIdeal.nD Cert.EvenBwdIdeal.τ).loc Cert.EvenBwdIdeal.main_arg5)
      ∧ r.2.mem ((c.tc : Thread Cert.EvenBwdIdeal.nD Cert.EvenBwdIdeal.τ).loc Cert.EvenBwdIdeal.main_arg6) = m ((c.tc : Thread Cert.EvenBwdIdeal.nD Cert.EvenBwdIdeal.τ).loc Cert.EvenBwdIdeal.main_arg6)
      ∧ r.2.mem ((c.tc : Thread Cert.EvenBwdIdeal.nD Cert.EvenBwdIdeal.τ).loc Cert.EvenBwdIdeal.main_arg7) = m ((c.tc : Thread Cert.EvenBwdIdeal.nD Cert.EvenBwdIdeal.τ).loc Cert.EvenBwdIdeal.main_arg7))
      ∧ r.2.sem = fun _ => 0)

def quiescent_EvenBwdRefIdeal [hEvenBwdRefIdeal : Cert.EvenBwdRefIdeal.Facts] : Prop :=
  ∀ (m : (ℓ : Loc Cert.EvenBwdRefIdeal.nD Cert.EvenBwdRefIdeal.τ Cert.EvenBwdRefIdeal.sig) → Buf (Elt Ideal) ℓ) (g : Dev Cert.EvenBwdRefIdeal.nD → PrngReg), Pre_EvenBwdRefIdeal m →
    θ_run (Cert.EvenBwdRefIdeal.defs (F := Ideal)) (onTc (τ := Cert.EvenBwdRefIdeal.τ) (Cert.EvenBwdRefIdeal.main (F := Ideal))) ⟨m, fun _ => 0, g⟩ (fun r => (∀ c : Dev Cert.EvenBwdRefIdeal.nD,
      r.2.mem ((c.tc : Thread Cert.EvenBwdRefIdeal.nD Cert.EvenBwdRefIdeal.τ).loc Cert.EvenBwdRefIdeal.main_arg0) = m ((c.tc : Thread Cert.EvenBwdRefIdeal.nD Cert.EvenBwdRefIdeal.τ).loc Cert.EvenBwdRefIdeal.main_arg0)
      ∧ r.2.mem ((c.tc : Thread Cert.EvenBwdRefIdeal.nD Cert.EvenBwdRefIdeal.τ).loc Cert.EvenBwdRefIdeal.main_arg1) = m ((c.tc : Thread Cert.EvenBwdRefIdeal.nD Cert.EvenBwdRefIdeal.τ).loc Cert.EvenBwdRefIdeal.main_arg1)
      ∧ r.2.mem ((c.tc : Thread Cert.EvenBwdRefIdeal.nD Cert.EvenBwdRefIdeal.τ).loc Cert.EvenBwdRefIdeal.main_arg2) = m ((c.tc : Thread Cert.EvenBwdRefIdeal.nD Cert.EvenBwdRefIdeal.τ).loc Cert.EvenBwdRefIdeal.main_arg2)
      ∧ r.2.mem ((c.tc : Thread Cert.EvenBwdRefIdeal.nD Cert.EvenBwdRefIdeal.τ).loc Cert.EvenBwdRefIdeal.main_arg3) = m ((c.tc : Thread Cert.EvenBwdRefIdeal.nD Cert.EvenBwdRefIdeal.τ).loc Cert.EvenBwdRefIdeal.main_arg3)
      ∧ r.2.mem ((c.tc : Thread Cert.EvenBwdRefIdeal.nD Cert.EvenBwdRefIdeal.τ).loc Cert.EvenBwdRefIdeal.main_arg4) = m ((c.tc : Thread Cert.EvenBwdRefIdeal.nD Cert.EvenBwdRefIdeal.τ).loc Cert.EvenBwdRefIdeal.main_arg4)
      ∧ r.2.mem ((c.tc : Thread Cert.EvenBwdRefIdeal.nD Cert.EvenBwdRefIdeal.τ).loc Cert.EvenBwdRefIdeal.main_arg5) = m ((c.tc : Thread Cert.EvenBwdRefIdeal.nD Cert.EvenBwdRefIdeal.τ).loc Cert.EvenBwdRefIdeal.main_arg5)
      ∧ r.2.mem ((c.tc : Thread Cert.EvenBwdRefIdeal.nD Cert.EvenBwdRefIdeal.τ).loc Cert.EvenBwdRefIdeal.main_arg6) = m ((c.tc : Thread Cert.EvenBwdRefIdeal.nD Cert.EvenBwdRefIdeal.τ).loc Cert.EvenBwdRefIdeal.main_arg6)
      ∧ r.2.mem ((c.tc : Thread Cert.EvenBwdRefIdeal.nD Cert.EvenBwdRefIdeal.τ).loc Cert.EvenBwdRefIdeal.main_arg7) = m ((c.tc : Thread Cert.EvenBwdRefIdeal.nD Cert.EvenBwdRefIdeal.τ).loc Cert.EvenBwdRefIdeal.main_arg7))
      ∧ r.2.sem = fun _ => 0)

def quiescent_EvenBwdRefIdeal_pre_even_finite [hEvenBwdRefIdeal : Cert.EvenBwdRefIdeal.Facts] [hPre_even_finite : Cert.Pre_even_finite.Facts] : Prop :=
  ∀ (m : (ℓ : Loc Cert.EvenBwdRefIdeal.nD Cert.EvenBwdRefIdeal.τ Cert.EvenBwdRefIdeal.sig) → Buf (Elt Ideal) ℓ) (g : Dev Cert.EvenBwdRefIdeal.nD → PrngReg), Pre_EvenBwdRefIdeal_even_finite m →
    θ_run (Cert.EvenBwdRefIdeal.defs (F := Ideal)) (onTc (τ := Cert.EvenBwdRefIdeal.τ) (Cert.EvenBwdRefIdeal.main (F := Ideal))) ⟨m, fun _ => 0, g⟩ (fun r => (∀ c : Dev Cert.EvenBwdRefIdeal.nD,
      r.2.mem ((c.tc : Thread Cert.EvenBwdRefIdeal.nD Cert.EvenBwdRefIdeal.τ).loc Cert.EvenBwdRefIdeal.main_arg0) = m ((c.tc : Thread Cert.EvenBwdRefIdeal.nD Cert.EvenBwdRefIdeal.τ).loc Cert.EvenBwdRefIdeal.main_arg0)
      ∧ r.2.mem ((c.tc : Thread Cert.EvenBwdRefIdeal.nD Cert.EvenBwdRefIdeal.τ).loc Cert.EvenBwdRefIdeal.main_arg1) = m ((c.tc : Thread Cert.EvenBwdRefIdeal.nD Cert.EvenBwdRefIdeal.τ).loc Cert.EvenBwdRefIdeal.main_arg1)
      ∧ r.2.mem ((c.tc : Thread Cert.EvenBwdRefIdeal.nD Cert.EvenBwdRefIdeal.τ).loc Cert.EvenBwdRefIdeal.main_arg2) = m ((c.tc : Thread Cert.EvenBwdRefIdeal.nD Cert.EvenBwdRefIdeal.τ).loc Cert.EvenBwdRefIdeal.main_arg2)
      ∧ r.2.mem ((c.tc : Thread Cert.EvenBwdRefIdeal.nD Cert.EvenBwdRefIdeal.τ).loc Cert.EvenBwdRefIdeal.main_arg3) = m ((c.tc : Thread Cert.EvenBwdRefIdeal.nD Cert.EvenBwdRefIdeal.τ).loc Cert.EvenBwdRefIdeal.main_arg3)
      ∧ r.2.mem ((c.tc : Thread Cert.EvenBwdRefIdeal.nD Cert.EvenBwdRefIdeal.τ).loc Cert.EvenBwdRefIdeal.main_arg4) = m ((c.tc : Thread Cert.EvenBwdRefIdeal.nD Cert.EvenBwdRefIdeal.τ).loc Cert.EvenBwdRefIdeal.main_arg4)
      ∧ r.2.mem ((c.tc : Thread Cert.EvenBwdRefIdeal.nD Cert.EvenBwdRefIdeal.τ).loc Cert.EvenBwdRefIdeal.main_arg5) = m ((c.tc : Thread Cert.EvenBwdRefIdeal.nD Cert.EvenBwdRefIdeal.τ).loc Cert.EvenBwdRefIdeal.main_arg5)
      ∧ r.2.mem ((c.tc : Thread Cert.EvenBwdRefIdeal.nD Cert.EvenBwdRefIdeal.τ).loc Cert.EvenBwdRefIdeal.main_arg6) = m ((c.tc : Thread Cert.EvenBwdRefIdeal.nD Cert.EvenBwdRefIdeal.τ).loc Cert.EvenBwdRefIdeal.main_arg6)
      ∧ r.2.mem ((c.tc : Thread Cert.EvenBwdRefIdeal.nD Cert.EvenBwdRefIdeal.τ).loc Cert.EvenBwdRefIdeal.main_arg7) = m ((c.tc : Thread Cert.EvenBwdRefIdeal.nD Cert.EvenBwdRefIdeal.τ).loc Cert.EvenBwdRefIdeal.main_arg7))
      ∧ r.2.sem = fun _ => 0)

def quiescent_DwFfn [hDwFfn : Cert.DwFfn.Facts] : Prop :=
  ∀ (m : (ℓ : Loc Cert.DwFfn.nD Cert.DwFfn.τ Cert.DwFfn.sig) → Buf (Elt Bits) ℓ) (g : Dev Cert.DwFfn.nD → PrngReg), Pre_DwFfn m →
    θ_run (Cert.DwFfn.defs (F := Bits)) (onTc (τ := Cert.DwFfn.τ) (Cert.DwFfn.main (F := Bits))) ⟨m, fun _ => 0, g⟩ (fun r => (∀ c : Dev Cert.DwFfn.nD,
      r.2.mem ((c.tc : Thread Cert.DwFfn.nD Cert.DwFfn.τ).loc Cert.DwFfn.main_arg0) = m ((c.tc : Thread Cert.DwFfn.nD Cert.DwFfn.τ).loc Cert.DwFfn.main_arg0)
      ∧ r.2.mem ((c.tc : Thread Cert.DwFfn.nD Cert.DwFfn.τ).loc Cert.DwFfn.main_arg1) = m ((c.tc : Thread Cert.DwFfn.nD Cert.DwFfn.τ).loc Cert.DwFfn.main_arg1))
      ∧ r.2.sem = fun _ => 0)

def quiescent_DwFfnIdeal [hDwFfnIdeal : Cert.DwFfnIdeal.Facts] : Prop :=
  ∀ (m : (ℓ : Loc Cert.DwFfnIdeal.nD Cert.DwFfnIdeal.τ Cert.DwFfnIdeal.sig) → Buf (Elt Ideal) ℓ) (g : Dev Cert.DwFfnIdeal.nD → PrngReg), Pre_DwFfnIdeal m →
    θ_run (Cert.DwFfnIdeal.defs (F := Ideal)) (onTc (τ := Cert.DwFfnIdeal.τ) (Cert.DwFfnIdeal.main (F := Ideal))) ⟨m, fun _ => 0, g⟩ (fun r => (∀ c : Dev Cert.DwFfnIdeal.nD,
      r.2.mem ((c.tc : Thread Cert.DwFfnIdeal.nD Cert.DwFfnIdeal.τ).loc Cert.DwFfnIdeal.main_arg0) = m ((c.tc : Thread Cert.DwFfnIdeal.nD Cert.DwFfnIdeal.τ).loc Cert.DwFfnIdeal.main_arg0)
      ∧ r.2.mem ((c.tc : Thread Cert.DwFfnIdeal.nD Cert.DwFfnIdeal.τ).loc Cert.DwFfnIdeal.main_arg1) = m ((c.tc : Thread Cert.DwFfnIdeal.nD Cert.DwFfnIdeal.τ).loc Cert.DwFfnIdeal.main_arg1))
      ∧ r.2.sem = fun _ => 0)

def quiescent_DwFfnRefIdeal [hDwFfnRefIdeal : Cert.DwFfnRefIdeal.Facts] : Prop :=
  ∀ (m : (ℓ : Loc Cert.DwFfnRefIdeal.nD Cert.DwFfnRefIdeal.τ Cert.DwFfnRefIdeal.sig) → Buf (Elt Ideal) ℓ) (g : Dev Cert.DwFfnRefIdeal.nD → PrngReg), Pre_DwFfnRefIdeal m →
    θ_run (Cert.DwFfnRefIdeal.defs (F := Ideal)) (onTc (τ := Cert.DwFfnRefIdeal.τ) (Cert.DwFfnRefIdeal.main (F := Ideal))) ⟨m, fun _ => 0, g⟩ (fun r => (∀ c : Dev Cert.DwFfnRefIdeal.nD,
      r.2.mem ((c.tc : Thread Cert.DwFfnRefIdeal.nD Cert.DwFfnRefIdeal.τ).loc Cert.DwFfnRefIdeal.main_arg0) = m ((c.tc : Thread Cert.DwFfnRefIdeal.nD Cert.DwFfnRefIdeal.τ).loc Cert.DwFfnRefIdeal.main_arg0)
      ∧ r.2.mem ((c.tc : Thread Cert.DwFfnRefIdeal.nD Cert.DwFfnRefIdeal.τ).loc Cert.DwFfnRefIdeal.main_arg1) = m ((c.tc : Thread Cert.DwFfnRefIdeal.nD Cert.DwFfnRefIdeal.τ).loc Cert.DwFfnRefIdeal.main_arg1))
      ∧ r.2.sem = fun _ => 0)

def quiescent_DxFfn [hDxFfn : Cert.DxFfn.Facts] : Prop :=
  ∀ (m : (ℓ : Loc Cert.DxFfn.nD Cert.DxFfn.τ Cert.DxFfn.sig) → Buf (Elt Bits) ℓ) (g : Dev Cert.DxFfn.nD → PrngReg), Pre_DxFfn m →
    θ_run (Cert.DxFfn.defs (F := Bits)) (onTc (τ := Cert.DxFfn.τ) (Cert.DxFfn.main (F := Bits))) ⟨m, fun _ => 0, g⟩ (fun r => (∀ c : Dev Cert.DxFfn.nD,
      r.2.mem ((c.tc : Thread Cert.DxFfn.nD Cert.DxFfn.τ).loc Cert.DxFfn.main_arg0) = m ((c.tc : Thread Cert.DxFfn.nD Cert.DxFfn.τ).loc Cert.DxFfn.main_arg0)
      ∧ r.2.mem ((c.tc : Thread Cert.DxFfn.nD Cert.DxFfn.τ).loc Cert.DxFfn.main_arg1) = m ((c.tc : Thread Cert.DxFfn.nD Cert.DxFfn.τ).loc Cert.DxFfn.main_arg1)
      ∧ r.2.mem ((c.tc : Thread Cert.DxFfn.nD Cert.DxFfn.τ).loc Cert.DxFfn.main_arg2) = m ((c.tc : Thread Cert.DxFfn.nD Cert.DxFfn.τ).loc Cert.DxFfn.main_arg2)
      ∧ r.2.mem ((c.tc : Thread Cert.DxFfn.nD Cert.DxFfn.τ).loc Cert.DxFfn.main_arg3) = m ((c.tc : Thread Cert.DxFfn.nD Cert.DxFfn.τ).loc Cert.DxFfn.main_arg3))
      ∧ r.2.sem = fun _ => 0)

def quiescent_DxFfnIdeal [hDxFfnIdeal : Cert.DxFfnIdeal.Facts] : Prop :=
  ∀ (m : (ℓ : Loc Cert.DxFfnIdeal.nD Cert.DxFfnIdeal.τ Cert.DxFfnIdeal.sig) → Buf (Elt Ideal) ℓ) (g : Dev Cert.DxFfnIdeal.nD → PrngReg), Pre_DxFfnIdeal m →
    θ_run (Cert.DxFfnIdeal.defs (F := Ideal)) (onTc (τ := Cert.DxFfnIdeal.τ) (Cert.DxFfnIdeal.main (F := Ideal))) ⟨m, fun _ => 0, g⟩ (fun r => (∀ c : Dev Cert.DxFfnIdeal.nD,
      r.2.mem ((c.tc : Thread Cert.DxFfnIdeal.nD Cert.DxFfnIdeal.τ).loc Cert.DxFfnIdeal.main_arg0) = m ((c.tc : Thread Cert.DxFfnIdeal.nD Cert.DxFfnIdeal.τ).loc Cert.DxFfnIdeal.main_arg0)
      ∧ r.2.mem ((c.tc : Thread Cert.DxFfnIdeal.nD Cert.DxFfnIdeal.τ).loc Cert.DxFfnIdeal.main_arg1) = m ((c.tc : Thread Cert.DxFfnIdeal.nD Cert.DxFfnIdeal.τ).loc Cert.DxFfnIdeal.main_arg1)
      ∧ r.2.mem ((c.tc : Thread Cert.DxFfnIdeal.nD Cert.DxFfnIdeal.τ).loc Cert.DxFfnIdeal.main_arg2) = m ((c.tc : Thread Cert.DxFfnIdeal.nD Cert.DxFfnIdeal.τ).loc Cert.DxFfnIdeal.main_arg2)
      ∧ r.2.mem ((c.tc : Thread Cert.DxFfnIdeal.nD Cert.DxFfnIdeal.τ).loc Cert.DxFfnIdeal.main_arg3) = m ((c.tc : Thread Cert.DxFfnIdeal.nD Cert.DxFfnIdeal.τ).loc Cert.DxFfnIdeal.main_arg3))
      ∧ r.2.sem = fun _ => 0)

def quiescent_DxFfnRefIdeal [hDxFfnRefIdeal : Cert.DxFfnRefIdeal.Facts] : Prop :=
  ∀ (m : (ℓ : Loc Cert.DxFfnRefIdeal.nD Cert.DxFfnRefIdeal.τ Cert.DxFfnRefIdeal.sig) → Buf (Elt Ideal) ℓ) (g : Dev Cert.DxFfnRefIdeal.nD → PrngReg), Pre_DxFfnRefIdeal m →
    θ_run (Cert.DxFfnRefIdeal.defs (F := Ideal)) (onTc (τ := Cert.DxFfnRefIdeal.τ) (Cert.DxFfnRefIdeal.main (F := Ideal))) ⟨m, fun _ => 0, g⟩ (fun r => (∀ c : Dev Cert.DxFfnRefIdeal.nD,
      r.2.mem ((c.tc : Thread Cert.DxFfnRefIdeal.nD Cert.DxFfnRefIdeal.τ).loc Cert.DxFfnRefIdeal.main_arg0) = m ((c.tc : Thread Cert.DxFfnRefIdeal.nD Cert.DxFfnRefIdeal.τ).loc Cert.DxFfnRefIdeal.main_arg0)
      ∧ r.2.mem ((c.tc : Thread Cert.DxFfnRefIdeal.nD Cert.DxFfnRefIdeal.τ).loc Cert.DxFfnRefIdeal.main_arg1) = m ((c.tc : Thread Cert.DxFfnRefIdeal.nD Cert.DxFfnRefIdeal.τ).loc Cert.DxFfnRefIdeal.main_arg1)
      ∧ r.2.mem ((c.tc : Thread Cert.DxFfnRefIdeal.nD Cert.DxFfnRefIdeal.τ).loc Cert.DxFfnRefIdeal.main_arg2) = m ((c.tc : Thread Cert.DxFfnRefIdeal.nD Cert.DxFfnRefIdeal.τ).loc Cert.DxFfnRefIdeal.main_arg2)
      ∧ r.2.mem ((c.tc : Thread Cert.DxFfnRefIdeal.nD Cert.DxFfnRefIdeal.τ).loc Cert.DxFfnRefIdeal.main_arg3) = m ((c.tc : Thread Cert.DxFfnRefIdeal.nD Cert.DxFfnRefIdeal.τ).loc Cert.DxFfnRefIdeal.main_arg3))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DxOut [hDxOut : Cert.DxOut.Facts] : Prop :=
  ∀ (m : (ℓ : Loc Cert.DxOut.nD Cert.DxOut.τ Cert.DxOut.sig) → Buf (Elt Bits) ℓ) (g : Dev Cert.DxOut.nD → PrngReg), Pre_DxOut m →
    θ_run (Cert.DxOut.defs (F := Bits)) (onTc (τ := Cert.DxOut.τ) (Cert.DxOut.main (F := Bits))) ⟨m, fun _ => 0, g⟩ (fun r => (∀ c : Dev Cert.DxOut.nD,
      r.2.mem ((c.tc : Thread Cert.DxOut.nD Cert.DxOut.τ).loc Cert.DxOut.main_arg0) = m ((c.tc : Thread Cert.DxOut.nD Cert.DxOut.τ).loc Cert.DxOut.main_arg0)
      ∧ r.2.mem ((c.tc : Thread Cert.DxOut.nD Cert.DxOut.τ).loc Cert.DxOut.main_arg1) = m ((c.tc : Thread Cert.DxOut.nD Cert.DxOut.τ).loc Cert.DxOut.main_arg1))
      ∧ r.2.sem = fun _ => 0)

def quiescent_DxOutIdeal [hDxOutIdeal : Cert.DxOutIdeal.Facts] : Prop :=
  ∀ (m : (ℓ : Loc Cert.DxOutIdeal.nD Cert.DxOutIdeal.τ Cert.DxOutIdeal.sig) → Buf (Elt Ideal) ℓ) (g : Dev Cert.DxOutIdeal.nD → PrngReg), Pre_DxOutIdeal m →
    θ_run (Cert.DxOutIdeal.defs (F := Ideal)) (onTc (τ := Cert.DxOutIdeal.τ) (Cert.DxOutIdeal.main (F := Ideal))) ⟨m, fun _ => 0, g⟩ (fun r => (∀ c : Dev Cert.DxOutIdeal.nD,
      r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
      ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ r.2.sem = fun _ => 0)

def quiescent_DxOutRefIdeal [hDxOutRefIdeal : Cert.DxOutRefIdeal.Facts] : Prop :=
  ∀ (m : (ℓ : Loc Cert.DxOutRefIdeal.nD Cert.DxOutRefIdeal.τ Cert.DxOutRefIdeal.sig) → Buf (Elt Ideal) ℓ) (g : Dev Cert.DxOutRefIdeal.nD → PrngReg), Pre_DxOutRefIdeal m →
    θ_run (Cert.DxOutRefIdeal.defs (F := Ideal)) (onTc (τ := Cert.DxOutRefIdeal.τ) (Cert.DxOutRefIdeal.main (F := Ideal))) ⟨m, fun _ => 0, g⟩ (fun r => (∀ c : Dev Cert.DxOutRefIdeal.nD,
      r.2.mem ((c.tc : Thread Cert.DxOutRefIdeal.nD Cert.DxOutRefIdeal.τ).loc Cert.DxOutRefIdeal.main_arg0) = m ((c.tc : Thread Cert.DxOutRefIdeal.nD Cert.DxOutRefIdeal.τ).loc Cert.DxOutRefIdeal.main_arg0)
      ∧ r.2.mem ((c.tc : Thread Cert.DxOutRefIdeal.nD Cert.DxOutRefIdeal.τ).loc Cert.DxOutRefIdeal.main_arg1) = m ((c.tc : Thread Cert.DxOutRefIdeal.nD Cert.DxOutRefIdeal.τ).loc Cert.DxOutRefIdeal.main_arg1))
      ∧ r.2.sem = fun _ => 0)

def quiescent_DwInO [hDwInO : Cert.DwInO.Facts] : Prop :=
  ∀ (m : (ℓ : Loc Cert.DwInO.nD Cert.DwInO.τ Cert.DwInO.sig) → Buf (Elt Bits) ℓ) (g : Dev Cert.DwInO.nD → PrngReg), Pre_DwInO m →
    θ_run (Cert.DwInO.defs (F := Bits)) (onTc (τ := Cert.DwInO.τ) (Cert.DwInO.main (F := Bits))) ⟨m, fun _ => 0, g⟩ (fun r => (∀ c : Dev Cert.DwInO.nD,
      r.2.mem ((c.tc : Thread Cert.DwInO.nD Cert.DwInO.τ).loc Cert.DwInO.main_arg0) = m ((c.tc : Thread Cert.DwInO.nD Cert.DwInO.τ).loc Cert.DwInO.main_arg0)
      ∧ r.2.mem ((c.tc : Thread Cert.DwInO.nD Cert.DwInO.τ).loc Cert.DwInO.main_arg1) = m ((c.tc : Thread Cert.DwInO.nD Cert.DwInO.τ).loc Cert.DwInO.main_arg1))
      ∧ r.2.sem = fun _ => 0)

def quiescent_DwInOIdeal [hDwInOIdeal : Cert.DwInOIdeal.Facts] : Prop :=
  ∀ (m : (ℓ : Loc Cert.DwInOIdeal.nD Cert.DwInOIdeal.τ Cert.DwInOIdeal.sig) → Buf (Elt Ideal) ℓ) (g : Dev Cert.DwInOIdeal.nD → PrngReg), Pre_DwInOIdeal m →
    θ_run (Cert.DwInOIdeal.defs (F := Ideal)) (onTc (τ := Cert.DwInOIdeal.τ) (Cert.DwInOIdeal.main (F := Ideal))) ⟨m, fun _ => 0, g⟩ (fun r => (∀ c : Dev Cert.DwInOIdeal.nD,
      r.2.mem ((c.tc : Thread Cert.DwInOIdeal.nD Cert.DwInOIdeal.τ).loc Cert.DwInOIdeal.main_arg0) = m ((c.tc : Thread Cert.DwInOIdeal.nD Cert.DwInOIdeal.τ).loc Cert.DwInOIdeal.main_arg0)
      ∧ r.2.mem ((c.tc : Thread Cert.DwInOIdeal.nD Cert.DwInOIdeal.τ).loc Cert.DwInOIdeal.main_arg1) = m ((c.tc : Thread Cert.DwInOIdeal.nD Cert.DwInOIdeal.τ).loc Cert.DwInOIdeal.main_arg1))
      ∧ r.2.sem = fun _ => 0)

def quiescent_DwInORefIdeal [hDwInORefIdeal : Cert.DwInORefIdeal.Facts] : Prop :=
  ∀ (m : (ℓ : Loc Cert.DwInORefIdeal.nD Cert.DwInORefIdeal.τ Cert.DwInORefIdeal.sig) → Buf (Elt Ideal) ℓ) (g : Dev Cert.DwInORefIdeal.nD → PrngReg), Pre_DwInORefIdeal m →
    θ_run (Cert.DwInORefIdeal.defs (F := Ideal)) (onTc (τ := Cert.DwInORefIdeal.τ) (Cert.DwInORefIdeal.main (F := Ideal))) ⟨m, fun _ => 0, g⟩ (fun r => (∀ c : Dev Cert.DwInORefIdeal.nD,
      r.2.mem ((c.tc : Thread Cert.DwInORefIdeal.nD Cert.DwInORefIdeal.τ).loc Cert.DwInORefIdeal.main_arg0) = m ((c.tc : Thread Cert.DwInORefIdeal.nD Cert.DwInORefIdeal.τ).loc Cert.DwInORefIdeal.main_arg0)
      ∧ r.2.mem ((c.tc : Thread Cert.DwInORefIdeal.nD Cert.DwInORefIdeal.τ).loc Cert.DwInORefIdeal.main_arg1) = m ((c.tc : Thread Cert.DwInORefIdeal.nD Cert.DwInORefIdeal.τ).loc Cert.DwInORefIdeal.main_arg1))
      ∧ r.2.sem = fun _ => 0)

def quiescent_DxInO [hDxInO : Cert.DxInO.Facts] : Prop :=
  ∀ (m : (ℓ : Loc Cert.DxInO.nD Cert.DxInO.τ Cert.DxInO.sig) → Buf (Elt Bits) ℓ) (g : Dev Cert.DxInO.nD → PrngReg), Pre_DxInO m →
    θ_run (Cert.DxInO.defs (F := Bits)) (onTc (τ := Cert.DxInO.τ) (Cert.DxInO.main (F := Bits))) ⟨m, fun _ => 0, g⟩ (fun r => (∀ c : Dev Cert.DxInO.nD,
      r.2.mem ((c.tc : Thread Cert.DxInO.nD Cert.DxInO.τ).loc Cert.DxInO.main_arg0) = m ((c.tc : Thread Cert.DxInO.nD Cert.DxInO.τ).loc Cert.DxInO.main_arg0)
      ∧ r.2.mem ((c.tc : Thread Cert.DxInO.nD Cert.DxInO.τ).loc Cert.DxInO.main_arg1) = m ((c.tc : Thread Cert.DxInO.nD Cert.DxInO.τ).loc Cert.DxInO.main_arg1))
      ∧ r.2.sem = fun _ => 0)

def quiescent_DxInOIdeal [hDxInOIdeal : Cert.DxInOIdeal.Facts] : Prop :=
  ∀ (m : (ℓ : Loc Cert.DxInOIdeal.nD Cert.DxInOIdeal.τ Cert.DxInOIdeal.sig) → Buf (Elt Ideal) ℓ) (g : Dev Cert.DxInOIdeal.nD → PrngReg), Pre_DxInOIdeal m →
    θ_run (Cert.DxInOIdeal.defs (F := Ideal)) (onTc (τ := Cert.DxInOIdeal.τ) (Cert.DxInOIdeal.main (F := Ideal))) ⟨m, fun _ => 0, g⟩ (fun r => (∀ c : Dev Cert.DxInOIdeal.nD,
      r.2.mem ((c.tc : Thread Cert.DxInOIdeal.nD Cert.DxInOIdeal.τ).loc Cert.DxInOIdeal.main_arg0) = m ((c.tc : Thread Cert.DxInOIdeal.nD Cert.DxInOIdeal.τ).loc Cert.DxInOIdeal.main_arg0)
      ∧ r.2.mem ((c.tc : Thread Cert.DxInOIdeal.nD Cert.DxInOIdeal.τ).loc Cert.DxInOIdeal.main_arg1) = m ((c.tc : Thread Cert.DxInOIdeal.nD Cert.DxInOIdeal.τ).loc Cert.DxInOIdeal.main_arg1))
      ∧ r.2.sem = fun _ => 0)

def quiescent_DxInORefIdeal [hDxInORefIdeal : Cert.DxInORefIdeal.Facts] : Prop :=
  ∀ (m : (ℓ : Loc Cert.DxInORefIdeal.nD Cert.DxInORefIdeal.τ Cert.DxInORefIdeal.sig) → Buf (Elt Ideal) ℓ) (g : Dev Cert.DxInORefIdeal.nD → PrngReg), Pre_DxInORefIdeal m →
    θ_run (Cert.DxInORefIdeal.defs (F := Ideal)) (onTc (τ := Cert.DxInORefIdeal.τ) (Cert.DxInORefIdeal.main (F := Ideal))) ⟨m, fun _ => 0, g⟩ (fun r => (∀ c : Dev Cert.DxInORefIdeal.nD,
      r.2.mem ((c.tc : Thread Cert.DxInORefIdeal.nD Cert.DxInORefIdeal.τ).loc Cert.DxInORefIdeal.main_arg0) = m ((c.tc : Thread Cert.DxInORefIdeal.nD Cert.DxInORefIdeal.τ).loc Cert.DxInORefIdeal.main_arg0)
      ∧ r.2.mem ((c.tc : Thread Cert.DxInORefIdeal.nD Cert.DxInORefIdeal.τ).loc Cert.DxInORefIdeal.main_arg1) = m ((c.tc : Thread Cert.DxInORefIdeal.nD Cert.DxInORefIdeal.τ).loc Cert.DxInORefIdeal.main_arg1))
      ∧ r.2.sem = fun _ => 0)

def quiescent_DwInE [hDwInE : Cert.DwInE.Facts] : Prop :=
  ∀ (m : (ℓ : Loc Cert.DwInE.nD Cert.DwInE.τ Cert.DwInE.sig) → Buf (Elt Bits) ℓ) (g : Dev Cert.DwInE.nD → PrngReg), Pre_DwInE m →
    θ_run (Cert.DwInE.defs (F := Bits)) (onTc (τ := Cert.DwInE.τ) (Cert.DwInE.main (F := Bits))) ⟨m, fun _ => 0, g⟩ (fun r => (∀ c : Dev Cert.DwInE.nD,
      r.2.mem ((c.tc : Thread Cert.DwInE.nD Cert.DwInE.τ).loc Cert.DwInE.main_arg0) = m ((c.tc : Thread Cert.DwInE.nD Cert.DwInE.τ).loc Cert.DwInE.main_arg0)
      ∧ r.2.mem ((c.tc : Thread Cert.DwInE.nD Cert.DwInE.τ).loc Cert.DwInE.main_arg1) = m ((c.tc : Thread Cert.DwInE.nD Cert.DwInE.τ).loc Cert.DwInE.main_arg1))
      ∧ r.2.sem = fun _ => 0)

def quiescent_DwInEIdeal [hDwInEIdeal : Cert.DwInEIdeal.Facts] : Prop :=
  ∀ (m : (ℓ : Loc Cert.DwInEIdeal.nD Cert.DwInEIdeal.τ Cert.DwInEIdeal.sig) → Buf (Elt Ideal) ℓ) (g : Dev Cert.DwInEIdeal.nD → PrngReg), Pre_DwInEIdeal m →
    θ_run (Cert.DwInEIdeal.defs (F := Ideal)) (onTc (τ := Cert.DwInEIdeal.τ) (Cert.DwInEIdeal.main (F := Ideal))) ⟨m, fun _ => 0, g⟩ (fun r => (∀ c : Dev Cert.DwInEIdeal.nD,
      r.2.mem ((c.tc : Thread Cert.DwInEIdeal.nD Cert.DwInEIdeal.τ).loc Cert.DwInEIdeal.main_arg0) = m ((c.tc : Thread Cert.DwInEIdeal.nD Cert.DwInEIdeal.τ).loc Cert.DwInEIdeal.main_arg0)
      ∧ r.2.mem ((c.tc : Thread Cert.DwInEIdeal.nD Cert.DwInEIdeal.τ).loc Cert.DwInEIdeal.main_arg1) = m ((c.tc : Thread Cert.DwInEIdeal.nD Cert.DwInEIdeal.τ).loc Cert.DwInEIdeal.main_arg1))
      ∧ r.2.sem = fun _ => 0)

def quiescent_DwInERefIdeal [hDwInERefIdeal : Cert.DwInERefIdeal.Facts] : Prop :=
  ∀ (m : (ℓ : Loc Cert.DwInERefIdeal.nD Cert.DwInERefIdeal.τ Cert.DwInERefIdeal.sig) → Buf (Elt Ideal) ℓ) (g : Dev Cert.DwInERefIdeal.nD → PrngReg), Pre_DwInERefIdeal m →
    θ_run (Cert.DwInERefIdeal.defs (F := Ideal)) (onTc (τ := Cert.DwInERefIdeal.τ) (Cert.DwInERefIdeal.main (F := Ideal))) ⟨m, fun _ => 0, g⟩ (fun r => (∀ c : Dev Cert.DwInERefIdeal.nD,
      r.2.mem ((c.tc : Thread Cert.DwInERefIdeal.nD Cert.DwInERefIdeal.τ).loc Cert.DwInERefIdeal.main_arg0) = m ((c.tc : Thread Cert.DwInERefIdeal.nD Cert.DwInERefIdeal.τ).loc Cert.DwInERefIdeal.main_arg0)
      ∧ r.2.mem ((c.tc : Thread Cert.DwInERefIdeal.nD Cert.DwInERefIdeal.τ).loc Cert.DwInERefIdeal.main_arg1) = m ((c.tc : Thread Cert.DwInERefIdeal.nD Cert.DwInERefIdeal.τ).loc Cert.DwInERefIdeal.main_arg1))
      ∧ r.2.sem = fun _ => 0)

def quiescent_DxInE [hDxInE : Cert.DxInE.Facts] : Prop :=
  ∀ (m : (ℓ : Loc Cert.DxInE.nD Cert.DxInE.τ Cert.DxInE.sig) → Buf (Elt Bits) ℓ) (g : Dev Cert.DxInE.nD → PrngReg), Pre_DxInE m →
    θ_run (Cert.DxInE.defs (F := Bits)) (onTc (τ := Cert.DxInE.τ) (Cert.DxInE.main (F := Bits))) ⟨m, fun _ => 0, g⟩ (fun r => (∀ c : Dev Cert.DxInE.nD,
      r.2.mem ((c.tc : Thread Cert.DxInE.nD Cert.DxInE.τ).loc Cert.DxInE.main_arg0) = m ((c.tc : Thread Cert.DxInE.nD Cert.DxInE.τ).loc Cert.DxInE.main_arg0)
      ∧ r.2.mem ((c.tc : Thread Cert.DxInE.nD Cert.DxInE.τ).loc Cert.DxInE.main_arg1) = m ((c.tc : Thread Cert.DxInE.nD Cert.DxInE.τ).loc Cert.DxInE.main_arg1))
      ∧ r.2.sem = fun _ => 0)

def quiescent_DxInEIdeal [hDxInEIdeal : Cert.DxInEIdeal.Facts] : Prop :=
  ∀ (m : (ℓ : Loc Cert.DxInEIdeal.nD Cert.DxInEIdeal.τ Cert.DxInEIdeal.sig) → Buf (Elt Ideal) ℓ) (g : Dev Cert.DxInEIdeal.nD → PrngReg), Pre_DxInEIdeal m →
    θ_run (Cert.DxInEIdeal.defs (F := Ideal)) (onTc (τ := Cert.DxInEIdeal.τ) (Cert.DxInEIdeal.main (F := Ideal))) ⟨m, fun _ => 0, g⟩ (fun r => (∀ c : Dev Cert.DxInEIdeal.nD,
      r.2.mem ((c.tc : Thread Cert.DxInEIdeal.nD Cert.DxInEIdeal.τ).loc Cert.DxInEIdeal.main_arg0) = m ((c.tc : Thread Cert.DxInEIdeal.nD Cert.DxInEIdeal.τ).loc Cert.DxInEIdeal.main_arg0)
      ∧ r.2.mem ((c.tc : Thread Cert.DxInEIdeal.nD Cert.DxInEIdeal.τ).loc Cert.DxInEIdeal.main_arg1) = m ((c.tc : Thread Cert.DxInEIdeal.nD Cert.DxInEIdeal.τ).loc Cert.DxInEIdeal.main_arg1))
      ∧ r.2.sem = fun _ => 0)

def quiescent_DxInERefIdeal [hDxInERefIdeal : Cert.DxInERefIdeal.Facts] : Prop :=
  ∀ (m : (ℓ : Loc Cert.DxInERefIdeal.nD Cert.DxInERefIdeal.τ Cert.DxInERefIdeal.sig) → Buf (Elt Ideal) ℓ) (g : Dev Cert.DxInERefIdeal.nD → PrngReg), Pre_DxInERefIdeal m →
    θ_run (Cert.DxInERefIdeal.defs (F := Ideal)) (onTc (τ := Cert.DxInERefIdeal.τ) (Cert.DxInERefIdeal.main (F := Ideal))) ⟨m, fun _ => 0, g⟩ (fun r => (∀ c : Dev Cert.DxInERefIdeal.nD,
      r.2.mem ((c.tc : Thread Cert.DxInERefIdeal.nD Cert.DxInERefIdeal.τ).loc Cert.DxInERefIdeal.main_arg0) = m ((c.tc : Thread Cert.DxInERefIdeal.nD Cert.DxInERefIdeal.τ).loc Cert.DxInERefIdeal.main_arg0)
      ∧ r.2.mem ((c.tc : Thread Cert.DxInERefIdeal.nD Cert.DxInERefIdeal.τ).loc Cert.DxInERefIdeal.main_arg1) = m ((c.tc : Thread Cert.DxInERefIdeal.nD Cert.DxInERefIdeal.τ).loc Cert.DxInERefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_InO [hInO : Cert.InO.Facts] : Prop :=
  ∀ (m : (ℓ : Loc Cert.InO.nD Cert.InO.τ Cert.InO.sig) → Buf (Elt Bits) ℓ) (g : Dev Cert.InO.nD → PrngReg), Pre_InO m →
    θ_run (Cert.InO.defs (F := Bits)) (onTc (τ := Cert.InO.τ) (Cert.InO.main (F := Bits))) ⟨m, fun _ => 0, g⟩ (fun r => (∀ c : Dev Cert.InO.nD,
      r.2.mem ((c.tc : Thread Cert.InO.nD Cert.InO.τ).loc Cert.InO.main_arg0) = m ((c.tc : Thread Cert.InO.nD Cert.InO.τ).loc Cert.InO.main_arg0)
      ∧ r.2.mem ((c.tc : Thread Cert.InO.nD Cert.InO.τ).loc Cert.InO.main_arg1) = m ((c.tc : Thread Cert.InO.nD Cert.InO.τ).loc Cert.InO.main_arg1))
      ∧ r.2.sem = fun _ => 0)

def quiescent_InOIdeal [hInOIdeal : Cert.InOIdeal.Facts] : Prop :=
  ∀ (m : (ℓ : Loc Cert.InOIdeal.nD Cert.InOIdeal.τ Cert.InOIdeal.sig) → Buf (Elt Ideal) ℓ) (g : Dev Cert.InOIdeal.nD → PrngReg), Pre_InOIdeal m →
    θ_run (Cert.InOIdeal.defs (F := Ideal)) (onTc (τ := Cert.InOIdeal.τ) (Cert.InOIdeal.main (F := Ideal))) ⟨m, fun _ => 0, g⟩ (fun r => (∀ c : Dev Cert.InOIdeal.nD,
      r.2.mem ((c.tc : Thread Cert.InOIdeal.nD Cert.InOIdeal.τ).loc Cert.InOIdeal.main_arg0) = m ((c.tc : Thread Cert.InOIdeal.nD Cert.InOIdeal.τ).loc Cert.InOIdeal.main_arg0)
      ∧ r.2.mem ((c.tc : Thread Cert.InOIdeal.nD Cert.InOIdeal.τ).loc Cert.InOIdeal.main_arg1) = m ((c.tc : Thread Cert.InOIdeal.nD Cert.InOIdeal.τ).loc Cert.InOIdeal.main_arg1))
      ∧ r.2.sem = fun _ => 0)

def quiescent_InORefIdeal [hInORefIdeal : Cert.InORefIdeal.Facts] : Prop :=
  ∀ (m : (ℓ : Loc Cert.InORefIdeal.nD Cert.InORefIdeal.τ Cert.InORefIdeal.sig) → Buf (Elt Ideal) ℓ) (g : Dev Cert.InORefIdeal.nD → PrngReg), Pre_InORefIdeal m →
    θ_run (Cert.InORefIdeal.defs (F := Ideal)) (onTc (τ := Cert.InORefIdeal.τ) (Cert.InORefIdeal.main (F := Ideal))) ⟨m, fun _ => 0, g⟩ (fun r => (∀ c : Dev Cert.InORefIdeal.nD,
      r.2.mem ((c.tc : Thread Cert.InORefIdeal.nD Cert.InORefIdeal.τ).loc Cert.InORefIdeal.main_arg0) = m ((c.tc : Thread Cert.InORefIdeal.nD Cert.InORefIdeal.τ).loc Cert.InORefIdeal.main_arg0)
      ∧ r.2.mem ((c.tc : Thread Cert.InORefIdeal.nD Cert.InORefIdeal.τ).loc Cert.InORefIdeal.main_arg1) = m ((c.tc : Thread Cert.InORefIdeal.nD Cert.InORefIdeal.τ).loc Cert.InORefIdeal.main_arg1))
      ∧ r.2.sem = fun _ => 0)

def quiescent_InE [hInE : Cert.InE.Facts] : Prop :=
  ∀ (m : (ℓ : Loc Cert.InE.nD Cert.InE.τ Cert.InE.sig) → Buf (Elt Bits) ℓ) (g : Dev Cert.InE.nD → PrngReg), Pre_InE m →
    θ_run (Cert.InE.defs (F := Bits)) (onTc (τ := Cert.InE.τ) (Cert.InE.main (F := Bits))) ⟨m, fun _ => 0, g⟩ (fun r => (∀ c : Dev Cert.InE.nD,
      r.2.mem ((c.tc : Thread Cert.InE.nD Cert.InE.τ).loc Cert.InE.main_arg0) = m ((c.tc : Thread Cert.InE.nD Cert.InE.τ).loc Cert.InE.main_arg0)
      ∧ r.2.mem ((c.tc : Thread Cert.InE.nD Cert.InE.τ).loc Cert.InE.main_arg1) = m ((c.tc : Thread Cert.InE.nD Cert.InE.τ).loc Cert.InE.main_arg1))
      ∧ r.2.sem = fun _ => 0)

def quiescent_InEIdeal [hInEIdeal : Cert.InEIdeal.Facts] : Prop :=
  ∀ (m : (ℓ : Loc Cert.InEIdeal.nD Cert.InEIdeal.τ Cert.InEIdeal.sig) → Buf (Elt Ideal) ℓ) (g : Dev Cert.InEIdeal.nD → PrngReg), Pre_InEIdeal m →
    θ_run (Cert.InEIdeal.defs (F := Ideal)) (onTc (τ := Cert.InEIdeal.τ) (Cert.InEIdeal.main (F := Ideal))) ⟨m, fun _ => 0, g⟩ (fun r => (∀ c : Dev Cert.InEIdeal.nD,
      r.2.mem ((c.tc : Thread Cert.InEIdeal.nD Cert.InEIdeal.τ).loc Cert.InEIdeal.main_arg0) = m ((c.tc : Thread Cert.InEIdeal.nD Cert.InEIdeal.τ).loc Cert.InEIdeal.main_arg0)
      ∧ r.2.mem ((c.tc : Thread Cert.InEIdeal.nD Cert.InEIdeal.τ).loc Cert.InEIdeal.main_arg1) = m ((c.tc : Thread Cert.InEIdeal.nD Cert.InEIdeal.τ).loc Cert.InEIdeal.main_arg1))
      ∧ r.2.sem = fun _ => 0)

def quiescent_InERefIdeal [hInERefIdeal : Cert.InERefIdeal.Facts] : Prop :=
  ∀ (m : (ℓ : Loc Cert.InERefIdeal.nD Cert.InERefIdeal.τ Cert.InERefIdeal.sig) → Buf (Elt Ideal) ℓ) (g : Dev Cert.InERefIdeal.nD → PrngReg), Pre_InERefIdeal m →
    θ_run (Cert.InERefIdeal.defs (F := Ideal)) (onTc (τ := Cert.InERefIdeal.τ) (Cert.InERefIdeal.main (F := Ideal))) ⟨m, fun _ => 0, g⟩ (fun r => (∀ c : Dev Cert.InERefIdeal.nD,
      r.2.mem ((c.tc : Thread Cert.InERefIdeal.nD Cert.InERefIdeal.τ).loc Cert.InERefIdeal.main_arg0) = m ((c.tc : Thread Cert.InERefIdeal.nD Cert.InERefIdeal.τ).loc Cert.InERefIdeal.main_arg0)
      ∧ r.2.mem ((c.tc : Thread Cert.InERefIdeal.nD Cert.InERefIdeal.τ).loc Cert.InERefIdeal.main_arg1) = m ((c.tc : Thread Cert.InERefIdeal.nD Cert.InERefIdeal.τ).loc Cert.InERefIdeal.main_arg1))
      ∧ r.2.sem = fun _ => 0)

def quiescent_OutMix [hOutMix : Cert.OutMix.Facts] : Prop :=
  ∀ (m : (ℓ : Loc Cert.OutMix.nD Cert.OutMix.τ Cert.OutMix.sig) → Buf (Elt Bits) ℓ) (g : Dev Cert.OutMix.nD → PrngReg), Pre_OutMix m →
    θ_run (Cert.OutMix.defs (F := Bits)) (onTc (τ := Cert.OutMix.τ) (Cert.OutMix.main (F := Bits))) ⟨m, fun _ => 0, g⟩ (fun r => (∀ c : Dev Cert.OutMix.nD,
      r.2.mem ((c.tc : Thread Cert.OutMix.nD Cert.OutMix.τ).loc Cert.OutMix.main_arg0) = m ((c.tc : Thread Cert.OutMix.nD Cert.OutMix.τ).loc Cert.OutMix.main_arg0)
      ∧ r.2.mem ((c.tc : Thread Cert.OutMix.nD Cert.OutMix.τ).loc Cert.OutMix.main_arg1) = m ((c.tc : Thread Cert.OutMix.nD Cert.OutMix.τ).loc Cert.OutMix.main_arg1)
      ∧ r.2.mem ((c.tc : Thread Cert.OutMix.nD Cert.OutMix.τ).loc Cert.OutMix.main_arg2) = m ((c.tc : Thread Cert.OutMix.nD Cert.OutMix.τ).loc Cert.OutMix.main_arg2))
      ∧ r.2.sem = fun _ => 0)

def quiescent_OutMixIdeal [hOutMixIdeal : Cert.OutMixIdeal.Facts] : Prop :=
  ∀ (m : (ℓ : Loc Cert.OutMixIdeal.nD Cert.OutMixIdeal.τ Cert.OutMixIdeal.sig) → Buf (Elt Ideal) ℓ) (g : Dev Cert.OutMixIdeal.nD → PrngReg), Pre_OutMixIdeal m →
    θ_run (Cert.OutMixIdeal.defs (F := Ideal)) (onTc (τ := Cert.OutMixIdeal.τ) (Cert.OutMixIdeal.main (F := Ideal))) ⟨m, fun _ => 0, g⟩ (fun r => (∀ c : Dev Cert.OutMixIdeal.nD,
      r.2.mem ((c.tc : Thread Cert.OutMixIdeal.nD Cert.OutMixIdeal.τ).loc Cert.OutMixIdeal.main_arg0) = m ((c.tc : Thread Cert.OutMixIdeal.nD Cert.OutMixIdeal.τ).loc Cert.OutMixIdeal.main_arg0)
      ∧ r.2.mem ((c.tc : Thread Cert.OutMixIdeal.nD Cert.OutMixIdeal.τ).loc Cert.OutMixIdeal.main_arg1) = m ((c.tc : Thread Cert.OutMixIdeal.nD Cert.OutMixIdeal.τ).loc Cert.OutMixIdeal.main_arg1)
      ∧ r.2.mem ((c.tc : Thread Cert.OutMixIdeal.nD Cert.OutMixIdeal.τ).loc Cert.OutMixIdeal.main_arg2) = m ((c.tc : Thread Cert.OutMixIdeal.nD Cert.OutMixIdeal.τ).loc Cert.OutMixIdeal.main_arg2))
      ∧ r.2.sem = fun _ => 0)

def quiescent_OutMixRefIdeal [hOutMixRefIdeal : Cert.OutMixRefIdeal.Facts] : Prop :=
  ∀ (m : (ℓ : Loc Cert.OutMixRefIdeal.nD Cert.OutMixRefIdeal.τ Cert.OutMixRefIdeal.sig) → Buf (Elt Ideal) ℓ) (g : Dev Cert.OutMixRefIdeal.nD → PrngReg), Pre_OutMixRefIdeal m →
    θ_run (Cert.OutMixRefIdeal.defs (F := Ideal)) (onTc (τ := Cert.OutMixRefIdeal.τ) (Cert.OutMixRefIdeal.main (F := Ideal))) ⟨m, fun _ => 0, g⟩ (fun r => (∀ c : Dev Cert.OutMixRefIdeal.nD,
      r.2.mem ((c.tc : Thread Cert.OutMixRefIdeal.nD Cert.OutMixRefIdeal.τ).loc Cert.OutMixRefIdeal.main_arg0) = m ((c.tc : Thread Cert.OutMixRefIdeal.nD Cert.OutMixRefIdeal.τ).loc Cert.OutMixRefIdeal.main_arg0)
      ∧ r.2.mem ((c.tc : Thread Cert.OutMixRefIdeal.nD Cert.OutMixRefIdeal.τ).loc Cert.OutMixRefIdeal.main_arg1) = m ((c.tc : Thread Cert.OutMixRefIdeal.nD Cert.OutMixRefIdeal.τ).loc Cert.OutMixRefIdeal.main_arg1)
      ∧ r.2.mem ((c.tc : Thread Cert.OutMixRefIdeal.nD Cert.OutMixRefIdeal.τ).loc Cert.OutMixRefIdeal.main_arg2) = m ((c.tc : Thread Cert.OutMixRefIdeal.nD Cert.OutMixRefIdeal.τ).loc Cert.OutMixRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_swiglu_finite [hFfnIdeal : Cert.FfnIdeal.Facts] [hPre_swiglu_finite : Cert.Pre_swiglu_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_swiglu_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_swiglu_finite [hFfnRefIdeal : Cert.FfnRefIdeal.Facts] [hPre_swiglu_finite : Cert.Pre_swiglu_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_swiglu_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_AdamInE [hAdamInE : Cert.AdamInE.Facts] : Prop :=
  ∀ (m : (ℓ : Loc Cert.AdamInE.nD Cert.AdamInE.τ Cert.AdamInE.sig) → Buf (Elt Bits) ℓ) (g : Dev Cert.AdamInE.nD → PrngReg), Pre_AdamInE m →
    θ_run (Cert.AdamInE.defs (F := Bits)) (onTc (τ := Cert.AdamInE.τ) (Cert.AdamInE.main (F := Bits))) ⟨m, fun _ => 0, g⟩ (fun r => (∀ c : Dev Cert.AdamInE.nD,
      r.2.mem ((c.tc : Thread Cert.AdamInE.nD Cert.AdamInE.τ).loc Cert.AdamInE.main_arg0) = m ((c.tc : Thread Cert.AdamInE.nD Cert.AdamInE.τ).loc Cert.AdamInE.main_arg0)
      ∧ r.2.mem ((c.tc : Thread Cert.AdamInE.nD Cert.AdamInE.τ).loc Cert.AdamInE.main_arg1) = m ((c.tc : Thread Cert.AdamInE.nD Cert.AdamInE.τ).loc Cert.AdamInE.main_arg1)
      ∧ r.2.mem ((c.tc : Thread Cert.AdamInE.nD Cert.AdamInE.τ).loc Cert.AdamInE.main_arg2) = m ((c.tc : Thread Cert.AdamInE.nD Cert.AdamInE.τ).loc Cert.AdamInE.main_arg2)
      ∧ r.2.mem ((c.tc : Thread Cert.AdamInE.nD Cert.AdamInE.τ).loc Cert.AdamInE.main_arg3) = m ((c.tc : Thread Cert.AdamInE.nD Cert.AdamInE.τ).loc Cert.AdamInE.main_arg3))
      ∧ r.2.sem = fun _ => 0)

def quiescent_AdamInEIdeal [hAdamInEIdeal : Cert.AdamInEIdeal.Facts] : Prop :=
  ∀ (m : (ℓ : Loc Cert.AdamInEIdeal.nD Cert.AdamInEIdeal.τ Cert.AdamInEIdeal.sig) → Buf (Elt Ideal) ℓ) (g : Dev Cert.AdamInEIdeal.nD → PrngReg), Pre_AdamInEIdeal m →
    θ_run (Cert.AdamInEIdeal.defs (F := Ideal)) (onTc (τ := Cert.AdamInEIdeal.τ) (Cert.AdamInEIdeal.main (F := Ideal))) ⟨m, fun _ => 0, g⟩ (fun r => (∀ c : Dev Cert.AdamInEIdeal.nD,
      r.2.mem ((c.tc : Thread Cert.AdamInEIdeal.nD Cert.AdamInEIdeal.τ).loc Cert.AdamInEIdeal.main_arg0) = m ((c.tc : Thread Cert.AdamInEIdeal.nD Cert.AdamInEIdeal.τ).loc Cert.AdamInEIdeal.main_arg0)
      ∧ r.2.mem ((c.tc : Thread Cert.AdamInEIdeal.nD Cert.AdamInEIdeal.τ).loc Cert.AdamInEIdeal.main_arg1) = m ((c.tc : Thread Cert.AdamInEIdeal.nD Cert.AdamInEIdeal.τ).loc Cert.AdamInEIdeal.main_arg1)
      ∧ r.2.mem ((c.tc : Thread Cert.AdamInEIdeal.nD Cert.AdamInEIdeal.τ).loc Cert.AdamInEIdeal.main_arg2) = m ((c.tc : Thread Cert.AdamInEIdeal.nD Cert.AdamInEIdeal.τ).loc Cert.AdamInEIdeal.main_arg2)
      ∧ r.2.mem ((c.tc : Thread Cert.AdamInEIdeal.nD Cert.AdamInEIdeal.τ).loc Cert.AdamInEIdeal.main_arg3) = m ((c.tc : Thread Cert.AdamInEIdeal.nD Cert.AdamInEIdeal.τ).loc Cert.AdamInEIdeal.main_arg3))
      ∧ r.2.sem = fun _ => 0)

def quiescent_AdamInERefIdeal [hAdamInERefIdeal : Cert.AdamInERefIdeal.Facts] : Prop :=
  ∀ (m : (ℓ : Loc Cert.AdamInERefIdeal.nD Cert.AdamInERefIdeal.τ Cert.AdamInERefIdeal.sig) → Buf (Elt Ideal) ℓ) (g : Dev Cert.AdamInERefIdeal.nD → PrngReg), Pre_AdamInERefIdeal m →
    θ_run (Cert.AdamInERefIdeal.defs (F := Ideal)) (onTc (τ := Cert.AdamInERefIdeal.τ) (Cert.AdamInERefIdeal.main (F := Ideal))) ⟨m, fun _ => 0, g⟩ (fun r => (∀ c : Dev Cert.AdamInERefIdeal.nD,
      r.2.mem ((c.tc : Thread Cert.AdamInERefIdeal.nD Cert.AdamInERefIdeal.τ).loc Cert.AdamInERefIdeal.main_arg0) = m ((c.tc : Thread Cert.AdamInERefIdeal.nD Cert.AdamInERefIdeal.τ).loc Cert.AdamInERefIdeal.main_arg0)
      ∧ r.2.mem ((c.tc : Thread Cert.AdamInERefIdeal.nD Cert.AdamInERefIdeal.τ).loc Cert.AdamInERefIdeal.main_arg1) = m ((c.tc : Thread Cert.AdamInERefIdeal.nD Cert.AdamInERefIdeal.τ).loc Cert.AdamInERefIdeal.main_arg1)
      ∧ r.2.mem ((c.tc : Thread Cert.AdamInERefIdeal.nD Cert.AdamInERefIdeal.τ).loc Cert.AdamInERefIdeal.main_arg2) = m ((c.tc : Thread Cert.AdamInERefIdeal.nD Cert.AdamInERefIdeal.τ).loc Cert.AdamInERefIdeal.main_arg2)
      ∧ r.2.mem ((c.tc : Thread Cert.AdamInERefIdeal.nD Cert.AdamInERefIdeal.τ).loc Cert.AdamInERefIdeal.main_arg3) = m ((c.tc : Thread Cert.AdamInERefIdeal.nD Cert.AdamInERefIdeal.τ).loc Cert.AdamInERefIdeal.main_arg3))
      ∧ r.2.sem = fun _ => 0)

def quiescent_AdamInO [hAdamInO : Cert.AdamInO.Facts] : Prop :=
  ∀ (m : (ℓ : Loc Cert.AdamInO.nD Cert.AdamInO.τ Cert.AdamInO.sig) → Buf (Elt Bits) ℓ) (g : Dev Cert.AdamInO.nD → PrngReg), Pre_AdamInO m →
    θ_run (Cert.AdamInO.defs (F := Bits)) (onTc (τ := Cert.AdamInO.τ) (Cert.AdamInO.main (F := Bits))) ⟨m, fun _ => 0, g⟩ (fun r => (∀ c : Dev Cert.AdamInO.nD,
      r.2.mem ((c.tc : Thread Cert.AdamInO.nD Cert.AdamInO.τ).loc Cert.AdamInO.main_arg0) = m ((c.tc : Thread Cert.AdamInO.nD Cert.AdamInO.τ).loc Cert.AdamInO.main_arg0)
      ∧ r.2.mem ((c.tc : Thread Cert.AdamInO.nD Cert.AdamInO.τ).loc Cert.AdamInO.main_arg1) = m ((c.tc : Thread Cert.AdamInO.nD Cert.AdamInO.τ).loc Cert.AdamInO.main_arg1)
      ∧ r.2.mem ((c.tc : Thread Cert.AdamInO.nD Cert.AdamInO.τ).loc Cert.AdamInO.main_arg2) = m ((c.tc : Thread Cert.AdamInO.nD Cert.AdamInO.τ).loc Cert.AdamInO.main_arg2)
      ∧ r.2.mem ((c.tc : Thread Cert.AdamInO.nD Cert.AdamInO.τ).loc Cert.AdamInO.main_arg3) = m ((c.tc : Thread Cert.AdamInO.nD Cert.AdamInO.τ).loc Cert.AdamInO.main_arg3))
      ∧ r.2.sem = fun _ => 0)

def quiescent_AdamInOIdeal [hAdamInOIdeal : Cert.AdamInOIdeal.Facts] : Prop :=
  ∀ (m : (ℓ : Loc Cert.AdamInOIdeal.nD Cert.AdamInOIdeal.τ Cert.AdamInOIdeal.sig) → Buf (Elt Ideal) ℓ) (g : Dev Cert.AdamInOIdeal.nD → PrngReg), Pre_AdamInOIdeal m →
    θ_run (Cert.AdamInOIdeal.defs (F := Ideal)) (onTc (τ := Cert.AdamInOIdeal.τ) (Cert.AdamInOIdeal.main (F := Ideal))) ⟨m, fun _ => 0, g⟩ (fun r => (∀ c : Dev Cert.AdamInOIdeal.nD,
      r.2.mem ((c.tc : Thread Cert.AdamInOIdeal.nD Cert.AdamInOIdeal.τ).loc Cert.AdamInOIdeal.main_arg0) = m ((c.tc : Thread Cert.AdamInOIdeal.nD Cert.AdamInOIdeal.τ).loc Cert.AdamInOIdeal.main_arg0)
      ∧ r.2.mem ((c.tc : Thread Cert.AdamInOIdeal.nD Cert.AdamInOIdeal.τ).loc Cert.AdamInOIdeal.main_arg1) = m ((c.tc : Thread Cert.AdamInOIdeal.nD Cert.AdamInOIdeal.τ).loc Cert.AdamInOIdeal.main_arg1)
      ∧ r.2.mem ((c.tc : Thread Cert.AdamInOIdeal.nD Cert.AdamInOIdeal.τ).loc Cert.AdamInOIdeal.main_arg2) = m ((c.tc : Thread Cert.AdamInOIdeal.nD Cert.AdamInOIdeal.τ).loc Cert.AdamInOIdeal.main_arg2)
      ∧ r.2.mem ((c.tc : Thread Cert.AdamInOIdeal.nD Cert.AdamInOIdeal.τ).loc Cert.AdamInOIdeal.main_arg3) = m ((c.tc : Thread Cert.AdamInOIdeal.nD Cert.AdamInOIdeal.τ).loc Cert.AdamInOIdeal.main_arg3))
      ∧ r.2.sem = fun _ => 0)

def quiescent_AdamInORefIdeal [hAdamInORefIdeal : Cert.AdamInORefIdeal.Facts] : Prop :=
  ∀ (m : (ℓ : Loc Cert.AdamInORefIdeal.nD Cert.AdamInORefIdeal.τ Cert.AdamInORefIdeal.sig) → Buf (Elt Ideal) ℓ) (g : Dev Cert.AdamInORefIdeal.nD → PrngReg), Pre_AdamInORefIdeal m →
    θ_run (Cert.AdamInORefIdeal.defs (F := Ideal)) (onTc (τ := Cert.AdamInORefIdeal.τ) (Cert.AdamInORefIdeal.main (F := Ideal))) ⟨m, fun _ => 0, g⟩ (fun r => (∀ c : Dev Cert.AdamInORefIdeal.nD,
      r.2.mem ((c.tc : Thread Cert.AdamInORefIdeal.nD Cert.AdamInORefIdeal.τ).loc Cert.AdamInORefIdeal.main_arg0) = m ((c.tc : Thread Cert.AdamInORefIdeal.nD Cert.AdamInORefIdeal.τ).loc Cert.AdamInORefIdeal.main_arg0)
      ∧ r.2.mem ((c.tc : Thread Cert.AdamInORefIdeal.nD Cert.AdamInORefIdeal.τ).loc Cert.AdamInORefIdeal.main_arg1) = m ((c.tc : Thread Cert.AdamInORefIdeal.nD Cert.AdamInORefIdeal.τ).loc Cert.AdamInORefIdeal.main_arg1)
      ∧ r.2.mem ((c.tc : Thread Cert.AdamInORefIdeal.nD Cert.AdamInORefIdeal.τ).loc Cert.AdamInORefIdeal.main_arg2) = m ((c.tc : Thread Cert.AdamInORefIdeal.nD Cert.AdamInORefIdeal.τ).loc Cert.AdamInORefIdeal.main_arg2)
      ∧ r.2.mem ((c.tc : Thread Cert.AdamInORefIdeal.nD Cert.AdamInORefIdeal.τ).loc Cert.AdamInORefIdeal.main_arg3) = m ((c.tc : Thread Cert.AdamInORefIdeal.nD Cert.AdamInORefIdeal.τ).loc Cert.AdamInORefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_EvenBwd_EvenBwdIdeal : Prop :=
  True

def algebraic_EvenBwdIdeal_EvenBwdRefIdeal_pre_even_finite [hEvenBwdIdeal : Cert.EvenBwdIdeal.Facts] [hEvenBwdRefIdeal : Cert.EvenBwdRefIdeal.Facts] [hPre_even_finite : Cert.Pre_even_finite.Facts] : Prop :=
  ∀ (m : (ℓ : Loc Cert.EvenBwdIdeal.nD Cert.EvenBwdIdeal.τ Cert.EvenBwdIdeal.sig) → Buf (Elt Ideal) ℓ) (g : Dev Cert.EvenBwdIdeal.nD → PrngReg)
    (m' : (ℓ : Loc Cert.EvenBwdRefIdeal.nD Cert.EvenBwdRefIdeal.τ Cert.EvenBwdRefIdeal.sig) → Buf (Elt Ideal) ℓ) (g' : Dev Cert.EvenBwdRefIdeal.nD → PrngReg), Pre_EvenBwdIdeal_even_finite m →
    (∀ c : Dev Cert.EvenBwdIdeal.nD,
      m' ((c.tc : Thread Cert.EvenBwdRefIdeal.nD Cert.EvenBwdRefIdeal.τ).loc Cert.EvenBwdRefIdeal.main_arg0) = m ((c.tc : Thread Cert.EvenBwdIdeal.nD Cert.EvenBwdIdeal.τ).loc Cert.EvenBwdIdeal.main_arg0)
      ∧ m' ((c.tc : Thread Cert.EvenBwdRefIdeal.nD Cert.EvenBwdRefIdeal.τ).loc Cert.EvenBwdRefIdeal.main_arg1) = m ((c.tc : Thread Cert.EvenBwdIdeal.nD Cert.EvenBwdIdeal.τ).loc Cert.EvenBwdIdeal.main_arg1)
      ∧ m' ((c.tc : Thread Cert.EvenBwdRefIdeal.nD Cert.EvenBwdRefIdeal.τ).loc Cert.EvenBwdRefIdeal.main_arg2) = m ((c.tc : Thread Cert.EvenBwdIdeal.nD Cert.EvenBwdIdeal.τ).loc Cert.EvenBwdIdeal.main_arg2)
      ∧ m' ((c.tc : Thread Cert.EvenBwdRefIdeal.nD Cert.EvenBwdRefIdeal.τ).loc Cert.EvenBwdRefIdeal.main_arg3) = m ((c.tc : Thread Cert.EvenBwdIdeal.nD Cert.EvenBwdIdeal.τ).loc Cert.EvenBwdIdeal.main_arg3)
      ∧ m' ((c.tc : Thread Cert.EvenBwdRefIdeal.nD Cert.EvenBwdRefIdeal.τ).loc Cert.EvenBwdRefIdeal.main_arg4) = m ((c.tc : Thread Cert.EvenBwdIdeal.nD Cert.EvenBwdIdeal.τ).loc Cert.EvenBwdIdeal.main_arg4)
      ∧ m' ((c.tc : Thread Cert.EvenBwdRefIdeal.nD Cert.EvenBwdRefIdeal.τ).loc Cert.EvenBwdRefIdeal.main_arg5) = m ((c.tc : Thread Cert.EvenBwdIdeal.nD Cert.EvenBwdIdeal.τ).loc Cert.EvenBwdIdeal.main_arg5)
      ∧ m' ((c.tc : Thread Cert.EvenBwdRefIdeal.nD Cert.EvenBwdRefIdeal.τ).loc Cert.EvenBwdRefIdeal.main_arg6) = m ((c.tc : Thread Cert.EvenBwdIdeal.nD Cert.EvenBwdIdeal.τ).loc Cert.EvenBwdIdeal.main_arg6)
      ∧ m' ((c.tc : Thread Cert.EvenBwdRefIdeal.nD Cert.EvenBwdRefIdeal.τ).loc Cert.EvenBwdRefIdeal.main_arg7) = m ((c.tc : Thread Cert.EvenBwdIdeal.nD Cert.EvenBwdIdeal.τ).loc Cert.EvenBwdIdeal.main_arg7)) →
    ∃ (v0 : (c : Dev Cert.EvenBwdIdeal.nD) → Buf (Elt Ideal) ((c.tc : Thread Cert.EvenBwdIdeal.nD Cert.EvenBwdIdeal.τ).loc Cert.EvenBwdIdeal.main_v39_0)) (v1 : (c : Dev Cert.EvenBwdIdeal.nD) → Buf (Elt Ideal) ((c.tc : Thread Cert.EvenBwdIdeal.nD Cert.EvenBwdIdeal.τ).loc Cert.EvenBwdIdeal.main_v39_1)) (v2 : (c : Dev Cert.EvenBwdIdeal.nD) → Buf (Elt Ideal) ((c.tc : Thread Cert.EvenBwdIdeal.nD Cert.EvenBwdIdeal.τ).loc Cert.EvenBwdIdeal.main_v39_2)) (v3 : (c : Dev Cert.EvenBwdIdeal.nD) → Buf (Elt Ideal) ((c.tc : Thread Cert.EvenBwdIdeal.nD Cert.EvenBwdIdeal.τ).loc Cert.EvenBwdIdeal.main_v39_3)) (v4 : (c : Dev Cert.EvenBwdIdeal.nD) → Buf (Elt Ideal) ((c.tc : Thread Cert.EvenBwdIdeal.nD Cert.EvenBwdIdeal.τ).loc Cert.EvenBwdIdeal.main_v39_4)),
      θ_run (Cert.EvenBwdIdeal.defs (F := Ideal)) (onTc (τ := Cert.EvenBwdIdeal.τ) (Cert.EvenBwdIdeal.main (F := Ideal))) ⟨m, fun _ => 0, g⟩ (fun r => ∀ c : Dev Cert.EvenBwdIdeal.nD,
          r.2.mem ((c.tc : Thread Cert.EvenBwdIdeal.nD Cert.EvenBwdIdeal.τ).loc Cert.EvenBwdIdeal.main_v39_0) = v0 c
          ∧ r.2.mem ((c.tc : Thread Cert.EvenBwdIdeal.nD Cert.EvenBwdIdeal.τ).loc Cert.EvenBwdIdeal.main_v39_1) = v1 c
          ∧ r.2.mem ((c.tc : Thread Cert.EvenBwdIdeal.nD Cert.EvenBwdIdeal.τ).loc Cert.EvenBwdIdeal.main_v39_2) = v2 c
          ∧ r.2.mem ((c.tc : Thread Cert.EvenBwdIdeal.nD Cert.EvenBwdIdeal.τ).loc Cert.EvenBwdIdeal.main_v39_3) = v3 c
          ∧ r.2.mem ((c.tc : Thread Cert.EvenBwdIdeal.nD Cert.EvenBwdIdeal.τ).loc Cert.EvenBwdIdeal.main_v39_4) = v4 c
          ∧ r.2.mem ((c.tc : Thread Cert.EvenBwdIdeal.nD Cert.EvenBwdIdeal.τ).loc Cert.EvenBwdIdeal.main_arg0) = m ((c.tc : Thread Cert.EvenBwdIdeal.nD Cert.EvenBwdIdeal.τ).loc Cert.EvenBwdIdeal.main_arg0)
          ∧ r.2.mem ((c.tc : Thread Cert.EvenBwdIdeal.nD Cert.EvenBwdIdeal.τ).loc Cert.EvenBwdIdeal.main_arg1) = m ((c.tc : Thread Cert.EvenBwdIdeal.nD Cert.EvenBwdIdeal.τ).loc Cert.EvenBwdIdeal.main_arg1)
          ∧ r.2.mem ((c.tc : Thread Cert.EvenBwdIdeal.nD Cert.EvenBwdIdeal.τ).loc Cert.EvenBwdIdeal.main_arg2) = m ((c.tc : Thread Cert.EvenBwdIdeal.nD Cert.EvenBwdIdeal.τ).loc Cert.EvenBwdIdeal.main_arg2)
          ∧ r.2.mem ((c.tc : Thread Cert.EvenBwdIdeal.nD Cert.EvenBwdIdeal.τ).loc Cert.EvenBwdIdeal.main_arg3) = m ((c.tc : Thread Cert.EvenBwdIdeal.nD Cert.EvenBwdIdeal.τ).loc Cert.EvenBwdIdeal.main_arg3)
          ∧ r.2.mem ((c.tc : Thread Cert.EvenBwdIdeal.nD Cert.EvenBwdIdeal.τ).loc Cert.EvenBwdIdeal.main_arg4) = m ((c.tc : Thread Cert.EvenBwdIdeal.nD Cert.EvenBwdIdeal.τ).loc Cert.EvenBwdIdeal.main_arg4)
          ∧ r.2.mem ((c.tc : Thread Cert.EvenBwdIdeal.nD Cert.EvenBwdIdeal.τ).loc Cert.EvenBwdIdeal.main_arg5) = m ((c.tc : Thread Cert.EvenBwdIdeal.nD Cert.EvenBwdIdeal.τ).loc Cert.EvenBwdIdeal.main_arg5)
          ∧ r.2.mem ((c.tc : Thread Cert.EvenBwdIdeal.nD Cert.EvenBwdIdeal.τ).loc Cert.EvenBwdIdeal.main_arg6) = m ((c.tc : Thread Cert.EvenBwdIdeal.nD Cert.EvenBwdIdeal.τ).loc Cert.EvenBwdIdeal.main_arg6)
          ∧ r.2.mem ((c.tc : Thread Cert.EvenBwdIdeal.nD Cert.EvenBwdIdeal.τ).loc Cert.EvenBwdIdeal.main_arg7) = m ((c.tc : Thread Cert.EvenBwdIdeal.nD Cert.EvenBwdIdeal.τ).loc Cert.EvenBwdIdeal.main_arg7))
      ∧ θ_run (Cert.EvenBwdRefIdeal.defs (F := Ideal)) (onTc (τ := Cert.EvenBwdRefIdeal.τ) (Cert.EvenBwdRefIdeal.main (F := Ideal))) ⟨m', fun _ => 0, g'⟩ (fun r => ∀ c : Dev Cert.EvenBwdRefIdeal.nD,
          r.2.mem ((c.tc : Thread Cert.EvenBwdRefIdeal.nD Cert.EvenBwdRefIdeal.τ).loc Cert.EvenBwdRefIdeal.main_v122) = v0 c
          ∧ r.2.mem ((c.tc : Thread Cert.EvenBwdRefIdeal.nD Cert.EvenBwdRefIdeal.τ).loc Cert.EvenBwdRefIdeal.main_v123) = v1 c
          ∧ r.2.mem ((c.tc : Thread Cert.EvenBwdRefIdeal.nD Cert.EvenBwdRefIdeal.τ).loc Cert.EvenBwdRefIdeal.main_v125) = v2 c
          ∧ r.2.mem ((c.tc : Thread Cert.EvenBwdRefIdeal.nD Cert.EvenBwdRefIdeal.τ).loc Cert.EvenBwdRefIdeal.main_v127) = v3 c
          ∧ r.2.mem ((c.tc : Thread Cert.EvenBwdRefIdeal.nD Cert.EvenBwdRefIdeal.τ).loc Cert.EvenBwdRefIdeal.main_v84) = v4 c
          ∧ r.2.mem ((c.tc : Thread Cert.EvenBwdRefIdeal.nD Cert.EvenBwdRefIdeal.τ).loc Cert.EvenBwdRefIdeal.main_arg0) = m' ((c.tc : Thread Cert.EvenBwdRefIdeal.nD Cert.EvenBwdRefIdeal.τ).loc Cert.EvenBwdRefIdeal.main_arg0)
          ∧ r.2.mem ((c.tc : Thread Cert.EvenBwdRefIdeal.nD Cert.EvenBwdRefIdeal.τ).loc Cert.EvenBwdRefIdeal.main_arg1) = m' ((c.tc : Thread Cert.EvenBwdRefIdeal.nD Cert.EvenBwdRefIdeal.τ).loc Cert.EvenBwdRefIdeal.main_arg1)
          ∧ r.2.mem ((c.tc : Thread Cert.EvenBwdRefIdeal.nD Cert.EvenBwdRefIdeal.τ).loc Cert.EvenBwdRefIdeal.main_arg2) = m' ((c.tc : Thread Cert.EvenBwdRefIdeal.nD Cert.EvenBwdRefIdeal.τ).loc Cert.EvenBwdRefIdeal.main_arg2)
          ∧ r.2.mem ((c.tc : Thread Cert.EvenBwdRefIdeal.nD Cert.EvenBwdRefIdeal.τ).loc Cert.EvenBwdRefIdeal.main_arg3) = m' ((c.tc : Thread Cert.EvenBwdRefIdeal.nD Cert.EvenBwdRefIdeal.τ).loc Cert.EvenBwdRefIdeal.main_arg3)
          ∧ r.2.mem ((c.tc : Thread Cert.EvenBwdRefIdeal.nD Cert.EvenBwdRefIdeal.τ).loc Cert.EvenBwdRefIdeal.main_arg4) = m' ((c.tc : Thread Cert.EvenBwdRefIdeal.nD Cert.EvenBwdRefIdeal.τ).loc Cert.EvenBwdRefIdeal.main_arg4)
          ∧ r.2.mem ((c.tc : Thread Cert.EvenBwdRefIdeal.nD Cert.EvenBwdRefIdeal.τ).loc Cert.EvenBwdRefIdeal.main_arg5) = m' ((c.tc : Thread Cert.EvenBwdRefIdeal.nD Cert.EvenBwdRefIdeal.τ).loc Cert.EvenBwdRefIdeal.main_arg5)
          ∧ r.2.mem ((c.tc : Thread Cert.EvenBwdRefIdeal.nD Cert.EvenBwdRefIdeal.τ).loc Cert.EvenBwdRefIdeal.main_arg6) = m' ((c.tc : Thread Cert.EvenBwdRefIdeal.nD Cert.EvenBwdRefIdeal.τ).loc Cert.EvenBwdRefIdeal.main_arg6)
          ∧ r.2.mem ((c.tc : Thread Cert.EvenBwdRefIdeal.nD Cert.EvenBwdRefIdeal.τ).loc Cert.EvenBwdRefIdeal.main_arg7) = m' ((c.tc : Thread Cert.EvenBwdRefIdeal.nD Cert.EvenBwdRefIdeal.τ).loc Cert.EvenBwdRefIdeal.main_arg7))

def preserves_DwFfn_DwFfnIdeal : Prop :=
  True

def algebraic_DwFfnIdeal_DwFfnRefIdeal [hDwFfnIdeal : Cert.DwFfnIdeal.Facts] [hDwFfnRefIdeal : Cert.DwFfnRefIdeal.Facts] : Prop :=
  ∀ (m : (ℓ : Loc Cert.DwFfnIdeal.nD Cert.DwFfnIdeal.τ Cert.DwFfnIdeal.sig) → Buf (Elt Ideal) ℓ) (g : Dev Cert.DwFfnIdeal.nD → PrngReg)
    (m' : (ℓ : Loc Cert.DwFfnRefIdeal.nD Cert.DwFfnRefIdeal.τ Cert.DwFfnRefIdeal.sig) → Buf (Elt Ideal) ℓ) (g' : Dev Cert.DwFfnRefIdeal.nD → PrngReg), Pre_DwFfnIdeal m →
    (∀ c : Dev Cert.DwFfnIdeal.nD,
      m' ((c.tc : Thread Cert.DwFfnRefIdeal.nD Cert.DwFfnRefIdeal.τ).loc Cert.DwFfnRefIdeal.main_arg0) = m ((c.tc : Thread Cert.DwFfnIdeal.nD Cert.DwFfnIdeal.τ).loc Cert.DwFfnIdeal.main_arg0)
      ∧ m' ((c.tc : Thread Cert.DwFfnRefIdeal.nD Cert.DwFfnRefIdeal.τ).loc Cert.DwFfnRefIdeal.main_arg1) = m ((c.tc : Thread Cert.DwFfnIdeal.nD Cert.DwFfnIdeal.τ).loc Cert.DwFfnIdeal.main_arg1)) →
    ∃ (v0 : (c : Dev Cert.DwFfnIdeal.nD) → Buf (Elt Ideal) ((c.tc : Thread Cert.DwFfnIdeal.nD Cert.DwFfnIdeal.τ).loc Cert.DwFfnIdeal.main_v0)),
      θ_run (Cert.DwFfnIdeal.defs (F := Ideal)) (onTc (τ := Cert.DwFfnIdeal.τ) (Cert.DwFfnIdeal.main (F := Ideal))) ⟨m, fun _ => 0, g⟩ (fun r => ∀ c : Dev Cert.DwFfnIdeal.nD,
          r.2.mem ((c.tc : Thread Cert.DwFfnIdeal.nD Cert.DwFfnIdeal.τ).loc Cert.DwFfnIdeal.main_v0) = v0 c
          ∧ r.2.mem ((c.tc : Thread Cert.DwFfnIdeal.nD Cert.DwFfnIdeal.τ).loc Cert.DwFfnIdeal.main_arg0) = m ((c.tc : Thread Cert.DwFfnIdeal.nD Cert.DwFfnIdeal.τ).loc Cert.DwFfnIdeal.main_arg0)
          ∧ r.2.mem ((c.tc : Thread Cert.DwFfnIdeal.nD Cert.DwFfnIdeal.τ).loc Cert.DwFfnIdeal.main_arg1) = m ((c.tc : Thread Cert.DwFfnIdeal.nD Cert.DwFfnIdeal.τ).loc Cert.DwFfnIdeal.main_arg1))
      ∧ θ_run (Cert.DwFfnRefIdeal.defs (F := Ideal)) (onTc (τ := Cert.DwFfnRefIdeal.τ) (Cert.DwFfnRefIdeal.main (F := Ideal))) ⟨m', fun _ => 0, g'⟩ (fun r => ∀ c : Dev Cert.DwFfnRefIdeal.nD,
          r.2.mem ((c.tc : Thread Cert.DwFfnRefIdeal.nD Cert.DwFfnRefIdeal.τ).loc Cert.DwFfnRefIdeal.main_v8) = v0 c
          ∧ r.2.mem ((c.tc : Thread Cert.DwFfnRefIdeal.nD Cert.DwFfnRefIdeal.τ).loc Cert.DwFfnRefIdeal.main_arg0) = m' ((c.tc : Thread Cert.DwFfnRefIdeal.nD Cert.DwFfnRefIdeal.τ).loc Cert.DwFfnRefIdeal.main_arg0)
          ∧ r.2.mem ((c.tc : Thread Cert.DwFfnRefIdeal.nD Cert.DwFfnRefIdeal.τ).loc Cert.DwFfnRefIdeal.main_arg1) = m' ((c.tc : Thread Cert.DwFfnRefIdeal.nD Cert.DwFfnRefIdeal.τ).loc Cert.DwFfnRefIdeal.main_arg1))

def preserves_DxFfn_DxFfnIdeal : Prop :=
  True

def algebraic_DxFfnIdeal_DxFfnRefIdeal [hDxFfnIdeal : Cert.DxFfnIdeal.Facts] [hDxFfnRefIdeal : Cert.DxFfnRefIdeal.Facts] : Prop :=
  ∀ (m : (ℓ : Loc Cert.DxFfnIdeal.nD Cert.DxFfnIdeal.τ Cert.DxFfnIdeal.sig) → Buf (Elt Ideal) ℓ) (g : Dev Cert.DxFfnIdeal.nD → PrngReg)
    (m' : (ℓ : Loc Cert.DxFfnRefIdeal.nD Cert.DxFfnRefIdeal.τ Cert.DxFfnRefIdeal.sig) → Buf (Elt Ideal) ℓ) (g' : Dev Cert.DxFfnRefIdeal.nD → PrngReg), Pre_DxFfnIdeal m →
    (∀ c : Dev Cert.DxFfnIdeal.nD,
      m' ((c.tc : Thread Cert.DxFfnRefIdeal.nD Cert.DxFfnRefIdeal.τ).loc Cert.DxFfnRefIdeal.main_arg0) = m ((c.tc : Thread Cert.DxFfnIdeal.nD Cert.DxFfnIdeal.τ).loc Cert.DxFfnIdeal.main_arg0)
      ∧ m' ((c.tc : Thread Cert.DxFfnRefIdeal.nD Cert.DxFfnRefIdeal.τ).loc Cert.DxFfnRefIdeal.main_arg1) = m ((c.tc : Thread Cert.DxFfnIdeal.nD Cert.DxFfnIdeal.τ).loc Cert.DxFfnIdeal.main_arg1)
      ∧ m' ((c.tc : Thread Cert.DxFfnRefIdeal.nD Cert.DxFfnRefIdeal.τ).loc Cert.DxFfnRefIdeal.main_arg2) = m ((c.tc : Thread Cert.DxFfnIdeal.nD Cert.DxFfnIdeal.τ).loc Cert.DxFfnIdeal.main_arg2)
      ∧ m' ((c.tc : Thread Cert.DxFfnRefIdeal.nD Cert.DxFfnRefIdeal.τ).loc Cert.DxFfnRefIdeal.main_arg3) = m ((c.tc : Thread Cert.DxFfnIdeal.nD Cert.DxFfnIdeal.τ).loc Cert.DxFfnIdeal.main_arg3)) →
    ∃ (v0 : (c : Dev Cert.DxFfnIdeal.nD) → Buf (Elt Ideal) ((c.tc : Thread Cert.DxFfnIdeal.nD Cert.DxFfnIdeal.τ).loc Cert.DxFfnIdeal.main_v0)),
      θ_run (Cert.DxFfnIdeal.defs (F := Ideal)) (onTc (τ := Cert.DxFfnIdeal.τ) (Cert.DxFfnIdeal.main (F := Ideal))) ⟨m, fun _ => 0, g⟩ (fun r => ∀ c : Dev Cert.DxFfnIdeal.nD,
          r.2.mem ((c.tc : Thread Cert.DxFfnIdeal.nD Cert.DxFfnIdeal.τ).loc Cert.DxFfnIdeal.main_v0) = v0 c
          ∧ r.2.mem ((c.tc : Thread Cert.DxFfnIdeal.nD Cert.DxFfnIdeal.τ).loc Cert.DxFfnIdeal.main_arg0) = m ((c.tc : Thread Cert.DxFfnIdeal.nD Cert.DxFfnIdeal.τ).loc Cert.DxFfnIdeal.main_arg0)
          ∧ r.2.mem ((c.tc : Thread Cert.DxFfnIdeal.nD Cert.DxFfnIdeal.τ).loc Cert.DxFfnIdeal.main_arg1) = m ((c.tc : Thread Cert.DxFfnIdeal.nD Cert.DxFfnIdeal.τ).loc Cert.DxFfnIdeal.main_arg1)
          ∧ r.2.mem ((c.tc : Thread Cert.DxFfnIdeal.nD Cert.DxFfnIdeal.τ).loc Cert.DxFfnIdeal.main_arg2) = m ((c.tc : Thread Cert.DxFfnIdeal.nD Cert.DxFfnIdeal.τ).loc Cert.DxFfnIdeal.main_arg2)
          ∧ r.2.mem ((c.tc : Thread Cert.DxFfnIdeal.nD Cert.DxFfnIdeal.τ).loc Cert.DxFfnIdeal.main_arg3) = m ((c.tc : Thread Cert.DxFfnIdeal.nD Cert.DxFfnIdeal.τ).loc Cert.DxFfnIdeal.main_arg3))
      ∧ θ_run (Cert.DxFfnRefIdeal.defs (F := Ideal)) (onTc (τ := Cert.DxFfnRefIdeal.τ) (Cert.DxFfnRefIdeal.main (F := Ideal))) ⟨m', fun _ => 0, g'⟩ (fun r => ∀ c : Dev Cert.DxFfnRefIdeal.nD,
          r.2.mem ((c.tc : Thread Cert.DxFfnRefIdeal.nD Cert.DxFfnRefIdeal.τ).loc Cert.DxFfnRefIdeal.main_v15) = v0 c
          ∧ r.2.mem ((c.tc : Thread Cert.DxFfnRefIdeal.nD Cert.DxFfnRefIdeal.τ).loc Cert.DxFfnRefIdeal.main_arg0) = m' ((c.tc : Thread Cert.DxFfnRefIdeal.nD Cert.DxFfnRefIdeal.τ).loc Cert.DxFfnRefIdeal.main_arg0)
          ∧ r.2.mem ((c.tc : Thread Cert.DxFfnRefIdeal.nD Cert.DxFfnRefIdeal.τ).loc Cert.DxFfnRefIdeal.main_arg1) = m' ((c.tc : Thread Cert.DxFfnRefIdeal.nD Cert.DxFfnRefIdeal.τ).loc Cert.DxFfnRefIdeal.main_arg1)
          ∧ r.2.mem ((c.tc : Thread Cert.DxFfnRefIdeal.nD Cert.DxFfnRefIdeal.τ).loc Cert.DxFfnRefIdeal.main_arg2) = m' ((c.tc : Thread Cert.DxFfnRefIdeal.nD Cert.DxFfnRefIdeal.τ).loc Cert.DxFfnRefIdeal.main_arg2)
          ∧ r.2.mem ((c.tc : Thread Cert.DxFfnRefIdeal.nD Cert.DxFfnRefIdeal.τ).loc Cert.DxFfnRefIdeal.main_arg3) = m' ((c.tc : Thread Cert.DxFfnRefIdeal.nD Cert.DxFfnRefIdeal.τ).loc Cert.DxFfnRefIdeal.main_arg3))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v8) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DxOut_DxOutIdeal : Prop :=
  True

def algebraic_DxOutIdeal_DxOutRefIdeal [hDxOutIdeal : Cert.DxOutIdeal.Facts] [hDxOutRefIdeal : Cert.DxOutRefIdeal.Facts] : Prop :=
  ∀ (m : (ℓ : Loc Cert.DxOutIdeal.nD Cert.DxOutIdeal.τ Cert.DxOutIdeal.sig) → Buf (Elt Ideal) ℓ) (g : Dev Cert.DxOutIdeal.nD → PrngReg)
    (m' : (ℓ : Loc Cert.DxOutRefIdeal.nD Cert.DxOutRefIdeal.τ Cert.DxOutRefIdeal.sig) → Buf (Elt Ideal) ℓ) (g' : Dev Cert.DxOutRefIdeal.nD → PrngReg), Pre_DxOutIdeal m →
    (∀ c : Dev Cert.DxOutIdeal.nD,
      m' ((c.tc : Thread Cert.DxOutRefIdeal.nD Cert.DxOutRefIdeal.τ).loc Cert.DxOutRefIdeal.main_arg0) = m ((c.tc : Thread Cert.DxOutIdeal.nD Cert.DxOutIdeal.τ).loc Cert.DxOutIdeal.main_arg0)
      ∧ m' ((c.tc : Thread Cert.DxOutRefIdeal.nD Cert.DxOutRefIdeal.τ).loc Cert.DxOutRefIdeal.main_arg1) = m ((c.tc : Thread Cert.DxOutIdeal.nD Cert.DxOutIdeal.τ).loc Cert.DxOutIdeal.main_arg1)) →
    ∃ (v0 : (c : Dev Cert.DxOutIdeal.nD) → Buf (Elt Ideal) ((c.tc : Thread Cert.DxOutIdeal.nD Cert.DxOutIdeal.τ).loc Cert.DxOutIdeal.main_v0)),
      θ_run (Cert.DxOutIdeal.defs (F := Ideal)) (onTc (τ := Cert.DxOutIdeal.τ) (Cert.DxOutIdeal.main (F := Ideal))) ⟨m, fun _ => 0, g⟩ (fun r => ∀ c : Dev Cert.DxOutIdeal.nD,
          r.2.mem ((c.tc : Thread Cert.DxOutIdeal.nD Cert.DxOutIdeal.τ).loc Cert.DxOutIdeal.main_v0) = v0 c
          ∧ r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
          ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ θ_run (Cert.DxOutRefIdeal.defs (F := Ideal)) (onTc (τ := Cert.DxOutRefIdeal.τ) (Cert.DxOutRefIdeal.main (F := Ideal))) ⟨m', fun _ => 0, g'⟩ (fun r => ∀ c : Dev Cert.DxOutRefIdeal.nD,
          r.2.mem ((c.tc : Thread Cert.DxOutRefIdeal.nD Cert.DxOutRefIdeal.τ).loc Cert.DxOutRefIdeal.main_v7) = v0 c
          ∧ r.2.mem ((c.tc : Thread Cert.DxOutRefIdeal.nD Cert.DxOutRefIdeal.τ).loc Cert.DxOutRefIdeal.main_arg0) = m' ((c.tc : Thread Cert.DxOutRefIdeal.nD Cert.DxOutRefIdeal.τ).loc Cert.DxOutRefIdeal.main_arg0)
          ∧ r.2.mem ((c.tc : Thread Cert.DxOutRefIdeal.nD Cert.DxOutRefIdeal.τ).loc Cert.DxOutRefIdeal.main_arg1) = m' ((c.tc : Thread Cert.DxOutRefIdeal.nD Cert.DxOutRefIdeal.τ).loc Cert.DxOutRefIdeal.main_arg1))

def preserves_DwInO_DwInOIdeal : Prop :=
  True

def algebraic_DwInOIdeal_DwInORefIdeal [hDwInOIdeal : Cert.DwInOIdeal.Facts] [hDwInORefIdeal : Cert.DwInORefIdeal.Facts] : Prop :=
  ∀ (m : (ℓ : Loc Cert.DwInOIdeal.nD Cert.DwInOIdeal.τ Cert.DwInOIdeal.sig) → Buf (Elt Ideal) ℓ) (g : Dev Cert.DwInOIdeal.nD → PrngReg)
    (m' : (ℓ : Loc Cert.DwInORefIdeal.nD Cert.DwInORefIdeal.τ Cert.DwInORefIdeal.sig) → Buf (Elt Ideal) ℓ) (g' : Dev Cert.DwInORefIdeal.nD → PrngReg), Pre_DwInOIdeal m →
    (∀ c : Dev Cert.DwInOIdeal.nD,
      m' ((c.tc : Thread Cert.DwInORefIdeal.nD Cert.DwInORefIdeal.τ).loc Cert.DwInORefIdeal.main_arg0) = m ((c.tc : Thread Cert.DwInOIdeal.nD Cert.DwInOIdeal.τ).loc Cert.DwInOIdeal.main_arg0)
      ∧ m' ((c.tc : Thread Cert.DwInORefIdeal.nD Cert.DwInORefIdeal.τ).loc Cert.DwInORefIdeal.main_arg1) = m ((c.tc : Thread Cert.DwInOIdeal.nD Cert.DwInOIdeal.τ).loc Cert.DwInOIdeal.main_arg1)) →
    ∃ (v0 : (c : Dev Cert.DwInOIdeal.nD) → Buf (Elt Ideal) ((c.tc : Thread Cert.DwInOIdeal.nD Cert.DwInOIdeal.τ).loc Cert.DwInOIdeal.main_v0)),
      θ_run (Cert.DwInOIdeal.defs (F := Ideal)) (onTc (τ := Cert.DwInOIdeal.τ) (Cert.DwInOIdeal.main (F := Ideal))) ⟨m, fun _ => 0, g⟩ (fun r => ∀ c : Dev Cert.DwInOIdeal.nD,
          r.2.mem ((c.tc : Thread Cert.DwInOIdeal.nD Cert.DwInOIdeal.τ).loc Cert.DwInOIdeal.main_v0) = v0 c
          ∧ r.2.mem ((c.tc : Thread Cert.DwInOIdeal.nD Cert.DwInOIdeal.τ).loc Cert.DwInOIdeal.main_arg0) = m ((c.tc : Thread Cert.DwInOIdeal.nD Cert.DwInOIdeal.τ).loc Cert.DwInOIdeal.main_arg0)
          ∧ r.2.mem ((c.tc : Thread Cert.DwInOIdeal.nD Cert.DwInOIdeal.τ).loc Cert.DwInOIdeal.main_arg1) = m ((c.tc : Thread Cert.DwInOIdeal.nD Cert.DwInOIdeal.τ).loc Cert.DwInOIdeal.main_arg1))
      ∧ θ_run (Cert.DwInORefIdeal.defs (F := Ideal)) (onTc (τ := Cert.DwInORefIdeal.τ) (Cert.DwInORefIdeal.main (F := Ideal))) ⟨m', fun _ => 0, g'⟩ (fun r => ∀ c : Dev Cert.DwInORefIdeal.nD,
          r.2.mem ((c.tc : Thread Cert.DwInORefIdeal.nD Cert.DwInORefIdeal.τ).loc Cert.DwInORefIdeal.main_v8) = v0 c
          ∧ r.2.mem ((c.tc : Thread Cert.DwInORefIdeal.nD Cert.DwInORefIdeal.τ).loc Cert.DwInORefIdeal.main_arg0) = m' ((c.tc : Thread Cert.DwInORefIdeal.nD Cert.DwInORefIdeal.τ).loc Cert.DwInORefIdeal.main_arg0)
          ∧ r.2.mem ((c.tc : Thread Cert.DwInORefIdeal.nD Cert.DwInORefIdeal.τ).loc Cert.DwInORefIdeal.main_arg1) = m' ((c.tc : Thread Cert.DwInORefIdeal.nD Cert.DwInORefIdeal.τ).loc Cert.DwInORefIdeal.main_arg1))

def preserves_DxInO_DxInOIdeal : Prop :=
  True

def algebraic_DxInOIdeal_DxInORefIdeal [hDxInOIdeal : Cert.DxInOIdeal.Facts] [hDxInORefIdeal : Cert.DxInORefIdeal.Facts] : Prop :=
  ∀ (m : (ℓ : Loc Cert.DxInOIdeal.nD Cert.DxInOIdeal.τ Cert.DxInOIdeal.sig) → Buf (Elt Ideal) ℓ) (g : Dev Cert.DxInOIdeal.nD → PrngReg)
    (m' : (ℓ : Loc Cert.DxInORefIdeal.nD Cert.DxInORefIdeal.τ Cert.DxInORefIdeal.sig) → Buf (Elt Ideal) ℓ) (g' : Dev Cert.DxInORefIdeal.nD → PrngReg), Pre_DxInOIdeal m →
    (∀ c : Dev Cert.DxInOIdeal.nD,
      m' ((c.tc : Thread Cert.DxInORefIdeal.nD Cert.DxInORefIdeal.τ).loc Cert.DxInORefIdeal.main_arg0) = m ((c.tc : Thread Cert.DxInOIdeal.nD Cert.DxInOIdeal.τ).loc Cert.DxInOIdeal.main_arg0)
      ∧ m' ((c.tc : Thread Cert.DxInORefIdeal.nD Cert.DxInORefIdeal.τ).loc Cert.DxInORefIdeal.main_arg1) = m ((c.tc : Thread Cert.DxInOIdeal.nD Cert.DxInOIdeal.τ).loc Cert.DxInOIdeal.main_arg1)) →
    ∃ (v0 : (c : Dev Cert.DxInOIdeal.nD) → Buf (Elt Ideal) ((c.tc : Thread Cert.DxInOIdeal.nD Cert.DxInOIdeal.τ).loc Cert.DxInOIdeal.main_v0)),
      θ_run (Cert.DxInOIdeal.defs (F := Ideal)) (onTc (τ := Cert.DxInOIdeal.τ) (Cert.DxInOIdeal.main (F := Ideal))) ⟨m, fun _ => 0, g⟩ (fun r => ∀ c : Dev Cert.DxInOIdeal.nD,
          r.2.mem ((c.tc : Thread Cert.DxInOIdeal.nD Cert.DxInOIdeal.τ).loc Cert.DxInOIdeal.main_v0) = v0 c
          ∧ r.2.mem ((c.tc : Thread Cert.DxInOIdeal.nD Cert.DxInOIdeal.τ).loc Cert.DxInOIdeal.main_arg0) = m ((c.tc : Thread Cert.DxInOIdeal.nD Cert.DxInOIdeal.τ).loc Cert.DxInOIdeal.main_arg0)
          ∧ r.2.mem ((c.tc : Thread Cert.DxInOIdeal.nD Cert.DxInOIdeal.τ).loc Cert.DxInOIdeal.main_arg1) = m ((c.tc : Thread Cert.DxInOIdeal.nD Cert.DxInOIdeal.τ).loc Cert.DxInOIdeal.main_arg1))
      ∧ θ_run (Cert.DxInORefIdeal.defs (F := Ideal)) (onTc (τ := Cert.DxInORefIdeal.τ) (Cert.DxInORefIdeal.main (F := Ideal))) ⟨m', fun _ => 0, g'⟩ (fun r => ∀ c : Dev Cert.DxInORefIdeal.nD,
          r.2.mem ((c.tc : Thread Cert.DxInORefIdeal.nD Cert.DxInORefIdeal.τ).loc Cert.DxInORefIdeal.main_v7) = v0 c
          ∧ r.2.mem ((c.tc : Thread Cert.DxInORefIdeal.nD Cert.DxInORefIdeal.τ).loc Cert.DxInORefIdeal.main_arg0) = m' ((c.tc : Thread Cert.DxInORefIdeal.nD Cert.DxInORefIdeal.τ).loc Cert.DxInORefIdeal.main_arg0)
          ∧ r.2.mem ((c.tc : Thread Cert.DxInORefIdeal.nD Cert.DxInORefIdeal.τ).loc Cert.DxInORefIdeal.main_arg1) = m' ((c.tc : Thread Cert.DxInORefIdeal.nD Cert.DxInORefIdeal.τ).loc Cert.DxInORefIdeal.main_arg1))

def preserves_DwInE_DwInEIdeal : Prop :=
  True

def algebraic_DwInEIdeal_DwInERefIdeal [hDwInEIdeal : Cert.DwInEIdeal.Facts] [hDwInERefIdeal : Cert.DwInERefIdeal.Facts] : Prop :=
  ∀ (m : (ℓ : Loc Cert.DwInEIdeal.nD Cert.DwInEIdeal.τ Cert.DwInEIdeal.sig) → Buf (Elt Ideal) ℓ) (g : Dev Cert.DwInEIdeal.nD → PrngReg)
    (m' : (ℓ : Loc Cert.DwInERefIdeal.nD Cert.DwInERefIdeal.τ Cert.DwInERefIdeal.sig) → Buf (Elt Ideal) ℓ) (g' : Dev Cert.DwInERefIdeal.nD → PrngReg), Pre_DwInEIdeal m →
    (∀ c : Dev Cert.DwInEIdeal.nD,
      m' ((c.tc : Thread Cert.DwInERefIdeal.nD Cert.DwInERefIdeal.τ).loc Cert.DwInERefIdeal.main_arg0) = m ((c.tc : Thread Cert.DwInEIdeal.nD Cert.DwInEIdeal.τ).loc Cert.DwInEIdeal.main_arg0)
      ∧ m' ((c.tc : Thread Cert.DwInERefIdeal.nD Cert.DwInERefIdeal.τ).loc Cert.DwInERefIdeal.main_arg1) = m ((c.tc : Thread Cert.DwInEIdeal.nD Cert.DwInEIdeal.τ).loc Cert.DwInEIdeal.main_arg1)) →
    ∃ (v0 : (c : Dev Cert.DwInEIdeal.nD) → Buf (Elt Ideal) ((c.tc : Thread Cert.DwInEIdeal.nD Cert.DwInEIdeal.τ).loc Cert.DwInEIdeal.main_v0)),
      θ_run (Cert.DwInEIdeal.defs (F := Ideal)) (onTc (τ := Cert.DwInEIdeal.τ) (Cert.DwInEIdeal.main (F := Ideal))) ⟨m, fun _ => 0, g⟩ (fun r => ∀ c : Dev Cert.DwInEIdeal.nD,
          r.2.mem ((c.tc : Thread Cert.DwInEIdeal.nD Cert.DwInEIdeal.τ).loc Cert.DwInEIdeal.main_v0) = v0 c
          ∧ r.2.mem ((c.tc : Thread Cert.DwInEIdeal.nD Cert.DwInEIdeal.τ).loc Cert.DwInEIdeal.main_arg0) = m ((c.tc : Thread Cert.DwInEIdeal.nD Cert.DwInEIdeal.τ).loc Cert.DwInEIdeal.main_arg0)
          ∧ r.2.mem ((c.tc : Thread Cert.DwInEIdeal.nD Cert.DwInEIdeal.τ).loc Cert.DwInEIdeal.main_arg1) = m ((c.tc : Thread Cert.DwInEIdeal.nD Cert.DwInEIdeal.τ).loc Cert.DwInEIdeal.main_arg1))
      ∧ θ_run (Cert.DwInERefIdeal.defs (F := Ideal)) (onTc (τ := Cert.DwInERefIdeal.τ) (Cert.DwInERefIdeal.main (F := Ideal))) ⟨m', fun _ => 0, g'⟩ (fun r => ∀ c : Dev Cert.DwInERefIdeal.nD,
          r.2.mem ((c.tc : Thread Cert.DwInERefIdeal.nD Cert.DwInERefIdeal.τ).loc Cert.DwInERefIdeal.main_v8) = v0 c
          ∧ r.2.mem ((c.tc : Thread Cert.DwInERefIdeal.nD Cert.DwInERefIdeal.τ).loc Cert.DwInERefIdeal.main_arg0) = m' ((c.tc : Thread Cert.DwInERefIdeal.nD Cert.DwInERefIdeal.τ).loc Cert.DwInERefIdeal.main_arg0)
          ∧ r.2.mem ((c.tc : Thread Cert.DwInERefIdeal.nD Cert.DwInERefIdeal.τ).loc Cert.DwInERefIdeal.main_arg1) = m' ((c.tc : Thread Cert.DwInERefIdeal.nD Cert.DwInERefIdeal.τ).loc Cert.DwInERefIdeal.main_arg1))

def preserves_DxInE_DxInEIdeal : Prop :=
  True

def algebraic_DxInEIdeal_DxInERefIdeal [hDxInEIdeal : Cert.DxInEIdeal.Facts] [hDxInERefIdeal : Cert.DxInERefIdeal.Facts] : Prop :=
  ∀ (m : (ℓ : Loc Cert.DxInEIdeal.nD Cert.DxInEIdeal.τ Cert.DxInEIdeal.sig) → Buf (Elt Ideal) ℓ) (g : Dev Cert.DxInEIdeal.nD → PrngReg)
    (m' : (ℓ : Loc Cert.DxInERefIdeal.nD Cert.DxInERefIdeal.τ Cert.DxInERefIdeal.sig) → Buf (Elt Ideal) ℓ) (g' : Dev Cert.DxInERefIdeal.nD → PrngReg), Pre_DxInEIdeal m →
    (∀ c : Dev Cert.DxInEIdeal.nD,
      m' ((c.tc : Thread Cert.DxInERefIdeal.nD Cert.DxInERefIdeal.τ).loc Cert.DxInERefIdeal.main_arg0) = m ((c.tc : Thread Cert.DxInEIdeal.nD Cert.DxInEIdeal.τ).loc Cert.DxInEIdeal.main_arg0)
      ∧ m' ((c.tc : Thread Cert.DxInERefIdeal.nD Cert.DxInERefIdeal.τ).loc Cert.DxInERefIdeal.main_arg1) = m ((c.tc : Thread Cert.DxInEIdeal.nD Cert.DxInEIdeal.τ).loc Cert.DxInEIdeal.main_arg1)) →
    ∃ (v0 : (c : Dev Cert.DxInEIdeal.nD) → Buf (Elt Ideal) ((c.tc : Thread Cert.DxInEIdeal.nD Cert.DxInEIdeal.τ).loc Cert.DxInEIdeal.main_v0)),
      θ_run (Cert.DxInEIdeal.defs (F := Ideal)) (onTc (τ := Cert.DxInEIdeal.τ) (Cert.DxInEIdeal.main (F := Ideal))) ⟨m, fun _ => 0, g⟩ (fun r => ∀ c : Dev Cert.DxInEIdeal.nD,
          r.2.mem ((c.tc : Thread Cert.DxInEIdeal.nD Cert.DxInEIdeal.τ).loc Cert.DxInEIdeal.main_v0) = v0 c
          ∧ r.2.mem ((c.tc : Thread Cert.DxInEIdeal.nD Cert.DxInEIdeal.τ).loc Cert.DxInEIdeal.main_arg0) = m ((c.tc : Thread Cert.DxInEIdeal.nD Cert.DxInEIdeal.τ).loc Cert.DxInEIdeal.main_arg0)
          ∧ r.2.mem ((c.tc : Thread Cert.DxInEIdeal.nD Cert.DxInEIdeal.τ).loc Cert.DxInEIdeal.main_arg1) = m ((c.tc : Thread Cert.DxInEIdeal.nD Cert.DxInEIdeal.τ).loc Cert.DxInEIdeal.main_arg1))
      ∧ θ_run (Cert.DxInERefIdeal.defs (F := Ideal)) (onTc (τ := Cert.DxInERefIdeal.τ) (Cert.DxInERefIdeal.main (F := Ideal))) ⟨m', fun _ => 0, g'⟩ (fun r => ∀ c : Dev Cert.DxInERefIdeal.nD,
          r.2.mem ((c.tc : Thread Cert.DxInERefIdeal.nD Cert.DxInERefIdeal.τ).loc Cert.DxInERefIdeal.main_v7) = v0 c
          ∧ r.2.mem ((c.tc : Thread Cert.DxInERefIdeal.nD Cert.DxInERefIdeal.τ).loc Cert.DxInERefIdeal.main_arg0) = m' ((c.tc : Thread Cert.DxInERefIdeal.nD Cert.DxInERefIdeal.τ).loc Cert.DxInERefIdeal.main_arg0)
          ∧ r.2.mem ((c.tc : Thread Cert.DxInERefIdeal.nD Cert.DxInERefIdeal.τ).loc Cert.DxInERefIdeal.main_arg1) = m' ((c.tc : Thread Cert.DxInERefIdeal.nD Cert.DxInERefIdeal.τ).loc Cert.DxInERefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_InO_InOIdeal : Prop :=
  True

def algebraic_InOIdeal_InORefIdeal [hInOIdeal : Cert.InOIdeal.Facts] [hInORefIdeal : Cert.InORefIdeal.Facts] : Prop :=
  ∀ (m : (ℓ : Loc Cert.InOIdeal.nD Cert.InOIdeal.τ Cert.InOIdeal.sig) → Buf (Elt Ideal) ℓ) (g : Dev Cert.InOIdeal.nD → PrngReg)
    (m' : (ℓ : Loc Cert.InORefIdeal.nD Cert.InORefIdeal.τ Cert.InORefIdeal.sig) → Buf (Elt Ideal) ℓ) (g' : Dev Cert.InORefIdeal.nD → PrngReg), Pre_InOIdeal m →
    (∀ c : Dev Cert.InOIdeal.nD,
      m' ((c.tc : Thread Cert.InORefIdeal.nD Cert.InORefIdeal.τ).loc Cert.InORefIdeal.main_arg0) = m ((c.tc : Thread Cert.InOIdeal.nD Cert.InOIdeal.τ).loc Cert.InOIdeal.main_arg0)
      ∧ m' ((c.tc : Thread Cert.InORefIdeal.nD Cert.InORefIdeal.τ).loc Cert.InORefIdeal.main_arg1) = m ((c.tc : Thread Cert.InOIdeal.nD Cert.InOIdeal.τ).loc Cert.InOIdeal.main_arg1)) →
    ∃ (v0 : (c : Dev Cert.InOIdeal.nD) → Buf (Elt Ideal) ((c.tc : Thread Cert.InOIdeal.nD Cert.InOIdeal.τ).loc Cert.InOIdeal.main_v0)),
      θ_run (Cert.InOIdeal.defs (F := Ideal)) (onTc (τ := Cert.InOIdeal.τ) (Cert.InOIdeal.main (F := Ideal))) ⟨m, fun _ => 0, g⟩ (fun r => ∀ c : Dev Cert.InOIdeal.nD,
          r.2.mem ((c.tc : Thread Cert.InOIdeal.nD Cert.InOIdeal.τ).loc Cert.InOIdeal.main_v0) = v0 c
          ∧ r.2.mem ((c.tc : Thread Cert.InOIdeal.nD Cert.InOIdeal.τ).loc Cert.InOIdeal.main_arg0) = m ((c.tc : Thread Cert.InOIdeal.nD Cert.InOIdeal.τ).loc Cert.InOIdeal.main_arg0)
          ∧ r.2.mem ((c.tc : Thread Cert.InOIdeal.nD Cert.InOIdeal.τ).loc Cert.InOIdeal.main_arg1) = m ((c.tc : Thread Cert.InOIdeal.nD Cert.InOIdeal.τ).loc Cert.InOIdeal.main_arg1))
      ∧ θ_run (Cert.InORefIdeal.defs (F := Ideal)) (onTc (τ := Cert.InORefIdeal.τ) (Cert.InORefIdeal.main (F := Ideal))) ⟨m', fun _ => 0, g'⟩ (fun r => ∀ c : Dev Cert.InORefIdeal.nD,
          r.2.mem ((c.tc : Thread Cert.InORefIdeal.nD Cert.InORefIdeal.τ).loc Cert.InORefIdeal.main_v3) = v0 c
          ∧ r.2.mem ((c.tc : Thread Cert.InORefIdeal.nD Cert.InORefIdeal.τ).loc Cert.InORefIdeal.main_arg0) = m' ((c.tc : Thread Cert.InORefIdeal.nD Cert.InORefIdeal.τ).loc Cert.InORefIdeal.main_arg0)
          ∧ r.2.mem ((c.tc : Thread Cert.InORefIdeal.nD Cert.InORefIdeal.τ).loc Cert.InORefIdeal.main_arg1) = m' ((c.tc : Thread Cert.InORefIdeal.nD Cert.InORefIdeal.τ).loc Cert.InORefIdeal.main_arg1))

def preserves_InE_InEIdeal : Prop :=
  True

def algebraic_InEIdeal_InERefIdeal [hInEIdeal : Cert.InEIdeal.Facts] [hInERefIdeal : Cert.InERefIdeal.Facts] : Prop :=
  ∀ (m : (ℓ : Loc Cert.InEIdeal.nD Cert.InEIdeal.τ Cert.InEIdeal.sig) → Buf (Elt Ideal) ℓ) (g : Dev Cert.InEIdeal.nD → PrngReg)
    (m' : (ℓ : Loc Cert.InERefIdeal.nD Cert.InERefIdeal.τ Cert.InERefIdeal.sig) → Buf (Elt Ideal) ℓ) (g' : Dev Cert.InERefIdeal.nD → PrngReg), Pre_InEIdeal m →
    (∀ c : Dev Cert.InEIdeal.nD,
      m' ((c.tc : Thread Cert.InERefIdeal.nD Cert.InERefIdeal.τ).loc Cert.InERefIdeal.main_arg0) = m ((c.tc : Thread Cert.InEIdeal.nD Cert.InEIdeal.τ).loc Cert.InEIdeal.main_arg0)
      ∧ m' ((c.tc : Thread Cert.InERefIdeal.nD Cert.InERefIdeal.τ).loc Cert.InERefIdeal.main_arg1) = m ((c.tc : Thread Cert.InEIdeal.nD Cert.InEIdeal.τ).loc Cert.InEIdeal.main_arg1)) →
    ∃ (v0 : (c : Dev Cert.InEIdeal.nD) → Buf (Elt Ideal) ((c.tc : Thread Cert.InEIdeal.nD Cert.InEIdeal.τ).loc Cert.InEIdeal.main_v0)),
      θ_run (Cert.InEIdeal.defs (F := Ideal)) (onTc (τ := Cert.InEIdeal.τ) (Cert.InEIdeal.main (F := Ideal))) ⟨m, fun _ => 0, g⟩ (fun r => ∀ c : Dev Cert.InEIdeal.nD,
          r.2.mem ((c.tc : Thread Cert.InEIdeal.nD Cert.InEIdeal.τ).loc Cert.InEIdeal.main_v0) = v0 c
          ∧ r.2.mem ((c.tc : Thread Cert.InEIdeal.nD Cert.InEIdeal.τ).loc Cert.InEIdeal.main_arg0) = m ((c.tc : Thread Cert.InEIdeal.nD Cert.InEIdeal.τ).loc Cert.InEIdeal.main_arg0)
          ∧ r.2.mem ((c.tc : Thread Cert.InEIdeal.nD Cert.InEIdeal.τ).loc Cert.InEIdeal.main_arg1) = m ((c.tc : Thread Cert.InEIdeal.nD Cert.InEIdeal.τ).loc Cert.InEIdeal.main_arg1))
      ∧ θ_run (Cert.InERefIdeal.defs (F := Ideal)) (onTc (τ := Cert.InERefIdeal.τ) (Cert.InERefIdeal.main (F := Ideal))) ⟨m', fun _ => 0, g'⟩ (fun r => ∀ c : Dev Cert.InERefIdeal.nD,
          r.2.mem ((c.tc : Thread Cert.InERefIdeal.nD Cert.InERefIdeal.τ).loc Cert.InERefIdeal.main_v3) = v0 c
          ∧ r.2.mem ((c.tc : Thread Cert.InERefIdeal.nD Cert.InERefIdeal.τ).loc Cert.InERefIdeal.main_arg0) = m' ((c.tc : Thread Cert.InERefIdeal.nD Cert.InERefIdeal.τ).loc Cert.InERefIdeal.main_arg0)
          ∧ r.2.mem ((c.tc : Thread Cert.InERefIdeal.nD Cert.InERefIdeal.τ).loc Cert.InERefIdeal.main_arg1) = m' ((c.tc : Thread Cert.InERefIdeal.nD Cert.InERefIdeal.τ).loc Cert.InERefIdeal.main_arg1))

def preserves_OutMix_OutMixIdeal : Prop :=
  True

def algebraic_OutMixIdeal_OutMixRefIdeal [hOutMixIdeal : Cert.OutMixIdeal.Facts] [hOutMixRefIdeal : Cert.OutMixRefIdeal.Facts] : Prop :=
  ∀ (m : (ℓ : Loc Cert.OutMixIdeal.nD Cert.OutMixIdeal.τ Cert.OutMixIdeal.sig) → Buf (Elt Ideal) ℓ) (g : Dev Cert.OutMixIdeal.nD → PrngReg)
    (m' : (ℓ : Loc Cert.OutMixRefIdeal.nD Cert.OutMixRefIdeal.τ Cert.OutMixRefIdeal.sig) → Buf (Elt Ideal) ℓ) (g' : Dev Cert.OutMixRefIdeal.nD → PrngReg), Pre_OutMixIdeal m →
    (∀ c : Dev Cert.OutMixIdeal.nD,
      m' ((c.tc : Thread Cert.OutMixRefIdeal.nD Cert.OutMixRefIdeal.τ).loc Cert.OutMixRefIdeal.main_arg0) = m ((c.tc : Thread Cert.OutMixIdeal.nD Cert.OutMixIdeal.τ).loc Cert.OutMixIdeal.main_arg0)
      ∧ m' ((c.tc : Thread Cert.OutMixRefIdeal.nD Cert.OutMixRefIdeal.τ).loc Cert.OutMixRefIdeal.main_arg1) = m ((c.tc : Thread Cert.OutMixIdeal.nD Cert.OutMixIdeal.τ).loc Cert.OutMixIdeal.main_arg1)
      ∧ m' ((c.tc : Thread Cert.OutMixRefIdeal.nD Cert.OutMixRefIdeal.τ).loc Cert.OutMixRefIdeal.main_arg2) = m ((c.tc : Thread Cert.OutMixIdeal.nD Cert.OutMixIdeal.τ).loc Cert.OutMixIdeal.main_arg2)) →
    ∃ (v0 : (c : Dev Cert.OutMixIdeal.nD) → Buf (Elt Ideal) ((c.tc : Thread Cert.OutMixIdeal.nD Cert.OutMixIdeal.τ).loc Cert.OutMixIdeal.main_v0)),
      θ_run (Cert.OutMixIdeal.defs (F := Ideal)) (onTc (τ := Cert.OutMixIdeal.τ) (Cert.OutMixIdeal.main (F := Ideal))) ⟨m, fun _ => 0, g⟩ (fun r => ∀ c : Dev Cert.OutMixIdeal.nD,
          r.2.mem ((c.tc : Thread Cert.OutMixIdeal.nD Cert.OutMixIdeal.τ).loc Cert.OutMixIdeal.main_v0) = v0 c
          ∧ r.2.mem ((c.tc : Thread Cert.OutMixIdeal.nD Cert.OutMixIdeal.τ).loc Cert.OutMixIdeal.main_arg0) = m ((c.tc : Thread Cert.OutMixIdeal.nD Cert.OutMixIdeal.τ).loc Cert.OutMixIdeal.main_arg0)
          ∧ r.2.mem ((c.tc : Thread Cert.OutMixIdeal.nD Cert.OutMixIdeal.τ).loc Cert.OutMixIdeal.main_arg1) = m ((c.tc : Thread Cert.OutMixIdeal.nD Cert.OutMixIdeal.τ).loc Cert.OutMixIdeal.main_arg1)
          ∧ r.2.mem ((c.tc : Thread Cert.OutMixIdeal.nD Cert.OutMixIdeal.τ).loc Cert.OutMixIdeal.main_arg2) = m ((c.tc : Thread Cert.OutMixIdeal.nD Cert.OutMixIdeal.τ).loc Cert.OutMixIdeal.main_arg2))
      ∧ θ_run (Cert.OutMixRefIdeal.defs (F := Ideal)) (onTc (τ := Cert.OutMixRefIdeal.τ) (Cert.OutMixRefIdeal.main (F := Ideal))) ⟨m', fun _ => 0, g'⟩ (fun r => ∀ c : Dev Cert.OutMixRefIdeal.nD,
          r.2.mem ((c.tc : Thread Cert.OutMixRefIdeal.nD Cert.OutMixRefIdeal.τ).loc Cert.OutMixRefIdeal.main_v3) = v0 c
          ∧ r.2.mem ((c.tc : Thread Cert.OutMixRefIdeal.nD Cert.OutMixRefIdeal.τ).loc Cert.OutMixRefIdeal.main_arg0) = m' ((c.tc : Thread Cert.OutMixRefIdeal.nD Cert.OutMixRefIdeal.τ).loc Cert.OutMixRefIdeal.main_arg0)
          ∧ r.2.mem ((c.tc : Thread Cert.OutMixRefIdeal.nD Cert.OutMixRefIdeal.τ).loc Cert.OutMixRefIdeal.main_arg1) = m' ((c.tc : Thread Cert.OutMixRefIdeal.nD Cert.OutMixRefIdeal.τ).loc Cert.OutMixRefIdeal.main_arg1)
          ∧ r.2.mem ((c.tc : Thread Cert.OutMixRefIdeal.nD Cert.OutMixRefIdeal.τ).loc Cert.OutMixRefIdeal.main_arg2) = m' ((c.tc : Thread Cert.OutMixRefIdeal.nD Cert.OutMixRefIdeal.τ).loc Cert.OutMixRefIdeal.main_arg2))

def preserves_Ffn_FfnIdeal : Prop :=
  True

def algebraic_FfnIdeal_FfnRefIdeal_pre_swiglu_finite [hFfnIdeal : Cert.FfnIdeal.Facts] [hFfnRefIdeal : Cert.FfnRefIdeal.Facts] [hPre_swiglu_finite : Cert.Pre_swiglu_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_swiglu_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v1_0)) (v2 : (c : Dev Cert.FfnIdeal.nD) → Buf (Elt Ideal) ((c.tc : Thread Cert.FfnIdeal.nD Cert.FfnIdeal.τ).loc Cert.FfnIdeal.main_v1_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v1_0) = v1 c
          ∧ r.2.mem ((c.tc : Thread Cert.FfnIdeal.nD Cert.FfnIdeal.τ).loc Cert.FfnIdeal.main_v1_1) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v16) = v0 c
          ∧ r.2.mem ((c.tc : Thread Cert.FfnRefIdeal.nD Cert.FfnRefIdeal.τ).loc Cert.FfnRefIdeal.main_v17) = v1 c
          ∧ r.2.mem ((c.tc : Thread Cert.FfnRefIdeal.nD Cert.FfnRefIdeal.τ).loc Cert.FfnRefIdeal.main_v18) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)) →
    ∃ (v0 : (c : Dev Cert.GradXIdeal.nD) → Buf (Elt Ideal) ((c.tc : Thread Cert.GradXIdeal.nD Cert.GradXIdeal.τ).loc Cert.GradXIdeal.main_v0_0)) (v1 : (c : Dev Cert.GradXIdeal.nD) → Buf (Elt Ideal) ((c.tc : Thread Cert.GradXIdeal.nD Cert.GradXIdeal.τ).loc Cert.GradXIdeal.main_v0_1)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0_0) = v0 c
          ∧ r.2.mem ((c.tc : Thread Cert.GradXIdeal.nD Cert.GradXIdeal.τ).loc Cert.GradXIdeal.main_v0_1) = v1 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v35) = v0 c
          ∧ r.2.mem ((c.tc : Thread Cert.GradXRefIdeal.nD Cert.GradXRefIdeal.τ).loc Cert.GradXRefIdeal.main_v18) = v1 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)) (v2 : (c : Dev Cert.RmsBwdIdeal.nD) → Buf (Elt Ideal) ((c.tc : Thread Cert.RmsBwdIdeal.nD Cert.RmsBwdIdeal.τ).loc Cert.RmsBwdIdeal.main_v0_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_v0_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v35) = v0 c
          ∧ r.2.mem ((c.tc : Thread Cert.RmsBwdRefIdeal.nD Cert.RmsBwdRefIdeal.τ).loc Cert.RmsBwdRefIdeal.main_v36) = v1 c
          ∧ r.2.mem ((c.tc : Thread Cert.RmsBwdRefIdeal.nD Cert.RmsBwdRefIdeal.τ).loc Cert.RmsBwdRefIdeal.main_v18) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_AdamInE_AdamInEIdeal : Prop :=
  True

def algebraic_AdamInEIdeal_AdamInERefIdeal [hAdamInEIdeal : Cert.AdamInEIdeal.Facts] [hAdamInERefIdeal : Cert.AdamInERefIdeal.Facts] : Prop :=
  ∀ (m : (ℓ : Loc Cert.AdamInEIdeal.nD Cert.AdamInEIdeal.τ Cert.AdamInEIdeal.sig) → Buf (Elt Ideal) ℓ) (g : Dev Cert.AdamInEIdeal.nD → PrngReg)
    (m' : (ℓ : Loc Cert.AdamInERefIdeal.nD Cert.AdamInERefIdeal.τ Cert.AdamInERefIdeal.sig) → Buf (Elt Ideal) ℓ) (g' : Dev Cert.AdamInERefIdeal.nD → PrngReg), Pre_AdamInEIdeal m →
    (∀ c : Dev Cert.AdamInEIdeal.nD,
      m' ((c.tc : Thread Cert.AdamInERefIdeal.nD Cert.AdamInERefIdeal.τ).loc Cert.AdamInERefIdeal.main_arg0) = m ((c.tc : Thread Cert.AdamInEIdeal.nD Cert.AdamInEIdeal.τ).loc Cert.AdamInEIdeal.main_arg0)
      ∧ m' ((c.tc : Thread Cert.AdamInERefIdeal.nD Cert.AdamInERefIdeal.τ).loc Cert.AdamInERefIdeal.main_arg1) = m ((c.tc : Thread Cert.AdamInEIdeal.nD Cert.AdamInEIdeal.τ).loc Cert.AdamInEIdeal.main_arg1)
      ∧ m' ((c.tc : Thread Cert.AdamInERefIdeal.nD Cert.AdamInERefIdeal.τ).loc Cert.AdamInERefIdeal.main_arg2) = m ((c.tc : Thread Cert.AdamInEIdeal.nD Cert.AdamInEIdeal.τ).loc Cert.AdamInEIdeal.main_arg2)
      ∧ m' ((c.tc : Thread Cert.AdamInERefIdeal.nD Cert.AdamInERefIdeal.τ).loc Cert.AdamInERefIdeal.main_arg3) = m ((c.tc : Thread Cert.AdamInEIdeal.nD Cert.AdamInEIdeal.τ).loc Cert.AdamInEIdeal.main_arg3)) →
    ∃ (v0 : (c : Dev Cert.AdamInEIdeal.nD) → Buf (Elt Ideal) ((c.tc : Thread Cert.AdamInEIdeal.nD Cert.AdamInEIdeal.τ).loc Cert.AdamInEIdeal.main_v0_0)) (v1 : (c : Dev Cert.AdamInEIdeal.nD) → Buf (Elt Ideal) ((c.tc : Thread Cert.AdamInEIdeal.nD Cert.AdamInEIdeal.τ).loc Cert.AdamInEIdeal.main_v0_1)) (v2 : (c : Dev Cert.AdamInEIdeal.nD) → Buf (Elt Ideal) ((c.tc : Thread Cert.AdamInEIdeal.nD Cert.AdamInEIdeal.τ).loc Cert.AdamInEIdeal.main_v0_2)) (v3 : (c : Dev Cert.AdamInEIdeal.nD) → Buf (Elt Ideal) ((c.tc : Thread Cert.AdamInEIdeal.nD Cert.AdamInEIdeal.τ).loc Cert.AdamInEIdeal.main_v0_3)),
      θ_run (Cert.AdamInEIdeal.defs (F := Ideal)) (onTc (τ := Cert.AdamInEIdeal.τ) (Cert.AdamInEIdeal.main (F := Ideal))) ⟨m, fun _ => 0, g⟩ (fun r => ∀ c : Dev Cert.AdamInEIdeal.nD,
          r.2.mem ((c.tc : Thread Cert.AdamInEIdeal.nD Cert.AdamInEIdeal.τ).loc Cert.AdamInEIdeal.main_v0_0) = v0 c
          ∧ r.2.mem ((c.tc : Thread Cert.AdamInEIdeal.nD Cert.AdamInEIdeal.τ).loc Cert.AdamInEIdeal.main_v0_1) = v1 c
          ∧ r.2.mem ((c.tc : Thread Cert.AdamInEIdeal.nD Cert.AdamInEIdeal.τ).loc Cert.AdamInEIdeal.main_v0_2) = v2 c
          ∧ r.2.mem ((c.tc : Thread Cert.AdamInEIdeal.nD Cert.AdamInEIdeal.τ).loc Cert.AdamInEIdeal.main_v0_3) = v3 c
          ∧ r.2.mem ((c.tc : Thread Cert.AdamInEIdeal.nD Cert.AdamInEIdeal.τ).loc Cert.AdamInEIdeal.main_arg0) = m ((c.tc : Thread Cert.AdamInEIdeal.nD Cert.AdamInEIdeal.τ).loc Cert.AdamInEIdeal.main_arg0)
          ∧ r.2.mem ((c.tc : Thread Cert.AdamInEIdeal.nD Cert.AdamInEIdeal.τ).loc Cert.AdamInEIdeal.main_arg1) = m ((c.tc : Thread Cert.AdamInEIdeal.nD Cert.AdamInEIdeal.τ).loc Cert.AdamInEIdeal.main_arg1)
          ∧ r.2.mem ((c.tc : Thread Cert.AdamInEIdeal.nD Cert.AdamInEIdeal.τ).loc Cert.AdamInEIdeal.main_arg2) = m ((c.tc : Thread Cert.AdamInEIdeal.nD Cert.AdamInEIdeal.τ).loc Cert.AdamInEIdeal.main_arg2)
          ∧ r.2.mem ((c.tc : Thread Cert.AdamInEIdeal.nD Cert.AdamInEIdeal.τ).loc Cert.AdamInEIdeal.main_arg3) = m ((c.tc : Thread Cert.AdamInEIdeal.nD Cert.AdamInEIdeal.τ).loc Cert.AdamInEIdeal.main_arg3))
      ∧ θ_run (Cert.AdamInERefIdeal.defs (F := Ideal)) (onTc (τ := Cert.AdamInERefIdeal.τ) (Cert.AdamInERefIdeal.main (F := Ideal))) ⟨m', fun _ => 0, g'⟩ (fun r => ∀ c : Dev Cert.AdamInERefIdeal.nD,
          r.2.mem ((c.tc : Thread Cert.AdamInERefIdeal.nD Cert.AdamInERefIdeal.τ).loc Cert.AdamInERefIdeal.main_v2) = v0 c
          ∧ r.2.mem ((c.tc : Thread Cert.AdamInERefIdeal.nD Cert.AdamInERefIdeal.τ).loc Cert.AdamInERefIdeal.main_v26) = v1 c
          ∧ r.2.mem ((c.tc : Thread Cert.AdamInERefIdeal.nD Cert.AdamInERefIdeal.τ).loc Cert.AdamInERefIdeal.main_v7) = v2 c
          ∧ r.2.mem ((c.tc : Thread Cert.AdamInERefIdeal.nD Cert.AdamInERefIdeal.τ).loc Cert.AdamInERefIdeal.main_v13) = v3 c
          ∧ r.2.mem ((c.tc : Thread Cert.AdamInERefIdeal.nD Cert.AdamInERefIdeal.τ).loc Cert.AdamInERefIdeal.main_arg0) = m' ((c.tc : Thread Cert.AdamInERefIdeal.nD Cert.AdamInERefIdeal.τ).loc Cert.AdamInERefIdeal.main_arg0)
          ∧ r.2.mem ((c.tc : Thread Cert.AdamInERefIdeal.nD Cert.AdamInERefIdeal.τ).loc Cert.AdamInERefIdeal.main_arg1) = m' ((c.tc : Thread Cert.AdamInERefIdeal.nD Cert.AdamInERefIdeal.τ).loc Cert.AdamInERefIdeal.main_arg1)
          ∧ r.2.mem ((c.tc : Thread Cert.AdamInERefIdeal.nD Cert.AdamInERefIdeal.τ).loc Cert.AdamInERefIdeal.main_arg2) = m' ((c.tc : Thread Cert.AdamInERefIdeal.nD Cert.AdamInERefIdeal.τ).loc Cert.AdamInERefIdeal.main_arg2)
          ∧ r.2.mem ((c.tc : Thread Cert.AdamInERefIdeal.nD Cert.AdamInERefIdeal.τ).loc Cert.AdamInERefIdeal.main_arg3) = m' ((c.tc : Thread Cert.AdamInERefIdeal.nD Cert.AdamInERefIdeal.τ).loc Cert.AdamInERefIdeal.main_arg3))

def preserves_AdamInO_AdamInOIdeal : Prop :=
  True

def algebraic_AdamInOIdeal_AdamInORefIdeal [hAdamInOIdeal : Cert.AdamInOIdeal.Facts] [hAdamInORefIdeal : Cert.AdamInORefIdeal.Facts] : Prop :=
  ∀ (m : (ℓ : Loc Cert.AdamInOIdeal.nD Cert.AdamInOIdeal.τ Cert.AdamInOIdeal.sig) → Buf (Elt Ideal) ℓ) (g : Dev Cert.AdamInOIdeal.nD → PrngReg)
    (m' : (ℓ : Loc Cert.AdamInORefIdeal.nD Cert.AdamInORefIdeal.τ Cert.AdamInORefIdeal.sig) → Buf (Elt Ideal) ℓ) (g' : Dev Cert.AdamInORefIdeal.nD → PrngReg), Pre_AdamInOIdeal m →
    (∀ c : Dev Cert.AdamInOIdeal.nD,
      m' ((c.tc : Thread Cert.AdamInORefIdeal.nD Cert.AdamInORefIdeal.τ).loc Cert.AdamInORefIdeal.main_arg0) = m ((c.tc : Thread Cert.AdamInOIdeal.nD Cert.AdamInOIdeal.τ).loc Cert.AdamInOIdeal.main_arg0)
      ∧ m' ((c.tc : Thread Cert.AdamInORefIdeal.nD Cert.AdamInORefIdeal.τ).loc Cert.AdamInORefIdeal.main_arg1) = m ((c.tc : Thread Cert.AdamInOIdeal.nD Cert.AdamInOIdeal.τ).loc Cert.AdamInOIdeal.main_arg1)
      ∧ m' ((c.tc : Thread Cert.AdamInORefIdeal.nD Cert.AdamInORefIdeal.τ).loc Cert.AdamInORefIdeal.main_arg2) = m ((c.tc : Thread Cert.AdamInOIdeal.nD Cert.AdamInOIdeal.τ).loc Cert.AdamInOIdeal.main_arg2)
      ∧ m' ((c.tc : Thread Cert.AdamInORefIdeal.nD Cert.AdamInORefIdeal.τ).loc Cert.AdamInORefIdeal.main_arg3) = m ((c.tc : Thread Cert.AdamInOIdeal.nD Cert.AdamInOIdeal.τ).loc Cert.AdamInOIdeal.main_arg3)) →
    ∃ (v0 : (c : Dev Cert.AdamInOIdeal.nD) → Buf (Elt Ideal) ((c.tc : Thread Cert.AdamInOIdeal.nD Cert.AdamInOIdeal.τ).loc Cert.AdamInOIdeal.main_v0_0)) (v1 : (c : Dev Cert.AdamInOIdeal.nD) → Buf (Elt Ideal) ((c.tc : Thread Cert.AdamInOIdeal.nD Cert.AdamInOIdeal.τ).loc Cert.AdamInOIdeal.main_v0_1)) (v2 : (c : Dev Cert.AdamInOIdeal.nD) → Buf (Elt Ideal) ((c.tc : Thread Cert.AdamInOIdeal.nD Cert.AdamInOIdeal.τ).loc Cert.AdamInOIdeal.main_v0_2)) (v3 : (c : Dev Cert.AdamInOIdeal.nD) → Buf (Elt Ideal) ((c.tc : Thread Cert.AdamInOIdeal.nD Cert.AdamInOIdeal.τ).loc Cert.AdamInOIdeal.main_v0_3)),
      θ_run (Cert.AdamInOIdeal.defs (F := Ideal)) (onTc (τ := Cert.AdamInOIdeal.τ) (Cert.AdamInOIdeal.main (F := Ideal))) ⟨m, fun _ => 0, g⟩ (fun r => ∀ c : Dev Cert.AdamInOIdeal.nD,
          r.2.mem ((c.tc : Thread Cert.AdamInOIdeal.nD Cert.AdamInOIdeal.τ).loc Cert.AdamInOIdeal.main_v0_0) = v0 c
          ∧ r.2.mem ((c.tc : Thread Cert.AdamInOIdeal.nD Cert.AdamInOIdeal.τ).loc Cert.AdamInOIdeal.main_v0_1) = v1 c
          ∧ r.2.mem ((c.tc : Thread Cert.AdamInOIdeal.nD Cert.AdamInOIdeal.τ).loc Cert.AdamInOIdeal.main_v0_2) = v2 c
          ∧ r.2.mem ((c.tc : Thread Cert.AdamInOIdeal.nD Cert.AdamInOIdeal.τ).loc Cert.AdamInOIdeal.main_v0_3) = v3 c
          ∧ r.2.mem ((c.tc : Thread Cert.AdamInOIdeal.nD Cert.AdamInOIdeal.τ).loc Cert.AdamInOIdeal.main_arg0) = m ((c.tc : Thread Cert.AdamInOIdeal.nD Cert.AdamInOIdeal.τ).loc Cert.AdamInOIdeal.main_arg0)
          ∧ r.2.mem ((c.tc : Thread Cert.AdamInOIdeal.nD Cert.AdamInOIdeal.τ).loc Cert.AdamInOIdeal.main_arg1) = m ((c.tc : Thread Cert.AdamInOIdeal.nD Cert.AdamInOIdeal.τ).loc Cert.AdamInOIdeal.main_arg1)
          ∧ r.2.mem ((c.tc : Thread Cert.AdamInOIdeal.nD Cert.AdamInOIdeal.τ).loc Cert.AdamInOIdeal.main_arg2) = m ((c.tc : Thread Cert.AdamInOIdeal.nD Cert.AdamInOIdeal.τ).loc Cert.AdamInOIdeal.main_arg2)
          ∧ r.2.mem ((c.tc : Thread Cert.AdamInOIdeal.nD Cert.AdamInOIdeal.τ).loc Cert.AdamInOIdeal.main_arg3) = m ((c.tc : Thread Cert.AdamInOIdeal.nD Cert.AdamInOIdeal.τ).loc Cert.AdamInOIdeal.main_arg3))
      ∧ θ_run (Cert.AdamInORefIdeal.defs (F := Ideal)) (onTc (τ := Cert.AdamInORefIdeal.τ) (Cert.AdamInORefIdeal.main (F := Ideal))) ⟨m', fun _ => 0, g'⟩ (fun r => ∀ c : Dev Cert.AdamInORefIdeal.nD,
          r.2.mem ((c.tc : Thread Cert.AdamInORefIdeal.nD Cert.AdamInORefIdeal.τ).loc Cert.AdamInORefIdeal.main_v2) = v0 c
          ∧ r.2.mem ((c.tc : Thread Cert.AdamInORefIdeal.nD Cert.AdamInORefIdeal.τ).loc Cert.AdamInORefIdeal.main_v26) = v1 c
          ∧ r.2.mem ((c.tc : Thread Cert.AdamInORefIdeal.nD Cert.AdamInORefIdeal.τ).loc Cert.AdamInORefIdeal.main_v7) = v2 c
          ∧ r.2.mem ((c.tc : Thread Cert.AdamInORefIdeal.nD Cert.AdamInORefIdeal.τ).loc Cert.AdamInORefIdeal.main_v13) = v3 c
          ∧ r.2.mem ((c.tc : Thread Cert.AdamInORefIdeal.nD Cert.AdamInORefIdeal.τ).loc Cert.AdamInORefIdeal.main_arg0) = m' ((c.tc : Thread Cert.AdamInORefIdeal.nD Cert.AdamInORefIdeal.τ).loc Cert.AdamInORefIdeal.main_arg0)
          ∧ r.2.mem ((c.tc : Thread Cert.AdamInORefIdeal.nD Cert.AdamInORefIdeal.τ).loc Cert.AdamInORefIdeal.main_arg1) = m' ((c.tc : Thread Cert.AdamInORefIdeal.nD Cert.AdamInORefIdeal.τ).loc Cert.AdamInORefIdeal.main_arg1)
          ∧ r.2.mem ((c.tc : Thread Cert.AdamInORefIdeal.nD Cert.AdamInORefIdeal.τ).loc Cert.AdamInORefIdeal.main_arg2) = m' ((c.tc : Thread Cert.AdamInORefIdeal.nD Cert.AdamInORefIdeal.τ).loc Cert.AdamInORefIdeal.main_arg2)
          ∧ r.2.mem ((c.tc : Thread Cert.AdamInORefIdeal.nD Cert.AdamInORefIdeal.τ).loc Cert.AdamInORefIdeal.main_arg3) = m' ((c.tc : Thread Cert.AdamInORefIdeal.nD Cert.AdamInORefIdeal.τ).loc Cert.AdamInORefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v2) = v0 c
          ∧ r.2.mem ((c.tc : Thread Cert.AdamOutRefIdeal.nD Cert.AdamOutRefIdeal.τ).loc Cert.AdamOutRefIdeal.main_v26) = v1 c
          ∧ r.2.mem ((c.tc : Thread Cert.AdamOutRefIdeal.nD Cert.AdamOutRefIdeal.τ).loc Cert.AdamOutRefIdeal.main_v7) = v2 c
          ∧ r.2.mem ((c.tc : Thread Cert.AdamOutRefIdeal.nD Cert.AdamOutRefIdeal.τ).loc Cert.AdamOutRefIdeal.main_v13) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hEvenBwd : Cert.EvenBwd.Facts) (hEvenBwdIdeal : Cert.EvenBwdIdeal.Facts) (hEvenBwdRefIdeal : Cert.EvenBwdRefIdeal.Facts) (hDwFfn : Cert.DwFfn.Facts) (hDwFfnIdeal : Cert.DwFfnIdeal.Facts) (hDwFfnRefIdeal : Cert.DwFfnRefIdeal.Facts) (hDxFfn : Cert.DxFfn.Facts) (hDxFfnIdeal : Cert.DxFfnIdeal.Facts) (hDxFfnRefIdeal : Cert.DxFfnRefIdeal.Facts) (hDwOut : Cert.DwOut.Facts) (hDwOutIdeal : Cert.DwOutIdeal.Facts) (hDwOutRefIdeal : Cert.DwOutRefIdeal.Facts) (hDxOut : Cert.DxOut.Facts) (hDxOutIdeal : Cert.DxOutIdeal.Facts) (hDxOutRefIdeal : Cert.DxOutRefIdeal.Facts) (hDwInO : Cert.DwInO.Facts) (hDwInOIdeal : Cert.DwInOIdeal.Facts) (hDwInORefIdeal : Cert.DwInORefIdeal.Facts) (hDxInO : Cert.DxInO.Facts) (hDxInOIdeal : Cert.DxInOIdeal.Facts) (hDxInORefIdeal : Cert.DxInORefIdeal.Facts) (hDwInE : Cert.DwInE.Facts) (hDwInEIdeal : Cert.DwInEIdeal.Facts) (hDwInERefIdeal : Cert.DwInERefIdeal.Facts) (hDxInE : Cert.DxInE.Facts) (hDxInEIdeal : Cert.DxInEIdeal.Facts) (hDxInERefIdeal : Cert.DxInERefIdeal.Facts) (hDown : Cert.Down.Facts) (hDownIdeal : Cert.DownIdeal.Facts) (hDownRefIdeal : Cert.DownRefIdeal.Facts) (hInO : Cert.InO.Facts) (hInOIdeal : Cert.InOIdeal.Facts) (hInORefIdeal : Cert.InORefIdeal.Facts) (hInE : Cert.InE.Facts) (hInEIdeal : Cert.InEIdeal.Facts) (hInERefIdeal : Cert.InERefIdeal.Facts) (hOutMix : Cert.OutMix.Facts) (hOutMixIdeal : Cert.OutMixIdeal.Facts) (hOutMixRefIdeal : Cert.OutMixRefIdeal.Facts) (hFfn : Cert.Ffn.Facts) (hFfnIdeal : Cert.FfnIdeal.Facts) (hFfnRefIdeal : Cert.FfnRefIdeal.Facts) (hGradX : Cert.GradX.Facts) (hGradXIdeal : Cert.GradXIdeal.Facts) (hGradXRefIdeal : Cert.GradXRefIdeal.Facts) (hRmsBwd : Cert.RmsBwd.Facts) (hRmsBwdIdeal : Cert.RmsBwdIdeal.Facts) (hRmsBwdRefIdeal : Cert.RmsBwdRefIdeal.Facts) (hRmsFwd : Cert.RmsFwd.Facts) (hRmsFwdIdeal : Cert.RmsFwdIdeal.Facts) (hRmsFwdRefIdeal : Cert.RmsFwdRefIdeal.Facts) (hAdamInE : Cert.AdamInE.Facts) (hAdamInEIdeal : Cert.AdamInEIdeal.Facts) (hAdamInERefIdeal : Cert.AdamInERefIdeal.Facts) (hAdamInO : Cert.AdamInO.Facts) (hAdamInOIdeal : Cert.AdamInOIdeal.Facts) (hAdamInORefIdeal : Cert.AdamInORefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts) (hPre_even_finite : Cert.Pre_even_finite.Facts) (hPre_swiglu_finite : Cert.Pre_swiglu_finite.Facts),
    quiescent_EvenBwd (hEvenBwd := hEvenBwd)
    ∧ quiescent_EvenBwdIdeal (hEvenBwdIdeal := hEvenBwdIdeal)
    ∧ quiescent_EvenBwdIdeal_pre_even_finite (hEvenBwdIdeal := hEvenBwdIdeal) (hPre_even_finite := hPre_even_finite)
    ∧ quiescent_EvenBwdRefIdeal (hEvenBwdRefIdeal := hEvenBwdRefIdeal)
    ∧ quiescent_EvenBwdRefIdeal_pre_even_finite (hEvenBwdRefIdeal := hEvenBwdRefIdeal) (hPre_even_finite := hPre_even_finite)
    ∧ quiescent_DwFfn (hDwFfn := hDwFfn)
    ∧ quiescent_DwFfnIdeal (hDwFfnIdeal := hDwFfnIdeal)
    ∧ quiescent_DwFfnRefIdeal (hDwFfnRefIdeal := hDwFfnRefIdeal)
    ∧ quiescent_DxFfn (hDxFfn := hDxFfn)
    ∧ quiescent_DxFfnIdeal (hDxFfnIdeal := hDxFfnIdeal)
    ∧ quiescent_DxFfnRefIdeal (hDxFfnRefIdeal := hDxFfnRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DxOut (hDxOut := hDxOut)
    ∧ quiescent_DxOutIdeal (hDxOutIdeal := hDxOutIdeal)
    ∧ quiescent_DxOutRefIdeal (hDxOutRefIdeal := hDxOutRefIdeal)
    ∧ quiescent_DwInO (hDwInO := hDwInO)
    ∧ quiescent_DwInOIdeal (hDwInOIdeal := hDwInOIdeal)
    ∧ quiescent_DwInORefIdeal (hDwInORefIdeal := hDwInORefIdeal)
    ∧ quiescent_DxInO (hDxInO := hDxInO)
    ∧ quiescent_DxInOIdeal (hDxInOIdeal := hDxInOIdeal)
    ∧ quiescent_DxInORefIdeal (hDxInORefIdeal := hDxInORefIdeal)
    ∧ quiescent_DwInE (hDwInE := hDwInE)
    ∧ quiescent_DwInEIdeal (hDwInEIdeal := hDwInEIdeal)
    ∧ quiescent_DwInERefIdeal (hDwInERefIdeal := hDwInERefIdeal)
    ∧ quiescent_DxInE (hDxInE := hDxInE)
    ∧ quiescent_DxInEIdeal (hDxInEIdeal := hDxInEIdeal)
    ∧ quiescent_DxInERefIdeal (hDxInERefIdeal := hDxInERefIdeal)
    ∧ quiescent_Down (hDown := hDown)
    ∧ quiescent_DownIdeal (hDownIdeal := hDownIdeal)
    ∧ quiescent_DownRefIdeal (hDownRefIdeal := hDownRefIdeal)
    ∧ quiescent_InO (hInO := hInO)
    ∧ quiescent_InOIdeal (hInOIdeal := hInOIdeal)
    ∧ quiescent_InORefIdeal (hInORefIdeal := hInORefIdeal)
    ∧ quiescent_InE (hInE := hInE)
    ∧ quiescent_InEIdeal (hInEIdeal := hInEIdeal)
    ∧ quiescent_InERefIdeal (hInERefIdeal := hInERefIdeal)
    ∧ quiescent_OutMix (hOutMix := hOutMix)
    ∧ quiescent_OutMixIdeal (hOutMixIdeal := hOutMixIdeal)
    ∧ quiescent_OutMixRefIdeal (hOutMixRefIdeal := hOutMixRefIdeal)
    ∧ quiescent_Ffn (hFfn := hFfn)
    ∧ quiescent_FfnIdeal (hFfnIdeal := hFfnIdeal)
    ∧ quiescent_FfnIdeal_pre_swiglu_finite (hFfnIdeal := hFfnIdeal) (hPre_swiglu_finite := hPre_swiglu_finite)
    ∧ quiescent_FfnRefIdeal (hFfnRefIdeal := hFfnRefIdeal)
    ∧ quiescent_FfnRefIdeal_pre_swiglu_finite (hFfnRefIdeal := hFfnRefIdeal) (hPre_swiglu_finite := hPre_swiglu_finite)
    ∧ quiescent_GradX (hGradX := hGradX)
    ∧ quiescent_GradXIdeal (hGradXIdeal := hGradXIdeal)
    ∧ quiescent_GradXRefIdeal (hGradXRefIdeal := hGradXRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_AdamInE (hAdamInE := hAdamInE)
    ∧ quiescent_AdamInEIdeal (hAdamInEIdeal := hAdamInEIdeal)
    ∧ quiescent_AdamInERefIdeal (hAdamInERefIdeal := hAdamInERefIdeal)
    ∧ quiescent_AdamInO (hAdamInO := hAdamInO)
    ∧ quiescent_AdamInOIdeal (hAdamInOIdeal := hAdamInOIdeal)
    ∧ quiescent_AdamInORefIdeal (hAdamInORefIdeal := hAdamInORefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_EvenBwd_EvenBwdIdeal
    ∧ algebraic_EvenBwdIdeal_EvenBwdRefIdeal_pre_even_finite (hEvenBwdIdeal := hEvenBwdIdeal) (hEvenBwdRefIdeal := hEvenBwdRefIdeal) (hPre_even_finite := hPre_even_finite)
    ∧ preserves_DwFfn_DwFfnIdeal
    ∧ algebraic_DwFfnIdeal_DwFfnRefIdeal (hDwFfnIdeal := hDwFfnIdeal) (hDwFfnRefIdeal := hDwFfnRefIdeal)
    ∧ preserves_DxFfn_DxFfnIdeal
    ∧ algebraic_DxFfnIdeal_DxFfnRefIdeal (hDxFfnIdeal := hDxFfnIdeal) (hDxFfnRefIdeal := hDxFfnRefIdeal)
    ∧ preserves_DwOut_DwOutIdeal
    ∧ algebraic_DwOutIdeal_DwOutRefIdeal (hDwOutIdeal := hDwOutIdeal) (hDwOutRefIdeal := hDwOutRefIdeal)
    ∧ preserves_DxOut_DxOutIdeal
    ∧ algebraic_DxOutIdeal_DxOutRefIdeal (hDxOutIdeal := hDxOutIdeal) (hDxOutRefIdeal := hDxOutRefIdeal)
    ∧ preserves_DwInO_DwInOIdeal
    ∧ algebraic_DwInOIdeal_DwInORefIdeal (hDwInOIdeal := hDwInOIdeal) (hDwInORefIdeal := hDwInORefIdeal)
    ∧ preserves_DxInO_DxInOIdeal
    ∧ algebraic_DxInOIdeal_DxInORefIdeal (hDxInOIdeal := hDxInOIdeal) (hDxInORefIdeal := hDxInORefIdeal)
    ∧ preserves_DwInE_DwInEIdeal
    ∧ algebraic_DwInEIdeal_DwInERefIdeal (hDwInEIdeal := hDwInEIdeal) (hDwInERefIdeal := hDwInERefIdeal)
    ∧ preserves_DxInE_DxInEIdeal
    ∧ algebraic_DxInEIdeal_DxInERefIdeal (hDxInEIdeal := hDxInEIdeal) (hDxInERefIdeal := hDxInERefIdeal)
    ∧ preserves_Down_DownIdeal
    ∧ algebraic_DownIdeal_DownRefIdeal (hDownIdeal := hDownIdeal) (hDownRefIdeal := hDownRefIdeal)
    ∧ preserves_InO_InOIdeal
    ∧ algebraic_InOIdeal_InORefIdeal (hInOIdeal := hInOIdeal) (hInORefIdeal := hInORefIdeal)
    ∧ preserves_InE_InEIdeal
    ∧ algebraic_InEIdeal_InERefIdeal (hInEIdeal := hInEIdeal) (hInERefIdeal := hInERefIdeal)
    ∧ preserves_OutMix_OutMixIdeal
    ∧ algebraic_OutMixIdeal_OutMixRefIdeal (hOutMixIdeal := hOutMixIdeal) (hOutMixRefIdeal := hOutMixRefIdeal)
    ∧ preserves_Ffn_FfnIdeal
    ∧ algebraic_FfnIdeal_FfnRefIdeal_pre_swiglu_finite (hFfnIdeal := hFfnIdeal) (hFfnRefIdeal := hFfnRefIdeal) (hPre_swiglu_finite := hPre_swiglu_finite)
    ∧ preserves_GradX_GradXIdeal
    ∧ algebraic_GradXIdeal_GradXRefIdeal (hGradXIdeal := hGradXIdeal) (hGradXRefIdeal := hGradXRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_AdamInE_AdamInEIdeal
    ∧ algebraic_AdamInEIdeal_AdamInERefIdeal (hAdamInEIdeal := hAdamInEIdeal) (hAdamInERefIdeal := hAdamInERefIdeal)
    ∧ preserves_AdamInO_AdamInOIdeal
    ∧ algebraic_AdamInOIdeal_AdamInORefIdeal (hAdamInOIdeal := hAdamInOIdeal) (hAdamInORefIdeal := hAdamInORefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_even_finite.lean ====
abbrev S4096x2048 : Shape := ⟨2, ![4096, 2048]⟩
abbrev S4096x1024 : Shape := ⟨2, ![4096, 1024]⟩
abbrev S1x1024 : Shape := ⟨2, ![1, 1024]⟩
abbrev S4x256x256 : Shape := ⟨3, ![4, 256, 256]⟩
abbrev S_ : Shape := ⟨0, ![]⟩

class Facts : Prop where
  bcast_S_S4096x2048 : S_.BroadcastsInDim S4096x2048 (![] : Fin 0 → Fin S4096x2048.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2048 .bf16) (main_arg1 : FVec F S4096x1024 .bf16) (main_arg2 : FVec F S4096x1024 .bf16) (main_arg3 : FVec F S4096x1024 .bf16) (main_arg4 : FVec F S1x1024 .f32) (main_arg5 : FVec F S1x1024 .f32) (main_arg6 : FVec F S4x256x256 .f32) (main_arg7 : FVec F S1x1024 .f32) : IVec S4096x2048 1 × IVec S4096x1024 1 × IVec S1x1024 1 × IVec S1x1024 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_v3 : FVec F S4096x1024 .bf16 := Host.absf main_arg1
  let main_cst_0 : FVec F S_ .bf16 := constant S_ .bf16 0x7F80#16
  let main_v4 : FVec F S4096x1024 .bf16 := broadcastInDim S4096x1024 ![] bcast_S_S4096x1024 main_cst_0
  let main_v5 : IVec S4096x1024 1 := cmpf .olt main_v3 main_v4
  let main_v6 : FVec F S1x1024 .f32 := Host.absf main_arg4
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg5
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_swiglu_finite.lean ====
abbrev S4096x2048 : Shape := ⟨2, ![4096, 2048]⟩
abbrev S5632x2048 : Shape := ⟨2, ![5632, 2048]⟩
abbrev S_ : Shape := ⟨0, ![]⟩

class Facts : Prop where
  bcast_S_S4096x2048 : S_.BroadcastsInDim S4096x2048 (![] : Fin 0 → Fin S4096x2048.rank)
  bcast_S_S5632x2048 : S_.BroadcastsInDim S5632x2048 (![] : Fin 0 → Fin S5632x2048.rank)

variable [Facts]

def fn {F : FTy → Type} [FloatOps F] (main_arg0 : FVec F S4096x2048 .bf16) (main_arg1 : FVec F S5632x2048 .bf16) (main_arg2 : FVec F S5632x2048 .bf16) (main_arg3 : FVec F S4096x2048 .bf16) (main_arg4 : FVec F S5632x2048 .bf16) : IVec S4096x2048 1 × IVec S5632x2048 1 × IVec S4096x2048 1 × IVec S5632x2048 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_v3 : FVec F S5632x2048 .bf16 := Host.absf main_arg2
  let main_cst_0 : FVec F S_ .bf16 := constant S_ .bf16 0x7F80#16
  let main_v4 : FVec F S5632x2048 .bf16 := broadcastInDim S5632x2048 ![] bcast_S_S5632x2048 main_cst_0
  let main_v5 : IVec S5632x2048 1 := cmpf .olt main_v3 main_v4
  let main_v6 : FVec F S4096x2048 .bf16 := Host.absf main_arg3
  let main_cst_1 : FVec F S_ .bf16 := constant S_ .bf16 0x7F80#16
  let main_v7 : FVec F S4096x2048 .bf16 := broadcastInDim S4096x2048 ![] bcast_S_S4096x2048 main_cst_1
  let main_v8 : IVec S4096x2048 1 := cmpf .olt main_v6 main_v7
  let main_v9 : FVec F S5632x2048 .bf16 := Host.absf main_arg4
  let main_cst_2 : FVec F S_ .bf16 := constant S_ .bf16 0x7F80#16
  let main_v10 : FVec F S5632x2048 .bf16 := broadcastInDim S5632x2048 ![] bcast_S_S5632x2048 main_cst_2
  let main_v11 : IVec S5632x2048 1 := cmpf .olt main_v9 main_v10
  (main_v2, main_v5, main_v8, main_v11)
-- ==== EvenBwd.lean ====
abbrev S4096x2048 : Shape := ⟨2, ![4096, 2048]⟩
abbrev S4096x1024 : Shape := ⟨2, ![4096, 1024]⟩
abbrev S1x1024 : Shape := ⟨2, ![1, 1024]⟩
abbrev S4x256x256 : Shape := ⟨3, ![4, 256, 256]⟩
abbrev S2048 : Shape := ⟨1, ![2048]⟩
abbrev S_ : Shape := ⟨0, ![]⟩
abbrev S2048x1 : Shape := ⟨2, ![2048, 1]⟩
abbrev S2048x4 : Shape := ⟨2, ![2048, 4]⟩
abbrev S2x2048x4x256 : Shape := ⟨4, ![2, 2048, 4, 256]⟩
abbrev S1x2048x4x1 : Shape := ⟨4, ![1, 2048, 4, 1]⟩
abbrev S8x1024 : Shape := ⟨2, ![8, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S256x256 : Shape := ⟨2, ![256, 256]⟩
abbrev S1x256x256 : Shape := ⟨3, ![1, 256, 256]⟩
abbrev S1x256 : Shape := ⟨2, ![1, 256]⟩

abbrev nBuf : Space → Nat
  | .hbm => 60
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S1x1024, .f32⟩
  | .hbm, ⟨5, _⟩ => ⟨S1x1024, .f32⟩
  | .hbm, ⟨6, _⟩ => ⟨S4x256x256, .f32⟩
  | .hbm, ⟨7, _⟩ => ⟨S1x1024, .f32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .f32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .f32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .f32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S2048, .f32⟩
  | .hbm, ⟨40, _⟩ => ⟨S2048x1, .f32⟩
  | .hbm, ⟨41, _⟩ => ⟨S2048x1, .f32⟩
  | .hbm, ⟨42, _⟩ => ⟨S2048x1, .f32⟩
  | .hbm, ⟨43, _⟩ => ⟨S2048x1, .f32⟩
  | .hbm, ⟨44, _⟩ => ⟨S2048x4, .f32⟩
  | .hbm, ⟨45, _⟩ => ⟨S4096x1024, .f32⟩
  | .hbm, ⟨46, _⟩ => ⟨S2x2048x4x256, .f32⟩
  | .hbm, ⟨47, _⟩ => ⟨S1x2048x4x1, .f32⟩
  | .hbm, ⟨48, _⟩ => ⟨S2x2048x4x256, .f32⟩
  | .hbm, ⟨49, _⟩ => ⟨S2x2048x4x256, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S4x256x256, .bf16⟩
  | .hbm, ⟨55, _⟩ => ⟨S4096x1024, .bf16⟩
  | .hbm, ⟨56, _⟩ => ⟨S4096x1024, .bf16⟩
  | .hbm, ⟨57, _⟩ => ⟨S4096x1024, .bf16⟩
  | .hbm, ⟨58, _⟩ => ⟨S8x1024, .f32⟩
  | .hbm, ⟨59, _⟩ => ⟨S4x256x256, .f32⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S1x1024, .f32⟩
  | .local _ .vmem, ⟨8, _⟩ => ⟨S4x256x256, .bf16⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S8x1024, .f32⟩
  | .local _ .vmem, ⟨17, _⟩ => ⟨S4x256x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39_0 : Ref sig .tc := ⟨.hbm, 55, rfl⟩
abbrev main_v39_1 : Ref sig .tc := ⟨.hbm, 56, rfl⟩
abbrev main_v39_2 : Ref sig .tc := ⟨.hbm, 57, rfl⟩
abbrev main_v39_3 : Ref sig .tc := ⟨.hbm, 58, rfl⟩
abbrev main_v39_4 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== EvenBwdRefIdeal.lean ====
abbrev S4096x2048 : Shape := ⟨2, ![4096, 2048]⟩
abbrev S4096x1024 : Shape := ⟨2, ![4096, 1024]⟩
abbrev S1x1024 : Shape := ⟨2, ![1, 1024]⟩
abbrev S4x256x256 : Shape := ⟨3, ![4, 256, 256]⟩
abbrev S_ : Shape := ⟨0, ![]⟩
abbrev S4096 : Shape := ⟨1, ![4096]⟩
abbrev S4096x1 : Shape := ⟨2, ![4096, 1]⟩
abbrev S2048 : Shape := ⟨1, ![2048]⟩
abbrev S2048x1 : Shape := ⟨2, ![2048, 1]⟩
abbrev S2048x4 : Shape := ⟨2, ![2048, 4]⟩
abbrev S2x2048x4x256 : Shape := ⟨4, ![2, 2048, 4, 256]⟩
abbrev S1x2048x4x1 : Shape := ⟨4, ![1, 2048, 4, 1]⟩
abbrev S4x256x2x2048 : Shape := ⟨4, ![4, 256, 2, 2048]⟩
abbrev S1024 : Shape := ⟨1, ![1024]⟩
abbrev S4x2x2048x256 : Shape := ⟨4, ![4, 2, 2048, 256]⟩
abbrev S4x1024 : Shape := ⟨2, ![4, 1024]⟩
abbrev S8x1024 : Shape := ⟨2, ![8, 1024]⟩

abbrev nBuf : Space → Nat
  | .hbm => 177
  | .vmem => 0
  | .smem => 0
  | _ => 0

abbrev hbmTy0_0 (i : Nat) : BufTy := match i % 128 with
  | 0 => ⟨S4096x2048, .bf16⟩
  | 1 => ⟨S4096x1024, .bf16⟩
  | 2 => ⟨S4096x1024, .bf16⟩
  | 3 => ⟨S4096x1024, .bf16⟩
  | 4 => ⟨S1x1024, .f32⟩
  | 5 => ⟨S1x1024, .f32⟩
  | 6 => ⟨S4x256x256, .f32⟩
  | 7 => ⟨S1x1024, .f32⟩
  | 8 => ⟨S4096x1024, .f32⟩
  | 9 => ⟨S_, .f32⟩
  | 10 => ⟨S1x1024, .f32⟩
  | 11 => ⟨S4096x1024, .f32⟩
  | 12 => ⟨S4096x1024, .f32⟩
  | 13 => ⟨S4096x1024, .f32⟩
  | 14 => ⟨S4096x1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S_, .f32⟩
  | 31 => ⟨S4096x1, .f32⟩
  | 32 => ⟨S4096x1, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S4096x1024, .f32⟩
  | 56 => ⟨S4096x1024, .f32⟩
  | 57 => ⟨S2048, .i32⟩
  | 58 => ⟨S_, .i32⟩
  | 59 => ⟨S2048, .i32⟩
  | 60 => ⟨S2048, .i32⟩
  | 61 => ⟨S_, .i32⟩
  | 62 => ⟨S2048, .i32⟩
  | 63 => ⟨S2048, .i32⟩
  | 64 => ⟨S2048, .f32⟩
  | 65 => ⟨S2048, .i32⟩
  | 66 => ⟨S_, .i32⟩
  | 67 => ⟨S2048, .i32⟩
  | 68 => ⟨S2048, .i32⟩
  | 69 => ⟨S_, .i32⟩
  | 70 => ⟨S2048, .i32⟩
  | 71 => ⟨S2048, .i32⟩
  | 72 => ⟨S2048, .f32⟩
  | 73 => ⟨S2048, .i32⟩
  | 74 => ⟨S_, .i32⟩
  | 75 => ⟨S2048, .i32⟩
  | 76 => ⟨S2048, .i32⟩
  | 77 => ⟨S_, .i32⟩
  | 78 => ⟨S2048, .i32⟩
  | 79 => ⟨S2048, .i32⟩
  | 80 => ⟨S2048, .f32⟩
  | 81 => ⟨S2048, .i32⟩
  | 82 => ⟨S_, .i32⟩
  | 83 => ⟨S2048, .i32⟩
  | 84 => ⟨S2048, .i32⟩
  | 85 => ⟨S_, .i32⟩
  | 86 => ⟨S2048, .i32⟩
  | 87 => ⟨S2048, .i32⟩
  | 88 => ⟨S2048, .f32⟩
  | 89 => ⟨S2048x1, .f32⟩
  | 90 => ⟨S2048x1, .f32⟩
  | 91 => ⟨S2048x1, .f32⟩
  | 92 => ⟨S2048x1, .f32⟩
  | 93 => ⟨S2048x4, .f32⟩
  | 94 => ⟨S2x2048x4x256, .f32⟩
  | 95 => ⟨S1x2048x4x1, .f32⟩
  | 96 => ⟨S2x2048x4x256, .f32⟩
  | 97 => ⟨S2x2048x4x256, .f32⟩
  | 98 => ⟨S2x2048x4x256, .f32⟩
  | 99 => ⟨S2x2048x4x256, .f32⟩
  | 100 => ⟨S4x256x2x2048, .f32⟩
  | 101 => ⟨S2x2048x4x256, .f32⟩
  | 102 => ⟨S4096x1024, .f32⟩
  | 103 => ⟨S4096x1024, .f32⟩
  | 104 => ⟨S4096x1024, .f32⟩
  | 105 => ⟨S4096x2048, .f32⟩
  | 106 => ⟨S4096x2048, .f32⟩
  | 107 => ⟨S4096x1024, .f32⟩
  | 108 => ⟨S4096x1024, .f32⟩
  | 109 => ⟨S4096x1024, .f32⟩
  | 110 => ⟨S_, .f32⟩
  | 111 => ⟨S1024, .f32⟩
  | 112 => ⟨S1x1024, .f32⟩
  | 113 => ⟨S4096x1024, .f32⟩
  | 114 => ⟨S4096x1024, .f32⟩
  | 115 => ⟨S2x2048x4x256, .f32⟩
  | 116 => ⟨S4x256x2x2048, .f32⟩
  | 117 => ⟨S4x2x2048x256, .f32⟩
  | 118 => ⟨S2x2048x4x256, .f32⟩
  | 119 => ⟨S4x256x256, .f32⟩
  | 120 => ⟨S4x256x256, .f32⟩
  | 121 => ⟨S2x2048x4x256, .f32⟩
  | 122 => ⟨S4096x1024, .f32⟩
  | 123 => ⟨S2x2048x4x256, .f32⟩
  | 124 => ⟨S2x2048x4x256, .f32⟩
  | 125 => ⟨S4096x1024, .f32⟩
  | 126 => ⟨S4096x1024, .f32⟩
  | 127 => ⟨S4096x1024, .f32⟩
  | _ => ⟨S4096x2048, .bf16⟩

abbrev hbmTy0_1 (i : Nat) : BufTy := match i % 128 with
  | 0 => ⟨S4096x1024, .f32⟩
  | 1 => ⟨S4096x1024, .f32⟩
  | 2 => ⟨S_, .f32⟩
  | 3 => ⟨S1024, .f32⟩
  | 4 => ⟨S1x1024, .f32⟩
  | 5 => ⟨S4096x1024, .f32⟩
  | 6 => ⟨S_, .f32⟩
  | 7 => ⟨S1024, .f32⟩
  | 8 => ⟨S1x1024, .f32⟩
  | 9 => ⟨S4096x1024, .f32⟩
  | 10 => ⟨S4096x1024, .f32⟩
  | 11 => ⟨S4096x1024, .f32⟩
  | 12 => ⟨S_, .f32⟩
  | 13 => ⟨S4096, .f32⟩
  | 14 => ⟨S4096x1, .f32⟩
  | 15 => ⟨S4096x1024, .f32⟩
  | 16 => ⟨S4096x1024, .f32⟩
  | 17 => ⟨S4096x1, .f32⟩
  | 18 => ⟨S_, .f32⟩
  | 19 => ⟨S4096x1, .f32⟩
  | 20 => ⟨S4096x1, .f32⟩
  | 21 => ⟨S_, .f32⟩
  | 22 => ⟨S4096, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S_, .f32⟩
  | 36 => ⟨S4096, .f32⟩
  | 37 => ⟨S4096x1024, .f32⟩
  | 38 => ⟨S4096x1024, .f32⟩
  | 39 => ⟨S_, .f32⟩
  | 40 => ⟨S1024, .f32⟩
  | 41 => ⟨S1x1024, .f32⟩
  | 42 => ⟨S4096x1024, .bf16⟩
  | 43 => ⟨S4096x1024, .bf16⟩
  | 44 => ⟨S4096x1024, .f32⟩
  | 45 => ⟨S4096x1024, .bf16⟩
  | 46 => ⟨S_, .f32⟩
  | 47 => ⟨S4x1024, .f32⟩
  | 48 => ⟨S8x1024, .f32⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v29_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v29_1 : Ref sig .tc := ⟨.hbm, 55, rfl⟩
abbrev main_v29_0 : Ref sig .tc := ⟨.hbm, 56, rfl⟩
abbrev main_v30 : Ref sig .tc := ⟨.hbm, 57, rfl⟩
abbrev main_c : Ref sig .tc := ⟨.hbm, 58, rfl⟩
abbrev main_v31 : Ref sig .tc := ⟨.hbm, 59, rfl⟩
abbrev main_v32 : Ref sig .tc := ⟨.hbm, 60, rfl⟩
abbrev main_c_6 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_7 : Ref sig .tc := ⟨.hbm, 66, rfl⟩
abbrev main_v37 : Ref sig .tc := ⟨.hbm, 67, rfl⟩
abbrev main_v38 : Ref sig .tc := ⟨.hbm, 68, rfl⟩
abbrev main_c_8 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_9 : Ref sig .tc := ⟨.hbm, 74, rfl⟩
abbrev main_v43 : Ref sig .tc := ⟨.hbm, 75, rfl⟩
abbrev main_v44 : Ref sig .tc := ⟨.hbm, 76, rfl⟩
abbrev main_c_10 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_11 : Ref sig .tc := ⟨.hbm, 82, rfl⟩
abbrev main_v49 : Ref sig .tc := ⟨.hbm, 83, rfl⟩
abbrev main_v50 : Ref sig .tc := ⟨.hbm, 84, rfl⟩
abbrev main_c_12 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_13 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call1_v0 : Ref sig .tc := ⟨.hbm, 126, rfl⟩
abbrev main_call1_v1 : Ref sig .tc := ⟨.hbm, 127, rfl⟩
abbrev main_call1_v2 : Ref sig .tc := ⟨.hbm, 128, rfl⟩
abbrev main_v90 : Ref sig .tc := ⟨.hbm, 129, rfl⟩
abbrev main_cst_14 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_15 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_16 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_17 : Ref sig .tc := ⟨.hbm, 146, rfl⟩
abbrev main_v104 : Ref sig .tc := ⟨.hbm, 147, rfl⟩
abbrev main_v105 : Ref sig .tc := ⟨.hbm, 148, rfl⟩
abbrev main_cst_18 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_19 : Ref sig .tc := ⟨.hbm, 157, rfl⟩
abbrev main_v113 : Ref sig .tc := ⟨.hbm, 158, rfl⟩
abbrev main_v114 : Ref sig .tc := ⟨.hbm, 159, rfl⟩
abbrev main_cst_20 : Ref sig .tc := ⟨.hbm, 160, rfl⟩
abbrev main_v115 : Ref sig .tc := ⟨.hbm, 161, rfl⟩
abbrev main_v116 : Ref sig .tc := ⟨.hbm, 162, rfl⟩
abbrev main_cst_21 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_22 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_cst_23 : Ref sig .tc := ⟨.hbm, 174, rfl⟩
abbrev main_v126 : Ref sig .tc := ⟨.hbm, 175, rfl⟩
abbrev main_v127 : Ref sig .tc := ⟨.hbm, 176, rfl⟩

abbrev nD : Nat := 1
abbrev τ : Topo := Topo.v7x

variable {F : FTy → Type} [FloatOps F]
-- ==== DwFfn.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFfnRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .bf16⟩
  | .hbm, ⟨3, _⟩ => ⟨S5632x2048, .bf16⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S2048x5632, .f32⟩
  | .hbm, ⟨10, _⟩ => ⟨S5632x2048, .f32⟩
  | .hbm, ⟨11, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DxFfn.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 5
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S5632x2048, .bf16⟩
  | .hbm, ⟨3, _⟩ => ⟨S5632x2048, .bf16⟩
  | .hbm, ⟨4, _⟩ => ⟨S4096x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .bf16⟩
  | .local _ .vmem, ⟨7, _⟩ => ⟨S2816x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DxFfnRefIdeal.lean ====
abbrev S4096x5632 : Shape := ⟨2, ![4096, 5632]⟩
abbrev S5632x2048 : Shape := ⟨2, ![5632, 2048]⟩
abbrev S_ : Shape := ⟨0, ![]⟩
abbrev S4096x2048 : Shape := ⟨2, ![4096, 2048]⟩
abbrev S2048x5632 : Shape := ⟨2, ![2048, 5632]⟩

abbrev nBuf : Space → Nat
  | .hbm => 21
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S5632x2048, .bf16⟩
  | .hbm, ⟨3, _⟩ => ⟨S5632x2048, .bf16⟩
  | .hbm, ⟨4, _⟩ => ⟨S_, .bf16⟩
  | .hbm, ⟨5, _⟩ => ⟨S4096x2048, .bf16⟩
  | .hbm, ⟨6, _⟩ => ⟨S4096x2048, .f32⟩
  | .hbm, ⟨7, _⟩ => ⟨S5632x2048, .f32⟩
  | .hbm, ⟨8, _⟩ => ⟨S2048x5632, .f32⟩
  | .hbm, ⟨9, _⟩ => ⟨S4096x5632, .f32⟩
  | .hbm, ⟨10, _⟩ => ⟨S4096x5632, .bf16⟩
  | .hbm, ⟨11, _⟩ => ⟨S5632x2048, .f32⟩
  | .hbm, ⟨12, _⟩ => ⟨S2048x5632, .f32⟩
  | .hbm, ⟨13, _⟩ => ⟨S4096x5632, .f32⟩
  | .hbm, ⟨14, _⟩ => ⟨S4096x5632, .bf16⟩
  | .hbm, ⟨15, _⟩ => ⟨S4096x5632, .f32⟩
  | .hbm, ⟨16, _⟩ => ⟨S4096x2048, .f32⟩
  | .hbm, ⟨17, _⟩ => ⟨S4096x5632, .f32⟩
  | .hbm, ⟨18, _⟩ => ⟨S4096x2048, .f32⟩
  | .hbm, ⟨19, _⟩ => ⟨S4096x2048, .f32⟩
  | .hbm, ⟨20, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== DwOut.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .bf16⟩
  | .hbm, ⟨3, _⟩ => ⟨S2048x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DxOut.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxOutRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .bf16⟩
  | .hbm, ⟨3, _⟩ => ⟨S4096x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwInO.lean ====
abbrev S4096x2048 : Shape := ⟨2, ![4096, 2048]⟩
abbrev S4096x6144 : Shape := ⟨2, ![4096, 6144]⟩
abbrev S2048x6144 : Shape := ⟨2, ![2048, 6144]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInORefIdeal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .bf16⟩
  | .hbm, ⟨3, _⟩ => ⟨S2048x6144, .bf16⟩
  | .hbm, ⟨4, _⟩ => ⟨S4096x2048, .f32⟩
  | .hbm, ⟨5, _⟩ => ⟨S2048x6144, .f32⟩
  | .hbm, ⟨6, _⟩ => ⟨S4096x6144, .f32⟩
  | .hbm, ⟨7, _⟩ => ⟨S4096x6144, .bf16⟩
  | .hbm, ⟨8, _⟩ => ⟨S4096x6144, .f32⟩
  | .hbm, ⟨9, _⟩ => ⟨S6144x2048, .f32⟩
  | .hbm, ⟨10, _⟩ => ⟨S2048x6144, .f32⟩
  | .hbm, ⟨11, _⟩ => ⟨S2048x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DxInO.lean ====
abbrev S4096x6144 : Shape := ⟨2, ![4096, 6144]⟩
abbrev S2048x6144 : Shape := ⟨2, ![2048, 6144]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxInORefIdeal.lean ====
abbrev S4096x6144 : Shape := ⟨2, ![4096, 6144]⟩
abbrev S2048x6144 : Shape := ⟨2, ![2048, 6144]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S_, .bf16⟩
  | .hbm, ⟨3, _⟩ => ⟨S4096x2048, .bf16⟩
  | .hbm, ⟨4, _⟩ => ⟨S4096x2048, .f32⟩
  | .hbm, ⟨5, _⟩ => ⟨S2048x6144, .f32⟩
  | .hbm, ⟨6, _⟩ => ⟨S4096x6144, .f32⟩
  | .hbm, ⟨7, _⟩ => ⟨S4096x6144, .bf16⟩
  | .hbm, ⟨8, _⟩ => ⟨S4096x6144, .f32⟩
  | .hbm, ⟨9, _⟩ => ⟨S4096x2048, .f32⟩
  | .hbm, ⟨10, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwInE.lean ====
abbrev S4096x2048 : Shape := ⟨2, ![4096, 2048]⟩
abbrev S4096x3072 : Shape := ⟨2, ![4096, 3072]⟩
abbrev S2048x3072 : Shape := ⟨2, ![2048, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S2048x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInERefIdeal.lean ====
abbrev S4096x2048 : Shape := ⟨2, ![4096, 2048]⟩
abbrev S4096x3072 : Shape := ⟨2, ![4096, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S_, .bf16⟩
  | .hbm, ⟨3, _⟩ => ⟨S2048x3072, .bf16⟩
  | .hbm, ⟨4, _⟩ => ⟨S4096x2048, .f32⟩
  | .hbm, ⟨5, _⟩ => ⟨S2048x3072, .f32⟩
  | .hbm, ⟨6, _⟩ => ⟨S4096x3072, .f32⟩
  | .hbm, ⟨7, _⟩ => ⟨S4096x3072, .bf16⟩
  | .hbm, ⟨8, _⟩ => ⟨S4096x3072, .f32⟩
  | .hbm, ⟨9, _⟩ => ⟨S3072x2048, .f32⟩
  | .hbm, ⟨10, _⟩ => ⟨S2048x3072, .f32⟩
  | .hbm, ⟨11, _⟩ => ⟨S2048x3072, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DxInE.lean ====
abbrev S4096x3072 : Shape := ⟨2, ![4096, 3072]⟩
abbrev S2048x3072 : Shape := ⟨2, ![2048, 3072]⟩
abbrev S4096x2048 : Shape := ⟨2, ![4096, 2048]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S4096x2048, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxInERefIdeal.lean ====
abbrev S4096x3072 : Shape := ⟨2, ![4096, 3072]⟩
abbrev S2048x3072 : Shape := ⟨2, ![2048, 3072]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S_, .bf16⟩
  | .hbm, ⟨3, _⟩ => ⟨S4096x2048, .bf16⟩
  | .hbm, ⟨4, _⟩ => ⟨S4096x2048, .f32⟩
  | .hbm, ⟨5, _⟩ => ⟨S2048x3072, .f32⟩
  | .hbm, ⟨6, _⟩ => ⟨S4096x3072, .f32⟩
  | .hbm, ⟨7, _⟩ => ⟨S4096x3072, .bf16⟩
  | .hbm, ⟨8, _⟩ => ⟨S4096x3072, .f32⟩
  | .hbm, ⟨9, _⟩ => ⟨S4096x2048, .f32⟩
  | .hbm, ⟨10, _⟩ => ⟨S4096x2048, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownIdeal.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InO.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InOIdeal.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InORefIdeal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | .hbm, ⟨5, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InE.lean ====
abbrev S4096x2048 : Shape := ⟨2, ![4096, 2048]⟩
abbrev S2048x3072 : Shape := ⟨2, ![2048, 3072]⟩
abbrev S4096x3072 : Shape := ⟨2, ![4096, 3072]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S4096x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InERefIdeal.lean ====
abbrev S4096x2048 : Shape := ⟨2, ![4096, 2048]⟩
abbrev S2048x3072 : Shape := ⟨2, ![2048, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S4096x2048, .f32⟩
  | .hbm, ⟨3, _⟩ => ⟨S2048x3072, .f32⟩
  | .hbm, ⟨4, _⟩ => ⟨S4096x3072, .f32⟩
  | .hbm, ⟨5, _⟩ => ⟨S4096x3072, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutMix.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutMixRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ffn.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 10
  | .vmem => 24
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S5632x2048, .bf16⟩
  | .hbm, ⟨3, _⟩ => ⟨S4096x2048, .bf16⟩
  | .hbm, ⟨4, _⟩ => ⟨S5632x2048, .bf16⟩
  | .hbm, ⟨5, _⟩ => ⟨S4096x5632, .bf16⟩
  | .hbm, ⟨6, _⟩ => ⟨S4096x5632, .bf16⟩
  | .hbm, ⟨7, _⟩ => ⟨S4096x5632, .bf16⟩
  | .hbm, ⟨8, _⟩ => ⟨S4096x5632, .bf16⟩
  | .hbm, ⟨9, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x2048, .bf16⟩
  | .local _ .vmem, ⟨13, _⟩ => ⟨S1024x2048, .bf16⟩
  | .local _ .vmem, ⟨14, _⟩ => ⟨S512x2048, .bf16⟩
  | .local _ .vmem, ⟨15, _⟩ => ⟨S512x2048, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== FfnRefIdeal.lean ====
abbrev S4096x2048 : Shape := ⟨2, ![4096, 2048]⟩
abbrev S5632x2048 : Shape := ⟨2, ![5632, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S5632x2048, .bf16⟩
  | .hbm, ⟨3, _⟩ => ⟨S4096x2048, .bf16⟩
  | .hbm, ⟨4, _⟩ => ⟨S5632x2048, .bf16⟩
  | .hbm, ⟨5, _⟩ => ⟨S4096x2048, .f32⟩
  | .hbm, ⟨6, _⟩ => ⟨S5632x2048, .f32⟩
  | .hbm, ⟨7, _⟩ => ⟨S2048x5632, .f32⟩
  | .hbm, ⟨8, _⟩ => ⟨S4096x5632, .f32⟩
  | .hbm, ⟨9, _⟩ => ⟨S5632x2048, .f32⟩
  | .hbm, ⟨10, _⟩ => ⟨S2048x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S5632x2048, .f32⟩
  | .hbm, ⟨27, _⟩ => ⟨S4096x2048, .f32⟩
  | .hbm, ⟨28, _⟩ => ⟨S4096x2048, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .bf16⟩
  | .hbm, ⟨37, _⟩ => ⟨S4096x5632, .bf16⟩
  | .hbm, ⟨38, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v7_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v7_1 : Ref sig .tc := ⟨.hbm, 23, rfl⟩
abbrev main_v7_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]
-- ==== GradX.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GradXRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== RmsBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== RmsFwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== AdamInE.lean ====
abbrev S4x2048x384 : Shape := ⟨3, ![4, 2048, 384]⟩
abbrev S1x2048x384 : Shape := ⟨3, ![1, 2048, 384]⟩
abbrev S4x512x384 : Shape := ⟨3, ![4, 512, 384]⟩
abbrev S1x512x384 : Shape := ⟨3, ![1, 512, 384]⟩
abbrev S512x384 : Shape := ⟨2, ![512, 384]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x384, .bf16⟩
  | .hbm, ⟨1, _⟩ => ⟨S1x2048x384, .f32⟩
  | .hbm, ⟨2, _⟩ => ⟨S1x2048x384, .f32⟩
  | .hbm, ⟨3, _⟩ => ⟨S1x2048x384, .f32⟩
  | .hbm, ⟨4, _⟩ => ⟨S1x2048x384, .f32⟩
  | .hbm, ⟨5, _⟩ => ⟨S1x2048x384, .f32⟩
  | .hbm, ⟨6, _⟩ => ⟨S1x2048x384, .f32⟩
  | .hbm, ⟨7, _⟩ => ⟨S1x2048x384, .f32⟩
  | .local _ .vmem, ⟨0, _⟩ => ⟨S4x512x384, .bf16⟩
  | .local _ .vmem, ⟨1, _⟩ => ⟨S4x512x384, .bf16⟩
  | .local _ .vmem, ⟨2, _⟩ => ⟨S1x512x384, .f32⟩
  | .local _ .vmem, ⟨3, _⟩ => ⟨S1x512x384, .f32⟩
  | .local _ .vmem, ⟨4, _⟩ => ⟨S1x512x384, .f32⟩
  | .local _ .vmem, ⟨5, _⟩ => ⟨S1x512x384, .f32⟩
  | .local _ .vmem, ⟨6, _⟩ => ⟨S1x512x384, .f32⟩
  | .local _ .vmem, ⟨7, _⟩ => ⟨S1x512x384, .f32⟩
  | .local _ .vmem, ⟨8, _⟩ => ⟨S1x512x384, .f32⟩
  | .local _ .vmem, ⟨9, _⟩ => ⟨S1x512x384, .f32⟩
  | .local _ .vmem, ⟨10, _⟩ => ⟨S1x512x384, .f32⟩
  | .local _ .vmem, ⟨11, _⟩ => ⟨S1x512x384, .f32⟩
  | .local _ .vmem, ⟨12, _⟩ => ⟨S1x512x384, .f32⟩
  | .local _ .vmem, ⟨13, _⟩ => ⟨S1x512x384, .f32⟩
  | .local _ .vmem, ⟨14, _⟩ => ⟨S1x512x384, .f32⟩
  | .local _ .vmem, ⟨15, _⟩ => ⟨S1x512x384, .f32⟩
  | _, _ => ⟨S4x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInEIdeal.lean ====
abbrev S4x2048x384 : Shape := ⟨3, ![4, 2048, 384]⟩
abbrev S1x2048x384 : Shape := ⟨3, ![1, 2048, 384]⟩
abbrev S4x512x384 : Shape := ⟨3, ![4, 512, 384]⟩
abbrev S1x512x384 : Shape := ⟨3, ![1, 512, 384]⟩
abbrev S512x384 : Shape := ⟨2, ![512, 384]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x384, .bf16⟩
  | .hbm, ⟨1, _⟩ => ⟨S1x2048x384, .f32⟩
  | .hbm, ⟨2, _⟩ => ⟨S1x2048x384, .f32⟩
  | .hbm, ⟨3, _⟩ => ⟨S1x2048x384, .f32⟩
  | .hbm, ⟨4, _⟩ => ⟨S1x2048x384, .f32⟩
  | .hbm, ⟨5, _⟩ => ⟨S1x2048x384, .f32⟩
  | .hbm, ⟨6, _⟩ => ⟨S1x2048x384, .f32⟩
  | .hbm, ⟨7, _⟩ => ⟨S1x2048x384, .f32⟩
  | .local _ .vmem, ⟨0, _⟩ => ⟨S4x512x384, .bf16⟩
  | .local _ .vmem, ⟨1, _⟩ => ⟨S4x512x384, .bf16⟩
  | .local _ .vmem, ⟨2, _⟩ => ⟨S1x512x384, .f32⟩
  | .local _ .vmem, ⟨3, _⟩ => ⟨S1x512x384, .f32⟩
  | .local _ .vmem, ⟨4, _⟩ => ⟨S1x512x384, .f32⟩
  | .local _ .vmem, ⟨5, _⟩ => ⟨S1x512x384, .f32⟩
  | .local _ .vmem, ⟨6, _⟩ => ⟨S1x512x384, .f32⟩
  | .local _ .vmem, ⟨7, _⟩ => ⟨S1x512x384, .f32⟩
  | .local _ .vmem, ⟨8, _⟩ => ⟨S1x512x384, .f32⟩
  | .local _ .vmem, ⟨9, _⟩ => ⟨S1x512x384, .f32⟩
  | .local _ .vmem, ⟨10, _⟩ => ⟨S1x512x384, .f32⟩
  | .local _ .vmem, ⟨11, _⟩ => ⟨S1x512x384, .f32⟩
  | .local _ .vmem, ⟨12, _⟩ => ⟨S1x512x384, .f32⟩
  | .local _ .vmem, ⟨13, _⟩ => ⟨S1x512x384, .f32⟩
  | .local _ .vmem, ⟨14, _⟩ => ⟨S1x512x384, .f32⟩
  | .local _ .vmem, ⟨15, _⟩ => ⟨S1x512x384, .f32⟩
  | _, _ => ⟨S4x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInERefIdeal.lean ====
abbrev S4x2048x384 : Shape := ⟨3, ![4, 2048, 384]⟩
abbrev S1x2048x384 : Shape := ⟨3, ![1, 2048, 384]⟩
abbrev S_ : Shape := ⟨0, ![]⟩
abbrev S2048x384 : Shape := ⟨2, ![2048, 384]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x384, .bf16⟩
  | .hbm, ⟨1, _⟩ => ⟨S1x2048x384, .f32⟩
  | .hbm, ⟨2, _⟩ => ⟨S1x2048x384, .f32⟩
  | .hbm, ⟨3, _⟩ => ⟨S1x2048x384, .f32⟩
  | .hbm, ⟨4, _⟩ => ⟨S4x2048x384, .f32⟩
  | .hbm, ⟨5, _⟩ => ⟨S_, .f32⟩
  | .hbm, ⟨6, _⟩ => ⟨S2048x384, .f32⟩
  | .hbm, ⟨7, _⟩ => ⟨S1x2048x384, .f32⟩
  | .hbm, ⟨8, _⟩ => ⟨S_, .f32⟩
  | .hbm, ⟨9, _⟩ => ⟨S1x2048x384, .f32⟩
  | .hbm, ⟨10, _⟩ => ⟨S1x2048x384, .f32⟩
  | .hbm, ⟨11, _⟩ => ⟨S_, .f32⟩
  | .hbm, ⟨12, _⟩ => ⟨S1x2048x384, .f32⟩
  | .hbm, ⟨13, _⟩ => ⟨S1x2048x384, .f32⟩
  | .hbm, ⟨14, _⟩ => ⟨S1x2048x384, .f32⟩
  | .hbm, ⟨15, _⟩ => ⟨S_, .f32⟩
  | .hbm, ⟨16, _⟩ => ⟨S1x2048x384, .f32⟩
  | .hbm, ⟨17, _⟩ => ⟨S1x2048x384, .f32⟩
  | .hbm, ⟨18, _⟩ => ⟨S1x2048x384, .f32⟩
  | .hbm, ⟨19, _⟩ => ⟨S_, .f32⟩
  | .hbm, ⟨20, _⟩ => ⟨S1x2048x384, .f32⟩
  | .hbm, ⟨21, _⟩ => ⟨S1x2048x384, .f32⟩
  | .hbm, ⟨22, _⟩ => ⟨S1x2048x384, .f32⟩
  | .hbm, ⟨23, _⟩ => ⟨S_, .f32⟩
  | .hbm, ⟨24, _⟩ => ⟨S1x2048x384, .f32⟩
  | .hbm, ⟨25, _⟩ => ⟨S1x2048x384, .f32⟩
  | .hbm, ⟨26, _⟩ => ⟨S_, .f32⟩
  | .hbm, ⟨27, _⟩ => ⟨S1x2048x384, .f32⟩
  | .hbm, ⟨28, _⟩ => ⟨S1x2048x384, .f32⟩
  | .hbm, ⟨29, _⟩ => ⟨S1x2048x384, .f32⟩
  | .hbm, ⟨30, _⟩ => ⟨S_, .f32⟩
  | .hbm, ⟨31, _⟩ => ⟨S1x2048x384, .f32⟩
  | .hbm, ⟨32, _⟩ => ⟨S1x2048x384, .f32⟩
  | .hbm, ⟨33, _⟩ => ⟨S1x2048x384, .f32⟩
  | .hbm, ⟨34, _⟩ => ⟨S_, .f32⟩
  | .hbm, ⟨35, _⟩ => ⟨S1x2048x384, .f32⟩
  | .hbm, ⟨36, _⟩ => ⟨S1x2048x384, .f32⟩
  | .hbm, ⟨37, _⟩ => ⟨S1x2048x384, .f32⟩
  | .hbm, ⟨38, _⟩ => ⟨S_, .f32⟩
  | .hbm, ⟨39, _⟩ => ⟨S1x2048x384, .f32⟩
  | .hbm, ⟨40, _⟩ => ⟨S1x2048x384, .f32⟩
  | _, _ => ⟨S4x2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamInO.lean ====
abbrev S4x2048x768 : Shape := ⟨3, ![4, 2048, 768]⟩
abbrev S1x2048x768 : Shape := ⟨3, ![1, 2048, 768]⟩
abbrev S4x256x768 : Shape := ⟨3, ![4, 256, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x768, .bf16⟩
  | .hbm, ⟨1, _⟩ => ⟨S1x2048x768, .f32⟩
  | .hbm, ⟨2, _⟩ => ⟨S1x2048x768, .f32⟩
  | .hbm, ⟨3, _⟩ => ⟨S1x2048x768, .f32⟩
  | .hbm, ⟨4, _⟩ => ⟨S1x2048x768, .f32⟩
  | .hbm, ⟨5, _⟩ => ⟨S1x2048x768, .f32⟩
  | .hbm, ⟨6, _⟩ => ⟨S1x2048x768, .f32⟩
  | .hbm, ⟨7, _⟩ => ⟨S1x2048x768, .f32⟩
  | .local _ .vmem, ⟨0, _⟩ => ⟨S4x256x768, .bf16⟩
  | .local _ .vmem, ⟨1, _⟩ => ⟨S4x256x768, .bf16⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S4x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInOIdeal.lean ====
abbrev S4x2048x768 : Shape := ⟨3, ![4, 2048, 768]⟩
abbrev S1x2048x768 : Shape := ⟨3, ![1, 2048, 768]⟩
abbrev S4x256x768 : Shape := ⟨3, ![4, 256, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x768, .bf16⟩
  | .hbm, ⟨1, _⟩ => ⟨S1x2048x768, .f32⟩
  | .hbm, ⟨2, _⟩ => ⟨S1x2048x768, .f32⟩
  | .hbm, ⟨3, _⟩ => ⟨S1x2048x768, .f32⟩
  | .hbm, ⟨4, _⟩ => ⟨S1x2048x768, .f32⟩
  | .hbm, ⟨5, _⟩ => ⟨S1x2048x768, .f32⟩
  | .hbm, ⟨6, _⟩ => ⟨S1x2048x768, .f32⟩
  | .hbm, ⟨7, _⟩ => ⟨S1x2048x768, .f32⟩
  | .local _ .vmem, ⟨0, _⟩ => ⟨S4x256x768, .bf16⟩
  | .local _ .vmem, ⟨1, _⟩ => ⟨S4x256x768, .bf16⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S4x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInORefIdeal.lean ====
abbrev S4x2048x768 : Shape := ⟨3, ![4, 2048, 768]⟩
abbrev S1x2048x768 : Shape := ⟨3, ![1, 2048, 768]⟩
abbrev S_ : Shape := ⟨0, ![]⟩
abbrev S2048x768 : Shape := ⟨2, ![2048, 768]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x768, .bf16⟩
  | .hbm, ⟨1, _⟩ => ⟨S1x2048x768, .f32⟩
  | .hbm, ⟨2, _⟩ => ⟨S1x2048x768, .f32⟩
  | .hbm, ⟨3, _⟩ => ⟨S1x2048x768, .f32⟩
  | .hbm, ⟨4, _⟩ => ⟨S4x2048x768, .f32⟩
  | .hbm, ⟨5, _⟩ => ⟨S_, .f32⟩
  | .hbm, ⟨6, _⟩ => ⟨S2048x768, .f32⟩
  | .hbm, ⟨7, _⟩ => ⟨S1x2048x768, .f32⟩
  | .hbm, ⟨8, _⟩ => ⟨S_, .f32⟩
  | .hbm, ⟨9, _⟩ => ⟨S1x2048x768, .f32⟩
  | .hbm, ⟨10, _⟩ => ⟨S1x2048x768, .f32⟩
  | .hbm, ⟨11, _⟩ => ⟨S_, .f32⟩
  | .hbm, ⟨12, _⟩ => ⟨S1x2048x768, .f32⟩
  | .hbm, ⟨13, _⟩ => ⟨S1x2048x768, .f32⟩
  | .hbm, ⟨14, _⟩ => ⟨S1x2048x768, .f32⟩
  | .hbm, ⟨15, _⟩ => ⟨S_, .f32⟩
  | .hbm, ⟨16, _⟩ => ⟨S1x2048x768, .f32⟩
  | .hbm, ⟨17, _⟩ => ⟨S1x2048x768, .f32⟩
  | .hbm, ⟨18, _⟩ => ⟨S1x2048x768, .f32⟩
  | .hbm, ⟨19, _⟩ => ⟨S_, .f32⟩
  | .hbm, ⟨20, _⟩ => ⟨S1x2048x768, .f32⟩
  | .hbm, ⟨21, _⟩ => ⟨S1x2048x768, .f32⟩
  | .hbm, ⟨22, _⟩ => ⟨S1x2048x768, .f32⟩
  | .hbm, ⟨23, _⟩ => ⟨S_, .f32⟩
  | .hbm, ⟨24, _⟩ => ⟨S1x2048x768, .f32⟩
  | .hbm, ⟨25, _⟩ => ⟨S1x2048x768, .f32⟩
  | .hbm, ⟨26, _⟩ => ⟨S_, .f32⟩
  | .hbm, ⟨27, _⟩ => ⟨S1x2048x768, .f32⟩
  | .hbm, ⟨28, _⟩ => ⟨S1x2048x768, .f32⟩
  | .hbm, ⟨29, _⟩ => ⟨S1x2048x768, .f32⟩
  | .hbm, ⟨30, _⟩ => ⟨S_, .f32⟩
  | .hbm, ⟨31, _⟩ => ⟨S1x2048x768, .f32⟩
  | .hbm, ⟨32, _⟩ => ⟨S1x2048x768, .f32⟩
  | .hbm, ⟨33, _⟩ => ⟨S1x2048x768, .f32⟩
  | .hbm, ⟨34, _⟩ => ⟨S_, .f32⟩
  | .hbm, ⟨35, _⟩ => ⟨S1x2048x768, .f32⟩
  | .hbm, ⟨36, _⟩ => ⟨S1x2048x768, .f32⟩
  | .hbm, ⟨37, _⟩ => ⟨S1x2048x768, .f32⟩
  | .hbm, ⟨38, _⟩ => ⟨S_, .f32⟩
  | .hbm, ⟨39, _⟩ => ⟨S1x2048x768, .f32⟩
  | .hbm, ⟨40, _⟩ => ⟨S1x2048x768, .f32⟩
  | _, _ => ⟨S4x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamOut.lean ====
abbrev S4x256x2048 : Shape := ⟨3, ![4, 256, 2048]⟩
abbrev S1x256x2048 : Shape := ⟨3, ![1, 256, 2048]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S1x256x2048, .f32⟩
  | .hbm, ⟨7, _⟩ => ⟨S1x256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S4x256x2048 : Shape := ⟨3, ![4, 256, 2048]⟩
abbrev S1x256x2048 : Shape := ⟨3, ![1, 256, 2048]⟩
abbrev S_ : Shape := ⟨0, ![]⟩
abbrev S256x2048 : Shape := ⟨2, ![256, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S4x256x2048, .f32⟩
  | .hbm, ⟨5, _⟩ => ⟨S_, .f32⟩
  | .hbm, ⟨6, _⟩ => ⟨S256x2048, .f32⟩
  | .hbm, ⟨7, _⟩ => ⟨S1x256x2048, .f32⟩
  | .hbm, ⟨8, _⟩ => ⟨S_, .f32⟩
  | .hbm, ⟨9, _⟩ => ⟨S1x256x2048, .f32⟩
  | .hbm, ⟨10, _⟩ => ⟨S1x256x2048, .f32⟩
  | .hbm, ⟨11, _⟩ => ⟨S_, .f32⟩
  | .hbm, ⟨12, _⟩ => ⟨S1x256x2048, .f32⟩
  | .hbm, ⟨13, _⟩ => ⟨S1x256x2048, .f32⟩
  | .hbm, ⟨14, _⟩ => ⟨S1x256x2048, .f32⟩
  | .hbm, ⟨15, _⟩ => ⟨S_, .f32⟩
  | .hbm, ⟨16, _⟩ => ⟨S1x256x2048, .f32⟩
  | .hbm, ⟨17, _⟩ => ⟨S1x256x2048, .f32⟩
  | .hbm, ⟨18, _⟩ => ⟨S1x256x2048, .f32⟩
  | .hbm, ⟨19, _⟩ => ⟨S_, .f32⟩
  | .hbm, ⟨20, _⟩ => ⟨S1x256x2048, .f32⟩
  | .hbm, ⟨21, _⟩ => ⟨S1x256x2048, .f32⟩
  | .hbm, ⟨22, _⟩ => ⟨S1x256x2048, .f32⟩
  | .hbm, ⟨23, _⟩ => ⟨S_, .f32⟩
  | .hbm, ⟨24, _⟩ => ⟨S1x256x2048, .f32⟩
  | .hbm, ⟨25, _⟩ => ⟨S1x256x2048, .f32⟩
  | .hbm, ⟨26, _⟩ => ⟨S_, .f32⟩
  | .hbm, ⟨27, _⟩ => ⟨S1x256x2048, .f32⟩
  | .hbm, ⟨28, _⟩ => ⟨S1x256x2048, .f32⟩
  | .hbm, ⟨29, _⟩ => ⟨S1x256x2048, .f32⟩
  | .hbm, ⟨30, _⟩ => ⟨S_, .f32⟩
  | .hbm, ⟨31, _⟩ => ⟨S1x256x2048, .f32⟩
  | .hbm, ⟨32, _⟩ => ⟨S1x256x2048, .f32⟩
  | .hbm, ⟨33, _⟩ => ⟨S1x256x2048, .f32⟩
  | .hbm, ⟨34, _⟩ => ⟨S_, .f32⟩
  | .hbm, ⟨35, _⟩ => ⟨S1x256x2048, .f32⟩
  | .hbm, ⟨36, _⟩ => ⟨S1x256x2048, .f32⟩
  | .hbm, ⟨37, _⟩ => ⟨S1x256x2048, .f32⟩
  | .hbm, ⟨38, _⟩ => ⟨S_, .f32⟩
  | .hbm, ⟨39, _⟩ => ⟨S1x256x2048, .f32⟩
  | .hbm, ⟨40, _⟩ => ⟨S1x256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamSmall.lean ====
abbrev S392x128 : Shape := ⟨2, ![392, 128]⟩

abbrev nBuf : Space → Nat
  | .hbm => 7
  | .vmem => 7
  | .smem => 0
  | _ => 0

abbrev bufTy : (tb : Table) → Fin (tcTables nBuf tb) → BufTy
  | .hbm, ⟨0, _⟩ => ⟨S392x128, .f32⟩
  | .hbm, ⟨1, _⟩ => ⟨S392x128, .f32⟩
  | .hbm, ⟨2, _⟩ => ⟨S392x128, .f32⟩
  | .hbm, ⟨3, _⟩ => ⟨S392x128, .f32⟩
  | .hbm, ⟨4, _⟩ => ⟨S392x128, .f32⟩
  | .hbm, ⟨5, _⟩ => ⟨S392x128, .f32⟩
  | .hbm, ⟨6, _⟩ => ⟨S392x128, .f32⟩
  | .local _ .vmem, ⟨0, _⟩ => ⟨S392x128, .f32⟩
  | .local _ .vmem, ⟨1, _⟩ => ⟨S392x128, .f32⟩
  | .local _ .vmem, ⟨2, _⟩ => ⟨S392x128, .f32⟩
  | .local _ .vmem, ⟨3, _⟩ => ⟨S392x128, .f32⟩
  | .local _ .vmem, ⟨4, _⟩ => ⟨S392x128, .f32⟩
  | .local _ .vmem, ⟨5, _⟩ => ⟨S392x128, .f32⟩
  | .local _ .vmem, ⟨6, _⟩ => ⟨S392x128, .f32⟩
  | _, _ => ⟨S392x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S392x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S392x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S392x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S392x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S392x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S392x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S392x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamSmallRefIdeal.lean ====
abbrev S392x128 : Shape := ⟨2, ![392, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S392x128, .f32⟩
  | .hbm, ⟨1, _⟩ => ⟨S392x128, .f32⟩
  | .hbm, ⟨2, _⟩ => ⟨S392x128, .f32⟩
  | .hbm, ⟨3, _⟩ => ⟨S392x128, .f32⟩
  | .hbm, ⟨4, _⟩ => ⟨S_, .f32⟩
  | .hbm, ⟨5, _⟩ => ⟨S392x128, .f32⟩
  | .hbm, ⟨6, _⟩ => ⟨S392x128, .f32⟩
  | .hbm, ⟨7, _⟩ => ⟨S_, .f32⟩
  | .hbm, ⟨8, _⟩ => ⟨S392x128, .f32⟩
  | .hbm, ⟨9, _⟩ => ⟨S392x128, .f32⟩
  | .hbm, ⟨10, _⟩ => ⟨S392x128, .f32⟩
  | .hbm, ⟨11, _⟩ => ⟨S_, .f32⟩
  | .hbm, ⟨12, _⟩ => ⟨S392x128, .f32⟩
  | .hbm, ⟨13, _⟩ => ⟨S392x128, .f32⟩
  | .hbm, ⟨14, _⟩ => ⟨S392x128, .f32⟩
  | .hbm, ⟨15, _⟩ => ⟨S_, .f32⟩
  | .hbm, ⟨16, _⟩ => ⟨S392x128, .f32⟩
  | .hbm, ⟨17, _⟩ => ⟨S392x128, .f32⟩
  | .hbm, ⟨18, _⟩ => ⟨S392x128, .f32⟩
  | .hbm, ⟨19, _⟩ => ⟨S_, .f32⟩
  | .hbm, ⟨20, _⟩ => ⟨S392x128, .f32⟩
  | .hbm, ⟨21, _⟩ => ⟨S392x128, .f32⟩
  | .hbm, ⟨22, _⟩ => ⟨S_, .f32⟩
  | .hbm, ⟨23, _⟩ => ⟨S392x128, .f32⟩
  | .hbm, ⟨24, _⟩ => ⟨S392x128, .f32⟩
  | .hbm, ⟨25, _⟩ => ⟨S392x128, .f32⟩
  | .hbm, ⟨26, _⟩ => ⟨S_, .f32⟩
  | .hbm, ⟨27, _⟩ => ⟨S392x128, .f32⟩
  | .hbm, ⟨28, _⟩ => ⟨S392x128, .f32⟩
  | .hbm, ⟨29, _⟩ => ⟨S392x128, .f32⟩
  | .hbm, ⟨30, _⟩ => ⟨S_, .f32⟩
  | .hbm, ⟨31, _⟩ => ⟨S392x128, .f32⟩
  | .hbm, ⟨32, _⟩ => ⟨S392x128, .f32⟩
  | .hbm, ⟨33, _⟩ => ⟨S392x128, .f32⟩
  | .hbm, ⟨34, _⟩ => ⟨S_, .f32⟩
  | .hbm, ⟨35, _⟩ => ⟨S392x128, .f32⟩
  | .hbm, ⟨36, _⟩ => ⟨S392x128, .f32⟩
  | _, _ => ⟨S392x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Even.Run.lean ====
/- The body of the pooling/LayerNorm gradient kernel, run once on any staging buffers: at the first grid point (where the
   two sums are set to zero) and at a later one (where they are added to). -/
module

public import proofs.«01_k».proof.Proof.Gen.EvenBwdIdeal.Frame
public import proofs.«01_k».proof.Proof.Gen.EvenBwdIdeal.Skeleton

@[expose] public section

set_option maxRecDepth 16384

noncomputable section

namespace Cert.EvenBwdIdeal.Hand

open Cert.EvenBwdIdeal Cert.EvenBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's test `i = 0`, as the program computes it on 32-bit words. -/
abbrev cond (i : grid0.Coords) : Prop := (Scalar.cmpi .ne (Scalar.extui (Scalar.cmpi .eq (BitVec.ofNat 32 (i 0).val) 0#32)) 0#32) = 1#1

/-- It holds at the first point and at no other. -/
theorem cond_iff : ∀ t : Fin cfg0.N, cond (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [cond, e0]
    word_cmp
   : ∀ t : Fin grid0.N, cond (grid0.coords t) ↔ t.val = 0)

-- (the run's proof term is large: checking it walks past the default budget)
set_option maxHeartbeats 1000000 in
/-- The body at the first point, on whole staging buffers: the inputs hold `x0 … x6`, the outputs hold anything.
    It runs to its end, leaves the inputs as they were, and leaves in each output buffer the pieces `L7 … L11`
    (last store first). -/
noncomputable def runA (c : Dev nD) (i : grid0.Coords) (arg1 : Memref sig .tc .vmem S256x2048 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S8x1024 .f32) (harg11 : arg11.IsWhole) (arg12 : Memref sig .tc .vmem S4x256x256 .f32) (harg12 : arg12.IsWhole) (hc0 : cond i)
    (x0 : Vec F S256x2048 .bf16) (x1 : Vec F S256x1024 .bf16) (x2 : Vec F S256x1024 .bf16) (x3 : Vec F S1x1024 .f32) (x4 : Vec F S1x1024 .f32) (x5 : Vec F S4x256x256 .bf16) (x6 : Vec F S1x1024 .f32) :
    Σ' (L7 : List (View.Piece (Elt F) S256x1024 .bf16)), Σ' (L8 : List (View.Piece (Elt F) S256x1024 .bf16)), Σ' (L9 : List (View.Piece (Elt F) S256x1024 .bf16)), Σ' (L10 : List (View.Piece (Elt F) S8x1024 .f32)), { L11 : List (View.Piece (Elt F) S4x256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc0_even_bwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_even_bwd_eq_skeleton]; unfold cc0_even_bwd_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    iexists _; iexact H11

-- (the run's proof term is large: checking it walks past the default budget)
set_option maxHeartbeats 1000000 in
/-- The body at every later point, on whole staging buffers: the inputs hold `x0 … x6`, the two sums hold `xo10`, `xo11` from the point before.
    It runs to its end, leaves the inputs as they were, and leaves in each output buffer the pieces `L7 … L11`
    (last store first) — over `xo10`, `xo11` for the two sums. -/
noncomputable def runB (c : Dev nD) (i : grid0.Coords) (arg1 : Memref sig .tc .vmem S256x2048 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S8x1024 .f32) (harg11 : arg11.IsWhole) (arg12 : Memref sig .tc .vmem S4x256x256 .f32) (harg12 : arg12.IsWhole) (hc0 : ¬cond i)
    (x0 : Vec F S256x2048 .bf16) (x1 : Vec F S256x1024 .bf16) (x2 : Vec F S256x1024 .bf16) (x3 : Vec F S1x1024 .f32) (x4 : Vec F S1x1024 .f32) (x5 : Vec F S4x256x256 .bf16) (x6 : Vec F S1x1024 .f32) (xo10 : Vec F S8x1024 .f32) (xo11 : Vec F S4x256x256 .f32) :
    Σ' (L7 : List (View.Piece (Elt F) S256x1024 .bf16)), Σ' (L8 : List (View.Piece (Elt F) S256x1024 .bf16)), Σ' (L9 : List (View.Piece (Elt F) S256x1024 .bf16)), Σ' (L10 : List (View.Piece (Elt F) S8x1024 .f32)), { L11 : List (View.Piece (Elt F) S4x256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xo10 ∗ owns (c : Thread nD τ) arg12 fullShare xo11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (arg11.view.loc (c : Thread nD τ) ↦[arg11.view.set]{fullShare} arg11.view.writes (Elt F) (harg11.unread xo10) L10) ∗ (arg12.view.loc (c : Thread nD τ) ↦[arg12.view.set]{fullShare} arg12.view.writes (Elt F) (harg12.unread xo11) L11)) -∗ K ⟨⟩))
          ⊢ wp frame (wpE (defs₀ (F := F)) Variants.none c none) E (cc0_even_bwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_even_bwd_eq_skeleton]; unfold cc0_even_bwd_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hf10; obtain rfl := harg12.eq_unread hf11
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexact H10
    iexact H11

end Cert.EvenBwdIdeal.Hand

end
-- ==== Proof.Even.Frame.lean ====
/- The run of the pooling/LayerNorm gradient kernel over its sixteen grid points: what every output buffer holds after each
   point, the body's obligation, and the run of the whole program. -/
module

public import proofs.«01_k».proof.Proof.Even.Run
public import Idealize.ShloMosaic.Lib.Claim
public import Idealize.ShloMosaic.Lib.Pipeline.Value

@[expose] public section

set_option maxRecDepth 16384

noncomputable section

namespace Cert.EvenBwdIdeal.Hand

open Cert.EvenBwdIdeal Cert.EvenBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

abbrev ms0 (t : Fin cfg0.N) : Memref sig .tc .vmem S256x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x256x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x1024 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x1024 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x1024 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S8x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S4x256x256 .f32 := win0_11.stage (cfg0.slots t 11)
abbrev hs11 (t : Fin cfg0.N) : (ms11 t).IsWhole := hstage0_11 ((cfg0.slots t 11).cast nbuf0_11)

/-- The body's run at the first point, on that point's buffers and blocks. -/
abbrev first (c : Dev nD) (t : Fin cfg0.N) (h : t.val = 0) :=
  runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) ((cond_iff t).mpr h) (iblk m c 0 t) (iblk m c 1 t) (iblk m c 2 t) (iblk m c 3 t) (iblk m c 4 t) (iblk m c 5 t) (iblk m c 6 t)

/-- The body's run at a later point, over the two sums `p10`, `p11` the point before left. -/
abbrev later (c : Dev nD) (t : Fin cfg0.N) (h : ¬t.val = 0) (p10 : Vec F S8x1024 .f32) (p11 : Vec F S4x256x256 .f32) :=
  runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (fun h' => h ((cond_iff t).mp h')) (iblk m c 0 t) (iblk m c 1 t) (iblk m c 2 t) (iblk m c 3 t) (iblk m c 4 t) (iblk m c 5 t) (iblk m c 6 t) p10 p11

/-- The contents of the five output buffers. -/
abbrev Outs (F : FTy → Type) : Type :=
  Vec F S256x1024 .bf16 × Vec F S256x1024 .bf16 × Vec F S256x1024 .bf16 × Vec F S8x1024 .f32 × Vec F S4x256x256 .f32

/-- What the first point leaves: its pieces, read back. -/
def outsA (c : Dev nD) (t : Fin cfg0.N) (h : t.val = 0) : Outs F :=
  (View.canon (first m c t h).1, View.canon (first m c t h).2.1, View.canon (first m c t h).2.2.1,
    View.canon (first m c t h).2.2.2.1, View.canon (first m c t h).2.2.2.2.1)

/-- What a later point leaves: its pieces, read back; the two sums' pieces over what the point before left. -/
def outsB (c : Dev nD) (t : Fin cfg0.N) (h : ¬t.val = 0) (p10 : Vec F S8x1024 .f32) (p11 : Vec F S4x256x256 .f32) : Outs F :=
  (View.canon (later m c t h p10 p11).1, View.canon (later m c t h p10 p11).2.1, View.canon (later m c t h p10 p11).2.2.1,
    (ms10 t).view.read (Elt F) ((ms10 t).view.writes (Elt F) ((hs10 t).unread p10) (later m c t h p10 p11).2.2.2.1),
    (ms11 t).view.read (Elt F) ((ms11 t).view.writes (Elt F) ((hs11 t).unread p11) (later m c t h p10 p11).2.2.2.2.1))

/-- What the output buffers hold after point `n`: the first point's contents, then each later point's over the sums before. -/
def outs (c : Dev nD) : (n : ℕ) → n < cfg0.N → Outs F
  | 0, hn => outsA m c ⟨0, hn⟩ rfl
  | n + 1, hn => outsB m c ⟨n + 1, hn⟩ (Nat.succ_ne_zero n) (outs c n (Nat.lt_of_succ_lt hn)).2.2.2.1 (outs c n (Nat.lt_of_succ_lt hn)).2.2.2.2

theorem outs_first (c : Dev nD) (t : Fin cfg0.N) (h : t.val = 0) : outs m c t.val t.isLt = outsA m c t h := by
  obtain ⟨n, hn⟩ := t
  cases n with
  | zero => rfl
  | succ n => exact absurd h (Nat.succ_ne_zero n)

theorem outs_later (c : Dev nD) (t : Fin cfg0.N) (h : ¬t.val = 0) :
    outs m c t.val t.isLt = outsB m c t h (outs m c (t.val - 1) (Nat.lt_of_le_of_lt (Nat.sub_le _ _) t.isLt)).2.2.2.1
      (outs m c (t.val - 1) (Nat.lt_of_le_of_lt (Nat.sub_le _ _) t.isLt)).2.2.2.2 := by
  obtain ⟨n, hn⟩ := t
  cases n with
  | zero => exact absurd rfl h
  | succ n => rfl

/-! ## The pieces cover the buffers they are read back from -/

theorem coverA7 (c : Dev nD) (t : Fin cfg0.N) (h : t.val = 0) (y : S256x1024.Idx) : ∃ pc ∈ (first m c t h).1, y ∈ pc.1.set :=
  View.cover_of_tiledL (first m c t h).1 S256x1024.size (by sl_kernel_rfl) y
theorem coverA8 (c : Dev nD) (t : Fin cfg0.N) (h : t.val = 0) (y : S256x1024.Idx) : ∃ pc ∈ (first m c t h).2.1, y ∈ pc.1.set :=
  View.cover_of_tiledL (first m c t h).2.1 ![256, 256] (by sl_kernel_rfl) y
theorem coverA9 (c : Dev nD) (t : Fin cfg0.N) (h : t.val = 0) (y : S256x1024.Idx) : ∃ pc ∈ (first m c t h).2.2.1, y ∈ pc.1.set :=
  View.cover_of_tiledL (first m c t h).2.2.1 ![256, 256] (by sl_kernel_rfl) y
theorem coverA10 (c : Dev nD) (t : Fin cfg0.N) (h : t.val = 0) (y : S8x1024.Idx) : ∃ pc ∈ (first m c t h).2.2.2.1, y ∈ pc.1.set :=
  ⟨⟨Rect.unit (s := S8x1024) ![0, 0] S8x1024.size inb_S8x1024_S8x1024_0_0, k0_pay4 (F := F)⟩, by unfold first runA; dsimp only; exact List.mem_of_getLast? rfl,
    by rw [Rect.mem_set_unit]; intro a; have hy := (y a).isLt; fin_cases a <;> exact ⟨Nat.zero_le _, lt_of_lt_of_eq hy (Nat.zero_add _).symm⟩⟩
theorem coverA11 (c : Dev nD) (t : Fin cfg0.N) (h : t.val = 0) (y : S4x256x256.Idx) : ∃ pc ∈ (first m c t h).2.2.2.2.1, y ∈ pc.1.set :=
  ⟨⟨Rect.unit (s := S4x256x256) ![0, 0, 0] S4x256x256.size inb_S4x256x256_S4x256x256_0_0_0, k0_pay5 (F := F)⟩, by unfold first runA; dsimp only; exact List.mem_of_getLast? rfl,
    by rw [Rect.mem_set_unit]; intro a; have hy := (y a).isLt; fin_cases a <;> exact ⟨Nat.zero_le _, lt_of_lt_of_eq hy (Nat.zero_add _).symm⟩⟩
theorem coverB7 (c : Dev nD) (t : Fin cfg0.N) (h : ¬t.val = 0) (p10 : Vec F S8x1024 .f32) (p11 : Vec F S4x256x256 .f32) (y : S256x1024.Idx) : ∃ pc ∈ (later m c t h p10 p11).1, y ∈ pc.1.set :=
  View.cover_of_tiledL (later m c t h p10 p11).1 S256x1024.size (by sl_kernel_rfl) y
theorem coverB8 (c : Dev nD) (t : Fin cfg0.N) (h : ¬t.val = 0) (p10 : Vec F S8x1024 .f32) (p11 : Vec F S4x256x256 .f32) (y : S256x1024.Idx) : ∃ pc ∈ (later m c t h p10 p11).2.1, y ∈ pc.1.set :=
  View.cover_of_tiledL (later m c t h p10 p11).2.1 ![256, 256] (by sl_kernel_rfl) y
theorem coverB9 (c : Dev nD) (t : Fin cfg0.N) (h : ¬t.val = 0) (p10 : Vec F S8x1024 .f32) (p11 : Vec F S4x256x256 .f32) (y : S256x1024.Idx) : ∃ pc ∈ (later m c t h p10 p11).2.2.1, y ∈ pc.1.set :=
  View.cover_of_tiledL (later m c t h p10 p11).2.2.1 ![256, 256] (by sl_kernel_rfl) y

/-! ## The pipeline's proof data -/

/-- The arrays as the region finds them; after point `t` each input's buffer at its block, the outputs at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outs m c t.val t.isLt).1
    | ⟨8, _⟩ => (outs m c t.val t.isLt).2.1
    | ⟨9, _⟩ => (outs m c t.val t.isLt).2.2.1
    | ⟨10, _⟩ => (outs m c t.val t.isLt).2.2.2.1
    | ⟨11, _⟩ => (outs m c t.val t.isLt).2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (outs m c t.val t.isLt).1 := by dsimp only [dats]
theorem after8 (c : Dev nD) (t : Fin cfg0.N) : (dats m 0 c).after 8 t = (outs m c t.val t.isLt).2.1 := by dsimp only [dats]
theorem after9 (c : Dev nD) (t : Fin cfg0.N) : (dats m 0 c).after 9 t = (outs m c t.val t.isLt).2.2.1 := by dsimp only [dats]
theorem after10 (c : Dev nD) (t : Fin cfg0.N) : (dats m 0 c).after 10 t = (outs m c t.val t.isLt).2.2.2.1 := by dsimp only [dats]
theorem after11 (c : Dev nD) (t : Fin cfg0.N) : (dats m 0 c).after 11 t = (outs m c t.val t.isLt).2.2.2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- Output 10's array is written back after the last point only. -/
theorem noflush10 : ∀ t : Fin cfg0.N, t.val ≠ 0 → (cfg0.win 10).flush ⟨t.val - 1, Nat.lt_of_le_of_lt (Nat.sub_le _ _) t.isLt⟩ = false :=
  (by decide +kernel : ∀ t : Fin grid0.N, t.val ≠ 0 → win0_10.flush ⟨t.val - 1, Nat.lt_of_le_of_lt (Nat.sub_le _ _) t.isLt⟩ = false)
/-- So at a later point its buffer holds what the point before left. -/
theorem before10 (c : Dev nD) (t : Fin cfg0.N) (h : ¬t.val = 0) (d) :
    (dats m 0 c).before 10 t d = (outs m c (t.val - 1) (Nat.lt_of_le_of_lt (Nat.sub_le _ _) t.isLt)).2.2.2.1 := by
  rw [(dats m 0 c).before_of_pos 10 t h rfl d, if_neg (by rw [noflush10 t h]; exact Bool.false_ne_true)]
  show (dats m 0 c).after 10 _ = _
  rw [after10]

/-- Output 11's array is written back after the last point only. -/
theorem noflush11 : ∀ t : Fin cfg0.N, t.val ≠ 0 → (cfg0.win 11).flush ⟨t.val - 1, Nat.lt_of_le_of_lt (Nat.sub_le _ _) t.isLt⟩ = false :=
  (by decide +kernel : ∀ t : Fin grid0.N, t.val ≠ 0 → win0_11.flush ⟨t.val - 1, Nat.lt_of_le_of_lt (Nat.sub_le _ _) t.isLt⟩ = false)
/-- So at a later point its buffer holds what the point before left. -/
theorem before11 (c : Dev nD) (t : Fin cfg0.N) (h : ¬t.val = 0) (d) :
    (dats m 0 c).before 11 t d = (outs m c (t.val - 1) (Nat.lt_of_le_of_lt (Nat.sub_le _ _) t.isLt)).2.2.2.2 := by
  rw [(dats m 0 c).before_of_pos 11 t h rfl d, if_neg (by rw [noflush11 t h]; exact Bool.false_ne_true)]
  show (dats m 0 c).after 11 _ = _
  rw [after11]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t))

set_option maxHeartbeats 1600000 in
/-- The body at any point: by the run of the first point or of a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  by_cases h : t.val = 0
  · rw [outs_first m c t h]; unfold outsA; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((first m c t h).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    iintro ⟨H0, H1, H2, H3, H4, H5, H6, ⟨%e7, H7⟩, ⟨%e8, H8⟩, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_eq_canon _ _ _ (coverA7 m _ _ _)
    isplitl [H8]
    · unfold owns; iexists _; isplitr
      swap; · iexact H8
      ipureintro; exact View.read_writes_eq_canon _ _ _ (coverA8 m _ _ _)
    isplitl [H9]
    · unfold owns; iexists _; isplitr
      swap; · iexact H9
      ipureintro; exact View.read_writes_eq_canon _ _ _ (coverA9 m _ _ _)
    isplitl [H10]
    · unfold owns; iexists _; isplitr
      swap; · iexact H10
      ipureintro; exact View.read_writes_eq_canon _ _ _ (coverA10 m _ _ _)
    unfold owns; iexists _; isplitr
    swap; · iexact H11
    ipureintro; exact View.read_writes_eq_canon _ _ _ (coverA11 m _ _ _)
  · rw [outs_later m c t h]; simp only [before10 m c t h, before11 m c t h]; unfold outsB; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((later m c t h _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexact H10
    isplitl [H11]; · iexact H11
    iintro ⟨H0, H1, H2, H3, H4, H5, H6, ⟨%e7, H7⟩, ⟨%e8, H8⟩, ⟨%e9, H9⟩, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_eq_canon _ _ _ (coverB7 m _ _ _ _ _)
    isplitl [H8]
    · unfold owns; iexists _; isplitr
      swap; · iexact H8
      ipureintro; exact View.read_writes_eq_canon _ _ _ (coverB8 m _ _ _ _ _)
    isplitl [H9]
    · unfold owns; iexists _; isplitr
      swap; · iexact H9
      ipureintro; exact View.read_writes_eq_canon _ _ _ (coverB9 m _ _ _ _ _)
    isplitl [H10]
    · unfold owns; iexists _; isplitr
      swap; · iexact H10
      ipureintro; rfl
    unfold owns; iexists _; isplitr
    swap; · iexact H11
    ipureintro; rfl

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The program runs to its end; its arrays end at what the proof data give, every other buffer as the region found it,
    every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run m ρ)) ((θ_run defs _ _).mono (fun _ h => h.2) (run_quiescent m ρ))

end Cert.EvenBwdIdeal.Hand

end
-- ==== Proof.Even.Pieces.lean ====
/- What the kernel's body leaves in each output buffer, as a list of stored pieces whose contents are written over the
   input blocks alone: one description for the first point and for the later ones. -/
module

public import proofs.«01_k».proof.Proof.Even.Frame
public import Idealize.ShloMosaic.Lib.Pipeline.Value
public import Idealize.ShloMosaic.Lib.Pipeline.ValueKit.Tiles
public import Idealize.ShloMosaic.Lib.WritesUnit

@[expose] public section

set_option maxRecDepth 16384

noncomputable section

namespace Cert.EvenBwdIdeal.Hand

open Cert.EvenBwdIdeal Cert.EvenBwdIdeal.Gen Idealize.ShloMosaic Idealize.SL.Sem

/-! ## Reading a list of stores -/

section Lists

variable {sig : RefSig} {κ : Kind} {sp : Space} {S : Shape} {e : EltTy} {Val : EltTy → Type}

/-- Pieces that agree with one function `G`, over contents that agree with `G` wherever no piece lies, read as `G`. -/
theorem read_pieces (v : View sig κ sp S e) (f : v.ty.Contents Val) (G : S.Idx → Val e) (M : List (View.Piece Val S e)) :
    ∀ L : List (View.Piece Val S e), (∀ p ∈ L, ∀ x : p.1.shape.Idx, p.2 x = G (p.1.emb x)) →
      ∀ y : S.Idx, ((∀ p ∈ L, y ∉ p.1.set) → v.read Val (v.writes Val f M) y = G y) →
      v.read Val (v.writes Val f (L ++ M)) y = G y
  | [], _, y, h => h (fun p hp => absurd hp List.not_mem_nil)
  | p :: L, hL, y, h => by
    by_cases hy : y ∈ p.1.set
    · obtain ⟨r, w⟩ := p
      obtain ⟨x, rfl⟩ : ∃ x, r.emb x = y := r.exists_idx_of_mem hy
      rw [List.cons_append, View.read_writes_cons_emb]
      exact hL ⟨r, w⟩ List.mem_cons_self x
    · have hy' : y ∉ Finset.univ.map p.1.emb := by rwa [Rect.map_emb_univ]
      rw [List.cons_append, View.writes_cons, View.read_slice_write_of_not_mem p.1 _ _ _ hy']
      refine read_pieces v f G M L (fun q hq => hL q (by simp [hq])) y fun hq => h fun q hq' => ?_
      rcases List.mem_cons.mp hq' with rfl | hq''
      · exact hy
      · exact hq q hq''

/-- Under pieces that do not hold an index, the older contents are read. -/
theorem read_skip (v : View sig κ sp S e) (f : v.ty.Contents Val) (M : List (View.Piece Val S e)) (y : S.Idx) :
    ∀ L : List (View.Piece Val S e), (∀ p ∈ L, y ∉ p.1.set) →
      v.read Val (v.writes Val f (L ++ M)) y = v.read Val (v.writes Val f M) y
  | [], _ => rfl
  | p :: L, h => by
    have hy' : y ∉ Finset.univ.map p.1.emb := by rw [Rect.map_emb_univ]; exact h p (by simp)
    rw [List.cons_append, View.writes_cons, View.read_slice_write_of_not_mem p.1 _ _ _ hy']
    exact read_skip v f M y L fun q hq => h q (by simp [hq])

/-- A load of a box no later piece meets, of a buffer filled with `z` before them, loads `z`. -/
theorem readCov_over [∀ e, Nonempty (Val e)] (v : View sig κ sp S e) (L : List (View.Piece Val S e))
    {off : Fin S.rank → ℕ} (h0 : off = fun _ => 0) (inb : ∀ a, off a + S.size a ≤ S.size a) (z : S.Idx → Val e)
    (B : Rect S) (h : ∀ p ∈ L, ∀ x, B.idx x ∉ p.1.set) :
    v.readCov (L ++ [⟨Rect.unit off S.size inb, z⟩]) B.toLoadRect = View.ld z B := by
  funext x
  show v.read Val (v.writes Val v.junk (L ++ [⟨Rect.unit off S.size inb, z⟩])) (B.idx x) = z (B.idx x)
  rw [read_skip _ _ _ _ L fun p hp => h p hp x]
  exact View.read_writes_cons_unit_of_mem v _ inb z [] (B.idx x) (B.idx x) h0 fun a => (Nat.zero_add _).symm

/-- Two boxes apart along one axis share no index. -/
theorem apart (off size off' size' : Fin S.rank → ℕ) (inb : ∀ a, off a + size a ≤ S.size a)
    (inb' : ∀ a, off' a + size' a ≤ S.size a) (a : Fin S.rank) (h : off' a + size' a ≤ off a ∨ off a + size a ≤ off' a)
    (x : (Rect.unit off size inb).shape.Idx) : (Rect.unit off size inb).idx x ∉ (Rect.unit off' size' inb').set := by
  rw [Rect.mem_set_unit]
  intro hall
  have h1 := hall a
  have h2 := Rect.idx_unit_val off size inb x a
  have h3 : (x a).val < size a := (x a).isLt
  omega

end Lists

variable {F : FTy → Type} [FloatOps F]
variable (m : (ℓ : Loc nD τ sig) → Buf (Elt F) ℓ)

/-! ## The pieces over the input blocks -/

/-- The gradient of the convolution's output: one whole block. -/
abbrev daPay (x0 : Vec F S256x2048 .bf16) (x1 : Vec F S256x1024 .bf16) (x3 x4 : Vec F S1x1024 .f32) : Vec F S256x1024 .bf16 :=
  k0_pay15 (k0_pay7 x1) (k0_pay8 x1) x3 (k0_pay10 x1 x3 x4)
    (k0_pay11 (View.ld x0 (Rect.unit ![0, 0] ![256, 1024] inb_S256x2048_S256x1024_0_0))) (k0_pay12 x1 x3 x4)

/-- The gradient of the pooled mean: four groups of 256 columns. -/
abbrev dpmPieces (x0 : Vec F S256x2048 .bf16) (x5 : Vec F S4x256x256 .bf16) (x6 : Vec F S1x1024 .f32) : List (View.Piece (Elt F) S256x1024 .bf16) :=
  [⟨Rect.unit ![0, 768] ![256, 256] inb_S256x1024_S256x256_0_768, k0_pay31 (View.ld x5 (Rect.unit ![3, 0, 0] ![1, 256, 256] inb_S4x256x256_S1x256x256_3_0_0)) (View.ld x0 (Rect.unit ![0, 1792] ![256, 256] inb_S256x2048_S256x256_0_1792)) (View.ld x6 (Rect.unit ![0, 768] ![1, 256] inb_S1x1024_S1x256_0_768))⟩,
   ⟨Rect.unit ![0, 512] ![256, 256] inb_S256x1024_S256x256_0_512, k0_pay31 (View.ld x5 (Rect.unit ![2, 0, 0] ![1, 256, 256] inb_S4x256x256_S1x256x256_2_0_0)) (View.ld x0 (Rect.unit ![0, 1536] ![256, 256] inb_S256x2048_S256x256_0_1536)) (View.ld x6 (Rect.unit ![0, 512] ![1, 256] inb_S1x1024_S1x256_0_512))⟩,
   ⟨Rect.unit ![0, 256] ![256, 256] inb_S256x1024_S256x256_0_256, k0_pay31 (View.ld x5 (Rect.unit ![1, 0, 0] ![1, 256, 256] inb_S4x256x256_S1x256x256_1_0_0)) (View.ld x0 (Rect.unit ![0, 1280] ![256, 256] inb_S256x2048_S256x256_0_1280)) (View.ld x6 (Rect.unit ![0, 256] ![1, 256] inb_S1x1024_S1x256_0_256))⟩,
   ⟨Rect.unit ![0, 0] ![256, 256] inb_S256x1024_S256x256_0_0, k0_pay31 (View.ld x5 (Rect.unit ![0, 0, 0] ![1, 256, 256] inb_S4x256x256_S1x256x256_0_0_0)) (View.ld x0 (Rect.unit ![0, 1024] ![256, 256] inb_S256x2048_S256x256_0_1024)) (View.ld x6 (Rect.unit ![0, 0] ![1, 256] inb_S1x1024_S1x256_0_0))⟩]

/-- The gradient of the windows' sums: the same four groups, each times one over its counts `n0 … n3`. -/
abbrev dwsPieces (n0 n1 n2 n3 : FVec F S256x1 .f32) (x0 : Vec F S256x2048 .bf16) (x5 : Vec F S4x256x256 .bf16) (x6 : Vec F S1x1024 .f32) : List (View.Piece (Elt F) S256x1024 .bf16) :=
  [⟨Rect.unit ![0, 768] ![256, 256] inb_S256x1024_S256x256_0_768, k0_pay32 n3 (k0_pay29 (View.ld x5 (Rect.unit ![3, 0, 0] ![1, 256, 256] inb_S4x256x256_S1x256x256_3_0_0)) (View.ld x0 (Rect.unit ![0, 1792] ![256, 256] inb_S256x2048_S256x256_0_1792)) (View.ld x6 (Rect.unit ![0, 768] ![1, 256] inb_S1x1024_S1x256_0_768)))⟩,
   ⟨Rect.unit ![0, 512] ![256, 256] inb_S256x1024_S256x256_0_512, k0_pay32 n2 (k0_pay29 (View.ld x5 (Rect.unit ![2, 0, 0] ![1, 256, 256] inb_S4x256x256_S1x256x256_2_0_0)) (View.ld x0 (Rect.unit ![0, 1536] ![256, 256] inb_S256x2048_S256x256_0_1536)) (View.ld x6 (Rect.unit ![0, 512] ![1, 256] inb_S1x1024_S1x256_0_512)))⟩,
   ⟨Rect.unit ![0, 256] ![256, 256] inb_S256x1024_S256x256_0_256, k0_pay32 n1 (k0_pay29 (View.ld x5 (Rect.unit ![1, 0, 0] ![1, 256, 256] inb_S4x256x256_S1x256x256_1_0_0)) (View.ld x0 (Rect.unit ![0, 1280] ![256, 256] inb_S256x2048_S256x256_0_1280)) (View.ld x6 (Rect.unit ![0, 256] ![1, 256] inb_S1x1024_S1x256_0_256)))⟩,
   ⟨Rect.unit ![0, 0] ![256, 256] inb_S256x1024_S256x256_0_0, k0_pay32 n0 (k0_pay29 (View.ld x5 (Rect.unit ![0, 0, 0] ![1, 256, 256] inb_S4x256x256_S1x256x256_0_0_0)) (View.ld x0 (Rect.unit ![0, 1024] ![256, 256] inb_S256x2048_S256x256_0_1024)) (View.ld x6 (Rect.unit ![0, 0] ![1, 256] inb_S1x1024_S1x256_0_0)))⟩]

/-- The column sums, over what the buffer held (`p`): rows 0, 1, 2 whole, row 3 in four groups of columns. -/
abbrev vecPieces (x0 : Vec F S256x2048 .bf16) (x1 x2 : Vec F S256x1024 .bf16) (x3 x4 : Vec F S1x1024 .f32) (x5 : Vec F S4x256x256 .bf16) (p : Vec F S8x1024 .f32) : List (View.Piece (Elt F) S8x1024 .f32) :=
  [⟨Rect.unit ![3, 768] ![1, 256] inb_S8x1024_S1x256_3_768, k0_pay27 (View.ld x2 (Rect.unit ![0, 768] ![256, 256] inb_S256x1024_S256x256_0_768)) (View.ld x5 (Rect.unit ![3, 0, 0] ![1, 256, 256] inb_S4x256x256_S1x256x256_3_0_0)) (View.ld x0 (Rect.unit ![0, 1792] ![256, 256] inb_S256x2048_S256x256_0_1792)) (View.ld p (Rect.unit ![3, 768] ![1, 256] inb_S8x1024_S1x256_3_768))⟩,
   ⟨Rect.unit ![3, 512] ![1, 256] inb_S8x1024_S1x256_3_512, k0_pay27 (View.ld x2 (Rect.unit ![0, 512] ![256, 256] inb_S256x1024_S256x256_0_512)) (View.ld x5 (Rect.unit ![2, 0, 0] ![1, 256, 256] inb_S4x256x256_S1x256x256_2_0_0)) (View.ld x0 (Rect.unit ![0, 1536] ![256, 256] inb_S256x2048_S256x256_0_1536)) (View.ld p (Rect.unit ![3, 512] ![1, 256] inb_S8x1024_S1x256_3_512))⟩,
   ⟨Rect.unit ![3, 256] ![1, 256] inb_S8x1024_S1x256_3_256, k0_pay27 (View.ld x2 (Rect.unit ![0, 256] ![256, 256] inb_S256x1024_S256x256_0_256)) (View.ld x5 (Rect.unit ![1, 0, 0] ![1, 256, 256] inb_S4x256x256_S1x256x256_1_0_0)) (View.ld x0 (Rect.unit ![0, 1280] ![256, 256] inb_S256x2048_S256x256_0_1280)) (View.ld p (Rect.unit ![3, 256] ![1, 256] inb_S8x1024_S1x256_3_256))⟩,
   ⟨Rect.unit ![3, 0] ![1, 256] inb_S8x1024_S1x256_3_0, k0_pay27 (View.ld x2 (Rect.unit ![0, 0] ![256, 256] inb_S256x1024_S256x256_0_0)) (View.ld x5 (Rect.unit ![0, 0, 0] ![1, 256, 256] inb_S4x256x256_S1x256x256_0_0_0)) (View.ld x0 (Rect.unit ![0, 1024] ![256, 256] inb_S256x2048_S256x256_0_1024)) (View.ld p (Rect.unit ![3, 0] ![1, 256] inb_S8x1024_S1x256_3_0))⟩,
   ⟨Rect.unit ![2, 0] ![1, 1024] inb_S8x1024_S1x1024_2_0, k0_pay18 (k0_pay14 (k0_pay7 x1) (k0_pay8 x1) x3 (k0_pay10 x1 x3 x4) (k0_pay11 (View.ld x0 (Rect.unit ![0, 0] ![256, 1024] inb_S256x2048_S256x1024_0_0))) (k0_pay12 x1 x3 x4)) (View.ld p (Rect.unit ![2, 0] ![1, 1024] inb_S8x1024_S1x1024_2_0))⟩,
   ⟨Rect.unit ![1, 0] ![1, 1024] inb_S8x1024_S1x1024_1_0, k0_pay17 (k0_pay10 x1 x3 x4) (k0_pay11 (View.ld x0 (Rect.unit ![0, 0] ![256, 1024] inb_S256x2048_S256x1024_0_0))) (k0_pay12 x1 x3 x4) (View.ld p (Rect.unit ![1, 0] ![1, 1024] inb_S8x1024_S1x1024_1_0))⟩,
   ⟨Rect.unit ![0, 0] ![1, 1024] inb_S8x1024_S1x1024_0_0, k0_pay16 (k0_pay8 x1) (k0_pay10 x1 x3 x4) (k0_pay11 (View.ld x0 (Rect.unit ![0, 0] ![256, 1024] inb_S256x2048_S256x1024_0_0))) (k0_pay12 x1 x3 x4) (View.ld p (Rect.unit ![0, 0] ![1, 1024] inb_S8x1024_S1x1024_0_0))⟩]

/-- The gradient of the group maps, over what the buffer held (`p`): one slab per group. -/
abbrev dwpPieces (x0 : Vec F S256x2048 .bf16) (x2 : Vec F S256x1024 .bf16) (x6 : Vec F S1x1024 .f32) (p : Vec F S4x256x256 .f32) : List (View.Piece (Elt F) S4x256x256 .f32) :=
  [⟨Rect.unit ![3, 0, 0] ![1, 256, 256] inb_S4x256x256_S1x256x256_3_0_0, k0_pay30 (View.ld x2 (Rect.unit ![0, 768] ![256, 256] inb_S256x1024_S256x256_0_768)) (View.ld x0 (Rect.unit ![0, 1792] ![256, 256] inb_S256x2048_S256x256_0_1792)) (View.ld x6 (Rect.unit ![0, 768] ![1, 256] inb_S1x1024_S1x256_0_768)) (View.ld p (Rect.unit ![3, 0, 0] ![1, 256, 256] inb_S4x256x256_S1x256x256_3_0_0))⟩,
   ⟨Rect.unit ![2, 0, 0] ![1, 256, 256] inb_S4x256x256_S1x256x256_2_0_0, k0_pay30 (View.ld x2 (Rect.unit ![0, 512] ![256, 256] inb_S256x1024_S256x256_0_512)) (View.ld x0 (Rect.unit ![0, 1536] ![256, 256] inb_S256x2048_S256x256_0_1536)) (View.ld x6 (Rect.unit ![0, 512] ![1, 256] inb_S1x1024_S1x256_0_512)) (View.ld p (Rect.unit ![2, 0, 0] ![1, 256, 256] inb_S4x256x256_S1x256x256_2_0_0))⟩,
   ⟨Rect.unit ![1, 0, 0] ![1, 256, 256] inb_S4x256x256_S1x256x256_1_0_0, k0_pay30 (View.ld x2 (Rect.unit ![0, 256] ![256, 256] inb_S256x1024_S256x256_0_256)) (View.ld x0 (Rect.unit ![0, 1280] ![256, 256] inb_S256x2048_S256x256_0_1280)) (View.ld x6 (Rect.unit ![0, 256] ![1, 256] inb_S1x1024_S1x256_0_256)) (View.ld p (Rect.unit ![1, 0, 0] ![1, 256, 256] inb_S4x256x256_S1x256x256_1_0_0))⟩,
   ⟨Rect.unit ![0, 0, 0] ![1, 256, 256] inb_S4x256x256_S1x256x256_0_0_0, k0_pay30 (View.ld x2 (Rect.unit ![0, 0] ![256, 256] inb_S256x1024_S256x256_0_0)) (View.ld x0 (Rect.unit ![0, 1024] ![256, 256] inb_S256x2048_S256x256_0_1024)) (View.ld x6 (Rect.unit ![0, 0] ![1, 256] inb_S1x1024_S1x256_0_0)) (View.ld p (Rect.unit ![0, 0, 0] ![1, 256, 256] inb_S4x256x256_S1x256x256_0_0_0))⟩]

/-! ## Loads of whole blocks -/

theorem ld_rows (x : Vec F S256x1024 .bf16) : View.ld x (Rect.unit ![0, 0] ![256, 1024] inb_S256x1024_S256x1024_0_0) = x :=
  View.ld_unit_zero (by funext a; fin_cases a <;> rfl) _ x
theorem ld_row (x : Vec F S1x1024 .f32) : View.ld x (Rect.unit ![0, 0] ![1, 1024] inb_S1x1024_S1x1024_0_0) = x :=
  View.ld_unit_zero (by funext a; fin_cases a <;> rfl) _ x

theorem first7 (c : Dev nD) (t : Fin cfg0.N) (h : t.val = 0)  : (first m c t h).1
    = [⟨Rect.unit ![0, 0] ![256, 1024] inb_S256x1024_S256x1024_0_0, daPay (iblk m c 0 t) (iblk m c 1 t) (iblk m c 3 t) (iblk m c 4 t)⟩] := by
  unfold first runA
  dsimp only
  unfold runA.sl.r runA.sl.r_1 runA.sl.r_2 runA.sl.r_3 runA.sl.r_4 runA.sl.r_5
  simp only [View.readAt_eq_ld, Memref.IsWhole.read_unread, ld_rows, ld_row]

theorem first9 (c : Dev nD) (t : Fin cfg0.N) (h : t.val = 0)  : (first m c t h).2.2.1 = dpmPieces (iblk m c 0 t) (iblk m c 5 t) (iblk m c 6 t) := by
  unfold first runA
  dsimp only
  unfold runA.sl.r_18 runA.sl.r_16 runA.sl.r_14 runA.sl.r_13
  simp only [View.readAt_eq_ld, Memref.IsWhole.read_unread]
  rfl

theorem first8 (c : Dev nD) (t : Fin cfg0.N) (h : t.val = 0)  : (first m c t h).2.1
    = dwsPieces (k0_pay20 (BitVec.ofNat 32 (grid0.coords t 0).val)) (k0_pay21 (BitVec.ofNat 32 (grid0.coords t 0).val)) (k0_pay22 (BitVec.ofNat 32 (grid0.coords t 0).val)) (k0_pay23 (k0_pay19 (BitVec.ofNat 32 (grid0.coords t 0).val))) (iblk m c 0 t) (iblk m c 5 t) (iblk m c 6 t) := by
  unfold first runA
  dsimp only
  unfold runA.sl.r_18 runA.sl.r_16 runA.sl.r_14 runA.sl.r_12 runA.sl.r_11 runA.sl.r_10 runA.sl.r_9 runA.sl.r_8
  simp only [View.readAt_eq_ld, Memref.IsWhole.read_unread]
  rfl

theorem later7 (c : Dev nD) (t : Fin cfg0.N) (h : ¬t.val = 0) (p10 : Vec F S8x1024 .f32) (p11 : Vec F S4x256x256 .f32) : (later m c t h p10 p11).1
    = [⟨Rect.unit ![0, 0] ![256, 1024] inb_S256x1024_S256x1024_0_0, daPay (iblk m c 0 t) (iblk m c 1 t) (iblk m c 3 t) (iblk m c 4 t)⟩] := by
  unfold later runB
  dsimp only
  unfold runB.sl.r runB.sl.r_1 runB.sl.r_2 runB.sl.r_3 runB.sl.r_4 runB.sl.r_5
  simp only [View.readAt_eq_ld, Memref.IsWhole.read_unread, ld_rows, ld_row]

theorem later9 (c : Dev nD) (t : Fin cfg0.N) (h : ¬t.val = 0) (p10 : Vec F S8x1024 .f32) (p11 : Vec F S4x256x256 .f32) : (later m c t h p10 p11).2.2.1 = dpmPieces (iblk m c 0 t) (iblk m c 5 t) (iblk m c 6 t) := by
  unfold later runB
  dsimp only
  unfold runB.sl.r_18 runB.sl.r_16 runB.sl.r_14 runB.sl.r_13
  simp only [View.readAt_eq_ld, Memref.IsWhole.read_unread]
  rfl

theorem later8 (c : Dev nD) (t : Fin cfg0.N) (h : ¬t.val = 0) (p10 : Vec F S8x1024 .f32) (p11 : Vec F S4x256x256 .f32) : (later m c t h p10 p11).2.1
    = dwsPieces (k0_pay20 (BitVec.ofNat 32 (grid0.coords t 0).val)) (k0_pay21 (BitVec.ofNat 32 (grid0.coords t 0).val)) (k0_pay22 (BitVec.ofNat 32 (grid0.coords t 0).val)) (k0_pay23 (k0_pay19 (BitVec.ofNat 32 (grid0.coords t 0).val))) (iblk m c 0 t) (iblk m c 5 t) (iblk m c 6 t) := by
  unfold later runB
  dsimp only
  unfold runB.sl.r_18 runB.sl.r_16 runB.sl.r_14 runB.sl.r_12 runB.sl.r_11 runB.sl.r_10 runB.sl.r_9 runB.sl.r_8
  simp only [View.readAt_eq_ld, Memref.IsWhole.read_unread]
  rfl

theorem later10 (c : Dev nD) (t : Fin cfg0.N) (h : ¬t.val = 0) (p10 : Vec F S8x1024 .f32) (p11 : Vec F S4x256x256 .f32) :
    (later m c t h p10 p11).2.2.2.1 = vecPieces (iblk m c 0 t) (iblk m c 1 t) (iblk m c 2 t) (iblk m c 3 t) (iblk m c 4 t) (iblk m c 5 t) p10 := by
  unfold later runB
  dsimp only
  unfold runB.sl.r_6 runB.sl.r runB.sl.r_1 runB.sl.r_2 runB.sl.r_3 runB.sl.r_4 runB.sl.r_5 runB.sl.v227 runB.sl.v195 runB.sl.v163 runB.sl.v131 runB.sl.v76 runB.sl.v70
  simp only [View.readAt_eq_ld, Memref.IsWhole.read_unread, ld_rows, ld_row]
  rfl

theorem later11 (c : Dev nD) (t : Fin cfg0.N) (h : ¬t.val = 0) (p10 : Vec F S8x1024 .f32) (p11 : Vec F S4x256x256 .f32) :
    (later m c t h p10 p11).2.2.2.2.1 = dwpPieces (iblk m c 0 t) (iblk m c 2 t) (iblk m c 6 t) p11 := by
  unfold later runB
  dsimp only
  unfold runB.sl.r_19 runB.sl.r_17 runB.sl.r_15 runB.sl.v239 runB.sl.v207 runB.sl.v175
  simp only [View.readAt_eq_ld, Memref.IsWhole.read_unread]
  rfl

/-! ## The first point: its loads of the two sums load the zeros just stored -/

theorem zero2 : (![0, 0] : Fin 2 → ℕ) = fun _ => 0 := by funext a; fin_cases a <;> rfl
theorem zero3 : (![0, 0, 0] : Fin 3 → ℕ) = fun _ => 0 := by funext a; fin_cases a <;> rfl

theorem zero_v131 (c : Dev nD) (t : Fin cfg0.N) (x0 : Vec F S256x2048 .bf16) (x1 x2 : Vec F S256x1024 .bf16) (x3 x4 : Vec F S1x1024 .f32) (x5 : Vec F S4x256x256 .bf16) :
    runA.sl.v131 (F := F) c (ms0 t) (hs0 t) (ms1 t) (hs1 t) (ms3 t) (hs3 t) (ms4 t) (hs4 t) (ms10 t) x0 x1 x3 x4 = View.ld (Val := Elt F) (e' := .f32) (k0_pay4 (F := F)) (Rect.unit (s := S8x1024) ![3, 0] S1x256.size inb_S8x1024_S1x256_3_0) := by
  unfold runA.sl.v131 runA.sl.H10_4 runA.sl.H10_3 runA.sl.H10_2 runA.sl.H10_1
  refine readCov_over (ms10 t).view [_, _, _] zero2 _ _ (Rect.unit (s := S8x1024) ![3, 0] S1x256.size inb_S8x1024_S1x256_3_0) fun p hp x => ?_
  simp only [List.mem_cons, List.not_mem_nil, or_false] at hp
  rcases hp with rfl | rfl | rfl <;> first | (refine apart _ _ _ _ _ ?_ 0 (by decide) x; decide) | (refine apart _ _ _ _ _ ?_ 1 (by decide) x; decide)

theorem zero_v163 (c : Dev nD) (t : Fin cfg0.N) (x0 : Vec F S256x2048 .bf16) (x1 x2 : Vec F S256x1024 .bf16) (x3 x4 : Vec F S1x1024 .f32) (x5 : Vec F S4x256x256 .bf16) :
    runA.sl.v163 (F := F) c (ms0 t) (hs0 t) (ms1 t) (hs1 t) (ms2 t) (hs2 t) (ms3 t) (hs3 t) (ms4 t) (hs4 t) (ms5 t) (hs5 t) (ms10 t) x0 x1 x2 x3 x4 x5 = View.ld (Val := Elt F) (e' := .f32) (k0_pay4 (F := F)) (Rect.unit (s := S8x1024) ![3, 256] S1x256.size inb_S8x1024_S1x256_3_256) := by
  unfold runA.sl.v163 runA.sl.H10_5 runA.sl.H10_4 runA.sl.H10_3 runA.sl.H10_2 runA.sl.H10_1
  refine readCov_over (ms10 t).view [_, _, _, _] zero2 _ _ (Rect.unit (s := S8x1024) ![3, 256] S1x256.size inb_S8x1024_S1x256_3_256) fun p hp x => ?_
  simp only [List.mem_cons, List.not_mem_nil, or_false] at hp
  rcases hp with rfl | rfl | rfl | rfl <;> first | (refine apart _ _ _ _ _ ?_ 0 (by decide) x; decide) | (refine apart _ _ _ _ _ ?_ 1 (by decide) x; decide)

theorem zero_v195 (c : Dev nD) (t : Fin cfg0.N) (x0 : Vec F S256x2048 .bf16) (x1 x2 : Vec F S256x1024 .bf16) (x3 x4 : Vec F S1x1024 .f32) (x5 : Vec F S4x256x256 .bf16) :
    runA.sl.v195 (F := F) c (ms0 t) (hs0 t) (ms1 t) (hs1 t) (ms2 t) (hs2 t) (ms3 t) (hs3 t) (ms4 t) (hs4 t) (ms5 t) (hs5 t) (ms10 t) x0 x1 x2 x3 x4 x5 = View.ld (Val := Elt F) (e' := .f32) (k0_pay4 (F := F)) (Rect.unit (s := S8x1024) ![3, 512] S1x256.size inb_S8x1024_S1x256_3_512) := by
  unfold runA.sl.v195 runA.sl.H10_6 runA.sl.H10_5 runA.sl.H10_4 runA.sl.H10_3 runA.sl.H10_2 runA.sl.H10_1
  refine readCov_over (ms10 t).view [_, _, _, _, _] zero2 _ _ (Rect.unit (s := S8x1024) ![3, 512] S1x256.size inb_S8x1024_S1x256_3_512) fun p hp x => ?_
  simp only [List.mem_cons, List.not_mem_nil, or_false] at hp
  rcases hp with rfl | rfl | rfl | rfl | rfl <;> first | (refine apart _ _ _ _ _ ?_ 0 (by decide) x; decide) | (refine apart _ _ _ _ _ ?_ 1 (by decide) x; decide)

theorem zero_v227 (c : Dev nD) (t : Fin cfg0.N) (x0 : Vec F S256x2048 .bf16) (x1 x2 : Vec F S256x1024 .bf16) (x3 x4 : Vec F S1x1024 .f32) (x5 : Vec F S4x256x256 .bf16) :
    runA.sl.v227 (F := F) c (ms0 t) (hs0 t) (ms1 t) (hs1 t) (ms2 t) (hs2 t) (ms3 t) (hs3 t) (ms4 t) (hs4 t) (ms5 t) (hs5 t) (ms10 t) x0 x1 x2 x3 x4 x5 = View.ld (Val := Elt F) (e' := .f32) (k0_pay4 (F := F)) (Rect.unit (s := S8x1024) ![3, 768] S1x256.size inb_S8x1024_S1x256_3_768) := by
  unfold runA.sl.v227 runA.sl.H10_7 runA.sl.H10_6 runA.sl.H10_5 runA.sl.H10_4 runA.sl.H10_3 runA.sl.H10_2 runA.sl.H10_1
  refine readCov_over (ms10 t).view [_, _, _, _, _, _] zero2 _ _ (Rect.unit (s := S8x1024) ![3, 768] S1x256.size inb_S8x1024_S1x256_3_768) fun p hp x => ?_
  simp only [List.mem_cons, List.not_mem_nil, or_false] at hp
  rcases hp with rfl | rfl | rfl | rfl | rfl | rfl <;> first | (refine apart _ _ _ _ _ ?_ 0 (by decide) x; decide) | (refine apart _ _ _ _ _ ?_ 1 (by decide) x; decide)

theorem zero_v76 (c : Dev nD) (t : Fin cfg0.N) (x0 : Vec F S256x2048 .bf16) (x1 x2 : Vec F S256x1024 .bf16) (x3 x4 : Vec F S1x1024 .f32) (x5 : Vec F S4x256x256 .bf16) :
    runA.sl.v76 (F := F) c (ms0 t) (hs0 t) (ms1 t) (hs1 t) (ms3 t) (hs3 t) (ms4 t) (hs4 t) (ms10 t) x0 x1 x3 x4 = View.ld (Val := Elt F) (e' := .f32) (k0_pay4 (F := F)) (Rect.unit (s := S8x1024) ![2, 0] S1x1024.size inb_S8x1024_S1x1024_2_0) := by
  unfold runA.sl.v76 runA.sl.H10_3 runA.sl.H10_2 runA.sl.H10_1
  refine readCov_over (ms10 t).view [_, _] zero2 _ _ (Rect.unit (s := S8x1024) ![2, 0] S1x1024.size inb_S8x1024_S1x1024_2_0) fun p hp x => ?_
  simp only [List.mem_cons, List.not_mem_nil, or_false] at hp
  rcases hp with rfl | rfl <;> first | (refine apart _ _ _ _ _ ?_ 0 (by decide) x; decide) | (refine apart _ _ _ _ _ ?_ 1 (by decide) x; decide)

theorem zero_v70 (c : Dev nD) (t : Fin cfg0.N) (x0 : Vec F S256x2048 .bf16) (x1 x2 : Vec F S256x1024 .bf16) (x3 x4 : Vec F S1x1024 .f32) (x5 : Vec F S4x256x256 .bf16) :
    runA.sl.v70 (F := F) c (ms0 t) (hs0 t) (ms1 t) (hs1 t) (ms3 t) (hs3 t) (ms4 t) (hs4 t) (ms10 t) x0 x1 x3 x4 = View.ld (Val := Elt F) (e' := .f32) (k0_pay4 (F := F)) (Rect.unit (s := S8x1024) ![1, 0] S1x1024.size inb_S8x1024_S1x1024_1_0) := by
  unfold runA.sl.v70 runA.sl.H10_2 runA.sl.H10_1
  refine readCov_over (ms10 t).view [_] zero2 _ _ (Rect.unit (s := S8x1024) ![1, 0] S1x1024.size inb_S8x1024_S1x1024_1_0) fun p hp x => ?_
  simp only [List.mem_cons, List.not_mem_nil, or_false] at hp
  subst hp <;> first | (refine apart _ _ _ _ _ ?_ 0 (by decide) x; decide) | (refine apart _ _ _ _ _ ?_ 1 (by decide) x; decide)

theorem zero_v63 (c : Dev nD) (t : Fin cfg0.N) (x0 : Vec F S256x2048 .bf16) (x1 x2 : Vec F S256x1024 .bf16) (x3 x4 : Vec F S1x1024 .f32) (x5 : Vec F S4x256x256 .bf16) :
    runA.sl.v63 (F := F) c (ms10 t) = View.ld (Val := Elt F) (e' := .f32) (k0_pay4 (F := F)) (Rect.unit (s := S8x1024) ![0, 0] S1x1024.size inb_S8x1024_S1x1024_0_0) := by
  unfold runA.sl.v63 runA.sl.H10_1
  refine readCov_over (ms10 t).view [] zero2 _ _ (Rect.unit (s := S8x1024) ![0, 0] S1x1024.size inb_S8x1024_S1x1024_0_0) fun p hp x => ?_
  exact absurd hp List.not_mem_nil

theorem zero_v143 (c : Dev nD) (t : Fin cfg0.N) (x0 : Vec F S256x2048 .bf16) (x2 : Vec F S256x1024 .bf16) (x6 : Vec F S1x1024 .f32) :
    runA.sl.v143 (F := F) c (ms11 t) = View.ld (Val := Elt F) (e' := .f32) (k0_pay5 (F := F)) (Rect.unit (s := S4x256x256) ![0, 0, 0] S1x256x256.size inb_S4x256x256_S1x256x256_0_0_0) := by
  unfold runA.sl.v143 runA.sl.H11_1
  refine readCov_over (ms11 t).view [] zero3 _ _ (Rect.unit (s := S4x256x256) ![0, 0, 0] S1x256x256.size inb_S4x256x256_S1x256x256_0_0_0) fun p hp x => ?_
  exact absurd hp List.not_mem_nil

theorem zero_v175 (c : Dev nD) (t : Fin cfg0.N) (x0 : Vec F S256x2048 .bf16) (x2 : Vec F S256x1024 .bf16) (x6 : Vec F S1x1024 .f32) :
    runA.sl.v175 (F := F) c (ms0 t) (hs0 t) (ms2 t) (hs2 t) (ms6 t) (hs6 t) (ms11 t) x0 x2 x6 = View.ld (Val := Elt F) (e' := .f32) (k0_pay5 (F := F)) (Rect.unit (s := S4x256x256) ![1, 0, 0] S1x256x256.size inb_S4x256x256_S1x256x256_1_0_0) := by
  unfold runA.sl.v175 runA.sl.H11_2 runA.sl.H11_1
  refine readCov_over (ms11 t).view [_] zero3 _ _ (Rect.unit (s := S4x256x256) ![1, 0, 0] S1x256x256.size inb_S4x256x256_S1x256x256_1_0_0) fun p hp x => ?_
  simp only [List.mem_cons, List.not_mem_nil, or_false] at hp
  subst hp <;> (refine apart _ _ _ _ _ ?_ 0 (by decide) x; decide)

theorem zero_v207 (c : Dev nD) (t : Fin cfg0.N) (x0 : Vec F S256x2048 .bf16) (x2 : Vec F S256x1024 .bf16) (x6 : Vec F S1x1024 .f32) :
    runA.sl.v207 (F := F) c (ms0 t) (hs0 t) (ms2 t) (hs2 t) (ms6 t) (hs6 t) (ms11 t) x0 x2 x6 = View.ld (Val := Elt F) (e' := .f32) (k0_pay5 (F := F)) (Rect.unit (s := S4x256x256) ![2, 0, 0] S1x256x256.size inb_S4x256x256_S1x256x256_2_0_0) := by
  unfold runA.sl.v207 runA.sl.H11_3 runA.sl.H11_2 runA.sl.H11_1
  refine readCov_over (ms11 t).view [_, _] zero3 _ _ (Rect.unit (s := S4x256x256) ![2, 0, 0] S1x256x256.size inb_S4x256x256_S1x256x256_2_0_0) fun p hp x => ?_
  simp only [List.mem_cons, List.not_mem_nil, or_false] at hp
  rcases hp with rfl | rfl <;> (refine apart _ _ _ _ _ ?_ 0 (by decide) x; decide)

theorem zero_v239 (c : Dev nD) (t : Fin cfg0.N) (x0 : Vec F S256x2048 .bf16) (x2 : Vec F S256x1024 .bf16) (x6 : Vec F S1x1024 .f32) :
    runA.sl.v239 (F := F) c (ms0 t) (hs0 t) (ms2 t) (hs2 t) (ms6 t) (hs6 t) (ms11 t) x0 x2 x6 = View.ld (Val := Elt F) (e' := .f32) (k0_pay5 (F := F)) (Rect.unit (s := S4x256x256) ![3, 0, 0] S1x256x256.size inb_S4x256x256_S1x256x256_3_0_0) := by
  unfold runA.sl.v239 runA.sl.H11_4 runA.sl.H11_3 runA.sl.H11_2 runA.sl.H11_1
  refine readCov_over (ms11 t).view [_, _, _] zero3 _ _ (Rect.unit (s := S4x256x256) ![3, 0, 0] S1x256x256.size inb_S4x256x256_S1x256x256_3_0_0) fun p hp x => ?_
  simp only [List.mem_cons, List.not_mem_nil, or_false] at hp
  rcases hp with rfl | rfl | rfl <;> (refine apart _ _ _ _ _ ?_ 0 (by decide) x; decide)

theorem first10 (c : Dev nD) (t : Fin cfg0.N) (h : t.val = 0) : (first m c t h).2.2.2.1
    = vecPieces (iblk m c 0 t) (iblk m c 1 t) (iblk m c 2 t) (iblk m c 3 t) (iblk m c 4 t) (iblk m c 5 t) k0_pay4 ++ [⟨Rect.unit ![0, 0] ![8, 1024] inb_S8x1024_S8x1024_0_0, k0_pay4⟩] := by
  unfold first runA
  dsimp only
  rw [zero_v227]
  unfold runA.sl.H10_7; rw [zero_v195]
  unfold runA.sl.H10_6; rw [zero_v163]
  unfold runA.sl.H10_5; rw [zero_v131 c t _ _ (iblk m c 2 t) _ _ (iblk m c 5 t)]
  unfold runA.sl.H10_4; rw [zero_v76 c t _ _ (iblk m c 2 t) _ _ (iblk m c 5 t)]
  unfold runA.sl.H10_3; rw [zero_v70 c t _ _ (iblk m c 2 t) _ _ (iblk m c 5 t)]
  unfold runA.sl.H10_2; rw [zero_v63 c t (iblk m c 0 t) (iblk m c 1 t) (iblk m c 2 t) (iblk m c 3 t) (iblk m c 4 t) (iblk m c 5 t)]
  unfold runA.sl.H10_1 runA.sl.r_6 runA.sl.r runA.sl.r_1 runA.sl.r_2 runA.sl.r_3 runA.sl.r_4 runA.sl.r_5
  simp only [View.readAt_eq_ld, Memref.IsWhole.read_unread, ld_rows, ld_row]
  rfl

theorem first11 (c : Dev nD) (t : Fin cfg0.N) (h : t.val = 0) : (first m c t h).2.2.2.2.1
    = dwpPieces (iblk m c 0 t) (iblk m c 2 t) (iblk m c 6 t) k0_pay5 ++ [⟨Rect.unit ![0, 0, 0] ![4, 256, 256] inb_S4x256x256_S4x256x256_0_0_0, k0_pay5⟩] := by
  unfold first runA
  dsimp only
  unfold runA.sl.r_19; rw [zero_v239]
  unfold runA.sl.H11_4 runA.sl.r_17; rw [zero_v207]
  unfold runA.sl.H11_3 runA.sl.r_15; rw [zero_v175]
  unfold runA.sl.H11_2; rw [zero_v143 c t (iblk m c 0 t) (iblk m c 2 t) (iblk m c 6 t)]
  unfold runA.sl.H11_1
  simp only [View.readAt_eq_ld, Memref.IsWhole.read_unread]
  rfl

end Cert.EvenBwdIdeal.Hand

end
-- ==== Proof.Even.Row.lean ====
/- The gradient of `silu (layer_norm a)` along one row of 1024 numbers: the kernel's formula, the formula of the
   reference's reverse pass, and their equality on finite rows. -/
module

public import Idealize.ShloMosaic.Lib.Pointwise
public import Mathlib.Analysis.SpecialFunctions.Trigonometric.DerivHyp

@[expose] public section

noncomputable section

namespace Cert.Even

open Idealize.ShloMosaic

/-- One row of an array. -/
abbrev Row := Fin 1024 → EReal

/-- The constant 1024 of the two programs. -/
def width : EReal := Ideal.ofBits .f32 1149239296#32
/-- The constant the variance is kept away from zero by. -/
def eps : EReal := Ideal.ofBits .f32 897988541#32
/-- The constant 1/2. -/
def half : EReal := Ideal.ofBits .f32 1056964608#32
/-- The constant −1/2. -/
def negHalf : EReal := Ideal.ofBits .f32 3204448256#32

/-- A row's mean. -/
def mean (v : Row) : EReal := Ideal.div (∑ k, v k) width
/-- The centred row. -/
def xc (x : Row) : Row := fun k => x k - mean x
/-- The variance plus its constant. -/
def var (x : Row) : EReal := mean (fun k => xc x k * xc x k) + eps
/-- One over the standard deviation. -/
def rstd (x : Row) : EReal := Ideal.rsqrt (var x)
/-- The normalised row. -/
def xhat (x : Row) : Row := fun k => xc x k * rstd x
/-- The LayerNorm's output. -/
def lin (x g b : Row) : Row := fun k => xhat x k * g k + b k

/-- The kernel's sigmoid of the LayerNorm's output. -/
def sgm (x g b : Row) : Row := fun k => half * Ideal.tanh (half * lin x g b k) + half
/-- The kernel's gradient of the LayerNorm's output. -/
def dl (z x g b : Row) : Row := fun k => z k * (sgm x g b k * (1 + lin x g b k * (1 - sgm x g b k)))
/-- The kernel's gradient of the row. -/
def dx (z x g b : Row) : Row := fun k =>
  rstd x * (dl z x g b k * g k - mean (fun j => dl z x g b j * g j)
    - xhat x k * mean (fun j => dl z x g b j * g j * xhat x j))

/-- The reference's sigmoid of the LayerNorm's output. -/
def rsig (x g b : Row) : Row := fun k => Ideal.div 1 (1 + Ideal.exp (-(lin x g b k)))
/-- The reference's gradient of the LayerNorm's output. -/
def rdl (z x g b : Row) : Row := fun k =>
  z k * rsig x g b k + lin x g b k * z k * (rsig x g b k * (1 - rsig x g b k))
/-- The reference's gradient of the variance, spread over the row. -/
def rq (z x g b : Row) : EReal :=
  Ideal.div ((∑ j, xc x j * (rdl z x g b j * g j)) * (negHalf * Ideal.div (rstd x) (var x))) width
/-- The reference's gradient of the centred row. -/
def rw (z x g b : Row) : Row := fun k =>
  rdl z x g b k * g k * rstd x + xc x k * rq z x g b + rq z x g b * xc x k
/-- The reference's gradient of the row. -/
def rdx (z x g b : Row) : Row := fun k => rw z x g b k + mean (fun j => -rw z x g b j)

theorem width_eq : width = ((1024 : ℝ) : EReal) := by
  unfold width; simp [Ideal.ofBits, Ideal.ieee, -EReal.coe_mul]; norm_num
theorem half_eq : half = ((1 / 2 : ℝ) : EReal) := by
  unfold half; simp [Ideal.ofBits, Ideal.ieee, -EReal.coe_mul]; norm_num
theorem negHalf_eq : negHalf = ((-(1 / 2) : ℝ) : EReal) := by
  unfold negHalf; simp [Ideal.ofBits, Ideal.ieee, -EReal.coe_mul]; norm_num
theorem eps_eq : eps = ((8796093 / 8796093022208 : ℝ) : EReal) := by
  unfold eps; simp [Ideal.ofBits, Ideal.ieee, -EReal.coe_mul]; norm_num

/-- A finite sum of finite numbers is the sum over the reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The mean of a finite row is its mean over the reals. -/
theorem mean_coe (v : Fin 1024 → ℝ) : mean (fun k => (v k : EReal)) = (((∑ k, v k) * (1 / 1024) : ℝ) : EReal) := by
  unfold mean
  rw [width_eq, Ideal.div_coe (by norm_num), sum_coe, EReal.coe_mul]

/-- The two sigmoids are one function of the reals. -/
theorem sigmoid_eq (t : ℝ) : 1 / 2 * Real.tanh (1 / 2 * t) + 1 / 2 = 1 / (1 + Real.exp (-t)) := by
  have h1 : Real.exp (-t) = Real.exp (-(1 / 2 * t)) * Real.exp (-(1 / 2 * t)) := by rw [← Real.exp_add]; ring_nf
  have h2 : Real.exp (1 / 2 * t) * Real.exp (-(1 / 2 * t)) = 1 := by rw [← Real.exp_add]; simp
  have hp := Real.exp_pos (1 / 2 * t)
  have hn := Real.exp_pos (-(1 / 2 * t))
  rw [Real.tanh_eq_sinh_div_cosh, Real.sinh_eq, Real.cosh_eq, h1]
  generalize Real.exp (1 / 2 * t) = p at *
  generalize Real.exp (-(1 / 2 * t)) = n at *
  have : p = 1 / n := by field_simp; linarith
  subst this
  field_simp
  ring

section Finite

variable (x g b z : Fin 1024 → ℝ)

/-- On a finite row the normalisation is a finite row, with its two sums over the reals: the centred row sums to zero. -/
theorem norm_coe : ∃ (c : Fin 1024 → ℝ) (v r : ℝ), 0 < v ∧ r * r * v = 1 ∧ ∑ k, c k = 0 ∧
    (∀ k, xc (fun k => (x k : EReal)) k = (c k : EReal)) ∧ var (fun k => (x k : EReal)) = (v : EReal) ∧
    rstd (fun k => (x k : EReal)) = (r : EReal) := by
  have hee := eps_eq
  have he : (0 : ℝ) < 8796093 / 8796093022208 := by norm_num
  generalize (8796093 / 8796093022208 : ℝ) = e at hee he
  have hc : ∀ k, xc (fun k => (x k : EReal)) k = ((x k - (∑ k, x k) * (1 / 1024) : ℝ) : EReal) := fun k => by
    unfold xc; rw [mean_coe, EReal.coe_sub]
  generalize hcd : (fun k => x k - (∑ k, x k) * (1 / 1024)) = c
  have hc' : ∀ k, xc (fun k => (x k : EReal)) k = (c k : EReal) := fun k => by rw [hc, ← hcd]
  have hv : var (fun k => (x k : EReal)) = (((∑ k, c k * c k) * (1 / 1024) + e : ℝ) : EReal) := by
    unfold var
    simp only [hc', ← EReal.coe_mul]
    rw [mean_coe, hee, EReal.coe_add]
  have hpos : 0 < (∑ k, c k * c k) * (1 / 1024) + e := by
    have : 0 ≤ ∑ k, c k * c k := Finset.sum_nonneg fun k _ => mul_self_nonneg _
    positivity
  refine ⟨c, (∑ k, c k * c k) * (1 / 1024) + e, (Real.sqrt ((∑ k, c k * c k) * (1 / 1024) + e))⁻¹, hpos, ?_, ?_, hc', hv, ?_⟩
  · have hs := Real.mul_self_sqrt hpos.le
    have hs0 : Real.sqrt ((∑ k, c k * c k) * (1 / 1024) + e) ≠ 0 := (Real.sqrt_pos.mpr hpos).ne'
    generalize Real.sqrt ((∑ k, c k * c k) * (1 / 1024) + e) = s at hs hs0
    rw [← hs]
    field_simp
  · rw [← hcd, Finset.sum_sub_distrib]
    simp
    ring
  · unfold rstd
    rw [hv, Ideal.rsqrt_coe, if_neg (not_lt.mpr hpos.le), if_neg hpos.ne']

/-- The two gradients of the LayerNorm's output, and the two gradients of the row, agree on finite rows. -/
theorem dl_dx_eq :
    (∀ k, dl (fun k => (z k : EReal)) (fun k => (x k : EReal)) (fun k => (g k : EReal)) (fun k => (b k : EReal)) k
      = rdl (fun k => (z k : EReal)) (fun k => (x k : EReal)) (fun k => (g k : EReal)) (fun k => (b k : EReal)) k) ∧
    (∀ k, dx (fun k => (z k : EReal)) (fun k => (x k : EReal)) (fun k => (g k : EReal)) (fun k => (b k : EReal)) k
      = rdx (fun k => (z k : EReal)) (fun k => (x k : EReal)) (fun k => (g k : EReal)) (fun k => (b k : EReal)) k) := by
  obtain ⟨c, v, r, hv, hr, hc0, hc, hvar, hrs⟩ := norm_coe x
  have hx : ∀ k, xhat (fun k => (x k : EReal)) k = ((c k * r : ℝ) : EReal) := fun k => by
    unfold xhat; rw [hc, hrs, EReal.coe_mul]
  have hl : ∀ k, lin (fun k => (x k : EReal)) (fun k => (g k : EReal)) (fun k => (b k : EReal)) k
      = ((c k * r * g k + b k : ℝ) : EReal) := fun k => by
    unfold lin; rw [hx]; simp only [EReal.coe_add, EReal.coe_mul]
  have hs : ∀ k, sgm (fun k => (x k : EReal)) (fun k => (g k : EReal)) (fun k => (b k : EReal)) k
      = ((1 / (1 + Real.exp (-(c k * r * g k + b k))) : ℝ) : EReal) := fun k => by
    unfold sgm
    rw [hl, half_eq, ← EReal.coe_mul, Ideal.tanh_coe, ← EReal.coe_mul, ← EReal.coe_add, sigmoid_eq]
  have hrsg : ∀ k, rsig (fun k => (x k : EReal)) (fun k => (g k : EReal)) (fun k => (b k : EReal)) k
      = ((1 / (1 + Real.exp (-(c k * r * g k + b k))) : ℝ) : EReal) := fun k => by
    unfold rsig
    have hp := Real.exp_pos (-(c k * r * g k + b k))
    rw [hl, ← EReal.coe_neg, Ideal.exp_coe, ← EReal.coe_one, ← EReal.coe_add, Ideal.div_coe (by positivity), EReal.coe_one, one_mul]
  generalize hsd : (fun k => 1 / (1 + Real.exp (-(c k * r * g k + b k)))) = s at *
  have hs' : ∀ k, sgm (fun k => (x k : EReal)) (fun k => (g k : EReal)) (fun k => (b k : EReal)) k = (s k : EReal) := fun k => by rw [hs, ← hsd]
  have hr' : ∀ k, rsig (fun k => (x k : EReal)) (fun k => (g k : EReal)) (fun k => (b k : EReal)) k = (s k : EReal) := fun k => by rw [hrsg, ← hsd]
  generalize hld : (fun k => c k * r * g k + b k) = l
  have hl' : ∀ k, lin (fun k => (x k : EReal)) (fun k => (g k : EReal)) (fun k => (b k : EReal)) k = (l k : EReal) := fun k => by rw [hl, ← hld]
  have hdl : ∀ k, dl (fun k => (z k : EReal)) (fun k => (x k : EReal)) (fun k => (g k : EReal)) (fun k => (b k : EReal)) k
      = ((z k * (s k * (1 + l k * (1 - s k))) : ℝ) : EReal) := fun k => by
    unfold dl
    rw [hs', hl']
    simp only [EReal.coe_mul, EReal.coe_add, EReal.coe_sub, EReal.coe_one]
  have hrdl : ∀ k, rdl (fun k => (z k : EReal)) (fun k => (x k : EReal)) (fun k => (g k : EReal)) (fun k => (b k : EReal)) k
      = ((z k * (s k * (1 + l k * (1 - s k))) : ℝ) : EReal) := fun k => by
    unfold rdl
    rw [hr', hl', show z k * (s k * (1 + l k * (1 - s k))) = z k * s k + l k * z k * (s k * (1 - s k)) by ring]
    simp only [EReal.coe_mul, EReal.coe_add, EReal.coe_sub, EReal.coe_one]
  generalize hdd : (fun k => z k * (s k * (1 + l k * (1 - s k)))) = d
  have hdl' : ∀ k, dl (fun k => (z k : EReal)) (fun k => (x k : EReal)) (fun k => (g k : EReal)) (fun k => (b k : EReal)) k = (d k : EReal) := fun k => by rw [hdl, ← hdd]
  have hrdl' : ∀ k, rdl (fun k => (z k : EReal)) (fun k => (x k : EReal)) (fun k => (g k : EReal)) (fun k => (b k : EReal)) k = (d k : EReal) := fun k => by rw [hrdl, ← hdd]
  refine ⟨fun k => by rw [hdl', hrdl'], fun k => ?_⟩
  have hq : rq (fun k => (z k : EReal)) (fun k => (x k : EReal)) (fun k => (g k : EReal)) (fun k => (b k : EReal))
      = (((∑ j, c j * (d j * g j)) * (-(1 / 2) * (r * (1 / v))) * (1 / 1024) : ℝ) : EReal) := by
    unfold rq
    simp only [hc, hrdl', ← EReal.coe_mul]
    rw [sum_coe, hrs, hvar, negHalf_eq, Ideal.div_coe hv.ne', width_eq, Ideal.div_coe (by norm_num)]
    simp only [← EReal.coe_mul]
  generalize hqd : (∑ j, c j * (d j * g j)) * (-(1 / 2) * (r * (1 / v))) * (1 / 1024) = q at hq
  have hw : ∀ k, rw (fun k => (z k : EReal)) (fun k => (x k : EReal)) (fun k => (g k : EReal)) (fun k => (b k : EReal)) k
      = ((d k * g k * r + c k * q + q * c k : ℝ) : EReal) := fun k => by
    unfold rw
    rw [hrdl', hrs, hc, hq]
    simp only [EReal.coe_mul, EReal.coe_add]
  unfold dx rdx
  simp only [hw, hdl', hx, hrs, ← EReal.coe_mul, ← EReal.coe_neg]
  rw [mean_coe, mean_coe, mean_coe]
  simp only [← EReal.coe_mul, ← EReal.coe_sub, ← EReal.coe_add]
  congr 1
  have e1 : ∑ j, d j * g j * (c j * r) = r * ∑ j, c j * (d j * g j) := by
    rw [Finset.mul_sum]; exact Finset.sum_congr rfl fun j _ => by ring
  have e2 : ∑ j, -(d j * g j * r + c j * q + q * c j) = -(r * ∑ j, d j * g j) := by
    have : ∑ j, -(d j * g j * r + c j * q + q * c j) = -(r * ∑ j, d j * g j) - 2 * q * ∑ j, c j := by
      rw [Finset.mul_sum, Finset.mul_sum, ← Finset.sum_neg_distrib, ← Finset.sum_sub_distrib]
      exact Finset.sum_congr rfl fun j _ => by ring
    rw [this, hc0]; ring
  rw [e1, e2, ← hqd]
  generalize ∑ j, c j * (d j * g j) = A
  generalize ∑ j, d j * g j = B
  have hv' : 1 / v = r * r := by field_simp; linarith
  rw [hv']
  ring

end Finite

end Cert.Even

end
-- ==== Proof.Even.Pool.lean ====
/- The pooling half of the mixer's gradient, row by row: the columns in four groups of 256, each with its own map. -/
module

public import proofs.«01_k».proof.Proof.Even.Row

@[expose] public section

noncomputable section

namespace Cert.Even

open Idealize.ShloMosaic

/-- One row of the mixer output's gradient: 1024 columns of the activation's half, 1024 of the pooling half. -/
abbrev Wide := Fin 2048 → EReal
/-- The four groups' maps. -/
abbrev Maps := Fin 4 → Fin 256 → Fin 256 → EReal

/-- A column's group. -/
def grp (k : Fin 1024) : Fin 4 := ⟨k.val / 256, by omega⟩
/-- A column's place in its group. -/
def off (k : Fin 1024) : Fin 256 := ⟨k.val % 256, Nat.mod_lt _ (by decide)⟩
/-- The column at place `e` of group `g`. -/
def col (g : Fin 4) (e : Fin 256) : Fin 1024 := ⟨256 * g.val + e.val, by omega⟩

theorem grp_col (g : Fin 4) (e : Fin 256) : grp (col g e) = g := Fin.ext (by simp only [grp, col]; omega)
theorem off_col (g : Fin 4) (e : Fin 256) : off (col g e) = e := Fin.ext (by simp only [off, col]; omega)
theorem col_grp_off (k : Fin 1024) : col (grp k) (off k) = k := Fin.ext (by simp only [grp, off, col]; omega)

/-- The activation's half of the gradient. -/
def zlo (z : Wide) : Row := fun k => z ⟨k.val, by omega⟩
/-- The pooling half of the gradient. -/
def zhi (z : Wide) : Row := fun k => z ⟨1024 + k.val, by omega⟩
/-- The gradient of the group maps' output: the pooling half times the scale. -/
def dq (z : Wide) (s : Row) : Row := fun k => zhi z k * s k
/-- The group maps applied to a row. -/
def pooled (p : Row) (w : Maps) : Row := fun k => ∑ i, p (col (grp k) i) * w (grp k) i (off k)
/-- The gradient of the group maps' input. -/
def dpm (z : Wide) (s : Row) (w : Maps) : Row := fun k => ∑ e, dq z s (col (grp k) e) * w (grp k) (off k) e
/-- What one row adds to the eight rows of column sums: the gradients of the gain, of the bias, of the convolution's
    bias and of the scale; the last four rows stay zero. -/
def sums (z : Wide) (x p g b : Row) (w : Maps) (i : Fin 8) : Row := fun k =>
  if i.val = 0 then dl (zlo z) x g b k * xhat x k
  else if i.val = 1 then dl (zlo z) x g b k
  else if i.val = 2 then dx (zlo z) x g b k
  else if i.val = 3 then zhi z k * pooled p w k
  else 0
/-- What one row adds to the gradient of the group maps. -/
def dmap (z : Wide) (p s : Row) : Maps := fun g i e => p (col g i) * dq z s (col g e)

end Cert.Even

end
-- ==== Proof.Even.Block.lean ====
/- What one grid point's stores hold, row by row. -/
module

public import proofs.«01_k».proof.Proof.Even.Pieces
public import proofs.«01_k».proof.Proof.Even.Pool
public import Idealize.ShloMosaic.Lib.Pointwise

@[expose] public section

set_option maxRecDepth 16384

noncomputable section

namespace Cert.EvenBwdIdeal.Hand

open Cert.EvenBwdIdeal Cert.EvenBwdIdeal.Gen Cert.Even Idealize.ShloMosaic Idealize.SL.Sem

variable (x0 : Vec Ideal S256x2048 .bf16) (x1 x2 : Vec Ideal S256x1024 .bf16) (x3 x4 x6 : Vec Ideal S1x1024 .f32)
  (x5 : Vec Ideal S4x256x256 .bf16)

/-- Row `r` of a block. -/
abbrev wide (r : Fin 256) : Wide := fun k => x0 (ix2 r k)
abbrev row (r : Fin 256) : Row := fun k => x1 (ix2 r k)
abbrev vec : Row := fun k => x3 (ix2 0 k)
abbrev maps : Maps := fun g i e => x5 (ix3 g i e)

/-! ## The LayerNorm half -/

/-- The row's reciprocal deviation. -/
theorem pay7_at (r : Fin 256) : k0_pay7 x1 (ix2 r 0) = rstd (row x1 r) := by
  pointwise [k0_pay7, k0_pay6]; rfl
theorem pay8_at (r : Fin 256) (k : Fin 1024) : k0_pay8 x1 (ix2 r k) = xhat (row x1 r) k := by
  pointwise [k0_pay8, k0_pay7, k0_pay6]; rfl
theorem pay10_at (r : Fin 256) (k : Fin 1024) : k0_pay10 x1 x3 x4 (ix2 r k) = sgm (row x1 r) (vec x3) (vec x4) k := by
  pointwise [k0_pay10, k0_pay9, pay8_at]; rfl
theorem pay12_at (r : Fin 256) (k : Fin 1024) : k0_pay12 x1 x3 x4 (ix2 r k)
    = lin (row x1 r) (vec x3) (vec x4) k * (1 - sgm (row x1 r) (vec x3) (vec x4) k) := by
  pointwise [k0_pay12, k0_pay9, pay8_at, pay10_at]; rfl
theorem pay11_at (r : Fin 256) (k : Fin 1024) :
    k0_pay11 (View.ld x0 (Rect.unit ![0, 0] ![256, 1024] inb_S256x2048_S256x1024_0_0)) (ix2 r k) = zlo (wide x0 r) k := by
  pointwise [k0_pay11]; rfl

theorem dl_at (r : Fin 256) (k : Fin 1024) :
    zlo (wide x0 r) k * (sgm (row x1 r) (vec x3) (vec x4) k * (1 + lin (row x1 r) (vec x3) (vec x4) k * (1 - sgm (row x1 r) (vec x3) (vec x4) k)))
      = dl (zlo (wide x0 r)) (row x1 r) (vec x3) (vec x4) k := rfl

theorem pay14_at (r : Fin 256) (k : Fin 1024) :
    k0_pay14 (k0_pay7 x1) (k0_pay8 x1) x3 (k0_pay10 x1 x3 x4) (k0_pay11 (View.ld x0 (Rect.unit ![0, 0] ![256, 1024] inb_S256x2048_S256x1024_0_0))) (k0_pay12 x1 x3 x4) (ix2 r k)
      = dx (zlo (wide x0 r)) (row x1 r) (vec x3) (vec x4) k := by
  pointwise [k0_pay14, k0_pay13, pay7_at, pay8_at, pay10_at, pay11_at, pay12_at]; rfl

/-! ## The pooling half -/

section Groups

variable (g : Fin 4) (P : Vec Ideal S256x256 .bf16) (W : Vec Ideal S1x256x256 .bf16) (Z : Vec Ideal S256x256 .bf16)
  (S : Vec Ideal S1x256 .f32) (hP : ∀ r k, P (ix2 r k) = x2 (ix2 r (col g k))) (hW : ∀ i e, W (ix3 0 i e) = x5 (ix3 g i e))
  (hZ : ∀ r k, Z (ix2 r k) = zhi (wide x0 r) (col g k)) (hS : ∀ k, S (ix2 0 k) = x6 (ix2 0 (col g k)))

include hW hZ hS in
theorem pay29_at (r k : Fin 256) : k0_pay29 W Z S (ix2 r k) = dpm (wide x0 r) (vec x6) (maps x5) (col g k) := by
  pointwise [k0_pay29, k0_pay28, k0_pay26, k0_pay25]
  simp only [dpm, dq, grp_col, off_col, hW, hZ, hS]

include hP hW hZ in
theorem pay27_at (b : Vec Ideal S1x256 .f32) (k : Fin 256) :
    k0_pay27 P W Z b (ix2 0 k) = b (ix2 0 k) + ∑ r, zhi (wide x0 r) (col g k) * pooled (row x2 r) (maps x5) (col g k) := by
  pointwise [k0_pay27, k0_pay26, k0_pay25, k0_pay24]
  simp only [pooled, grp_col, off_col, hW, hZ, hP]

include hP hZ hS in
theorem pay30_at (b : Vec Ideal S1x256x256 .f32) (i e : Fin 256) :
    k0_pay30 P Z S b (ix3 0 i e) = b (ix3 0 i e) + ∑ r, dmap (wide x0 r) (row x2 r) (vec x6) g i e := by
  pointwise [k0_pay30, k0_pay28, k0_pay26, k0_pay24]
  simp only [dmap, dq, hP, hZ, hS]

end Groups

/-! ## The parts of the blocks each group reads -/

theorem ldP0 (r k : Fin 256) : View.ld x2 (Rect.unit ![0, 0] ![256, 256] inb_S256x1024_S256x256_0_0) (ix2 r k) = x2 (ix2 r (col 0 k)) := by
  pointwise []; exact congrArg (fun j => x2 (ix2 r j)) (Fin.ext (show k.val = 256 * 0 + k.val by omega))
theorem ldW0 (i e : Fin 256) : View.ld x5 (Rect.unit ![0, 0, 0] ![1, 256, 256] inb_S4x256x256_S1x256x256_0_0_0) (ix3 0 i e) = x5 (ix3 0 i e) := by
  pointwise []
theorem ldZ0 (r k : Fin 256) : View.ld x0 (Rect.unit ![0, 1024] ![256, 256] inb_S256x2048_S256x256_0_1024) (ix2 r k) = zhi (wide x0 r) (col 0 k) := by
  pointwise []; exact congrArg (fun j => x0 (ix2 r j)) (Fin.ext (show 1024 + k.val = 1024 + (256 * 0 + k.val) by omega))
theorem ldS0 (k : Fin 256) : View.ld x6 (Rect.unit ![0, 0] ![1, 256] inb_S1x1024_S1x256_0_0) (ix2 0 k) = x6 (ix2 0 (col 0 k)) := by
  pointwise []; exact congrArg (fun j => x6 (ix2 0 j)) (Fin.ext (show k.val = 256 * 0 + k.val by omega))
theorem ldP1 (r k : Fin 256) : View.ld x2 (Rect.unit ![0, 256] ![256, 256] inb_S256x1024_S256x256_0_256) (ix2 r k) = x2 (ix2 r (col 1 k)) := by
  pointwise []; exact congrArg (fun j => x2 (ix2 r j)) (Fin.ext (show 256 + k.val = 256 * 1 + k.val by omega))
theorem ldW1 (i e : Fin 256) : View.ld x5 (Rect.unit ![1, 0, 0] ![1, 256, 256] inb_S4x256x256_S1x256x256_1_0_0) (ix3 0 i e) = x5 (ix3 1 i e) := by
  pointwise []
theorem ldZ1 (r k : Fin 256) : View.ld x0 (Rect.unit ![0, 1280] ![256, 256] inb_S256x2048_S256x256_0_1280) (ix2 r k) = zhi (wide x0 r) (col 1 k) := by
  pointwise []; exact congrArg (fun j => x0 (ix2 r j)) (Fin.ext (show 1280 + k.val = 1024 + (256 * 1 + k.val) by omega))
theorem ldS1 (k : Fin 256) : View.ld x6 (Rect.unit ![0, 256] ![1, 256] inb_S1x1024_S1x256_0_256) (ix2 0 k) = x6 (ix2 0 (col 1 k)) := by
  pointwise []; exact congrArg (fun j => x6 (ix2 0 j)) (Fin.ext (show 256 + k.val = 256 * 1 + k.val by omega))
theorem ldP2 (r k : Fin 256) : View.ld x2 (Rect.unit ![0, 512] ![256, 256] inb_S256x1024_S256x256_0_512) (ix2 r k) = x2 (ix2 r (col 2 k)) := by
  pointwise []; exact congrArg (fun j => x2 (ix2 r j)) (Fin.ext (show 512 + k.val = 256 * 2 + k.val by omega))
theorem ldW2 (i e : Fin 256) : View.ld x5 (Rect.unit ![2, 0, 0] ![1, 256, 256] inb_S4x256x256_S1x256x256_2_0_0) (ix3 0 i e) = x5 (ix3 2 i e) := by
  pointwise []
theorem ldZ2 (r k : Fin 256) : View.ld x0 (Rect.unit ![0, 1536] ![256, 256] inb_S256x2048_S256x256_0_1536) (ix2 r k) = zhi (wide x0 r) (col 2 k) := by
  pointwise []; exact congrArg (fun j => x0 (ix2 r j)) (Fin.ext (show 1536 + k.val = 1024 + (256 * 2 + k.val) by omega))
theorem ldS2 (k : Fin 256) : View.ld x6 (Rect.unit ![0, 512] ![1, 256] inb_S1x1024_S1x256_0_512) (ix2 0 k) = x6 (ix2 0 (col 2 k)) := by
  pointwise []; exact congrArg (fun j => x6 (ix2 0 j)) (Fin.ext (show 512 + k.val = 256 * 2 + k.val by omega))
theorem ldP3 (r k : Fin 256) : View.ld x2 (Rect.unit ![0, 768] ![256, 256] inb_S256x1024_S256x256_0_768) (ix2 r k) = x2 (ix2 r (col 3 k)) := by
  pointwise []; exact congrArg (fun j => x2 (ix2 r j)) (Fin.ext (show 768 + k.val = 256 * 3 + k.val by omega))
theorem ldW3 (i e : Fin 256) : View.ld x5 (Rect.unit ![3, 0, 0] ![1, 256, 256] inb_S4x256x256_S1x256x256_3_0_0) (ix3 0 i e) = x5 (ix3 3 i e) := by
  pointwise []
theorem ldZ3 (r k : Fin 256) : View.ld x0 (Rect.unit ![0, 1792] ![256, 256] inb_S256x2048_S256x256_0_1792) (ix2 r k) = zhi (wide x0 r) (col 3 k) := by
  pointwise []; exact congrArg (fun j => x0 (ix2 r j)) (Fin.ext (show 1792 + k.val = 1024 + (256 * 3 + k.val) by omega))
theorem ldS3 (k : Fin 256) : View.ld x6 (Rect.unit ![0, 768] ![1, 256] inb_S1x1024_S1x256_0_768) (ix2 0 k) = x6 (ix2 0 (col 3 k)) := by
  pointwise []; exact congrArg (fun j => x6 (ix2 0 j)) (Fin.ext (show 768 + k.val = 256 * 3 + k.val by omega))

/-! ## The windows' counts -/

/-- How many positions group `g`'s window holds at position `s` of the two sequences of 2048. -/
def cnt (g : Fin 4) (s : ℕ) : EReal := (((min (s % 2048 + 1) (2 ^ (g.val + 1)) : ℕ) : ℝ) : EReal)

/-- The position, counted from one. -/
theorem pos_at : ∀ (t : Fin 16) (r : Fin 256), k0_pay19 (BitVec.ofNat 32 t.val) (ix2 r 0) = BitVec.ofNat 32 ((256 * t.val + r.val) % 2048 + 1) := by
  decide +kernel
theorem min_at (g : Fin 4) : ∀ s : Fin 2048, IntOp.minsi (BitVec.ofNat 32 (s.val + 1)) (BitVec.ofNat 32 (2 ^ (g.val + 1))) = BitVec.ofNat 32 (min (s.val + 1) (2 ^ (g.val + 1))) := by
  revert g; decide +kernel
theorem int_at (n : ℕ) (h : n < 2 ^ 31) : FloatOps.sitofp (F := Ideal) .f32 (BitVec.ofNat 32 n) = ((n : ℝ) : EReal) := by
  show ((((BitVec.ofNat 32 n).toInt : ℤ) : ℝ) : EReal) = _
  have e : (BitVec.ofNat 32 n).toInt = n := by
    rw [BitVec.toInt_eq_toNat_of_lt (by rw [BitVec.toNat_ofNat]; omega), BitVec.toNat_ofNat, Nat.mod_eq_of_lt (by omega)]
  rw [e]
  norm_cast
theorem cnt_at (g : Fin 4) (n : ℕ) :
    FloatOps.sitofp (F := Ideal) .f32 (IntOp.minsi (BitVec.ofNat 32 (n % 2048 + 1)) (BitVec.ofNat 32 (2 ^ (g.val + 1)))) = cnt g n := by
  have h := min_at g ⟨n % 2048, Nat.mod_lt _ (by decide)⟩
  dsimp only at h
  rw [h, int_at _ (by have := Nat.mod_lt n (show 2048 > 0 by decide); omega)]
  rfl
theorem inv0 (t : Fin 16) (r : Fin 256) : k0_pay20 (F := Ideal) (BitVec.ofNat 32 t.val) (ix2 r 0) = Ideal.div 1 (cnt 0 (256 * t.val + r.val)) := by
  pointwise [k0_pay20, pos_at]; rw [← cnt_at]; rfl
theorem inv1 (t : Fin 16) (r : Fin 256) : k0_pay21 (F := Ideal) (BitVec.ofNat 32 t.val) (ix2 r 0) = Ideal.div 1 (cnt 1 (256 * t.val + r.val)) := by
  pointwise [k0_pay21, pos_at]; rw [← cnt_at]; rfl
theorem inv2 (t : Fin 16) (r : Fin 256) : k0_pay22 (F := Ideal) (BitVec.ofNat 32 t.val) (ix2 r 0) = Ideal.div 1 (cnt 2 (256 * t.val + r.val)) := by
  pointwise [k0_pay22, pos_at]; rw [← cnt_at]; rfl
theorem inv3 (t : Fin 16) (r : Fin 256) : k0_pay23 (F := Ideal) (k0_pay19 (BitVec.ofNat 32 t.val)) (ix2 r 0) = Ideal.div 1 (cnt 3 (256 * t.val + r.val)) := by
  pointwise [k0_pay23, pos_at]; rw [← cnt_at]; rfl

/-! ## The five outputs -/

theorem da_at (r : Fin 256) (k : Fin 1024) : daPay x0 x1 x3 x4 (ix2 r k) = dx (zlo (wide x0 r)) (row x1 r) (vec x3) (vec x4) k := by
  pointwise [k0_pay15, pay14_at]

/-- Place `k` of group `g` in a box of 256 columns. -/
theorem colbox (g : Fin 4) (k : Fin 256) (n : ℕ) (hn : n = 256 * g.val) (h : n + k.val < 1024) : (⟨n + k.val, h⟩ : Fin 1024) = col g k :=
  Fin.ext (by show n + k.val = 256 * g.val + k.val; omega)

theorem dpm_at (r : Fin 256) (k : Fin 1024) : View.canon (dpmPieces x0 x5 x6) (ix2 r k) = dpm (wide x0 r) (vec x6) (maps x5) k := by
  refine View.canon_apply_of_pieces (fun y : S256x1024.Idx => dpm (wide x0 (y 0)) (vec x6) (maps x5) (y 1)) (dpmPieces x0 x5 x6) (fun p hp q => ?_) (ix2 r k)
    (View.cover_of_tiledL (dpmPieces x0 x5 x6) ![256, 256] (by sl_kernel_rfl) _)
  simp only [List.mem_cons, List.not_mem_nil, or_false] at hp
  rcases hp with rfl | rfl | rfl | rfl
  · show k0_pay31 (F := Ideal) _ _ _ q = View.ld (Val := Elt Ideal) (e' := .bf16) (fun y : S256x1024.Idx => dpm (wide x0 (y 0)) (vec x6) (maps x5) (y 1)) (Rect.unit ![0, 768] ![256, 256] inb_S256x1024_S256x256_0_768) q
    idx_vars q
    pointwise [k0_pay31]
    rw [pay29_at x0 x6 x5 3 _ _ _ (ldW3 x5) (ldZ3 x0) (ldS3 x6) q0 q1]
    exact congrArg (dpm _ _ _) (Fin.ext (show 256 * 3 + q1.val = 768 + q1.val by omega))
  · show k0_pay31 (F := Ideal) _ _ _ q = View.ld (Val := Elt Ideal) (e' := .bf16) (fun y : S256x1024.Idx => dpm (wide x0 (y 0)) (vec x6) (maps x5) (y 1)) (Rect.unit ![0, 512] ![256, 256] inb_S256x1024_S256x256_0_512) q
    idx_vars q
    pointwise [k0_pay31]
    rw [pay29_at x0 x6 x5 2 _ _ _ (ldW2 x5) (ldZ2 x0) (ldS2 x6) q0 q1]
    exact congrArg (dpm _ _ _) (Fin.ext (show 256 * 2 + q1.val = 512 + q1.val by omega))
  · show k0_pay31 (F := Ideal) _ _ _ q = View.ld (Val := Elt Ideal) (e' := .bf16) (fun y : S256x1024.Idx => dpm (wide x0 (y 0)) (vec x6) (maps x5) (y 1)) (Rect.unit ![0, 256] ![256, 256] inb_S256x1024_S256x256_0_256) q
    idx_vars q
    pointwise [k0_pay31]
    rw [pay29_at x0 x6 x5 1 _ _ _ (ldW1 x5) (ldZ1 x0) (ldS1 x6) q0 q1]
    exact congrArg (dpm _ _ _) (Fin.ext (show 256 * 1 + q1.val = 256 + q1.val by omega))
  · show k0_pay31 (F := Ideal) _ _ _ q = View.ld (Val := Elt Ideal) (e' := .bf16) (fun y : S256x1024.Idx => dpm (wide x0 (y 0)) (vec x6) (maps x5) (y 1)) (Rect.unit ![0, 0] ![256, 256] inb_S256x1024_S256x256_0_0) q
    idx_vars q
    pointwise [k0_pay31]
    rw [pay29_at x0 x6 x5 0 _ _ _ (ldW0 x5) (ldZ0 x0) (ldS0 x6) q0 q1]
    exact congrArg (dpm _ _ _) (Fin.ext (show 256 * 0 + q1.val = q1.val by omega))

theorem dws_at (n0 n1 n2 n3 : FVec Ideal S256x1 .f32) (n : Fin 4 → Fin 256 → EReal) (h0 : ∀ r, n0 (ix2 r 0) = n 0 r) (h1 : ∀ r, n1 (ix2 r 0) = n 1 r)
    (h2 : ∀ r, n2 (ix2 r 0) = n 2 r) (h3 : ∀ r, n3 (ix2 r 0) = n 3 r) (r : Fin 256) (k : Fin 1024) :
    View.canon (dwsPieces n0 n1 n2 n3 x0 x5 x6) (ix2 r k) = dpm (wide x0 r) (vec x6) (maps x5) k * n (grp k) r := by
  refine View.canon_apply_of_pieces (fun y : S256x1024.Idx => dpm (wide x0 (y 0)) (vec x6) (maps x5) (y 1) * n (grp (y 1)) (y 0)) (dwsPieces n0 n1 n2 n3 x0 x5 x6) (fun p hp q => ?_) (ix2 r k)
    (View.cover_of_tiledL (dwsPieces n0 n1 n2 n3 x0 x5 x6) ![256, 256] (by sl_kernel_rfl) _)
  simp only [List.mem_cons, List.not_mem_nil, or_false] at hp
  rcases hp with rfl | rfl | rfl | rfl
  · show k0_pay32 (F := Ideal) _ _ q = View.ld (Val := Elt Ideal) (e' := .bf16) (fun y : S256x1024.Idx => dpm (wide x0 (y 0)) (vec x6) (maps x5) (y 1) * n (grp (y 1)) (y 0)) (Rect.unit ![0, 768] ![256, 256] inb_S256x1024_S256x256_0_768) q
    idx_vars q
    pointwise [k0_pay32]
    have e : col 3 q1 = ⟨768 + q1.val, by omega⟩ := Fin.ext (show 256 * 3 + q1.val = 768 + q1.val by omega)
    rw [pay29_at x0 x6 x5 3 _ _ _ (ldW3 x5) (ldZ3 x0) (ldS3 x6) q0 q1, h3, ← e, grp_col]
  · show k0_pay32 (F := Ideal) _ _ q = View.ld (Val := Elt Ideal) (e' := .bf16) (fun y : S256x1024.Idx => dpm (wide x0 (y 0)) (vec x6) (maps x5) (y 1) * n (grp (y 1)) (y 0)) (Rect.unit ![0, 512] ![256, 256] inb_S256x1024_S256x256_0_512) q
    idx_vars q
    pointwise [k0_pay32]
    have e : col 2 q1 = ⟨512 + q1.val, by omega⟩ := Fin.ext (show 256 * 2 + q1.val = 512 + q1.val by omega)
    rw [pay29_at x0 x6 x5 2 _ _ _ (ldW2 x5) (ldZ2 x0) (ldS2 x6) q0 q1, h2, ← e, grp_col]
  · show k0_pay32 (F := Ideal) _ _ q = View.ld (Val := Elt Ideal) (e' := .bf16) (fun y : S256x1024.Idx => dpm (wide x0 (y 0)) (vec x6) (maps x5) (y 1) * n (grp (y 1)) (y 0)) (Rect.unit ![0, 256] ![256, 256] inb_S256x1024_S256x256_0_256) q
    idx_vars q
    pointwise [k0_pay32]
    have e : col 1 q1 = ⟨256 + q1.val, by omega⟩ := Fin.ext (show 256 * 1 + q1.val = 256 + q1.val by omega)
    rw [pay29_at x0 x6 x5 1 _ _ _ (ldW1 x5) (ldZ1 x0) (ldS1 x6) q0 q1, h1, ← e, grp_col]
  · show k0_pay32 (F := Ideal) _ _ q = View.ld (Val := Elt Ideal) (e' := .bf16) (fun y : S256x1024.Idx => dpm (wide x0 (y 0)) (vec x6) (maps x5) (y 1) * n (grp (y 1)) (y 0)) (Rect.unit ![0, 0] ![256, 256] inb_S256x1024_S256x256_0_0) q
    idx_vars q
    pointwise [k0_pay32]
    have e : col 0 q1 = ⟨q1.val, by omega⟩ := Fin.ext (show 256 * 0 + q1.val = q1.val by omega)
    rw [pay29_at x0 x6 x5 0 _ _ _ (ldW0 x5) (ldZ0 x0) (ldS0 x6) q0 q1, h0, ← e, grp_col]

/-- An index of the eight rows lies in a box that holds its row and its column. -/
theorem in_box (i : Fin 8) (k : Fin 1024) (a b m n : ℕ) (inb : ∀ j, (![a, b] : Fin 2 → ℕ) j + (![m, n] : Fin 2 → ℕ) j ≤ S8x1024.size j)
    (h0 : a ≤ i.val) (h1 : i.val < a + m) (h2 : b ≤ k.val) (h3 : k.val < b + n) :
    ix2 i k ∈ (Rect.unit (s := S8x1024) ![a, b] ![m, n] inb).set := by
  rw [Rect.mem_set_unit]
  intro j
  fin_cases j
  · exact ⟨h0, h1⟩
  · exact ⟨h2, h3⟩

theorem vec_at {κ : Kind} {sp : Space} (v : View sig κ sp S8x1024 .f32) (f : v.ty.Contents (Elt Ideal)) (M : List (View.Piece (Elt Ideal) S8x1024 .f32))
    (p : Vec Ideal S8x1024 .f32) (hM : ∀ y, v.read (Elt Ideal) (v.writes (Elt Ideal) f M) y = p y) (i : Fin 8) (k : Fin 1024) :
    v.read (Elt Ideal) (v.writes (Elt Ideal) f (vecPieces x0 x1 x2 x3 x4 x5 p ++ M)) (ix2 i k)
      = p (ix2 i k) + ∑ r, sums (wide x0 r) (row x1 r) (row x2 r) (vec x3) (vec x4) (maps x5) i k := by
  refine read_pieces v f (fun y : S8x1024.Idx => p y + ∑ r, sums (wide x0 r) (row x1 r) (row x2 r) (vec x3) (vec x4) (maps x5) (y 0) (y 1)) M (vecPieces x0 x1 x2 x3 x4 x5 p) (fun P hP q => ?_) (ix2 i k) fun h => ?_
  · simp only [List.mem_cons, List.not_mem_nil, or_false] at hP
    rcases hP with rfl | rfl | rfl | rfl | rfl | rfl | rfl
    · show k0_pay27 (F := Ideal) _ _ _ _ q = View.ld (Val := Elt Ideal) (e' := .f32) (fun y : S8x1024.Idx => p y + ∑ r, sums (wide x0 r) (row x1 r) (row x2 r) (vec x3) (vec x4) (maps x5) (y 0) (y 1)) (Rect.unit ![3, 768] ![1, 256] inb_S8x1024_S1x256_3_768) q
      idx_vars q
      obtain rfl : q0 = 0 := Subsingleton.elim _ _
      have e : col 3 q1 = ⟨768 + q1.val, by omega⟩ := Fin.ext (show 256 * 3 + q1.val = 768 + q1.val by omega)
      rw [pay27_at x0 x2 x5 3 _ _ _ (ldP3 x2) (ldW3 x5) (ldZ3 x0) _ q1]
      pointwise []
      rw [← e]; rfl
    · show k0_pay27 (F := Ideal) _ _ _ _ q = View.ld (Val := Elt Ideal) (e' := .f32) (fun y : S8x1024.Idx => p y + ∑ r, sums (wide x0 r) (row x1 r) (row x2 r) (vec x3) (vec x4) (maps x5) (y 0) (y 1)) (Rect.unit ![3, 512] ![1, 256] inb_S8x1024_S1x256_3_512) q
      idx_vars q
      obtain rfl : q0 = 0 := Subsingleton.elim _ _
      have e : col 2 q1 = ⟨512 + q1.val, by omega⟩ := Fin.ext (show 256 * 2 + q1.val = 512 + q1.val by omega)
      rw [pay27_at x0 x2 x5 2 _ _ _ (ldP2 x2) (ldW2 x5) (ldZ2 x0) _ q1]
      pointwise []
      rw [← e]; rfl
    · show k0_pay27 (F := Ideal) _ _ _ _ q = View.ld (Val := Elt Ideal) (e' := .f32) (fun y : S8x1024.Idx => p y + ∑ r, sums (wide x0 r) (row x1 r) (row x2 r) (vec x3) (vec x4) (maps x5) (y 0) (y 1)) (Rect.unit ![3, 256] ![1, 256] inb_S8x1024_S1x256_3_256) q
      idx_vars q
      obtain rfl : q0 = 0 := Subsingleton.elim _ _
      have e : col 1 q1 = ⟨256 + q1.val, by omega⟩ := Fin.ext (show 256 * 1 + q1.val = 256 + q1.val by omega)
      rw [pay27_at x0 x2 x5 1 _ _ _ (ldP1 x2) (ldW1 x5) (ldZ1 x0) _ q1]
      pointwise []
      rw [← e]; rfl
    · show k0_pay27 (F := Ideal) _ _ _ _ q = View.ld (Val := Elt Ideal) (e' := .f32) (fun y : S8x1024.Idx => p y + ∑ r, sums (wide x0 r) (row x1 r) (row x2 r) (vec x3) (vec x4) (maps x5) (y 0) (y 1)) (Rect.unit ![3, 0] ![1, 256] inb_S8x1024_S1x256_3_0) q
      idx_vars q
      obtain rfl : q0 = 0 := Subsingleton.elim _ _
      have e : col 0 q1 = ⟨q1.val, by omega⟩ := Fin.ext (show 256 * 0 + q1.val = q1.val by omega)
      rw [pay27_at x0 x2 x5 0 _ _ _ (ldP0 x2) (ldW0 x5) (ldZ0 x0) _ q1]
      pointwise []
      rw [← e]; rfl
    · show k0_pay18 (F := Ideal) _ _ q = View.ld (Val := Elt Ideal) (e' := .f32) (fun y : S8x1024.Idx => p y + ∑ r, sums (wide x0 r) (row x1 r) (row x2 r) (vec x3) (vec x4) (maps x5) (y 0) (y 1)) (Rect.unit ![2, 0] ![1, 1024] inb_S8x1024_S1x1024_2_0) q
      idx_vars q
      obtain rfl : q0 = 0 := Subsingleton.elim _ _
      pointwise [k0_pay18, k0_pay13, pay14_at, pay8_at, pay10_at, pay11_at, pay12_at]
      rfl
    · show k0_pay17 (F := Ideal) _ _ _ _ q = View.ld (Val := Elt Ideal) (e' := .f32) (fun y : S8x1024.Idx => p y + ∑ r, sums (wide x0 r) (row x1 r) (row x2 r) (vec x3) (vec x4) (maps x5) (y 0) (y 1)) (Rect.unit ![1, 0] ![1, 1024] inb_S8x1024_S1x1024_1_0) q
      idx_vars q
      obtain rfl : q0 = 0 := Subsingleton.elim _ _
      pointwise [k0_pay17, k0_pay13, pay14_at, pay8_at, pay10_at, pay11_at, pay12_at]
      rfl
    · show k0_pay16 (F := Ideal) _ _ _ _ _ q = View.ld (Val := Elt Ideal) (e' := .f32) (fun y : S8x1024.Idx => p y + ∑ r, sums (wide x0 r) (row x1 r) (row x2 r) (vec x3) (vec x4) (maps x5) (y 0) (y 1)) (Rect.unit ![0, 0] ![1, 1024] inb_S8x1024_S1x1024_0_0) q
      idx_vars q
      obtain rfl : q0 = 0 := Subsingleton.elim _ _
      pointwise [k0_pay16, k0_pay13, pay14_at, pay8_at, pay10_at, pay11_at, pay12_at]
      rfl
  · rw [hM]
    have hi : 4 ≤ i.val := by
      by_contra hlt
      have hk := k.isLt
      obtain h' | h' | h' | h' : i.val = 0 ∨ i.val = 1 ∨ i.val = 2 ∨ i.val = 3 := by omega
      · exact h _ (List.Mem.tail _ (List.Mem.tail _ (List.Mem.tail _ (List.Mem.tail _ (List.Mem.tail _ (List.Mem.tail _ (List.Mem.head _))))))) (in_box i k 0 0 1 1024 inb_S8x1024_S1x1024_0_0 (by omega) (by omega) (by omega) (by omega))
      · exact h _ (List.Mem.tail _ (List.Mem.tail _ (List.Mem.tail _ (List.Mem.tail _ (List.Mem.tail _ (List.Mem.head _)))))) (in_box i k 1 0 1 1024 inb_S8x1024_S1x1024_1_0 (by omega) (by omega) (by omega) (by omega))
      · exact h _ (List.Mem.tail _ (List.Mem.tail _ (List.Mem.tail _ (List.Mem.tail _ (List.Mem.head _))))) (in_box i k 2 0 1 1024 inb_S8x1024_S1x1024_2_0 (by omega) (by omega) (by omega) (by omega))
      · obtain hc | hc | hc | hc : k.val < 256 ∨ (256 ≤ k.val ∧ k.val < 512) ∨ (512 ≤ k.val ∧ k.val < 768) ∨ 768 ≤ k.val := by omega
        · exact h _ (List.Mem.tail _ (List.Mem.tail _ (List.Mem.tail _ (List.Mem.head _)))) (in_box i k 3 0 1 256 inb_S8x1024_S1x256_3_0 (by omega) (by omega) (by omega) (by omega))
        · exact h _ (List.Mem.tail _ (List.Mem.tail _ (List.Mem.head _))) (in_box i k 3 256 1 256 inb_S8x1024_S1x256_3_256 (by omega) (by omega) (by omega) (by omega))
        · exact h _ (List.Mem.tail _ (List.Mem.head _)) (in_box i k 3 512 1 256 inb_S8x1024_S1x256_3_512 (by omega) (by omega) (by omega) (by omega))
        · exact h _ (List.Mem.head _) (in_box i k 3 768 1 256 inb_S8x1024_S1x256_3_768 (by omega) (by omega) (by omega) (by omega))
    have h0 : ∀ r, sums (wide x0 r) (row x1 r) (row x2 r) (vec x3) (vec x4) (maps x5) i k = 0 := fun r => by
      unfold sums
      rw [if_neg (by omega), if_neg (by omega), if_neg (by omega), if_neg (by omega)]
    show p (ix2 i k) = p (ix2 i k) + ∑ r, sums (wide x0 r) (row x1 r) (row x2 r) (vec x3) (vec x4) (maps x5) i k
    rw [Finset.sum_congr rfl fun r _ => h0 r, Finset.sum_const_zero, add_zero]

theorem dwp_at {κ : Kind} {sp : Space} (v : View sig κ sp S4x256x256 .f32) (f : v.ty.Contents (Elt Ideal)) (M : List (View.Piece (Elt Ideal) S4x256x256 .f32))
    (p : Vec Ideal S4x256x256 .f32) (g : Fin 4) (i e : Fin 256) :
    v.read (Elt Ideal) (v.writes (Elt Ideal) f (dwpPieces x0 x2 x6 p ++ M)) (ix3 g i e)
      = p (ix3 g i e) + ∑ r, dmap (wide x0 r) (row x2 r) (vec x6) g i e := by
  refine read_pieces v f (fun y : S4x256x256.Idx => p y + ∑ r, dmap (wide x0 r) (row x2 r) (vec x6) (y 0) (y 1) (y 2)) M (dwpPieces x0 x2 x6 p) (fun P hP q => ?_) (ix3 g i e) fun h => ?_
  · simp only [List.mem_cons, List.not_mem_nil, or_false] at hP
    rcases hP with rfl | rfl | rfl | rfl
    · show k0_pay30 (F := Ideal) _ _ _ _ q = View.ld (Val := Elt Ideal) (e' := .f32) (fun y : S4x256x256.Idx => p y + ∑ r, dmap (wide x0 r) (row x2 r) (vec x6) (y 0) (y 1) (y 2)) (Rect.unit ![3, 0, 0] ![1, 256, 256] inb_S4x256x256_S1x256x256_3_0_0) q
      idx_vars q
      obtain rfl : q0 = 0 := Subsingleton.elim _ _
      rw [pay30_at x0 x2 x6 3 _ _ _ (ldP3 x2) (ldZ3 x0) (ldS3 x6) _ q1 q2]
      pointwise []
    · show k0_pay30 (F := Ideal) _ _ _ _ q = View.ld (Val := Elt Ideal) (e' := .f32) (fun y : S4x256x256.Idx => p y + ∑ r, dmap (wide x0 r) (row x2 r) (vec x6) (y 0) (y 1) (y 2)) (Rect.unit ![2, 0, 0] ![1, 256, 256] inb_S4x256x256_S1x256x256_2_0_0) q
      idx_vars q
      obtain rfl : q0 = 0 := Subsingleton.elim _ _
      rw [pay30_at x0 x2 x6 2 _ _ _ (ldP2 x2) (ldZ2 x0) (ldS2 x6) _ q1 q2]
      pointwise []
    · show k0_pay30 (F := Ideal) _ _ _ _ q = View.ld (Val := Elt Ideal) (e' := .f32) (fun y : S4x256x256.Idx => p y + ∑ r, dmap (wide x0 r) (row x2 r) (vec x6) (y 0) (y 1) (y 2)) (Rect.unit ![1, 0, 0] ![1, 256, 256] inb_S4x256x256_S1x256x256_1_0_0) q
      idx_vars q
      obtain rfl : q0 = 0 := Subsingleton.elim _ _
      rw [pay30_at x0 x2 x6 1 _ _ _ (ldP1 x2) (ldZ1 x0) (ldS1 x6) _ q1 q2]
      pointwise []
    · show k0_pay30 (F := Ideal) _ _ _ _ q = View.ld (Val := Elt Ideal) (e' := .f32) (fun y : S4x256x256.Idx => p y + ∑ r, dmap (wide x0 r) (row x2 r) (vec x6) (y 0) (y 1) (y 2)) (Rect.unit ![0, 0, 0] ![1, 256, 256] inb_S4x256x256_S1x256x256_0_0_0) q
      idx_vars q
      obtain rfl : q0 = 0 := Subsingleton.elim _ _
      rw [pay30_at x0 x2 x6 0 _ _ _ (ldP0 x2) (ldZ0 x0) (ldS0 x6) _ q1 q2]
      pointwise []
  · exfalso
    obtain ⟨P, hP, hin⟩ := View.cover_of_tiledL (dwpPieces x0 x2 x6 p) ![1, 256, 256] (by sl_kernel_rfl) (ix3 g i e)
    exact h P hP hin

end Cert.EvenBwdIdeal.Hand

end
-- ==== Proof.Even.Host.lean ====
/- What the kernel's region finds in its arrays: the arguments, the pooled mean computed before it, the group maps. -/
module

public import proofs.«01_k».proof.Proof.Even.Block
public import Idealize.ShloMosaic.Lib.StableHlo.Run
public import Idealize.ShloMosaic.Lib.Pipeline.Value

@[expose] public section

set_option maxRecDepth 16384

noncomputable section

namespace Cert.EvenBwdIdeal.Hand

open Cert.EvenBwdIdeal Cert.EvenBwdIdeal.Gen Cert.Even Idealize.ShloMosaic Idealize.ShloMosaic.TcCoe Idealize.SL.Sem

variable (m : (ℓ : Loc nD τ sig) → Buf (Elt Ideal) ℓ)

/-! ## Arrays computed before the region -/

/-- The maps' array is the cast of the maps. -/
theorem V_v38 (c : Dev nD) : V m c main_v38 = truncf (F := Ideal) (s := S4x256x256) (φ := .f32) .bf16 (m ((c : Thread nD τ).loc main_arg6)) bitsLt_bf16_f32 := by
  show StableHlo.after hostOps0 _ _ = _
  after_results_simp
/-- The group maps. -/
theorem V_maps (c : Dev nD) (g : Fin 4) (i e : Fin 256) : (V m c main_v38 (ix3 g i e) : EReal) = m ((c : Thread nD τ).loc main_arg6) (ix3 g i e) := by
  rw [V_v38]
  pointwise []

/-- The lengths of one group's windows, by position. -/
def lengths (k : BitVec 32) : FVec Ideal S2048x1 .f32 :=
  broadcastInDim S2048x1 ![0] bcast_S2048_S2048x1_0 (sitofp .f32 (minsi (addi (iotaInDim S2048 32 0) (broadcastInDim S2048 ![] bcast_S_S2048 (constantI S_ 32 1#32)))
    (broadcastInDim S2048 ![] bcast_S_S2048 (constantI S_ 32 k))))
/-- The four groups' lengths, side by side. -/
def lengths4 (a b c d : FVec Ideal S2048x1 .f32) : FVec Ideal S2048x4 .f32 :=
  concatenate S2048x4 1 [⟨S2048x1, a⟩, ⟨S2048x1, b⟩, ⟨S2048x1, c⟩, ⟨S2048x1, d⟩] concatenates_S2048x1_S2048x1_S2048x1_S2048x1_S2048x4_d1
/-- The pooled mean of the windows' sums `w`, less the mixer's input `u`. -/
def meanOf (w u : FVec Ideal S4096x1024 .bf16) (n : FVec Ideal S2048x4 .f32) : FVec Ideal S4096x1024 .bf16 :=
  truncf .bf16 (subf (shapeCast S4096x1024 (Host.divf (shapeCast S2x2048x4x256 (extf .f32 w bitsLt_bf16_f32) shapeCasts_S4096x1024_S2x2048x4x256)
    (broadcastInDim S2x2048x4x256 ![0, 1, 2, 3] bcast_S1x2048x4x1_S2x2048x4x256_0_1_2_3 (broadcastInDim S1x2048x4x1 ![1, 2] bcast_S2048x4_S1x2048x4x1_1_2 n)))
    shapeCasts_S2x2048x4x256_S4096x1024) (extf .f32 u bitsLt_bf16_f32)) bitsLt_bf16_f32

set_option maxHeartbeats 1600000 in
/-- The mean's array as one term over the arguments. -/
theorem V_v37 (c : Dev nD) : V m c main_v37 = meanOf (m ((c : Thread nD τ).loc main_arg2)) (m ((c : Thread nD τ).loc main_arg3))
    (lengths4 (lengths 2#32) (lengths 4#32) (lengths 8#32) (lengths 16#32)) := by
  show StableHlo.after hostOps0 _ _ = _
  after_results_simp
  rfl
/-- One group's lengths, read. -/
theorem lengths_at (k : BitVec 32) (s : Fin 2048) : lengths k (ix2 s 0) = FloatOps.sitofp (F := Ideal) .f32 (IntOp.minsi (BitVec.ofNat 32 (s.val + 1)) k) := by
  unfold lengths
  pointwise []
  exact congrArg (fun n => FloatOps.sitofp (F := Ideal) .f32 (IntOp.minsi n k)) (BitVec.ofNat_add (n := 32) s.val 1).symm
/-- The four groups' lengths, read. -/
theorem lengths4_at (s : Fin 2048) (g : Fin 4) :
    lengths4 (lengths 2#32) (lengths 4#32) (lengths 8#32) (lengths 16#32) (ix2 s g) = cnt g s.val := by
  have hs : s.val % 2048 = s.val := Nat.mod_eq_of_lt s.isLt
  rw [← cnt_at g s.val, hs]
  unfold lengths4
  match g with
  | 0 => exact lengths_at _ s
  | 1 => exact lengths_at _ s
  | 2 => exact lengths_at _ s
  | 3 => exact lengths_at _ s
/-- The pooled mean: the windows' sums over their counts, less the mixer's input. -/
theorem V_mean (c : Dev nD) (R : Fin 4096) (k : Fin 1024) : (V m c main_v37 (ix2 R k) : EReal)
    = Ideal.div (m ((c : Thread nD τ).loc main_arg2) (ix2 R k)) (cnt (grp k) R.val) - m ((c : Thread nD τ).loc main_arg3) (ix2 R k) := by
  have hc : cnt (grp k) R.val = cnt (grp k) (R.val % 2048) := by
    unfold cnt
    rw [Nat.mod_mod]
  rw [V_v37]
  unfold meanOf
  pointwise []
  rw [lengths4_at, hc]
  rfl

end Cert.EvenBwdIdeal.Hand

end
-- ==== Proof.Even.Array.lean ====
/- What the five result arrays hold when the kernel's run ends, as functions of the arguments. -/
module

public import proofs.«01_k».proof.Proof.Even.Host

@[expose] public section

set_option maxRecDepth 16384

noncomputable section

namespace Cert.EvenBwdIdeal.Hand

open Cert.EvenBwdIdeal Cert.EvenBwdIdeal.Gen Cert.Even Idealize.ShloMosaic Idealize.ShloMosaic.TcCoe Idealize.SL.Sem

variable (m : (ℓ : Loc nD τ sig) → Buf (Elt Ideal) ℓ)

/-! ## The arguments, by row -/

/-- The gradient of the mixer's output, row `R`. -/
def dz (c : Dev nD) (R : Fin 4096) : Wide := fun k => m ((c : Thread nD τ).loc main_arg0) (ix2 R k)
/-- The convolution's output, row `R`. -/
def cx (c : Dev nD) (R : Fin 4096) : Row := fun k => m ((c : Thread nD τ).loc main_arg1) (ix2 R k)
/-- The pooled mean less the mixer's input, row `R`. -/
def pm (c : Dev nD) (R : Fin 4096) : Row := fun k =>
  Ideal.div (m ((c : Thread nD τ).loc main_arg2) (ix2 R k)) (cnt (grp k) R.val) - m ((c : Thread nD τ).loc main_arg3) (ix2 R k)
/-- The gain. -/
def gain (c : Dev nD) : Row := fun k => m ((c : Thread nD τ).loc main_arg4) (ix2 0 k)
/-- The bias. -/
def bias (c : Dev nD) : Row := fun k => m ((c : Thread nD τ).loc main_arg5) (ix2 0 k)
/-- The group maps. -/
def wmap (c : Dev nD) : Maps := fun g i e => m ((c : Thread nD τ).loc main_arg6) (ix3 g i e)
/-- The scale. -/
def scl (c : Dev nD) : Row := fun k => m ((c : Thread nD τ).loc main_arg7) (ix2 0 k)

/-! ## The blocks -/

/-- Row `r` of block `t`. -/
def at_ (t : ℕ) (r : Fin 256) : Fin 4096 := ⟨(256 * t + r.val) % 4096, Nat.mod_lt _ (by decide)⟩
theorem at_val (t : Fin cfg0.N) (r : Fin 256) : (at_ t.val r).val = 256 * t.val + r.val := by
  have h : t.val < 16 := t.isLt
  simp only [at_]
  omega

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 ∧ win0_5.index t 2 = 0 := by decide +kernel
theorem idx6 : ∀ t : Fin grid0.N, win0_6.index t 0 = 0 ∧ win0_6.index t 1 = 0 := by decide +kernel
theorem idx7 : ∀ t : Fin grid0.N, win0_7.index t 0 = t.val ∧ win0_7.index t 1 = 0 := by decide +kernel
theorem idx8 : ∀ t : Fin grid0.N, win0_8.index t 0 = t.val ∧ win0_8.index t 1 = 0 := by decide +kernel
theorem idx9 : ∀ t : Fin grid0.N, win0_9.index t 0 = t.val ∧ win0_9.index t 1 = 0 := by decide +kernel
theorem coord0 : ∀ t : Fin grid0.N, (grid0.coords t 0).val = t.val := by decide +kernel

theorem blk0 (c : Dev nD) (t : Fin cfg0.N) (r : Fin 256) : wide (iblk m c 0 t) r = dz m c (at_ t.val r) := by
  funext k
  show V m c main_arg0 ((win0_0.rect t).emb (ix2 r k)) = _
  rw [V_main_arg0]
  refine congrArg (m ((c : Thread nD τ).loc main_arg0)) (funext fun a => Fin.ext ?_)
  rw [Pipeline.Window.rect_emb_val win0_0]
  match a with
  | ⟨0, _⟩ => show win0_0.index t 0 * 256 + r.val = (at_ t.val r).val; rw [(idx0 t).1, at_val]; omega
  | ⟨1, _⟩ => show win0_0.index t 1 * 2048 + k.val = k.val; rw [(idx0 t).2]; omega

theorem blk1 (c : Dev nD) (t : Fin cfg0.N) (r : Fin 256) : row (iblk m c 1 t) r = cx m c (at_ t.val r) := by
  funext k
  show V m c main_arg1 ((win0_1.rect t).emb (ix2 r k)) = _
  rw [V_main_arg1]
  refine congrArg (m ((c : Thread nD τ).loc main_arg1)) (funext fun a => Fin.ext ?_)
  rw [Pipeline.Window.rect_emb_val win0_1]
  match a with
  | ⟨0, _⟩ => show win0_1.index t 0 * 256 + r.val = (at_ t.val r).val; rw [(idx1 t).1, at_val]; omega
  | ⟨1, _⟩ => show win0_1.index t 1 * 1024 + k.val = k.val; rw [(idx1 t).2]; omega

theorem blk2 (c : Dev nD) (t : Fin cfg0.N) (r : Fin 256) : row (iblk m c 2 t) r = pm m c (at_ t.val r) := by
  funext k
  show V m c main_v37 ((win0_2.rect t).emb (ix2 r k)) = _
  rw [show (win0_2.rect t).emb (ix2 r k) = ix2 (at_ t.val r) k from funext fun a => Fin.ext (by
    rw [Pipeline.Window.rect_emb_val win0_2]
    match a with
    | ⟨0, _⟩ => show win0_2.index t 0 * 256 + r.val = (at_ t.val r).val; rw [(idx2 t).1, at_val]; omega
    | ⟨1, _⟩ => show win0_2.index t 1 * 1024 + k.val = k.val; rw [(idx2 t).2]; omega)]
  exact V_mean m c _ k

theorem blk3 (c : Dev nD) (t : Fin cfg0.N) : vec (iblk m c 3 t) = gain m c := by
  funext k
  show V m c main_arg4 ((win0_3.rect t).emb (ix2 0 k)) = _
  rw [V_main_arg4]
  refine congrArg (m ((c : Thread nD τ).loc main_arg4)) (funext fun a => Fin.ext ?_)
  rw [Pipeline.Window.rect_emb_val win0_3]
  match a with
  | ⟨0, _⟩ => show win0_3.index t 0 * 1 + 0 = 0; rw [(idx3 t).1]
  | ⟨1, _⟩ => show win0_3.index t 1 * 1024 + k.val = k.val; rw [(idx3 t).2]; omega

theorem blk4 (c : Dev nD) (t : Fin cfg0.N) : vec (iblk m c 4 t) = bias m c := by
  funext k
  show V m c main_arg5 ((win0_4.rect t).emb (ix2 0 k)) = _
  rw [V_main_arg5]
  refine congrArg (m ((c : Thread nD τ).loc main_arg5)) (funext fun a => Fin.ext ?_)
  rw [Pipeline.Window.rect_emb_val win0_4]
  match a with
  | ⟨0, _⟩ => show win0_4.index t 0 * 1 + 0 = 0; rw [(idx4 t).1]
  | ⟨1, _⟩ => show win0_4.index t 1 * 1024 + k.val = k.val; rw [(idx4 t).2]; omega

theorem blk5 (c : Dev nD) (t : Fin cfg0.N) : maps (iblk m c 5 t) = wmap m c := by
  funext g i e
  show V m c main_v38 ((win0_5.rect t).emb (ix3 g i e)) = _
  rw [show (win0_5.rect t).emb (ix3 g i e) = ix3 g i e from funext fun a => Fin.ext (by
    rw [Pipeline.Window.rect_emb_val win0_5]
    match a with
    | ⟨0, _⟩ => show win0_5.index t 0 * 4 + g.val = g.val; rw [(idx5 t).1]; omega
    | ⟨1, _⟩ => show win0_5.index t 1 * 256 + i.val = i.val; rw [(idx5 t).2.1]; omega
    | ⟨2, _⟩ => show win0_5.index t 2 * 256 + e.val = e.val; rw [(idx5 t).2.2]; omega)]
  exact V_maps m c g i e

theorem blk6 (c : Dev nD) (t : Fin cfg0.N) : vec (iblk m c 6 t) = scl m c := by
  funext k
  show V m c main_arg7 ((win0_6.rect t).emb (ix2 0 k)) = _
  rw [V_main_arg7]
  refine congrArg (m ((c : Thread nD τ).loc main_arg7)) (funext fun a => Fin.ext ?_)
  rw [Pipeline.Window.rect_emb_val win0_6]
  match a with
  | ⟨0, _⟩ => show win0_6.index t 0 * 1 + 0 = 0; rw [(idx6 t).1]
  | ⟨1, _⟩ => show win0_6.index t 1 * 1024 + k.val = k.val; rw [(idx6 t).2]; omega

/-! ## The output buffers after a point -/

/-- The convolution's output gradient after point `t`. -/
theorem out7 (c : Dev nD) (t : Fin cfg0.N) (r : Fin 256) (k : Fin 1024) : (outs m c t.val t.isLt).1 (ix2 r k)
    = dx (zlo (dz m c (at_ t.val r))) (cx m c (at_ t.val r)) (gain m c) (bias m c) k := by
  have e : ∀ v : Vec Ideal S256x1024 .bf16, View.canon [(⟨Rect.unit ![0, 0] ![256, 1024] inb_S256x1024_S256x1024_0_0, v⟩ : View.Piece (Elt Ideal) S256x1024 .bf16)] = v :=
    fun v => View.canon_unit_zero (S := S256x1024) zero2 _ v
  have hd := da_at (iblk m c 0 t) (iblk m c 1 t) (iblk m c 3 t) (iblk m c 4 t) r k
  rw [blk0, blk1, blk3, blk4] at hd
  by_cases h : t.val = 0
  · rw [outs_first m c t h]
    unfold outsA
    dsimp only
    rw [first7, e]
    exact hd
  · rw [outs_later m c t h]
    unfold outsB
    dsimp only
    rw [later7, e]
    exact hd

/-- The pooled mean's gradient after point `t`. -/
theorem out9 (c : Dev nD) (t : Fin cfg0.N) (r : Fin 256) (k : Fin 1024) : (outs m c t.val t.isLt).2.2.1 (ix2 r k)
    = dpm (dz m c (at_ t.val r)) (scl m c) (wmap m c) k := by
  have hd := dpm_at (iblk m c 0 t) (iblk m c 6 t) (iblk m c 5 t) r k
  rw [blk0, blk5, blk6] at hd
  by_cases h : t.val = 0
  · rw [outs_first m c t h]
    unfold outsA
    dsimp only
    rw [first9]
    exact hd
  · rw [outs_later m c t h]
    unfold outsB
    dsimp only
    rw [later9]
    exact hd

/-- The windows' gradient after point `t`. -/
theorem out8 (c : Dev nD) (t : Fin cfg0.N) (r : Fin 256) (k : Fin 1024) : (outs m c t.val t.isLt).2.1 (ix2 r k)
    = dpm (dz m c (at_ t.val r)) (scl m c) (wmap m c) k * Ideal.div 1 (cnt (grp k) (at_ t.val r).val) := by
  have hd := dws_at (iblk m c 0 t) (iblk m c 6 t) (iblk m c 5 t) _ _ _ _ (fun g r => Ideal.div 1 (cnt g (256 * t.val + r.val)))
    (inv0 t) (inv1 t) (inv2 t) (inv3 t) r k
  rw [blk0, blk5, blk6] at hd
  rw [at_val]
  by_cases h : t.val = 0
  · rw [outs_first m c t h]
    unfold outsA
    dsimp only
    rw [first8, coord0]
    exact hd
  · rw [outs_later m c t h]
    unfold outsB
    dsimp only
    rw [later8, coord0]
    exact hd

/-- A buffer just filled with `z` reads as `z`. -/
theorem read_fill {κ : Kind} {sp : Space} (v : View sig κ sp S8x1024 .f32) (f : v.ty.Contents (Elt Ideal)) (z : Vec Ideal S8x1024 .f32) (y : S8x1024.Idx) :
    v.read (Elt Ideal) (v.writes (Elt Ideal) f [⟨Rect.unit (s := S8x1024) ![0, 0] S8x1024.size inb_S8x1024_S8x1024_0_0, z⟩]) y = z y :=
  View.read_writes_cons_unit_of_mem v f inb_S8x1024_S8x1024_0_0 z [] y y zero2 fun a => (Nat.zero_add _).symm

/-- The column sums' pieces over a buffer just filled with zeros. -/
theorem vec_fill (x0 : Vec Ideal S256x2048 .bf16) (x1 x2 : Vec Ideal S256x1024 .bf16) (x3 x4 : Vec Ideal S1x1024 .f32) (x5 : Vec Ideal S4x256x256 .bf16)
    {κ : Kind} {sp : Space} (v : View sig κ sp S8x1024 .f32) (f : v.ty.Contents (Elt Ideal)) (i : Fin 8) (k : Fin 1024) :
    v.read (Elt Ideal) (v.writes (Elt Ideal) f (vecPieces x0 x1 x2 x3 x4 x5 (k0_pay4 (F := Ideal))
        ++ [⟨Rect.unit (s := S8x1024) ![0, 0] S8x1024.size inb_S8x1024_S8x1024_0_0, k0_pay4 (F := Ideal)⟩])) (ix2 i k)
      = k0_pay4 (F := Ideal) (ix2 i k) + ∑ r, sums (wide x0 r) (row x1 r) (row x2 r) (vec x3) (vec x4) (maps x5) i k :=
  vec_at x0 x1 x2 x3 x4 x5 v f _ (k0_pay4 (F := Ideal)) (read_fill v f (k0_pay4 (F := Ideal))) i k

/-- The column sums after point `n`: every row so far. -/
theorem out10 (c : Dev nD) (i : Fin 8) (k : Fin 1024) : ∀ (n : ℕ) (hn : n < cfg0.N), (outs m c n hn).2.2.2.1 (ix2 i k)
    = ∑ s ∈ Finset.range (n + 1), ∑ r, sums (dz m c (at_ s r)) (cx m c (at_ s r)) (pm m c (at_ s r)) (gain m c) (bias m c) (wmap m c) i k
  | 0, hn => by
    rw [outs_first m c ⟨0, hn⟩ rfl]
    unfold outsA
    dsimp only
    rw [← View.read_writes_eq_canon (Val := Elt Ideal) (ms10 ⟨0, hn⟩).view (ms10 ⟨0, hn⟩).view.junk _ (coverA10 m c ⟨0, hn⟩ rfl), first10]
    refine (vec_fill (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
      (ms10 ⟨0, hn⟩).view (ms10 ⟨0, hn⟩).view.junk i k).trans ?_
    simp only [blk0, blk1, blk2, blk3, blk4, blk5]
    rw [Finset.sum_range_one]
    pointwise [k0_pay4]
  | n + 1, hn => by
    rw [outs_later m c ⟨n + 1, hn⟩ (Nat.succ_ne_zero n)]
    unfold outsB
    dsimp only
    have hv := vec_at (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
      (ms10 ⟨n + 1, hn⟩).view ((hs10 ⟨n + 1, hn⟩).unread (outs m c n (Nat.lt_of_succ_lt hn)).2.2.2.1) [] (outs m c n (Nat.lt_of_succ_lt hn)).2.2.2.1
      (fun y => congrFun ((hs10 ⟨n + 1, hn⟩).read_unread _) y) i k
    rw [List.append_nil, out10 c i k n] at hv
    simp only [blk0, blk1, blk2, blk3, blk4, blk5] at hv
    rw [later10, Finset.sum_range_succ _ (n + 1)]
    exact hv

/-- The maps' gradient after point `n`: every row so far. -/
theorem out11 (c : Dev nD) (g : Fin 4) (i e : Fin 256) : ∀ (n : ℕ) (hn : n < cfg0.N), (outs m c n hn).2.2.2.2 (ix3 g i e)
    = ∑ s ∈ Finset.range (n + 1), ∑ r, dmap (dz m c (at_ s r)) (pm m c (at_ s r)) (scl m c) g i e
  | 0, hn => by
    rw [outs_first m c ⟨0, hn⟩ rfl]
    unfold outsA
    dsimp only
    rw [← View.read_writes_eq_canon (Val := Elt Ideal) (ms11 ⟨0, hn⟩).view (ms11 ⟨0, hn⟩).view.junk _ (coverA11 m c ⟨0, hn⟩ rfl), first11, dwp_at]
    simp only [blk0, blk2, blk6]
    rw [Finset.sum_range_one]
    pointwise [k0_pay5]
  | n + 1, hn => by
    rw [outs_later m c ⟨n + 1, hn⟩ (Nat.succ_ne_zero n)]
    unfold outsB
    dsimp only
    have hv := dwp_at (iblk m c 0 ⟨n + 1, hn⟩) (iblk m c 2 ⟨n + 1, hn⟩) (iblk m c 6 ⟨n + 1, hn⟩)
      (ms11 ⟨n + 1, hn⟩).view ((hs11 ⟨n + 1, hn⟩).unread (outs m c n (Nat.lt_of_succ_lt hn)).2.2.2.2) [] (outs m c n (Nat.lt_of_succ_lt hn)).2.2.2.2 g i e
    rw [List.append_nil, out11 c g i e n] at hv
    simp only [blk0, blk2, blk6] at hv
    rw [later11, Finset.sum_range_succ _ (n + 1)]
    exact hv

/-- Sixteen blocks of 256 rows are the 4096 rows. -/
theorem sum_rows (f : Fin 4096 → EReal) : ∑ s ∈ Finset.range 16, ∑ r, f (at_ s r) = ∑ R, f R := by
  rw [Finset.sum_range, ← Equiv.sum_comp (finProdFinEquiv (m := 16) (n := 256)) f, Fintype.sum_prod_type]
  refine Finset.sum_congr rfl fun s _ => Finset.sum_congr rfl fun r _ => congrArg f (Fin.ext ?_)
  show (256 * s.val + r.val) % 4096 = r.val + 256 * s.val
  omega

/-! ## The result arrays -/

/-- The gradient of the convolution's output. -/
def final0 (c : Dev nD) : FVec Ideal S4096x1024 .bf16 := fun i => dx (zlo (dz m c (i 0))) (cx m c (i 0)) (gain m c) (bias m c) (i 1)
/-- The gradient of the windows' sums. -/
def final1 (c : Dev nD) : FVec Ideal S4096x1024 .bf16 := fun i => dpm (dz m c (i 0)) (scl m c) (wmap m c) (i 1) * Ideal.div 1 (cnt (grp (i 1)) (i 0).val)
/-- The gradient of the pooled mean. -/
def final2 (c : Dev nD) : FVec Ideal S4096x1024 .bf16 := fun i => dpm (dz m c (i 0)) (scl m c) (wmap m c) (i 1)
/-- The eight rows of column sums. -/
def final3 (c : Dev nD) : FVec Ideal S8x1024 .f32 := fun i =>
  ∑ R, sums (dz m c R) (cx m c R) (pm m c R) (gain m c) (bias m c) (wmap m c) (i 0) (i 1)
/-- The gradient of the group maps. -/
def final4 (c : Dev nD) : FVec Ideal S4x256x256 .f32 := fun i => ∑ R, dmap (dz m c R) (pm m c R) (scl m c) (i 0) (i 1) (i 2)

theorem flushed7 (c : Dev nD) (t : Fin cfg0.N) : (dats m 0 c).flushed 7 t = ((cfg0.win 7).blk t).view.read (Elt Ideal) (final0 m c) := by
  show (cfg0.win 7).cut (grid0.coords t) ((dats m 0 c).after 7 t) = _
  rw [after7]
  funext y
  idx_vars y
  show (outs m c t.val t.isLt).1 (ix2 y0 y1) = final0 m c ((win0_7.rect t).emb (ix2 y0 y1))
  rw [show (win0_7.rect t).emb (ix2 y0 y1) = ix2 (at_ t.val y0) y1 from funext fun a => Fin.ext (by
    rw [Pipeline.Window.rect_emb_val win0_7]
    match a with
    | ⟨0, _⟩ => show win0_7.index t 0 * 256 + y0.val = (at_ t.val y0).val; rw [(idx7 t).1, at_val]; omega
    | ⟨1, _⟩ => show win0_7.index t 1 * 1024 + y1.val = y1.val; rw [(idx7 t).2]; omega)]
  exact out7 m c t y0 y1
theorem flush7 : ∀ t : Fin grid0.N, win0_7.flush t = true := by decide +kernel
theorem xs7 : ∀ t : Fin grid0.N, win0_7.xsize (grid0.coords t) 0 = 256 ∧ win0_7.xsize (grid0.coords t) 1 = 1024 := by decide +kernel
/-- The first result array. -/
theorem arr7 (c : Dev nD) : (dats m 0 c).arrAt 7 cfg0.N = final0 m c :=
  (dats m 0 c).arrAt_eq_of_cover 7 (final0 m c) (fun t _ => flushed7 m c t) fun i => by
    have h0 : (i 0 : Nat) < 4096 := (i 0).isLt
    have h1 : (i 1 : Nat) < 1024 := (i 1).isLt
    refine ⟨⟨(i 0 : Nat) / 256, by show (i 0 : Nat) / 256 < 16; omega⟩, flush7 _, ?_⟩
    generalize ht : (⟨(i 0 : Nat) / 256, _⟩ : Fin cfg0.N) = t
    have hv : t.val = (i 0 : Nat) / 256 := by rw [← ht]
    show i ∈ ((View.whole main_v39_0).slice (win0_7.rect t)).set
    rw [View.set_slice_whole, Rect.mem_set_unit]
    intro a
    match a with
    | ⟨0, _⟩ => show win0_7.index t 0 * 256 ≤ (i 0 : Nat) ∧ (i 0 : Nat) < win0_7.index t 0 * 256 + win0_7.xsize (grid0.coords t) 0
                rw [(idx7 t).1, (xs7 t).1]; omega
    | ⟨1, _⟩ => show win0_7.index t 1 * 1024 ≤ (i 1 : Nat) ∧ (i 1 : Nat) < win0_7.index t 1 * 1024 + win0_7.xsize (grid0.coords t) 1
                rw [(idx7 t).2, (xs7 t).2]; omega

theorem flushed8 (c : Dev nD) (t : Fin cfg0.N) : (dats m 0 c).flushed 8 t = ((cfg0.win 8).blk t).view.read (Elt Ideal) (final1 m c) := by
  show (cfg0.win 8).cut (grid0.coords t) ((dats m 0 c).after 8 t) = _
  rw [after8]
  funext y
  idx_vars y
  show (outs m c t.val t.isLt).2.1 (ix2 y0 y1) = final1 m c ((win0_8.rect t).emb (ix2 y0 y1))
  rw [show (win0_8.rect t).emb (ix2 y0 y1) = ix2 (at_ t.val y0) y1 from funext fun a => Fin.ext (by
    rw [Pipeline.Window.rect_emb_val win0_8]
    match a with
    | ⟨0, _⟩ => show win0_8.index t 0 * 256 + y0.val = (at_ t.val y0).val; rw [(idx8 t).1, at_val]; omega
    | ⟨1, _⟩ => show win0_8.index t 1 * 1024 + y1.val = y1.val; rw [(idx8 t).2]; omega)]
  exact out8 m c t y0 y1
theorem flush8 : ∀ t : Fin grid0.N, win0_8.flush t = true := by decide +kernel
theorem xs8 : ∀ t : Fin grid0.N, win0_8.xsize (grid0.coords t) 0 = 256 ∧ win0_8.xsize (grid0.coords t) 1 = 1024 := by decide +kernel
/-- The second result array. -/
theorem arr8 (c : Dev nD) : (dats m 0 c).arrAt 8 cfg0.N = final1 m c :=
  (dats m 0 c).arrAt_eq_of_cover 8 (final1 m c) (fun t _ => flushed8 m c t) fun i => by
    have h0 : (i 0 : Nat) < 4096 := (i 0).isLt
    have h1 : (i 1 : Nat) < 1024 := (i 1).isLt
    refine ⟨⟨(i 0 : Nat) / 256, by show (i 0 : Nat) / 256 < 16; omega⟩, flush8 _, ?_⟩
    generalize ht : (⟨(i 0 : Nat) / 256, _⟩ : Fin cfg0.N) = t
    have hv : t.val = (i 0 : Nat) / 256 := by rw [← ht]
    show i ∈ ((View.whole main_v39_1).slice (win0_8.rect t)).set
    rw [View.set_slice_whole, Rect.mem_set_unit]
    intro a
    match a with
    | ⟨0, _⟩ => show win0_8.index t 0 * 256 ≤ (i 0 : Nat) ∧ (i 0 : Nat) < win0_8.index t 0 * 256 + win0_8.xsize (grid0.coords t) 0
                rw [(idx8 t).1, (xs8 t).1]; omega
    | ⟨1, _⟩ => show win0_8.index t 1 * 1024 ≤ (i 1 : Nat) ∧ (i 1 : Nat) < win0_8.index t 1 * 1024 + win0_8.xsize (grid0.coords t) 1
                rw [(idx8 t).2, (xs8 t).2]; omega

theorem flushed9 (c : Dev nD) (t : Fin cfg0.N) : (dats m 0 c).flushed 9 t = ((cfg0.win 9).blk t).view.read (Elt Ideal) (final2 m c) := by
  show (cfg0.win 9).cut (grid0.coords t) ((dats m 0 c).after 9 t) = _
  rw [after9]
  funext y
  idx_vars y
  show (outs m c t.val t.isLt).2.2.1 (ix2 y0 y1) = final2 m c ((win0_9.rect t).emb (ix2 y0 y1))
  rw [show (win0_9.rect t).emb (ix2 y0 y1) = ix2 (at_ t.val y0) y1 from funext fun a => Fin.ext (by
    rw [Pipeline.Window.rect_emb_val win0_9]
    match a with
    | ⟨0, _⟩ => show win0_9.index t 0 * 256 + y0.val = (at_ t.val y0).val; rw [(idx9 t).1, at_val]; omega
    | ⟨1, _⟩ => show win0_9.index t 1 * 1024 + y1.val = y1.val; rw [(idx9 t).2]; omega)]
  exact out9 m c t y0 y1
theorem flush9 : ∀ t : Fin grid0.N, win0_9.flush t = true := by decide +kernel
theorem xs9 : ∀ t : Fin grid0.N, win0_9.xsize (grid0.coords t) 0 = 256 ∧ win0_9.xsize (grid0.coords t) 1 = 1024 := by decide +kernel
/-- The third result array. -/
theorem arr9 (c : Dev nD) : (dats m 0 c).arrAt 9 cfg0.N = final2 m c :=
  (dats m 0 c).arrAt_eq_of_cover 9 (final2 m c) (fun t _ => flushed9 m c t) fun i => by
    have h0 : (i 0 : Nat) < 4096 := (i 0).isLt
    have h1 : (i 1 : Nat) < 1024 := (i 1).isLt
    refine ⟨⟨(i 0 : Nat) / 256, by show (i 0 : Nat) / 256 < 16; omega⟩, flush9 _, ?_⟩
    generalize ht : (⟨(i 0 : Nat) / 256, _⟩ : Fin cfg0.N) = t
    have hv : t.val = (i 0 : Nat) / 256 := by rw [← ht]
    show i ∈ ((View.whole main_v39_2).slice (win0_9.rect t)).set
    rw [View.set_slice_whole, Rect.mem_set_unit]
    intro a
    match a with
    | ⟨0, _⟩ => show win0_9.index t 0 * 256 ≤ (i 0 : Nat) ∧ (i 0 : Nat) < win0_9.index t 0 * 256 + win0_9.xsize (grid0.coords t) 0
                rw [(idx9 t).1, (xs9 t).1]; omega
    | ⟨1, _⟩ => show win0_9.index t 1 * 1024 ≤ (i 1 : Nat) ∧ (i 1 : Nat) < win0_9.index t 1 * 1024 + win0_9.xsize (grid0.coords t) 1
                rw [(idx9 t).2, (xs9 t).2]; omega

theorem idx10 : ∀ t : Fin grid0.N, win0_10.index t 0 = 0 ∧ win0_10.index t 1 = 0 := by decide +kernel
theorem flush10 : ∀ t : Fin grid0.N, win0_10.flush t = true ↔ t.val = 15 := by decide +kernel
theorem xs10 : ∀ t : Fin grid0.N, win0_10.xsize (grid0.coords t) 0 = 8 ∧ win0_10.xsize (grid0.coords t) 1 = 1024 := by decide +kernel
theorem flushed10 (c : Dev nD) (t : Fin cfg0.N) (h : t.val = 15) :
    (dats m 0 c).flushed 10 t = ((cfg0.win 10).blk t).view.read (Elt Ideal) (final3 m c) := by
  show (cfg0.win 10).cut (grid0.coords t) ((dats m 0 c).after 10 t) = _
  rw [after10]
  funext y
  idx_vars y
  show (outs m c t.val t.isLt).2.2.2.1 (ix2 y0 y1) = final3 m c ((win0_10.rect t).emb (ix2 y0 y1))
  rw [show (win0_10.rect t).emb (ix2 y0 y1) = ix2 y0 y1 from funext fun a => Fin.ext (by
    rw [Pipeline.Window.rect_emb_val win0_10]
    match a with
    | ⟨0, _⟩ => show win0_10.index t 0 * 8 + y0.val = y0.val; rw [(idx10 t).1]; omega
    | ⟨1, _⟩ => show win0_10.index t 1 * 1024 + y1.val = y1.val; rw [(idx10 t).2]; omega)]
  rw [out10 m c y0 y1 t.val t.isLt, h]
  exact sum_rows fun R => sums (dz m c R) (cx m c R) (pm m c R) (gain m c) (bias m c) (wmap m c) y0 y1
/-- The fourth result array. -/
theorem arr10 (c : Dev nD) : (dats m 0 c).arrAt 10 cfg0.N = final3 m c :=
  (dats m 0 c).arrAt_eq_of_cover 10 (final3 m c) (fun t h => flushed10 m c t ((flush10 t).mp h)) fun i => by
    have h0 : (i 0 : Nat) < 8 := (i 0).isLt
    have h1 : (i 1 : Nat) < 1024 := (i 1).isLt
    refine ⟨⟨15, by decide⟩, (flush10 _).mpr rfl, ?_⟩
    generalize (⟨15, _⟩ : Fin cfg0.N) = t
    show i ∈ ((View.whole main_v39_3).slice (win0_10.rect t)).set
    rw [View.set_slice_whole, Rect.mem_set_unit]
    intro a
    match a with
    | ⟨0, _⟩ => show win0_10.index t 0 * 8 ≤ (i 0 : Nat) ∧ (i 0 : Nat) < win0_10.index t 0 * 8 + win0_10.xsize (grid0.coords t) 0
                rw [(idx10 t).1, (xs10 t).1]; omega
    | ⟨1, _⟩ => show win0_10.index t 1 * 1024 ≤ (i 1 : Nat) ∧ (i 1 : Nat) < win0_10.index t 1 * 1024 + win0_10.xsize (grid0.coords t) 1
                rw [(idx10 t).2, (xs10 t).2]; omega

theorem idx11 : ∀ t : Fin grid0.N, win0_11.index t 0 = 0 ∧ win0_11.index t 1 = 0 ∧ win0_11.index t 2 = 0 := by decide +kernel
theorem flush11 : ∀ t : Fin grid0.N, win0_11.flush t = true ↔ t.val = 15 := by decide +kernel
theorem xs11 : ∀ t : Fin grid0.N, win0_11.xsize (grid0.coords t) 0 = 4 ∧ win0_11.xsize (grid0.coords t) 1 = 256 ∧ win0_11.xsize (grid0.coords t) 2 = 256 := by decide +kernel
theorem flushed11 (c : Dev nD) (t : Fin cfg0.N) (h : t.val = 15) :
    (dats m 0 c).flushed 11 t = ((cfg0.win 11).blk t).view.read (Elt Ideal) (final4 m c) := by
  show (cfg0.win 11).cut (grid0.coords t) ((dats m 0 c).after 11 t) = _
  rw [after11]
  funext y
  idx_vars y
  show (outs m c t.val t.isLt).2.2.2.2 (ix3 y0 y1 y2) = final4 m c ((win0_11.rect t).emb (ix3 y0 y1 y2))
  rw [show (win0_11.rect t).emb (ix3 y0 y1 y2) = ix3 y0 y1 y2 from funext fun a => Fin.ext (by
    rw [Pipeline.Window.rect_emb_val win0_11]
    match a with
    | ⟨0, _⟩ => show win0_11.index t 0 * 4 + y0.val = y0.val; rw [(idx11 t).1]; omega
    | ⟨1, _⟩ => show win0_11.index t 1 * 256 + y1.val = y1.val; rw [(idx11 t).2.1]; omega
    | ⟨2, _⟩ => show win0_11.index t 2 * 256 + y2.val = y2.val; rw [(idx11 t).2.2]; omega)]
  rw [out11 m c y0 y1 y2 t.val t.isLt, h]
  exact sum_rows fun R => dmap (dz m c R) (pm m c R) (scl m c) y0 y1 y2
/-- The fifth result array. -/
theorem arr11 (c : Dev nD) : (dats m 0 c).arrAt 11 cfg0.N = final4 m c :=
  (dats m 0 c).arrAt_eq_of_cover 11 (final4 m c) (fun t h => flushed11 m c t ((flush11 t).mp h)) fun i => by
    have h0 : (i 0 : Nat) < 4 := (i 0).isLt
    have h1 : (i 1 : Nat) < 256 := (i 1).isLt
    have h2 : (i 2 : Nat) < 256 := (i 2).isLt
    refine ⟨⟨15, by decide⟩, (flush11 _).mpr rfl, ?_⟩
    generalize (⟨15, _⟩ : Fin cfg0.N) = t
    show i ∈ ((View.whole main_v39_4).slice (win0_11.rect t)).set
    rw [View.set_slice_whole, Rect.mem_set_unit]
    intro a
    match a with
    | ⟨0, _⟩ => show win0_11.index t 0 * 4 ≤ (i 0 : Nat) ∧ (i 0 : Nat) < win0_11.index t 0 * 4 + win0_11.xsize (grid0.coords t) 0
                rw [(idx11 t).1, (xs11 t).1]; omega
    | ⟨1, _⟩ => show win0_11.index t 1 * 256 ≤ (i 1 : Nat) ∧ (i 1 : Nat) < win0_11.index t 1 * 256 + win0_11.xsize (grid0.coords t) 1
                rw [(idx11 t).2.1, (xs11 t).2.1]; omega
    | ⟨2, _⟩ => show win0_11.index t 2 * 256 ≤ (i 2 : Nat) ∧ (i 2 : Nat) < win0_11.index t 2 * 256 + win0_11.xsize (grid0.coords t) 2
                rw [(idx11 t).2.2, (xs11 t).2.2]; omega

/-- The run: each result array at its function of the arguments, the arguments unchanged. -/
theorem run_values (ρ : Dev nD → PrngReg) : θ_run defs (onTc (τ := τ) (main (F := Ideal))) ⟨m, fun _ => 0, ρ⟩ (fun r => ∀ c : Dev nD,
      r.2.mem ((c : Thread nD τ).loc main_v39_0) = final0 m c
      ∧ r.2.mem ((c : Thread nD τ).loc main_v39_1) = final1 m c
      ∧ r.2.mem ((c : Thread nD τ).loc main_v39_2) = final2 m c
      ∧ r.2.mem ((c : Thread nD τ).loc main_v39_3) = final3 m c
      ∧ r.2.mem ((c : Thread nD τ).loc main_v39_4) = final4 m c) :=
  (θ_run defs _ _).mono (fun _ h c => ⟨((h c).1 7).trans (arr7 m c), ((h c).1 8).trans (arr8 m c), ((h c).1 9).trans (arr9 m c),
    ((h c).1 10).trans (arr10 m c), ((h c).1 11).trans (arr11 m c)⟩) (run m ρ)

end Cert.EvenBwdIdeal.Hand

end
-- ==== Proof.Even.Reference.lean ====
/- The reference's reverse pass, read entry by entry as functions of its rows. -/
module

public import proofs.«01_k».proof.Proof.Even.Block
public import proofs.«01_k».proof.Proof.Gen.EvenBwdRefIdeal.Run
public import proofs.«01_k».proof.Proof.Gen.EvenBwdRefIdeal.Read
public import Idealize.ShloMosaic.Lib.TwoAxisContraction

@[expose] public section

set_option maxRecDepth 16384

noncomputable section

namespace Cert.EvenBwdRefIdeal.Hand

open Cert.EvenBwdRefIdeal Cert.EvenBwdRefIdeal.Gen Cert.EvenBwdRefIdeal.Read Cert.Even Idealize.ShloMosaic Idealize.ShloMosaic.TcCoe Idealize.SL.Sem
open Cert.EvenBwdIdeal.Hand (cnt cnt_at)

variable (x0 : (⟨S4096x2048, .bf16⟩ : BufTy).Contents (Elt Ideal)) (x1 x2 x3 : (⟨S4096x1024, .bf16⟩ : BufTy).Contents (Elt Ideal))
  (x4 x5 x7 : (⟨S1x1024, .f32⟩ : BufTy).Contents (Elt Ideal)) (x6 : (⟨S4x256x256, .f32⟩ : BufTy).Contents (Elt Ideal))

/-- The mixer output's gradient, row `R`. -/
abbrev rz (R : Fin 4096) : Wide := fun k => x0 (ix2 R k)
/-- An array's row `R`. -/
abbrev rr (R : Fin 4096) : Row := fun k => x1 (ix2 R k)
/-- A vector. -/
abbrev rv : Row := fun k => x4 (ix2 0 k)
/-- The group maps. -/
abbrev rm : Maps := fun g i e => x6 (ix3 g i e)
/-- The pooled mean less the mixer's input, row `R`. -/
abbrev rp (R : Fin 4096) : Row := fun k => Ideal.div (x2 (ix2 R k)) (cnt (grp k) R.val) - x3 (ix2 R k)

/-! ## The LayerNorm and its gate -/

theorem v11_at (R : Fin 4096) (k : Fin 1024) : val_main_v11 x1 (ix2 R k) = xc (rr x1 R) k := by
  pointwise [val_main_v11, val_main_v10, val_main_v9, val_main_v8, val_main_cst_1, val_main_v7, val_main_v6, val_main_cst_0, val_main_v5, val_main_v4, val_main_v1, val_main_cst, val_main_v0]
  rfl
theorem v18_at (R : Fin 4096) : val_main_v18 x1 (ix2 R 0) = var (rr x1 R) := by
  pointwise [val_main_v18, val_main_v17, val_main_cst_4, val_main_v16, val_main_v15, val_main_cst_3, val_main_v14, val_main_v13, val_main_cst_2, val_main_v12, v11_at]
  rfl
theorem v19_at (R : Fin 4096) : val_main_v19 x1 (ix2 R 0) = rstd (rr x1 R) := by
  pointwise [val_main_v19, v18_at]
  rfl
theorem v24_at (R : Fin 4096) (k : Fin 1024) : val_main_v24 x1 (ix2 R k) = xhat (rr x1 R) k := by
  pointwise [val_main_v24, val_main_v23, v19_at, v11_at]
  rfl
theorem v28_at (R : Fin 4096) (k : Fin 1024) : val_main_v28 x1 x4 x5 (ix2 R k) = lin (rr x1 R) (rv x4) (rv x5) k := by
  pointwise [val_main_v28, val_main_v27, val_main_v26, val_main_v25, v24_at]
  rfl
theorem v29_at (R : Fin 4096) (k : Fin 1024) : val_main_v29_2 x1 x4 x5 (ix2 R k) = rsig (rr x1 R) (rv x4) (rv x5) k := by
  pointwise [val_main_v29_2, val_main_call0_v4, val_main_call0_cst_0, val_main_call0_v3, val_main_call0_v2, val_main_call0_cst, val_main_call0_v1, val_main_call0_v0, v28_at]
  rfl
theorem v90_at (R : Fin 4096) (k : Fin 1024) : val_main_v90 x0 x1 x4 x5 (ix2 R k) = rdl (zlo (rz x0 R)) (rr x1 R) (rv x4) (rv x5) k := by
  pointwise [val_main_v90, val_main_call1_v2, val_main_call1_v1, val_main_call1_v0, val_main_v72, val_main_v71, val_main_v29_1, val_main_call0_v7, val_main_call0_v6, val_main_call0_cst_1, v29_at, v28_at]
  rfl
theorem v97_at (R : Fin 4096) (k : Fin 1024) : val_main_v97 x0 x1 x4 x5 (ix2 R k) = rdl (zlo (rz x0 R)) (rr x1 R) (rv x4) (rv x5) k * rv x4 k := by
  pointwise [val_main_v97, val_main_v96, v90_at]
theorem v105_at (R : Fin 4096) : val_main_v105 x0 x1 x4 x5 (ix2 R 0) = rq (zlo (rz x0 R)) (rr x1 R) (rv x4) (rv x5) := by
  pointwise [val_main_v105, val_main_v104, val_main_cst_17, val_main_v103, val_main_v100, val_main_v99, val_main_cst_16, val_main_v98, v97_at, v11_at, val_main_v22, val_main_v21, val_main_cst_5, val_main_v20, v19_at, v18_at]
  rfl
theorem v107_at (R : Fin 4096) (k : Fin 1024) : val_main_v107 x0 x1 x4 x5 (ix2 R k) = rq (zlo (rz x0 R)) (rr x1 R) (rv x4) (rv x5) := by
  pointwise [val_main_v107, val_main_v106, val_main_cst_18]
  rw [Fin.sum_univ_one, v105_at]
theorem v111_at (R : Fin 4096) (k : Fin 1024) : val_main_v111 x0 x1 x4 x5 (ix2 R k) = Cert.Even.rw (zlo (rz x0 R)) (rr x1 R) (rv x4) (rv x5) k := by
  pointwise [val_main_v111, val_main_v110, val_main_v109, val_main_v108, val_main_v102, val_main_v101, v107_at, v97_at, v19_at, v11_at]
  rfl
theorem v119_at (R : Fin 4096) (k : Fin 1024) : val_main_v119 x0 x1 x4 x5 (ix2 R k) = rdx (zlo (rz x0 R)) (rr x1 R) (rv x4) (rv x5) k := by
  pointwise [val_main_v119, val_main_v118, val_main_v117, val_main_cst_21, val_main_v116, val_main_v115, val_main_cst_20, val_main_v114, val_main_v113, val_main_cst_19, val_main_v112, v111_at]
  rw [Fin.sum_univ_one]
  rfl

/-! ## The pooling -/

/-- The windows' lengths. -/
theorem v58_at (s : Fin 2048) (g : Fin 4) : val_main_v58 (F := Ideal) (ix2 s g) = cnt g s.val := by
  have hs : s.val % 2048 = s.val := Nat.mod_eq_of_lt s.isLt
  rw [← cnt_at g s.val, hs]
  have e := BitVec.ofNat_add (n := 32) s.val 1
  match g with
  | 0 => pointwise [val_main_v58, val_main_v54, val_main_v35, val_main_v34, val_main_v33, val_main_c_6, val_main_v32, val_main_v31, val_main_c, val_main_v30]; rw [e]; rfl
  | 1 => pointwise [val_main_v58, val_main_v55, val_main_v41, val_main_v40, val_main_v39, val_main_c_8, val_main_v38, val_main_v37, val_main_c_7, val_main_v36]; rw [e]; rfl
  | 2 => pointwise [val_main_v58, val_main_v56, val_main_v47, val_main_v46, val_main_v45, val_main_c_10, val_main_v44, val_main_v43, val_main_c_9, val_main_v42]; rw [e]; rfl
  | 3 => pointwise [val_main_v58, val_main_v57, val_main_v53, val_main_v52, val_main_v51, val_main_c_12, val_main_v50, val_main_v49, val_main_c_11, val_main_v48]; rw [e]; rfl
/-- Row `s` of sequence `b`. -/
def seqRow (b : Fin 2) (s : Fin 2048) : Fin 4096 := ⟨b.val * 2048 + s.val, by omega⟩
theorem cnt_seq (b : Fin 2) (s : Fin 2048) (g : Fin 4) : cnt g (seqRow b s).val = cnt g s.val := by
  unfold cnt seqRow
  dsimp only
  rw [show (b.val * 2048 + s.val) % 2048 = s.val % 2048 by omega]
theorem col_eq (g : Fin 4) (e : Fin 256) (h : g.val * 256 + e.val < 1024) : (⟨g.val * 256 + e.val, h⟩ : Fin 1024) = col g e :=
  Fin.ext (by simp only [col]; omega)
theorem seqRow_eq (R : Fin 4096) (h : R.val / 2048 < 2) (h' : R.val % 2048 < 2048) : seqRow ⟨R.val / 2048, h⟩ ⟨R.val % 2048, h'⟩ = R :=
  Fin.ext (by simp only [seqRow]; omega)
/-- The pooled mean less the mixer's input. -/
theorem v64_at (b : Fin 2) (s : Fin 2048) (g : Fin 4) (e : Fin 256) : val_main_v64 x2 x3 (ix4 b s g e) = rp x2 x3 (seqRow b s) (col g e) := by
  pointwise [val_main_v64, val_main_v63, val_main_v3, val_main_v62, val_main_v61, val_main_v60, val_main_v59, val_main_v2, v58_at]
  rw [col_eq]
  show _ = Ideal.div (x2 (ix2 (seqRow b s) (col g e))) (cnt (grp (col g e)) (seqRow b s).val) - _
  rw [grp_col, cnt_seq]
  rfl
theorem v80_at (b : Fin 2) (s : Fin 2048) (g : Fin 4) (e : Fin 256) : val_main_v80 x0 x7 (ix4 g e b s) = dq (rz x0 (seqRow b s)) (rv x7) (col g e) := by
  pointwise [val_main_v80, val_main_v79, val_main_v78, val_main_v77, val_main_v73, val_main_v71]
  have h : (⟨1024 + (g.val * 256 + e.val), by omega⟩ : Fin 2048) = ⟨1024 + (col g e).val, by omega⟩ := Fin.ext (by simp only [col]; omega)
  rw [h, col_eq]
  rfl
theorem v82_at (b : Fin 2) (s : Fin 2048) (g : Fin 4) (e : Fin 256) : val_main_v82 x0 x6 x7 (ix4 b s g e) = dpm (rz x0 (seqRow b s)) (rv x7) (rm x6) (col g e) := by
  pointwise [val_main_v82, val_main_v81, v80_at]
  unfold dpm
  rw [grp_col, off_col]
theorem v67_at (R : Fin 4096) (k : Fin 1024) : val_main_v67 x2 x3 x6 (ix2 R k) = pooled (rp x2 x3 R) (rm x6) k := by
  pointwise [val_main_v67, val_main_v66, val_main_v65, v64_at]
  rw [seqRow_eq]
  exact Finset.sum_congr rfl fun i _ => mul_comm _ _
theorem v89_at (R : Fin 4096) (k : Fin 1024) : val_main_v89 x0 x6 x7 (ix2 R k) = Ideal.div (dpm (rz x0 R) (rv x7) (rm x6) k) (cnt (grp k) R.val) := by
  pointwise [val_main_v89, val_main_v88, val_main_v87, val_main_v60, v82_at, v58_at]
  rw [seqRow_eq]
  have h : cnt ⟨k.val / 256, by omega⟩ (R.val % 2048) = cnt (grp k) R.val := by
    unfold cnt grp
    rw [Nat.mod_mod]
  rw [h]
  exact congrArg (fun j => Ideal.div (dpm (rz x0 R) (rv x7) (rm x6) j) (cnt (grp k) R.val)) (col_grp_off k)
theorem v124_at (R : Fin 4096) (k : Fin 1024) : val_main_v124 x0 x6 x7 (ix2 R k) = dpm (rz x0 R) (rv x7) (rm x6) k := by
  pointwise [val_main_v124, val_main_v86, val_main_v85, v82_at]
  rw [seqRow_eq, neg_neg]
  exact congrArg (dpm (rz x0 R) (rv x7) (rm x6)) (col_grp_off k)

/-! ## The maps' gradient and the column sums -/

/-- Two sequences of 2048 rows are the 4096 rows. -/
theorem sum_seq (f : Fin 4096 → EReal) : ∑ b, ∑ s, f (seqRow b s) = ∑ R, f R := by
  rw [← Equiv.sum_comp (finProdFinEquiv (m := 2) (n := 2048)) f, Fintype.sum_prod_type]
  refine Finset.sum_congr rfl fun b _ => Finset.sum_congr rfl fun s _ => congrArg f (Fin.ext ?_)
  show b.val * 2048 + s.val = s.val + 2048 * b.val
  omega
theorem v83_at (g : Fin 4) (e i : Fin 256) : val_main_v83 x0 x2 x3 x7 (ix3 g e i)
    = ∑ b, ∑ s, val_main_v80 x0 x7 (ix4 g e b s) * val_main_v64 x2 x3 (ix4 b s g i) := by
  unfold val_main_v83
  generalize val_main_v80 (F := Ideal) x0 x7 = L
  generalize val_main_v64 (F := Ideal) x2 x3 = Q
  simp only [Host.dotGeneral]
  have hr : dot_S4x256x2x2048_S2x2048x4x256_S4x256x256_23_01_1_3_0_2.contr.rank = 2 := rfl
  rw [Ideal.dotGeneral_apply, ValueIdx.sum_contr2 dot_S4x256x2x2048_S2x2048x4x256_S4x256x256_23_01_1_3_0_2 2 2048 hr rfl rfl]
  refine Finset.sum_congr rfl fun b _ => Finset.sum_congr rfl fun s _ => ?_
  have h0 := ValueIdx.contrEquiv2_symm_val0 dot_S4x256x2x2048_S2x2048x4x256_S4x256x256_23_01_1_3_0_2 2 2048 hr rfl rfl (b, s)
  have h1 := ValueIdx.contrEquiv2_symm_val1 dot_S4x256x2x2048_S2x2048x4x256_S4x256x256_23_01_1_3_0_2 2 2048 hr rfl rfl (b, s)
  refine congrArg₂ (fun p q => L p * Q q) (funext fun a => Fin.ext ?_) (funext fun a => Fin.ext ?_)
  · match a with
    | ⟨0, _⟩ => rfl
    | ⟨1, _⟩ => rfl
    | ⟨2, _⟩ => exact h0
    | ⟨3, _⟩ => exact h1
  · match a with
    | ⟨0, _⟩ => exact h0
    | ⟨1, _⟩ => exact h1
    | ⟨2, _⟩ => rfl
    | ⟨3, _⟩ => rfl
theorem v84_at (g : Fin 4) (i e : Fin 256) : val_main_v84 x0 x2 x3 x7 (ix3 g i e) = ∑ R, dmap (rz x0 R) (rp x2 x3 R) (rv x7) g i e := by
  pointwise [val_main_v84]
  rw [v83_at, ← sum_seq]
  refine Finset.sum_congr rfl fun b _ => Finset.sum_congr rfl fun s _ => ?_
  rw [v80_at, v64_at]
  exact mul_comm _ _

/-- The reference's eight rows of column sums. -/
theorem v127_at (i : Fin 8) (k : Fin 1024) : val_main_v127 x0 x1 x2 x3 x4 x5 x6 (ix2 i k)
    = if i.val = 0 then ∑ R, xhat (rr x1 R) k * rdl (zlo (rz x0 R)) (rr x1 R) (rv x4) (rv x5) k
      else if i.val = 1 then ∑ R, rdl (zlo (rz x0 R)) (rr x1 R) (rv x4) (rv x5) k
      else if i.val = 2 then ∑ R, rdx (zlo (rz x0 R)) (rr x1 R) (rv x4) (rv x5) k
      else if i.val = 3 then ∑ R, pooled (rp x2 x3 R) (rm x6) k * zhi (rz x0 R) k
      else 0 := by
  pointwise [val_main_v127, val_main_v126, val_main_cst_23, val_main_v121, val_main_v120, val_main_cst_22, val_main_v95, val_main_v94, val_main_cst_15, val_main_v93, val_main_v92, val_main_v91, val_main_cst_14, val_main_v76, val_main_v75, val_main_cst_13, val_main_v74, val_main_v73, val_main_v71, v119_at, v90_at, v24_at, v67_at]
  split_ifs <;> first | rfl | omega

end Cert.EvenBwdRefIdeal.Hand

end
-- ==== Proof.Even.Equation.lean ====
/- The kernel's five arrays are the reference's: finite rows make the two LayerNorm gradients one, the rest holds of all extended reals. -/
module

public import proofs.«01_k».proof.Proof.Even.Array
public import proofs.«01_k».proof.Proof.Even.Frame
public import proofs.«01_k».proof.Proof.Even.Reference
public import proofs.«01_k».proof.Defs
public import proofs.«01_k».proof.Proof.Gen.Pre_even_finite

@[expose] public section

set_option maxRecDepth 16384

noncomputable section

namespace Cert.Even

open Idealize.ShloMosaic Idealize.ShloMosaic.TcCoe Idealize.SL.Sem

/-- A comparison below infinity of the absolute value says the entry is a real number. -/
theorem real_of_lt (x : EReal) (h : Ideal.cmp .olt (max x (-x)) ⊤ = 1#1) : ∃ r : ℝ, x = (r : EReal) := by
  have h' : max x (-x) < ⊤ := by
    by_contra hn
    simp [Ideal.cmp, hn] at h
  refine ⟨x.toReal, (EReal.coe_toReal (fun e => ?_) (fun e => ?_)).symm⟩
  · subst e; simp at h'
  · subst e; simp at h'

theorem inf_bf16 : Ideal.ofBits FTy.bf16 0x7F80#16 = ⊤ := by
  simp [Ideal.ofBits, Ideal.ieee]
theorem inf_f32 : Ideal.ofBits FTy.f32 0x7F800000#32 = ⊤ := by
  simp [Ideal.ofBits, Ideal.ieee]

section pre
open Cert.Pre_even_finite
variable (x0 : FVec Ideal S4096x2048 .bf16) (x1 x2 x3 : FVec Ideal S4096x1024 .bf16) (x4 x5 : FVec Ideal S1x1024 .f32)
  (x6 : FVec Ideal S4x256x256 .f32) (x7 : FVec Ideal S1x1024 .f32)

theorem pre0_at (R : Fin 4096) (k : Fin 2048) : (fn x0 x1 x2 x3 x4 x5 x6 x7).1 (ix2 R k) = Ideal.cmp .olt (max (x0 (ix2 R k)) (-x0 (ix2 R k))) ⊤ := by
  pointwise [fn]
  rw [inf_bf16]
  rfl
theorem pre1_at (R : Fin 4096) (k : Fin 1024) : (fn x0 x1 x2 x3 x4 x5 x6 x7).2.1 (ix2 R k) = Ideal.cmp .olt (max (x1 (ix2 R k)) (-x1 (ix2 R k))) ⊤ := by
  pointwise [fn]
  rw [inf_bf16]
  rfl
theorem pre2_at (k : Fin 1024) : (fn x0 x1 x2 x3 x4 x5 x6 x7).2.2.1 (ix2 0 k) = Ideal.cmp .olt (max (x4 (ix2 0 k)) (-x4 (ix2 0 k))) ⊤ := by
  pointwise [fn]
  rw [inf_f32]
  rfl
theorem pre3_at (k : Fin 1024) : (fn x0 x1 x2 x3 x4 x5 x6 x7).2.2.2 (ix2 0 k) = Ideal.cmp .olt (max (x5 (ix2 0 k)) (-x5 (ix2 0 k))) ⊤ := by
  pointwise [fn]
  rw [inf_f32]
  rfl
end pre

end Cert.Even

namespace Cert.EvenBwdIdeal.Hand

open Cert.EvenBwdIdeal Cert.EvenBwdIdeal.Gen Cert.Even Idealize.ShloMosaic Idealize.ShloMosaic.TcCoe Idealize.SL.Sem

variable (m : (ℓ : Loc nD τ sig) → Buf (Elt Ideal) ℓ)

/-- The rows the LayerNorm gradient reads are rows of real numbers. -/
def RealRows (c : Dev nD) : Prop :=
  (∀ R, ∃ z : Fin 1024 → ℝ, zlo (dz m c R) = fun k => (z k : EReal)) ∧ (∀ R, ∃ x : Fin 1024 → ℝ, cx m c R = fun k => (x k : EReal))
    ∧ (∃ g : Fin 1024 → ℝ, gain m c = fun k => (g k : EReal)) ∧ ∃ b : Fin 1024 → ℝ, bias m c = fun k => (b k : EReal)

/-- A row each of whose entries is real is a row of reals. -/
theorem row_real (f : Row) (h : ∀ k, ∃ r : ℝ, f k = (r : EReal)) : ∃ z : Fin 1024 → ℝ, f = fun k => (z k : EReal) :=
  ⟨fun k => (h k).choose, funext fun k => (h k).choose_spec⟩

/-- The precondition is that the rows are real. -/
theorem realRows (h : Cert.Pre_EvenBwdIdeal_even_finite m) (c : Dev nD) : RealRows m c := by
  obtain ⟨h0, h1, h2, h3⟩ := h c
  exact ⟨fun R => row_real _ fun k => real_of_lt _ ((pre0_at _ _ _ _ _ _ _ _ R ⟨k.val, by omega⟩).symm.trans (congrFun h0 _)),
    fun R => row_real _ fun k => real_of_lt _ ((pre1_at _ _ _ _ _ _ _ _ R k).symm.trans (congrFun h1 _)),
    row_real _ fun k => real_of_lt _ ((pre2_at _ _ _ _ _ _ _ _ k).symm.trans (congrFun h2 _)),
    row_real _ fun k => real_of_lt _ ((pre3_at _ _ _ _ _ _ _ _ k).symm.trans (congrFun h3 _))⟩

variable {m}
theorem dl_eq {c : Dev nD} (h : RealRows m c) (R : Fin 4096) (k : Fin 1024) :
    dl (zlo (dz m c R)) (cx m c R) (gain m c) (bias m c) k = rdl (zlo (dz m c R)) (cx m c R) (gain m c) (bias m c) k := by
  obtain ⟨hz, hx, ⟨g, hg⟩, b, hb⟩ := h
  obtain ⟨z, hz⟩ := hz R
  obtain ⟨x, hx⟩ := hx R
  rw [hz, hx, hg, hb]
  exact (dl_dx_eq x g b z).1 k
theorem dx_eq {c : Dev nD} (h : RealRows m c) (R : Fin 4096) (k : Fin 1024) :
    dx (zlo (dz m c R)) (cx m c R) (gain m c) (bias m c) k = rdx (zlo (dz m c R)) (cx m c R) (gain m c) (bias m c) k := by
  obtain ⟨hz, hx, ⟨g, hg⟩, b, hb⟩ := h
  obtain ⟨z, hz⟩ := hz R
  obtain ⟨x, hx⟩ := hx R
  rw [hz, hx, hg, hb]
  exact (dl_dx_eq x g b z).2 k

/-- Dividing by the window's length is multiplying by its reciprocal. -/
theorem div_cnt (d : EReal) (g : Fin 4) (s : ℕ) : Ideal.div d (cnt g s) = d * Ideal.div 1 (cnt g s) := by
  have h : (((min (s % 2048 + 1) (2 ^ (g.val + 1)) : ℕ) : ℝ)) ≠ 0 := by
    have h2 : 0 < 2 ^ (g.val + 1) := Nat.pow_pos (by decide)
    have : 0 < min (s % 2048 + 1) (2 ^ (g.val + 1)) := lt_min (by omega) h2
    exact_mod_cast this.ne'
  unfold cnt
  rw [Ideal.div_coe h, Ideal.div_coe h, one_mul]

open Cert.EvenBwdRefIdeal.Read Cert.EvenBwdRefIdeal.Hand
variable (m)

theorem eq0 {c : Dev nD} (h : RealRows m c) : val_main_v122 (F := Ideal) (m ((c.tc : Thread nD τ).loc main_arg0)) (m ((c.tc : Thread nD τ).loc main_arg1))
    (m ((c.tc : Thread nD τ).loc main_arg4)) (m ((c.tc : Thread nD τ).loc main_arg5)) = final0 m c := by
  funext i
  idx_vars i
  exact (v119_at _ _ _ _ _ _).trans (dx_eq h _ _).symm
theorem eq1 (c : Dev nD) : val_main_v123 (F := Ideal) (m ((c.tc : Thread nD τ).loc main_arg0)) (m ((c.tc : Thread nD τ).loc main_arg6))
    (m ((c.tc : Thread nD τ).loc main_arg7)) = final1 m c := by
  funext i
  idx_vars i
  exact (v89_at _ _ _ _ _).trans (div_cnt _ _ _)
theorem eq2 (c : Dev nD) : val_main_v125 (F := Ideal) (m ((c.tc : Thread nD τ).loc main_arg0)) (m ((c.tc : Thread nD τ).loc main_arg6))
    (m ((c.tc : Thread nD τ).loc main_arg7)) = final2 m c := by
  funext i
  idx_vars i
  exact v124_at _ _ _ _ _
theorem eq3 {c : Dev nD} (h : RealRows m c) : val_main_v127 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) = final3 m c := by
  funext i
  idx_vars i
  refine (v127_at _ _ _ _ _ _ _ _ _).trans ?_
  show _ = ∑ R, sums (dz m c R) (cx m c R) (pm m c R) (gain m c) (bias m c) (wmap m c) i0 i1
  unfold sums
  split_ifs
  · exact Finset.sum_congr rfl fun R _ => (mul_comm _ _).trans (congrArg (· * _) (dl_eq h R i1).symm)
  · exact Finset.sum_congr rfl fun R _ => (dl_eq h R i1).symm
  · exact Finset.sum_congr rfl fun R _ => (dx_eq h R i1).symm
  · exact Finset.sum_congr rfl fun R _ => mul_comm _ _
  · exact Finset.sum_const_zero.symm
theorem eq4 (c : Dev nD) : val_main_v84 (F := Ideal) (m ((c.tc : Thread nD τ).loc main_arg0)) (m ((c.tc : Thread nD τ).loc main_arg2))
    (m ((c.tc : Thread nD τ).loc main_arg3)) (m ((c.tc : Thread nD τ).loc main_arg7)) = final4 m c := by
  funext i
  idx_vars i
  exact v84_at _ _ _ _ _ _ _

end Cert.EvenBwdIdeal.Hand

end
-- ==== Proof.Even.Text.lean ====
/- The kernel's text and its idealization's are one: the frame at the words from the run over any arithmetic. -/
module

public import proofs.«01_k».proof.Defs
public import proofs.«01_k».proof.Proof.Gen.EvenBwd
public import proofs.«01_k».proof.Proof.Even.Frame

@[expose] public section

set_option maxRecDepth 16384

noncomputable section

namespace Cert.EvenBwd.Hand

open Idealize.ShloMosaic Idealize.SL.Sem Cert.EvenBwd Cert.EvenBwd.Gen

theorem body_eq : @Cert.EvenBwd.cc0_even_bwd Bits _ _ = @Cert.EvenBwdIdeal.cc0_even_bwd Bits _ _ := rfl
set_option maxHeartbeats 8000000 in
set_option backward.isDefEq.respectTransparency false in
theorem defs₀_eq : Cert.EvenBwd.defs₀ (F := Bits) = Cert.EvenBwdIdeal.defs₀ (F := Bits) := by
  unfold Cert.EvenBwd.defs₀ Cert.EvenBwdIdeal.defs₀
  refine congrArg Defs.onTc (funext fun l => ?_)
  match l with
  | ⟨0, _⟩ =>
    refine funext fun a => ?_
    obtain ⟨t, s⟩ := a
    set_option smartUnfolding false in
    exact congrArg (fun f => f (grid0.coords t) (win0_0.stage (s 0)) (hstage0_0 ((s 0).cast nbuf0_0)) (win0_1.stage (s 1)) (hstage0_1 ((s 1).cast nbuf0_1)) (win0_2.stage (s 2)) (hstage0_2 ((s 2).cast nbuf0_2)) (win0_3.stage (s 3)) (hstage0_3 ((s 3).cast nbuf0_3)) (win0_4.stage (s 4)) (hstage0_4 ((s 4).cast nbuf0_4)) (win0_5.stage (s 5)) (hstage0_5 ((s 5).cast nbuf0_5)) (win0_6.stage (s 6)) (hstage0_6 ((s 6).cast nbuf0_6)) (win0_7.stage (s 7)) (hstage0_7 ((s 7).cast nbuf0_7)) (win0_8.stage (s 8)) (hstage0_8 ((s 8).cast nbuf0_8)) (win0_9.stage (s 9)) (hstage0_9 ((s 9).cast nbuf0_9)) (win0_10.stage (s 10)) (hstage0_10 ((s 10).cast nbuf0_10)) (win0_11.stage (s 11)) (hstage0_11 ((s 11).cast nbuf0_11))) body_eq
set_option maxHeartbeats 2000000 in
theorem defs_eq : Cert.EvenBwd.defs (F := Bits) = Cert.EvenBwdIdeal.defs (F := Bits) :=
  congrArg (Pipeline.defs (Cert.EvenBwdIdeal.pcfgs (F := Bits))) defs₀_eq
set_option maxHeartbeats 4000000 in
theorem main_eq (c : Dev nD) : Cert.EvenBwd.main (F := Bits) c = Cert.EvenBwdIdeal.main (F := Bits) c := by
  unfold Cert.EvenBwd.main Cert.EvenBwdIdeal.main
  rfl

set_option maxHeartbeats 4000000 in
/-- The frame at the words. -/
theorem frame : Cert.quiescent_EvenBwd := fun m g _ =>
  (congrArg₂ (fun d p => θ_run d p ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)) defs_eq (congrArg (onTc (τ := τ)) (funext main_eq))).mpr (Cert.EvenBwdIdeal.Hand.frame (F := Bits) m g)

end Cert.EvenBwd.Hand

end
-- ==== Proof.Prod.Sum.lean ====
/- Sums over a long axis, taken block by block. -/
module

public import Idealize.ShloMosaic.Lib.Pointwise

@[expose] public section

noncomputable section

namespace Cert.Prod

/-- A sum over two blocks of `n` is the two blocks' sums. -/
theorem sum_two (n : ℕ) (f : ℕ → EReal) :
    ∑ k : Fin (2 * n), f k.val = (∑ k : Fin n, f (n * 0 + k.val)) + ∑ k : Fin n, f (n * 1 + k.val) := by
  simp only [Fin.sum_univ_eq_sum_range (fun k => f k), Fin.sum_univ_eq_sum_range (fun k => f (n * 0 + k)),
    Fin.sum_univ_eq_sum_range (fun k => f (n * 1 + k))]
  rw [show 2 * n = n + n by omega, Finset.sum_range_add]
  simp

/-- A sum over three blocks of `n` is the three blocks' sums, added from the first to the last. -/
theorem sum_three (n : ℕ) (f : ℕ → EReal) :
    ∑ k : Fin (3 * n), f k.val
      = ((∑ k : Fin n, f (n * 0 + k.val)) + ∑ k : Fin n, f (n * 1 + k.val)) + ∑ k : Fin n, f (n * 2 + k.val) := by
  simp only [Fin.sum_univ_eq_sum_range (fun k => f k), Fin.sum_univ_eq_sum_range (fun k => f (n * 0 + k)),
    Fin.sum_univ_eq_sum_range (fun k => f (n * 1 + k)), Fin.sum_univ_eq_sum_range (fun k => f (n * 2 + k))]
  rw [show 3 * n = (n + n) + n by omega, Finset.sum_range_add, Finset.sum_range_add]
  simp [mul_comm n 2, two_mul]

end Cert.Prod

end
-- ==== Proof.Prod.DwFfn.lean ====
/- The gradient of a feed-forward weight: the hidden layer's transpose times the gradient of the product. -/
module

public import proofs.«01_k».proof.Defs
public import proofs.«01_k».proof.Proof.Prod.Sum
public import proofs.«01_k».proof.Proof.Gen.DwFfnIdeal.Value
public import proofs.«01_k».proof.Proof.Gen.DwFfn.Frame
public import proofs.«01_k».proof.Proof.Gen.DwFfnRefIdeal.Read

@[expose] public section

set_option maxRecDepth 16384

noncomputable section

namespace Cert.DwFfnIdeal.Hand

open Cert.DwFfnIdeal Cert.DwFfnIdeal.Gen Cert.Prod Idealize.ShloMosaic Idealize.ShloMosaic.TcCoe Idealize.SL.Sem

/-! ## What the body computes on one pair of blocks -/

theorem origin : (![0, 0] : Fin 2 → Nat) = fun _ => 0 := by decide

theorem pay1_at (a : Vec Ideal S2048x1408 .bf16) (b : Vec Ideal S2048x1024 .bf16) (r : Fin 1408) (s : Fin 1024) :
    k0_pay1 a b (ix2 r s) = ∑ k : Fin 2048, a (ix2 k r) * b (ix2 k s) := by
  pointwise [k0_pay1]
theorem pay3_at (p : Vec Ideal S1408x1024 .f32) (a : Vec Ideal S2048x1408 .bf16) (b : Vec Ideal S2048x1024 .bf16) (r : Fin 1408) (s : Fin 1024) :
    k0_pay3 p a b (ix2 r s) = p (ix2 r s) + ∑ k : Fin 2048, a (ix2 k r) * b (ix2 k s) := by
  pointwise [k0_pay3]

/-! ## What each point leaves -/

/-- The first point of a block leaves the product of its blocks in the scratch. -/
theorem out_first (c : Dev nD) (i : grid0.Coords) {d0 h0 d1 h1 d2 h2 d3 h3 c0 c1 c2} (a : Vec Ideal S2048x1408 .bf16) (b : Vec Ideal S2048x1024 .bf16) :
    sout0_A_0 (F := Ideal) c i d0 h0 d1 h1 d2 h2 d3 h3 c0 c1 c2 a b = k0_pay1 a b := by
  unfold sout0_A_0
  rw [View.read_writes_eq_canon _ _ _ (scover0_A_0 c i d0 h0 d1 h1 d2 h2 d3 h3 c0 c1 c2 a b)]
  unfold kernelRun0_A
  dsimp only
  rw [View.canon_unit_zero origin]
  unfold k0_pay1
  simp only [View.readAt_eq_ld, h0.read_unread, h1.read_unread, h3.read_unread, View.ld_unit_zero (S := S2048x1408) origin, View.ld_unit_zero (S := S2048x1024) origin, View.ld_unit_zero (S := S1408x1024) origin, shapeCast_self]

/-- The last point of a block stores the scratch plus the product of its blocks. -/
theorem out_last (c : Dev nD) (i : grid0.Coords) {d0 h0 d1 h1 d2 h2 d3 h3 c0 c1 c2} (a : Vec Ideal S2048x1408 .bf16) (b : Vec Ideal S2048x1024 .bf16) (p : Vec Ideal S1408x1024 .f32) :
    out0_B_2 (F := Ideal) c i d0 h0 d1 h1 d2 h2 d3 h3 c0 c1 c2 a b p = k0_pay3 p a b := by
  unfold out0_B_2
  rw [View.read_writes_eq_canon _ _ _ (cover0_B_2 c i d0 h0 d1 h1 d2 h2 d3 h3 c0 c1 c2 a b p)]
  unfold kernelRun0_B
  dsimp only
  rw [View.canon_unit_zero origin]
  unfold k0_pay3
  simp only [View.readAt_eq_ld, h0.read_unread, h1.read_unread, h3.read_unread, View.ld_unit_zero (S := S2048x1408) origin, View.ld_unit_zero (S := S2048x1024) origin, View.ld_unit_zero (S := S1408x1024) origin, shapeCast_self]

/-! ## The blocks, in the argument arrays -/

variable (m : (ℓ : Loc nD τ sig) → Buf (Elt Ideal) ℓ)

/-- Argument 0, entry `(i, j)`. -/
def lhs (c : Dev nD) (i j : ℕ) : EReal :=
  m ((c : Thread nD τ).loc main_arg0) (ix2 ⟨i % 4096, Nat.mod_lt _ (by decide)⟩ ⟨j % 5632, Nat.mod_lt _ (by decide)⟩)
theorem idx0 : ∀ t : Fin grid0.N, win0_0.index t 0 = t.val % 2 ∧ win0_0.index t 1 = t.val / 4 := by decide +kernel
theorem blk0 (c : Dev nD) (t : Fin cfg0.N) (r : Fin 2048) (s : Fin 1408) :
    iblk m c 0 t (ix2 r s) = lhs m c (2048 * (t.val % 2) + r.val) (1408 * (t.val / 4) + s.val) := by
  have ht : t.val < 16 := lt_of_lt_of_eq t.isLt N_0
  show V m c main_arg0 ((win0_0.rect t).emb (ix2 r s)) = _
  rw [V_main_arg0]
  refine congrArg (m ((c : Thread nD τ).loc main_arg0)) (funext fun a => Fin.ext ?_)
  rw [Pipeline.Window.rect_emb_val win0_0]
  match a with
  | ⟨0, _⟩ => show win0_0.index t 0 * 2048 + r.val = (2048 * (t.val % 2) + r.val) % 4096; rw [(idx0 t).1]; omega
  | ⟨1, _⟩ => show win0_0.index t 1 * 1408 + s.val = (1408 * (t.val / 4) + s.val) % 5632; rw [(idx0 t).2]; omega

/-- Argument 1, entry `(i, j)`. -/
def rhs (c : Dev nD) (i j : ℕ) : EReal :=
  m ((c : Thread nD τ).loc main_arg1) (ix2 ⟨i % 4096, Nat.mod_lt _ (by decide)⟩ ⟨j % 2048, Nat.mod_lt _ (by decide)⟩)
theorem idx1 : ∀ t : Fin grid0.N, win0_1.index t 0 = t.val % 2 ∧ win0_1.index t 1 = t.val / 2 % 2 := by decide +kernel
theorem blk1 (c : Dev nD) (t : Fin cfg0.N) (r : Fin 2048) (s : Fin 1024) :
    iblk m c 1 t (ix2 r s) = rhs m c (2048 * (t.val % 2) + r.val) (1024 * (t.val / 2 % 2) + s.val) := by
  have ht : t.val < 16 := lt_of_lt_of_eq t.isLt N_0
  show V m c main_arg1 ((win0_1.rect t).emb (ix2 r s)) = _
  rw [V_main_arg1]
  refine congrArg (m ((c : Thread nD τ).loc main_arg1)) (funext fun a => Fin.ext ?_)
  rw [Pipeline.Window.rect_emb_val win0_1]
  match a with
  | ⟨0, _⟩ => show win0_1.index t 0 * 2048 + r.val = (2048 * (t.val % 2) + r.val) % 4096; rw [(idx1 t).1]; omega
  | ⟨1, _⟩ => show win0_1.index t 1 * 1024 + s.val = (1024 * (t.val / 2 % 2) + s.val) % 2048; rw [(idx1 t).2]; omega

/-! ## The whole array -/

/-- The product of the arguments. -/
def prod (c : Dev nD) : FVec Ideal S5632x2048 .bf16 := fun i => (∑ k : Fin 4096, lhs m c (k.val) ((i 0 : Fin 5632).val) * rhs m c (k.val) ((i 1 : Fin 2048).val))

theorem idxOut : ∀ t : Fin grid0.N, win0_2.index t 0 = t.val / 4 ∧ win0_2.index t 1 = t.val / 2 % 2 := by decide +kernel
/-- What a point that ends a block writes back is its block of the product. -/
theorem flushed_eq (c : Dev nD) (t : Fin cfg0.N) (h : t.val % 2 = 1) :
    (dats m 0 c).flushed 2 t = ((cfg0.win 2).blk t).view.read (Elt Ideal) (prod m c) := by
  have ht : t.val < 16 := lt_of_lt_of_eq t.isLt N_0
  have e1 : (t.val - 1) % 2 = 0 := by omega
  have e2 : (t.val - 1) / 4 = t.val / 4 := by omega
  have e3 : (t.val - 1) / 2 % 2 = t.val / 2 % 2 := by omega
  rw [Value.flushed2_B m c t (by omega) h, out_last]
  have hA := congrArg Prod.snd (outsAt0_A m c ⟨t.val - 1, Nat.lt_of_le_of_lt (Nat.sub_le _ _) t.isLt⟩ (by dsimp only; omega) (by dsimp only; omega))
  dsimp only at hA
  rw [out_first] at hA
  funext y
  idx_vars y
  show k0_pay3 _ (iblk m c 0 t) (iblk m c 1 t) (ix2 y0 y1) = prod m c ((win0_2.rect t).emb (ix2 y0 y1))
  rw [hA, pay3_at, pay1_at]
  simp only [blk0, blk1, h, e1, e2, e3]
  rw [show (win0_2.rect t).emb (ix2 y0 y1) = ix2 (⟨1408 * (t.val / 4) + y0.val, by omega⟩ : Fin 5632) (⟨1024 * (t.val / 2 % 2) + y1.val, by omega⟩ : Fin 2048) from funext fun a => Fin.ext (by
    rw [Pipeline.Window.rect_emb_val win0_2]
    match a with
    | ⟨0, _⟩ => show win0_2.index t 0 * 1408 + y0.val = _; rw [(idxOut t).1]; exact congrArg (· + y0.val) (Nat.mul_comm _ _)
    | ⟨1, _⟩ => show win0_2.index t 1 * 1024 + y1.val = _; rw [(idxOut t).2]; exact congrArg (· + y1.val) (Nat.mul_comm _ _))]
  show _ = (∑ k : Fin 4096, lhs m c (k.val) (1408 * (t.val / 4) + y0.val) * rhs m c (k.val) (1024 * (t.val / 2 % 2) + y1.val))
  exact (sum_two 2048 (fun k => lhs m c (k) (1408 * (t.val / 4) + y0.val) * rhs m c (k) (1024 * (t.val / 2 % 2) + y1.val))).symm

/-- The result array when the run ends. -/
theorem final (c : Dev nD) : (dats m 0 c).arrAt 2 cfg0.N = prod m c :=
  (dats m 0 c).arrAt_eq_of_cover 2 (prod m c) (fun t hf => flushed_eq m c t ((flush0_2 t).mp hf))
    fun i => (Value.covered_iff2 i).2 (by
      have h0 : (i 0 : Nat) < 5632 := (i 0).isLt
      have h1 : (i 1 : Nat) < 2048 := (i 1).isLt
      omega)

end Cert.DwFfnIdeal.Hand

namespace Cert.DwFfnRefIdeal.Hand

open Cert.DwFfnIdeal.Hand Cert.DwFfnRefIdeal Cert.DwFfnRefIdeal.Read Idealize.ShloMosaic Idealize.ShloMosaic.TcCoe Idealize.SL.Sem

/-- The reference's result is the same product. -/
theorem value (m : (ℓ : Loc Cert.DwFfnIdeal.nD Cert.DwFfnIdeal.τ Cert.DwFfnIdeal.sig) → Buf (Elt Ideal) ℓ) (c : Dev Cert.DwFfnIdeal.nD) :
    val_main_v8 (F := Ideal) (m ((c : Thread Cert.DwFfnIdeal.nD Cert.DwFfnIdeal.τ).loc Cert.DwFfnIdeal.main_arg0)) (m ((c : Thread Cert.DwFfnIdeal.nD Cert.DwFfnIdeal.τ).loc Cert.DwFfnIdeal.main_arg1)) = prod m c := by
  funext i
  idx_vars i
  show _ = (∑ k : Fin 4096, lhs m c (k.val) (i0.val) * rhs m c (k.val) (i1.val))
  unfold lhs rhs
  simp only [Nat.mod_eq_of_lt (Fin.isLt _)]
  generalize m (Thread.loc (c : Thread Cert.DwFfnIdeal.nD Cert.DwFfnIdeal.τ) Cert.DwFfnIdeal.main_arg0) = x0
  generalize m (Thread.loc (c : Thread Cert.DwFfnIdeal.nD Cert.DwFfnIdeal.τ) Cert.DwFfnIdeal.main_arg1) = x1
  pointwise [val_main_v8, val_main_v7, val_main_v6, val_main_v5, val_main_v1]
  exact Finset.sum_congr rfl fun k _ => mul_comm _ _

end Cert.DwFfnRefIdeal.Hand

namespace Cert.Proof

open Idealize.ShloMosaic Idealize.SL.Sem

/-- The kernel's and the reference's results are equal. -/
theorem DwFfn_equal : Cert.algebraic_DwFfnIdeal_DwFfnRefIdeal := by
  intro m g m' g' _ hargs
  refine ⟨fun c => Cert.DwFfnIdeal.Hand.prod m c, ?_, ?_⟩
  · refine (θ_run Cert.DwFfnIdeal.defs _ _).mono ?_ (Cert.DwFfnIdeal.Value.run_blocks m g)
    intro r h c
    exact ⟨(h c).1.trans (Cert.DwFfnIdeal.Hand.final m c), (h c).2⟩
  · refine (θ_run Cert.DwFfnRefIdeal.defs _ _).mono ?_ (Cert.DwFfnRefIdeal.Value.run (F := Ideal) m' g')
    intro r h c
    obtain ⟨e0, e1⟩ := hargs c
    refine ⟨?_, (h c).2⟩
    refine ((h c).1.trans (Cert.DwFfnRefIdeal.Read.val_main_v8_eq _ _)).trans (Eq.trans ?_ (Cert.DwFfnRefIdeal.Hand.value m c))
    rw [← e0, ← e1]
theorem DwFfn_frame : Cert.quiescent_DwFfn := fun m g _ => Cert.DwFfn.Gen.frame m g
theorem DwFfn_frame_ideal : Cert.quiescent_DwFfnIdeal := fun m g _ => Cert.DwFfnIdeal.Gen.frame m g
theorem DwFfn_frame_ref : Cert.quiescent_DwFfnRefIdeal := fun m g _ =>
  (θ_run Cert.DwFfnRefIdeal.defs _ _).mono (fun r h => ⟨fun c => (h c).2, sem_eq_zero_of_no_sems (by decide) r.2⟩)
    (Cert.DwFfnRefIdeal.Value.run (F := Ideal) m g)

end Cert.Proof

end
-- ==== Proof.Prod.DxFfn.lean ====
/- The gradient of the feed-forward's argument: two products added. -/
module

public import proofs.«01_k».proof.Defs
public import proofs.«01_k».proof.Proof.Prod.Sum
public import proofs.«01_k».proof.Proof.Gen.DxFfnIdeal.Value
public import proofs.«01_k».proof.Proof.Gen.DxFfn.Frame
public import proofs.«01_k».proof.Proof.Gen.DxFfnRefIdeal.Read

@[expose] public section

set_option maxRecDepth 16384

noncomputable section

namespace Cert.DxFfnIdeal.Hand

open Cert.DxFfnIdeal Cert.DxFfnIdeal.Gen Cert.Prod Idealize.ShloMosaic Idealize.ShloMosaic.TcCoe Idealize.SL.Sem

/-! ## What the body computes on one pair of blocks -/

theorem origin : (![0, 0] : Fin 2 → Nat) = fun _ => 0 := by decide

theorem pay1_at (a : Vec Ideal S1024x2816 .bf16) (b : Vec Ideal S2816x512 .bf16) (a2 : Vec Ideal S1024x2816 .bf16) (b2 : Vec Ideal S2816x512 .bf16) (r : Fin 1024) (s : Fin 512) :
    k0_pay1 a b a2 b2 (ix2 r s) = ((∑ k : Fin 2816, a (ix2 r k) * b (ix2 k s)) + ∑ k : Fin 2816, a2 (ix2 r k) * b2 (ix2 k s)) := by
  pointwise [k0_pay1]
theorem pay3_at (p : Vec Ideal S1024x512 .f32) (a : Vec Ideal S1024x2816 .bf16) (b : Vec Ideal S2816x512 .bf16) (a2 : Vec Ideal S1024x2816 .bf16) (b2 : Vec Ideal S2816x512 .bf16) (r : Fin 1024) (s : Fin 512) :
    k0_pay3 p a b a2 b2 (ix2 r s) = p (ix2 r s) + ((∑ k : Fin 2816, a (ix2 r k) * b (ix2 k s)) + ∑ k : Fin 2816, a2 (ix2 r k) * b2 (ix2 k s)) := by
  pointwise [k0_pay3, add_assoc]

/-! ## What each point leaves -/

/-- The first point of a block leaves the product of its blocks in the scratch. -/
theorem out_first (c : Dev nD) (i : grid0.Coords) {d0 h0 d1 h1 d2 h2 d3 h3 d4 h4 d5 h5 c0 c1 c2} (a : Vec Ideal S1024x2816 .bf16) (a2 : Vec Ideal S1024x2816 .bf16) (b : Vec Ideal S2816x512 .bf16) (b2 : Vec Ideal S2816x512 .bf16) :
    sout0_A_0 (F := Ideal) c i d0 h0 d1 h1 d2 h2 d3 h3 d4 h4 d5 h5 c0 c1 c2 a a2 b b2 = k0_pay1 a b a2 b2 := by
  unfold sout0_A_0
  rw [View.read_writes_eq_canon _ _ _ (scover0_A_0 c i d0 h0 d1 h1 d2 h2 d3 h3 d4 h4 d5 h5 c0 c1 c2 a a2 b b2)]
  unfold kernelRun0_A
  dsimp only
  rw [View.canon_unit_zero origin]
  unfold k0_pay1
  simp only [View.readAt_eq_ld, h0.read_unread, h1.read_unread, h2.read_unread, h3.read_unread, h5.read_unread, View.ld_unit_zero (S := S1024x2816) origin, View.ld_unit_zero (S := S2816x512) origin, View.ld_unit_zero (S := S1024x512) origin, shapeCast_self]

/-- The last point of a block stores the scratch plus the product of its blocks. -/
theorem out_last (c : Dev nD) (i : grid0.Coords) {d0 h0 d1 h1 d2 h2 d3 h3 d4 h4 d5 h5 c0 c1 c2} (a : Vec Ideal S1024x2816 .bf16) (a2 : Vec Ideal S1024x2816 .bf16) (b : Vec Ideal S2816x512 .bf16) (b2 : Vec Ideal S2816x512 .bf16) (p : Vec Ideal S1024x512 .f32) :
    out0_B_4 (F := Ideal) c i d0 h0 d1 h1 d2 h2 d3 h3 d4 h4 d5 h5 c0 c1 c2 a a2 b b2 p = k0_pay3 p a b a2 b2 := by
  unfold out0_B_4
  rw [View.read_writes_eq_canon _ _ _ (cover0_B_4 c i d0 h0 d1 h1 d2 h2 d3 h3 d4 h4 d5 h5 c0 c1 c2 a a2 b b2 p)]
  unfold kernelRun0_B
  dsimp only
  rw [View.canon_unit_zero origin]
  unfold k0_pay3
  simp only [View.readAt_eq_ld, h0.read_unread, h1.read_unread, h2.read_unread, h3.read_unread, h5.read_unread, View.ld_unit_zero (S := S1024x2816) origin, View.ld_unit_zero (S := S2816x512) origin, View.ld_unit_zero (S := S1024x512) origin, shapeCast_self]

/-! ## The blocks, in the argument arrays -/

variable (m : (ℓ : Loc nD τ sig) → Buf (Elt Ideal) ℓ)

/-- Argument 0, entry `(i, j)`. -/
def lhs (c : Dev nD) (i j : ℕ) : EReal :=
  m ((c : Thread nD τ).loc main_arg0) (ix2 ⟨i % 4096, Nat.mod_lt _ (by decide)⟩ ⟨j % 5632, Nat.mod_lt _ (by decide)⟩)
theorem idx0 : ∀ t : Fin grid0.N, win0_0.index t 0 = t.val / 8 ∧ win0_0.index t 1 = t.val % 2 := by decide +kernel
theorem blk0 (c : Dev nD) (t : Fin cfg0.N) (r : Fin 1024) (s : Fin 2816) :
    iblk m c 0 t (ix2 r s) = lhs m c (1024 * (t.val / 8) + r.val) (2816 * (t.val % 2) + s.val) := by
  have ht : t.val < 32 := lt_of_lt_of_eq t.isLt N_0
  show V m c main_arg0 ((win0_0.rect t).emb (ix2 r s)) = _
  rw [V_main_arg0]
  refine congrArg (m ((c : Thread nD τ).loc main_arg0)) (funext fun a => Fin.ext ?_)
  rw [Pipeline.Window.rect_emb_val win0_0]
  match a with
  | ⟨0, _⟩ => show win0_0.index t 0 * 1024 + r.val = (1024 * (t.val / 8) + r.val) % 4096; rw [(idx0 t).1]; omega
  | ⟨1, _⟩ => show win0_0.index t 1 * 2816 + s.val = (2816 * (t.val % 2) + s.val) % 5632; rw [(idx0 t).2]; omega

/-- Argument 1, entry `(i, j)`. -/
def lhs2 (c : Dev nD) (i j : ℕ) : EReal :=
  m ((c : Thread nD τ).loc main_arg1) (ix2 ⟨i % 4096, Nat.mod_lt _ (by decide)⟩ ⟨j % 5632, Nat.mod_lt _ (by decide)⟩)
theorem idx1 : ∀ t : Fin grid0.N, win0_1.index t 0 = t.val / 8 ∧ win0_1.index t 1 = t.val % 2 := by decide +kernel
theorem blk1 (c : Dev nD) (t : Fin cfg0.N) (r : Fin 1024) (s : Fin 2816) :
    iblk m c 1 t (ix2 r s) = lhs2 m c (1024 * (t.val / 8) + r.val) (2816 * (t.val % 2) + s.val) := by
  have ht : t.val < 32 := lt_of_lt_of_eq t.isLt N_0
  show V m c main_arg1 ((win0_1.rect t).emb (ix2 r s)) = _
  rw [V_main_arg1]
  refine congrArg (m ((c : Thread nD τ).loc main_arg1)) (funext fun a => Fin.ext ?_)
  rw [Pipeline.Window.rect_emb_val win0_1]
  match a with
  | ⟨0, _⟩ => show win0_1.index t 0 * 1024 + r.val = (1024 * (t.val / 8) + r.val) % 4096; rw [(idx1 t).1]; omega
  | ⟨1, _⟩ => show win0_1.index t 1 * 2816 + s.val = (2816 * (t.val % 2) + s.val) % 5632; rw [(idx1 t).2]; omega

/-- Argument 2, entry `(i, j)`. -/
def rhs (c : Dev nD) (i j : ℕ) : EReal :=
  m ((c : Thread nD τ).loc main_arg2) (ix2 ⟨i % 5632, Nat.mod_lt _ (by decide)⟩ ⟨j % 2048, Nat.mod_lt _ (by decide)⟩)
theorem idx2 : ∀ t : Fin grid0.N, win0_2.index t 0 = t.val % 2 ∧ win0_2.index t 1 = t.val / 2 % 4 := by decide +kernel
theorem blk2 (c : Dev nD) (t : Fin cfg0.N) (r : Fin 2816) (s : Fin 512) :
    iblk m c 2 t (ix2 r s) = rhs m c (2816 * (t.val % 2) + r.val) (512 * (t.val / 2 % 4) + s.val) := by
  have ht : t.val < 32 := lt_of_lt_of_eq t.isLt N_0
  show V m c main_arg2 ((win0_2.rect t).emb (ix2 r s)) = _
  rw [V_main_arg2]
  refine congrArg (m ((c : Thread nD τ).loc main_arg2)) (funext fun a => Fin.ext ?_)
  rw [Pipeline.Window.rect_emb_val win0_2]
  match a with
  | ⟨0, _⟩ => show win0_2.index t 0 * 2816 + r.val = (2816 * (t.val % 2) + r.val) % 5632; rw [(idx2 t).1]; omega
  | ⟨1, _⟩ => show win0_2.index t 1 * 512 + s.val = (512 * (t.val / 2 % 4) + s.val) % 2048; rw [(idx2 t).2]; omega

/-- Argument 3, entry `(i, j)`. -/
def rhs2 (c : Dev nD) (i j : ℕ) : EReal :=
  m ((c : Thread nD τ).loc main_arg3) (ix2 ⟨i % 5632, Nat.mod_lt _ (by decide)⟩ ⟨j % 2048, Nat.mod_lt _ (by decide)⟩)
theorem idx3 : ∀ t : Fin grid0.N, win0_3.index t 0 = t.val % 2 ∧ win0_3.index t 1 = t.val / 2 % 4 := by decide +kernel
theorem blk3 (c : Dev nD) (t : Fin cfg0.N) (r : Fin 2816) (s : Fin 512) :
    iblk m c 3 t (ix2 r s) = rhs2 m c (2816 * (t.val % 2) + r.val) (512 * (t.val / 2 % 4) + s.val) := by
  have ht : t.val < 32 := lt_of_lt_of_eq t.isLt N_0
  show V m c main_arg3 ((win0_3.rect t).emb (ix2 r s)) = _
  rw [V_main_arg3]
  refine congrArg (m ((c : Thread nD τ).loc main_arg3)) (funext fun a => Fin.ext ?_)
  rw [Pipeline.Window.rect_emb_val win0_3]
  match a with
  | ⟨0, _⟩ => show win0_3.index t 0 * 2816 + r.val = (2816 * (t.val % 2) + r.val) % 5632; rw [(idx3 t).1]; omega
  | ⟨1, _⟩ => show win0_3.index t 1 * 512 + s.val = (512 * (t.val / 2 % 4) + s.val) % 2048; rw [(idx3 t).2]; omega

/-! ## The whole array -/

/-- The product of the arguments, summed over the two pairs. -/
def prod (c : Dev nD) : FVec Ideal S4096x2048 .bf16 := fun i => (∑ k : Fin 5632, lhs m c ((i 0 : Fin 4096).val) (k.val) * rhs m c (k.val) ((i 1 : Fin 2048).val)) + (∑ k : Fin 5632, lhs2 m c ((i 0 : Fin 4096).val) (k.val) * rhs2 m c (k.val) ((i 1 : Fin 2048).val))

theorem idxOut : ∀ t : Fin grid0.N, win0_4.index t 0 = t.val / 8 ∧ win0_4.index t 1 = t.val / 2 % 4 := by decide +kernel
/-- What a point that ends a block writes back is its block of the product. -/
theorem flushed_eq (c : Dev nD) (t : Fin cfg0.N) (h : t.val % 2 = 1) :
    (dats m 0 c).flushed 4 t = ((cfg0.win 4).blk t).view.read (Elt Ideal) (prod m c) := by
  have ht : t.val < 32 := lt_of_lt_of_eq t.isLt N_0
  have e1 : (t.val - 1) % 2 = 0 := by omega
  have e2 : (t.val - 1) / 8 = t.val / 8 := by omega
  have e3 : (t.val - 1) / 2 % 4 = t.val / 2 % 4 := by omega
  rw [Value.flushed4_B m c t (by omega) h, out_last]
  have hA := congrArg Prod.snd (outsAt0_A m c ⟨t.val - 1, Nat.lt_of_le_of_lt (Nat.sub_le _ _) t.isLt⟩ (by dsimp only; omega) (by dsimp only; omega))
  dsimp only at hA
  rw [out_first] at hA
  funext y
  idx_vars y
  show k0_pay3 _ (iblk m c 0 t) (iblk m c 2 t) (iblk m c 1 t) (iblk m c 3 t) (ix2 y0 y1) = prod m c ((win0_4.rect t).emb (ix2 y0 y1))
  rw [hA, pay3_at, pay1_at]
  simp only [blk0, blk1, blk2, blk3, h, e1, e2, e3]
  rw [show (win0_4.rect t).emb (ix2 y0 y1) = ix2 (⟨1024 * (t.val / 8) + y0.val, by omega⟩ : Fin 4096) (⟨512 * (t.val / 2 % 4) + y1.val, by omega⟩ : Fin 2048) from funext fun a => Fin.ext (by
    rw [Pipeline.Window.rect_emb_val win0_4]
    match a with
    | ⟨0, _⟩ => show win0_4.index t 0 * 1024 + y0.val = _; rw [(idxOut t).1]; exact congrArg (· + y0.val) (Nat.mul_comm _ _)
    | ⟨1, _⟩ => show win0_4.index t 1 * 512 + y1.val = _; rw [(idxOut t).2]; exact congrArg (· + y1.val) (Nat.mul_comm _ _))]
  show _ = (∑ k : Fin 5632, lhs m c (1024 * (t.val / 8) + y0.val) (k.val) * rhs m c (k.val) (512 * (t.val / 2 % 4) + y1.val)) + (∑ k : Fin 5632, lhs2 m c (1024 * (t.val / 8) + y0.val) (k.val) * rhs2 m c (k.val) (512 * (t.val / 2 % 4) + y1.val))
  rw [add_add_add_comm]
  exact congrArg₂ (· + ·) (sum_two 2816 (fun k => lhs m c (1024 * (t.val / 8) + y0.val) (k) * rhs m c (k) (512 * (t.val / 2 % 4) + y1.val))).symm (sum_two 2816 (fun k => lhs2 m c (1024 * (t.val / 8) + y0.val) (k) * rhs2 m c (k) (512 * (t.val / 2 % 4) + y1.val))).symm

/-- The result array when the run ends. -/
theorem final (c : Dev nD) : (dats m 0 c).arrAt 4 cfg0.N = prod m c :=
  (dats m 0 c).arrAt_eq_of_cover 4 (prod m c) (fun t hf => flushed_eq m c t ((flush0_4 t).mp hf))
    fun i => (Value.covered_iff4 i).2 (by
      have h0 : (i 0 : Nat) < 4096 := (i 0).isLt
      have h1 : (i 1 : Nat) < 2048 := (i 1).isLt
      omega)

end Cert.DxFfnIdeal.Hand

namespace Cert.DxFfnRefIdeal.Hand

open Cert.DxFfnIdeal.Hand Cert.DxFfnRefIdeal Cert.DxFfnRefIdeal.Read Idealize.ShloMosaic Idealize.ShloMosaic.TcCoe Idealize.SL.Sem

/-- The reference's result is the same product. -/
theorem value (m : (ℓ : Loc Cert.DxFfnIdeal.nD Cert.DxFfnIdeal.τ Cert.DxFfnIdeal.sig) → Buf (Elt Ideal) ℓ) (c : Dev Cert.DxFfnIdeal.nD) :
    val_main_v15 (F := Ideal) (m ((c : Thread Cert.DxFfnIdeal.nD Cert.DxFfnIdeal.τ).loc Cert.DxFfnIdeal.main_arg0)) (m ((c : Thread Cert.DxFfnIdeal.nD Cert.DxFfnIdeal.τ).loc Cert.DxFfnIdeal.main_arg1)) (m ((c : Thread Cert.DxFfnIdeal.nD Cert.DxFfnIdeal.τ).loc Cert.DxFfnIdeal.main_arg2)) (m ((c : Thread Cert.DxFfnIdeal.nD Cert.DxFfnIdeal.τ).loc Cert.DxFfnIdeal.main_arg3)) = prod m c := by
  funext i
  idx_vars i
  show _ = (∑ k : Fin 5632, lhs m c (i0.val) (k.val) * rhs m c (k.val) (i1.val)) + (∑ k : Fin 5632, lhs2 m c (i0.val) (k.val) * rhs2 m c (k.val) (i1.val))
  unfold lhs lhs2 rhs rhs2
  simp only [Nat.mod_eq_of_lt (Fin.isLt _)]
  generalize m (Thread.loc (c : Thread Cert.DxFfnIdeal.nD Cert.DxFfnIdeal.τ) Cert.DxFfnIdeal.main_arg0) = x0
  generalize m (Thread.loc (c : Thread Cert.DxFfnIdeal.nD Cert.DxFfnIdeal.τ) Cert.DxFfnIdeal.main_arg1) = x1
  generalize m (Thread.loc (c : Thread Cert.DxFfnIdeal.nD Cert.DxFfnIdeal.τ) Cert.DxFfnIdeal.main_arg2) = x2
  generalize m (Thread.loc (c : Thread Cert.DxFfnIdeal.nD Cert.DxFfnIdeal.τ) Cert.DxFfnIdeal.main_arg3) = x3
  pointwise [val_main_v15, val_main_v14, val_main_v13, val_main_v12, val_main_v11, val_main_v10, val_main_v7, val_main_v6, val_main_v3, val_main_v2]
  exact add_comm _ _

end Cert.DxFfnRefIdeal.Hand

namespace Cert.Proof

open Idealize.ShloMosaic Idealize.SL.Sem

/-- The kernel's and the reference's results are equal. -/
theorem DxFfn_equal : Cert.algebraic_DxFfnIdeal_DxFfnRefIdeal := by
  intro m g m' g' _ hargs
  refine ⟨fun c => Cert.DxFfnIdeal.Hand.prod m c, ?_, ?_⟩
  · refine (θ_run Cert.DxFfnIdeal.defs _ _).mono ?_ (Cert.DxFfnIdeal.Value.run_blocks m g)
    intro r h c
    exact ⟨(h c).1.trans (Cert.DxFfnIdeal.Hand.final m c), (h c).2⟩
  · refine (θ_run Cert.DxFfnRefIdeal.defs _ _).mono ?_ (Cert.DxFfnRefIdeal.Value.run (F := Ideal) m' g')
    intro r h c
    obtain ⟨e0, e1, e2, e3⟩ := hargs c
    refine ⟨?_, (h c).2⟩
    refine ((h c).1.trans (Cert.DxFfnRefIdeal.Read.val_main_v15_eq _ _ _ _)).trans (Eq.trans ?_ (Cert.DxFfnRefIdeal.Hand.value m c))
    rw [← e0, ← e1, ← e2, ← e3]
theorem DxFfn_frame : Cert.quiescent_DxFfn := fun m g _ => Cert.DxFfn.Gen.frame m g
theorem DxFfn_frame_ideal : Cert.quiescent_DxFfnIdeal := fun m g _ => Cert.DxFfnIdeal.Gen.frame m g
theorem DxFfn_frame_ref : Cert.quiescent_DxFfnRefIdeal := fun m g _ =>
  (θ_run Cert.DxFfnRefIdeal.defs _ _).mono (fun r h => ⟨fun c => (h c).2, sem_eq_zero_of_no_sems (by decide) r.2⟩)
    (Cert.DxFfnRefIdeal.Value.run (F := Ideal) m g)

end Cert.Proof

end
-- ==== Proof.Prod.DwOut.lean ====
/- The gradient of a mixer's output map. -/
module

public import proofs.«01_k».proof.Defs
public import proofs.«01_k».proof.Proof.Prod.Sum
public import proofs.«01_k».proof.Proof.Gen.DwOutIdeal.Value
public import proofs.«01_k».proof.Proof.Gen.DwOut.Frame
public import proofs.«01_k».proof.Proof.Gen.DwOutRefIdeal.Read

@[expose] public section

set_option maxRecDepth 16384

noncomputable section

namespace Cert.DwOutIdeal.Hand

open Cert.DwOutIdeal Cert.DwOutIdeal.Gen Cert.Prod Idealize.ShloMosaic Idealize.ShloMosaic.TcCoe Idealize.SL.Sem

/-! ## What the body computes on one pair of blocks -/

theorem origin : (![0, 0] : Fin 2 → Nat) = fun _ => 0 := by decide

theorem pay1_at (a : Vec Ideal S2048x1024 .bf16) (b : Vec Ideal S2048x1024 .bf16) (r : Fin 1024) (s : Fin 1024) :
    k0_pay1 a b (ix2 r s) = ∑ k : Fin 2048, a (ix2 k r) * b (ix2 k s) := by
  pointwise [k0_pay1]
theorem pay3_at (p : Vec Ideal S1024x1024 .f32) (a : Vec Ideal S2048x1024 .bf16) (b : Vec Ideal S2048x1024 .bf16) (r : Fin 1024) (s : Fin 1024) :
    k0_pay3 p a b (ix2 r s) = p (ix2 r s) + ∑ k : Fin 2048, a (ix2 k r) * b (ix2 k s) := by
  pointwise [k0_pay3]

/-! ## What each point leaves -/

/-- The first point of a block leaves the product of its blocks in the scratch. -/
theorem out_first (c : Dev nD) (i : grid0.Coords) {d0 h0 d1 h1 d2 h2 d3 h3 c0 c1 c2} (a : Vec Ideal S2048x1024 .bf16) (b : Vec Ideal S2048x1024 .bf16) :
    sout0_A_0 (F := Ideal) c i d0 h0 d1 h1 d2 h2 d3 h3 c0 c1 c2 a b = k0_pay1 a b := by
  unfold sout0_A_0
  rw [View.read_writes_eq_canon _ _ _ (scover0_A_0 c i d0 h0 d1 h1 d2 h2 d3 h3 c0 c1 c2 a b)]
  unfold kernelRun0_A
  dsimp only
  rw [View.canon_unit_zero origin]
  unfold k0_pay1
  simp only [View.readAt_eq_ld, h0.read_unread, h1.read_unread, h3.read_unread, View.ld_unit_zero (S := S2048x1024) origin, View.ld_unit_zero (S := S2048x1024) origin, View.ld_unit_zero (S := S1024x1024) origin, shapeCast_self]

/-- The last point of a block stores the scratch plus the product of its blocks. -/
theorem out_last (c : Dev nD) (i : grid0.Coords) {d0 h0 d1 h1 d2 h2 d3 h3 c0 c1 c2} (a : Vec Ideal S2048x1024 .bf16) (b : Vec Ideal S2048x1024 .bf16) (p : Vec Ideal S1024x1024 .f32) :
    out0_B_2 (F := Ideal) c i d0 h0 d1 h1 d2 h2 d3 h3 c0 c1 c2 a b p = k0_pay3 p a b := by
  unfold out0_B_2
  rw [View.read_writes_eq_canon _ _ _ (cover0_B_2 c i d0 h0 d1 h1 d2 h2 d3 h3 c0 c1 c2 a b p)]
  unfold kernelRun0_B
  dsimp only
  rw [View.canon_unit_zero origin]
  unfold k0_pay3
  simp only [View.readAt_eq_ld, h0.read_unread, h1.read_unread, h3.read_unread, View.ld_unit_zero (S := S2048x1024) origin, View.ld_unit_zero (S := S2048x1024) origin, View.ld_unit_zero (S := S1024x1024) origin, shapeCast_self]

/-! ## The blocks, in the argument arrays -/

variable (m : (ℓ : Loc nD τ sig) → Buf (Elt Ideal) ℓ)

/-- Argument 0, entry `(i, j)`. -/
def lhs (c : Dev nD) (i j : ℕ) : EReal :=
  m ((c : Thread nD τ).loc main_arg0) (ix2 ⟨i % 4096, Nat.mod_lt _ (by decide)⟩ ⟨j % 2048, Nat.mod_lt _ (by decide)⟩)
theorem idx0 : ∀ t : Fin grid0.N, win0_0.index t 0 = t.val % 2 ∧ win0_0.index t 1 = t.val / 4 := by decide +kernel
theorem blk0 (c : Dev nD) (t : Fin cfg0.N) (r : Fin 2048) (s : Fin 1024) :
    iblk m c 0 t (ix2 r s) = lhs m c (2048 * (t.val % 2) + r.val) (1024 * (t.val / 4) + s.val) := by
  have ht : t.val < 8 := lt_of_lt_of_eq t.isLt N_0
  show V m c main_arg0 ((win0_0.rect t).emb (ix2 r s)) = _
  rw [V_main_arg0]
  refine congrArg (m ((c : Thread nD τ).loc main_arg0)) (funext fun a => Fin.ext ?_)
  rw [Pipeline.Window.rect_emb_val win0_0]
  match a with
  | ⟨0, _⟩ => show win0_0.index t 0 * 2048 + r.val = (2048 * (t.val % 2) + r.val) % 4096; rw [(idx0 t).1]; omega
  | ⟨1, _⟩ => show win0_0.index t 1 * 1024 + s.val = (1024 * (t.val / 4) + s.val) % 2048; rw [(idx0 t).2]; omega

/-- Argument 1, entry `(i, j)`. -/
def rhs (c : Dev nD) (i j : ℕ) : EReal :=
  m ((c : Thread nD τ).loc main_arg1) (ix2 ⟨i % 4096, Nat.mod_lt _ (by decide)⟩ ⟨j % 2048, Nat.mod_lt _ (by decide)⟩)
theorem idx1 : ∀ t : Fin grid0.N, win0_1.index t 0 = t.val % 2 ∧ win0_1.index t 1 = t.val / 2 % 2 := by decide +kernel
theorem blk1 (c : Dev nD) (t : Fin cfg0.N) (r : Fin 2048) (s : Fin 1024) :
    iblk m c 1 t (ix2 r s) = rhs m c (2048 * (t.val % 2) + r.val) (1024 * (t.val / 2 % 2) + s.val) := by
  have ht : t.val < 8 := lt_of_lt_of_eq t.isLt N_0
  show V m c main_arg1 ((win0_1.rect t).emb (ix2 r s)) = _
  rw [V_main_arg1]
  refine congrArg (m ((c : Thread nD τ).loc main_arg1)) (funext fun a => Fin.ext ?_)
  rw [Pipeline.Window.rect_emb_val win0_1]
  match a with
  | ⟨0, _⟩ => show win0_1.index t 0 * 2048 + r.val = (2048 * (t.val % 2) + r.val) % 4096; rw [(idx1 t).1]; omega
  | ⟨1, _⟩ => show win0_1.index t 1 * 1024 + s.val = (1024 * (t.val / 2 % 2) + s.val) % 2048; rw [(idx1 t).2]; omega

/-! ## The whole array -/

/-- The product of the arguments. -/
def prod (c : Dev nD) : FVec Ideal S2048x2048 .bf16 := fun i => (∑ k : Fin 4096, lhs m c (k.val) ((i 0 : Fin 2048).val) * rhs m c (k.val) ((i 1 : Fin 2048).val))

theorem idxOut : ∀ t : Fin grid0.N, win0_2.index t 0 = t.val / 4 ∧ win0_2.index t 1 = t.val / 2 % 2 := by decide +kernel
/-- What a point that ends a block writes back is its block of the product. -/
theorem flushed_eq (c : Dev nD) (t : Fin cfg0.N) (h : t.val % 2 = 1) :
    (dats m 0 c).flushed 2 t = ((cfg0.win 2).blk t).view.read (Elt Ideal) (prod m c) := by
  have ht : t.val < 8 := lt_of_lt_of_eq t.isLt N_0
  have e1 : (t.val - 1) % 2 = 0 := by omega
  have e2 : (t.val - 1) / 4 = t.val / 4 := by omega
  have e3 : (t.val - 1) / 2 % 2 = t.val / 2 % 2 := by omega
  rw [Value.flushed2_B m c t (by omega) h, out_last]
  have hA := congrArg Prod.snd (outsAt0_A m c ⟨t.val - 1, Nat.lt_of_le_of_lt (Nat.sub_le _ _) t.isLt⟩ (by dsimp only; omega) (by dsimp only; omega))
  dsimp only at hA
  rw [out_first] at hA
  funext y
  idx_vars y
  show k0_pay3 _ (iblk m c 0 t) (iblk m c 1 t) (ix2 y0 y1) = prod m c ((win0_2.rect t).emb (ix2 y0 y1))
  rw [hA, pay3_at, pay1_at]
  simp only [blk0, blk1, h, e1, e2, e3]
  rw [show (win0_2.rect t).emb (ix2 y0 y1) = ix2 (⟨1024 * (t.val / 4) + y0.val, by omega⟩ : Fin 2048) (⟨1024 * (t.val / 2 % 2) + y1.val, by omega⟩ : Fin 2048) from funext fun a => Fin.ext (by
    rw [Pipeline.Window.rect_emb_val win0_2]
    match a with
    | ⟨0, _⟩ => show win0_2.index t 0 * 1024 + y0.val = _; rw [(idxOut t).1]; exact congrArg (· + y0.val) (Nat.mul_comm _ _)
    | ⟨1, _⟩ => show win0_2.index t 1 * 1024 + y1.val = _; rw [(idxOut t).2]; exact congrArg (· + y1.val) (Nat.mul_comm _ _))]
  show _ = (∑ k : Fin 4096, lhs m c (k.val) (1024 * (t.val / 4) + y0.val) * rhs m c (k.val) (1024 * (t.val / 2 % 2) + y1.val))
  exact (sum_two 2048 (fun k => lhs m c (k) (1024 * (t.val / 4) + y0.val) * rhs m c (k) (1024 * (t.val / 2 % 2) + y1.val))).symm

/-- The result array when the run ends. -/
theorem final (c : Dev nD) : (dats m 0 c).arrAt 2 cfg0.N = prod m c :=
  (dats m 0 c).arrAt_eq_of_cover 2 (prod m c) (fun t hf => flushed_eq m c t ((flush0_2 t).mp hf))
    fun i => (Value.covered_iff2 i).2 (by
      have h0 : (i 0 : Nat) < 2048 := (i 0).isLt
      have h1 : (i 1 : Nat) < 2048 := (i 1).isLt
      omega)

end Cert.DwOutIdeal.Hand

namespace Cert.DwOutRefIdeal.Hand

open Cert.DwOutIdeal.Hand Cert.DwOutRefIdeal Cert.DwOutRefIdeal.Read Idealize.ShloMosaic Idealize.ShloMosaic.TcCoe Idealize.SL.Sem

/-- The reference's result is the same product. -/
theorem value (m : (ℓ : Loc Cert.DwOutIdeal.nD Cert.DwOutIdeal.τ Cert.DwOutIdeal.sig) → Buf (Elt Ideal) ℓ) (c : Dev Cert.DwOutIdeal.nD) :
    val_main_v8 (F := Ideal) (m ((c : Thread Cert.DwOutIdeal.nD Cert.DwOutIdeal.τ).loc Cert.DwOutIdeal.main_arg0)) (m ((c : Thread Cert.DwOutIdeal.nD Cert.DwOutIdeal.τ).loc Cert.DwOutIdeal.main_arg1)) = prod m c := by
  funext i
  idx_vars i
  show _ = (∑ k : Fin 4096, lhs m c (k.val) (i0.val) * rhs m c (k.val) (i1.val))
  unfold lhs rhs
  simp only [Nat.mod_eq_of_lt (Fin.isLt _)]
  generalize m (Thread.loc (c : Thread Cert.DwOutIdeal.nD Cert.DwOutIdeal.τ) Cert.DwOutIdeal.main_arg0) = x0
  generalize m (Thread.loc (c : Thread Cert.DwOutIdeal.nD Cert.DwOutIdeal.τ) Cert.DwOutIdeal.main_arg1) = x1
  pointwise [val_main_v8, val_main_v7, val_main_v6, val_main_v5, val_main_v1]
  exact Finset.sum_congr rfl fun k _ => mul_comm _ _

end Cert.DwOutRefIdeal.Hand

namespace Cert.Proof

open Idealize.ShloMosaic Idealize.SL.Sem

/-- The kernel's and the reference's results are equal. -/
theorem DwOut_equal : Cert.algebraic_DwOutIdeal_DwOutRefIdeal := by
  intro m g m' g' _ hargs
  refine ⟨fun c => Cert.DwOutIdeal.Hand.prod m c, ?_, ?_⟩
  · refine (θ_run Cert.DwOutIdeal.defs _ _).mono ?_ (Cert.DwOutIdeal.Value.run_blocks m g)
    intro r h c
    exact ⟨(h c).1.trans (Cert.DwOutIdeal.Hand.final m c), (h c).2⟩
  · refine (θ_run Cert.DwOutRefIdeal.defs _ _).mono ?_ (Cert.DwOutRefIdeal.Value.run (F := Ideal) m' g')
    intro r h c
    obtain ⟨e0, e1⟩ := hargs c
    refine ⟨?_, (h c).2⟩
    refine ((h c).1.trans (Cert.DwOutRefIdeal.Read.val_main_v8_eq _ _)).trans (Eq.trans ?_ (Cert.DwOutRefIdeal.Hand.value m c))
    rw [← e0, ← e1]
theorem DwOut_frame : Cert.quiescent_DwOut := fun m g _ => Cert.DwOut.Gen.frame m g
theorem DwOut_frame_ideal : Cert.quiescent_DwOutIdeal := fun m g _ => Cert.DwOutIdeal.Gen.frame m g
theorem DwOut_frame_ref : Cert.quiescent_DwOutRefIdeal := fun m g _ =>
  (θ_run Cert.DwOutRefIdeal.defs _ _).mono (fun r h => ⟨fun c => (h c).2, sem_eq_zero_of_no_sems (by decide) r.2⟩)
    (Cert.DwOutRefIdeal.Value.run (F := Ideal) m g)

end Cert.Proof

end
-- ==== Proof.Prod.DxOut.lean ====
/- The gradient of the argument of a mixer's output map. -/
module

public import proofs.«01_k».proof.Defs
public import proofs.«01_k».proof.Proof.Prod.Sum
public import proofs.«01_k».proof.Proof.Gen.DxOutIdeal.Value
public import proofs.«01_k».proof.Proof.Gen.DxOut.Frame
public import proofs.«01_k».proof.Proof.Gen.DxOutRefIdeal.Read

@[expose] public section

set_option maxRecDepth 16384

noncomputable section

namespace Cert.DxOutIdeal.Hand

open Cert.DxOutIdeal Cert.DxOutIdeal.Gen Cert.Prod Idealize.ShloMosaic Idealize.ShloMosaic.TcCoe Idealize.SL.Sem

/-! ## What the body computes on one pair of blocks -/

theorem origin : (![0, 0] : Fin 2 → Nat) = fun _ => 0 := by decide

theorem pay1_at (a : Vec Ideal S1024x2048 .bf16) (b : Vec Ideal S1024x2048 .bf16) (r : Fin 1024) (s : Fin 1024) :
    k0_pay1 a b (ix2 r s) = ∑ k : Fin 2048, a (ix2 r k) * b (ix2 s k) := by
  pointwise [k0_pay1]

/-! ## What each point leaves -/

/-- The one point of a block stores the product of its two blocks. -/
theorem out_only (c : Dev nD) (i : grid0.Coords) {d0 h0 d1 h1 d2 h2 d3 h3} (a : Vec Ideal S1024x2048 .bf16) (b : Vec Ideal S1024x2048 .bf16) :
    out0_A_2 (F := Ideal) c i d0 h0 d1 h1 d2 h2 d3 h3 a b = k0_pay1 a b := by
  unfold out0_A_2
  rw [View.read_writes_eq_canon _ _ _ (cover0_A_2 c i d0 h0 d1 h1 d2 h2 d3 h3 a b)]
  unfold kernelRun0_A
  dsimp only
  rw [View.canon_unit_zero origin]
  unfold k0_pay1
  simp only [View.readAt_eq_ld, h0.read_unread, h1.read_unread, h3.read_unread, View.ld_unit_zero (S := S1024x2048) origin, View.ld_unit_zero (S := S1024x2048) origin, View.ld_unit_zero (S := S1024x1024) origin, shapeCast_self]

/-! ## The blocks, in the argument arrays -/

variable (m : (ℓ : Loc nD τ sig) → Buf (Elt Ideal) ℓ)

/-- Argument 0, entry `(i, j)`. -/
def lhs (c : Dev nD) (i j : ℕ) : EReal :=
  m ((c : Thread nD τ).loc main_arg0) (ix2 ⟨i % 4096, Nat.mod_lt _ (by decide)⟩ ⟨j % 2048, Nat.mod_lt _ (by decide)⟩)
theorem idx0 : ∀ t : Fin grid0.N, win0_0.index t 0 = t.val / 2 ∧ win0_0.index t 1 = t.val % 1 := by decide +kernel
theorem blk0 (c : Dev nD) (t : Fin cfg0.N) (r : Fin 1024) (s : Fin 2048) :
    iblk m c 0 t (ix2 r s) = lhs m c (1024 * (t.val / 2) + r.val) (2048 * (t.val % 1) + s.val) := by
  have ht : t.val < 8 := lt_of_lt_of_eq t.isLt N_0
  show V m c main_arg0 ((win0_0.rect t).emb (ix2 r s)) = _
  rw [V_main_arg0]
  refine congrArg (m ((c : Thread nD τ).loc main_arg0)) (funext fun a => Fin.ext ?_)
  rw [Pipeline.Window.rect_emb_val win0_0]
  match a with
  | ⟨0, _⟩ => show win0_0.index t 0 * 1024 + r.val = (1024 * (t.val / 2) + r.val) % 4096; rw [(idx0 t).1]; omega
  | ⟨1, _⟩ => show win0_0.index t 1 * 2048 + s.val = (2048 * (t.val % 1) + s.val) % 2048; rw [(idx0 t).2]; omega

/-- Argument 1, entry `(i, j)`. -/
def rhs (c : Dev nD) (i j : ℕ) : EReal :=
  m ((c : Thread nD τ).loc main_arg1) (ix2 ⟨i % 2048, Nat.mod_lt _ (by decide)⟩ ⟨j % 2048, Nat.mod_lt _ (by decide)⟩)
theorem idx1 : ∀ t : Fin grid0.N, win0_1.index t 0 = t.val / 1 % 2 ∧ win0_1.index t 1 = t.val % 1 := by decide +kernel
theorem blk1 (c : Dev nD) (t : Fin cfg0.N) (r : Fin 1024) (s : Fin 2048) :
    iblk m c 1 t (ix2 r s) = rhs m c (1024 * (t.val / 1 % 2) + r.val) (2048 * (t.val % 1) + s.val) := by
  have ht : t.val < 8 := lt_of_lt_of_eq t.isLt N_0
  show V m c main_arg1 ((win0_1.rect t).emb (ix2 r s)) = _
  rw [V_main_arg1]
  refine congrArg (m ((c : Thread nD τ).loc main_arg1)) (funext fun a => Fin.ext ?_)
  rw [Pipeline.Window.rect_emb_val win0_1]
  match a with
  | ⟨0, _⟩ => show win0_1.index t 0 * 1024 + r.val = (1024 * (t.val / 1 % 2) + r.val) % 2048; rw [(idx1 t).1]; omega
  | ⟨1, _⟩ => show win0_1.index t 1 * 2048 + s.val = (2048 * (t.val % 1) + s.val) % 2048; rw [(idx1 t).2]; omega

/-! ## The whole array -/

/-- The product of the arguments. -/
def prod (c : Dev nD) : FVec Ideal S4096x2048 .bf16 := fun i => (∑ k : Fin 2048, lhs m c ((i 0 : Fin 4096).val) (k.val) * rhs m c ((i 1 : Fin 2048).val) (k.val))

theorem idxOut : ∀ t : Fin grid0.N, win0_2.index t 0 = t.val / 2 ∧ win0_2.index t 1 = t.val / 1 % 2 := by decide +kernel
/-- What a point that ends a block writes back is its block of the product. -/
theorem flushed_eq (c : Dev nD) (t : Fin cfg0.N) :
    (dats m 0 c).flushed 2 t = ((cfg0.win 2).blk t).view.read (Elt Ideal) (prod m c) := by
  have ht : t.val < 8 := lt_of_lt_of_eq t.isLt N_0
  rw [Value.flushed2_A m c t, out_only]
  funext y
  idx_vars y
  show k0_pay1 (iblk m c 0 t) (iblk m c 1 t) (ix2 y0 y1) = prod m c ((win0_2.rect t).emb (ix2 y0 y1))
  rw [pay1_at]
  simp only [blk0, blk1]
  rw [show (win0_2.rect t).emb (ix2 y0 y1) = ix2 (⟨1024 * (t.val / 2) + y0.val, by omega⟩ : Fin 4096) (⟨1024 * (t.val / 1 % 2) + y1.val, by omega⟩ : Fin 2048) from funext fun a => Fin.ext (by
    rw [Pipeline.Window.rect_emb_val win0_2]
    match a with
    | ⟨0, _⟩ => show win0_2.index t 0 * 1024 + y0.val = _; rw [(idxOut t).1]; exact congrArg (· + y0.val) (Nat.mul_comm _ _)
    | ⟨1, _⟩ => show win0_2.index t 1 * 1024 + y1.val = _; rw [(idxOut t).2]; exact congrArg (· + y1.val) (Nat.mul_comm _ _))]
  show _ = (∑ k : Fin 2048, lhs m c (1024 * (t.val / 2) + y0.val) (k.val) * rhs m c (1024 * (t.val / 1 % 2) + y1.val) (k.val))
  simp only [show t.val % 1 = 0 by omega, Nat.mul_zero, Nat.zero_add]

/-- The result array when the run ends. -/
theorem final (c : Dev nD) : (dats m 0 c).arrAt 2 cfg0.N = prod m c :=
  (dats m 0 c).arrAt_eq_of_cover 2 (prod m c) (fun t hf => flushed_eq m c t)
    fun i => by
      have h0 : (i 0 : Nat) < 4096 := (i 0).isLt
      have h1 : (i 1 : Nat) < 2048 := (i 1).isLt
      refine ⟨⟨(i 0 : Nat) / 1024 * 2 + (i 1 : Nat) / 1024, lt_of_lt_of_eq (by omega) N_0.symm⟩, flush0_2 _, ?_⟩
      generalize ht : (⟨(i 0 : Nat) / 1024 * 2 + (i 1 : Nat) / 1024, _⟩ : Fin cfg0.N) = t
      have hv : t.val = (i 0 : Nat) / 1024 * 2 + (i 1 : Nat) / 1024 := by rw [← ht]
      show i ∈ ((View.whole main_v0).slice (win0_2.rect t)).set
      rw [View.set_slice_whole, Rect.mem_set_unit]
      intro a
      match a with
      | ⟨0, _⟩ => show win0_2.index t 0 * 1024 ≤ (i 0 : Nat) ∧ (i 0 : Nat) < win0_2.index t 0 * 1024 + 1024
                  rw [(idxOut t).1]; omega
      | ⟨1, _⟩ => show win0_2.index t 1 * 1024 ≤ (i 1 : Nat) ∧ (i 1 : Nat) < win0_2.index t 1 * 1024 + 1024
                  rw [(idxOut t).2]; omega

end Cert.DxOutIdeal.Hand

namespace Cert.DxOutRefIdeal.Hand

open Cert.DxOutIdeal.Hand Cert.DxOutRefIdeal Cert.DxOutRefIdeal.Read Idealize.ShloMosaic Idealize.ShloMosaic.TcCoe Idealize.SL.Sem

/-- The reference's result is the same product. -/
theorem value (m : (ℓ : Loc Cert.DxOutIdeal.nD Cert.DxOutIdeal.τ Cert.DxOutIdeal.sig) → Buf (Elt Ideal) ℓ) (c : Dev Cert.DxOutIdeal.nD) :
    val_main_v7 (F := Ideal) (m ((c : Thread Cert.DxOutIdeal.nD Cert.DxOutIdeal.τ).loc Cert.DxOutIdeal.main_arg0)) (m ((c : Thread Cert.DxOutIdeal.nD Cert.DxOutIdeal.τ).loc Cert.DxOutIdeal.main_arg1)) = prod m c := by
  funext i
  idx_vars i
  show _ = (∑ k : Fin 2048, lhs m c (i0.val) (k.val) * rhs m c (i1.val) (k.val))
  unfold lhs rhs
  simp only [Nat.mod_eq_of_lt (Fin.isLt _)]
  generalize m (Thread.loc (c : Thread Cert.DxOutIdeal.nD Cert.DxOutIdeal.τ) Cert.DxOutIdeal.main_arg0) = x0
  generalize m (Thread.loc (c : Thread Cert.DxOutIdeal.nD Cert.DxOutIdeal.τ) Cert.DxOutIdeal.main_arg1) = x1
  pointwise [val_main_v7, val_main_v6, val_main_v5, val_main_v1, val_main_v2]

end Cert.DxOutRefIdeal.Hand

namespace Cert.Proof

open Idealize.ShloMosaic Idealize.SL.Sem

/-- The kernel's and the reference's results are equal. -/
theorem DxOut_equal : Cert.algebraic_DxOutIdeal_DxOutRefIdeal := by
  intro m g m' g' _ hargs
  refine ⟨fun c => Cert.DxOutIdeal.Hand.prod m c, ?_, ?_⟩
  · refine (θ_run Cert.DxOutIdeal.defs _ _).mono ?_ (Cert.DxOutIdeal.Value.run_blocks m g)
    intro r h c
    exact ⟨(h c).1.trans (Cert.DxOutIdeal.Hand.final m c), (h c).2⟩
  · refine (θ_run Cert.DxOutRefIdeal.defs _ _).mono ?_ (Cert.DxOutRefIdeal.Value.run (F := Ideal) m' g')
    intro r h c
    obtain ⟨e0, e1⟩ := hargs c
    refine ⟨?_, (h c).2⟩
    refine ((h c).1.trans (Cert.DxOutRefIdeal.Read.val_main_v7_eq _ _)).trans (Eq.trans ?_ (Cert.DxOutRefIdeal.Hand.value m c))
    rw [← e0, ← e1]
theorem DxOut_frame : Cert.quiescent_DxOut := fun m g _ => Cert.DxOut.Gen.frame m g
theorem DxOut_frame_ideal : Cert.quiescent_DxOutIdeal := fun m g _ => Cert.DxOutIdeal.Gen.frame m g
theorem DxOut_frame_ref : Cert.quiescent_DxOutRefIdeal := fun m g _ =>
  (θ_run Cert.DxOutRefIdeal.defs _ _).mono (fun r h => ⟨fun c => (h c).2, sem_eq_zero_of_no_sems (by decide) r.2⟩)
    (Cert.DxOutRefIdeal.Value.run (F := Ideal) m g)

end Cert.Proof

end
-- ==== Proof.Prod.DwInO.lean ====
/- The gradient of the odd mixer's input map. -/
module

public import proofs.«01_k».proof.Defs
public import proofs.«01_k».proof.Proof.Prod.Sum
public import proofs.«01_k».proof.Proof.Gen.DwInOIdeal.Value
public import proofs.«01_k».proof.Proof.Gen.DwInO.Frame
public import proofs.«01_k».proof.Proof.Gen.DwInORefIdeal.Read

@[expose] public section

set_option maxRecDepth 16384

noncomputable section

namespace Cert.DwInOIdeal.Hand

open Cert.DwInOIdeal Cert.DwInOIdeal.Gen Cert.Prod Idealize.ShloMosaic Idealize.ShloMosaic.TcCoe Idealize.SL.Sem

/-! ## What the body computes on one pair of blocks -/

theorem origin : (![0, 0] : Fin 2 → Nat) = fun _ => 0 := by decide

theorem pay1_at (a : Vec Ideal S2048x1024 .bf16) (b : Vec Ideal S2048x1024 .bf16) (r : Fin 1024) (s : Fin 1024) :
    k0_pay1 a b (ix2 r s) = ∑ k : Fin 2048, a (ix2 k r) * b (ix2 k s) := by
  pointwise [k0_pay1]
theorem pay3_at (p : Vec Ideal S1024x1024 .f32) (a : Vec Ideal S2048x1024 .bf16) (b : Vec Ideal S2048x1024 .bf16) (r : Fin 1024) (s : Fin 1024) :
    k0_pay3 p a b (ix2 r s) = p (ix2 r s) + ∑ k : Fin 2048, a (ix2 k r) * b (ix2 k s) := by
  pointwise [k0_pay3]

/-! ## What each point leaves -/

/-- The first point of a block leaves the product of its blocks in the scratch. -/
theorem out_first (c : Dev nD) (i : grid0.Coords) {d0 h0 d1 h1 d2 h2 d3 h3 c0 c1 c2} (a : Vec Ideal S2048x1024 .bf16) (b : Vec Ideal S2048x1024 .bf16) :
    sout0_A_0 (F := Ideal) c i d0 h0 d1 h1 d2 h2 d3 h3 c0 c1 c2 a b = k0_pay1 a b := by
  unfold sout0_A_0
  rw [View.read_writes_eq_canon _ _ _ (scover0_A_0 c i d0 h0 d1 h1 d2 h2 d3 h3 c0 c1 c2 a b)]
  unfold kernelRun0_A
  dsimp only
  rw [View.canon_unit_zero origin]
  unfold k0_pay1
  simp only [View.readAt_eq_ld, h0.read_unread, h1.read_unread, h3.read_unread, View.ld_unit_zero (S := S2048x1024) origin, View.ld_unit_zero (S := S2048x1024) origin, View.ld_unit_zero (S := S1024x1024) origin, shapeCast_self]

/-- The last point of a block stores the scratch plus the product of its blocks. -/
theorem out_last (c : Dev nD) (i : grid0.Coords) {d0 h0 d1 h1 d2 h2 d3 h3 c0 c1 c2} (a : Vec Ideal S2048x1024 .bf16) (b : Vec Ideal S2048x1024 .bf16) (p : Vec Ideal S1024x1024 .f32) :
    out0_B_2 (F := Ideal) c i d0 h0 d1 h1 d2 h2 d3 h3 c0 c1 c2 a b p = k0_pay3 p a b := by
  unfold out0_B_2
  rw [View.read_writes_eq_canon _ _ _ (cover0_B_2 c i d0 h0 d1 h1 d2 h2 d3 h3 c0 c1 c2 a b p)]
  unfold kernelRun0_B
  dsimp only
  rw [View.canon_unit_zero origin]
  unfold k0_pay3
  simp only [View.readAt_eq_ld, h0.read_unread, h1.read_unread, h3.read_unread, View.ld_unit_zero (S := S2048x1024) origin, View.ld_unit_zero (S := S2048x1024) origin, View.ld_unit_zero (S := S1024x1024) origin, shapeCast_self]

/-! ## The blocks, in the argument arrays -/

variable (m : (ℓ : Loc nD τ sig) → Buf (Elt Ideal) ℓ)

/-- Argument 0, entry `(i, j)`. -/
def lhs (c : Dev nD) (i j : ℕ) : EReal :=
  m ((c : Thread nD τ).loc main_arg0) (ix2 ⟨i % 4096, Nat.mod_lt _ (by decide)⟩ ⟨j % 2048, Nat.mod_lt _ (by decide)⟩)
theorem idx0 : ∀ t : Fin grid0.N, win0_0.index t 0 = t.val % 2 ∧ win0_0.index t 1 = t.val / 12 := by decide +kernel
theorem blk0 (c : Dev nD) (t : Fin cfg0.N) (r : Fin 2048) (s : Fin 1024) :
    iblk m c 0 t (ix2 r s) = lhs m c (2048 * (t.val % 2) + r.val) (1024 * (t.val / 12) + s.val) := by
  have ht : t.val < 24 := lt_of_lt_of_eq t.isLt N_0
  show V m c main_arg0 ((win0_0.rect t).emb (ix2 r s)) = _
  rw [V_main_arg0]
  refine congrArg (m ((c : Thread nD τ).loc main_arg0)) (funext fun a => Fin.ext ?_)
  rw [Pipeline.Window.rect_emb_val win0_0]
  match a with
  | ⟨0, _⟩ => show win0_0.index t 0 * 2048 + r.val = (2048 * (t.val % 2) + r.val) % 4096; rw [(idx0 t).1]; omega
  | ⟨1, _⟩ => show win0_0.index t 1 * 1024 + s.val = (1024 * (t.val / 12) + s.val) % 2048; rw [(idx0 t).2]; omega

/-- Argument 1, entry `(i, j)`. -/
def rhs (c : Dev nD) (i j : ℕ) : EReal :=
  m ((c : Thread nD τ).loc main_arg1) (ix2 ⟨i % 4096, Nat.mod_lt _ (by decide)⟩ ⟨j % 6144, Nat.mod_lt _ (by decide)⟩)
theorem idx1 : ∀ t : Fin grid0.N, win0_1.index t 0 = t.val % 2 ∧ win0_1.index t 1 = t.val / 2 % 6 := by decide +kernel
theorem blk1 (c : Dev nD) (t : Fin cfg0.N) (r : Fin 2048) (s : Fin 1024) :
    iblk m c 1 t (ix2 r s) = rhs m c (2048 * (t.val % 2) + r.val) (1024 * (t.val / 2 % 6) + s.val) := by
  have ht : t.val < 24 := lt_of_lt_of_eq t.isLt N_0
  show V m c main_arg1 ((win0_1.rect t).emb (ix2 r s)) = _
  rw [V_main_arg1]
  refine congrArg (m ((c : Thread nD τ).loc main_arg1)) (funext fun a => Fin.ext ?_)
  rw [Pipeline.Window.rect_emb_val win0_1]
  match a with
  | ⟨0, _⟩ => show win0_1.index t 0 * 2048 + r.val = (2048 * (t.val % 2) + r.val) % 4096; rw [(idx1 t).1]; omega
  | ⟨1, _⟩ => show win0_1.index t 1 * 1024 + s.val = (1024 * (t.val / 2 % 6) + s.val) % 6144; rw [(idx1 t).2]; omega

/-! ## The whole array -/

/-- The product of the arguments. -/
def prod (c : Dev nD) : FVec Ideal S2048x6144 .bf16 := fun i => (∑ k : Fin 4096, lhs m c (k.val) ((i 0 : Fin 2048).val) * rhs m c (k.val) ((i 1 : Fin 6144).val))

theorem idxOut : ∀ t : Fin grid0.N, win0_2.index t 0 = t.val / 12 ∧ win0_2.index t 1 = t.val / 2 % 6 := by decide +kernel
/-- What a point that ends a block writes back is its block of the product. -/
theorem flushed_eq (c : Dev nD) (t : Fin cfg0.N) (h : t.val % 2 = 1) :
    (dats m 0 c).flushed 2 t = ((cfg0.win 2).blk t).view.read (Elt Ideal) (prod m c) := by
  have ht : t.val < 24 := lt_of_lt_of_eq t.isLt N_0
  have e1 : (t.val - 1) % 2 = 0 := by omega
  have e2 : (t.val - 1) / 12 = t.val / 12 := by omega
  have e3 : (t.val - 1) / 2 % 6 = t.val / 2 % 6 := by omega
  rw [Value.flushed2_B m c t (by omega) h, out_last]
  have hA := congrArg Prod.snd (outsAt0_A m c ⟨t.val - 1, Nat.lt_of_le_of_lt (Nat.sub_le _ _) t.isLt⟩ (by dsimp only; omega) (by dsimp only; omega))
  dsimp only at hA
  rw [out_first] at hA
  funext y
  idx_vars y
  show k0_pay3 _ (iblk m c 0 t) (iblk m c 1 t) (ix2 y0 y1) = prod m c ((win0_2.rect t).emb (ix2 y0 y1))
  rw [hA, pay3_at, pay1_at]
  simp only [blk0, blk1, h, e1, e2, e3]
  rw [show (win0_2.rect t).emb (ix2 y0 y1) = ix2 (⟨1024 * (t.val / 12) + y0.val, by omega⟩ : Fin 2048) (⟨1024 * (t.val / 2 % 6) + y1.val, by omega⟩ : Fin 6144) from funext fun a => Fin.ext (by
    rw [Pipeline.Window.rect_emb_val win0_2]
    match a with
    | ⟨0, _⟩ => show win0_2.index t 0 * 1024 + y0.val = _; rw [(idxOut t).1]; exact congrArg (· + y0.val) (Nat.mul_comm _ _)
    | ⟨1, _⟩ => show win0_2.index t 1 * 1024 + y1.val = _; rw [(idxOut t).2]; exact congrArg (· + y1.val) (Nat.mul_comm _ _))]
  show _ = (∑ k : Fin 4096, lhs m c (k.val) (1024 * (t.val / 12) + y0.val) * rhs m c (k.val) (1024 * (t.val / 2 % 6) + y1.val))
  exact (sum_two 2048 (fun k => lhs m c (k) (1024 * (t.val / 12) + y0.val) * rhs m c (k) (1024 * (t.val / 2 % 6) + y1.val))).symm

/-- The result array when the run ends. -/
theorem final (c : Dev nD) : (dats m 0 c).arrAt 2 cfg0.N = prod m c :=
  (dats m 0 c).arrAt_eq_of_cover 2 (prod m c) (fun t hf => flushed_eq m c t ((flush0_2 t).mp hf))
    fun i => (Value.covered_iff2 i).2 (by
      have h0 : (i 0 : Nat) < 2048 := (i 0).isLt
      have h1 : (i 1 : Nat) < 6144 := (i 1).isLt
      omega)

end Cert.DwInOIdeal.Hand

namespace Cert.DwInORefIdeal.Hand

open Cert.DwInOIdeal.Hand Cert.DwInORefIdeal Cert.DwInORefIdeal.Read Idealize.ShloMosaic Idealize.ShloMosaic.TcCoe Idealize.SL.Sem

/-- The reference's result is the same product. -/
theorem value (m : (ℓ : Loc Cert.DwInOIdeal.nD Cert.DwInOIdeal.τ Cert.DwInOIdeal.sig) → Buf (Elt Ideal) ℓ) (c : Dev Cert.DwInOIdeal.nD) :
    val_main_v8 (F := Ideal) (m ((c : Thread Cert.DwInOIdeal.nD Cert.DwInOIdeal.τ).loc Cert.DwInOIdeal.main_arg0)) (m ((c : Thread Cert.DwInOIdeal.nD Cert.DwInOIdeal.τ).loc Cert.DwInOIdeal.main_arg1)) = prod m c := by
  funext i
  idx_vars i
  show _ = (∑ k : Fin 4096, lhs m c (k.val) (i0.val) * rhs m c (k.val) (i1.val))
  unfold lhs rhs
  simp only [Nat.mod_eq_of_lt (Fin.isLt _)]
  generalize m (Thread.loc (c : Thread Cert.DwInOIdeal.nD Cert.DwInOIdeal.τ) Cert.DwInOIdeal.main_arg0) = x0
  generalize m (Thread.loc (c : Thread Cert.DwInOIdeal.nD Cert.DwInOIdeal.τ) Cert.DwInOIdeal.main_arg1) = x1
  pointwise [val_main_v8, val_main_v7, val_main_v6, val_main_v5, val_main_v1]
  exact Finset.sum_congr rfl fun k _ => mul_comm _ _

end Cert.DwInORefIdeal.Hand

namespace Cert.Proof

open Idealize.ShloMosaic Idealize.SL.Sem

/-- The kernel's and the reference's results are equal. -/
theorem DwInO_equal : Cert.algebraic_DwInOIdeal_DwInORefIdeal := by
  intro m g m' g' _ hargs
  refine ⟨fun c => Cert.DwInOIdeal.Hand.prod m c, ?_, ?_⟩
  · refine (θ_run Cert.DwInOIdeal.defs _ _).mono ?_ (Cert.DwInOIdeal.Value.run_blocks m g)
    intro r h c
    exact ⟨(h c).1.trans (Cert.DwInOIdeal.Hand.final m c), (h c).2⟩
  · refine (θ_run Cert.DwInORefIdeal.defs _ _).mono ?_ (Cert.DwInORefIdeal.Value.run (F := Ideal) m' g')
    intro r h c
    obtain ⟨e0, e1⟩ := hargs c
    refine ⟨?_, (h c).2⟩
    refine ((h c).1.trans (Cert.DwInORefIdeal.Read.val_main_v8_eq _ _)).trans (Eq.trans ?_ (Cert.DwInORefIdeal.Hand.value m c))
    rw [← e0, ← e1]
theorem DwInO_frame : Cert.quiescent_DwInO := fun m g _ => Cert.DwInO.Gen.frame m g
theorem DwInO_frame_ideal : Cert.quiescent_DwInOIdeal := fun m g _ => Cert.DwInOIdeal.Gen.frame m g
theorem DwInO_frame_ref : Cert.quiescent_DwInORefIdeal := fun m g _ =>
  (θ_run Cert.DwInORefIdeal.defs _ _).mono (fun r h => ⟨fun c => (h c).2, sem_eq_zero_of_no_sems (by decide) r.2⟩)
    (Cert.DwInORefIdeal.Value.run (F := Ideal) m g)

end Cert.Proof

end
-- ==== Proof.Prod.DxInO.lean ====
/- The gradient of the argument of the odd mixer's input map. -/
module

public import proofs.«01_k».proof.Defs
public import proofs.«01_k».proof.Proof.Prod.Sum
public import proofs.«01_k».proof.Proof.Gen.DxInOIdeal.Value
public import proofs.«01_k».proof.Proof.Gen.DxInO.Frame
public import proofs.«01_k».proof.Proof.Gen.DxInORefIdeal.Read

@[expose] public section

set_option maxRecDepth 16384

noncomputable section

namespace Cert.DxInOIdeal.Hand

open Cert.DxInOIdeal Cert.DxInOIdeal.Gen Cert.Prod Idealize.ShloMosaic Idealize.ShloMosaic.TcCoe Idealize.SL.Sem

/-! ## What the body computes on one pair of blocks -/

theorem origin : (![0, 0] : Fin 2 → Nat) = fun _ => 0 := by decide

theorem pay1_at (a : Vec Ideal S1024x2048 .bf16) (b : Vec Ideal S1024x2048 .bf16) (r : Fin 1024) (s : Fin 1024) :
    k0_pay1 a b (ix2 r s) = ∑ k : Fin 2048, a (ix2 r k) * b (ix2 s k) := by
  pointwise [k0_pay1]
theorem pay2_at (p : Vec Ideal S1024x1024 .f32) (a : Vec Ideal S1024x2048 .bf16) (b : Vec Ideal S1024x2048 .bf16) (r : Fin 1024) (s : Fin 1024) :
    k0_pay2 p a b (ix2 r s) = p (ix2 r s) + ∑ k : Fin 2048, a (ix2 r k) * b (ix2 s k) := by
  pointwise [k0_pay2]
theorem pay3_at (p : Vec Ideal S1024x1024 .f32) (a : Vec Ideal S1024x2048 .bf16) (b : Vec Ideal S1024x2048 .bf16) (r : Fin 1024) (s : Fin 1024) :
    k0_pay3 p a b (ix2 r s) = p (ix2 r s) + ∑ k : Fin 2048, a (ix2 r k) * b (ix2 s k) := by
  pointwise [k0_pay3]

/-! ## What each point leaves -/

/-- The first point of a block leaves the product of its blocks in the scratch. -/
theorem out_first (c : Dev nD) (i : grid0.Coords) {d0 h0 d1 h1 d2 h2 d3 h3 c0 c1 c2} (a : Vec Ideal S1024x2048 .bf16) (b : Vec Ideal S1024x2048 .bf16) :
    sout0_A_0 (F := Ideal) c i d0 h0 d1 h1 d2 h2 d3 h3 c0 c1 c2 a b = k0_pay1 a b := by
  unfold sout0_A_0
  rw [View.read_writes_eq_canon _ _ _ (scover0_A_0 c i d0 h0 d1 h1 d2 h2 d3 h3 c0 c1 c2 a b)]
  unfold kernelRun0_A
  dsimp only
  rw [View.canon_unit_zero origin]
  unfold k0_pay1
  simp only [View.readAt_eq_ld, h0.read_unread, h1.read_unread, h3.read_unread, View.ld_unit_zero (S := S1024x2048) origin, View.ld_unit_zero (S := S1024x2048) origin, View.ld_unit_zero (S := S1024x1024) origin, shapeCast_self]

/-- A point between adds the product of its blocks to the scratch. -/
theorem out_next (c : Dev nD) (i : grid0.Coords) {d0 h0 d1 h1 d2 h2 d3 h3 c0 c1 c2} (a : Vec Ideal S1024x2048 .bf16) (b : Vec Ideal S1024x2048 .bf16) (p : Vec Ideal S1024x1024 .f32) :
    sout0_B_0 (F := Ideal) c i d0 h0 d1 h1 d2 h2 d3 h3 c0 c1 c2 a b p = k0_pay2 p a b := by
  unfold sout0_B_0
  rw [View.read_writes_eq_canon _ _ _ (scover0_B_0 c i d0 h0 d1 h1 d2 h2 d3 h3 c0 c1 c2 a b p)]
  unfold kernelRun0_B
  dsimp only
  rw [View.canon_unit_zero origin]
  unfold k0_pay2
  simp only [View.readAt_eq_ld, h0.read_unread, h1.read_unread, h3.read_unread, View.ld_unit_zero (S := S1024x2048) origin, View.ld_unit_zero (S := S1024x2048) origin, View.ld_unit_zero (S := S1024x1024) origin, shapeCast_self]

/-- The last point of a block stores the scratch plus the product of its blocks. -/
theorem out_last (c : Dev nD) (i : grid0.Coords) {d0 h0 d1 h1 d2 h2 d3 h3 c0 c1 c2} (a : Vec Ideal S1024x2048 .bf16) (b : Vec Ideal S1024x2048 .bf16) (p : Vec Ideal S1024x1024 .f32) :
    out0_C_2 (F := Ideal) c i d0 h0 d1 h1 d2 h2 d3 h3 c0 c1 c2 a b p = k0_pay3 p a b := by
  unfold out0_C_2
  rw [View.read_writes_eq_canon _ _ _ (cover0_C_2 c i d0 h0 d1 h1 d2 h2 d3 h3 c0 c1 c2 a b p)]
  unfold kernelRun0_C
  dsimp only
  rw [View.canon_unit_zero origin]
  unfold k0_pay3
  simp only [View.readAt_eq_ld, h0.read_unread, h1.read_unread, h3.read_unread, View.ld_unit_zero (S := S1024x2048) origin, View.ld_unit_zero (S := S1024x2048) origin, View.ld_unit_zero (S := S1024x1024) origin, shapeCast_self]

/-! ## The blocks, in the argument arrays -/

variable (m : (ℓ : Loc nD τ sig) → Buf (Elt Ideal) ℓ)

/-- Argument 0, entry `(i, j)`. -/
def lhs (c : Dev nD) (i j : ℕ) : EReal :=
  m ((c : Thread nD τ).loc main_arg0) (ix2 ⟨i % 4096, Nat.mod_lt _ (by decide)⟩ ⟨j % 6144, Nat.mod_lt _ (by decide)⟩)
theorem idx0 : ∀ t : Fin grid0.N, win0_0.index t 0 = t.val / 6 ∧ win0_0.index t 1 = t.val % 3 := by decide +kernel
theorem blk0 (c : Dev nD) (t : Fin cfg0.N) (r : Fin 1024) (s : Fin 2048) :
    iblk m c 0 t (ix2 r s) = lhs m c (1024 * (t.val / 6) + r.val) (2048 * (t.val % 3) + s.val) := by
  have ht : t.val < 24 := lt_of_lt_of_eq t.isLt N_0
  show V m c main_arg0 ((win0_0.rect t).emb (ix2 r s)) = _
  rw [V_main_arg0]
  refine congrArg (m ((c : Thread nD τ).loc main_arg0)) (funext fun a => Fin.ext ?_)
  rw [Pipeline.Window.rect_emb_val win0_0]
  match a with
  | ⟨0, _⟩ => show win0_0.index t 0 * 1024 + r.val = (1024 * (t.val / 6) + r.val) % 4096; rw [(idx0 t).1]; omega
  | ⟨1, _⟩ => show win0_0.index t 1 * 2048 + s.val = (2048 * (t.val % 3) + s.val) % 6144; rw [(idx0 t).2]; omega

/-- Argument 1, entry `(i, j)`. -/
def rhs (c : Dev nD) (i j : ℕ) : EReal :=
  m ((c : Thread nD τ).loc main_arg1) (ix2 ⟨i % 2048, Nat.mod_lt _ (by decide)⟩ ⟨j % 6144, Nat.mod_lt _ (by decide)⟩)
theorem idx1 : ∀ t : Fin grid0.N, win0_1.index t 0 = t.val / 3 % 2 ∧ win0_1.index t 1 = t.val % 3 := by decide +kernel
theorem blk1 (c : Dev nD) (t : Fin cfg0.N) (r : Fin 1024) (s : Fin 2048) :
    iblk m c 1 t (ix2 r s) = rhs m c (1024 * (t.val / 3 % 2) + r.val) (2048 * (t.val % 3) + s.val) := by
  have ht : t.val < 24 := lt_of_lt_of_eq t.isLt N_0
  show V m c main_arg1 ((win0_1.rect t).emb (ix2 r s)) = _
  rw [V_main_arg1]
  refine congrArg (m ((c : Thread nD τ).loc main_arg1)) (funext fun a => Fin.ext ?_)
  rw [Pipeline.Window.rect_emb_val win0_1]
  match a with
  | ⟨0, _⟩ => show win0_1.index t 0 * 1024 + r.val = (1024 * (t.val / 3 % 2) + r.val) % 2048; rw [(idx1 t).1]; omega
  | ⟨1, _⟩ => show win0_1.index t 1 * 2048 + s.val = (2048 * (t.val % 3) + s.val) % 6144; rw [(idx1 t).2]; omega

/-! ## The whole array -/

/-- The product of the arguments. -/
def prod (c : Dev nD) : FVec Ideal S4096x2048 .bf16 := fun i => (∑ k : Fin 6144, lhs m c ((i 0 : Fin 4096).val) (k.val) * rhs m c ((i 1 : Fin 2048).val) (k.val))

theorem idxOut : ∀ t : Fin grid0.N, win0_2.index t 0 = t.val / 6 ∧ win0_2.index t 1 = t.val / 3 % 2 := by decide +kernel
/-- What a point that ends a block writes back is its block of the product. -/
theorem flushed_eq (c : Dev nD) (t : Fin cfg0.N) (h : t.val % 3 = 2) :
    (dats m 0 c).flushed 2 t = ((cfg0.win 2).blk t).view.read (Elt Ideal) (prod m c) := by
  have ht : t.val < 24 := lt_of_lt_of_eq t.isLt N_0
  have e1 : (t.val - 1) % 3 = 1 := by omega
  have e2 : (t.val - 1) / 6 = t.val / 6 := by omega
  have e3 : (t.val - 1) / 3 % 2 = t.val / 3 % 2 := by omega
  have g1 : (t.val - 1 - 1) % 3 = 0 := by omega
  have g2 : (t.val - 1 - 1) / 6 = t.val / 6 := by omega
  have g3 : (t.val - 1 - 1) / 3 % 2 = t.val / 3 % 2 := by omega
  rw [Value.flushed2_C m c t (by omega) (by omega) h, out_last]
  have hA := congrArg Prod.snd (outsAt0_A m c ⟨t.val - 1 - 1, (Nat.lt_of_le_of_lt (Nat.sub_le _ _) (Nat.lt_of_le_of_lt (Nat.sub_le _ _) t.isLt))⟩ (by dsimp only; omega) (by dsimp only; omega) (by dsimp only; omega))
  have hB := congrArg Prod.snd (outsAt0_B m c ⟨t.val - 1, Nat.lt_of_le_of_lt (Nat.sub_le _ _) t.isLt⟩ (by dsimp only; omega) (by dsimp only; omega) (by dsimp only; omega))
  dsimp only at hA hB
  rw [out_first] at hA
  rw [out_next, hA] at hB
  funext y
  idx_vars y
  show k0_pay3 _ (iblk m c 0 t) (iblk m c 1 t) (ix2 y0 y1) = prod m c ((win0_2.rect t).emb (ix2 y0 y1))
  rw [hB, pay3_at, pay2_at, pay1_at]
  simp only [blk0, blk1, h, e1, e2, e3, g1, g2, g3]
  rw [show (win0_2.rect t).emb (ix2 y0 y1) = ix2 (⟨1024 * (t.val / 6) + y0.val, by omega⟩ : Fin 4096) (⟨1024 * (t.val / 3 % 2) + y1.val, by omega⟩ : Fin 2048) from funext fun a => Fin.ext (by
    rw [Pipeline.Window.rect_emb_val win0_2]
    match a with
    | ⟨0, _⟩ => show win0_2.index t 0 * 1024 + y0.val = _; rw [(idxOut t).1]; exact congrArg (· + y0.val) (Nat.mul_comm _ _)
    | ⟨1, _⟩ => show win0_2.index t 1 * 1024 + y1.val = _; rw [(idxOut t).2]; exact congrArg (· + y1.val) (Nat.mul_comm _ _))]
  show _ = (∑ k : Fin 6144, lhs m c (1024 * (t.val / 6) + y0.val) (k.val) * rhs m c (1024 * (t.val / 3 % 2) + y1.val) (k.val))
  exact (sum_three 2048 (fun k => lhs m c (1024 * (t.val / 6) + y0.val) (k) * rhs m c (1024 * (t.val / 3 % 2) + y1.val) (k))).symm

/-- The result array when the run ends. -/
theorem final (c : Dev nD) : (dats m 0 c).arrAt 2 cfg0.N = prod m c :=
  (dats m 0 c).arrAt_eq_of_cover 2 (prod m c) (fun t hf => flushed_eq m c t ((flush0_2 t).mp hf))
    fun i => (Value.covered_iff2 i).2 (by
      have h0 : (i 0 : Nat) < 4096 := (i 0).isLt
      have h1 : (i 1 : Nat) < 2048 := (i 1).isLt
      omega)

end Cert.DxInOIdeal.Hand

namespace Cert.DxInORefIdeal.Hand

open Cert.DxInOIdeal.Hand Cert.DxInORefIdeal Cert.DxInORefIdeal.Read Idealize.ShloMosaic Idealize.ShloMosaic.TcCoe Idealize.SL.Sem

/-- The reference's result is the same product. -/
theorem value (m : (ℓ : Loc Cert.DxInOIdeal.nD Cert.DxInOIdeal.τ Cert.DxInOIdeal.sig) → Buf (Elt Ideal) ℓ) (c : Dev Cert.DxInOIdeal.nD) :
    val_main_v7 (F := Ideal) (m ((c : Thread Cert.DxInOIdeal.nD Cert.DxInOIdeal.τ).loc Cert.DxInOIdeal.main_arg0)) (m ((c : Thread Cert.DxInOIdeal.nD Cert.DxInOIdeal.τ).loc Cert.DxInOIdeal.main_arg1)) = prod m c := by
  funext i
  idx_vars i
  show _ = (∑ k : Fin 6144, lhs m c (i0.val) (k.val) * rhs m c (i1.val) (k.val))
  unfold lhs rhs
  simp only [Nat.mod_eq_of_lt (Fin.isLt _)]
  generalize m (Thread.loc (c : Thread Cert.DxInOIdeal.nD Cert.DxInOIdeal.τ) Cert.DxInOIdeal.main_arg0) = x0
  generalize m (Thread.loc (c : Thread Cert.DxInOIdeal.nD Cert.DxInOIdeal.τ) Cert.DxInOIdeal.main_arg1) = x1
  pointwise [val_main_v7, val_main_v6, val_main_v5, val_main_v1, val_main_v2]

end Cert.DxInORefIdeal.Hand

namespace Cert.Proof

open Idealize.ShloMosaic Idealize.SL.Sem

/-- The kernel's and the reference's results are equal. -/
theorem DxInO_equal : Cert.algebraic_DxInOIdeal_DxInORefIdeal := by
  intro m g m' g' _ hargs
  refine ⟨fun c => Cert.DxInOIdeal.Hand.prod m c, ?_, ?_⟩
  · refine (θ_run Cert.DxInOIdeal.defs _ _).mono ?_ (Cert.DxInOIdeal.Value.run_blocks m g)
    intro r h c
    exact ⟨(h c).1.trans (Cert.DxInOIdeal.Hand.final m c), (h c).2⟩
  · refine (θ_run Cert.DxInORefIdeal.defs _ _).mono ?_ (Cert.DxInORefIdeal.Value.run (F := Ideal) m' g')
    intro r h c
    obtain ⟨e0, e1⟩ := hargs c
    refine ⟨?_, (h c).2⟩
    refine ((h c).1.trans (Cert.DxInORefIdeal.Read.val_main_v7_eq _ _)).trans (Eq.trans ?_ (Cert.DxInORefIdeal.Hand.value m c))
    rw [← e0, ← e1]
theorem DxInO_frame : Cert.quiescent_DxInO := fun m g _ => Cert.DxInO.Gen.frame m g
theorem DxInO_frame_ideal : Cert.quiescent_DxInOIdeal := fun m g _ => Cert.DxInOIdeal.Gen.frame m g
theorem DxInO_frame_ref : Cert.quiescent_DxInORefIdeal := fun m g _ =>
  (θ_run Cert.DxInORefIdeal.defs _ _).mono (fun r h => ⟨fun c => (h c).2, sem_eq_zero_of_no_sems (by decide) r.2⟩)
    (Cert.DxInORefIdeal.Value.run (F := Ideal) m g)

end Cert.Proof

end
-- ==== Proof.Prod.DwInE.lean ====
/- The gradient of the even mixer's input map. -/
module

public import proofs.«01_k».proof.Defs
public import proofs.«01_k».proof.Proof.Prod.Sum
public import proofs.«01_k».proof.Proof.Gen.DwInEIdeal.Value
public import proofs.«01_k».proof.Proof.Gen.DwInE.Frame
public import proofs.«01_k».proof.Proof.Gen.DwInERefIdeal.Read

@[expose] public section

set_option maxRecDepth 16384

noncomputable section

namespace Cert.DwInEIdeal.Hand

open Cert.DwInEIdeal Cert.DwInEIdeal.Gen Cert.Prod Idealize.ShloMosaic Idealize.ShloMosaic.TcCoe Idealize.SL.Sem

/-! ## What the body computes on one pair of blocks -/

theorem origin : (![0, 0] : Fin 2 → Nat) = fun _ => 0 := by decide

theorem pay1_at (a : Vec Ideal S2048x1024 .bf16) (b : Vec Ideal S2048x1024 .bf16) (r : Fin 1024) (s : Fin 1024) :
    k0_pay1 a b (ix2 r s) = ∑ k : Fin 2048, a (ix2 k r) * b (ix2 k s) := by
  pointwise [k0_pay1]
theorem pay3_at (p : Vec Ideal S1024x1024 .f32) (a : Vec Ideal S2048x1024 .bf16) (b : Vec Ideal S2048x1024 .bf16) (r : Fin 1024) (s : Fin 1024) :
    k0_pay3 p a b (ix2 r s) = p (ix2 r s) + ∑ k : Fin 2048, a (ix2 k r) * b (ix2 k s) := by
  pointwise [k0_pay3]

/-! ## What each point leaves -/

/-- The first point of a block leaves the product of its blocks in the scratch. -/
theorem out_first (c : Dev nD) (i : grid0.Coords) {d0 h0 d1 h1 d2 h2 d3 h3 c0 c1 c2} (a : Vec Ideal S2048x1024 .bf16) (b : Vec Ideal S2048x1024 .bf16) :
    sout0_A_0 (F := Ideal) c i d0 h0 d1 h1 d2 h2 d3 h3 c0 c1 c2 a b = k0_pay1 a b := by
  unfold sout0_A_0
  rw [View.read_writes_eq_canon _ _ _ (scover0_A_0 c i d0 h0 d1 h1 d2 h2 d3 h3 c0 c1 c2 a b)]
  unfold kernelRun0_A
  dsimp only
  rw [View.canon_unit_zero origin]
  unfold k0_pay1
  simp only [View.readAt_eq_ld, h0.read_unread, h1.read_unread, h3.read_unread, View.ld_unit_zero (S := S2048x1024) origin, View.ld_unit_zero (S := S2048x1024) origin, View.ld_unit_zero (S := S1024x1024) origin, shapeCast_self]

/-- The last point of a block stores the scratch plus the product of its blocks. -/
theorem out_last (c : Dev nD) (i : grid0.Coords) {d0 h0 d1 h1 d2 h2 d3 h3 c0 c1 c2} (a : Vec Ideal S2048x1024 .bf16) (b : Vec Ideal S2048x1024 .bf16) (p : Vec Ideal S1024x1024 .f32) :
    out0_B_2 (F := Ideal) c i d0 h0 d1 h1 d2 h2 d3 h3 c0 c1 c2 a b p = k0_pay3 p a b := by
  unfold out0_B_2
  rw [View.read_writes_eq_canon _ _ _ (cover0_B_2 c i d0 h0 d1 h1 d2 h2 d3 h3 c0 c1 c2 a b p)]
  unfold kernelRun0_B
  dsimp only
  rw [View.canon_unit_zero origin]
  unfold k0_pay3
  simp only [View.readAt_eq_ld, h0.read_unread, h1.read_unread, h3.read_unread, View.ld_unit_zero (S := S2048x1024) origin, View.ld_unit_zero (S := S2048x1024) origin, View.ld_unit_zero (S := S1024x1024) origin, shapeCast_self]

/-! ## The blocks, in the argument arrays -/

variable (m : (ℓ : Loc nD τ sig) → Buf (Elt Ideal) ℓ)

/-- Argument 0, entry `(i, j)`. -/
def lhs (c : Dev nD) (i j : ℕ) : EReal :=
  m ((c : Thread nD τ).loc main_arg0) (ix2 ⟨i % 4096, Nat.mod_lt _ (by decide)⟩ ⟨j % 2048, Nat.mod_lt _ (by decide)⟩)
theorem idx0 : ∀ t : Fin grid0.N, win0_0.index t 0 = t.val % 2 ∧ win0_0.index t 1 = t.val / 6 := by decide +kernel
theorem blk0 (c : Dev nD) (t : Fin cfg0.N) (r : Fin 2048) (s : Fin 1024) :
    iblk m c 0 t (ix2 r s) = lhs m c (2048 * (t.val % 2) + r.val) (1024 * (t.val / 6) + s.val) := by
  have ht : t.val < 12 := lt_of_lt_of_eq t.isLt N_0
  show V m c main_arg0 ((win0_0.rect t).emb (ix2 r s)) = _
  rw [V_main_arg0]
  refine congrArg (m ((c : Thread nD τ).loc main_arg0)) (funext fun a => Fin.ext ?_)
  rw [Pipeline.Window.rect_emb_val win0_0]
  match a with
  | ⟨0, _⟩ => show win0_0.index t 0 * 2048 + r.val = (2048 * (t.val % 2) + r.val) % 4096; rw [(idx0 t).1]; omega
  | ⟨1, _⟩ => show win0_0.index t 1 * 1024 + s.val = (1024 * (t.val / 6) + s.val) % 2048; rw [(idx0 t).2]; omega

/-- Argument 1, entry `(i, j)`. -/
def rhs (c : Dev nD) (i j : ℕ) : EReal :=
  m ((c : Thread nD τ).loc main_arg1) (ix2 ⟨i % 4096, Nat.mod_lt _ (by decide)⟩ ⟨j % 3072, Nat.mod_lt _ (by decide)⟩)
theorem idx1 : ∀ t : Fin grid0.N, win0_1.index t 0 = t.val % 2 ∧ win0_1.index t 1 = t.val / 2 % 3 := by decide +kernel
theorem blk1 (c : Dev nD) (t : Fin cfg0.N) (r : Fin 2048) (s : Fin 1024) :
    iblk m c 1 t (ix2 r s) = rhs m c (2048 * (t.val % 2) + r.val) (1024 * (t.val / 2 % 3) + s.val) := by
  have ht : t.val < 12 := lt_of_lt_of_eq t.isLt N_0
  show V m c main_arg1 ((win0_1.rect t).emb (ix2 r s)) = _
  rw [V_main_arg1]
  refine congrArg (m ((c : Thread nD τ).loc main_arg1)) (funext fun a => Fin.ext ?_)
  rw [Pipeline.Window.rect_emb_val win0_1]
  match a with
  | ⟨0, _⟩ => show win0_1.index t 0 * 2048 + r.val = (2048 * (t.val % 2) + r.val) % 4096; rw [(idx1 t).1]; omega
  | ⟨1, _⟩ => show win0_1.index t 1 * 1024 + s.val = (1024 * (t.val / 2 % 3) + s.val) % 3072; rw [(idx1 t).2]; omega

/-! ## The whole array -/

/-- The product of the arguments. -/
def prod (c : Dev nD) : FVec Ideal S2048x3072 .bf16 := fun i => (∑ k : Fin 4096, lhs m c (k.val) ((i 0 : Fin 2048).val) * rhs m c (k.val) ((i 1 : Fin 3072).val))

theorem idxOut : ∀ t : Fin grid0.N, win0_2.index t 0 = t.val / 6 ∧ win0_2.index t 1 = t.val / 2 % 3 := by decide +kernel
/-- What a point that ends a block writes back is its block of the product. -/
theorem flushed_eq (c : Dev nD) (t : Fin cfg0.N) (h : t.val % 2 = 1) :
    (dats m 0 c).flushed 2 t = ((cfg0.win 2).blk t).view.read (Elt Ideal) (prod m c) := by
  have ht : t.val < 12 := lt_of_lt_of_eq t.isLt N_0
  have e1 : (t.val - 1) % 2 = 0 := by omega
  have e2 : (t.val - 1) / 6 = t.val / 6 := by omega
  have e3 : (t.val - 1) / 2 % 3 = t.val / 2 % 3 := by omega
  rw [Value.flushed2_B m c t (by omega) h, out_last]
  have hA := congrArg Prod.snd (outsAt0_A m c ⟨t.val - 1, Nat.lt_of_le_of_lt (Nat.sub_le _ _) t.isLt⟩ (by dsimp only; omega) (by dsimp only; omega))
  dsimp only at hA
  rw [out_first] at hA
  funext y
  idx_vars y
  show k0_pay3 _ (iblk m c 0 t) (iblk m c 1 t) (ix2 y0 y1) = prod m c ((win0_2.rect t).emb (ix2 y0 y1))
  rw [hA, pay3_at, pay1_at]
  simp only [blk0, blk1, h, e1, e2, e3]
  rw [show (win0_2.rect t).emb (ix2 y0 y1) = ix2 (⟨1024 * (t.val / 6) + y0.val, by omega⟩ : Fin 2048) (⟨1024 * (t.val / 2 % 3) + y1.val, by omega⟩ : Fin 3072) from funext fun a => Fin.ext (by
    rw [Pipeline.Window.rect_emb_val win0_2]
    match a with
    | ⟨0, _⟩ => show win0_2.index t 0 * 1024 + y0.val = _; rw [(idxOut t).1]; exact congrArg (· + y0.val) (Nat.mul_comm _ _)
    | ⟨1, _⟩ => show win0_2.index t 1 * 1024 + y1.val = _; rw [(idxOut t).2]; exact congrArg (· + y1.val) (Nat.mul_comm _ _))]
  show _ = (∑ k : Fin 4096, lhs m c (k.val) (1024 * (t.val / 6) + y0.val) * rhs m c (k.val) (1024 * (t.val / 2 % 3) + y1.val))
  exact (sum_two 2048 (fun k => lhs m c (k) (1024 * (t.val / 6) + y0.val) * rhs m c (k) (1024 * (t.val / 2 % 3) + y1.val))).symm

/-- The result array when the run ends. -/
theorem final (c : Dev nD) : (dats m 0 c).arrAt 2 cfg0.N = prod m c :=
  (dats m 0 c).arrAt_eq_of_cover 2 (prod m c) (fun t hf => flushed_eq m c t ((flush0_2 t).mp hf))
    fun i => (Value.covered_iff2 i).2 (by
      have h0 : (i 0 : Nat) < 2048 := (i 0).isLt
      have h1 : (i 1 : Nat) < 3072 := (i 1).isLt
      omega)

end Cert.DwInEIdeal.Hand

namespace Cert.DwInERefIdeal.Hand

open Cert.DwInEIdeal.Hand Cert.DwInERefIdeal Cert.DwInERefIdeal.Read Idealize.ShloMosaic Idealize.ShloMosaic.TcCoe Idealize.SL.Sem

/-- The reference's result is the same product. -/
theorem value (m : (ℓ : Loc Cert.DwInEIdeal.nD Cert.DwInEIdeal.τ Cert.DwInEIdeal.sig) → Buf (Elt Ideal) ℓ) (c : Dev Cert.DwInEIdeal.nD) :
    val_main_v8 (F := Ideal) (m ((c : Thread Cert.DwInEIdeal.nD Cert.DwInEIdeal.τ).loc Cert.DwInEIdeal.main_arg0)) (m ((c : Thread Cert.DwInEIdeal.nD Cert.DwInEIdeal.τ).loc Cert.DwInEIdeal.main_arg1)) = prod m c := by
  funext i
  idx_vars i
  show _ = (∑ k : Fin 4096, lhs m c (k.val) (i0.val) * rhs m c (k.val) (i1.val))
  unfold lhs rhs
  simp only [Nat.mod_eq_of_lt (Fin.isLt _)]
  generalize m (Thread.loc (c : Thread Cert.DwInEIdeal.nD Cert.DwInEIdeal.τ) Cert.DwInEIdeal.main_arg0) = x0
  generalize m (Thread.loc (c : Thread Cert.DwInEIdeal.nD Cert.DwInEIdeal.τ) Cert.DwInEIdeal.main_arg1) = x1
  pointwise [val_main_v8, val_main_v7, val_main_v6, val_main_v5, val_main_v1]
  exact Finset.sum_congr rfl fun k _ => mul_comm _ _

end Cert.DwInERefIdeal.Hand

namespace Cert.Proof

open Idealize.ShloMosaic Idealize.SL.Sem

/-- The kernel's and the reference's results are equal. -/
theorem DwInE_equal : Cert.algebraic_DwInEIdeal_DwInERefIdeal := by
  intro m g m' g' _ hargs
  refine ⟨fun c => Cert.DwInEIdeal.Hand.prod m c, ?_, ?_⟩
  · refine (θ_run Cert.DwInEIdeal.defs _ _).mono ?_ (Cert.DwInEIdeal.Value.run_blocks m g)
    intro r h c
    exact ⟨(h c).1.trans (Cert.DwInEIdeal.Hand.final m c), (h c).2⟩
  · refine (θ_run Cert.DwInERefIdeal.defs _ _).mono ?_ (Cert.DwInERefIdeal.Value.run (F := Ideal) m' g')
    intro r h c
    obtain ⟨e0, e1⟩ := hargs c
    refine ⟨?_, (h c).2⟩
    refine ((h c).1.trans (Cert.DwInERefIdeal.Read.val_main_v8_eq _ _)).trans (Eq.trans ?_ (Cert.DwInERefIdeal.Hand.value m c))
    rw [← e0, ← e1]
theorem DwInE_frame : Cert.quiescent_DwInE := fun m g _ => Cert.DwInE.Gen.frame m g
theorem DwInE_frame_ideal : Cert.quiescent_DwInEIdeal := fun m g _ => Cert.DwInEIdeal.Gen.frame m g
theorem DwInE_frame_ref : Cert.quiescent_DwInERefIdeal := fun m g _ =>
  (θ_run Cert.DwInERefIdeal.defs _ _).mono (fun r h => ⟨fun c => (h c).2, sem_eq_zero_of_no_sems (by decide) r.2⟩)
    (Cert.DwInERefIdeal.Value.run (F := Ideal) m g)

end Cert.Proof

end
-- ==== Proof.Prod.DxInE.lean ====
/- The gradient of the argument of the even mixer's input map. -/
module

public import proofs.«01_k».proof.Defs
public import proofs.«01_k».proof.Proof.Prod.Sum
public import proofs.«01_k».proof.Proof.Gen.DxInEIdeal.Value
public import proofs.«01_k».proof.Proof.Gen.DxInE.Frame
public import proofs.«01_k».proof.Proof.Gen.DxInERefIdeal.Read

@[expose] public section

set_option maxRecDepth 16384

noncomputable section

namespace Cert.DxInEIdeal.Hand

open Cert.DxInEIdeal Cert.DxInEIdeal.Gen Cert.Prod Idealize.ShloMosaic Idealize.ShloMosaic.TcCoe Idealize.SL.Sem

/-! ## What the body computes on one pair of blocks -/

theorem origin : (![0, 0] : Fin 2 → Nat) = fun _ => 0 := by decide

theorem pay1_at (a : Vec Ideal S1024x1536 .bf16) (b : Vec Ideal S1024x1536 .bf16) (r : Fin 1024) (s : Fin 1024) :
    k0_pay1 a b (ix2 r s) = ∑ k : Fin 1536, a (ix2 r k) * b (ix2 s k) := by
  pointwise [k0_pay1]
theorem pay3_at (p : Vec Ideal S1024x1024 .f32) (a : Vec Ideal S1024x1536 .bf16) (b : Vec Ideal S1024x1536 .bf16) (r : Fin 1024) (s : Fin 1024) :
    k0_pay3 p a b (ix2 r s) = p (ix2 r s) + ∑ k : Fin 1536, a (ix2 r k) * b (ix2 s k) := by
  pointwise [k0_pay3]

/-! ## What each point leaves -/

/-- The first point of a block leaves the product of its blocks in the scratch. -/
theorem out_first (c : Dev nD) (i : grid0.Coords) {d0 h0 d1 h1 d2 h2 d3 h3 c0 c1 c2} (a : Vec Ideal S1024x1536 .bf16) (b : Vec Ideal S1024x1536 .bf16) :
    sout0_A_0 (F := Ideal) c i d0 h0 d1 h1 d2 h2 d3 h3 c0 c1 c2 a b = k0_pay1 a b := by
  unfold sout0_A_0
  rw [View.read_writes_eq_canon _ _ _ (scover0_A_0 c i d0 h0 d1 h1 d2 h2 d3 h3 c0 c1 c2 a b)]
  unfold kernelRun0_A
  dsimp only
  rw [View.canon_unit_zero origin]
  unfold k0_pay1
  simp only [View.readAt_eq_ld, h0.read_unread, h1.read_unread, h3.read_unread, View.ld_unit_zero (S := S1024x1536) origin, View.ld_unit_zero (S := S1024x1536) origin, View.ld_unit_zero (S := S1024x1024) origin, shapeCast_self]

/-- The last point of a block stores the scratch plus the product of its blocks. -/
theorem out_last (c : Dev nD) (i : grid0.Coords) {d0 h0 d1 h1 d2 h2 d3 h3 c0 c1 c2} (a : Vec Ideal S1024x1536 .bf16) (b : Vec Ideal S1024x1536 .bf16) (p : Vec Ideal S1024x1024 .f32) :
    out0_B_2 (F := Ideal) c i d0 h0 d1 h1 d2 h2 d3 h3 c0 c1 c2 a b p = k0_pay3 p a b := by
  unfold out0_B_2
  rw [View.read_writes_eq_canon _ _ _ (cover0_B_2 c i d0 h0 d1 h1 d2 h2 d3 h3 c0 c1 c2 a b p)]
  unfold kernelRun0_B
  dsimp only
  rw [View.canon_unit_zero origin]
  unfold k0_pay3
  simp only [View.readAt_eq_ld, h0.read_unread, h1.read_unread, h3.read_unread, View.ld_unit_zero (S := S1024x1536) origin, View.ld_unit_zero (S := S1024x1536) origin, View.ld_unit_zero (S := S1024x1024) origin, shapeCast_self]

/-! ## The blocks, in the argument arrays -/

variable (m : (ℓ : Loc nD τ sig) → Buf (Elt Ideal) ℓ)

/-- Argument 0, entry `(i, j)`. -/
def lhs (c : Dev nD) (i j : ℕ) : EReal :=
  m ((c : Thread nD τ).loc main_arg0) (ix2 ⟨i % 4096, Nat.mod_lt _ (by decide)⟩ ⟨j % 3072, Nat.mod_lt _ (by decide)⟩)
theorem idx0 : ∀ t : Fin grid0.N, win0_0.index t 0 = t.val / 4 ∧ win0_0.index t 1 = t.val % 2 := by decide +kernel
theorem blk0 (c : Dev nD) (t : Fin cfg0.N) (r : Fin 1024) (s : Fin 1536) :
    iblk m c 0 t (ix2 r s) = lhs m c (1024 * (t.val / 4) + r.val) (1536 * (t.val % 2) + s.val) := by
  have ht : t.val < 16 := lt_of_lt_of_eq t.isLt N_0
  show V m c main_arg0 ((win0_0.rect t).emb (ix2 r s)) = _
  rw [V_main_arg0]
  refine congrArg (m ((c : Thread nD τ).loc main_arg0)) (funext fun a => Fin.ext ?_)
  rw [Pipeline.Window.rect_emb_val win0_0]
  match a with
  | ⟨0, _⟩ => show win0_0.index t 0 * 1024 + r.val = (1024 * (t.val / 4) + r.val) % 4096; rw [(idx0 t).1]; omega
  | ⟨1, _⟩ => show win0_0.index t 1 * 1536 + s.val = (1536 * (t.val % 2) + s.val) % 3072; rw [(idx0 t).2]; omega

/-- Argument 1, entry `(i, j)`. -/
def rhs (c : Dev nD) (i j : ℕ) : EReal :=
  m ((c : Thread nD τ).loc main_arg1) (ix2 ⟨i % 2048, Nat.mod_lt _ (by decide)⟩ ⟨j % 3072, Nat.mod_lt _ (by decide)⟩)
theorem idx1 : ∀ t : Fin grid0.N, win0_1.index t 0 = t.val / 2 % 2 ∧ win0_1.index t 1 = t.val % 2 := by decide +kernel
theorem blk1 (c : Dev nD) (t : Fin cfg0.N) (r : Fin 1024) (s : Fin 1536) :
    iblk m c 1 t (ix2 r s) = rhs m c (1024 * (t.val / 2 % 2) + r.val) (1536 * (t.val % 2) + s.val) := by
  have ht : t.val < 16 := lt_of_lt_of_eq t.isLt N_0
  show V m c main_arg1 ((win0_1.rect t).emb (ix2 r s)) = _
  rw [V_main_arg1]
  refine congrArg (m ((c : Thread nD τ).loc main_arg1)) (funext fun a => Fin.ext ?_)
  rw [Pipeline.Window.rect_emb_val win0_1]
  match a with
  | ⟨0, _⟩ => show win0_1.index t 0 * 1024 + r.val = (1024 * (t.val / 2 % 2) + r.val) % 2048; rw [(idx1 t).1]; omega
  | ⟨1, _⟩ => show win0_1.index t 1 * 1536 + s.val = (1536 * (t.val % 2) + s.val) % 3072; rw [(idx1 t).2]; omega

/-! ## The whole array -/

/-- The product of the arguments. -/
def prod (c : Dev nD) : FVec Ideal S4096x2048 .bf16 := fun i => (∑ k : Fin 3072, lhs m c ((i 0 : Fin 4096).val) (k.val) * rhs m c ((i 1 : Fin 2048).val) (k.val))

theorem idxOut : ∀ t : Fin grid0.N, win0_2.index t 0 = t.val / 4 ∧ win0_2.index t 1 = t.val / 2 % 2 := by decide +kernel
/-- What a point that ends a block writes back is its block of the product. -/
theorem flushed_eq (c : Dev nD) (t : Fin cfg0.N) (h : t.val % 2 = 1) :
    (dats m 0 c).flushed 2 t = ((cfg0.win 2).blk t).view.read (Elt Ideal) (prod m c) := by
  have ht : t.val < 16 := lt_of_lt_of_eq t.isLt N_0
  have e1 : (t.val - 1) % 2 = 0 := by omega
  have e2 : (t.val - 1) / 4 = t.val / 4 := by omega
  have e3 : (t.val - 1) / 2 % 2 = t.val / 2 % 2 := by omega
  rw [Value.flushed2_B m c t (by omega) h, out_last]
  have hA := congrArg Prod.snd (outsAt0_A m c ⟨t.val - 1, Nat.lt_of_le_of_lt (Nat.sub_le _ _) t.isLt⟩ (by dsimp only; omega) (by dsimp only; omega))
  dsimp only at hA
  rw [out_first] at hA
  funext y
  idx_vars y
  show k0_pay3 _ (iblk m c 0 t) (iblk m c 1 t) (ix2 y0 y1) = prod m c ((win0_2.rect t).emb (ix2 y0 y1))
  rw [hA, pay3_at, pay1_at]
  simp only [blk0, blk1, h, e1, e2, e3]
  rw [show (win0_2.rect t).emb (ix2 y0 y1) = ix2 (⟨1024 * (t.val / 4) + y0.val, by omega⟩ : Fin 4096) (⟨1024 * (t.val / 2 % 2) + y1.val, by omega⟩ : Fin 2048) from funext fun a => Fin.ext (by
    rw [Pipeline.Window.rect_emb_val win0_2]
    match a with
    | ⟨0, _⟩ => show win0_2.index t 0 * 1024 + y0.val = _; rw [(idxOut t).1]; exact congrArg (· + y0.val) (Nat.mul_comm _ _)
    | ⟨1, _⟩ => show win0_2.index t 1 * 1024 + y1.val = _; rw [(idxOut t).2]; exact congrArg (· + y1.val) (Nat.mul_comm _ _))]
  show _ = (∑ k : Fin 3072, lhs m c (1024 * (t.val / 4) + y0.val) (k.val) * rhs m c (1024 * (t.val / 2 % 2) + y1.val) (k.val))
  exact (sum_two 1536 (fun k => lhs m c (1024 * (t.val / 4) + y0.val) (k) * rhs m c (1024 * (t.val / 2 % 2) + y1.val) (k))).symm

/-- The result array when the run ends. -/
theorem final (c : Dev nD) : (dats m 0 c).arrAt 2 cfg0.N = prod m c :=
  (dats m 0 c).arrAt_eq_of_cover 2 (prod m c) (fun t hf => flushed_eq m c t ((flush0_2 t).mp hf))
    fun i => (Value.covered_iff2 i).2 (by
      have h0 : (i 0 : Nat) < 4096 := (i 0).isLt
      have h1 : (i 1 : Nat) < 2048 := (i 1).isLt
      omega)

end Cert.DxInEIdeal.Hand

namespace Cert.DxInERefIdeal.Hand

open Cert.DxInEIdeal.Hand Cert.DxInERefIdeal Cert.DxInERefIdeal.Read Idealize.ShloMosaic Idealize.ShloMosaic.TcCoe Idealize.SL.Sem

/-- The reference's result is the same product. -/
theorem value (m : (ℓ : Loc Cert.DxInEIdeal.nD Cert.DxInEIdeal.τ Cert.DxInEIdeal.sig) → Buf (Elt Ideal) ℓ) (c : Dev Cert.DxInEIdeal.nD) :
    val_main_v7 (F := Ideal) (m ((c : Thread Cert.DxInEIdeal.nD Cert.DxInEIdeal.τ).loc Cert.DxInEIdeal.main_arg0)) (m ((c : Thread Cert.DxInEIdeal.nD Cert.DxInEIdeal.τ).loc Cert.DxInEIdeal.main_arg1)) = prod m c := by
  funext i
  idx_vars i
  show _ = (∑ k : Fin 3072, lhs m c (i0.val) (k.val) * rhs m c (i1.val) (k.val))
  unfold lhs rhs
  simp only [Nat.mod_eq_of_lt (Fin.isLt _)]
  generalize m (Thread.loc (c : Thread Cert.DxInEIdeal.nD Cert.DxInEIdeal.τ) Cert.DxInEIdeal.main_arg0) = x0
  generalize m (Thread.loc (c : Thread Cert.DxInEIdeal.nD Cert.DxInEIdeal.τ) Cert.DxInEIdeal.main_arg1) = x1
  pointwise [val_main_v7, val_main_v6, val_main_v5, val_main_v1, val_main_v2]

end Cert.DxInERefIdeal.Hand

namespace Cert.Proof

open Idealize.ShloMosaic Idealize.SL.Sem

/-- The kernel's and the reference's results are equal. -/
theorem DxInE_equal : Cert.algebraic_DxInEIdeal_DxInERefIdeal := by
  intro m g m' g' _ hargs
  refine ⟨fun c => Cert.DxInEIdeal.Hand.prod m c, ?_, ?_⟩
  · refine (θ_run Cert.DxInEIdeal.defs _ _).mono ?_ (Cert.DxInEIdeal.Value.run_blocks m g)
    intro r h c
    exact ⟨(h c).1.trans (Cert.DxInEIdeal.Hand.final m c), (h c).2⟩
  · refine (θ_run Cert.DxInERefIdeal.defs _ _).mono ?_ (Cert.DxInERefIdeal.Value.run (F := Ideal) m' g')
    intro r h c
    obtain ⟨e0, e1⟩ := hargs c
    refine ⟨?_, (h c).2⟩
    refine ((h c).1.trans (Cert.DxInERefIdeal.Read.val_main_v7_eq _ _)).trans (Eq.trans ?_ (Cert.DxInERefIdeal.Hand.value m c))
    rw [← e0, ← e1]
theorem DxInE_frame : Cert.quiescent_DxInE := fun m g _ => Cert.DxInE.Gen.frame m g
theorem DxInE_frame_ideal : Cert.quiescent_DxInEIdeal := fun m g _ => Cert.DxInEIdeal.Gen.frame m g
theorem DxInE_frame_ref : Cert.quiescent_DxInERefIdeal := fun m g _ =>
  (θ_run Cert.DxInERefIdeal.defs _ _).mono (fun r h => ⟨fun c => (h c).2, sem_eq_zero_of_no_sems (by decide) r.2⟩)
    (Cert.DxInERefIdeal.Value.run (F := Ideal) m g)

end Cert.Proof

end
-- ==== Proof.Prod.Down.lean ====
/- The feed-forward's output map, added to the feed-forward's argument. -/
module

public import proofs.«01_k».proof.Defs
public import proofs.«01_k».proof.Proof.Prod.Sum
public import proofs.«01_k».proof.Proof.Gen.DownIdeal.Value
public import proofs.«01_k».proof.Proof.Gen.Down.Frame
public import proofs.«01_k».proof.Proof.Gen.DownRefIdeal.Read

@[expose] public section

set_option maxRecDepth 16384

noncomputable section

namespace Cert.DownIdeal.Hand

open Cert.DownIdeal Cert.DownIdeal.Gen Cert.Prod Idealize.ShloMosaic Idealize.ShloMosaic.TcCoe Idealize.SL.Sem

/-! ## What the body computes on one pair of blocks -/

theorem origin : (![0, 0] : Fin 2 → Nat) = fun _ => 0 := by decide

theorem pay1_at (a : Vec Ideal S1024x2816 .bf16) (b : Vec Ideal S2816x1024 .bf16) (r : Fin 1024) (s : Fin 1024) :
    k0_pay1 a b (ix2 r s) = ∑ k : Fin 2816, a (ix2 r k) * b (ix2 k s) := by
  pointwise [k0_pay1]
theorem pay3_at (p : Vec Ideal S1024x1024 .f32) (a : Vec Ideal S1024x2816 .bf16) (b : Vec Ideal S2816x1024 .bf16) (d : Vec Ideal S1024x1024 .f32) (r : Fin 1024) (s : Fin 1024) :
    k0_pay3 p a b d (ix2 r s) = p (ix2 r s) + ∑ k : Fin 2816, a (ix2 r k) * b (ix2 k s) + d (ix2 r s) := by
  pointwise [k0_pay3]

/-! ## What each point leaves -/

/-- The first point of a block leaves the product of its blocks in the scratch. -/
theorem out_first (c : Dev nD) (i : grid0.Coords) {d0 h0 d1 h1 d2 h2 d3 h3 d4 h4 c0 c1 c2} (a : Vec Ideal S1024x2816 .bf16) (b : Vec Ideal S2816x1024 .bf16) (d : Vec Ideal S1024x1024 .f32) :
    sout0_A_0 (F := Ideal) c i d0 h0 d1 h1 d2 h2 d3 h3 d4 h4 c0 c1 c2 a b d = k0_pay1 a b := by
  unfold sout0_A_0
  rw [View.read_writes_eq_canon _ _ _ (scover0_A_0 c i d0 h0 d1 h1 d2 h2 d3 h3 d4 h4 c0 c1 c2 a b d)]
  unfold kernelRun0_A
  dsimp only
  rw [View.canon_unit_zero origin]
  unfold k0_pay1
  simp only [View.readAt_eq_ld, h0.read_unread, h1.read_unread, h2.read_unread, h4.read_unread, View.ld_unit_zero (S := S1024x2816) origin, View.ld_unit_zero (S := S2816x1024) origin, View.ld_unit_zero (S := S1024x1024) origin, shapeCast_self]

/-- The last point of a block stores the scratch plus the product of its blocks. -/
theorem out_last (c : Dev nD) (i : grid0.Coords) {d0 h0 d1 h1 d2 h2 d3 h3 d4 h4 c0 c1 c2} (a : Vec Ideal S1024x2816 .bf16) (b : Vec Ideal S2816x1024 .bf16) (d : Vec Ideal S1024x1024 .f32) (p : Vec Ideal S1024x1024 .f32) :
    out0_B_3 (F := Ideal) c i d0 h0 d1 h1 d2 h2 d3 h3 d4 h4 c0 c1 c2 a b d p = k0_pay3 p a b d := by
  unfold out0_B_3
  rw [View.read_writes_eq_canon _ _ _ (cover0_B_3 c i d0 h0 d1 h1 d2 h2 d3 h3 d4 h4 c0 c1 c2 a b d p)]
  unfold kernelRun0_B
  dsimp only
  rw [View.canon_unit_zero origin]
  unfold k0_pay3
  simp only [View.readAt_eq_ld, h0.read_unread, h1.read_unread, h2.read_unread, h4.read_unread, View.ld_unit_zero (S := S1024x2816) origin, View.ld_unit_zero (S := S2816x1024) origin, View.ld_unit_zero (S := S1024x1024) origin, shapeCast_self]

/-! ## The blocks, in the argument arrays -/

variable (m : (ℓ : Loc nD τ sig) → Buf (Elt Ideal) ℓ)

/-- Argument 0, entry `(i, j)`. -/
def lhs (c : Dev nD) (i j : ℕ) : EReal :=
  m ((c : Thread nD τ).loc main_arg0) (ix2 ⟨i % 4096, Nat.mod_lt _ (by decide)⟩ ⟨j % 5632, Nat.mod_lt _ (by decide)⟩)
theorem idx0 : ∀ t : Fin grid0.N, win0_0.index t 0 = t.val / 4 ∧ win0_0.index t 1 = t.val % 2 := by decide +kernel
theorem blk0 (c : Dev nD) (t : Fin cfg0.N) (r : Fin 1024) (s : Fin 2816) :
    iblk m c 0 t (ix2 r s) = lhs m c (1024 * (t.val / 4) + r.val) (2816 * (t.val % 2) + s.val) := by
  have ht : t.val < 16 := lt_of_lt_of_eq t.isLt N_0
  show V m c main_arg0 ((win0_0.rect t).emb (ix2 r s)) = _
  rw [V_main_arg0]
  refine congrArg (m ((c : Thread nD τ).loc main_arg0)) (funext fun a => Fin.ext ?_)
  rw [Pipeline.Window.rect_emb_val win0_0]
  match a with
  | ⟨0, _⟩ => show win0_0.index t 0 * 1024 + r.val = (1024 * (t.val / 4) + r.val) % 4096; rw [(idx0 t).1]; omega
  | ⟨1, _⟩ => show win0_0.index t 1 * 2816 + s.val = (2816 * (t.val % 2) + s.val) % 5632; rw [(idx0 t).2]; omega

/-- Argument 1, entry `(i, j)`. -/
def rhs (c : Dev nD) (i j : ℕ) : EReal :=
  m ((c : Thread nD τ).loc main_arg1) (ix2 ⟨i % 5632, Nat.mod_lt _ (by decide)⟩ ⟨j % 2048, Nat.mod_lt _ (by decide)⟩)
theorem idx1 : ∀ t : Fin grid0.N, win0_1.index t 0 = t.val % 2 ∧ win0_1.index t 1 = t.val / 2 % 2 := by decide +kernel
theorem blk1 (c : Dev nD) (t : Fin cfg0.N) (r : Fin 2816) (s : Fin 1024) :
    iblk m c 1 t (ix2 r s) = rhs m c (2816 * (t.val % 2) + r.val) (1024 * (t.val / 2 % 2) + s.val) := by
  have ht : t.val < 16 := lt_of_lt_of_eq t.isLt N_0
  show V m c main_arg1 ((win0_1.rect t).emb (ix2 r s)) = _
  rw [V_main_arg1]
  refine congrArg (m ((c : Thread nD τ).loc main_arg1)) (funext fun a => Fin.ext ?_)
  rw [Pipeline.Window.rect_emb_val win0_1]
  match a with
  | ⟨0, _⟩ => show win0_1.index t 0 * 2816 + r.val = (2816 * (t.val % 2) + r.val) % 5632; rw [(idx1 t).1]; omega
  | ⟨1, _⟩ => show win0_1.index t 1 * 1024 + s.val = (1024 * (t.val / 2 % 2) + s.val) % 2048; rw [(idx1 t).2]; omega

/-- Argument 2, entry `(i, j)`. -/
def resid (c : Dev nD) (i j : ℕ) : EReal :=
  m ((c : Thread nD τ).loc main_arg2) (ix2 ⟨i % 4096, Nat.mod_lt _ (by decide)⟩ ⟨j % 2048, Nat.mod_lt _ (by decide)⟩)
theorem idx2 : ∀ t : Fin grid0.N, win0_2.index t 0 = t.val / 4 ∧ win0_2.index t 1 = t.val / 2 % 2 := by decide +kernel
theorem blk2 (c : Dev nD) (t : Fin cfg0.N) (r : Fin 1024) (s : Fin 1024) :
    iblk m c 2 t (ix2 r s) = resid m c (1024 * (t.val / 4) + r.val) (1024 * (t.val / 2 % 2) + s.val) := by
  have ht : t.val < 16 := lt_of_lt_of_eq t.isLt N_0
  show V m c main_arg2 ((win0_2.rect t).emb (ix2 r s)) = _
  rw [V_main_arg2]
  refine congrArg (m ((c : Thread nD τ).loc main_arg2)) (funext fun a => Fin.ext ?_)
  rw [Pipeline.Window.rect_emb_val win0_2]
  match a with
  | ⟨0, _⟩ => show win0_2.index t 0 * 1024 + r.val = (1024 * (t.val / 4) + r.val) % 4096; rw [(idx2 t).1]; omega
  | ⟨1, _⟩ => show win0_2.index t 1 * 1024 + s.val = (1024 * (t.val / 2 % 2) + s.val) % 2048; rw [(idx2 t).2]; omega

/-! ## The whole array -/

/-- The product of the arguments, plus the third. -/
def prod (c : Dev nD) : FVec Ideal S4096x2048 .f32 := fun i => (∑ k : Fin 5632, lhs m c ((i 0 : Fin 4096).val) (k.val) * rhs m c (k.val) ((i 1 : Fin 2048).val)) + resid m c ((i 0 : Fin 4096).val) ((i 1 : Fin 2048).val)

theorem idxOut : ∀ t : Fin grid0.N, win0_3.index t 0 = t.val / 4 ∧ win0_3.index t 1 = t.val / 2 % 2 := by decide +kernel
/-- What a point that ends a block writes back is its block of the product. -/
theorem flushed_eq (c : Dev nD) (t : Fin cfg0.N) (h : t.val % 2 = 1) :
    (dats m 0 c).flushed 3 t = ((cfg0.win 3).blk t).view.read (Elt Ideal) (prod m c) := by
  have ht : t.val < 16 := lt_of_lt_of_eq t.isLt N_0
  have e1 : (t.val - 1) % 2 = 0 := by omega
  have e2 : (t.val - 1) / 4 = t.val / 4 := by omega
  have e3 : (t.val - 1) / 2 % 2 = t.val / 2 % 2 := by omega
  rw [Value.flushed3_B m c t (by omega) h, out_last]
  have hA := congrArg Prod.snd (outsAt0_A m c ⟨t.val - 1, Nat.lt_of_le_of_lt (Nat.sub_le _ _) t.isLt⟩ (by dsimp only; omega) (by dsimp only; omega))
  dsimp only at hA
  rw [out_first] at hA
  funext y
  idx_vars y
  show k0_pay3 _ (iblk m c 0 t) (iblk m c 1 t) (iblk m c 2 t) (ix2 y0 y1) = prod m c ((win0_3.rect t).emb (ix2 y0 y1))
  rw [hA, pay3_at, pay1_at]
  simp only [blk0, blk1, blk2, h, e1, e2, e3]
  rw [show (win0_3.rect t).emb (ix2 y0 y1) = ix2 (⟨1024 * (t.val / 4) + y0.val, by omega⟩ : Fin 4096) (⟨1024 * (t.val / 2 % 2) + y1.val, by omega⟩ : Fin 2048) from funext fun a => Fin.ext (by
    rw [Pipeline.Window.rect_emb_val win0_3]
    match a with
    | ⟨0, _⟩ => show win0_3.index t 0 * 1024 + y0.val = _; rw [(idxOut t).1]; exact congrArg (· + y0.val) (Nat.mul_comm _ _)
    | ⟨1, _⟩ => show win0_3.index t 1 * 1024 + y1.val = _; rw [(idxOut t).2]; exact congrArg (· + y1.val) (Nat.mul_comm _ _))]
  show _ = (∑ k : Fin 5632, lhs m c (1024 * (t.val / 4) + y0.val) (k.val) * rhs m c (k.val) (1024 * (t.val / 2 % 2) + y1.val)) + resid m c (1024 * (t.val / 4) + y0.val) (1024 * (t.val / 2 % 2) + y1.val)
  exact congrArg₂ (· + ·) (sum_two 2816 (fun k => lhs m c (1024 * (t.val / 4) + y0.val) (k) * rhs m c (k) (1024 * (t.val / 2 % 2) + y1.val))).symm rfl

/-- The result array when the run ends. -/
theorem final (c : Dev nD) : (dats m 0 c).arrAt 3 cfg0.N = prod m c :=
  (dats m 0 c).arrAt_eq_of_cover 3 (prod m c) (fun t hf => flushed_eq m c t ((flush0_3 t).mp hf))
    fun i => (Value.covered_iff3 i).2 (by
      have h0 : (i 0 : Nat) < 4096 := (i 0).isLt
      have h1 : (i 1 : Nat) < 2048 := (i 1).isLt
      omega)

end Cert.DownIdeal.Hand

namespace Cert.DownRefIdeal.Hand

open Cert.DownIdeal.Hand Cert.DownRefIdeal Cert.DownRefIdeal.Read Idealize.ShloMosaic Idealize.ShloMosaic.TcCoe Idealize.SL.Sem

/-- The reference's result is the same product. -/
theorem value (m : (ℓ : Loc Cert.DownIdeal.nD Cert.DownIdeal.τ Cert.DownIdeal.sig) → Buf (Elt Ideal) ℓ) (c : Dev Cert.DownIdeal.nD) :
    val_main_v3 (F := Ideal) (m ((c : Thread Cert.DownIdeal.nD Cert.DownIdeal.τ).loc Cert.DownIdeal.main_arg0)) (m ((c : Thread Cert.DownIdeal.nD Cert.DownIdeal.τ).loc Cert.DownIdeal.main_arg1)) (m ((c : Thread Cert.DownIdeal.nD Cert.DownIdeal.τ).loc Cert.DownIdeal.main_arg2)) = prod m c := by
  funext i
  idx_vars i
  show _ = (∑ k : Fin 5632, lhs m c (i0.val) (k.val) * rhs m c (k.val) (i1.val)) + resid m c (i0.val) (i1.val)
  unfold lhs rhs resid
  simp only [Nat.mod_eq_of_lt (Fin.isLt _)]
  generalize m (Thread.loc (c : Thread Cert.DownIdeal.nD Cert.DownIdeal.τ) Cert.DownIdeal.main_arg0) = x0
  generalize m (Thread.loc (c : Thread Cert.DownIdeal.nD Cert.DownIdeal.τ) Cert.DownIdeal.main_arg1) = x1
  generalize m (Thread.loc (c : Thread Cert.DownIdeal.nD Cert.DownIdeal.τ) Cert.DownIdeal.main_arg2) = x2
  pointwise [val_main_v3, val_main_v2, val_main_v1, val_main_v0]
  exact add_comm _ _

end Cert.DownRefIdeal.Hand

namespace Cert.Proof

open Idealize.ShloMosaic Idealize.SL.Sem

/-- The kernel's and the reference's results are equal. -/
theorem Down_equal : Cert.algebraic_DownIdeal_DownRefIdeal := by
  intro m g m' g' _ hargs
  refine ⟨fun c => Cert.DownIdeal.Hand.prod m c, ?_, ?_⟩
  · refine (θ_run Cert.DownIdeal.defs _ _).mono ?_ (Cert.DownIdeal.Value.run_blocks m g)
    intro r h c
    exact ⟨(h c).1.trans (Cert.DownIdeal.Hand.final m c), (h c).2⟩
  · refine (θ_run Cert.DownRefIdeal.defs _ _).mono ?_ (Cert.DownRefIdeal.Value.run (F := Ideal) m' g')
    intro r h c
    obtain ⟨e0, e1, e2⟩ := hargs c
    refine ⟨?_, (h c).2⟩
    refine ((h c).1.trans (Cert.DownRefIdeal.Read.val_main_v3_eq _ _ _)).trans (Eq.trans ?_ (Cert.DownRefIdeal.Hand.value m c))
    rw [← e0, ← e1, ← e2]
theorem Down_frame : Cert.quiescent_Down := fun m g _ => Cert.Down.Gen.frame m g
theorem Down_frame_ideal : Cert.quiescent_DownIdeal := fun m g _ => Cert.DownIdeal.Gen.frame m g
theorem Down_frame_ref : Cert.quiescent_DownRefIdeal := fun m g _ =>
  (θ_run Cert.DownRefIdeal.defs _ _).mono (fun r h => ⟨fun c => (h c).2, sem_eq_zero_of_no_sems (by decide) r.2⟩)
    (Cert.DownRefIdeal.Value.run (F := Ideal) m g)

end Cert.Proof

end
-- ==== Proof.Prod.InO.lean ====
/- The odd mixer's input map. -/
module

public import proofs.«01_k».proof.Defs
public import proofs.«01_k».proof.Proof.Prod.Sum
public import proofs.«01_k».proof.Proof.Gen.InOIdeal.Value
public import proofs.«01_k».proof.Proof.Gen.InO.Frame
public import proofs.«01_k».proof.Proof.Gen.InORefIdeal.Read

@[expose] public section

set_option maxRecDepth 16384

noncomputable section

namespace Cert.InOIdeal.Hand

open Cert.InOIdeal Cert.InOIdeal.Gen Cert.Prod Idealize.ShloMosaic Idealize.ShloMosaic.TcCoe Idealize.SL.Sem

/-! ## What the body computes on one pair of blocks -/

theorem origin : (![0, 0] : Fin 2 → Nat) = fun _ => 0 := by decide

theorem pay1_at (a : Vec Ideal S1024x2048 .bf16) (b : Vec Ideal S2048x1024 .bf16) (r : Fin 1024) (s : Fin 1024) :
    k0_pay1 a b (ix2 r s) = ∑ k : Fin 2048, a (ix2 r k) * b (ix2 k s) := by
  pointwise [k0_pay1]

/-! ## What each point leaves -/

/-- The one point of a block stores the product of its two blocks. -/
theorem out_only (c : Dev nD) (i : grid0.Coords) {d0 h0 d1 h1 d2 h2 d3 h3} (a : Vec Ideal S1024x2048 .bf16) (b : Vec Ideal S2048x1024 .bf16) :
    out0_A_2 (F := Ideal) c i d0 h0 d1 h1 d2 h2 d3 h3 a b = k0_pay1 a b := by
  unfold out0_A_2
  rw [View.read_writes_eq_canon _ _ _ (cover0_A_2 c i d0 h0 d1 h1 d2 h2 d3 h3 a b)]
  unfold kernelRun0_A
  dsimp only
  rw [View.canon_unit_zero origin]
  unfold k0_pay1
  simp only [View.readAt_eq_ld, h0.read_unread, h1.read_unread, h3.read_unread, View.ld_unit_zero (S := S1024x2048) origin, View.ld_unit_zero (S := S2048x1024) origin, View.ld_unit_zero (S := S1024x1024) origin, shapeCast_self]

/-! ## The blocks, in the argument arrays -/

variable (m : (ℓ : Loc nD τ sig) → Buf (Elt Ideal) ℓ)

/-- Argument 0, entry `(i, j)`. -/
def lhs (c : Dev nD) (i j : ℕ) : EReal :=
  m ((c : Thread nD τ).loc main_arg0) (ix2 ⟨i % 4096, Nat.mod_lt _ (by decide)⟩ ⟨j % 2048, Nat.mod_lt _ (by decide)⟩)
theorem idx0 : ∀ t : Fin grid0.N, win0_0.index t 0 = t.val / 6 ∧ win0_0.index t 1 = t.val % 1 := by decide +kernel
theorem blk0 (c : Dev nD) (t : Fin cfg0.N) (r : Fin 1024) (s : Fin 2048) :
    iblk m c 0 t (ix2 r s) = lhs m c (1024 * (t.val / 6) + r.val) (2048 * (t.val % 1) + s.val) := by
  have ht : t.val < 24 := lt_of_lt_of_eq t.isLt N_0
  show V m c main_arg0 ((win0_0.rect t).emb (ix2 r s)) = _
  rw [V_main_arg0]
  refine congrArg (m ((c : Thread nD τ).loc main_arg0)) (funext fun a => Fin.ext ?_)
  rw [Pipeline.Window.rect_emb_val win0_0]
  match a with
  | ⟨0, _⟩ => show win0_0.index t 0 * 1024 + r.val = (1024 * (t.val / 6) + r.val) % 4096; rw [(idx0 t).1]; omega
  | ⟨1, _⟩ => show win0_0.index t 1 * 2048 + s.val = (2048 * (t.val % 1) + s.val) % 2048; rw [(idx0 t).2]; omega

/-- Argument 1, entry `(i, j)`. -/
def rhs (c : Dev nD) (i j : ℕ) : EReal :=
  m ((c : Thread nD τ).loc main_arg1) (ix2 ⟨i % 2048, Nat.mod_lt _ (by decide)⟩ ⟨j % 6144, Nat.mod_lt _ (by decide)⟩)
theorem idx1 : ∀ t : Fin grid0.N, win0_1.index t 0 = t.val % 1 ∧ win0_1.index t 1 = t.val / 1 % 6 := by decide +kernel
theorem blk1 (c : Dev nD) (t : Fin cfg0.N) (r : Fin 2048) (s : Fin 1024) :
    iblk m c 1 t (ix2 r s) = rhs m c (2048 * (t.val % 1) + r.val) (1024 * (t.val / 1 % 6) + s.val) := by
  have ht : t.val < 24 := lt_of_lt_of_eq t.isLt N_0
  show V m c main_arg1 ((win0_1.rect t).emb (ix2 r s)) = _
  rw [V_main_arg1]
  refine congrArg (m ((c : Thread nD τ).loc main_arg1)) (funext fun a => Fin.ext ?_)
  rw [Pipeline.Window.rect_emb_val win0_1]
  match a with
  | ⟨0, _⟩ => show win0_1.index t 0 * 2048 + r.val = (2048 * (t.val % 1) + r.val) % 2048; rw [(idx1 t).1]; omega
  | ⟨1, _⟩ => show win0_1.index t 1 * 1024 + s.val = (1024 * (t.val / 1 % 6) + s.val) % 6144; rw [(idx1 t).2]; omega

/-! ## The whole array -/

/-- The product of the arguments. -/
def prod (c : Dev nD) : FVec Ideal S4096x6144 .bf16 := fun i => (∑ k : Fin 2048, lhs m c ((i 0 : Fin 4096).val) (k.val) * rhs m c (k.val) ((i 1 : Fin 6144).val))

theorem idxOut : ∀ t : Fin grid0.N, win0_2.index t 0 = t.val / 6 ∧ win0_2.index t 1 = t.val / 1 % 6 := by decide +kernel
/-- What a point that ends a block writes back is its block of the product. -/
theorem flushed_eq (c : Dev nD) (t : Fin cfg0.N) :
    (dats m 0 c).flushed 2 t = ((cfg0.win 2).blk t).view.read (Elt Ideal) (prod m c) := by
  have ht : t.val < 24 := lt_of_lt_of_eq t.isLt N_0
  rw [Value.flushed2_A m c t, out_only]
  funext y
  idx_vars y
  show k0_pay1 (iblk m c 0 t) (iblk m c 1 t) (ix2 y0 y1) = prod m c ((win0_2.rect t).emb (ix2 y0 y1))
  rw [pay1_at]
  simp only [blk0, blk1]
  rw [show (win0_2.rect t).emb (ix2 y0 y1) = ix2 (⟨1024 * (t.val / 6) + y0.val, by omega⟩ : Fin 4096) (⟨1024 * (t.val / 1 % 6) + y1.val, by omega⟩ : Fin 6144) from funext fun a => Fin.ext (by
    rw [Pipeline.Window.rect_emb_val win0_2]
    match a with
    | ⟨0, _⟩ => show win0_2.index t 0 * 1024 + y0.val = _; rw [(idxOut t).1]; exact congrArg (· + y0.val) (Nat.mul_comm _ _)
    | ⟨1, _⟩ => show win0_2.index t 1 * 1024 + y1.val = _; rw [(idxOut t).2]; exact congrArg (· + y1.val) (Nat.mul_comm _ _))]
  show _ = (∑ k : Fin 2048, lhs m c (1024 * (t.val / 6) + y0.val) (k.val) * rhs m c (k.val) (1024 * (t.val / 1 % 6) + y1.val))
  simp only [show t.val % 1 = 0 by omega, Nat.mul_zero, Nat.zero_add]

/-- The result array when the run ends. -/
theorem final (c : Dev nD) : (dats m 0 c).arrAt 2 cfg0.N = prod m c :=
  (dats m 0 c).arrAt_eq_of_cover 2 (prod m c) (fun t hf => flushed_eq m c t)
    fun i => by
      have h0 : (i 0 : Nat) < 4096 := (i 0).isLt
      have h1 : (i 1 : Nat) < 6144 := (i 1).isLt
      refine ⟨⟨(i 0 : Nat) / 1024 * 6 + (i 1 : Nat) / 1024, lt_of_lt_of_eq (by omega) N_0.symm⟩, flush0_2 _, ?_⟩
      generalize ht : (⟨(i 0 : Nat) / 1024 * 6 + (i 1 : Nat) / 1024, _⟩ : Fin cfg0.N) = t
      have hv : t.val = (i 0 : Nat) / 1024 * 6 + (i 1 : Nat) / 1024 := by rw [← ht]
      show i ∈ ((View.whole main_v0).slice (win0_2.rect t)).set
      rw [View.set_slice_whole, Rect.mem_set_unit]
      intro a
      match a with
      | ⟨0, _⟩ => show win0_2.index t 0 * 1024 ≤ (i 0 : Nat) ∧ (i 0 : Nat) < win0_2.index t 0 * 1024 + 1024
                  rw [(idxOut t).1]; omega
      | ⟨1, _⟩ => show win0_2.index t 1 * 1024 ≤ (i 1 : Nat) ∧ (i 1 : Nat) < win0_2.index t 1 * 1024 + 1024
                  rw [(idxOut t).2]; omega

end Cert.InOIdeal.Hand

namespace Cert.InORefIdeal.Hand

open Cert.InOIdeal.Hand Cert.InORefIdeal Cert.InORefIdeal.Read Idealize.ShloMosaic Idealize.ShloMosaic.TcCoe Idealize.SL.Sem

/-- The reference's result is the same product. -/
theorem value (m : (ℓ : Loc Cert.InOIdeal.nD Cert.InOIdeal.τ Cert.InOIdeal.sig) → Buf (Elt Ideal) ℓ) (c : Dev Cert.InOIdeal.nD) :
    val_main_v3 (F := Ideal) (m ((c : Thread Cert.InOIdeal.nD Cert.InOIdeal.τ).loc Cert.InOIdeal.main_arg0)) (m ((c : Thread Cert.InOIdeal.nD Cert.InOIdeal.τ).loc Cert.InOIdeal.main_arg1)) = prod m c := by
  funext i
  idx_vars i
  show _ = (∑ k : Fin 2048, lhs m c (i0.val) (k.val) * rhs m c (k.val) (i1.val))
  unfold lhs rhs
  simp only [Nat.mod_eq_of_lt (Fin.isLt _)]
  generalize m (Thread.loc (c : Thread Cert.InOIdeal.nD Cert.InOIdeal.τ) Cert.InOIdeal.main_arg0) = x0
  generalize m (Thread.loc (c : Thread Cert.InOIdeal.nD Cert.InOIdeal.τ) Cert.InOIdeal.main_arg1) = x1
  pointwise [val_main_v3, val_main_v2, val_main_v1, val_main_v0]

end Cert.InORefIdeal.Hand

namespace Cert.Proof

open Idealize.ShloMosaic Idealize.SL.Sem

/-- The kernel's and the reference's results are equal. -/
theorem InO_equal : Cert.algebraic_InOIdeal_InORefIdeal := by
  intro m g m' g' _ hargs
  refine ⟨fun c => Cert.InOIdeal.Hand.prod m c, ?_, ?_⟩
  · refine (θ_run Cert.InOIdeal.defs _ _).mono ?_ (Cert.InOIdeal.Value.run_blocks m g)
    intro r h c
    exact ⟨(h c).1.trans (Cert.InOIdeal.Hand.final m c), (h c).2⟩
  · refine (θ_run Cert.InORefIdeal.defs _ _).mono ?_ (Cert.InORefIdeal.Value.run (F := Ideal) m' g')
    intro r h c
    obtain ⟨e0, e1⟩ := hargs c
    refine ⟨?_, (h c).2⟩
    refine ((h c).1.trans (Cert.InORefIdeal.Read.val_main_v3_eq _ _)).trans (Eq.trans ?_ (Cert.InORefIdeal.Hand.value m c))
    rw [← e0, ← e1]
theorem InO_frame : Cert.quiescent_InO := fun m g _ => Cert.InO.Gen.frame m g
theorem InO_frame_ideal : Cert.quiescent_InOIdeal := fun m g _ => Cert.InOIdeal.Gen.frame m g
theorem InO_frame_ref : Cert.quiescent_InORefIdeal := fun m g _ =>
  (θ_run Cert.InORefIdeal.defs _ _).mono (fun r h => ⟨fun c => (h c).2, sem_eq_zero_of_no_sems (by decide) r.2⟩)
    (Cert.InORefIdeal.Value.run (F := Ideal) m g)

end Cert.Proof

end
-- ==== Proof.Prod.InE.lean ====
/- The even mixer's input map. -/
module

public import proofs.«01_k».proof.Defs
public import proofs.«01_k».proof.Proof.Prod.Sum
public import proofs.«01_k».proof.Proof.Gen.InEIdeal.Value
public import proofs.«01_k».proof.Proof.Gen.InE.Frame
public import proofs.«01_k».proof.Proof.Gen.InERefIdeal.Read

@[expose] public section

set_option maxRecDepth 16384

noncomputable section

namespace Cert.InEIdeal.Hand

open Cert.InEIdeal Cert.InEIdeal.Gen Cert.Prod Idealize.ShloMosaic Idealize.ShloMosaic.TcCoe Idealize.SL.Sem

/-! ## What the body computes on one pair of blocks -/

theorem origin : (![0, 0] : Fin 2 → Nat) = fun _ => 0 := by decide

theorem pay1_at (a : Vec Ideal S1024x2048 .bf16) (b : Vec Ideal S2048x1024 .bf16) (r : Fin 1024) (s : Fin 1024) :
    k0_pay1 a b (ix2 r s) = ∑ k : Fin 2048, a (ix2 r k) * b (ix2 k s) := by
  pointwise [k0_pay1]

/-! ## What each point leaves -/

/-- The one point of a block stores the product of its two blocks. -/
theorem out_only (c : Dev nD) (i : grid0.Coords) {d0 h0 d1 h1 d2 h2 d3 h3} (a : Vec Ideal S1024x2048 .bf16) (b : Vec Ideal S2048x1024 .bf16) :
    out0_A_2 (F := Ideal) c i d0 h0 d1 h1 d2 h2 d3 h3 a b = k0_pay1 a b := by
  unfold out0_A_2
  rw [View.read_writes_eq_canon _ _ _ (cover0_A_2 c i d0 h0 d1 h1 d2 h2 d3 h3 a b)]
  unfold kernelRun0_A
  dsimp only
  rw [View.canon_unit_zero origin]
  unfold k0_pay1
  simp only [View.readAt_eq_ld, h0.read_unread, h1.read_unread, h3.read_unread, View.ld_unit_zero (S := S1024x2048) origin, View.ld_unit_zero (S := S2048x1024) origin, View.ld_unit_zero (S := S1024x1024) origin, shapeCast_self]

/-! ## The blocks, in the argument arrays -/

variable (m : (ℓ : Loc nD τ sig) → Buf (Elt Ideal) ℓ)

/-- Argument 0, entry `(i, j)`. -/
def lhs (c : Dev nD) (i j : ℕ) : EReal :=
  m ((c : Thread nD τ).loc main_arg0) (ix2 ⟨i % 4096, Nat.mod_lt _ (by decide)⟩ ⟨j % 2048, Nat.mod_lt _ (by decide)⟩)
theorem idx0 : ∀ t : Fin grid0.N, win0_0.index t 0 = t.val / 3 ∧ win0_0.index t 1 = t.val % 1 := by decide +kernel
theorem blk0 (c : Dev nD) (t : Fin cfg0.N) (r : Fin 1024) (s : Fin 2048) :
    iblk m c 0 t (ix2 r s) = lhs m c (1024 * (t.val / 3) + r.val) (2048 * (t.val % 1) + s.val) := by
  have ht : t.val < 12 := lt_of_lt_of_eq t.isLt N_0
  show V m c main_arg0 ((win0_0.rect t).emb (ix2 r s)) = _
  rw [V_main_arg0]
  refine congrArg (m ((c : Thread nD τ).loc main_arg0)) (funext fun a => Fin.ext ?_)
  rw [Pipeline.Window.rect_emb_val win0_0]
  match a with
  | ⟨0, _⟩ => show win0_0.index t 0 * 1024 + r.val = (1024 * (t.val / 3) + r.val) % 4096; rw [(idx0 t).1]; omega
  | ⟨1, _⟩ => show win0_0.index t 1 * 2048 + s.val = (2048 * (t.val % 1) + s.val) % 2048; rw [(idx0 t).2]; omega

/-- Argument 1, entry `(i, j)`. -/
def rhs (c : Dev nD) (i j : ℕ) : EReal :=
  m ((c : Thread nD τ).loc main_arg1) (ix2 ⟨i % 2048, Nat.mod_lt _ (by decide)⟩ ⟨j % 3072, Nat.mod_lt _ (by decide)⟩)
theorem idx1 : ∀ t : Fin grid0.N, win0_1.index t 0 = t.val % 1 ∧ win0_1.index t 1 = t.val / 1 % 3 := by decide +kernel
theorem blk1 (c : Dev nD) (t : Fin cfg0.N) (r : Fin 2048) (s : Fin 1024) :
    iblk m c 1 t (ix2 r s) = rhs m c (2048 * (t.val % 1) + r.val) (1024 * (t.val / 1 % 3) + s.val) := by
  have ht : t.val < 12 := lt_of_lt_of_eq t.isLt N_0
  show V m c main_arg1 ((win0_1.rect t).emb (ix2 r s)) = _
  rw [V_main_arg1]
  refine congrArg (m ((c : Thread nD τ).loc main_arg1)) (funext fun a => Fin.ext ?_)
  rw [Pipeline.Window.rect_emb_val win0_1]
  match a with
  | ⟨0, _⟩ => show win0_1.index t 0 * 2048 + r.val = (2048 * (t.val % 1) + r.val) % 2048; rw [(idx1 t).1]; omega
  | ⟨1, _⟩ => show win0_1.index t 1 * 1024 + s.val = (1024 * (t.val / 1 % 3) + s.val) % 3072; rw [(idx1 t).2]; omega

/-! ## The whole array -/

/-- The product of the arguments. -/
def prod (c : Dev nD) : FVec Ideal S4096x3072 .bf16 := fun i => (∑ k : Fin 2048, lhs m c ((i 0 : Fin 4096).val) (k.val) * rhs m c (k.val) ((i 1 : Fin 3072).val))

theorem idxOut : ∀ t : Fin grid0.N, win0_2.index t 0 = t.val / 3 ∧ win0_2.index t 1 = t.val / 1 % 3 := by decide +kernel
/-- What a point that ends a block writes back is its block of the product. -/
theorem flushed_eq (c : Dev nD) (t : Fin cfg0.N) :
    (dats m 0 c).flushed 2 t = ((cfg0.win 2).blk t).view.read (Elt Ideal) (prod m c) := by
  have ht : t.val < 12 := lt_of_lt_of_eq t.isLt N_0
  rw [Value.flushed2_A m c t, out_only]
  funext y
  idx_vars y
  show k0_pay1 (iblk m c 0 t) (iblk m c 1 t) (ix2 y0 y1) = prod m c ((win0_2.rect t).emb (ix2 y0 y1))
  rw [pay1_at]
  simp only [blk0, blk1]
  rw [show (win0_2.rect t).emb (ix2 y0 y1) = ix2 (⟨1024 * (t.val / 3) + y0.val, by omega⟩ : Fin 4096) (⟨1024 * (t.val / 1 % 3) + y1.val, by omega⟩ : Fin 3072) from funext fun a => Fin.ext (by
    rw [Pipeline.Window.rect_emb_val win0_2]
    match a with
    | ⟨0, _⟩ => show win0_2.index t 0 * 1024 + y0.val = _; rw [(idxOut t).1]; exact congrArg (· + y0.val) (Nat.mul_comm _ _)
    | ⟨1, _⟩ => show win0_2.index t 1 * 1024 + y1.val = _; rw [(idxOut t).2]; exact congrArg (· + y1.val) (Nat.mul_comm _ _))]
  show _ = (∑ k : Fin 2048, lhs m c (1024 * (t.val / 3) + y0.val) (k.val) * rhs m c (k.val) (1024 * (t.val / 1 % 3) + y1.val))
  simp only [show t.val % 1 = 0 by omega, Nat.mul_zero, Nat.zero_add]

/-- The result array when the run ends. -/
theorem final (c : Dev nD) : (dats m 0 c).arrAt 2 cfg0.N = prod m c :=
  (dats m 0 c).arrAt_eq_of_cover 2 (prod m c) (fun t hf => flushed_eq m c t)
    fun i => by
      have h0 : (i 0 : Nat) < 4096 := (i 0).isLt
      have h1 : (i 1 : Nat) < 3072 := (i 1).isLt
      refine ⟨⟨(i 0 : Nat) / 1024 * 3 + (i 1 : Nat) / 1024, lt_of_lt_of_eq (by omega) N_0.symm⟩, flush0_2 _, ?_⟩
      generalize ht : (⟨(i 0 : Nat) / 1024 * 3 + (i 1 : Nat) / 1024, _⟩ : Fin cfg0.N) = t
      have hv : t.val = (i 0 : Nat) / 1024 * 3 + (i 1 : Nat) / 1024 := by rw [← ht]
      show i ∈ ((View.whole main_v0).slice (win0_2.rect t)).set
      rw [View.set_slice_whole, Rect.mem_set_unit]
      intro a
      match a with
      | ⟨0, _⟩ => show win0_2.index t 0 * 1024 ≤ (i 0 : Nat) ∧ (i 0 : Nat) < win0_2.index t 0 * 1024 + 1024
                  rw [(idxOut t).1]; omega
      | ⟨1, _⟩ => show win0_2.index t 1 * 1024 ≤ (i 1 : Nat) ∧ (i 1 : Nat) < win0_2.index t 1 * 1024 + 1024
                  rw [(idxOut t).2]; omega

end Cert.InEIdeal.Hand

namespace Cert.InERefIdeal.Hand

open Cert.InEIdeal.Hand Cert.InERefIdeal Cert.InERefIdeal.Read Idealize.ShloMosaic Idealize.ShloMosaic.TcCoe Idealize.SL.Sem

/-- The reference's result is the same product. -/
theorem value (m : (ℓ : Loc Cert.InEIdeal.nD Cert.InEIdeal.τ Cert.InEIdeal.sig) → Buf (Elt Ideal) ℓ) (c : Dev Cert.InEIdeal.nD) :
    val_main_v3 (F := Ideal) (m ((c : Thread Cert.InEIdeal.nD Cert.InEIdeal.τ).loc Cert.InEIdeal.main_arg0)) (m ((c : Thread Cert.InEIdeal.nD Cert.InEIdeal.τ).loc Cert.InEIdeal.main_arg1)) = prod m c := by
  funext i
  idx_vars i
  show _ = (∑ k : Fin 2048, lhs m c (i0.val) (k.val) * rhs m c (k.val) (i1.val))
  unfold lhs rhs
  simp only [Nat.mod_eq_of_lt (Fin.isLt _)]
  generalize m (Thread.loc (c : Thread Cert.InEIdeal.nD Cert.InEIdeal.τ) Cert.InEIdeal.main_arg0) = x0
  generalize m (Thread.loc (c : Thread Cert.InEIdeal.nD Cert.InEIdeal.τ) Cert.InEIdeal.main_arg1) = x1
  pointwise [val_main_v3, val_main_v2, val_main_v1, val_main_v0]

end Cert.InERefIdeal.Hand

namespace Cert.Proof

open Idealize.ShloMosaic Idealize.SL.Sem

/-- The kernel's and the reference's results are equal. -/
theorem InE_equal : Cert.algebraic_InEIdeal_InERefIdeal := by
  intro m g m' g' _ hargs
  refine ⟨fun c => Cert.InEIdeal.Hand.prod m c, ?_, ?_⟩
  · refine (θ_run Cert.InEIdeal.defs _ _).mono ?_ (Cert.InEIdeal.Value.run_blocks m g)
    intro r h c
    exact ⟨(h c).1.trans (Cert.InEIdeal.Hand.final m c), (h c).2⟩
  · refine (θ_run Cert.InERefIdeal.defs _ _).mono ?_ (Cert.InERefIdeal.Value.run (F := Ideal) m' g')
    intro r h c
    obtain ⟨e0, e1⟩ := hargs c
    refine ⟨?_, (h c).2⟩
    refine ((h c).1.trans (Cert.InERefIdeal.Read.val_main_v3_eq _ _)).trans (Eq.trans ?_ (Cert.InERefIdeal.Hand.value m c))
    rw [← e0, ← e1]
theorem InE_frame : Cert.quiescent_InE := fun m g _ => Cert.InE.Gen.frame m g
theorem InE_frame_ideal : Cert.quiescent_InEIdeal := fun m g _ => Cert.InEIdeal.Gen.frame m g
theorem InE_frame_ref : Cert.quiescent_InERefIdeal := fun m g _ =>
  (θ_run Cert.InERefIdeal.defs _ _).mono (fun r h => ⟨fun c => (h c).2, sem_eq_zero_of_no_sems (by decide) r.2⟩)
    (Cert.InERefIdeal.Value.run (F := Ideal) m g)

end Cert.Proof

end
-- ==== Proof.Prod.OutMix.lean ====
/- A mixer's output map, added to the mixer's argument. -/
module

public import proofs.«01_k».proof.Defs
public import proofs.«01_k».proof.Proof.Prod.Sum
public import proofs.«01_k».proof.Proof.Gen.OutMixIdeal.Value
public import proofs.«01_k».proof.Proof.Gen.OutMix.Frame
public import proofs.«01_k».proof.Proof.Gen.OutMixRefIdeal.Read

@[expose] public section

set_option maxRecDepth 16384

noncomputable section

namespace Cert.OutMixIdeal.Hand

open Cert.OutMixIdeal Cert.OutMixIdeal.Gen Cert.Prod Idealize.ShloMosaic Idealize.ShloMosaic.TcCoe Idealize.SL.Sem

/-! ## What the body computes on one pair of blocks -/

theorem origin : (![0, 0] : Fin 2 → Nat) = fun _ => 0 := by decide

theorem pay1_at (a : Vec Ideal S1024x2048 .bf16) (b : Vec Ideal S2048x1024 .bf16) (d : Vec Ideal S1024x1024 .f32) (r : Fin 1024) (s : Fin 1024) :
    k0_pay1 a b d (ix2 r s) = ∑ k : Fin 2048, a (ix2 r k) * b (ix2 k s) + d (ix2 r s) := by
  pointwise [k0_pay1]

/-! ## What each point leaves -/

/-- The one point of a block stores the product of its two blocks. -/
theorem out_only (c : Dev nD) (i : grid0.Coords) {d0 h0 d1 h1 d2 h2 d3 h3 d4 h4} (a : Vec Ideal S1024x2048 .bf16) (b : Vec Ideal S2048x1024 .bf16) (d : Vec Ideal S1024x1024 .f32) :
    out0_A_3 (F := Ideal) c i d0 h0 d1 h1 d2 h2 d3 h3 d4 h4 a b d = k0_pay1 a b d := by
  unfold out0_A_3
  rw [View.read_writes_eq_canon _ _ _ (cover0_A_3 c i d0 h0 d1 h1 d2 h2 d3 h3 d4 h4 a b d)]
  unfold kernelRun0_A
  dsimp only
  rw [View.canon_unit_zero origin]
  unfold k0_pay1
  simp only [View.readAt_eq_ld, h0.read_unread, h1.read_unread, h2.read_unread, h4.read_unread, View.ld_unit_zero (S := S1024x2048) origin, View.ld_unit_zero (S := S2048x1024) origin, View.ld_unit_zero (S := S1024x1024) origin, shapeCast_self]

/-! ## The blocks, in the argument arrays -/

variable (m : (ℓ : Loc nD τ sig) → Buf (Elt Ideal) ℓ)

/-- Argument 0, entry `(i, j)`. -/
def lhs (c : Dev nD) (i j : ℕ) : EReal :=
  m ((c : Thread nD τ).loc main_arg0) (ix2 ⟨i % 4096, Nat.mod_lt _ (by decide)⟩ ⟨j % 2048, Nat.mod_lt _ (by decide)⟩)
theorem idx0 : ∀ t : Fin grid0.N, win0_0.index t 0 = t.val / 2 ∧ win0_0.index t 1 = t.val % 1 := by decide +kernel
theorem blk0 (c : Dev nD) (t : Fin cfg0.N) (r : Fin 1024) (s : Fin 2048) :
    iblk m c 0 t (ix2 r s) = lhs m c (1024 * (t.val / 2) + r.val) (2048 * (t.val % 1) + s.val) := by
  have ht : t.val < 8 := lt_of_lt_of_eq t.isLt N_0
  show V m c main_arg0 ((win0_0.rect t).emb (ix2 r s)) = _
  rw [V_main_arg0]
  refine congrArg (m ((c : Thread nD τ).loc main_arg0)) (funext fun a => Fin.ext ?_)
  rw [Pipeline.Window.rect_emb_val win0_0]
  match a with
  | ⟨0, _⟩ => show win0_0.index t 0 * 1024 + r.val = (1024 * (t.val / 2) + r.val) % 4096; rw [(idx0 t).1]; omega
  | ⟨1, _⟩ => show win0_0.index t 1 * 2048 + s.val = (2048 * (t.val % 1) + s.val) % 2048; rw [(idx0 t).2]; omega

/-- Argument 1, entry `(i, j)`. -/
def rhs (c : Dev nD) (i j : ℕ) : EReal :=
  m ((c : Thread nD τ).loc main_arg1) (ix2 ⟨i % 2048, Nat.mod_lt _ (by decide)⟩ ⟨j % 2048, Nat.mod_lt _ (by decide)⟩)
theorem idx1 : ∀ t : Fin grid0.N, win0_1.index t 0 = t.val % 1 ∧ win0_1.index t 1 = t.val / 1 % 2 := by decide +kernel
theorem blk1 (c : Dev nD) (t : Fin cfg0.N) (r : Fin 2048) (s : Fin 1024) :
    iblk m c 1 t (ix2 r s) = rhs m c (2048 * (t.val % 1) + r.val) (1024 * (t.val / 1 % 2) + s.val) := by
  have ht : t.val < 8 := lt_of_lt_of_eq t.isLt N_0
  show V m c main_arg1 ((win0_1.rect t).emb (ix2 r s)) = _
  rw [V_main_arg1]
  refine congrArg (m ((c : Thread nD τ).loc main_arg1)) (funext fun a => Fin.ext ?_)
  rw [Pipeline.Window.rect_emb_val win0_1]
  match a with
  | ⟨0, _⟩ => show win0_1.index t 0 * 2048 + r.val = (2048 * (t.val % 1) + r.val) % 2048; rw [(idx1 t).1]; omega
  | ⟨1, _⟩ => show win0_1.index t 1 * 1024 + s.val = (1024 * (t.val / 1 % 2) + s.val) % 2048; rw [(idx1 t).2]; omega

/-- Argument 2, entry `(i, j)`. -/
def resid (c : Dev nD) (i j : ℕ) : EReal :=
  m ((c : Thread nD τ).loc main_arg2) (ix2 ⟨i % 4096, Nat.mod_lt _ (by decide)⟩ ⟨j % 2048, Nat.mod_lt _ (by decide)⟩)
theorem idx2 : ∀ t : Fin grid0.N, win0_2.index t 0 = t.val / 2 ∧ win0_2.index t 1 = t.val / 1 % 2 := by decide +kernel
theorem blk2 (c : Dev nD) (t : Fin cfg0.N) (r : Fin 1024) (s : Fin 1024) :
    iblk m c 2 t (ix2 r s) = resid m c (1024 * (t.val / 2) + r.val) (1024 * (t.val / 1 % 2) + s.val) := by
  have ht : t.val < 8 := lt_of_lt_of_eq t.isLt N_0
  show V m c main_arg2 ((win0_2.rect t).emb (ix2 r s)) = _
  rw [V_main_arg2]
  refine congrArg (m ((c : Thread nD τ).loc main_arg2)) (funext fun a => Fin.ext ?_)
  rw [Pipeline.Window.rect_emb_val win0_2]
  match a with
  | ⟨0, _⟩ => show win0_2.index t 0 * 1024 + r.val = (1024 * (t.val / 2) + r.val) % 4096; rw [(idx2 t).1]; omega
  | ⟨1, _⟩ => show win0_2.index t 1 * 1024 + s.val = (1024 * (t.val / 1 % 2) + s.val) % 2048; rw [(idx2 t).2]; omega

/-! ## The whole array -/

/-- The product of the arguments, plus the third. -/
def prod (c : Dev nD) : FVec Ideal S4096x2048 .f32 := fun i => (∑ k : Fin 2048, lhs m c ((i 0 : Fin 4096).val) (k.val) * rhs m c (k.val) ((i 1 : Fin 2048).val)) + resid m c ((i 0 : Fin 4096).val) ((i 1 : Fin 2048).val)

theorem idxOut : ∀ t : Fin grid0.N, win0_3.index t 0 = t.val / 2 ∧ win0_3.index t 1 = t.val / 1 % 2 := by decide +kernel
/-- What a point that ends a block writes back is its block of the product. -/
theorem flushed_eq (c : Dev nD) (t : Fin cfg0.N) :
    (dats m 0 c).flushed 3 t = ((cfg0.win 3).blk t).view.read (Elt Ideal) (prod m c) := by
  have ht : t.val < 8 := lt_of_lt_of_eq t.isLt N_0
  rw [Value.flushed3_A m c t, out_only]
  funext y
  idx_vars y
  show k0_pay1 (iblk m c 0 t) (iblk m c 1 t) (iblk m c 2 t) (ix2 y0 y1) = prod m c ((win0_3.rect t).emb (ix2 y0 y1))
  rw [pay1_at]
  simp only [blk0, blk1, blk2]
  rw [show (win0_3.rect t).emb (ix2 y0 y1) = ix2 (⟨1024 * (t.val / 2) + y0.val, by omega⟩ : Fin 4096) (⟨1024 * (t.val / 1 % 2) + y1.val, by omega⟩ : Fin 2048) from funext fun a => Fin.ext (by
    rw [Pipeline.Window.rect_emb_val win0_3]
    match a with
    | ⟨0, _⟩ => show win0_3.index t 0 * 1024 + y0.val = _; rw [(idxOut t).1]; exact congrArg (· + y0.val) (Nat.mul_comm _ _)
    | ⟨1, _⟩ => show win0_3.index t 1 * 1024 + y1.val = _; rw [(idxOut t).2]; exact congrArg (· + y1.val) (Nat.mul_comm _ _))]
  show _ = (∑ k : Fin 2048, lhs m c (1024 * (t.val / 2) + y0.val) (k.val) * rhs m c (k.val) (1024 * (t.val / 1 % 2) + y1.val)) + resid m c (1024 * (t.val / 2) + y0.val) (1024 * (t.val / 1 % 2) + y1.val)
  simp only [show t.val % 1 = 0 by omega, Nat.mul_zero, Nat.zero_add]

/-- The result array when the run ends. -/
theorem final (c : Dev nD) : (dats m 0 c).arrAt 3 cfg0.N = prod m c :=
  (dats m 0 c).arrAt_eq_of_cover 3 (prod m c) (fun t hf => flushed_eq m c t)
    fun i => by
      have h0 : (i 0 : Nat) < 4096 := (i 0).isLt
      have h1 : (i 1 : Nat) < 2048 := (i 1).isLt
      refine ⟨⟨(i 0 : Nat) / 1024 * 2 + (i 1 : Nat) / 1024, lt_of_lt_of_eq (by omega) N_0.symm⟩, flush0_3 _, ?_⟩
      generalize ht : (⟨(i 0 : Nat) / 1024 * 2 + (i 1 : Nat) / 1024, _⟩ : Fin cfg0.N) = t
      have hv : t.val = (i 0 : Nat) / 1024 * 2 + (i 1 : Nat) / 1024 := by rw [← ht]
      show i ∈ ((View.whole main_v0).slice (win0_3.rect t)).set
      rw [View.set_slice_whole, Rect.mem_set_unit]
      intro a
      match a with
      | ⟨0, _⟩ => show win0_3.index t 0 * 1024 ≤ (i 0 : Nat) ∧ (i 0 : Nat) < win0_3.index t 0 * 1024 + 1024
                  rw [(idxOut t).1]; omega
      | ⟨1, _⟩ => show win0_3.index t 1 * 1024 ≤ (i 1 : Nat) ∧ (i 1 : Nat) < win0_3.index t 1 * 1024 + 1024
                  rw [(idxOut t).2]; omega

end Cert.OutMixIdeal.Hand

namespace Cert.OutMixRefIdeal.Hand

open Cert.OutMixIdeal.Hand Cert.OutMixRefIdeal Cert.OutMixRefIdeal.Read Idealize.ShloMosaic Idealize.ShloMosaic.TcCoe Idealize.SL.Sem

/-- The reference's result is the same product. -/
theorem value (m : (ℓ : Loc Cert.OutMixIdeal.nD Cert.OutMixIdeal.τ Cert.OutMixIdeal.sig) → Buf (Elt Ideal) ℓ) (c : Dev Cert.OutMixIdeal.nD) :
    val_main_v3 (F := Ideal) (m ((c : Thread Cert.OutMixIdeal.nD Cert.OutMixIdeal.τ).loc Cert.OutMixIdeal.main_arg0)) (m ((c : Thread Cert.OutMixIdeal.nD Cert.OutMixIdeal.τ).loc Cert.OutMixIdeal.main_arg1)) (m ((c : Thread Cert.OutMixIdeal.nD Cert.OutMixIdeal.τ).loc Cert.OutMixIdeal.main_arg2)) = prod m c := by
  funext i
  idx_vars i
  show _ = (∑ k : Fin 2048, lhs m c (i0.val) (k.val) * rhs m c (k.val) (i1.val)) + resid m c (i0.val) (i1.val)
  unfold lhs rhs resid
  simp only [Nat.mod_eq_of_lt (Fin.isLt _)]
  generalize m (Thread.loc (c : Thread Cert.OutMixIdeal.nD Cert.OutMixIdeal.τ) Cert.OutMixIdeal.main_arg0) = x0
  generalize m (Thread.loc (c : Thread Cert.OutMixIdeal.nD Cert.OutMixIdeal.τ) Cert.OutMixIdeal.main_arg1) = x1
  generalize m (Thread.loc (c : Thread Cert.OutMixIdeal.nD Cert.OutMixIdeal.τ) Cert.OutMixIdeal.main_arg2) = x2
  pointwise [val_main_v3, val_main_v2, val_main_v1, val_main_v0]
  exact add_comm _ _

end Cert.OutMixRefIdeal.Hand

namespace Cert.Proof

open Idealize.ShloMosaic Idealize.SL.Sem

/-- The kernel's and the reference's results are equal. -/
theorem OutMix_equal : Cert.algebraic_OutMixIdeal_OutMixRefIdeal := by
  intro m g m' g' _ hargs
  refine ⟨fun c => Cert.OutMixIdeal.Hand.prod m c, ?_, ?_⟩
  · refine (θ_run Cert.OutMixIdeal.defs _ _).mono ?_ (Cert.OutMixIdeal.Value.run_blocks m g)
    intro r h c
    exact ⟨(h c).1.trans (Cert.OutMixIdeal.Hand.final m c), (h c).2⟩
  · refine (θ_run Cert.OutMixRefIdeal.defs _ _).mono ?_ (Cert.OutMixRefIdeal.Value.run (F := Ideal) m' g')
    intro r h c
    obtain ⟨e0, e1, e2⟩ := hargs c
    refine ⟨?_, (h c).2⟩
    refine ((h c).1.trans (Cert.OutMixRefIdeal.Read.val_main_v3_eq _ _ _)).trans (Eq.trans ?_ (Cert.OutMixRefIdeal.Hand.value m c))
    rw [← e0, ← e1, ← e2]
theorem OutMix_frame : Cert.quiescent_OutMix := fun m g _ => Cert.OutMix.Gen.frame m g
theorem OutMix_frame_ideal : Cert.quiescent_OutMixIdeal := fun m g _ => Cert.OutMixIdeal.Gen.frame m g
theorem OutMix_frame_ref : Cert.quiescent_OutMixRefIdeal := fun m g _ =>
  (θ_run Cert.OutMixRefIdeal.defs _ _).mono (fun r h => ⟨fun c => (h c).2, sem_eq_zero_of_no_sems (by decide) r.2⟩)
    (Cert.OutMixRefIdeal.Value.run (F := Ideal) m g)

end Cert.Proof

end
-- ==== Proof.Ffn.Silu.lean ====
/- The feed-forward's gate at one entry: SiLU, its derivative as the kernel takes it, and the reference's forms. -/
module

public import proofs.«01_k».proof.Proof.Even.Row

@[expose] public section

noncomputable section

namespace Cert.Gate

open Idealize.ShloMosaic Cert.Even

/-- The kernel's sigmoid. -/
def sig (g : EReal) : EReal := half * Ideal.tanh (half * g) + half
/-- The kernel's SiLU. -/
def silu (g : EReal) : EReal := g * sig g
/-- The kernel's derivative of the gated product by the gate. -/
def slope (g u : EReal) : EReal := u * (sig g * (1 + g * (1 - sig g)))
/-- The reference's sigmoid. -/
def rsig (g : EReal) : EReal := Ideal.div 1 (1 + Ideal.exp (-g))
/-- The reference's gradient of the gate, from the gradient `d` of the gated product. -/
def rgate (g u d : EReal) : EReal := d * u * rsig g + g * (d * u) * (rsig g * (1 - rsig g))

theorem one_add_top : (1 : EReal) + ⊤ = ⊤ := by
  rw [← EReal.coe_one]
  exact EReal.coe_add_top 1
theorem one_sub_one : (1 : EReal) - 1 = 0 := by
  rw [← EReal.coe_one, ← EReal.coe_sub, sub_self, EReal.coe_zero]

/-- The two sigmoids agree at every number of the extended line. -/
theorem sig_eq (g : EReal) : sig g = rsig g := by
  unfold sig rsig
  rw [half_eq]
  induction g using EReal.rec with
  | bot =>
    have h1 : ((1 / 2 : ℝ) : EReal) * ⊥ = ⊥ := EReal.coe_mul_bot_of_pos (by norm_num)
    have h2 : Ideal.tanh ⊥ = ((-1 : ℝ) : EReal) := rfl
    have h3 : Ideal.exp (-⊥) = ⊤ := rfl
    rw [h1, h2, h3, ← EReal.coe_mul, ← EReal.coe_add, one_add_top]
    norm_num [Ideal.div]
  | top =>
    have h1 : ((1 / 2 : ℝ) : EReal) * ⊤ = ⊤ := EReal.coe_mul_top_of_pos (by norm_num)
    have h2 : Ideal.tanh ⊤ = ((1 : ℝ) : EReal) := rfl
    have h3 : Ideal.exp (-⊤) = 0 := rfl
    rw [h1, h2, h3, ← EReal.coe_mul, ← EReal.coe_add, add_zero]
    norm_num [Ideal.div]
  | coe g =>
    rw [← EReal.coe_mul, Ideal.tanh_coe, ← EReal.coe_mul, ← EReal.coe_add, sigmoid_eq, ← EReal.coe_neg, Ideal.exp_coe,
      ← EReal.coe_one, ← EReal.coe_add, Ideal.div_coe (by positivity), ← EReal.coe_mul]
    congr 1
    ring

/-- The reference's gradient of the gate is the kernel's, wherever the gradient and the up projection are finite. -/
theorem rgate_eq (g : EReal) (u d : ℝ) : rgate g u d = d * slope g u := by
  unfold rgate slope
  rw [sig_eq, ← EReal.coe_mul]
  induction g using EReal.rec with
  | bot =>
    have h : rsig ⊥ = 0 := by
      unfold rsig
      rw [show Ideal.exp (-⊥) = ⊤ from rfl, one_add_top]
      simp [Ideal.div]
    rw [h]; simp
  | top =>
    have h : rsig ⊤ = 1 := by
      unfold rsig
      rw [show Ideal.exp (-⊤) = 0 from rfl, add_zero]
      norm_num [Ideal.div]
    rw [h, one_sub_one]; simp
  | coe g =>
    have h : rsig g = ((1 / (1 + Real.exp (-g)) : ℝ) : EReal) := by
      unfold rsig
      rw [← EReal.coe_neg, Ideal.exp_coe, ← EReal.coe_one, ← EReal.coe_add, Ideal.div_coe (by positivity), ← EReal.coe_mul, one_mul]
    rw [h]
    generalize 1 / (1 + Real.exp (-g)) = s
    simp only [← EReal.coe_one, ← EReal.coe_mul, ← EReal.coe_add, ← EReal.coe_sub]
    congr 1
    ring

end Cert.Gate

end
-- ==== Proof.Ffn.Arrays.lean ====
/- The feed-forward's two calls, gate and gradient: what each leaves in its result arrays. -/
module

public import proofs.«01_k».proof.Proof.Ffn.Silu
public import proofs.«01_k».proof.Proof.Gen.FfnIdeal.Frame

@[expose] public section

set_option maxRecDepth 16384

noncomputable section

namespace Cert.FfnIdeal.Hand

open Cert.FfnIdeal Cert.FfnIdeal.Gen Cert.Gate Cert.Even Idealize.ShloMosaic Idealize.ShloMosaic.TcCoe Idealize.SL.Sem

/-! ## What the bodies store, from their blocks -/

theorem origin : (![0, 0] : Fin 2 → Nat) = fun _ => 0 := by decide

section Body
variable (x0 : Vec Ideal S1024x2048 .bf16) (x1 x2 : Vec Ideal S512x2048 .bf16) (x3 x4 : Vec Ideal S1024x512 .bf16)

/-- A row of the first block times a row of the second. -/
def dot (x0 : Vec Ideal S1024x2048 .bf16) (x1 : Vec Ideal S512x2048 .bf16) (r : Fin 1024) (s : Fin 512) : EReal :=
  ∑ k : Fin 2048, x0 (ix2 r k) * x1 (ix2 s k)

theorem pay1_at (r : Fin 1024) (s : Fin 512) : k0_pay1 x0 x1 (ix2 r s) = dot x0 x1 r s := by
  pointwise [k0_pay1]; rfl
theorem pay2_at (r : Fin 1024) (s : Fin 512) : k0_pay2 x0 x2 (ix2 r s) = dot x0 x2 r s := by
  pointwise [k0_pay2]; rfl
theorem pay3_at (r : Fin 1024) (s : Fin 512) : k0_pay3 x0 x1 (ix2 r s) = Cert.Gate.sig (dot x0 x1 r s) := by
  pointwise [k0_pay3, pay1_at]; rfl
theorem pay4_at (r : Fin 1024) (s : Fin 512) : k0_pay4 x0 x1 (ix2 r s) = silu (dot x0 x1 r s) := by
  pointwise [k0_pay4, pay1_at, pay3_at]; rfl
theorem pay5_at (r : Fin 1024) (s : Fin 512) : k0_pay5 x0 x1 x2 (ix2 r s) = silu (dot x0 x1 r s) * dot x0 x2 r s := by
  pointwise [k0_pay5, pay4_at, pay2_at]
theorem pay6_at (r : Fin 1024) (s : Fin 512) : k0_pay6 x0 x1 x2 (ix2 r s) = slope (dot x0 x1 r s) (dot x0 x2 r s) := by
  pointwise [k0_pay6, pay1_at, pay2_at, pay3_at]; rfl
theorem pay7_at (r : Fin 1024) (s : Fin 512) : k0_pay7 x0 x1 (ix2 r s) = silu (dot x0 x1 r s) := by
  pointwise [k0_pay7, pay4_at]
theorem bwd1_at (r : Fin 1024) (s : Fin 512) : k1_pay1 x0 x1 (ix2 r s) = dot x0 x1 r s := by
  pointwise [k1_pay1]; rfl
theorem bwd2_at (r : Fin 1024) (s : Fin 512) : k1_pay2 x0 x1 x3 (ix2 r s) = dot x0 x1 r s * x3 (ix2 r s) := by
  pointwise [k1_pay2, bwd1_at]
theorem bwd3_at (r : Fin 1024) (s : Fin 512) : k1_pay3 x0 x1 x4 (ix2 r s) = dot x0 x1 r s * x4 (ix2 r s) := by
  pointwise [k1_pay3, bwd1_at]

theorem out0_3_eq : out0_3 x0 x1 x2 = k0_pay5 x0 x1 x2 := by
  unfold out0_3
  rw [View.canon_unit_zero origin]
  simp only [View.ld_unit_zero (S := S1024x2048) origin, View.ld_unit_zero (S := S512x2048) origin]
theorem out0_4_eq : out0_4 x0 x1 x2 = k0_pay6 x0 x1 x2 := by
  unfold out0_4
  rw [View.canon_unit_zero origin]
  simp only [View.ld_unit_zero (S := S1024x2048) origin, View.ld_unit_zero (S := S512x2048) origin]
theorem out0_5_eq : out0_5 x0 x1 x2 = k0_pay7 x0 x1 := by
  unfold out0_5
  rw [View.canon_unit_zero origin]
  simp only [View.ld_unit_zero (S := S1024x2048) origin, View.ld_unit_zero (S := S512x2048) origin]
theorem out1_4_eq : out1_4 x0 x1 x3 x4 = k1_pay2 x0 x1 x3 := by
  unfold out1_4
  rw [View.canon_unit_zero origin]
  simp only [View.ld_unit_zero (S := S1024x2048) origin, View.ld_unit_zero (S := S512x2048) origin, View.ld_unit_zero (S := S1024x512) origin]
theorem out1_5_eq : out1_5 x0 x1 x3 x4 = k1_pay3 x0 x1 x4 := by
  unfold out1_5
  rw [View.canon_unit_zero origin]
  simp only [View.ld_unit_zero (S := S1024x2048) origin, View.ld_unit_zero (S := S512x2048) origin, View.ld_unit_zero (S := S1024x512) origin]
end Body

/-! ## The arrays -/

variable (V : (c : Dev nD) → (b : Ref sig .tc) → Buf (Elt Ideal) ((c : Thread nD τ).loc b))

/-- The normalised input, entry `(i, j)`. -/
def n (c : Dev nD) (i j : ℕ) : EReal :=
  V c main_arg0 (ix2 ⟨i % 4096, Nat.mod_lt _ (by decide)⟩ ⟨j % 2048, Nat.mod_lt _ (by decide)⟩)
/-- The gate map, transposed, entry `(i, j)`. -/
def wg (c : Dev nD) (i j : ℕ) : EReal :=
  V c main_arg1 (ix2 ⟨i % 5632, Nat.mod_lt _ (by decide)⟩ ⟨j % 2048, Nat.mod_lt _ (by decide)⟩)
/-- The up map, transposed, entry `(i, j)`. -/
def wu (c : Dev nD) (i j : ℕ) : EReal :=
  V c main_arg2 (ix2 ⟨i % 5632, Nat.mod_lt _ (by decide)⟩ ⟨j % 2048, Nat.mod_lt _ (by decide)⟩)
/-- The output's gradient, entry `(i, j)`. -/
def dh (c : Dev nD) (i j : ℕ) : EReal :=
  V c main_arg3 (ix2 ⟨i % 4096, Nat.mod_lt _ (by decide)⟩ ⟨j % 2048, Nat.mod_lt _ (by decide)⟩)
/-- The down map, entry `(i, j)`. -/
def wd (c : Dev nD) (i j : ℕ) : EReal :=
  V c main_arg4 (ix2 ⟨i % 5632, Nat.mod_lt _ (by decide)⟩ ⟨j % 2048, Nat.mod_lt _ (by decide)⟩)
/-- The stored slope of the gate, entry `(i, j)`. -/
def ds (c : Dev nD) (i j : ℕ) : EReal :=
  V c main_v0_1 (ix2 ⟨i % 4096, Nat.mod_lt _ (by decide)⟩ ⟨j % 5632, Nat.mod_lt _ (by decide)⟩)
/-- The stored SiLU of the gate, entry `(i, j)`. -/
def sl (c : Dev nD) (i j : ℕ) : EReal :=
  V c main_v0_2 (ix2 ⟨i % 4096, Nat.mod_lt _ (by decide)⟩ ⟨j % 5632, Nat.mod_lt _ (by decide)⟩)

/-- The gate projection. -/
def gate (c : Dev nD) (i j : ℕ) : EReal := ∑ k : Fin 2048, n V c i k.val * wg V c j k.val
/-- The up projection. -/
def up (c : Dev nD) (i j : ℕ) : EReal := ∑ k : Fin 2048, n V c i k.val * wu V c j k.val
/-- The gradient of the gated product. -/
def dact (c : Dev nD) (i j : ℕ) : EReal := ∑ k : Fin 2048, dh V c i k.val * wd V c j k.val

theorem idx0_0 : ∀ t : Fin grid0.N, win0_0.index t 0 = t.val % 4 ∧ win0_0.index t 1 = 0 := by decide +kernel
theorem blk0_0 (c : Dev nD) (t : Fin cfg0.N) (r : Fin 1024) (s : Fin 2048) :
    iblk0 V c 0 t (ix2 r s) = n V c (1024 * (t.val % 4) + r.val) (s.val) := by
  have ht : t.val < 44 := lt_of_lt_of_eq t.isLt N_0
  show V c main_arg0 ((win0_0.rect t).emb (ix2 r s)) = _
  refine congrArg (V c main_arg0) (funext fun a => Fin.ext ?_)
  rw [Pipeline.Window.rect_emb_val win0_0]
  match a with
  | ⟨0, _⟩ => show win0_0.index t 0 * 1024 + r.val = (1024 * (t.val % 4) + r.val) % 4096; rw [(idx0_0 t).1]; omega
  | ⟨1, _⟩ => show win0_0.index t 1 * 2048 + s.val = (s.val) % 2048; rw [(idx0_0 t).2]; omega
theorem idx0_1 : ∀ t : Fin grid0.N, win0_1.index t 0 = t.val / 4 ∧ win0_1.index t 1 = 0 := by decide +kernel
theorem blk0_1 (c : Dev nD) (t : Fin cfg0.N) (r : Fin 512) (s : Fin 2048) :
    iblk0 V c 1 t (ix2 r s) = wg V c (512 * (t.val / 4) + r.val) (s.val) := by
  have ht : t.val < 44 := lt_of_lt_of_eq t.isLt N_0
  show V c main_arg1 ((win0_1.rect t).emb (ix2 r s)) = _
  refine congrArg (V c main_arg1) (funext fun a => Fin.ext ?_)
  rw [Pipeline.Window.rect_emb_val win0_1]
  match a with
  | ⟨0, _⟩ => show win0_1.index t 0 * 512 + r.val = (512 * (t.val / 4) + r.val) % 5632; rw [(idx0_1 t).1]; omega
  | ⟨1, _⟩ => show win0_1.index t 1 * 2048 + s.val = (s.val) % 2048; rw [(idx0_1 t).2]; omega
theorem idx0_2 : ∀ t : Fin grid0.N, win0_2.index t 0 = t.val / 4 ∧ win0_2.index t 1 = 0 := by decide +kernel
theorem blk0_2 (c : Dev nD) (t : Fin cfg0.N) (r : Fin 512) (s : Fin 2048) :
    iblk0 V c 2 t (ix2 r s) = wu V c (512 * (t.val / 4) + r.val) (s.val) := by
  have ht : t.val < 44 := lt_of_lt_of_eq t.isLt N_0
  show V c main_arg2 ((win0_2.rect t).emb (ix2 r s)) = _
  refine congrArg (V c main_arg2) (funext fun a => Fin.ext ?_)
  rw [Pipeline.Window.rect_emb_val win0_2]
  match a with
  | ⟨0, _⟩ => show win0_2.index t 0 * 512 + r.val = (512 * (t.val / 4) + r.val) % 5632; rw [(idx0_2 t).1]; omega
  | ⟨1, _⟩ => show win0_2.index t 1 * 2048 + s.val = (s.val) % 2048; rw [(idx0_2 t).2]; omega
theorem idx1_0 : ∀ t : Fin grid1.N, win1_0.index t 0 = t.val / 11 ∧ win1_0.index t 1 = 0 := by decide +kernel
theorem blk1_0 (c : Dev nD) (t : Fin cfg1.N) (r : Fin 1024) (s : Fin 2048) :
    iblk1 V c 0 t (ix2 r s) = dh V c (1024 * (t.val / 11) + r.val) (s.val) := by
  have ht : t.val < 44 := lt_of_lt_of_eq t.isLt N_1
  show V c main_arg3 ((win1_0.rect t).emb (ix2 r s)) = _
  refine congrArg (V c main_arg3) (funext fun a => Fin.ext ?_)
  rw [Pipeline.Window.rect_emb_val win1_0]
  match a with
  | ⟨0, _⟩ => show win1_0.index t 0 * 1024 + r.val = (1024 * (t.val / 11) + r.val) % 4096; rw [(idx1_0 t).1]; omega
  | ⟨1, _⟩ => show win1_0.index t 1 * 2048 + s.val = (s.val) % 2048; rw [(idx1_0 t).2]; omega
theorem idx1_1 : ∀ t : Fin grid1.N, win1_1.index t 0 = t.val % 11 ∧ win1_1.index t 1 = 0 := by decide +kernel
theorem blk1_1 (c : Dev nD) (t : Fin cfg1.N) (r : Fin 512) (s : Fin 2048) :
    iblk1 V c 1 t (ix2 r s) = wd V c (512 * (t.val % 11) + r.val) (s.val) := by
  have ht : t.val < 44 := lt_of_lt_of_eq t.isLt N_1
  show V c main_arg4 ((win1_1.rect t).emb (ix2 r s)) = _
  refine congrArg (V c main_arg4) (funext fun a => Fin.ext ?_)
  rw [Pipeline.Window.rect_emb_val win1_1]
  match a with
  | ⟨0, _⟩ => show win1_1.index t 0 * 512 + r.val = (512 * (t.val % 11) + r.val) % 5632; rw [(idx1_1 t).1]; omega
  | ⟨1, _⟩ => show win1_1.index t 1 * 2048 + s.val = (s.val) % 2048; rw [(idx1_1 t).2]; omega
theorem idx1_2 : ∀ t : Fin grid1.N, win1_2.index t 0 = t.val / 11 ∧ win1_2.index t 1 = t.val % 11 := by decide +kernel
theorem blk1_2 (c : Dev nD) (t : Fin cfg1.N) (r : Fin 1024) (s : Fin 512) :
    iblk1 V c 2 t (ix2 r s) = ds V c (1024 * (t.val / 11) + r.val) (512 * (t.val % 11) + s.val) := by
  have ht : t.val < 44 := lt_of_lt_of_eq t.isLt N_1
  show V c main_v0_1 ((win1_2.rect t).emb (ix2 r s)) = _
  refine congrArg (V c main_v0_1) (funext fun a => Fin.ext ?_)
  rw [Pipeline.Window.rect_emb_val win1_2]
  match a with
  | ⟨0, _⟩ => show win1_2.index t 0 * 1024 + r.val = (1024 * (t.val / 11) + r.val) % 4096; rw [(idx1_2 t).1]; omega
  | ⟨1, _⟩ => show win1_2.index t 1 * 512 + s.val = (512 * (t.val % 11) + s.val) % 5632; rw [(idx1_2 t).2]; omega
theorem idx1_3 : ∀ t : Fin grid1.N, win1_3.index t 0 = t.val / 11 ∧ win1_3.index t 1 = t.val % 11 := by decide +kernel
theorem blk1_3 (c : Dev nD) (t : Fin cfg1.N) (r : Fin 1024) (s : Fin 512) :
    iblk1 V c 3 t (ix2 r s) = sl V c (1024 * (t.val / 11) + r.val) (512 * (t.val % 11) + s.val) := by
  have ht : t.val < 44 := lt_of_lt_of_eq t.isLt N_1
  show V c main_v0_2 ((win1_3.rect t).emb (ix2 r s)) = _
  refine congrArg (V c main_v0_2) (funext fun a => Fin.ext ?_)
  rw [Pipeline.Window.rect_emb_val win1_3]
  match a with
  | ⟨0, _⟩ => show win1_3.index t 0 * 1024 + r.val = (1024 * (t.val / 11) + r.val) % 4096; rw [(idx1_3 t).1]; omega
  | ⟨1, _⟩ => show win1_3.index t 1 * 512 + s.val = (512 * (t.val % 11) + s.val) % 5632; rw [(idx1_3 t).2]; omega

/-- The gated product, the whole array. -/
def act (c : Dev nD) : FVec Ideal S4096x5632 .bf16 := fun x =>
  have i : ℕ := (x 0 : Fin 4096).val
  have j : ℕ := (x 1 : Fin 5632).val
  silu (gate V c i j) * up V c i j
theorem idx0_3 : ∀ t : Fin grid0.N, win0_3.index t 0 = t.val % 4 ∧ win0_3.index t 1 = t.val / 4 := by decide +kernel
/-- Each point writes its block back. -/
theorem flushed0_3 (c : Dev nD) (t : Fin cfg0.N) :
    (dat0 V c).flushed 3 t = ((cfg0.win 3).blk t).view.read (Elt Ideal) (act V c) := by
  have ht : t.val < 44 := lt_of_lt_of_eq t.isLt N_0
  show (cfg0.win 3).cut (grid0.coords t) ((dat0 V c).after 3 t) = _
  rw [after0_3, out0_3_eq]
  funext y
  idx_vars y
  show _ = act V c ((win0_3.rect t).emb (ix2 y0 y1))
  refine (pay5_at _ _ _ y0 y1).trans ?_
  rw [show (win0_3.rect t).emb (ix2 y0 y1) = ix2 (⟨1024 * (t.val % 4) + y0.val, by omega⟩ : Fin 4096) (⟨512 * (t.val / 4) + y1.val, by omega⟩ : Fin 5632) from funext fun a => Fin.ext (by
    rw [Pipeline.Window.rect_emb_val win0_3]
    match a with
    | ⟨0, _⟩ => show win0_3.index t 0 * 1024 + y0.val = _; rw [(idx0_3 t).1]; exact congrArg (· + y0.val) (Nat.mul_comm _ _)
    | ⟨1, _⟩ => show win0_3.index t 1 * 512 + y1.val = _; rw [(idx0_3 t).2]; exact congrArg (· + y1.val) (Nat.mul_comm _ _))]
  simp only [dot, blk0_0, blk0_1, blk0_2]
  rfl
/-- The array when the call ends. -/
theorem final0_3 (c : Dev nD) : (dat0 V c).arrAt 3 cfg0.N = act V c :=
  (dat0 V c).arrAt_eq_of_cover 3 (act V c) (fun t _ => flushed0_3 V c t)
    fun i => by
      have h0 : (i 0 : Nat) < 4096 := (i 0).isLt
      have h1 : (i 1 : Nat) < 5632 := (i 1).isLt
      refine ⟨⟨(i 1 : Nat) / 512 * 4 + (i 0 : Nat) / 1024, lt_of_lt_of_eq (by omega) N_0.symm⟩, flush0_3 _, ?_⟩
      generalize ht : (⟨(i 1 : Nat) / 512 * 4 + (i 0 : Nat) / 1024, _⟩ : Fin cfg0.N) = t
      have hv : t.val = (i 1 : Nat) / 512 * 4 + (i 0 : Nat) / 1024 := by rw [← ht]
      show i ∈ ((View.whole main_v0_0).slice (win0_3.rect t)).set
      rw [View.set_slice_whole, Rect.mem_set_unit]
      intro a
      match a with
      | ⟨0, _⟩ => show win0_3.index t 0 * 1024 ≤ (i 0 : Nat) ∧ (i 0 : Nat) < win0_3.index t 0 * 1024 + 1024
                  rw [(idx0_3 t).1]; omega
      | ⟨1, _⟩ => show win0_3.index t 1 * 512 ≤ (i 1 : Nat) ∧ (i 1 : Nat) < win0_3.index t 1 * 512 + 512
                  rw [(idx0_3 t).2]; omega

/-- The slope of the gated product in the gate, the whole array. -/
def dslope (c : Dev nD) : FVec Ideal S4096x5632 .bf16 := fun x =>
  have i : ℕ := (x 0 : Fin 4096).val
  have j : ℕ := (x 1 : Fin 5632).val
  slope (gate V c i j) (up V c i j)
theorem idx0_4 : ∀ t : Fin grid0.N, win0_4.index t 0 = t.val % 4 ∧ win0_4.index t 1 = t.val / 4 := by decide +kernel
/-- Each point writes its block back. -/
theorem flushed0_4 (c : Dev nD) (t : Fin cfg0.N) :
    (dat0 V c).flushed 4 t = ((cfg0.win 4).blk t).view.read (Elt Ideal) (dslope V c) := by
  have ht : t.val < 44 := lt_of_lt_of_eq t.isLt N_0
  show (cfg0.win 4).cut (grid0.coords t) ((dat0 V c).after 4 t) = _
  rw [after0_4, out0_4_eq]
  funext y
  idx_vars y
  show _ = dslope V c ((win0_4.rect t).emb (ix2 y0 y1))
  refine (pay6_at _ _ _ y0 y1).trans ?_
  rw [show (win0_4.rect t).emb (ix2 y0 y1) = ix2 (⟨1024 * (t.val % 4) + y0.val, by omega⟩ : Fin 4096) (⟨512 * (t.val / 4) + y1.val, by omega⟩ : Fin 5632) from funext fun a => Fin.ext (by
    rw [Pipeline.Window.rect_emb_val win0_4]
    match a with
    | ⟨0, _⟩ => show win0_4.index t 0 * 1024 + y0.val = _; rw [(idx0_4 t).1]; exact congrArg (· + y0.val) (Nat.mul_comm _ _)
    | ⟨1, _⟩ => show win0_4.index t 1 * 512 + y1.val = _; rw [(idx0_4 t).2]; exact congrArg (· + y1.val) (Nat.mul_comm _ _))]
  simp only [dot, blk0_0, blk0_1, blk0_2]
  rfl
/-- The array when the call ends. -/
theorem final0_4 (c : Dev nD) : (dat0 V c).arrAt 4 cfg0.N = dslope V c :=
  (dat0 V c).arrAt_eq_of_cover 4 (dslope V c) (fun t _ => flushed0_4 V c t)
    fun i => by
      have h0 : (i 0 : Nat) < 4096 := (i 0).isLt
      have h1 : (i 1 : Nat) < 5632 := (i 1).isLt
      refine ⟨⟨(i 1 : Nat) / 512 * 4 + (i 0 : Nat) / 1024, lt_of_lt_of_eq (by omega) N_0.symm⟩, flush0_4 _, ?_⟩
      generalize ht : (⟨(i 1 : Nat) / 512 * 4 + (i 0 : Nat) / 1024, _⟩ : Fin cfg0.N) = t
      have hv : t.val = (i 1 : Nat) / 512 * 4 + (i 0 : Nat) / 1024 := by rw [← ht]
      show i ∈ ((View.whole main_v0_1).slice (win0_4.rect t)).set
      rw [View.set_slice_whole, Rect.mem_set_unit]
      intro a
      match a with
      | ⟨0, _⟩ => show win0_4.index t 0 * 1024 ≤ (i 0 : Nat) ∧ (i 0 : Nat) < win0_4.index t 0 * 1024 + 1024
                  rw [(idx0_4 t).1]; omega
      | ⟨1, _⟩ => show win0_4.index t 1 * 512 ≤ (i 1 : Nat) ∧ (i 1 : Nat) < win0_4.index t 1 * 512 + 512
                  rw [(idx0_4 t).2]; omega

/-- The SiLU of the gate, the whole array. -/
def sgate (c : Dev nD) : FVec Ideal S4096x5632 .bf16 := fun x =>
  have i : ℕ := (x 0 : Fin 4096).val
  have j : ℕ := (x 1 : Fin 5632).val
  silu (gate V c i j)
theorem idx0_5 : ∀ t : Fin grid0.N, win0_5.index t 0 = t.val % 4 ∧ win0_5.index t 1 = t.val / 4 := by decide +kernel
/-- Each point writes its block back. -/
theorem flushed0_5 (c : Dev nD) (t : Fin cfg0.N) :
    (dat0 V c).flushed 5 t = ((cfg0.win 5).blk t).view.read (Elt Ideal) (sgate V c) := by
  have ht : t.val < 44 := lt_of_lt_of_eq t.isLt N_0
  show (cfg0.win 5).cut (grid0.coords t) ((dat0 V c).after 5 t) = _
  rw [after0_5, out0_5_eq]
  funext y
  idx_vars y
  show _ = sgate V c ((win0_5.rect t).emb (ix2 y0 y1))
  refine (pay7_at _ _ y0 y1).trans ?_
  rw [show (win0_5.rect t).emb (ix2 y0 y1) = ix2 (⟨1024 * (t.val % 4) + y0.val, by omega⟩ : Fin 4096) (⟨512 * (t.val / 4) + y1.val, by omega⟩ : Fin 5632) from funext fun a => Fin.ext (by
    rw [Pipeline.Window.rect_emb_val win0_5]
    match a with
    | ⟨0, _⟩ => show win0_5.index t 0 * 1024 + y0.val = _; rw [(idx0_5 t).1]; exact congrArg (· + y0.val) (Nat.mul_comm _ _)
    | ⟨1, _⟩ => show win0_5.index t 1 * 512 + y1.val = _; rw [(idx0_5 t).2]; exact congrArg (· + y1.val) (Nat.mul_comm _ _))]
  simp only [dot, blk0_0, blk0_1, blk0_2]
  rfl
/-- The array when the call ends. -/
theorem final0_5 (c : Dev nD) : (dat0 V c).arrAt 5 cfg0.N = sgate V c :=
  (dat0 V c).arrAt_eq_of_cover 5 (sgate V c) (fun t _ => flushed0_5 V c t)
    fun i => by
      have h0 : (i 0 : Nat) < 4096 := (i 0).isLt
      have h1 : (i 1 : Nat) < 5632 := (i 1).isLt
      refine ⟨⟨(i 1 : Nat) / 512 * 4 + (i 0 : Nat) / 1024, lt_of_lt_of_eq (by omega) N_0.symm⟩, flush0_5 _, ?_⟩
      generalize ht : (⟨(i 1 : Nat) / 512 * 4 + (i 0 : Nat) / 1024, _⟩ : Fin cfg0.N) = t
      have hv : t.val = (i 1 : Nat) / 512 * 4 + (i 0 : Nat) / 1024 := by rw [← ht]
      show i ∈ ((View.whole main_v0_2).slice (win0_5.rect t)).set
      rw [View.set_slice_whole, Rect.mem_set_unit]
      intro a
      match a with
      | ⟨0, _⟩ => show win0_5.index t 0 * 1024 ≤ (i 0 : Nat) ∧ (i 0 : Nat) < win0_5.index t 0 * 1024 + 1024
                  rw [(idx0_5 t).1]; omega
      | ⟨1, _⟩ => show win0_5.index t 1 * 512 ≤ (i 1 : Nat) ∧ (i 1 : Nat) < win0_5.index t 1 * 512 + 512
                  rw [(idx0_5 t).2]; omega

/-- The gate's gradient, the whole array. -/
def dgate (c : Dev nD) : FVec Ideal S4096x5632 .bf16 := fun x =>
  have i : ℕ := (x 0 : Fin 4096).val
  have j : ℕ := (x 1 : Fin 5632).val
  dact V c i j * ds V c i j
theorem idx1_4 : ∀ t : Fin grid1.N, win1_4.index t 0 = t.val / 11 ∧ win1_4.index t 1 = t.val % 11 := by decide +kernel
/-- Each point writes its block back. -/
theorem flushed1_4 (c : Dev nD) (t : Fin cfg1.N) :
    (dat1 V c).flushed 4 t = ((cfg1.win 4).blk t).view.read (Elt Ideal) (dgate V c) := by
  have ht : t.val < 44 := lt_of_lt_of_eq t.isLt N_1
  show (cfg1.win 4).cut (grid1.coords t) ((dat1 V c).after 4 t) = _
  rw [after1_4, out1_4_eq]
  funext y
  idx_vars y
  show _ = dgate V c ((win1_4.rect t).emb (ix2 y0 y1))
  refine (bwd2_at _ _ _ y0 y1).trans ?_
  rw [show (win1_4.rect t).emb (ix2 y0 y1) = ix2 (⟨1024 * (t.val / 11) + y0.val, by omega⟩ : Fin 4096) (⟨512 * (t.val % 11) + y1.val, by omega⟩ : Fin 5632) from funext fun a => Fin.ext (by
    rw [Pipeline.Window.rect_emb_val win1_4]
    match a with
    | ⟨0, _⟩ => show win1_4.index t 0 * 1024 + y0.val = _; rw [(idx1_4 t).1]; exact congrArg (· + y0.val) (Nat.mul_comm _ _)
    | ⟨1, _⟩ => show win1_4.index t 1 * 512 + y1.val = _; rw [(idx1_4 t).2]; exact congrArg (· + y1.val) (Nat.mul_comm _ _))]
  simp only [dot, blk1_0, blk1_1, blk1_2, blk1_3]
  rfl
/-- The array when the call ends. -/
theorem final1_4 (c : Dev nD) : (dat1 V c).arrAt 4 cfg1.N = dgate V c :=
  (dat1 V c).arrAt_eq_of_cover 4 (dgate V c) (fun t _ => flushed1_4 V c t)
    fun i => by
      have h0 : (i 0 : Nat) < 4096 := (i 0).isLt
      have h1 : (i 1 : Nat) < 5632 := (i 1).isLt
      refine ⟨⟨(i 0 : Nat) / 1024 * 11 + (i 1 : Nat) / 512, lt_of_lt_of_eq (by omega) N_1.symm⟩, flush1_4 _, ?_⟩
      generalize ht : (⟨(i 0 : Nat) / 1024 * 11 + (i 1 : Nat) / 512, _⟩ : Fin cfg1.N) = t
      have hv : t.val = (i 0 : Nat) / 1024 * 11 + (i 1 : Nat) / 512 := by rw [← ht]
      show i ∈ ((View.whole main_v1_0).slice (win1_4.rect t)).set
      rw [View.set_slice_whole, Rect.mem_set_unit]
      intro a
      match a with
      | ⟨0, _⟩ => show win1_4.index t 0 * 1024 ≤ (i 0 : Nat) ∧ (i 0 : Nat) < win1_4.index t 0 * 1024 + 1024
                  rw [(idx1_4 t).1]; omega
      | ⟨1, _⟩ => show win1_4.index t 1 * 512 ≤ (i 1 : Nat) ∧ (i 1 : Nat) < win1_4.index t 1 * 512 + 512
                  rw [(idx1_4 t).2]; omega

/-- The up projection's gradient, the whole array. -/
def dup (c : Dev nD) : FVec Ideal S4096x5632 .bf16 := fun x =>
  have i : ℕ := (x 0 : Fin 4096).val
  have j : ℕ := (x 1 : Fin 5632).val
  dact V c i j * sl V c i j
theorem idx1_5 : ∀ t : Fin grid1.N, win1_5.index t 0 = t.val / 11 ∧ win1_5.index t 1 = t.val % 11 := by decide +kernel
/-- Each point writes its block back. -/
theorem flushed1_5 (c : Dev nD) (t : Fin cfg1.N) :
    (dat1 V c).flushed 5 t = ((cfg1.win 5).blk t).view.read (Elt Ideal) (dup V c) := by
  have ht : t.val < 44 := lt_of_lt_of_eq t.isLt N_1
  show (cfg1.win 5).cut (grid1.coords t) ((dat1 V c).after 5 t) = _
  rw [after1_5, out1_5_eq]
  funext y
  idx_vars y
  show _ = dup V c ((win1_5.rect t).emb (ix2 y0 y1))
  refine (bwd3_at _ _ _ y0 y1).trans ?_
  rw [show (win1_5.rect t).emb (ix2 y0 y1) = ix2 (⟨1024 * (t.val / 11) + y0.val, by omega⟩ : Fin 4096) (⟨512 * (t.val % 11) + y1.val, by omega⟩ : Fin 5632) from funext fun a => Fin.ext (by
    rw [Pipeline.Window.rect_emb_val win1_5]
    match a with
    | ⟨0, _⟩ => show win1_5.index t 0 * 1024 + y0.val = _; rw [(idx1_5 t).1]; exact congrArg (· + y0.val) (Nat.mul_comm _ _)
    | ⟨1, _⟩ => show win1_5.index t 1 * 512 + y1.val = _; rw [(idx1_5 t).2]; exact congrArg (· + y1.val) (Nat.mul_comm _ _))]
  simp only [dot, blk1_0, blk1_1, blk1_2, blk1_3]
  rfl
/-- The array when the call ends. -/
theorem final1_5 (c : Dev nD) : (dat1 V c).arrAt 5 cfg1.N = dup V c :=
  (dat1 V c).arrAt_eq_of_cover 5 (dup V c) (fun t _ => flushed1_5 V c t)
    fun i => by
      have h0 : (i 0 : Nat) < 4096 := (i 0).isLt
      have h1 : (i 1 : Nat) < 5632 := (i 1).isLt
      refine ⟨⟨(i 0 : Nat) / 1024 * 11 + (i 1 : Nat) / 512, lt_of_lt_of_eq (by omega) N_1.symm⟩, flush1_5 _, ?_⟩
      generalize ht : (⟨(i 0 : Nat) / 1024 * 11 + (i 1 : Nat) / 512, _⟩ : Fin cfg1.N) = t
      have hv : t.val = (i 0 : Nat) / 1024 * 11 + (i 1 : Nat) / 512 := by rw [← ht]
      show i ∈ ((View.whole main_v1_1).slice (win1_5.rect t)).set
      rw [View.set_slice_whole, Rect.mem_set_unit]
      intro a
      match a with
      | ⟨0, _⟩ => show win1_5.index t 0 * 1024 ≤ (i 0 : Nat) ∧ (i 0 : Nat) < win1_5.index t 0 * 1024 + 1024
                  rw [(idx1_5 t).1]; omega
      | ⟨1, _⟩ => show win1_5.index t 1 * 512 ≤ (i 1 : Nat) ∧ (i 1 : Nat) < win1_5.index t 1 * 512 + 512
                  rw [(idx1_5 t).2]; omega

end Cert.FfnIdeal.Hand

end
-- ==== Proof.Ffn.Run.lean ====
/- The run of the feed-forward's two calls, one after the other: what its results hold when it ends. -/
module

public import proofs.«01_k».proof.Proof.Ffn.Arrays

@[expose] public section

noncomputable section

namespace Cert.FfnIdeal.Hand

open Cert.FfnIdeal Cert.FfnIdeal.Gen Cert.Gate
open Idealize.ShloMosaic Idealize.ShloMosaic.TcCoe Idealize.ShloMosaic.Tactic Idealize.ShloMosaic.Rounds
open Idealize.SL Idealize.SL.RA Idealize.SL.BI Idealize.SL.BI.BIBase Idealize.SL.BI.Laws Idealize.SL.ProofMode Idealize.SL.Sem
open scoped Idealize.SL.BI

section Launch
variable {F : FTy → Type} [FloatOps F]
variable (m : (ℓ : Loc nD τ sig) → Buf (Elt F) ℓ) (ρ : Dev nD → PrngReg)

/-- The step's resources. -/
abbrev Res (F : FTy → Type) [FloatOps F] := MT nD τ sig Unit (Elt F) ℕ (UR sig nD τ) ℕ
theorem toks_own : (ownU (initOf (Pipeline.cells cfgs cellOf_inj) (Pipeline.launchToks cfgs cellOf_inj)) : sProp (Res F))
    ⊢ BI.own (emb₁ (initOf (Pipeline.cells cfgs cellOf_inj) (Pipeline.launchToks cfgs cellOf_inj))) := .rfl
theorem nothing_each : (BI.emp : sProp (Res F)) ⊢ bigSep Finset.univ (fun _ : Dev nD => (BI.emp : sProp (Res F))) := by
  rw [BI.bigSep_emp_const]

set_option backward.isDefEq.respectTransparency.types false in
/-- Every execution ends, and each buffer outside the calls' scopes holds what the second call leaves. -/
theorem run_contents : θ_run defs (onTc (τ := τ) (main (F := F))) ⟨m, fun _ => 0, ρ⟩
    (fun r => ∀ c : Dev nD, ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Htoks
      imodintro
      isplitl [Htoks]
      · iapply (toks_own (F := F))
        iexact Htoks
      · iapply (nothing_each (F := F))
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hprng, -⟩, -⟩
      imodintro
      isplitl [Hbufs]
      · iexact Hbufs
      isplitl [Hprng]
      · iexists _; iexact Hprng
      · iexists ∅; iexact Howes)
    (QY := fun c s => ∀ b ∈ Pipeline.ucRefs τ sig, s.mem (((c : Thread nD τ)).1, b) = W2 m ρ c b)
    (hfin := fun c s => by
      iintro ⟨⟨Hbufs, -⟩, Hmem⟩
      unfold StableHlo.held
      imodintro
      iapply (pointsTo_read_all (Pipeline.ucRefs τ sig) (fun b => (((c : Thread nD τ)).1, b)) (W2 m ρ c) s)
      isplitl [Hbufs] <;> iassumption)
    (hQ := fun _ h _ => h)
end Launch

variable (m : (ℓ : Loc nD τ sig) → Buf (Elt Ideal) ℓ) (ρ : Dev nD → PrngReg)

/-! The first call writes its three arrays, of which the second reads two; the second writes two more. -/

theorem slope_read (c : Dev nD) : V1 m ρ c main_v0_1 = dslope (V0 m ρ) c :=
  (W1_arr m ρ c 4).trans (final0_4 (V0 m ρ) c)
theorem silu_read (c : Dev nD) : V1 m ρ c main_v0_2 = sgate (V0 m ρ) c :=
  (W1_arr m ρ c 5).trans (final0_5 (V0 m ρ) c)
theorem dh_read (c : Dev nD) : V1 m ρ c main_arg3 = V0 m ρ c main_arg3 :=
  W1_of m ρ c main_arg3 (by decide)
theorem wd_read (c : Dev nD) : V1 m ρ c main_arg4 = V0 m ρ c main_arg4 :=
  W1_of m ρ c main_arg4 (by decide)

/-- The gate's gradient, from the program's arguments. -/
def gateGrad (c : Dev nD) : FVec Ideal S4096x5632 .bf16 := fun x =>
  have i : ℕ := (x 0 : Fin 4096).val
  have j : ℕ := (x 1 : Fin 5632).val
  dact (V0 m ρ) c i j * slope (gate (V0 m ρ) c i j) (up (V0 m ρ) c i j)
/-- The up projection's gradient, from the program's arguments. -/
def upGrad (c : Dev nD) : FVec Ideal S4096x5632 .bf16 := fun x =>
  have i : ℕ := (x 0 : Fin 4096).val
  have j : ℕ := (x 1 : Fin 5632).val
  dact (V0 m ρ) c i j * silu (gate (V0 m ρ) c i j)

theorem dact_read (c : Dev nD) (i j : ℕ) : dact (V1 m ρ) c i j = dact (V0 m ρ) c i j := by
  unfold dact dh wd
  rw [dh_read, wd_read]
theorem gateGrad_eq (c : Dev nD) : dgate (V1 m ρ) c = gateGrad m ρ c := by
  funext x
  idx_vars x
  show dact (V1 m ρ) c x0.val x1.val * ds (V1 m ρ) c x0.val x1.val = dact (V0 m ρ) c x0.val x1.val * slope (gate (V0 m ρ) c x0.val x1.val) (up (V0 m ρ) c x0.val x1.val)
  rw [dact_read]
  unfold ds
  rw [slope_read]
  simp only [Nat.mod_eq_of_lt (Fin.isLt _)]
  rfl
theorem upGrad_eq (c : Dev nD) : dup (V1 m ρ) c = upGrad m ρ c := by
  funext x
  idx_vars x
  show dact (V1 m ρ) c x0.val x1.val * sl (V1 m ρ) c x0.val x1.val = dact (V0 m ρ) c x0.val x1.val * silu (gate (V0 m ρ) c x0.val x1.val)
  rw [dact_read]
  unfold sl
  rw [silu_read]
  simp only [Nat.mod_eq_of_lt (Fin.isLt _)]
  rfl

/-- The run's three results. -/
theorem run_values : θ_run defs (onTc (τ := τ) (main (F := Ideal))) ⟨m, fun _ => 0, ρ⟩ (fun r => ∀ c : Dev nD,
      r.2.mem ((c.tc : Thread nD τ).loc main_v0_0) = act (V0 m ρ) c
      ∧ r.2.mem ((c.tc : Thread nD τ).loc main_v1_0) = gateGrad m ρ c
      ∧ r.2.mem ((c.tc : Thread nD τ).loc main_v1_1) = upGrad m ρ c) :=
  (θ_run defs _ _).mono (fun _ h c =>
    ⟨(h c _ (mem_uc main_v0_0 (by decide))).trans ((W2_of m ρ c main_v0_0 (by decide)).trans ((W1_arr m ρ c 3).trans (final0_3 (V0 m ρ) c))),
     (h c _ (mem_uc main_v1_0 (by decide))).trans ((W2_arr m ρ c 4).trans ((final1_4 (V1 m ρ) c).trans (gateGrad_eq m ρ c))),
     (h c _ (mem_uc main_v1_1 (by decide))).trans ((W2_arr m ρ c 5).trans ((final1_5 (V1 m ρ) c).trans (upGrad_eq m ρ c)))⟩)
    (run_contents m ρ)

end Cert.FfnIdeal.Hand

end
-- ==== Proof.Ffn.Equation.lean ====
/- The feed-forward's results are the reference's. The gate's gradient needs finite arrays: the reference adds two terms
   where the kernel multiplies by one factor. -/
module

public import proofs.«01_k».proof.Proof.Ffn.Run
public import proofs.«01_k».proof.Proof.Even.Equation
public import proofs.«01_k».proof.Defs
public import proofs.«01_k».proof.Proof.Gen.Pre_swiglu_finite
public import proofs.«01_k».proof.Proof.Gen.Ffn.Frame
public import proofs.«01_k».proof.Proof.Gen.FfnRefIdeal.Read

@[expose] public section

set_option maxRecDepth 16384

noncomputable section

namespace Cert.FfnRefIdeal.Hand

open Cert.FfnRefIdeal Cert.FfnRefIdeal.Read Cert.Gate Cert.Even Idealize.ShloMosaic Idealize.ShloMosaic.TcCoe Idealize.SL.Sem

/-! ## The reference, entry by entry -/

variable (x0 x3 : FVec Ideal S4096x2048 .bf16) (x1 x2 x4 : FVec Ideal S5632x2048 .bf16)

/-- A row of the first matrix times a row of the second. -/
def rows (x : FVec Ideal S4096x2048 .bf16) (w : FVec Ideal S5632x2048 .bf16) (i : Fin 4096) (j : Fin 5632) : EReal :=
  ∑ k : Fin 2048, x (ix2 i k) * w (ix2 j k)

theorem gate_at (i : Fin 4096) (j : Fin 5632) : val_main_v3 (F := Ideal) x0 x1 (ix2 i j) = rows x0 x1 i j := by
  pointwise [val_main_v3, val_main_v2, val_main_v1, val_main_v0]
  rfl
theorem up_at (i : Fin 4096) (j : Fin 5632) : val_main_v6 (F := Ideal) x0 x2 (ix2 i j) = rows x0 x2 i j := by
  pointwise [val_main_v6, val_main_v5, val_main_v4, val_main_v0]
  rfl
theorem dact_at (i : Fin 4096) (j : Fin 5632) : val_main_v12 (F := Ideal) x3 x4 (ix2 i j) = rows x3 x4 i j := by
  pointwise [val_main_v12, val_main_v11, val_main_v9]
  rfl
theorem sig_at (i : Fin 4096) (j : Fin 5632) : val_main_v7_2 (F := Ideal) x0 x1 (ix2 i j) = rsig (rows x0 x1 i j) := by
  pointwise [val_main_v7_2, val_main_call0_v0, val_main_call0_v1, val_main_call0_v2, val_main_call0_v3, val_main_call0_v4, val_main_call0_cst,
    val_main_call0_cst_0, gate_at]
  rfl
theorem slope_at (i : Fin 4096) (j : Fin 5632) :
    val_main_v7_1 (F := Ideal) x0 x1 (ix2 i j) = rsig (rows x0 x1 i j) * (1 - rsig (rows x0 x1 i j)) := by
  pointwise [val_main_v7_1, val_main_call0_v6, val_main_call0_v7, val_main_call0_cst_1, sig_at]
theorem silu_at (i : Fin 4096) (j : Fin 5632) : val_main_v7_0 (F := Ideal) x0 x1 (ix2 i j) = silu (rows x0 x1 i j) := by
  pointwise [val_main_v7_0, gate_at, sig_at]
  rw [← sig_eq]
  rfl
theorem v16_at (i : Fin 4096) (j : Fin 5632) : val_main_v16 (F := Ideal) x0 x1 x2 (ix2 i j) = silu (rows x0 x1 i j) * rows x0 x2 i j := by
  pointwise [val_main_v16, val_main_v8, silu_at, up_at]
theorem v18_at (i : Fin 4096) (j : Fin 5632) : val_main_v18 (F := Ideal) x0 x1 x3 x4 (ix2 i j) = rows x3 x4 i j * silu (rows x0 x1 i j) := by
  pointwise [val_main_v18, val_main_v13, silu_at, dact_at]
  exact mul_comm _ _
theorem v17_at (i : Fin 4096) (j : Fin 5632) :
    val_main_v17 (F := Ideal) x0 x1 x2 x3 x4 (ix2 i j) = rgate (rows x0 x1 i j) (rows x0 x2 i j) (rows x3 x4 i j) := by
  pointwise [val_main_v17, val_main_v15, val_main_v14, val_main_call1_v0, val_main_call1_v1, val_main_call1_v2, gate_at, up_at, dact_at, sig_at, slope_at]
  rfl

/-! ## The precondition -/

section pre
open Cert.Pre_swiglu_finite
theorem finite0_at (i : Fin 4096) (k : Fin 2048) : (fn x0 x1 x2 x3 x4).1 (ix2 i k) = Ideal.cmp .olt (max (x0 (ix2 i k)) (-x0 (ix2 i k))) ⊤ := by
  pointwise [fn]
  rw [inf_bf16]
  rfl
theorem finite1_at (i : Fin 5632) (k : Fin 2048) : (fn x0 x1 x2 x3 x4).2.1 (ix2 i k) = Ideal.cmp .olt (max (x2 (ix2 i k)) (-x2 (ix2 i k))) ⊤ := by
  pointwise [fn]
  rw [inf_bf16]
  rfl
theorem finite2_at (i : Fin 4096) (k : Fin 2048) : (fn x0 x1 x2 x3 x4).2.2.1 (ix2 i k) = Ideal.cmp .olt (max (x3 (ix2 i k)) (-x3 (ix2 i k))) ⊤ := by
  pointwise [fn]
  rw [inf_bf16]
  rfl
theorem finite3_at (i : Fin 5632) (k : Fin 2048) : (fn x0 x1 x2 x3 x4).2.2.2 (ix2 i k) = Ideal.cmp .olt (max (x4 (ix2 i k)) (-x4 (ix2 i k))) ⊤ := by
  pointwise [fn]
  rw [inf_bf16]
  rfl
end pre

/-- Products of finite rows are finite. -/
theorem rows_real (x : FVec Ideal S4096x2048 .bf16) (w : FVec Ideal S5632x2048 .bf16) (hx : ∀ i k, ∃ r : ℝ, x (ix2 i k) = (r : EReal))
    (hw : ∀ i k, ∃ r : ℝ, w (ix2 i k) = (r : EReal)) (i : Fin 4096) (j : Fin 5632) : ∃ r : ℝ, rows x w i j = (r : EReal) := by
  choose a ha using hx
  choose b hb using hw
  exact ⟨∑ k, a i k * b j k, (Finset.sum_congr rfl fun k _ => by rw [ha, hb, ← EReal.coe_mul]).trans (sum_coe _ _)⟩

end Cert.FfnRefIdeal.Hand

namespace Cert.FfnIdeal.Hand

open Cert.FfnIdeal Cert.FfnIdeal.Gen Cert.Gate Cert.Even Cert.FfnRefIdeal.Hand Cert.FfnRefIdeal.Read
open Idealize.ShloMosaic Idealize.ShloMosaic.TcCoe Idealize.SL.Sem

/-! ## The two programs' results -/

variable (m : (ℓ : Loc nD τ sig) → Buf (Elt Ideal) ℓ) (ρ : Dev nD → PrngReg)

theorem gate_rows (c : Dev nD) (i : Fin 4096) (j : Fin 5632) : gate (V0 m ρ) c i.val j.val
    = rows (m ((c.tc : Thread nD τ).loc main_arg0)) (m ((c.tc : Thread nD τ).loc main_arg1)) i j := by
  unfold gate n wg
  simp only [Nat.mod_eq_of_lt (Fin.isLt _)]
  rfl
theorem up_rows (c : Dev nD) (i : Fin 4096) (j : Fin 5632) : up (V0 m ρ) c i.val j.val
    = rows (m ((c.tc : Thread nD τ).loc main_arg0)) (m ((c.tc : Thread nD τ).loc main_arg2)) i j := by
  unfold up n wu
  simp only [Nat.mod_eq_of_lt (Fin.isLt _)]
  rfl
theorem dact_rows (c : Dev nD) (i : Fin 4096) (j : Fin 5632) : dact (V0 m ρ) c i.val j.val
    = rows (m ((c.tc : Thread nD τ).loc main_arg3)) (m ((c.tc : Thread nD τ).loc main_arg4)) i j := by
  unfold dact dh wd
  simp only [Nat.mod_eq_of_lt (Fin.isLt _)]
  rfl

theorem act_eq (c : Dev nD) : val_main_v16 (F := Ideal) (m ((c.tc : Thread nD τ).loc main_arg0)) (m ((c.tc : Thread nD τ).loc main_arg1))
    (m ((c.tc : Thread nD τ).loc main_arg2)) = act (V0 m ρ) c := by
  funext x
  idx_vars x
  refine (v16_at _ _ _ _ _).trans ?_
  rw [← gate_rows m ρ, ← up_rows m ρ]
  rfl
theorem upGrad_value (c : Dev nD) : val_main_v18 (F := Ideal) (m ((c.tc : Thread nD τ).loc main_arg0)) (m ((c.tc : Thread nD τ).loc main_arg1))
    (m ((c.tc : Thread nD τ).loc main_arg3)) (m ((c.tc : Thread nD τ).loc main_arg4)) = upGrad m ρ c := by
  funext x
  idx_vars x
  refine (v18_at _ _ _ _ _ _).trans ?_
  rw [← gate_rows m ρ, ← dact_rows m ρ]
  rfl
/-- The gate's gradient, where the precondition makes the gradient and the up projection finite. -/
theorem gateGrad_value (h : Cert.Pre_FfnIdeal_swiglu_finite m) (c : Dev nD) :
    val_main_v17 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = gateGrad m ρ c := by
  obtain ⟨h0, h1, h2, h3⟩ := h c
  funext x
  idx_vars x
  refine (v17_at _ _ _ _ _ _ _).trans ?_
  obtain ⟨u, hu⟩ := rows_real _ _ (fun i k => real_of_lt _ ((finite0_at _ _ _ _ _ i k).symm.trans (congrFun h0 _)))
    (fun i k => real_of_lt _ ((finite1_at _ _ _ _ _ i k).symm.trans (congrFun h1 _))) x0 x1
  obtain ⟨d, hd⟩ := rows_real _ _ (fun i k => real_of_lt _ ((finite2_at _ _ _ _ _ i k).symm.trans (congrFun h2 _)))
    (fun i k => real_of_lt _ ((finite3_at _ _ _ _ _ i k).symm.trans (congrFun h3 _))) x0 x1
  rw [hu, hd, rgate_eq, ← hu, ← hd, ← gate_rows m ρ, ← up_rows m ρ, ← dact_rows m ρ]
  rfl

end Cert.FfnIdeal.Hand

namespace Cert.Proof

open Idealize.ShloMosaic Idealize.SL.Sem Cert.FfnIdeal.Hand

theorem Ffn_frame : Cert.quiescent_Ffn := fun m g _ => Cert.Ffn.Gen.frame m g
theorem Ffn_frame_ideal : Cert.quiescent_FfnIdeal := fun m g _ => Cert.FfnIdeal.Gen.frame m g
theorem Ffn_frame_pre : Cert.quiescent_FfnIdeal_pre_swiglu_finite := fun m g _ => Cert.FfnIdeal.Gen.frame m g
theorem Ffn_frame_ref : Cert.quiescent_FfnRefIdeal := fun m g _ =>
  (θ_run Cert.FfnRefIdeal.defs _ _).mono (fun r h => ⟨fun c => (h c).2.2.2, sem_eq_zero_of_no_sems (by decide) r.2⟩)
    (Cert.FfnRefIdeal.Value.run (F := Ideal) m g)
theorem Ffn_frame_ref_pre : Cert.quiescent_FfnRefIdeal_pre_swiglu_finite := fun m g _ => Ffn_frame_ref m g trivial

/-- The kernel's three results are the reference's. -/
theorem Ffn_equal : Cert.algebraic_FfnIdeal_FfnRefIdeal_pre_swiglu_finite := by
  intro m g m' g' hpre hargs
  refine ⟨act (Cert.FfnIdeal.Gen.V0 m g), gateGrad m g, upGrad m g, ?_, ?_⟩
  · refine (θ_run Cert.FfnIdeal.defs _ _).mono ?_ (θ_run_and (run_values m g) (Cert.FfnIdeal.Gen.frame m g))
    rintro r ⟨hv, ha, -⟩ c
    obtain ⟨h0, h1, h2⟩ := hv c
    exact ⟨h0, h1, h2, ha c⟩
  · refine (θ_run Cert.FfnRefIdeal.defs _ _).mono ?_ (Cert.FfnRefIdeal.Value.run (F := Ideal) m' g')
    intro r h c
    obtain ⟨h0, h1, h2, ha⟩ := h c
    obtain ⟨e0, e1, e2, e3, e4⟩ := hargs c
    refine ⟨?_, ?_, ?_, ha⟩
    · refine (h0.trans (Cert.FfnRefIdeal.Read.val_main_v16_eq _ _ _)).trans (Eq.trans ?_ (act_eq m g c))
      rw [← e0, ← e1, ← e2]
    · refine (h1.trans (Cert.FfnRefIdeal.Read.val_main_v17_eq _ _ _ _ _)).trans (Eq.trans ?_ (gateGrad_value m g hpre c))
      rw [← e0, ← e1, ← e2, ← e3, ← e4]
    · refine (h2.trans (Cert.FfnRefIdeal.Read.val_main_v18_eq _ _ _ _)).trans (Eq.trans ?_ (upGrad_value m g c))
      rw [← e0, ← e1, ← e3, ← e4]

end Cert.Proof

end
-- ==== Proof.Norm.Row.lean ====
/- The RMS normalisation's gradient at one row: the kernel's factored form is the reference's sum of three terms, on the
   whole extended line. -/
module

public import proofs.«01_k».proof.Proof.Even.Row

@[expose] public section

noncomputable section

namespace Cert.Norm

open Idealize.ShloMosaic
open Cert.Even (eps eps_eq negHalf negHalf_eq)

/-- A row of the residual stream. -/
abbrev Row := Fin 2048 → EReal
/-- The number of channels. -/
def width : EReal := Ideal.ofBits FTy.f32 0x45000000#32

/-- The mean square plus the small constant, and its reciprocal root. -/
def vari (h : Row) : EReal := Ideal.div (∑ k, h k * h k) width + eps
def scale (h : Row) : EReal := Ideal.rsqrt (vari h)
/-- The kernel's gradient of the row from the gradient `y` of the scaled row. -/
def grad (h y : Row) (k : Fin 2048) : EReal :=
  scale h * (y k - h k * scale h * Ideal.div (∑ l, y l * (h l * scale h)) width)
/-- The factor the reference gives the row itself. -/
def back (h y : Row) : EReal := Ideal.div ((∑ l, h l * y l) * (negHalf * Ideal.div (scale h) (vari h))) width
/-- The reference's gradient of the row. -/
def rgrad (h y : Row) (k : Fin 2048) : EReal := y k * scale h + h k * back h y + back h y * h k

theorem width_eq : width = ((2048 : ℝ) : EReal) := by
  unfold width; simp [Ideal.ofBits, Ideal.ieee, -EReal.coe_mul]; norm_num

/-- A square is not negative. -/
theorem mul_self_nonneg' (x : EReal) : 0 ≤ x * x := by
  induction x using EReal.rec with
  | bot => simp
  | top => simp
  | coe x => rw [← EReal.coe_mul]; exact_mod_cast mul_self_nonneg x

/-- The mean square plus the constant is infinite or a positive number. -/
theorem vari_cases (h : Row) : vari h = ⊤ ∨ ∃ v : ℝ, 0 < v ∧ vari h = (v : EReal) := by
  obtain ⟨e, he, hE⟩ : ∃ e : ℝ, 0 < e ∧ eps = (e : EReal) := ⟨_, by norm_num, eps_eq⟩
  have h0 : 0 ≤ ∑ k, h k * h k := Finset.sum_nonneg fun k _ => mul_self_nonneg' _
  unfold vari
  rw [hE, width_eq, Ideal.div_coe (by norm_num)]
  generalize ∑ k, h k * h k = s at h0
  induction s using EReal.rec with
  | bot => simp at h0
  | top =>
    left
    rw [EReal.top_mul_coe_of_pos (by norm_num)]
    exact EReal.top_add_coe e
  | coe s =>
    right
    have hs : 0 ≤ s := by exact_mod_cast h0
    exact ⟨s * (1 / 2048) + e, by positivity, by push_cast; rfl⟩

/-- A finite factor that is not negative goes into a sum. -/
theorem sum_mul_coe {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

/-- Twice a number is its sum with itself. -/
theorem add_self (x : EReal) : x + x = x * ((2 : ℝ) : EReal) := by
  induction x using EReal.rec with
  | bot => rw [EReal.bot_mul_coe_of_pos (by norm_num)]; rfl
  | top => rw [EReal.top_mul_coe_of_pos (by norm_num)]; rfl
  | coe x => rw [← EReal.coe_add, ← EReal.coe_mul]; congr 1; ring

/-- The two gradients agree, whatever the row and its gradient hold. -/
theorem grad_eq (h y : Row) (k : Fin 2048) : grad h y k = rgrad h y k := by
  rcases vari_cases h with hv | ⟨v, h0, hv⟩
  · have hs : scale h = 0 := by unfold scale; rw [hv]; rfl
    have hd : Ideal.div 0 ⊤ = 0 := by simp [Ideal.div]
    unfold grad rgrad back
    rw [hs, hv, hd]
    simp [width_eq, Ideal.div]
  · have hs : scale h = ((1 / Real.sqrt v : ℝ) : EReal) := by
      unfold scale
      rw [hv, Ideal.rsqrt_coe, if_neg (not_lt.mpr h0.le), if_neg h0.ne', one_div]
    have hr : 0 ≤ 1 / Real.sqrt v := by positivity
    have hrr : (1 / Real.sqrt v) * (1 / Real.sqrt v) = (1 / v) := by
      rw [div_mul_div_comm, one_mul, Real.mul_self_sqrt h0.le]
    unfold grad rgrad back
    rw [hs, hv, width_eq, negHalf_eq]
    generalize 1 / Real.sqrt v = r at hr hrr
    have hS : ∑ l, y l * (h l * (r : EReal)) = (∑ l, h l * y l) * (r : EReal) := by
      rw [sum_mul_coe _ _ _ hr]
      exact Finset.sum_congr rfl fun l _ => by rw [← mul_assoc, mul_comm (y l)]
    rw [hS]
    generalize ∑ l, h l * y l = S
    simp only [Ideal.div_coe h0.ne', Ideal.div_coe (show (2048 : ℝ) ≠ 0 by norm_num)]
    rw [sub_eq_add_neg, EReal.left_distrib_of_nonneg_of_ne_top (by exact_mod_cast hr) (EReal.coe_ne_top r), add_assoc,
      mul_comm (S * _ * _) (h k), add_self, mul_comm (r : EReal) (y k)]
    congr 1
    have e : r * r * r * (1 / 2048) = -(-(1 / 2) * (r * (1 / v)) * (1 / 2048) * 2) := by rw [hrr]; ring
    calc (r : EReal) * -(h k * r * (S * r * (((1 / 2048) : ℝ) : EReal)))
        = -(h k * S * ((r : EReal) * r * r * (((1 / 2048) : ℝ) : EReal))) := by rw [mul_neg]; ac_rfl
      _ = h k * S * (((-(1 / 2) * (r * (1 / v)) * (1 / 2048) * 2 : ℝ)) : EReal) := by
          rw [← EReal.coe_mul, ← EReal.coe_mul, ← EReal.coe_mul, e, EReal.coe_neg, mul_neg, neg_neg]
      _ = _ := by
          simp only [EReal.coe_mul]
          ac_rfl

end Cert.Norm

end
-- ==== Proof.Norm.Arrays.lean ====
/- The RMS normalisation's gradient call: what it leaves in its two result arrays. -/
module

public import proofs.«01_k».proof.Proof.Norm.Row
public import proofs.«01_k».proof.Proof.Even.Array
public import proofs.«01_k».proof.Proof.Gen.GradXIdeal.Value

@[expose] public section

set_option maxRecDepth 16384

noncomputable section

namespace Cert.GradXIdeal.Hand

open Cert.GradXIdeal Cert.GradXIdeal.Gen Cert.Norm Idealize.ShloMosaic Idealize.ShloMosaic.TcCoe Idealize.SL.Sem
open Cert.EvenBwdIdeal.Hand (at_ sum_rows)

/-! ## What the body computes on one block of rows -/

theorem origin : (![0, 0] : Fin 2 → Nat) = fun _ => 0 := by decide

section Body
variable (x : Vec Ideal S256x2048 .f32) (g p : Vec Ideal S1x2048 .f32) (d : Vec Ideal S256x2048 .bf16) (e : Vec Ideal S256x2048 .f32)

/-- Row `r` of a block. -/
def row (x : Vec Ideal S256x2048 .f32) (r : Fin 256) : Row := fun k => x (ix2 r k)
/-- The gradient of row `r` after the gain. -/
def scaled (g : Vec Ideal S1x2048 .f32) (d : Vec Ideal S256x2048 .bf16) (r : Fin 256) : Row := fun k => d (ix2 r k) * g (ix2 0 k)

theorem pay3_at (r : Fin 256) : k0_pay3 x (ix2 r 0) = scale (row x r) := by
  pointwise [k0_pay3]
  rfl
theorem pay4_at (r : Fin 256) (k : Fin 2048) : k0_pay4 x (ix2 r k) = row x r k * scale (row x r) := by
  pointwise [k0_pay4, pay3_at]
  rfl
theorem pay5_at (k : Fin 2048) : k0_pay5 x d (ix2 0 k) = ∑ r : Fin 256, d (ix2 r k) * (row x r k * scale (row x r)) := by
  pointwise [k0_pay5, k0_pay2, pay4_at]
theorem pay6_at (r : Fin 256) (k : Fin 2048) : k0_pay6 x g d e (ix2 r k) = grad (row x r) (scaled g d r) k + e (ix2 r k) := by
  pointwise [k0_pay6, k0_pay2, pay3_at, pay4_at]
  rfl
theorem pay1_at (k : Fin 2048) : k0_pay1 p g (ix2 0 k) = g (ix2 0 k) + p (ix2 0 k) := by
  pointwise [k0_pay1]
end Body

/-! ## What each point leaves -/

/-- The first point stores its rows' gradients. -/
theorem dx_first (c : Dev nD) (i : grid0.Coords) {m1 h1 m2 h2 m3 h3 m4 h4 m5 h5 m6 h6 c0 c1} (x : Vec Ideal S256x2048 .f32) (g : Vec Ideal S1x2048 .f32) (d : Vec Ideal S256x2048 .bf16)
    (e : Vec Ideal S256x2048 .f32) : out0_A_4 (F := Ideal) c i m1 h1 m2 h2 m3 h3 m4 h4 m5 h5 m6 h6 c0 c1 x g d e  = k0_pay6 x g d e := by
  unfold out0_A_4
  rw [View.read_writes_eq_canon _ _ _ (cover0_A_4 c i m1 h1 m2 h2 m3 h3 m4 h4 m5 h5 m6 h6 c0 c1 x g d e )]
  unfold kernelRun0_A
  dsimp only
  rw [View.canon_unit_zero origin]
  simp only [View.readAt_eq_ld, h1.read_unread, h2.read_unread, h3.read_unread, h4.read_unread, h6.read_unread, View.ld_unit_zero (S := S256x2048) origin,
    View.ld_unit_zero (S := S1x2048) origin, shapeCast_self]

/-- So does every later one. -/
theorem dx_later (c : Dev nD) (i : grid0.Coords) {m1 h1 m2 h2 m3 h3 m4 h4 m5 h5 m6 h6 c0 c1} (x : Vec Ideal S256x2048 .f32) (g : Vec Ideal S1x2048 .f32) (d : Vec Ideal S256x2048 .bf16)
    (e : Vec Ideal S256x2048 .f32) (p : Vec Ideal S1x2048 .f32) : out0_B_4 (F := Ideal) c i m1 h1 m2 h2 m3 h3 m4 h4 m5 h5 m6 h6 c0 c1 x g d e p = k0_pay6 x g d e := by
  unfold out0_B_4
  rw [View.read_writes_eq_canon _ _ _ (cover0_B_4 c i m1 h1 m2 h2 m3 h3 m4 h4 m5 h5 m6 h6 c0 c1 x g d e p)]
  unfold kernelRun0_B
  dsimp only
  rw [View.canon_unit_zero origin]
  simp only [View.readAt_eq_ld, h1.read_unread, h2.read_unread, h3.read_unread, h4.read_unread, h6.read_unread, View.ld_unit_zero (S := S256x2048) origin,
    View.ld_unit_zero (S := S1x2048) origin, shapeCast_self]

/-- The first point stores its rows' part of the gain's gradient. -/
theorem dg_first (c : Dev nD) (i : grid0.Coords) {m1 h1 m2 h2 m3 h3 m4 h4 m5 h5 m6 h6 c0 c1} (x : Vec Ideal S256x2048 .f32) (g : Vec Ideal S1x2048 .f32) (d : Vec Ideal S256x2048 .bf16)
    (e : Vec Ideal S256x2048 .f32) : out0_A_5 (F := Ideal) c i m1 h1 m2 h2 m3 h3 m4 h4 m5 h5 m6 h6 c0 c1 x g d e  = k0_pay5 x d := by
  unfold out0_A_5
  rw [View.read_writes_eq_canon _ _ _ (cover0_A_5 c i m1 h1 m2 h2 m3 h3 m4 h4 m5 h5 m6 h6 c0 c1 x g d e )]
  unfold kernelRun0_A
  dsimp only
  rw [View.canon_unit_zero origin]
  simp only [View.readAt_eq_ld, h1.read_unread, h2.read_unread, h3.read_unread, h4.read_unread, h6.read_unread, View.ld_unit_zero (S := S256x2048) origin,
    View.ld_unit_zero (S := S1x2048) origin, shapeCast_self]

/-- A later point adds its rows' part to what the point before it left. -/
theorem dg_later (c : Dev nD) (i : grid0.Coords) {m1 h1 m2 h2 m3 h3 m4 h4 m5 h5 m6 h6 c0 c1} (x : Vec Ideal S256x2048 .f32) (g : Vec Ideal S1x2048 .f32) (d : Vec Ideal S256x2048 .bf16)
    (e : Vec Ideal S256x2048 .f32) (p : Vec Ideal S1x2048 .f32) : out0_B_5 (F := Ideal) c i m1 h1 m2 h2 m3 h3 m4 h4 m5 h5 m6 h6 c0 c1 x g d e p = k0_pay1 (k0_pay5 x d) p := by
  unfold out0_B_5
  rw [View.read_writes_eq_canon _ _ _ (cover0_B_5 c i m1 h1 m2 h2 m3 h3 m4 h4 m5 h5 m6 h6 c0 c1 x g d e p)]
  unfold kernelRun0_B
  dsimp only
  rw [View.canon_unit_zero origin]
  unfold kernelRun0_B.sl.r
  simp only [View.readAt_eq_ld, h1.read_unread, h2.read_unread, h3.read_unread, h4.read_unread, h6.read_unread, View.ld_unit_zero (S := S256x2048) origin,
    View.ld_unit_zero (S := S1x2048) origin, shapeCast_self]

/-! ## The blocks, in the argument arrays -/

variable (m : (ℓ : Loc nD τ sig) → Buf (Elt Ideal) ℓ)

/-- Row `R` of the residual stream. -/
def hrow (c : Dev nD) (R : Fin 4096) : Row := fun k => m ((c : Thread nD τ).loc main_arg0) (ix2 R k)
/-- The gradient of the normalised row `R`. -/
def dn (c : Dev nD) (R : Fin 4096) : Row := fun k => m ((c : Thread nD τ).loc main_arg2) (ix2 R k)
/-- The same after the gain. -/
def dy (c : Dev nD) (R : Fin 4096) : Row := fun k => dn m c R k * m ((c : Thread nD τ).loc main_arg1) (ix2 0 k)
/-- The gradient that passes the normalisation by. -/
def resid (c : Dev nD) (R : Fin 4096) : Row := fun k => m ((c : Thread nD τ).loc main_arg3) (ix2 R k)

theorem idx0 : ∀ t : Fin grid0.N, win0_0.index t 0 = t.val ∧ win0_0.index t 1 = 0 := by decide +kernel
theorem blk0 (c : Dev nD) (t : Fin cfg0.N) (r : Fin 256) (k : Fin 2048) : iblk m c 0 t (ix2 r k) = hrow m c (at_ t.val r) k := by
  have ht : t.val < 16 := lt_of_lt_of_eq t.isLt N_0
  show V m c main_arg0 ((win0_0.rect t).emb (ix2 r k)) = _
  rw [V_main_arg0]
  refine congrArg (m ((c : Thread nD τ).loc main_arg0)) (funext fun a => Fin.ext ?_)
  rw [Pipeline.Window.rect_emb_val win0_0]
  match a with
  | ⟨0, _⟩ => show win0_0.index t 0 * 256 + r.val = (256 * t.val + r.val) % 4096; rw [(idx0 t).1]; omega
  | ⟨1, _⟩ => show win0_0.index t 1 * 2048 + k.val = k.val; rw [(idx0 t).2]; omega
theorem idx2 : ∀ t : Fin grid0.N, win0_2.index t 0 = t.val ∧ win0_2.index t 1 = 0 := by decide +kernel
theorem blk2 (c : Dev nD) (t : Fin cfg0.N) (r : Fin 256) (k : Fin 2048) : iblk m c 2 t (ix2 r k) = dn m c (at_ t.val r) k := by
  have ht : t.val < 16 := lt_of_lt_of_eq t.isLt N_0
  show V m c main_arg2 ((win0_2.rect t).emb (ix2 r k)) = _
  rw [V_main_arg2]
  refine congrArg (m ((c : Thread nD τ).loc main_arg2)) (funext fun a => Fin.ext ?_)
  rw [Pipeline.Window.rect_emb_val win0_2]
  match a with
  | ⟨0, _⟩ => show win0_2.index t 0 * 256 + r.val = (256 * t.val + r.val) % 4096; rw [(idx2 t).1]; omega
  | ⟨1, _⟩ => show win0_2.index t 1 * 2048 + k.val = k.val; rw [(idx2 t).2]; omega
theorem idx3 : ∀ t : Fin grid0.N, win0_3.index t 0 = t.val ∧ win0_3.index t 1 = 0 := by decide +kernel
theorem blk3 (c : Dev nD) (t : Fin cfg0.N) (r : Fin 256) (k : Fin 2048) : iblk m c 3 t (ix2 r k) = resid m c (at_ t.val r) k := by
  have ht : t.val < 16 := lt_of_lt_of_eq t.isLt N_0
  show V m c main_arg3 ((win0_3.rect t).emb (ix2 r k)) = _
  rw [V_main_arg3]
  refine congrArg (m ((c : Thread nD τ).loc main_arg3)) (funext fun a => Fin.ext ?_)
  rw [Pipeline.Window.rect_emb_val win0_3]
  match a with
  | ⟨0, _⟩ => show win0_3.index t 0 * 256 + r.val = (256 * t.val + r.val) % 4096; rw [(idx3 t).1]; omega
  | ⟨1, _⟩ => show win0_3.index t 1 * 2048 + k.val = k.val; rw [(idx3 t).2]; omega
theorem idx1 : ∀ t : Fin grid0.N, win0_1.index t 0 = 0 ∧ win0_1.index t 1 = 0 := by decide +kernel
theorem blk1 (c : Dev nD) (t : Fin cfg0.N) (k : Fin 2048) : iblk m c 1 t (ix2 0 k) = m ((c : Thread nD τ).loc main_arg1) (ix2 0 k) := by
  show V m c main_arg1 ((win0_1.rect t).emb (ix2 0 k)) = _
  rw [V_main_arg1]
  refine congrArg (m ((c : Thread nD τ).loc main_arg1)) (funext fun a => Fin.ext ?_)
  rw [Pipeline.Window.rect_emb_val win0_1]
  match a with
  | ⟨0, _⟩ => show win0_1.index t 0 * 1 + 0 = 0; rw [(idx1 t).1]
  | ⟨1, _⟩ => show win0_1.index t 1 * 2048 + k.val = k.val; rw [(idx1 t).2]; omega

theorem row_blk (c : Dev nD) (t : Fin cfg0.N) (r : Fin 256) : row (iblk m c 0 t) r = hrow m c (at_ t.val r) := funext fun k => blk0 m c t r k
theorem scaled_blk (c : Dev nD) (t : Fin cfg0.N) (r : Fin 256) : scaled (iblk m c 1 t) (iblk m c 2 t) r = dy m c (at_ t.val r) :=
  funext fun k => congrArg₂ (fun a b : EReal => a * b) (blk2 m c t r k) (blk1 m c t k)

/-! ## The result arrays -/

/-- The gradient of the residual stream. -/
def gradH (c : Dev nD) : FVec Ideal S4096x2048 .f32 := fun i => grad (hrow m c (i 0)) (dy m c (i 0)) (i 1) + resid m c (i 0) (i 1)
/-- One row's part of the gain's gradient. -/
def gainPart (c : Dev nD) (R : Fin 4096) (k : Fin 2048) : EReal := dn m c R k * (hrow m c R k * scale (hrow m c R))
/-- The gain's gradient. -/
def gradG (c : Dev nD) : FVec Ideal S1x2048 .f32 := fun i => ∑ R, gainPart m c R (i 1)

/-- Each point leaves its rows' gradients. -/
theorem outs_dx (c : Dev nD) (t : Fin cfg0.N) : (outsAt0 m c t.val t.isLt).1 = k0_pay6 (iblk m c 0 t) (iblk m c 1 t) (iblk m c 2 t) (iblk m c 3 t) := by
  have ht : t.val < 16 := lt_of_lt_of_eq t.isLt N_0
  by_cases h : t.val = 0
  · rw [outsAt0_A m c t (by omega) (by omega)]
    dsimp only
    exact dx_first c (grid0.coords t) (iblk m c 0 t) (iblk m c 1 t) (iblk m c 2 t) (iblk m c 3 t)
  · rw [outsAt0_B m c t (by omega) (by omega)]
    dsimp only
    exact dx_later c (grid0.coords t) (iblk m c 0 t) (iblk m c 1 t) (iblk m c 2 t) (iblk m c 3 t) _
/-- After point `n` the gain's gradient holds every row so far. -/
theorem outs_dg (c : Dev nD) (k : Fin 2048) : ∀ (n : ℕ) (hn : n < cfg0.N),
    (outsAt0 m c n hn).2 (ix2 0 k) = ∑ s ∈ Finset.range (n + 1), ∑ r, gainPart m c (at_ s r) k
  | 0, hn => by
    rw [outsAt0_A m c ⟨0, hn⟩ rfl (by dsimp only; omega)]
    dsimp only
    rw [dg_first c (grid0.coords ⟨0, hn⟩) (iblk m c 0 ⟨0, hn⟩) (iblk m c 1 ⟨0, hn⟩) (iblk m c 2 ⟨0, hn⟩) (iblk m c 3 ⟨0, hn⟩), pay5_at]
    simp only [row_blk, blk2]
    rw [Finset.sum_range_one]
    rfl
  | n + 1, hn => by
    have hN : n + 1 < 16 := lt_of_lt_of_eq hn N_0
    rw [outsAt0_B m c ⟨n + 1, hn⟩ (by dsimp only; omega) (by dsimp only; omega)]
    dsimp only
    rw [dg_later c (grid0.coords ⟨n + 1, hn⟩) (iblk m c 0 ⟨n + 1, hn⟩) (iblk m c 1 ⟨n + 1, hn⟩) (iblk m c 2 ⟨n + 1, hn⟩) (iblk m c 3 ⟨n + 1, hn⟩), pay1_at, pay5_at]
    simp only [row_blk, blk2]
    rw [Finset.sum_range_succ _ (n + 1)]
    exact congrArg (· + _) (outs_dg c k n (Nat.lt_of_succ_lt hn))

theorem idx4 : ∀ t : Fin grid0.N, win0_4.index t 0 = t.val ∧ win0_4.index t 1 = 0 := by decide +kernel
theorem flushed4 (c : Dev nD) (t : Fin cfg0.N) : (dats m 0 c).flushed 4 t = ((cfg0.win 4).blk t).view.read (Elt Ideal) (gradH m c) := by
  have ht : t.val < 16 := lt_of_lt_of_eq t.isLt N_0
  rw [Value.flushed4, outs_dx]
  funext y
  idx_vars y
  show k0_pay6 _ _ _ _ (ix2 y0 y1) = gradH m c ((win0_4.rect t).emb (ix2 y0 y1))
  rw [show (win0_4.rect t).emb (ix2 y0 y1) = ix2 (at_ t.val y0) y1 from funext fun a => Fin.ext (by
    rw [Pipeline.Window.rect_emb_val win0_4]
    match a with
    | ⟨0, _⟩ => show win0_4.index t 0 * 256 + y0.val = (256 * t.val + y0.val) % 4096; rw [(idx4 t).1]; omega
    | ⟨1, _⟩ => show win0_4.index t 1 * 2048 + y1.val = y1.val; rw [(idx4 t).2]; omega)]
  rw [pay6_at, row_blk, scaled_blk, blk3]
  rfl
/-- The first result array when the run ends. -/
theorem final4 (c : Dev nD) : (dats m 0 c).arrAt 4 cfg0.N = gradH m c :=
  (dats m 0 c).arrAt_eq_of_cover 4 (gradH m c) (fun t _ => flushed4 m c t)
    fun i => by
      have h0 : (i 0 : Nat) < 4096 := (i 0).isLt
      have h1 : (i 1 : Nat) < 2048 := (i 1).isLt
      refine ⟨⟨(i 0 : Nat) / 256, lt_of_lt_of_eq (by omega) N_0.symm⟩, flush0_4 _, ?_⟩
      generalize ht : (⟨(i 0 : Nat) / 256, _⟩ : Fin cfg0.N) = t
      have hv : t.val = (i 0 : Nat) / 256 := by rw [← ht]
      show i ∈ ((View.whole main_v0_0).slice (win0_4.rect t)).set
      rw [View.set_slice_whole, Rect.mem_set_unit]
      intro a
      match a with
      | ⟨0, _⟩ => show win0_4.index t 0 * 256 ≤ (i 0 : Nat) ∧ (i 0 : Nat) < win0_4.index t 0 * 256 + 256
                  rw [(idx4 t).1]; omega
      | ⟨1, _⟩ => show win0_4.index t 1 * 2048 ≤ (i 1 : Nat) ∧ (i 1 : Nat) < win0_4.index t 1 * 2048 + 2048
                  rw [(idx4 t).2]; omega

theorem idx5 : ∀ t : Fin grid0.N, win0_5.index t 0 = 0 ∧ win0_5.index t 1 = 0 := by decide +kernel
theorem flushed5 (c : Dev nD) (t : Fin cfg0.N) (h : t.val = 15) :
    (dats m 0 c).flushed 5 t = ((cfg0.win 5).blk t).view.read (Elt Ideal) (gradG m c) := by
  rw [Value.flushed5]
  funext y
  idx_vars y
  show (outsAt0 m c t.val t.isLt).2 (ix2 y0 y1) = gradG m c ((win0_5.rect t).emb (ix2 y0 y1))
  rw [show (win0_5.rect t).emb (ix2 y0 y1) = ix2 y0 y1 from funext fun a => Fin.ext (by
    rw [Pipeline.Window.rect_emb_val win0_5]
    match a with
    | ⟨0, _⟩ => show win0_5.index t 0 * 1 + y0.val = y0.val; rw [(idx5 t).1]; omega
    | ⟨1, _⟩ => show win0_5.index t 1 * 2048 + y1.val = y1.val; rw [(idx5 t).2]; omega)]
  obtain rfl : y0 = 0 := Subsingleton.elim _ _
  rw [outs_dg m c y1 t.val t.isLt, h]
  exact sum_rows fun R => gainPart m c R y1
/-- The second result array when the run ends. -/
theorem final5 (c : Dev nD) : (dats m 0 c).arrAt 5 cfg0.N = gradG m c :=
  (dats m 0 c).arrAt_eq_of_cover 5 (gradG m c) (fun t h => flushed5 m c t (by
    have ht : t.val < 16 := lt_of_lt_of_eq t.isLt N_0
    have := (flush0_5 t).mp h
    omega)) fun i => by
      have h0 : (i 0 : Nat) < 1 := (i 0).isLt
      have h1 : (i 1 : Nat) < 2048 := (i 1).isLt
      refine ⟨⟨15, lt_of_lt_of_eq (by decide) N_0.symm⟩, (flush0_5 _).mpr rfl, ?_⟩
      generalize (⟨15, _⟩ : Fin cfg0.N) = t
      show i ∈ ((View.whole main_v0_1).slice (win0_5.rect t)).set
      rw [View.set_slice_whole, Rect.mem_set_unit]
      intro a
      match a with
      | ⟨0, _⟩ => show win0_5.index t 0 * 1 ≤ (i 0 : Nat) ∧ (i 0 : Nat) < win0_5.index t 0 * 1 + 1
                  rw [(idx5 t).1]; omega
      | ⟨1, _⟩ => show win0_5.index t 1 * 2048 ≤ (i 1 : Nat) ∧ (i 1 : Nat) < win0_5.index t 1 * 2048 + 2048
                  rw [(idx5 t).2]; omega

end Cert.GradXIdeal.Hand

end
-- ==== Proof.Norm.Equation.lean ====
/- The RMS normalisation's gradients are the reference's, whatever the arguments hold. -/
module

public import proofs.«01_k».proof.Proof.Norm.Arrays
public import proofs.«01_k».proof.Defs
public import proofs.«01_k».proof.Proof.Gen.GradX.Frame
public import proofs.«01_k».proof.Proof.Gen.GradXRefIdeal.Read

@[expose] public section

set_option maxRecDepth 16384

noncomputable section

namespace Cert.GradXRefIdeal.Hand

open Cert.GradXRefIdeal Cert.GradXRefIdeal.Read Cert.Norm Idealize.ShloMosaic Idealize.ShloMosaic.TcCoe Idealize.SL.Sem

/-! ## The reference, entry by entry -/

variable (x0 x3 : FVec Ideal S4096x2048 .f32) (x1 : FVec Ideal S1x2048 .f32) (x2 : FVec Ideal S4096x2048 .bf16)

/-- Row `R` of the residual stream, and of its scaled gradient. -/
def hrow (R : Fin 4096) : Row := fun k => x0 (ix2 R k)
def dy (R : Fin 4096) : Row := fun k => x2 (ix2 R k) * x1 (ix2 0 k)

theorem v6_at (R : Fin 4096) : val_main_v6 (F := Ideal) x0 (ix2 R 0) = vari (hrow x0 R) := by
  pointwise [val_main_v6, val_main_v5, val_main_v4, val_main_v3, val_main_v2, val_main_v1, val_main_v0, val_main_cst, val_main_cst_0, val_main_cst_1]
  rfl
theorem v7_at (R : Fin 4096) : val_main_v7 (F := Ideal) x0 (ix2 R 0) = scale (hrow x0 R) := by
  pointwise [val_main_v7, v6_at]
  rfl
theorem v12_at (R : Fin 4096) (k : Fin 2048) : val_main_v12 (F := Ideal) x0 (ix2 R k) = hrow x0 R k * scale (hrow x0 R) := by
  pointwise [val_main_v12, val_main_v11, v7_at]
  rfl
theorem v10_at (R : Fin 4096) : val_main_v10 (F := Ideal) x0 (ix2 R 0) = Cert.Even.negHalf * Ideal.div (scale (hrow x0 R)) (vari (hrow x0 R)) := by
  pointwise [val_main_v10, val_main_v9, val_main_v8, val_main_cst_2, v6_at, v7_at]
  rfl
theorem v18_at (k : Fin 2048) : val_main_v18 (F := Ideal) x0 x2 (ix2 0 k) = ∑ R, x2 (ix2 R k) * (hrow x0 R k * scale (hrow x0 R)) := by
  pointwise [val_main_v18, val_main_v17, val_main_v16, val_main_v15, val_main_cst_3, v12_at]
  exact Finset.sum_congr rfl fun R _ => mul_comm _ _
theorem v20_at (R : Fin 4096) (k : Fin 2048) : val_main_v20 (F := Ideal) x1 x2 (ix2 R k) = dy x1 x2 R k := by
  pointwise [val_main_v20, val_main_v19, val_main_v15]
  rfl
theorem v28_at (R : Fin 4096) : val_main_v28 (F := Ideal) x0 x1 x2 (ix2 R 0) = back (hrow x0 R) (dy x1 x2 R) := by
  pointwise [val_main_v28, val_main_v27, val_main_v26, val_main_v23, val_main_v22, val_main_v21, val_main_cst_4, val_main_cst_5, v10_at, v20_at]
  rfl
theorem v30_at (R : Fin 4096) (k : Fin 2048) : val_main_v30 (F := Ideal) x0 x1 x2 (ix2 R k) = back (hrow x0 R) (dy x1 x2 R) := by
  pointwise [val_main_v30, val_main_v29, val_main_cst_6, v28_at]
  rw [Fin.sum_univ_one]
  exact v28_at _ _ _ _
theorem v35_at (R : Fin 4096) (k : Fin 2048) :
    val_main_v35 (F := Ideal) x0 x1 x2 x3 (ix2 R k) = rgrad (hrow x0 R) (dy x1 x2 R) k + x3 (ix2 R k) := by
  pointwise [val_main_v35, val_main_v34, val_main_v33, val_main_v32, val_main_v31, val_main_v25, val_main_v24, v7_at, v20_at, v30_at]
  rfl

end Cert.GradXRefIdeal.Hand

namespace Cert.GradXIdeal.Hand

open Cert.GradXIdeal Cert.GradXIdeal.Gen Cert.GradXRefIdeal.Read Cert.Norm Idealize.ShloMosaic Idealize.ShloMosaic.TcCoe Idealize.SL.Sem

variable (m : (ℓ : Loc nD τ sig) → Buf (Elt Ideal) ℓ)

/-- The reference's gradient of the residual stream is the kernel's. -/
theorem gradH_eq (c : Dev nD) : val_main_v35 (F := Ideal) (m ((c.tc : Thread nD τ).loc main_arg0)) (m ((c.tc : Thread nD τ).loc main_arg1))
    (m ((c.tc : Thread nD τ).loc main_arg2)) (m ((c.tc : Thread nD τ).loc main_arg3)) = gradH m c := by
  funext i
  idx_vars i
  exact (Cert.GradXRefIdeal.Hand.v35_at _ _ _ _ _ _).trans (congrArg (· + _) (grad_eq _ _ _).symm)
/-- The reference's gradient of the gain is the kernel's. -/
theorem gradG_eq (c : Dev nD) : val_main_v18 (F := Ideal) (m ((c.tc : Thread nD τ).loc main_arg0)) (m ((c.tc : Thread nD τ).loc main_arg2)) = gradG m c := by
  funext i
  idx_vars i
  obtain rfl : i0 = 0 := Subsingleton.elim _ _
  exact Cert.GradXRefIdeal.Hand.v18_at _ _ _

end Cert.GradXIdeal.Hand

namespace Cert.Proof

open Idealize.ShloMosaic Idealize.SL.Sem Cert.GradXIdeal.Hand

theorem GradX_frame : Cert.quiescent_GradX := fun m g _ => Cert.GradX.Gen.frame m g
theorem GradX_frame_ideal : Cert.quiescent_GradXIdeal := fun m g _ => Cert.GradXIdeal.Gen.frame m g
theorem GradX_frame_ref : Cert.quiescent_GradXRefIdeal := fun m g _ =>
  (θ_run Cert.GradXRefIdeal.defs _ _).mono (fun r h => ⟨fun c => (h c).2.2, sem_eq_zero_of_no_sems (by decide) r.2⟩)
    (Cert.GradXRefIdeal.Value.run (F := Ideal) m g)

/-- The kernel's two results are the reference's. -/
theorem GradX_equal : Cert.algebraic_GradXIdeal_GradXRefIdeal := by
  intro m g m' g' _ hargs
  refine ⟨gradH m, gradG m, ?_, ?_⟩
  · refine (θ_run Cert.GradXIdeal.defs _ _).mono ?_ (Cert.GradXIdeal.Value.run_blocks m g)
    intro r h c
    obtain ⟨h0, h1, ha⟩ := h c
    exact ⟨h0.trans (final4 m c), h1.trans (final5 m c), ha⟩
  · refine (θ_run Cert.GradXRefIdeal.defs _ _).mono ?_ (Cert.GradXRefIdeal.Value.run (F := Ideal) m' g')
    intro r h c
    obtain ⟨h0, h1, ha⟩ := h c
    obtain ⟨e0, e1, e2, e3⟩ := hargs c
    refine ⟨?_, ?_, ha⟩
    · refine (h0.trans (Cert.GradXRefIdeal.Read.val_main_v35_eq _ _ _ _)).trans (Eq.trans ?_ (gradH_eq m c))
      rw [← e0, ← e1, ← e2, ← e3]
    · refine (h1.trans (Cert.GradXRefIdeal.Read.val_main_v18_eq _ _)).trans (Eq.trans ?_ (gradG_eq m c))
      rw [← e0, ← e2]

end Cert.Proof

end
-- ==== Proof.Norm.Middle.lean ====
/- The RMS normalisation's gradient inside the network: also leaves the rounded gradient of the stream. -/
module

public import proofs.«01_k».proof.Proof.Norm.Equation
public import proofs.«01_k».proof.Proof.Gen.RmsBwdIdeal.Value
public import proofs.«01_k».proof.Proof.Gen.RmsBwd.Frame
public import proofs.«01_k».proof.Proof.Gen.RmsBwdRefIdeal.Read

@[expose] public section

set_option maxRecDepth 16384

noncomputable section

namespace Cert.RmsBwdIdeal.Hand

open Cert.RmsBwdIdeal Cert.RmsBwdIdeal.Gen Cert.Norm Idealize.ShloMosaic Idealize.ShloMosaic.TcCoe Idealize.SL.Sem
open Cert.EvenBwdIdeal.Hand (at_ sum_rows)
open Cert.GradXIdeal.Hand (row scaled)
open Cert.GradXRefIdeal.Hand (hrow dy)

/-! ## What the body computes on one block of rows: as in the last call of the step -/

theorem origin : (![0, 0] : Fin 2 → Nat) = fun _ => 0 := by decide

section Body
variable (x : Vec Ideal S256x2048 .f32) (g p : Vec Ideal S1x2048 .f32) (d : Vec Ideal S256x2048 .bf16) (e : Vec Ideal S256x2048 .f32)

theorem pay5_at (k : Fin 2048) : k0_pay5 x d (ix2 0 k) = ∑ r : Fin 256, d (ix2 r k) * (row x r k * scale (row x r)) :=
  Cert.GradXIdeal.Hand.pay5_at x d k
theorem pay6_at (r : Fin 256) (k : Fin 2048) : k0_pay6 x g d e (ix2 r k) = grad (row x r) (scaled g d r) k + e (ix2 r k) :=
  Cert.GradXIdeal.Hand.pay6_at x g d e r k
theorem pay7_at (r : Fin 256) (k : Fin 2048) : k0_pay7 x g d e (ix2 r k) = grad (row x r) (scaled g d r) k + e (ix2 r k) :=
  pay6_at x g d e r k
theorem pay1_at (k : Fin 2048) : k0_pay1 p g (ix2 0 k) = g (ix2 0 k) + p (ix2 0 k) := Cert.GradXIdeal.Hand.pay1_at g p k
end Body

/-! ## What each point leaves -/

/-- The first point stores its rows' gradients. -/
theorem dx_first (c : Dev nD) (i : grid0.Coords) {m1 h1 m2 h2 m3 h3 m4 h4 m5 h5 m6 h6 m7 h7 c0 c1} (x : Vec Ideal S256x2048 .f32) (g : Vec Ideal S1x2048 .f32)
    (d : Vec Ideal S256x2048 .bf16) (e : Vec Ideal S256x2048 .f32) :
    out0_A_4 (F := Ideal) c i m1 h1 m2 h2 m3 h3 m4 h4 m5 h5 m6 h6 m7 h7 c0 c1 x g d e = k0_pay6 x g d e := by
  unfold out0_A_4
  rw [View.read_writes_eq_canon _ _ _ (cover0_A_4 c i m1 h1 m2 h2 m3 h3 m4 h4 m5 h5 m6 h6 m7 h7 c0 c1 x g d e)]
  unfold kernelRun0_A
  dsimp only
  rw [View.canon_unit_zero origin]
  simp only [View.readAt_eq_ld, h1.read_unread, h2.read_unread, h3.read_unread, h4.read_unread, h7.read_unread, View.ld_unit_zero (S := S256x2048) origin,
    View.ld_unit_zero (S := S1x2048) origin, shapeCast_self]

/-- And their rounded copy. -/
theorem dr_first (c : Dev nD) (i : grid0.Coords) {m1 h1 m2 h2 m3 h3 m4 h4 m5 h5 m6 h6 m7 h7 c0 c1} (x : Vec Ideal S256x2048 .f32) (g : Vec Ideal S1x2048 .f32)
    (d : Vec Ideal S256x2048 .bf16) (e : Vec Ideal S256x2048 .f32) :
    out0_A_5 (F := Ideal) c i m1 h1 m2 h2 m3 h3 m4 h4 m5 h5 m6 h6 m7 h7 c0 c1 x g d e = k0_pay7 x g d e := by
  unfold out0_A_5
  rw [View.read_writes_eq_canon _ _ _ (cover0_A_5 c i m1 h1 m2 h2 m3 h3 m4 h4 m5 h5 m6 h6 m7 h7 c0 c1 x g d e)]
  unfold kernelRun0_A
  dsimp only
  rw [View.canon_unit_zero origin]
  simp only [View.readAt_eq_ld, h1.read_unread, h2.read_unread, h3.read_unread, h4.read_unread, h7.read_unread, View.ld_unit_zero (S := S256x2048) origin,
    View.ld_unit_zero (S := S1x2048) origin, shapeCast_self]

/-- So does every later one. -/
theorem dx_later (c : Dev nD) (i : grid0.Coords) {m1 h1 m2 h2 m3 h3 m4 h4 m5 h5 m6 h6 m7 h7 c0 c1} (x : Vec Ideal S256x2048 .f32) (g : Vec Ideal S1x2048 .f32)
    (d : Vec Ideal S256x2048 .bf16) (e : Vec Ideal S256x2048 .f32) (p : Vec Ideal S1x2048 .f32) :
    out0_B_4 (F := Ideal) c i m1 h1 m2 h2 m3 h3 m4 h4 m5 h5 m6 h6 m7 h7 c0 c1 x g d e p = k0_pay6 x g d e := by
  unfold out0_B_4
  rw [View.read_writes_eq_canon _ _ _ (cover0_B_4 c i m1 h1 m2 h2 m3 h3 m4 h4 m5 h5 m6 h6 m7 h7 c0 c1 x g d e p)]
  unfold kernelRun0_B
  dsimp only
  rw [View.canon_unit_zero origin]
  simp only [View.readAt_eq_ld, h1.read_unread, h2.read_unread, h3.read_unread, h4.read_unread, h7.read_unread, View.ld_unit_zero (S := S256x2048) origin,
    View.ld_unit_zero (S := S1x2048) origin, shapeCast_self]

/-- With the rounded copy. -/
theorem dr_later (c : Dev nD) (i : grid0.Coords) {m1 h1 m2 h2 m3 h3 m4 h4 m5 h5 m6 h6 m7 h7 c0 c1} (x : Vec Ideal S256x2048 .f32) (g : Vec Ideal S1x2048 .f32)
    (d : Vec Ideal S256x2048 .bf16) (e : Vec Ideal S256x2048 .f32) (p : Vec Ideal S1x2048 .f32) :
    out0_B_5 (F := Ideal) c i m1 h1 m2 h2 m3 h3 m4 h4 m5 h5 m6 h6 m7 h7 c0 c1 x g d e p = k0_pay7 x g d e := by
  unfold out0_B_5
  rw [View.read_writes_eq_canon _ _ _ (cover0_B_5 c i m1 h1 m2 h2 m3 h3 m4 h4 m5 h5 m6 h6 m7 h7 c0 c1 x g d e p)]
  unfold kernelRun0_B
  dsimp only
  rw [View.canon_unit_zero origin]
  simp only [View.readAt_eq_ld, h1.read_unread, h2.read_unread, h3.read_unread, h4.read_unread, h7.read_unread, View.ld_unit_zero (S := S256x2048) origin,
    View.ld_unit_zero (S := S1x2048) origin, shapeCast_self]

/-- The first point stores its rows' part of the gain's gradient. -/
theorem dg_first (c : Dev nD) (i : grid0.Coords) {m1 h1 m2 h2 m3 h3 m4 h4 m5 h5 m6 h6 m7 h7 c0 c1} (x : Vec Ideal S256x2048 .f32) (g : Vec Ideal S1x2048 .f32)
    (d : Vec Ideal S256x2048 .bf16) (e : Vec Ideal S256x2048 .f32) :
    out0_A_6 (F := Ideal) c i m1 h1 m2 h2 m3 h3 m4 h4 m5 h5 m6 h6 m7 h7 c0 c1 x g d e = k0_pay5 x d := by
  unfold out0_A_6
  rw [View.read_writes_eq_canon _ _ _ (cover0_A_6 c i m1 h1 m2 h2 m3 h3 m4 h4 m5 h5 m6 h6 m7 h7 c0 c1 x g d e)]
  unfold kernelRun0_A
  dsimp only
  rw [View.canon_unit_zero origin]
  unfold kernelRun0_A.sl.r
  simp only [View.readAt_eq_ld, h1.read_unread, h2.read_unread, h3.read_unread, h4.read_unread, h7.read_unread, View.ld_unit_zero (S := S256x2048) origin,
    View.ld_unit_zero (S := S1x2048) origin, shapeCast_self]

/-- A later point adds its rows' part to what the point before it left. -/
theorem dg_later (c : Dev nD) (i : grid0.Coords) {m1 h1 m2 h2 m3 h3 m4 h4 m5 h5 m6 h6 m7 h7 c0 c1} (x : Vec Ideal S256x2048 .f32) (g : Vec Ideal S1x2048 .f32)
    (d : Vec Ideal S256x2048 .bf16) (e : Vec Ideal S256x2048 .f32) (p : Vec Ideal S1x2048 .f32) :
    out0_B_6 (F := Ideal) c i m1 h1 m2 h2 m3 h3 m4 h4 m5 h5 m6 h6 m7 h7 c0 c1 x g d e p = k0_pay1 (k0_pay5 x d) p := by
  unfold out0_B_6
  rw [View.read_writes_eq_canon _ _ _ (cover0_B_6 c i m1 h1 m2 h2 m3 h3 m4 h4 m5 h5 m6 h6 m7 h7 c0 c1 x g d e p)]
  unfold kernelRun0_B
  dsimp only
  rw [View.canon_unit_zero origin]
  unfold kernelRun0_B.sl.r
  simp only [View.readAt_eq_ld, h1.read_unread, h2.read_unread, h3.read_unread, h4.read_unread, h7.read_unread, View.ld_unit_zero (S := S256x2048) origin,
    View.ld_unit_zero (S := S1x2048) origin, shapeCast_self]

/-! ## The blocks, in the argument arrays -/

variable (m : (ℓ : Loc nD τ sig) → Buf (Elt Ideal) ℓ)

/-- The stream, the gain, the gradient of the normalised stream and the one that passes it by. -/
def strm (c : Dev nD) : FVec Ideal S4096x2048 .f32 := m ((c : Thread nD τ).loc main_arg0)
def gain (c : Dev nD) : FVec Ideal S1x2048 .f32 := m ((c : Thread nD τ).loc main_arg1)
def dn (c : Dev nD) : FVec Ideal S4096x2048 .bf16 := m ((c : Thread nD τ).loc main_arg2)
def resid (c : Dev nD) : FVec Ideal S4096x2048 .f32 := m ((c : Thread nD τ).loc main_arg3)

theorem idx0 : ∀ t : Fin grid0.N, win0_0.index t 0 = t.val ∧ win0_0.index t 1 = 0 := by decide +kernel
theorem blk0 (c : Dev nD) (t : Fin cfg0.N) (r : Fin 256) (k : Fin 2048) : iblk m c 0 t (ix2 r k) = strm m c (ix2 (at_ t.val r) k) := by
  have ht : t.val < 16 := lt_of_lt_of_eq t.isLt N_0
  show V m c main_arg0 ((win0_0.rect t).emb (ix2 r k)) = _
  rw [V_main_arg0]
  refine congrArg (m ((c : Thread nD τ).loc main_arg0)) (funext fun a => Fin.ext ?_)
  rw [Pipeline.Window.rect_emb_val win0_0]
  match a with
  | ⟨0, _⟩ => show win0_0.index t 0 * 256 + r.val = (256 * t.val + r.val) % 4096; rw [(idx0 t).1]; omega
  | ⟨1, _⟩ => show win0_0.index t 1 * 2048 + k.val = k.val; rw [(idx0 t).2]; omega
theorem idx2 : ∀ t : Fin grid0.N, win0_2.index t 0 = t.val ∧ win0_2.index t 1 = 0 := by decide +kernel
theorem blk2 (c : Dev nD) (t : Fin cfg0.N) (r : Fin 256) (k : Fin 2048) : iblk m c 2 t (ix2 r k) = dn m c (ix2 (at_ t.val r) k) := by
  have ht : t.val < 16 := lt_of_lt_of_eq t.isLt N_0
  show V m c main_arg2 ((win0_2.rect t).emb (ix2 r k)) = _
  rw [V_main_arg2]
  refine congrArg (m ((c : Thread nD τ).loc main_arg2)) (funext fun a => Fin.ext ?_)
  rw [Pipeline.Window.rect_emb_val win0_2]
  match a with
  | ⟨0, _⟩ => show win0_2.index t 0 * 256 + r.val = (256 * t.val + r.val) % 4096; rw [(idx2 t).1]; omega
  | ⟨1, _⟩ => show win0_2.index t 1 * 2048 + k.val = k.val; rw [(idx2 t).2]; omega
theorem idx3 : ∀ t : Fin grid0.N, win0_3.index t 0 = t.val ∧ win0_3.index t 1 = 0 := by decide +kernel
theorem blk3 (c : Dev nD) (t : Fin cfg0.N) (r : Fin 256) (k : Fin 2048) : iblk m c 3 t (ix2 r k) = resid m c (ix2 (at_ t.val r) k) := by
  have ht : t.val < 16 := lt_of_lt_of_eq t.isLt N_0
  show V m c main_arg3 ((win0_3.rect t).emb (ix2 r k)) = _
  rw [V_main_arg3]
  refine congrArg (m ((c : Thread nD τ).loc main_arg3)) (funext fun a => Fin.ext ?_)
  rw [Pipeline.Window.rect_emb_val win0_3]
  match a with
  | ⟨0, _⟩ => show win0_3.index t 0 * 256 + r.val = (256 * t.val + r.val) % 4096; rw [(idx3 t).1]; omega
  | ⟨1, _⟩ => show win0_3.index t 1 * 2048 + k.val = k.val; rw [(idx3 t).2]; omega
theorem idx1 : ∀ t : Fin grid0.N, win0_1.index t 0 = 0 ∧ win0_1.index t 1 = 0 := by decide +kernel
theorem blk1 (c : Dev nD) (t : Fin cfg0.N) (k : Fin 2048) : iblk m c 1 t (ix2 0 k) = gain m c (ix2 0 k) := by
  show V m c main_arg1 ((win0_1.rect t).emb (ix2 0 k)) = _
  rw [V_main_arg1]
  refine congrArg (m ((c : Thread nD τ).loc main_arg1)) (funext fun a => Fin.ext ?_)
  rw [Pipeline.Window.rect_emb_val win0_1]
  match a with
  | ⟨0, _⟩ => show win0_1.index t 0 * 1 + 0 = 0; rw [(idx1 t).1]
  | ⟨1, _⟩ => show win0_1.index t 1 * 2048 + k.val = k.val; rw [(idx1 t).2]; omega

theorem row_blk (c : Dev nD) (t : Fin cfg0.N) (r : Fin 256) : row (iblk m c 0 t) r = hrow (strm m c) (at_ t.val r) := funext fun k => blk0 m c t r k
theorem scaled_blk (c : Dev nD) (t : Fin cfg0.N) (r : Fin 256) : scaled (iblk m c 1 t) (iblk m c 2 t) r = dy (gain m c) (dn m c) (at_ t.val r) :=
  funext fun k => congrArg₂ (fun a b : EReal => a * b) (blk2 m c t r k) (blk1 m c t k)

/-! ## The result arrays -/

/-- The gradient of the stream at one entry. -/
def gradAt (c : Dev nD) (R : Fin 4096) (k : Fin 2048) : EReal := grad (hrow (strm m c) R) (dy (gain m c) (dn m c) R) k + resid m c (ix2 R k)
def gradH (c : Dev nD) : FVec Ideal S4096x2048 .f32 := fun i => gradAt m c (i 0) (i 1)
def gradB (c : Dev nD) : FVec Ideal S4096x2048 .bf16 := fun i => gradAt m c (i 0) (i 1)
/-- One row's part of the gain's gradient, and their sum. -/
def gainPart (c : Dev nD) (R : Fin 4096) (k : Fin 2048) : EReal := dn m c (ix2 R k) * (hrow (strm m c) R k * scale (hrow (strm m c) R))
def gradG (c : Dev nD) : FVec Ideal S1x2048 .f32 := fun i => ∑ R, gainPart m c R (i 1)

/-- Each point leaves its rows' gradients. -/
theorem outs_dx (c : Dev nD) (t : Fin cfg0.N) : (outsAt0 m c t.val t.isLt).1 = k0_pay6 (iblk m c 0 t) (iblk m c 1 t) (iblk m c 2 t) (iblk m c 3 t) := by
  have ht : t.val < 16 := lt_of_lt_of_eq t.isLt N_0
  by_cases h : t.val = 0
  · rw [outsAt0_A m c t (by omega) (by omega)]
    dsimp only
    exact dx_first c (grid0.coords t) (iblk m c 0 t) (iblk m c 1 t) (iblk m c 2 t) (iblk m c 3 t)
  · rw [outsAt0_B m c t (by omega) (by omega)]
    dsimp only
    exact dx_later c (grid0.coords t) (iblk m c 0 t) (iblk m c 1 t) (iblk m c 2 t) (iblk m c 3 t) _
/-- And their rounded copy. -/
theorem outs_dr (c : Dev nD) (t : Fin cfg0.N) : (outsAt0 m c t.val t.isLt).2.1 = k0_pay7 (iblk m c 0 t) (iblk m c 1 t) (iblk m c 2 t) (iblk m c 3 t) := by
  have ht : t.val < 16 := lt_of_lt_of_eq t.isLt N_0
  by_cases h : t.val = 0
  · rw [outsAt0_A m c t (by omega) (by omega)]
    dsimp only
    exact dr_first c (grid0.coords t) (iblk m c 0 t) (iblk m c 1 t) (iblk m c 2 t) (iblk m c 3 t)
  · rw [outsAt0_B m c t (by omega) (by omega)]
    dsimp only
    exact dr_later c (grid0.coords t) (iblk m c 0 t) (iblk m c 1 t) (iblk m c 2 t) (iblk m c 3 t) _
/-- After point `n` the gain's gradient holds every row so far. -/
theorem outs_dg (c : Dev nD) (k : Fin 2048) : ∀ (n : ℕ) (hn : n < cfg0.N),
    (outsAt0 m c n hn).2.2 (ix2 0 k) = ∑ s ∈ Finset.range (n + 1), ∑ r, gainPart m c (at_ s r) k
  | 0, hn => by
    rw [outsAt0_A m c ⟨0, hn⟩ rfl (by dsimp only; omega)]
    dsimp only
    rw [dg_first c (grid0.coords ⟨0, hn⟩) (iblk m c 0 ⟨0, hn⟩) (iblk m c 1 ⟨0, hn⟩) (iblk m c 2 ⟨0, hn⟩) (iblk m c 3 ⟨0, hn⟩), pay5_at]
    simp only [row_blk, blk2]
    rw [Finset.sum_range_one]
    rfl
  | n + 1, hn => by
    have hN : n + 1 < 16 := lt_of_lt_of_eq hn N_0
    rw [outsAt0_B m c ⟨n + 1, hn⟩ (by dsimp only; omega) (by dsimp only; omega)]
    dsimp only
    rw [dg_later c (grid0.coords ⟨n + 1, hn⟩) (iblk m c 0 ⟨n + 1, hn⟩) (iblk m c 1 ⟨n + 1, hn⟩) (iblk m c 2 ⟨n + 1, hn⟩) (iblk m c 3 ⟨n + 1, hn⟩), pay1_at, pay5_at]
    simp only [row_blk, blk2]
    rw [Finset.sum_range_succ _ (n + 1)]
    exact congrArg (· + _) (outs_dg c k n (Nat.lt_of_succ_lt hn))

theorem idx4 : ∀ t : Fin grid0.N, win0_4.index t 0 = t.val ∧ win0_4.index t 1 = 0 := by decide +kernel
theorem flushed4 (c : Dev nD) (t : Fin cfg0.N) : (dats m 0 c).flushed 4 t = ((cfg0.win 4).blk t).view.read (Elt Ideal) (gradH m c) := by
  have ht : t.val < 16 := lt_of_lt_of_eq t.isLt N_0
  rw [Value.flushed4, outs_dx]
  funext y
  idx_vars y
  show k0_pay6 _ _ _ _ (ix2 y0 y1) = gradH m c ((win0_4.rect t).emb (ix2 y0 y1))
  rw [show (win0_4.rect t).emb (ix2 y0 y1) = ix2 (at_ t.val y0) y1 from funext fun a => Fin.ext (by
    rw [Pipeline.Window.rect_emb_val win0_4]
    match a with
    | ⟨0, _⟩ => show win0_4.index t 0 * 256 + y0.val = (256 * t.val + y0.val) % 4096; rw [(idx4 t).1]; omega
    | ⟨1, _⟩ => show win0_4.index t 1 * 2048 + y1.val = y1.val; rw [(idx4 t).2]; omega)]
  rw [pay6_at, row_blk, scaled_blk, blk3]
  rfl
theorem final4 (c : Dev nD) : (dats m 0 c).arrAt 4 cfg0.N = gradH m c :=
  (dats m 0 c).arrAt_eq_of_cover 4 (gradH m c) (fun t _ => flushed4 m c t)
    fun i => by
      have h0 : (i 0 : Nat) < 4096 := (i 0).isLt
      have h1 : (i 1 : Nat) < 2048 := (i 1).isLt
      refine ⟨⟨(i 0 : Nat) / 256, lt_of_lt_of_eq (by omega) N_0.symm⟩, flush0_4 _, ?_⟩
      generalize ht : (⟨(i 0 : Nat) / 256, _⟩ : Fin cfg0.N) = t
      have hv : t.val = (i 0 : Nat) / 256 := by rw [← ht]
      show i ∈ ((View.whole main_v0_0).slice (win0_4.rect t)).set
      rw [View.set_slice_whole, Rect.mem_set_unit]
      intro a
      match a with
      | ⟨0, _⟩ => show win0_4.index t 0 * 256 ≤ (i 0 : Nat) ∧ (i 0 : Nat) < win0_4.index t 0 * 256 + 256
                  rw [(idx4 t).1]; omega
      | ⟨1, _⟩ => show win0_4.index t 1 * 2048 ≤ (i 1 : Nat) ∧ (i 1 : Nat) < win0_4.index t 1 * 2048 + 2048
                  rw [(idx4 t).2]; omega

theorem idx5 : ∀ t : Fin grid0.N, win0_5.index t 0 = t.val ∧ win0_5.index t 1 = 0 := by decide +kernel
theorem flushed5 (c : Dev nD) (t : Fin cfg0.N) : (dats m 0 c).flushed 5 t = ((cfg0.win 5).blk t).view.read (Elt Ideal) (gradB m c) := by
  have ht : t.val < 16 := lt_of_lt_of_eq t.isLt N_0
  rw [Value.flushed5, outs_dr]
  funext y
  idx_vars y
  show k0_pay7 _ _ _ _ (ix2 y0 y1) = gradB m c ((win0_5.rect t).emb (ix2 y0 y1))
  rw [show (win0_5.rect t).emb (ix2 y0 y1) = ix2 (at_ t.val y0) y1 from funext fun a => Fin.ext (by
    rw [Pipeline.Window.rect_emb_val win0_5]
    match a with
    | ⟨0, _⟩ => show win0_5.index t 0 * 256 + y0.val = (256 * t.val + y0.val) % 4096; rw [(idx5 t).1]; omega
    | ⟨1, _⟩ => show win0_5.index t 1 * 2048 + y1.val = y1.val; rw [(idx5 t).2]; omega)]
  rw [pay7_at, row_blk, scaled_blk, blk3]
  rfl
theorem final5 (c : Dev nD) : (dats m 0 c).arrAt 5 cfg0.N = gradB m c :=
  (dats m 0 c).arrAt_eq_of_cover 5 (gradB m c) (fun t _ => flushed5 m c t)
    fun i => by
      have h0 : (i 0 : Nat) < 4096 := (i 0).isLt
      have h1 : (i 1 : Nat) < 2048 := (i 1).isLt
      refine ⟨⟨(i 0 : Nat) / 256, lt_of_lt_of_eq (by omega) N_0.symm⟩, flush0_5 _, ?_⟩
      generalize ht : (⟨(i 0 : Nat) / 256, _⟩ : Fin cfg0.N) = t
      have hv : t.val = (i 0 : Nat) / 256 := by rw [← ht]
      show i ∈ ((View.whole main_v0_1).slice (win0_5.rect t)).set
      rw [View.set_slice_whole, Rect.mem_set_unit]
      intro a
      match a with
      | ⟨0, _⟩ => show win0_5.index t 0 * 256 ≤ (i 0 : Nat) ∧ (i 0 : Nat) < win0_5.index t 0 * 256 + 256
                  rw [(idx5 t).1]; omega
      | ⟨1, _⟩ => show win0_5.index t 1 * 2048 ≤ (i 1 : Nat) ∧ (i 1 : Nat) < win0_5.index t 1 * 2048 + 2048
                  rw [(idx5 t).2]; omega

theorem idx6 : ∀ t : Fin grid0.N, win0_6.index t 0 = 0 ∧ win0_6.index t 1 = 0 := by decide +kernel
theorem flushed6 (c : Dev nD) (t : Fin cfg0.N) (h : t.val = 15) :
    (dats m 0 c).flushed 6 t = ((cfg0.win 6).blk t).view.read (Elt Ideal) (gradG m c) := by
  rw [Value.flushed6]
  funext y
  idx_vars y
  show (outsAt0 m c t.val t.isLt).2.2 (ix2 y0 y1) = gradG m c ((win0_6.rect t).emb (ix2 y0 y1))
  rw [show (win0_6.rect t).emb (ix2 y0 y1) = ix2 y0 y1 from funext fun a => Fin.ext (by
    rw [Pipeline.Window.rect_emb_val win0_6]
    match a with
    | ⟨0, _⟩ => show win0_6.index t 0 * 1 + y0.val = y0.val; rw [(idx6 t).1]; omega
    | ⟨1, _⟩ => show win0_6.index t 1 * 2048 + y1.val = y1.val; rw [(idx6 t).2]; omega)]
  obtain rfl : y0 = 0 := Subsingleton.elim _ _
  rw [outs_dg m c y1 t.val t.isLt, h]
  exact sum_rows fun R => gainPart m c R y1
theorem final6 (c : Dev nD) : (dats m 0 c).arrAt 6 cfg0.N = gradG m c :=
  (dats m 0 c).arrAt_eq_of_cover 6 (gradG m c) (fun t h => flushed6 m c t (by
    have ht : t.val < 16 := lt_of_lt_of_eq t.isLt N_0
    have := (flush0_6 t).mp h
    omega)) fun i => by
      have h0 : (i 0 : Nat) < 1 := (i 0).isLt
      have h1 : (i 1 : Nat) < 2048 := (i 1).isLt
      refine ⟨⟨15, lt_of_lt_of_eq (by decide) N_0.symm⟩, (flush0_6 _).mpr rfl, ?_⟩
      generalize (⟨15, _⟩ : Fin cfg0.N) = t
      show i ∈ ((View.whole main_v0_2).slice (win0_6.rect t)).set
      rw [View.set_slice_whole, Rect.mem_set_unit]
      intro a
      match a with
      | ⟨0, _⟩ => show win0_6.index t 0 * 1 ≤ (i 0 : Nat) ∧ (i 0 : Nat) < win0_6.index t 0 * 1 + 1
                  rw [(idx6 t).1]; omega
      | ⟨1, _⟩ => show win0_6.index t 1 * 2048 ≤ (i 1 : Nat) ∧ (i 1 : Nat) < win0_6.index t 1 * 2048 + 2048
                  rw [(idx6 t).2]; omega

/-! ## The reference's results are these -/

open Cert.RmsBwdRefIdeal.Read

theorem gradH_eq (c : Dev nD) : val_main_v35 (F := Ideal) (strm m c) (gain m c) (dn m c) (resid m c) = gradH m c := by
  funext i
  idx_vars i
  exact (Cert.GradXRefIdeal.Hand.v35_at (strm m c) (resid m c) (gain m c) (dn m c) i0 i1).trans (congrArg (· + _) (grad_eq _ _ _).symm)
theorem gradB_eq (c : Dev nD) : val_main_v36 (F := Ideal) (strm m c) (gain m c) (dn m c) (resid m c) = gradB m c :=
  (show val_main_v36 (F := Ideal) _ _ _ _ = val_main_v35 (F := Ideal) _ _ _ _ from rfl).trans (gradH_eq m c)
theorem gradG_eq (c : Dev nD) : val_main_v18 (F := Ideal) (strm m c) (dn m c) = gradG m c := by
  funext i
  idx_vars i
  obtain rfl : i0 = 0 := Subsingleton.elim _ _
  exact Cert.GradXRefIdeal.Hand.v18_at (strm m c) (dn m c) i1

end Cert.RmsBwdIdeal.Hand

namespace Cert.Proof

open Idealize.ShloMosaic Idealize.SL.Sem Cert.RmsBwdIdeal.Hand

theorem RmsBwd_frame : Cert.quiescent_RmsBwd := fun m g _ => Cert.RmsBwd.Gen.frame m g
theorem RmsBwd_frame_ideal : Cert.quiescent_RmsBwdIdeal := fun m g _ => Cert.RmsBwdIdeal.Gen.frame m g
theorem RmsBwd_frame_ref : Cert.quiescent_RmsBwdRefIdeal := fun m g _ =>
  (θ_run Cert.RmsBwdRefIdeal.defs _ _).mono (fun r h => ⟨fun c => (h c).2.2.2, sem_eq_zero_of_no_sems (by decide) r.2⟩)
    (Cert.RmsBwdRefIdeal.Value.run (F := Ideal) m g)

/-- The kernel's three results are the reference's. -/
theorem RmsBwd_equal : Cert.algebraic_RmsBwdIdeal_RmsBwdRefIdeal := by
  intro m g m' g' _ hargs
  refine ⟨gradH m, gradB m, gradG m, ?_, ?_⟩
  · refine (θ_run Cert.RmsBwdIdeal.defs _ _).mono ?_ (Cert.RmsBwdIdeal.Value.run_blocks m g)
    intro r h c
    obtain ⟨h0, h1, h2, ha⟩ := h c
    exact ⟨h0.trans (final4 m c), h1.trans (final5 m c), h2.trans (final6 m c), ha⟩
  · refine (θ_run Cert.RmsBwdRefIdeal.defs _ _).mono ?_ (Cert.RmsBwdRefIdeal.Value.run (F := Ideal) m' g')
    intro r h c
    obtain ⟨h0, h1, h2, ha⟩ := h c
    obtain ⟨e0, e1, e2, e3⟩ := hargs c
    refine ⟨?_, ?_, ?_, ha⟩
    · refine (h0.trans (Cert.RmsBwdRefIdeal.Read.val_main_v35_eq _ _ _ _)).trans (Eq.trans ?_ (gradH_eq m c))
      rw [e0, e1, e2, e3]; rfl
    · refine (h1.trans (Cert.RmsBwdRefIdeal.Read.val_main_v36_eq _ _ _ _)).trans (Eq.trans ?_ (gradB_eq m c))
      rw [e0, e1, e2, e3]; rfl
    · refine (h2.trans (Cert.RmsBwdRefIdeal.Read.val_main_v18_eq _ _)).trans (Eq.trans ?_ (gradG_eq m c))
      rw [e0, e2]; rfl

end Cert.Proof

end
-- ==== Proof.Norm.Forward.lean ====
/- The RMS normalisation: the kernel's rows are the reference's. -/
module

public import proofs.«01_k».proof.Defs
public import proofs.«01_k».proof.Proof.Norm.Row
public import proofs.«01_k».proof.Proof.Gen.RmsFwdIdeal.Value
public import proofs.«01_k».proof.Proof.Gen.RmsFwd.Frame
public import proofs.«01_k».proof.Proof.Gen.RmsFwdRefIdeal.Read

@[expose] public section

set_option maxRecDepth 16384

noncomputable section

namespace Cert.RmsFwdIdeal.Hand

open Cert.RmsFwdIdeal Cert.RmsFwdIdeal.Gen Cert.Norm Idealize.ShloMosaic Idealize.ShloMosaic.TcCoe Idealize.SL.Sem

theorem origin : (![0, 0] : Fin 2 → Nat) = fun _ => 0 := by decide

/-- Row `R` of an array of rows. -/
def hrow {n : ℕ} (x : (⟨2, ![n, 2048]⟩ : Shape).Idx → EReal) (R : Fin n) : Row := fun k => x (ix2 R k)

/-- The body's block, entry by entry. -/
theorem out2_at (x : Vec Ideal S512x2048 .f32) (g : Vec Ideal S1x2048 .f32) (r : Fin 512) (k : Fin 2048) :
    out0_2 x g (ix2 r k) = hrow x r k * scale (hrow x r) * g (ix2 0 k) := by
  unfold out0_2
  rw [show View.ld x r0_0 = x from View.ld_unit_zero (S := S512x2048) origin _ x, show View.ld g r0_1 = g from View.ld_unit_zero (S := S1x2048) origin _ g]
  refine (congrFun (View.canon_unit_zero (S := S512x2048) origin _ _) _).trans ?_
  pointwise [k0_pay1]
  rfl

/-! ## The result array -/

variable (m : (ℓ : Loc nD τ sig) → Buf (Elt Ideal) ℓ)

/-- Row `r` of block `t`. -/
def at_ (t : ℕ) (r : Fin 512) : Fin 4096 := ⟨(512 * t + r.val) % 4096, Nat.mod_lt _ (by decide)⟩

theorem idx0 : ∀ t : Fin grid0.N, win0_0.index t 0 = t.val ∧ win0_0.index t 1 = 0 := by decide +kernel
theorem blk0 (c : Dev nD) (t : Fin cfg0.N) (r : Fin 512) (k : Fin 2048) :
    iblk m c 0 t (ix2 r k) = m ((c : Thread nD τ).loc main_arg0) (ix2 (at_ t.val r) k) := by
  have ht : t.val < 8 := lt_of_lt_of_eq t.isLt N_0
  show V m c main_arg0 ((win0_0.rect t).emb (ix2 r k)) = _
  rw [V_main_arg0]
  refine congrArg (m ((c : Thread nD τ).loc main_arg0)) (funext fun a => Fin.ext ?_)
  rw [Pipeline.Window.rect_emb_val win0_0]
  match a with
  | ⟨0, _⟩ => show win0_0.index t 0 * 512 + r.val = (512 * t.val + r.val) % 4096; rw [(idx0 t).1]; omega
  | ⟨1, _⟩ => show win0_0.index t 1 * 2048 + k.val = k.val; rw [(idx0 t).2]; omega
theorem idx1 : ∀ t : Fin grid0.N, win0_1.index t 0 = 0 ∧ win0_1.index t 1 = 0 := by decide +kernel
theorem blk1 (c : Dev nD) (t : Fin cfg0.N) (k : Fin 2048) : iblk m c 1 t (ix2 0 k) = m ((c : Thread nD τ).loc main_arg1) (ix2 0 k) := by
  show V m c main_arg1 ((win0_1.rect t).emb (ix2 0 k)) = _
  rw [V_main_arg1]
  refine congrArg (m ((c : Thread nD τ).loc main_arg1)) (funext fun a => Fin.ext ?_)
  rw [Pipeline.Window.rect_emb_val win0_1]
  match a with
  | ⟨0, _⟩ => show win0_1.index t 0 * 1 + 0 = 0; rw [(idx1 t).1]
  | ⟨1, _⟩ => show win0_1.index t 1 * 2048 + k.val = k.val; rw [(idx1 t).2]; omega

/-- The normalised stream. -/
def strm (c : Dev nD) : FVec Ideal S4096x2048 .f32 := m ((c : Thread nD τ).loc main_arg0)
def gain (c : Dev nD) : FVec Ideal S1x2048 .f32 := m ((c : Thread nD τ).loc main_arg1)
def normed (c : Dev nD) : FVec Ideal S4096x2048 .bf16 := fun i =>
  hrow (strm m c) (i 0) (i 1) * scale (hrow (strm m c) (i 0)) * gain m c (ix2 0 (i 1))

theorem row_blk (c : Dev nD) (t : Fin cfg0.N) (r : Fin 512) : hrow (iblk m c 0 t) r = hrow (strm m c) (at_ t.val r) := funext fun k => blk0 m c t r k

theorem idx2 : ∀ t : Fin grid0.N, win0_2.index t 0 = t.val ∧ win0_2.index t 1 = 0 := by decide +kernel
theorem flushed2 (c : Dev nD) (t : Fin cfg0.N) : (dats m 0 c).flushed 2 t = ((cfg0.win 2).blk t).view.read (Elt Ideal) (normed m c) := by
  have ht : t.val < 8 := lt_of_lt_of_eq t.isLt N_0
  rw [Value.flushed2]
  funext y
  idx_vars y
  show out0_2 (F := Ideal) _ _ (ix2 y0 y1) = normed m c ((win0_2.rect t).emb (ix2 y0 y1))
  rw [show (win0_2.rect t).emb (ix2 y0 y1) = ix2 (at_ t.val y0) y1 from funext fun a => Fin.ext (by
    rw [Pipeline.Window.rect_emb_val win0_2]
    match a with
    | ⟨0, _⟩ => show win0_2.index t 0 * 512 + y0.val = (512 * t.val + y0.val) % 4096; rw [(idx2 t).1]; omega
    | ⟨1, _⟩ => show win0_2.index t 1 * 2048 + y1.val = y1.val; rw [(idx2 t).2]; omega)]
  rw [out2_at, row_blk, blk1]
  rfl
theorem final2 (c : Dev nD) : (dats m 0 c).arrAt 2 cfg0.N = normed m c :=
  (dats m 0 c).arrAt_eq_of_cover 2 (normed m c) (fun t _ => flushed2 m c t)
    fun i => by
      have h0 : (i 0 : Nat) < 4096 := (i 0).isLt
      have h1 : (i 1 : Nat) < 2048 := (i 1).isLt
      refine ⟨⟨(i 0 : Nat) / 512, lt_of_lt_of_eq (by omega) N_0.symm⟩, flush0_2 _, ?_⟩
      generalize ht : (⟨(i 0 : Nat) / 512, _⟩ : Fin cfg0.N) = t
      have hv : t.val = (i 0 : Nat) / 512 := by rw [← ht]
      show i ∈ ((View.whole main_v0).slice (win0_2.rect t)).set
      rw [View.set_slice_whole, Rect.mem_set_unit]
      intro a
      match a with
      | ⟨0, _⟩ => show win0_2.index t 0 * 512 ≤ (i 0 : Nat) ∧ (i 0 : Nat) < win0_2.index t 0 * 512 + 512
                  rw [(idx2 t).1]; omega
      | ⟨1, _⟩ => show win0_2.index t 1 * 2048 ≤ (i 1 : Nat) ∧ (i 1 : Nat) < win0_2.index t 1 * 2048 + 2048
                  rw [(idx2 t).2]; omega

open Cert.RmsFwdRefIdeal.Read in
/-- The reference's array is this one. -/
theorem normed_eq (c : Dev nD) : val_main_v12 (F := Ideal) (strm m c) (gain m c) = normed m c := by
  funext i
  idx_vars i
  pointwise [val_main_v12, val_main_v11, val_main_v10, val_main_v9, val_main_v8, val_main_v7, val_main_v6, val_main_v5, val_main_v4, val_main_v3, val_main_v2,
    val_main_v1, val_main_v0, val_main_cst, val_main_cst_0, val_main_cst_1]
  rfl

end Cert.RmsFwdIdeal.Hand

namespace Cert.Proof

open Idealize.ShloMosaic Idealize.SL.Sem Cert.RmsFwdIdeal.Hand

theorem RmsFwd_frame : Cert.quiescent_RmsFwd := fun m g _ => Cert.RmsFwd.Gen.frame m g
theorem RmsFwd_frame_ideal : Cert.quiescent_RmsFwdIdeal := fun m g _ => Cert.RmsFwdIdeal.Gen.frame m g
theorem RmsFwd_frame_ref : Cert.quiescent_RmsFwdRefIdeal := fun m g _ =>
  (θ_run Cert.RmsFwdRefIdeal.defs _ _).mono (fun r h => ⟨fun c => (h c).2, sem_eq_zero_of_no_sems (by decide) r.2⟩)
    (Cert.RmsFwdRefIdeal.Value.run (F := Ideal) m g)

/-- The normalised stream is the reference's. -/
theorem RmsFwd_equal : Cert.algebraic_RmsFwdIdeal_RmsFwdRefIdeal := by
  intro m g m' g' _ hargs
  refine ⟨normed m, ?_, ?_⟩
  · refine (θ_run Cert.RmsFwdIdeal.defs _ _).mono ?_ (Cert.RmsFwdIdeal.Value.run_blocks m g)
    intro r h c
    obtain ⟨h0, ha⟩ := h c
    exact ⟨h0.trans (final2 m c), ha⟩
  · refine (θ_run Cert.RmsFwdRefIdeal.defs _ _).mono ?_ (Cert.RmsFwdRefIdeal.Value.run (F := Ideal) m' g')
    intro r h c
    obtain ⟨h0, ha⟩ := h c
    obtain ⟨e0, e1⟩ := hargs c
    refine ⟨?_, ha⟩
    refine (h0.trans (Cert.RmsFwdRefIdeal.Read.val_main_v12_eq _ _)).trans (Eq.trans ?_ (normed_eq m c))
    rw [e0, e1]; rfl

end Cert.Proof

end
-- ==== Proof.Adam.Step.lean ====
/- One AdamW step of one number. -/
module

public import proofs.«01_k».proof.Proof.Even.Row

@[expose] public section

noncomputable section

namespace Cert.Adam

open Idealize.ShloMosaic

/-- The sum over four parts. -/
def sum4 (a b c d : EReal) : EReal := a + b + c + d

/-- The moments after a step with the gradient `g`. -/
def mom (g m : EReal) : EReal := Ideal.ofBits FTy.f32 0x3F666666#32 * m + Ideal.ofBits FTy.f32 0x3DCCCCCD#32 * g
def vel (g v : EReal) : EReal := Ideal.ofBits FTy.f32 0x3F7FBE77#32 * v + Ideal.ofBits FTy.f32 0x3A83126F#32 * (g * g)
/-- What the step adds to the weight `w`, from the moments after it. -/
def upd (w m v : EReal) : EReal :=
  Ideal.ofBits FTy.f32 0xBA83126F#32 * (Ideal.div (Ideal.div m (Ideal.ofBits FTy.f32 0x3F26BD02#32))
    (Ideal.sqrt (Ideal.div v (Ideal.ofBits FTy.f32 0x3C231ACC#32)) + Ideal.ofBits FTy.f32 0x322BCC77#32) + Ideal.ofBits FTy.f32 0x3C23D70A#32 * w)

end Cert.Adam

end
-- ==== Proof.Adam.InE.lean ====
/- The even mixer's input map: the parts' sum and the AdamW step. -/
module

public import proofs.«01_k».proof.Defs
public import proofs.«01_k».proof.Proof.Adam.Step
public import proofs.«01_k».proof.Proof.Gen.AdamInEIdeal.Value
public import proofs.«01_k».proof.Proof.Gen.AdamInE.Frame
public import proofs.«01_k».proof.Proof.Gen.AdamInERefIdeal.Read

@[expose] public section

set_option maxRecDepth 16384

noncomputable section

namespace Cert.AdamInEIdeal.Hand

open Cert.AdamInEIdeal Cert.AdamInEIdeal.Gen Cert.Adam Idealize.ShloMosaic Idealize.ShloMosaic.TcCoe Idealize.SL.Sem

/-! ## What the body computes on one block of rows -/

theorem origin : (![0, 0, 0] : Fin 3 → Nat) = fun _ => 0 := by decide

variable (p : Vec Ideal S4x512x384 .bf16) (w a b : Vec Ideal S1x512x384 .f32)

/-- The sum of the four parts. -/
def grad (r : Fin 512) (k : Fin 384) : EReal := sum4 (p (ix3 0 r k)) (p (ix3 1 r k)) (p (ix3 2 r k)) (p (ix3 3 r k))

theorem part0 (r : Fin 512) (k : Fin 384) : View.ld p r0_0 (ix3 0 r k) = p (ix3 0 r k) := by
  refine congrArg p (funext fun i => Fin.ext ?_)
  match i with
  | ⟨0, _⟩ => rfl
  | ⟨1, _⟩ => exact (Nat.zero_add _).trans (Nat.one_mul _)
  | ⟨2, _⟩ => exact (Nat.zero_add _).trans (Nat.one_mul _)
theorem part1 (r : Fin 512) (k : Fin 384) : View.ld p r0_1 (ix3 0 r k) = p (ix3 1 r k) := by
  refine congrArg p (funext fun i => Fin.ext ?_)
  match i with
  | ⟨0, _⟩ => rfl
  | ⟨1, _⟩ => exact (Nat.zero_add _).trans (Nat.one_mul _)
  | ⟨2, _⟩ => exact (Nat.zero_add _).trans (Nat.one_mul _)
theorem part2 (r : Fin 512) (k : Fin 384) : View.ld p r0_2 (ix3 0 r k) = p (ix3 2 r k) := by
  refine congrArg p (funext fun i => Fin.ext ?_)
  match i with
  | ⟨0, _⟩ => rfl
  | ⟨1, _⟩ => exact (Nat.zero_add _).trans (Nat.one_mul _)
  | ⟨2, _⟩ => exact (Nat.zero_add _).trans (Nat.one_mul _)
theorem part3 (r : Fin 512) (k : Fin 384) : View.ld p r0_3 (ix3 0 r k) = p (ix3 3 r k) := by
  refine congrArg p (funext fun i => Fin.ext ?_)
  match i with
  | ⟨0, _⟩ => rfl
  | ⟨1, _⟩ => exact (Nat.zero_add _).trans (Nat.one_mul _)
  | ⟨2, _⟩ => exact (Nat.zero_add _).trans (Nat.one_mul _)
theorem whole (x : Vec Ideal S1x512x384 .f32) : View.ld x r0_4 = x := View.ld_unit_zero (S := S1x512x384) origin _ x

theorem pay5_at (r : Fin 512) (k : Fin 384) : k0_pay5 (View.ld p r0_0) (View.ld p r0_1) (View.ld p r0_2) (View.ld p r0_3) (ix2 r k) = grad p r k := by
  pointwise [k0_pay5, part0, part1, part2, part3]
  rfl
theorem pay10_at (r : Fin 512) (k : Fin 384) : k0_pay10 p w a b (ix2 r k) = mom (grad p r k) (a (ix3 0 r k)) := by
  unfold k0_pay10
  rw [whole]
  pointwise [k0_pay7, pay5_at]
  rfl
theorem pay11_at (r : Fin 512) (k : Fin 384) : k0_pay11 p w a b (ix2 r k) = vel (grad p r k) (b (ix3 0 r k)) := by
  unfold k0_pay11
  rw [whole]
  pointwise [k0_pay8, pay5_at]
  rfl
theorem out4_at (r : Fin 512) (k : Fin 384) : out0_4 p w a b (ix3 0 r k) = grad p r k := by
  unfold out0_4
  refine (congrFun (View.canon_unit_zero (S := S1x512x384) origin _ _) _).trans ?_
  pointwise [k0_pay1, pay5_at]
theorem out6_at (r : Fin 512) (k : Fin 384) : out0_6 p w a b (ix3 0 r k) = mom (grad p r k) (a (ix3 0 r k)) := by
  unfold out0_6
  refine (congrFun (View.canon_unit_zero (S := S1x512x384) origin _ _) _).trans ?_
  pointwise [k0_pay3, pay10_at]
theorem out7_at (r : Fin 512) (k : Fin 384) : out0_7 p w a b (ix3 0 r k) = vel (grad p r k) (b (ix3 0 r k)) := by
  unfold out0_7
  refine (congrFun (View.canon_unit_zero (S := S1x512x384) origin _ _) _).trans ?_
  pointwise [k0_pay4, pay11_at]
theorem out5_at (r : Fin 512) (k : Fin 384) : out0_5 p w a b (ix3 0 r k)
    = upd (w (ix3 0 r k)) (mom (grad p r k) (a (ix3 0 r k))) (vel (grad p r k) (b (ix3 0 r k))) := by
  unfold out0_5
  rw [whole]
  refine (congrFun (View.canon_unit_zero (S := S1x512x384) origin _ _) _).trans ?_
  pointwise [k0_pay2, k0_pay6, k0_pay9, pay10_at, pay11_at]
  rfl

/-! ## The blocks, in the argument arrays -/

variable (m : (ℓ : Loc nD τ sig) → Buf (Elt Ideal) ℓ)

/-- Row `r` of block `t`. -/
def at_ (t : ℕ) (r : Fin 512) : Fin 2048 := ⟨(512 * t + r.val) % 2048, Nat.mod_lt _ (by decide)⟩

theorem idx0 : ∀ t : Fin grid0.N, win0_0.index t 0 = 0 ∧ win0_0.index t 1 = t.val ∧ win0_0.index t 2 = 0 := by decide +kernel
theorem blk0 (c : Dev nD) (t : Fin cfg0.N) (j : Fin 4) (r : Fin 512) (k : Fin 384) :
    iblk m c 0 t (ix3 j r k) = m ((c : Thread nD τ).loc main_arg0) (ix3 j (at_ t.val r) k) := by
  have ht : t.val < 4 := lt_of_lt_of_eq t.isLt N_0
  show V m c main_arg0 ((win0_0.rect t).emb (ix3 j r k)) = _
  rw [V_main_arg0]
  refine congrArg (m ((c : Thread nD τ).loc main_arg0)) (funext fun a => Fin.ext ?_)
  rw [Pipeline.Window.rect_emb_val win0_0]
  match a with
  | ⟨0, _⟩ => show win0_0.index t 0 * 4 + j.val = j.val; rw [(idx0 t).1]; omega
  | ⟨1, _⟩ => show win0_0.index t 1 * 512 + r.val = (512 * t.val + r.val) % 2048; rw [(idx0 t).2.1]; omega
  | ⟨2, _⟩ => show win0_0.index t 2 * 384 + k.val = k.val; rw [(idx0 t).2.2]; omega
theorem idx1 : ∀ t : Fin grid0.N, win0_1.index t 0 = 0 ∧ win0_1.index t 1 = t.val ∧ win0_1.index t 2 = 0 := by decide +kernel
theorem blk1 (c : Dev nD) (t : Fin cfg0.N) (j : Fin 1) (r : Fin 512) (k : Fin 384) :
    iblk m c 1 t (ix3 j r k) = m ((c : Thread nD τ).loc main_arg1) (ix3 j (at_ t.val r) k) := by
  have ht : t.val < 4 := lt_of_lt_of_eq t.isLt N_0
  show V m c main_arg1 ((win0_1.rect t).emb (ix3 j r k)) = _
  rw [V_main_arg1]
  refine congrArg (m ((c : Thread nD τ).loc main_arg1)) (funext fun a => Fin.ext ?_)
  rw [Pipeline.Window.rect_emb_val win0_1]
  match a with
  | ⟨0, _⟩ => show win0_1.index t 0 * 1 + j.val = j.val; rw [(idx1 t).1]; omega
  | ⟨1, _⟩ => show win0_1.index t 1 * 512 + r.val = (512 * t.val + r.val) % 2048; rw [(idx1 t).2.1]; omega
  | ⟨2, _⟩ => show win0_1.index t 2 * 384 + k.val = k.val; rw [(idx1 t).2.2]; omega
theorem idx2 : ∀ t : Fin grid0.N, win0_2.index t 0 = 0 ∧ win0_2.index t 1 = t.val ∧ win0_2.index t 2 = 0 := by decide +kernel
theorem blk2 (c : Dev nD) (t : Fin cfg0.N) (j : Fin 1) (r : Fin 512) (k : Fin 384) :
    iblk m c 2 t (ix3 j r k) = m ((c : Thread nD τ).loc main_arg2) (ix3 j (at_ t.val r) k) := by
  have ht : t.val < 4 := lt_of_lt_of_eq t.isLt N_0
  show V m c main_arg2 ((win0_2.rect t).emb (ix3 j r k)) = _
  rw [V_main_arg2]
  refine congrArg (m ((c : Thread nD τ).loc main_arg2)) (funext fun a => Fin.ext ?_)
  rw [Pipeline.Window.rect_emb_val win0_2]
  match a with
  | ⟨0, _⟩ => show win0_2.index t 0 * 1 + j.val = j.val; rw [(idx2 t).1]; omega
  | ⟨1, _⟩ => show win0_2.index t 1 * 512 + r.val = (512 * t.val + r.val) % 2048; rw [(idx2 t).2.1]; omega
  | ⟨2, _⟩ => show win0_2.index t 2 * 384 + k.val = k.val; rw [(idx2 t).2.2]; omega
theorem idx3 : ∀ t : Fin grid0.N, win0_3.index t 0 = 0 ∧ win0_3.index t 1 = t.val ∧ win0_3.index t 2 = 0 := by decide +kernel
theorem blk3 (c : Dev nD) (t : Fin cfg0.N) (j : Fin 1) (r : Fin 512) (k : Fin 384) :
    iblk m c 3 t (ix3 j r k) = m ((c : Thread nD τ).loc main_arg3) (ix3 j (at_ t.val r) k) := by
  have ht : t.val < 4 := lt_of_lt_of_eq t.isLt N_0
  show V m c main_arg3 ((win0_3.rect t).emb (ix3 j r k)) = _
  rw [V_main_arg3]
  refine congrArg (m ((c : Thread nD τ).loc main_arg3)) (funext fun a => Fin.ext ?_)
  rw [Pipeline.Window.rect_emb_val win0_3]
  match a with
  | ⟨0, _⟩ => show win0_3.index t 0 * 1 + j.val = j.val; rw [(idx3 t).1]; omega
  | ⟨1, _⟩ => show win0_3.index t 1 * 512 + r.val = (512 * t.val + r.val) % 2048; rw [(idx3 t).2.1]; omega
  | ⟨2, _⟩ => show win0_3.index t 2 * 384 + k.val = k.val; rw [(idx3 t).2.2]; omega

/-! ## The result arrays -/

/-- The gradient, the moments and the update, entry by entry. -/
def gradAt (c : Dev nD) (r : Fin 2048) (k : Fin 384) : EReal :=
  sum4 (m ((c : Thread nD τ).loc main_arg0) (ix3 0 r k)) (m ((c : Thread nD τ).loc main_arg0) (ix3 1 r k))
    (m ((c : Thread nD τ).loc main_arg0) (ix3 2 r k)) (m ((c : Thread nD τ).loc main_arg0) (ix3 3 r k))
def final4 (c : Dev nD) : FVec Ideal S1x2048x384 .f32 := fun i => gradAt m c (i 1) (i 2)
def final6 (c : Dev nD) : FVec Ideal S1x2048x384 .f32 := fun i => mom (gradAt m c (i 1) (i 2)) (m ((c : Thread nD τ).loc main_arg2) (ix3 0 (i 1) (i 2)))
def final7 (c : Dev nD) : FVec Ideal S1x2048x384 .f32 := fun i => vel (gradAt m c (i 1) (i 2)) (m ((c : Thread nD τ).loc main_arg3) (ix3 0 (i 1) (i 2)))
def final5 (c : Dev nD) : FVec Ideal S1x2048x384 .f32 := fun i =>
  upd (m ((c : Thread nD τ).loc main_arg1) (ix3 0 (i 1) (i 2))) (final6 m c (ix3 0 (i 1) (i 2))) (final7 m c (ix3 0 (i 1) (i 2)))

theorem grad_blk (c : Dev nD) (t : Fin cfg0.N) (r : Fin 512) (k : Fin 384) : grad (iblk m c 0 t) r k = gradAt m c (at_ t.val r) k := by
  unfold grad
  rw [blk0, blk0, blk0, blk0]
  rfl

theorem idx4 : ∀ t : Fin grid0.N, win0_4.index t 0 = 0 ∧ win0_4.index t 1 = t.val ∧ win0_4.index t 2 = 0 := by decide +kernel
theorem flushed4 (c : Dev nD) (t : Fin cfg0.N) : (dats m 0 c).flushed 4 t = ((cfg0.win 4).blk t).view.read (Elt Ideal) (final4 m c) := by
  have ht : t.val < 4 := lt_of_lt_of_eq t.isLt N_0
  rw [Value.flushed4]
  funext y
  idx_vars y
  show out0_4 (F := Ideal) _ _ _ _ (ix3 y0 y1 y2) = final4 m c ((win0_4.rect t).emb (ix3 y0 y1 y2))
  rw [show (win0_4.rect t).emb (ix3 y0 y1 y2) = ix3 y0 (at_ t.val y1) y2 from funext fun a => Fin.ext (by
    rw [Pipeline.Window.rect_emb_val win0_4]
    match a with
    | ⟨0, _⟩ => show win0_4.index t 0 * 1 + y0.val = y0.val; rw [(idx4 t).1]; omega
    | ⟨1, _⟩ => show win0_4.index t 1 * 512 + y1.val = (512 * t.val + y1.val) % 2048; rw [(idx4 t).2.1]; omega
    | ⟨2, _⟩ => show win0_4.index t 2 * 384 + y2.val = y2.val; rw [(idx4 t).2.2]; omega)]
  obtain rfl : y0 = 0 := Subsingleton.elim _ _
  rw [out4_at, grad_blk]
  rfl
theorem arr4 (c : Dev nD) : (dats m 0 c).arrAt 4 cfg0.N = final4 m c :=
  (dats m 0 c).arrAt_eq_of_cover 4 (final4 m c) (fun t _ => flushed4 m c t)
    fun i => by
      have h0 : (i 0 : Nat) < 1 := (i 0).isLt
      have h1 : (i 1 : Nat) < 2048 := (i 1).isLt
      have h2 : (i 2 : Nat) < 384 := (i 2).isLt
      refine ⟨⟨(i 1 : Nat) / 512, lt_of_lt_of_eq (by omega) N_0.symm⟩, flush0_4 _, ?_⟩
      generalize ht : (⟨(i 1 : Nat) / 512, _⟩ : Fin cfg0.N) = t
      have hv : t.val = (i 1 : Nat) / 512 := by rw [← ht]
      show i ∈ ((View.whole main_v0_0).slice (win0_4.rect t)).set
      rw [View.set_slice_whole, Rect.mem_set_unit]
      intro a
      match a with
      | ⟨0, _⟩ => show win0_4.index t 0 * 1 ≤ (i 0 : Nat) ∧ (i 0 : Nat) < win0_4.index t 0 * 1 + 1
                  rw [(idx4 t).1]; omega
      | ⟨1, _⟩ => show win0_4.index t 1 * 512 ≤ (i 1 : Nat) ∧ (i 1 : Nat) < win0_4.index t 1 * 512 + 512
                  rw [(idx4 t).2.1]; omega
      | ⟨2, _⟩ => show win0_4.index t 2 * 384 ≤ (i 2 : Nat) ∧ (i 2 : Nat) < win0_4.index t 2 * 384 + 384
                  rw [(idx4 t).2.2]; omega

theorem idx5 : ∀ t : Fin grid0.N, win0_5.index t 0 = 0 ∧ win0_5.index t 1 = t.val ∧ win0_5.index t 2 = 0 := by decide +kernel
theorem flushed5 (c : Dev nD) (t : Fin cfg0.N) : (dats m 0 c).flushed 5 t = ((cfg0.win 5).blk t).view.read (Elt Ideal) (final5 m c) := by
  have ht : t.val < 4 := lt_of_lt_of_eq t.isLt N_0
  rw [Value.flushed5]
  funext y
  idx_vars y
  show out0_5 (F := Ideal) _ _ _ _ (ix3 y0 y1 y2) = final5 m c ((win0_5.rect t).emb (ix3 y0 y1 y2))
  rw [show (win0_5.rect t).emb (ix3 y0 y1 y2) = ix3 y0 (at_ t.val y1) y2 from funext fun a => Fin.ext (by
    rw [Pipeline.Window.rect_emb_val win0_5]
    match a with
    | ⟨0, _⟩ => show win0_5.index t 0 * 1 + y0.val = y0.val; rw [(idx5 t).1]; omega
    | ⟨1, _⟩ => show win0_5.index t 1 * 512 + y1.val = (512 * t.val + y1.val) % 2048; rw [(idx5 t).2.1]; omega
    | ⟨2, _⟩ => show win0_5.index t 2 * 384 + y2.val = y2.val; rw [(idx5 t).2.2]; omega)]
  obtain rfl : y0 = 0 := Subsingleton.elim _ _
  rw [out5_at, grad_blk, blk1, blk2, blk3]
  rfl
theorem arr5 (c : Dev nD) : (dats m 0 c).arrAt 5 cfg0.N = final5 m c :=
  (dats m 0 c).arrAt_eq_of_cover 5 (final5 m c) (fun t _ => flushed5 m c t)
    fun i => by
      have h0 : (i 0 : Nat) < 1 := (i 0).isLt
      have h1 : (i 1 : Nat) < 2048 := (i 1).isLt
      have h2 : (i 2 : Nat) < 384 := (i 2).isLt
      refine ⟨⟨(i 1 : Nat) / 512, lt_of_lt_of_eq (by omega) N_0.symm⟩, flush0_5 _, ?_⟩
      generalize ht : (⟨(i 1 : Nat) / 512, _⟩ : Fin cfg0.N) = t
      have hv : t.val = (i 1 : Nat) / 512 := by rw [← ht]
      show i ∈ ((View.whole main_v0_1).slice (win0_5.rect t)).set
      rw [View.set_slice_whole, Rect.mem_set_unit]
      intro a
      match a with
      | ⟨0, _⟩ => show win0_5.index t 0 * 1 ≤ (i 0 : Nat) ∧ (i 0 : Nat) < win0_5.index t 0 * 1 + 1
                  rw [(idx5 t).1]; omega
      | ⟨1, _⟩ => show win0_5.index t 1 * 512 ≤ (i 1 : Nat) ∧ (i 1 : Nat) < win0_5.index t 1 * 512 + 512
                  rw [(idx5 t).2.1]; omega
      | ⟨2, _⟩ => show win0_5.index t 2 * 384 ≤ (i 2 : Nat) ∧ (i 2 : Nat) < win0_5.index t 2 * 384 + 384
                  rw [(idx5 t).2.2]; omega

theorem idx6 : ∀ t : Fin grid0.N, win0_6.index t 0 = 0 ∧ win0_6.index t 1 = t.val ∧ win0_6.index t 2 = 0 := by decide +kernel
theorem flushed6 (c : Dev nD) (t : Fin cfg0.N) : (dats m 0 c).flushed 6 t = ((cfg0.win 6).blk t).view.read (Elt Ideal) (final6 m c) := by
  have ht : t.val < 4 := lt_of_lt_of_eq t.isLt N_0
  rw [Value.flushed6]
  funext y
  idx_vars y
  show out0_6 (F := Ideal) _ _ _ _ (ix3 y0 y1 y2) = final6 m c ((win0_6.rect t).emb (ix3 y0 y1 y2))
  rw [show (win0_6.rect t).emb (ix3 y0 y1 y2) = ix3 y0 (at_ t.val y1) y2 from funext fun a => Fin.ext (by
    rw [Pipeline.Window.rect_emb_val win0_6]
    match a with
    | ⟨0, _⟩ => show win0_6.index t 0 * 1 + y0.val = y0.val; rw [(idx6 t).1]; omega
    | ⟨1, _⟩ => show win0_6.index t 1 * 512 + y1.val = (512 * t.val + y1.val) % 2048; rw [(idx6 t).2.1]; omega
    | ⟨2, _⟩ => show win0_6.index t 2 * 384 + y2.val = y2.val; rw [(idx6 t).2.2]; omega)]
  obtain rfl : y0 = 0 := Subsingleton.elim _ _
  rw [out6_at, grad_blk, blk2]
  rfl
theorem arr6 (c : Dev nD) : (dats m 0 c).arrAt 6 cfg0.N = final6 m c :=
  (dats m 0 c).arrAt_eq_of_cover 6 (final6 m c) (fun t _ => flushed6 m c t)
    fun i => by
      have h0 : (i 0 : Nat) < 1 := (i 0).isLt
      have h1 : (i 1 : Nat) < 2048 := (i 1).isLt
      have h2 : (i 2 : Nat) < 384 := (i 2).isLt
      refine ⟨⟨(i 1 : Nat) / 512, lt_of_lt_of_eq (by omega) N_0.symm⟩, flush0_6 _, ?_⟩
      generalize ht : (⟨(i 1 : Nat) / 512, _⟩ : Fin cfg0.N) = t
      have hv : t.val = (i 1 : Nat) / 512 := by rw [← ht]
      show i ∈ ((View.whole main_v0_2).slice (win0_6.rect t)).set
      rw [View.set_slice_whole, Rect.mem_set_unit]
      intro a
      match a with
      | ⟨0, _⟩ => show win0_6.index t 0 * 1 ≤ (i 0 : Nat) ∧ (i 0 : Nat) < win0_6.index t 0 * 1 + 1
                  rw [(idx6 t).1]; omega
      | ⟨1, _⟩ => show win0_6.index t 1 * 512 ≤ (i 1 : Nat) ∧ (i 1 : Nat) < win0_6.index t 1 * 512 + 512
                  rw [(idx6 t).2.1]; omega
      | ⟨2, _⟩ => show win0_6.index t 2 * 384 ≤ (i 2 : Nat) ∧ (i 2 : Nat) < win0_6.index t 2 * 384 + 384
                  rw [(idx6 t).2.2]; omega

theorem idx7 : ∀ t : Fin grid0.N, win0_7.index t 0 = 0 ∧ win0_7.index t 1 = t.val ∧ win0_7.index t 2 = 0 := by decide +kernel
theorem flushed7 (c : Dev nD) (t : Fin cfg0.N) : (dats m 0 c).flushed 7 t = ((cfg0.win 7).blk t).view.read (Elt Ideal) (final7 m c) := by
  have ht : t.val < 4 := lt_of_lt_of_eq t.isLt N_0
  rw [Value.flushed7]
  funext y
  idx_vars y
  show out0_7 (F := Ideal) _ _ _ _ (ix3 y0 y1 y2) = final7 m c ((win0_7.rect t).emb (ix3 y0 y1 y2))
  rw [show (win0_7.rect t).emb (ix3 y0 y1 y2) = ix3 y0 (at_ t.val y1) y2 from funext fun a => Fin.ext (by
    rw [Pipeline.Window.rect_emb_val win0_7]
    match a with
    | ⟨0, _⟩ => show win0_7.index t 0 * 1 + y0.val = y0.val; rw [(idx7 t).1]; omega
    | ⟨1, _⟩ => show win0_7.index t 1 * 512 + y1.val = (512 * t.val + y1.val) % 2048; rw [(idx7 t).2.1]; omega
    | ⟨2, _⟩ => show win0_7.index t 2 * 384 + y2.val = y2.val; rw [(idx7 t).2.2]; omega)]
  obtain rfl : y0 = 0 := Subsingleton.elim _ _
  rw [out7_at, grad_blk, blk3]
  rfl
theorem arr7 (c : Dev nD) : (dats m 0 c).arrAt 7 cfg0.N = final7 m c :=
  (dats m 0 c).arrAt_eq_of_cover 7 (final7 m c) (fun t _ => flushed7 m c t)
    fun i => by
      have h0 : (i 0 : Nat) < 1 := (i 0).isLt
      have h1 : (i 1 : Nat) < 2048 := (i 1).isLt
      have h2 : (i 2 : Nat) < 384 := (i 2).isLt
      refine ⟨⟨(i 1 : Nat) / 512, lt_of_lt_of_eq (by omega) N_0.symm⟩, flush0_7 _, ?_⟩
      generalize ht : (⟨(i 1 : Nat) / 512, _⟩ : Fin cfg0.N) = t
      have hv : t.val = (i 1 : Nat) / 512 := by rw [← ht]
      show i ∈ ((View.whole main_v0_3).slice (win0_7.rect t)).set
      rw [View.set_slice_whole, Rect.mem_set_unit]
      intro a
      match a with
      | ⟨0, _⟩ => show win0_7.index t 0 * 1 ≤ (i 0 : Nat) ∧ (i 0 : Nat) < win0_7.index t 0 * 1 + 1
                  rw [(idx7 t).1]; omega
      | ⟨1, _⟩ => show win0_7.index t 1 * 512 ≤ (i 1 : Nat) ∧ (i 1 : Nat) < win0_7.index t 1 * 512 + 512
                  rw [(idx7 t).2.1]; omega
      | ⟨2, _⟩ => show win0_7.index t 2 * 384 ≤ (i 2 : Nat) ∧ (i 2 : Nat) < win0_7.index t 2 * 384 + 384
                  rw [(idx7 t).2.2]; omega

end Cert.AdamInEIdeal.Hand

namespace Cert.AdamInERefIdeal.Hand

open Cert.AdamInERefIdeal Cert.AdamInERefIdeal.Read Cert.Adam Idealize.ShloMosaic Idealize.ShloMosaic.TcCoe Idealize.SL.Sem

/-! ## The reference, entry by entry -/

variable (p : FVec Ideal S4x2048x384 .bf16) (w a b : FVec Ideal S1x2048x384 .f32)

theorem v2_at (r : Fin 2048) (k : Fin 384) : val_main_v2 (F := Ideal) p (ix3 0 r k) = sum4 (p (ix3 0 r k)) (p (ix3 1 r k)) (p (ix3 2 r k)) (p (ix3 3 r k)) := by
  pointwise [val_main_v2, val_main_v1, val_main_v0, val_main_cst]
  exact Fin.sum_univ_four _
theorem v7_at (r : Fin 2048) (k : Fin 384) : val_main_v7 (F := Ideal) p a (ix3 0 r k) = mom (val_main_v2 (F := Ideal) p (ix3 0 r k)) (a (ix3 0 r k)) := by
  pointwise [val_main_v7, val_main_v6, val_main_v5, val_main_v4, val_main_v3, val_main_cst_0, val_main_cst_1]
  rfl
theorem v13_at (r : Fin 2048) (k : Fin 384) : val_main_v13 (F := Ideal) p b (ix3 0 r k) = vel (val_main_v2 (F := Ideal) p (ix3 0 r k)) (b (ix3 0 r k)) := by
  pointwise [val_main_v13, val_main_v12, val_main_v11, val_main_v10, val_main_v9, val_main_v8, val_main_cst_2, val_main_cst_3]
  rfl
theorem v26_at (r : Fin 2048) (k : Fin 384) : val_main_v26 (F := Ideal) p w a b (ix3 0 r k)
    = upd (w (ix3 0 r k)) (val_main_v7 (F := Ideal) p a (ix3 0 r k)) (val_main_v13 (F := Ideal) p b (ix3 0 r k)) := by
  pointwise [val_main_v26, val_main_v25, val_main_v24, val_main_v23, val_main_v22, val_main_v21, val_main_v20, val_main_v19, val_main_v18, val_main_v17, val_main_v16,
    val_main_v15, val_main_v14, val_main_cst_4, val_main_cst_5, val_main_cst_6, val_main_cst_7, val_main_cst_8]
  rfl

end Cert.AdamInERefIdeal.Hand

namespace Cert.AdamInEIdeal.Hand

open Cert.AdamInEIdeal Cert.AdamInEIdeal.Gen Cert.AdamInERefIdeal.Read Cert.AdamInERefIdeal.Hand Cert.Adam Idealize.ShloMosaic Idealize.ShloMosaic.TcCoe Idealize.SL.Sem

variable (m : (ℓ : Loc nD τ sig) → Buf (Elt Ideal) ℓ)

/-- Each result of the reference is the kernel's. -/
theorem eq4 (c : Dev nD) : val_main_v2 (F := Ideal) (m ((c.tc : Thread nD τ).loc main_arg0)) = final4 m c := by
  funext i
  idx_vars i
  obtain rfl : i0 = 0 := Subsingleton.elim _ _
  exact v2_at _ _ _
theorem eq6 (c : Dev nD) : val_main_v7 (F := Ideal) (m ((c.tc : Thread nD τ).loc main_arg0)) (m ((c.tc : Thread nD τ).loc main_arg2)) = final6 m c := by
  funext i
  idx_vars i
  obtain rfl : i0 = 0 := Subsingleton.elim _ _
  rw [v7_at, eq4]
  rfl
theorem eq7 (c : Dev nD) : val_main_v13 (F := Ideal) (m ((c.tc : Thread nD τ).loc main_arg0)) (m ((c.tc : Thread nD τ).loc main_arg3)) = final7 m c := by
  funext i
  idx_vars i
  obtain rfl : i0 = 0 := Subsingleton.elim _ _
  rw [v13_at, eq4]
  rfl
theorem eq5 (c : Dev nD) : val_main_v26 (F := Ideal) (m ((c.tc : Thread nD τ).loc main_arg0)) (m ((c.tc : Thread nD τ).loc main_arg1))
    (m ((c.tc : Thread nD τ).loc main_arg2)) (m ((c.tc : Thread nD τ).loc main_arg3)) = final5 m c := by
  funext i
  idx_vars i
  obtain rfl : i0 = 0 := Subsingleton.elim _ _
  rw [v26_at, eq6, eq7]
  rfl

end Cert.AdamInEIdeal.Hand

namespace Cert.Proof

open Idealize.ShloMosaic Idealize.SL.Sem Cert.AdamInEIdeal.Hand

theorem AdamInE_frame : Cert.quiescent_AdamInE := fun m g _ => Cert.AdamInE.Gen.frame m g
theorem AdamInE_frame_ideal : Cert.quiescent_AdamInEIdeal := fun m g _ => Cert.AdamInEIdeal.Gen.frame m g
theorem AdamInE_frame_ref : Cert.quiescent_AdamInERefIdeal := fun m g _ =>
  (θ_run Cert.AdamInERefIdeal.defs _ _).mono (fun r h => ⟨fun c => (h c).2.2.2.2, sem_eq_zero_of_no_sems (by decide) r.2⟩)
    (Cert.AdamInERefIdeal.Value.run (F := Ideal) m g)

/-- The gradient, the update and the moments are the reference's. -/
theorem AdamInE_equal : Cert.algebraic_AdamInEIdeal_AdamInERefIdeal := by
  intro m g m' g' _ hargs
  refine ⟨final4 m, final5 m, final6 m, final7 m, ?_, ?_⟩
  · refine (θ_run Cert.AdamInEIdeal.defs _ _).mono ?_ (Cert.AdamInEIdeal.Value.run_blocks m g)
    intro r h c
    obtain ⟨h0, h1, h2, h3, ha⟩ := h c
    exact ⟨h0.trans (arr4 m c), h1.trans (arr5 m c), h2.trans (arr6 m c), h3.trans (arr7 m c), ha⟩
  · refine (θ_run Cert.AdamInERefIdeal.defs _ _).mono ?_ (Cert.AdamInERefIdeal.Value.run (F := Ideal) m' g')
    intro r h c
    obtain ⟨h0, h1, h2, h3, ha⟩ := h c
    obtain ⟨e0, e1, e2, e3⟩ := hargs c
    refine ⟨?_, ?_, ?_, ?_, ha⟩
    · refine (h0.trans (Cert.AdamInERefIdeal.Read.val_main_v2_eq _)).trans (Eq.trans ?_ (eq4 m c))
      rw [← e0]
    · refine (h1.trans (Cert.AdamInERefIdeal.Read.val_main_v26_eq _ _ _ _)).trans (Eq.trans ?_ (eq5 m c))
      rw [← e0, ← e1, ← e2, ← e3]
    · refine (h2.trans (Cert.AdamInERefIdeal.Read.val_main_v7_eq _ _)).trans (Eq.trans ?_ (eq6 m c))
      rw [← e0, ← e2]
    · refine (h3.trans (Cert.AdamInERefIdeal.Read.val_main_v13_eq _ _)).trans (Eq.trans ?_ (eq7 m c))
      rw [← e0, ← e3]

end Cert.Proof

end
-- ==== Proof.Adam.InO.lean ====
/- The odd mixer's input map: the parts' sum and the AdamW step. -/
module

public import proofs.«01_k».proof.Defs
public import proofs.«01_k».proof.Proof.Adam.Step
public import proofs.«01_k».proof.Proof.Gen.AdamInOIdeal.Value
public import proofs.«01_k».proof.Proof.Gen.AdamInO.Frame
public import proofs.«01_k».proof.Proof.Gen.AdamInORefIdeal.Read

@[expose] public section

set_option maxRecDepth 16384

noncomputable section

namespace Cert.AdamInOIdeal.Hand

open Cert.AdamInOIdeal Cert.AdamInOIdeal.Gen Cert.Adam Idealize.ShloMosaic Idealize.ShloMosaic.TcCoe Idealize.SL.Sem

/-! ## What the body computes on one block of rows -/

theorem origin : (![0, 0, 0] : Fin 3 → Nat) = fun _ => 0 := by decide

variable (p : Vec Ideal S4x256x768 .bf16) (w a b : Vec Ideal S1x256x768 .f32)

/-- The sum of the four parts. -/
def grad (r : Fin 256) (k : Fin 768) : EReal := sum4 (p (ix3 0 r k)) (p (ix3 1 r k)) (p (ix3 2 r k)) (p (ix3 3 r k))

theorem part0 (r : Fin 256) (k : Fin 768) : View.ld p r0_0 (ix3 0 r k) = p (ix3 0 r k) := by
  refine congrArg p (funext fun i => Fin.ext ?_)
  match i with
  | ⟨0, _⟩ => rfl
  | ⟨1, _⟩ => exact (Nat.zero_add _).trans (Nat.one_mul _)
  | ⟨2, _⟩ => exact (Nat.zero_add _).trans (Nat.one_mul _)
theorem part1 (r : Fin 256) (k : Fin 768) : View.ld p r0_1 (ix3 0 r k) = p (ix3 1 r k) := by
  refine congrArg p (funext fun i => Fin.ext ?_)
  match i with
  | ⟨0, _⟩ => rfl
  | ⟨1, _⟩ => exact (Nat.zero_add _).trans (Nat.one_mul _)
  | ⟨2, _⟩ => exact (Nat.zero_add _).trans (Nat.one_mul _)
theorem part2 (r : Fin 256) (k : Fin 768) : View.ld p r0_2 (ix3 0 r k) = p (ix3 2 r k) := by
  refine congrArg p (funext fun i => Fin.ext ?_)
  match i with
  | ⟨0, _⟩ => rfl
  | ⟨1, _⟩ => exact (Nat.zero_add _).trans (Nat.one_mul _)
  | ⟨2, _⟩ => exact (Nat.zero_add _).trans (Nat.one_mul _)
theorem part3 (r : Fin 256) (k : Fin 768) : View.ld p r0_3 (ix3 0 r k) = p (ix3 3 r k) := by
  refine congrArg p (funext fun i => Fin.ext ?_)
  match i with
  | ⟨0, _⟩ => rfl
  | ⟨1, _⟩ => exact (Nat.zero_add _).trans (Nat.one_mul _)
  | ⟨2, _⟩ => exact (Nat.zero_add _).trans (Nat.one_mul _)
theorem whole (x : Vec Ideal S1x256x768 .f32) : View.ld x r0_4 = x := View.ld_unit_zero (S := S1x256x768) origin _ x

theorem pay5_at (r : Fin 256) (k : Fin 768) : k0_pay5 (View.ld p r0_0) (View.ld p r0_1) (View.ld p r0_2) (View.ld p r0_3) (ix2 r k) = grad p r k := by
  pointwise [k0_pay5, part0, part1, part2, part3]
  rfl
theorem pay10_at (r : Fin 256) (k : Fin 768) : k0_pay10 p w a b (ix2 r k) = mom (grad p r k) (a (ix3 0 r k)) := by
  unfold k0_pay10
  rw [whole]
  pointwise [k0_pay7, pay5_at]
  rfl
theorem pay11_at (r : Fin 256) (k : Fin 768) : k0_pay11 p w a b (ix2 r k) = vel (grad p r k) (b (ix3 0 r k)) := by
  unfold k0_pay11
  rw [whole]
  pointwise [k0_pay8, pay5_at]
  rfl
theorem out4_at (r : Fin 256) (k : Fin 768) : out0_4 p w a b (ix3 0 r k) = grad p r k := by
  unfold out0_4
  refine (congrFun (View.canon_unit_zero (S := S1x256x768) origin _ _) _).trans ?_
  pointwise [k0_pay1, pay5_at]
theorem out6_at (r : Fin 256) (k : Fin 768) : out0_6 p w a b (ix3 0 r k) = mom (grad p r k) (a (ix3 0 r k)) := by
  unfold out0_6
  refine (congrFun (View.canon_unit_zero (S := S1x256x768) origin _ _) _).trans ?_
  pointwise [k0_pay3, pay10_at]
theorem out7_at (r : Fin 256) (k : Fin 768) : out0_7 p w a b (ix3 0 r k) = vel (grad p r k) (b (ix3 0 r k)) := by
  unfold out0_7
  refine (congrFun (View.canon_unit_zero (S := S1x256x768) origin _ _) _).trans ?_
  pointwise [k0_pay4, pay11_at]
theorem out5_at (r : Fin 256) (k : Fin 768) : out0_5 p w a b (ix3 0 r k)
    = upd (w (ix3 0 r k)) (mom (grad p r k) (a (ix3 0 r k))) (vel (grad p r k) (b (ix3 0 r k))) := by
  unfold out0_5
  rw [whole]
  refine (congrFun (View.canon_unit_zero (S := S1x256x768) origin _ _) _).trans ?_
  pointwise [k0_pay2, k0_pay6, k0_pay9, pay10_at, pay11_at]
  rfl

/-! ## The blocks, in the argument arrays -/

variable (m : (ℓ : Loc nD τ sig) → Buf (Elt Ideal) ℓ)

/-- Row `r` of block `t`. -/
def at_ (t : ℕ) (r : Fin 256) : Fin 2048 := ⟨(256 * t + r.val) % 2048, Nat.mod_lt _ (by decide)⟩

theorem idx0 : ∀ t : Fin grid0.N, win0_0.index t 0 = 0 ∧ win0_0.index t 1 = t.val ∧ win0_0.index t 2 = 0 := by decide +kernel
theorem blk0 (c : Dev nD) (t : Fin cfg0.N) (j : Fin 4) (r : Fin 256) (k : Fin 768) :
    iblk m c 0 t (ix3 j r k) = m ((c : Thread nD τ).loc main_arg0) (ix3 j (at_ t.val r) k) := by
  have ht : t.val < 8 := lt_of_lt_of_eq t.isLt N_0
  show V m c main_arg0 ((win0_0.rect t).emb (ix3 j r k)) = _
  rw [V_main_arg0]
  refine congrArg (m ((c : Thread nD τ).loc main_arg0)) (funext fun a => Fin.ext ?_)
  rw [Pipeline.Window.rect_emb_val win0_0]
  match a with
  | ⟨0, _⟩ => show win0_0.index t 0 * 4 + j.val = j.val; rw [(idx0 t).1]; omega
  | ⟨1, _⟩ => show win0_0.index t 1 * 256 + r.val = (256 * t.val + r.val) % 2048; rw [(idx0 t).2.1]; omega
  | ⟨2, _⟩ => show win0_0.index t 2 * 768 + k.val = k.val; rw [(idx0 t).2.2]; omega
theorem idx1 : ∀ t : Fin grid0.N, win0_1.index t 0 = 0 ∧ win0_1.index t 1 = t.val ∧ win0_1.index t 2 = 0 := by decide +kernel
theorem blk1 (c : Dev nD) (t : Fin cfg0.N) (j : Fin 1) (r : Fin 256) (k : Fin 768) :
    iblk m c 1 t (ix3 j r k) = m ((c : Thread nD τ).loc main_arg1) (ix3 j (at_ t.val r) k) := by
  have ht : t.val < 8 := lt_of_lt_of_eq t.isLt N_0
  show V m c main_arg1 ((win0_1.rect t).emb (ix3 j r k)) = _
  rw [V_main_arg1]
  refine congrArg (m ((c : Thread nD τ).loc main_arg1)) (funext fun a => Fin.ext ?_)
  rw [Pipeline.Window.rect_emb_val win0_1]
  match a with
  | ⟨0, _⟩ => show win0_1.index t 0 * 1 + j.val = j.val; rw [(idx1 t).1]; omega
  | ⟨1, _⟩ => show win0_1.index t 1 * 256 + r.val = (256 * t.val + r.val) % 2048; rw [(idx1 t).2.1]; omega
  | ⟨2, _⟩ => show win0_1.index t 2 * 768 + k.val = k.val; rw [(idx1 t).2.2]; omega
theorem idx2 : ∀ t : Fin grid0.N, win0_2.index t 0 = 0 ∧ win0_2.index t 1 = t.val ∧ win0_2.index t 2 = 0 := by decide +kernel
theorem blk2 (c : Dev nD) (t : Fin cfg0.N) (j : Fin 1) (r : Fin 256) (k : Fin 768) :
    iblk m c 2 t (ix3 j r k) = m ((c : Thread nD τ).loc main_arg2) (ix3 j (at_ t.val r) k) := by
  have ht : t.val < 8 := lt_of_lt_of_eq t.isLt N_0
  show V m c main_arg2 ((win0_2.rect t).emb (ix3 j r k)) = _
  rw [V_main_arg2]
  refine congrArg (m ((c : Thread nD τ).loc main_arg2)) (funext fun a => Fin.ext ?_)
  rw [Pipeline.Window.rect_emb_val win0_2]
  match a with
  | ⟨0, _⟩ => show win0_2.index t 0 * 1 + j.val = j.val; rw [(idx2 t).1]; omega
  | ⟨1, _⟩ => show win0_2.index t 1 * 256 + r.val = (256 * t.val + r.val) % 2048; rw [(idx2 t).2.1]; omega
  | ⟨2, _⟩ => show win0_2.index t 2 * 768 + k.val = k.val; rw [(idx2 t).2.2]; omega
theorem idx3 : ∀ t : Fin grid0.N, win0_3.index t 0 = 0 ∧ win0_3.index t 1 = t.val ∧ win0_3.index t 2 = 0 := by decide +kernel
theorem blk3 (c : Dev nD) (t : Fin cfg0.N) (j : Fin 1) (r : Fin 256) (k : Fin 768) :
    iblk m c 3 t (ix3 j r k) = m ((c : Thread nD τ).loc main_arg3) (ix3 j (at_ t.val r) k) := by
  have ht : t.val < 8 := lt_of_lt_of_eq t.isLt N_0
  show V m c main_arg3 ((win0_3.rect t).emb (ix3 j r k)) = _
  rw [V_main_arg3]
  refine congrArg (m ((c : Thread nD τ).loc main_arg3)) (funext fun a => Fin.ext ?_)
  rw [Pipeline.Window.rect_emb_val win0_3]
  match a with
  | ⟨0, _⟩ => show win0_3.index t 0 * 1 + j.val = j.val; rw [(idx3 t).1]; omega
  | ⟨1, _⟩ => show win0_3.index t 1 * 256 + r.val = (256 * t.val + r.val) % 2048; rw [(idx3 t).2.1]; omega
  | ⟨2, _⟩ => show win0_3.index t 2 * 768 + k.val = k.val; rw [(idx3 t).2.2]; omega

/-! ## The result arrays -/

/-- The gradient, the moments and the update, entry by entry. -/
def gradAt (c : Dev nD) (r : Fin 2048) (k : Fin 768) : EReal :=
  sum4 (m ((c : Thread nD τ).loc main_arg0) (ix3 0 r k)) (m ((c : Thread nD τ).loc main_arg0) (ix3 1 r k))
    (m ((c : Thread nD τ).loc main_arg0) (ix3 2 r k)) (m ((c : Thread nD τ).loc main_arg0) (ix3 3 r k))
def final4 (c : Dev nD) : FVec Ideal S1x2048x768 .f32 := fun i => gradAt m c (i 1) (i 2)
def final6 (c : Dev nD) : FVec Ideal S1x2048x768 .f32 := fun i => mom (gradAt m c (i 1) (i 2)) (m ((c : Thread nD τ).loc main_arg2) (ix3 0 (i 1) (i 2)))
def final7 (c : Dev nD) : FVec Ideal S1x2048x768 .f32 := fun i => vel (gradAt m c (i 1) (i 2)) (m ((c : Thread nD τ).loc main_arg3) (ix3 0 (i 1) (i 2)))
def final5 (c : Dev nD) : FVec Ideal S1x2048x768 .f32 := fun i =>
  upd (m ((c : Thread nD τ).loc main_arg1) (ix3 0 (i 1) (i 2))) (final6 m c (ix3 0 (i 1) (i 2))) (final7 m c (ix3 0 (i 1) (i 2)))

theorem grad_blk (c : Dev nD) (t : Fin cfg0.N) (r : Fin 256) (k : Fin 768) : grad (iblk m c 0 t) r k = gradAt m c (at_ t.val r) k := by
  unfold grad
  rw [blk0, blk0, blk0, blk0]
  rfl

theorem idx4 : ∀ t : Fin grid0.N, win0_4.index t 0 = 0 ∧ win0_4.index t 1 = t.val ∧ win0_4.index t 2 = 0 := by decide +kernel
theorem flushed4 (c : Dev nD) (t : Fin cfg0.N) : (dats m 0 c).flushed 4 t = ((cfg0.win 4).blk t).view.read (Elt Ideal) (final4 m c) := by
  have ht : t.val < 8 := lt_of_lt_of_eq t.isLt N_0
  rw [Value.flushed4]
  funext y
  idx_vars y
  show out0_4 (F := Ideal) _ _ _ _ (ix3 y0 y1 y2) = final4 m c ((win0_4.rect t).emb (ix3 y0 y1 y2))
  rw [show (win0_4.rect t).emb (ix3 y0 y1 y2) = ix3 y0 (at_ t.val y1) y2 from funext fun a => Fin.ext (by
    rw [Pipeline.Window.rect_emb_val win0_4]
    match a with
    | ⟨0, _⟩ => show win0_4.index t 0 * 1 + y0.val = y0.val; rw [(idx4 t).1]; omega
    | ⟨1, _⟩ => show win0_4.index t 1 * 256 + y1.val = (256 * t.val + y1.val) % 2048; rw [(idx4 t).2.1]; omega
    | ⟨2, _⟩ => show win0_4.index t 2 * 768 + y2.val = y2.val; rw [(idx4 t).2.2]; omega)]
  obtain rfl : y0 = 0 := Subsingleton.elim _ _
  rw [out4_at, grad_blk]
  rfl
theorem arr4 (c : Dev nD) : (dats m 0 c).arrAt 4 cfg0.N = final4 m c :=
  (dats m 0 c).arrAt_eq_of_cover 4 (final4 m c) (fun t _ => flushed4 m c t)
    fun i => by
      have h0 : (i 0 : Nat) < 1 := (i 0).isLt
      have h1 : (i 1 : Nat) < 2048 := (i 1).isLt
      have h2 : (i 2 : Nat) < 768 := (i 2).isLt
      refine ⟨⟨(i 1 : Nat) / 256, lt_of_lt_of_eq (by omega) N_0.symm⟩, flush0_4 _, ?_⟩
      generalize ht : (⟨(i 1 : Nat) / 256, _⟩ : Fin cfg0.N) = t
      have hv : t.val = (i 1 : Nat) / 256 := by rw [← ht]
      show i ∈ ((View.whole main_v0_0).slice (win0_4.rect t)).set
      rw [View.set_slice_whole, Rect.mem_set_unit]
      intro a
      match a with
      | ⟨0, _⟩ => show win0_4.index t 0 * 1 ≤ (i 0 : Nat) ∧ (i 0 : Nat) < win0_4.index t 0 * 1 + 1
                  rw [(idx4 t).1]; omega
      | ⟨1, _⟩ => show win0_4.index t 1 * 256 ≤ (i 1 : Nat) ∧ (i 1 : Nat) < win0_4.index t 1 * 256 + 256
                  rw [(idx4 t).2.1]; omega
      | ⟨2, _⟩ => show win0_4.index t 2 * 768 ≤ (i 2 : Nat) ∧ (i 2 : Nat) < win0_4.index t 2 * 768 + 768
                  rw [(idx4 t).2.2]; omega

theorem idx5 : ∀ t : Fin grid0.N, win0_5.index t 0 = 0 ∧ win0_5.index t 1 = t.val ∧ win0_5.index t 2 = 0 := by decide +kernel
theorem flushed5 (c : Dev nD) (t : Fin cfg0.N) : (dats m 0 c).flushed 5 t = ((cfg0.win 5).blk t).view.read (Elt Ideal) (final5 m c) := by
  have ht : t.val < 8 := lt_of_lt_of_eq t.isLt N_0
  rw [Value.flushed5]
  funext y
  idx_vars y
  show out0_5 (F := Ideal) _ _ _ _ (ix3 y0 y1 y2) = final5 m c ((win0_5.rect t).emb (ix3 y0 y1 y2))
  rw [show (win0_5.rect t).emb (ix3 y0 y1 y2) = ix3 y0 (at_ t.val y1) y2 from funext fun a => Fin.ext (by
    rw [Pipeline.Window.rect_emb_val win0_5]
    match a with
    | ⟨0, _⟩ => show win0_5.index t 0 * 1 + y0.val = y0.val; rw [(idx5 t).1]; omega
    | ⟨1, _⟩ => show win0_5.index t 1 * 256 + y1.val = (256 * t.val + y1.val) % 2048; rw [(idx5 t).2.1]; omega
    | ⟨2, _⟩ => show win0_5.index t 2 * 768 + y2.val = y2.val; rw [(idx5 t).2.2]; omega)]
  obtain rfl : y0 = 0 := Subsingleton.elim _ _
  rw [out5_at, grad_blk, blk1, blk2, blk3]
  rfl
theorem arr5 (c : Dev nD) : (dats m 0 c).arrAt 5 cfg0.N = final5 m c :=
  (dats m 0 c).arrAt_eq_of_cover 5 (final5 m c) (fun t _ => flushed5 m c t)
    fun i => by
      have h0 : (i 0 : Nat) < 1 := (i 0).isLt
      have h1 : (i 1 : Nat) < 2048 := (i 1).isLt
      have h2 : (i 2 : Nat) < 768 := (i 2).isLt
      refine ⟨⟨(i 1 : Nat) / 256, lt_of_lt_of_eq (by omega) N_0.symm⟩, flush0_5 _, ?_⟩
      generalize ht : (⟨(i 1 : Nat) / 256, _⟩ : Fin cfg0.N) = t
      have hv : t.val = (i 1 : Nat) / 256 := by rw [← ht]
      show i ∈ ((View.whole main_v0_1).slice (win0_5.rect t)).set
      rw [View.set_slice_whole, Rect.mem_set_unit]
      intro a
      match a with
      | ⟨0, _⟩ => show win0_5.index t 0 * 1 ≤ (i 0 : Nat) ∧ (i 0 : Nat) < win0_5.index t 0 * 1 + 1
                  rw [(idx5 t).1]; omega
      | ⟨1, _⟩ => show win0_5.index t 1 * 256 ≤ (i 1 : Nat) ∧ (i 1 : Nat) < win0_5.index t 1 * 256 + 256
                  rw [(idx5 t).2.1]; omega
      | ⟨2, _⟩ => show win0_5.index t 2 * 768 ≤ (i 2 : Nat) ∧ (i 2 : Nat) < win0_5.index t 2 * 768 + 768
                  rw [(idx5 t).2.2]; omega

theorem idx6 : ∀ t : Fin grid0.N, win0_6.index t 0 = 0 ∧ win0_6.index t 1 = t.val ∧ win0_6.index t 2 = 0 := by decide +kernel
theorem flushed6 (c : Dev nD) (t : Fin cfg0.N) : (dats m 0 c).flushed 6 t = ((cfg0.win 6).blk t).view.read (Elt Ideal) (final6 m c) := by
  have ht : t.val < 8 := lt_of_lt_of_eq t.isLt N_0
  rw [Value.flushed6]
  funext y
  idx_vars y
  show out0_6 (F := Ideal) _ _ _ _ (ix3 y0 y1 y2) = final6 m c ((win0_6.rect t).emb (ix3 y0 y1 y2))
  rw [show (win0_6.rect t).emb (ix3 y0 y1 y2) = ix3 y0 (at_ t.val y1) y2 from funext fun a => Fin.ext (by
    rw [Pipeline.Window.rect_emb_val win0_6]
    match a with
    | ⟨0, _⟩ => show win0_6.index t 0 * 1 + y0.val = y0.val; rw [(idx6 t).1]; omega
    | ⟨1, _⟩ => show win0_6.index t 1 * 256 + y1.val = (256 * t.val + y1.val) % 2048; rw [(idx6 t).2.1]; omega
    | ⟨2, _⟩ => show win0_6.index t 2 * 768 + y2.val = y2.val; rw [(idx6 t).2.2]; omega)]
  obtain rfl : y0 = 0 := Subsingleton.elim _ _
  rw [out6_at, grad_blk, blk2]
  rfl
theorem arr6 (c : Dev nD) : (dats m 0 c).arrAt 6 cfg0.N = final6 m c :=
  (dats m 0 c).arrAt_eq_of_cover 6 (final6 m c) (fun t _ => flushed6 m c t)
    fun i => by
      have h0 : (i 0 : Nat) < 1 := (i 0).isLt
      have h1 : (i 1 : Nat) < 2048 := (i 1).isLt
      have h2 : (i 2 : Nat) < 768 := (i 2).isLt
      refine ⟨⟨(i 1 : Nat) / 256, lt_of_lt_of_eq (by omega) N_0.symm⟩, flush0_6 _, ?_⟩
      generalize ht : (⟨(i 1 : Nat) / 256, _⟩ : Fin cfg0.N) = t
      have hv : t.val = (i 1 : Nat) / 256 := by rw [← ht]
      show i ∈ ((View.whole main_v0_2).slice (win0_6.rect t)).set
      rw [View.set_slice_whole, Rect.mem_set_unit]
      intro a
      match a with
      | ⟨0, _⟩ => show win0_6.index t 0 * 1 ≤ (i 0 : Nat) ∧ (i 0 : Nat) < win0_6.index t 0 * 1 + 1
                  rw [(idx6 t).1]; omega
      | ⟨1, _⟩ => show win0_6.index t 1 * 256 ≤ (i 1 : Nat) ∧ (i 1 : Nat) < win0_6.index t 1 * 256 + 256
                  rw [(idx6 t).2.1]; omega
      | ⟨2, _⟩ => show win0_6.index t 2 * 768 ≤ (i 2 : Nat) ∧ (i 2 : Nat) < win0_6.index t 2 * 768 + 768
                  rw [(idx6 t).2.2]; omega

theorem idx7 : ∀ t : Fin grid0.N, win0_7.index t 0 = 0 ∧ win0_7.index t 1 = t.val ∧ win0_7.index t 2 = 0 := by decide +kernel
theorem flushed7 (c : Dev nD) (t : Fin cfg0.N) : (dats m 0 c).flushed 7 t = ((cfg0.win 7).blk t).view.read (Elt Ideal) (final7 m c) := by
  have ht : t.val < 8 := lt_of_lt_of_eq t.isLt N_0
  rw [Value.flushed7]
  funext y
  idx_vars y
  show out0_7 (F := Ideal) _ _ _ _ (ix3 y0 y1 y2) = final7 m c ((win0_7.rect t).emb (ix3 y0 y1 y2))
  rw [show (win0_7.rect t).emb (ix3 y0 y1 y2) = ix3 y0 (at_ t.val y1) y2 from funext fun a => Fin.ext (by
    rw [Pipeline.Window.rect_emb_val win0_7]
    match a with
    | ⟨0, _⟩ => show win0_7.index t 0 * 1 + y0.val = y0.val; rw [(idx7 t).1]; omega
    | ⟨1, _⟩ => show win0_7.index t 1 * 256 + y1.val = (256 * t.val + y1.val) % 2048; rw [(idx7 t).2.1]; omega
    | ⟨2, _⟩ => show win0_7.index t 2 * 768 + y2.val = y2.val; rw [(idx7 t).2.2]; omega)]
  obtain rfl : y0 = 0 := Subsingleton.elim _ _
  rw [out7_at, grad_blk, blk3]
  rfl
theorem arr7 (c : Dev nD) : (dats m 0 c).arrAt 7 cfg0.N = final7 m c :=
  (dats m 0 c).arrAt_eq_of_cover 7 (final7 m c) (fun t _ => flushed7 m c t)
    fun i => by
      have h0 : (i 0 : Nat) < 1 := (i 0).isLt
      have h1 : (i 1 : Nat) < 2048 := (i 1).isLt
      have h2 : (i 2 : Nat) < 768 := (i 2).isLt
      refine ⟨⟨(i 1 : Nat) / 256, lt_of_lt_of_eq (by omega) N_0.symm⟩, flush0_7 _, ?_⟩
      generalize ht : (⟨(i 1 : Nat) / 256, _⟩ : Fin cfg0.N) = t
      have hv : t.val = (i 1 : Nat) / 256 := by rw [← ht]
      show i ∈ ((View.whole main_v0_3).slice (win0_7.rect t)).set
      rw [View.set_slice_whole, Rect.mem_set_unit]
      intro a
      match a with
      | ⟨0, _⟩ => show win0_7.index t 0 * 1 ≤ (i 0 : Nat) ∧ (i 0 : Nat) < win0_7.index t 0 * 1 + 1
                  rw [(idx7 t).1]; omega
      | ⟨1, _⟩ => show win0_7.index t 1 * 256 ≤ (i 1 : Nat) ∧ (i 1 : Nat) < win0_7.index t 1 * 256 + 256
                  rw [(idx7 t).2.1]; omega
      | ⟨2, _⟩ => show win0_7.index t 2 * 768 ≤ (i 2 : Nat) ∧ (i 2 : Nat) < win0_7.index t 2 * 768 + 768
                  rw [(idx7 t).2.2]; omega

end Cert.AdamInOIdeal.Hand

namespace Cert.AdamInORefIdeal.Hand

open Cert.AdamInORefIdeal Cert.AdamInORefIdeal.Read Cert.Adam Idealize.ShloMosaic Idealize.ShloMosaic.TcCoe Idealize.SL.Sem

/-! ## The reference, entry by entry -/

variable (p : FVec Ideal S4x2048x768 .bf16) (w a b : FVec Ideal S1x2048x768 .f32)

theorem v2_at (r : Fin 2048) (k : Fin 768) : val_main_v2 (F := Ideal) p (ix3 0 r k) = sum4 (p (ix3 0 r k)) (p (ix3 1 r k)) (p (ix3 2 r k)) (p (ix3 3 r k)) := by
  pointwise [val_main_v2, val_main_v1, val_main_v0, val_main_cst]
  exact Fin.sum_univ_four _
theorem v7_at (r : Fin 2048) (k : Fin 768) : val_main_v7 (F := Ideal) p a (ix3 0 r k) = mom (val_main_v2 (F := Ideal) p (ix3 0 r k)) (a (ix3 0 r k)) := by
  pointwise [val_main_v7, val_main_v6, val_main_v5, val_main_v4, val_main_v3, val_main_cst_0, val_main_cst_1]
  rfl
theorem v13_at (r : Fin 2048) (k : Fin 768) : val_main_v13 (F := Ideal) p b (ix3 0 r k) = vel (val_main_v2 (F := Ideal) p (ix3 0 r k)) (b (ix3 0 r k)) := by
  pointwise [val_main_v13, val_main_v12, val_main_v11, val_main_v10, val_main_v9, val_main_v8, val_main_cst_2, val_main_cst_3]
  rfl
theorem v26_at (r : Fin 2048) (k : Fin 768) : val_main_v26 (F := Ideal) p w a b (ix3 0 r k)
    = upd (w (ix3 0 r k)) (val_main_v7 (F := Ideal) p a (ix3 0 r k)) (val_main_v13 (F := Ideal) p b (ix3 0 r k)) := by
  pointwise [val_main_v26, val_main_v25, val_main_v24, val_main_v23, val_main_v22, val_main_v21, val_main_v20, val_main_v19, val_main_v18, val_main_v17, val_main_v16,
    val_main_v15, val_main_v14, val_main_cst_4, val_main_cst_5, val_main_cst_6, val_main_cst_7, val_main_cst_8]
  rfl

end Cert.AdamInORefIdeal.Hand

namespace Cert.AdamInOIdeal.Hand

open Cert.AdamInOIdeal Cert.AdamInOIdeal.Gen Cert.AdamInORefIdeal.Read Cert.AdamInORefIdeal.Hand Cert.Adam Idealize.ShloMosaic Idealize.ShloMosaic.TcCoe Idealize.SL.Sem

variable (m : (ℓ : Loc nD τ sig) → Buf (Elt Ideal) ℓ)

/-- Each result of the reference is the kernel's. -/
theorem eq4 (c : Dev nD) : val_main_v2 (F := Ideal) (m ((c.tc : Thread nD τ).loc main_arg0)) = final4 m c := by
  funext i
  idx_vars i
  obtain rfl : i0 = 0 := Subsingleton.elim _ _
  exact v2_at _ _ _
theorem eq6 (c : Dev nD) : val_main_v7 (F := Ideal) (m ((c.tc : Thread nD τ).loc main_arg0)) (m ((c.tc : Thread nD τ).loc main_arg2)) = final6 m c := by
  funext i
  idx_vars i
  obtain rfl : i0 = 0 := Subsingleton.elim _ _
  rw [v7_at, eq4]
  rfl
theorem eq7 (c : Dev nD) : val_main_v13 (F := Ideal) (m ((c.tc : Thread nD τ).loc main_arg0)) (m ((c.tc : Thread nD τ).loc main_arg3)) = final7 m c := by
  funext i
  idx_vars i
  obtain rfl : i0 = 0 := Subsingleton.elim _ _
  rw [v13_at, eq4]
  rfl
theorem eq5 (c : Dev nD) : val_main_v26 (F := Ideal) (m ((c.tc : Thread nD τ).loc main_arg0)) (m ((c.tc : Thread nD τ).loc main_arg1))
    (m ((c.tc : Thread nD τ).loc main_arg2)) (m ((c.tc : Thread nD τ).loc main_arg3)) = final5 m c := by
  funext i
  idx_vars i
  obtain rfl : i0 = 0 := Subsingleton.elim _ _
  rw [v26_at, eq6, eq7]
  rfl

end Cert.AdamInOIdeal.Hand

namespace Cert.Proof

open Idealize.ShloMosaic Idealize.SL.Sem Cert.AdamInOIdeal.Hand

theorem AdamInO_frame : Cert.quiescent_AdamInO := fun m g _ => Cert.AdamInO.Gen.frame m g
theorem AdamInO_frame_ideal : Cert.quiescent_AdamInOIdeal := fun m g _ => Cert.AdamInOIdeal.Gen.frame m g
theorem AdamInO_frame_ref : Cert.quiescent_AdamInORefIdeal := fun m g _ =>
  (θ_run Cert.AdamInORefIdeal.defs _ _).mono (fun r h => ⟨fun c => (h c).2.2.2.2, sem_eq_zero_of_no_sems (by decide) r.2⟩)
    (Cert.AdamInORefIdeal.Value.run (F := Ideal) m g)

/-- The gradient, the update and the moments are the reference's. -/
theorem AdamInO_equal : Cert.algebraic_AdamInOIdeal_AdamInORefIdeal := by
  intro m g m' g' _ hargs
  refine ⟨final4 m, final5 m, final6 m, final7 m, ?_, ?_⟩
  · refine (θ_run Cert.AdamInOIdeal.defs _ _).mono ?_ (Cert.AdamInOIdeal.Value.run_blocks m g)
    intro r h c
    obtain ⟨h0, h1, h2, h3, ha⟩ := h c
    exact ⟨h0.trans (arr4 m c), h1.trans (arr5 m c), h2.trans (arr6 m c), h3.trans (arr7 m c), ha⟩
  · refine (θ_run Cert.AdamInORefIdeal.defs _ _).mono ?_ (Cert.AdamInORefIdeal.Value.run (F := Ideal) m' g')
    intro r h c
    obtain ⟨h0, h1, h2, h3, ha⟩ := h c
    obtain ⟨e0, e1, e2, e3⟩ := hargs c
    refine ⟨?_, ?_, ?_, ?_, ha⟩
    · refine (h0.trans (Cert.AdamInORefIdeal.Read.val_main_v2_eq _)).trans (Eq.trans ?_ (eq4 m c))
      rw [← e0]
    · refine (h1.trans (Cert.AdamInORefIdeal.Read.val_main_v26_eq _ _ _ _)).trans (Eq.trans ?_ (eq5 m c))
      rw [← e0, ← e1, ← e2, ← e3]
    · refine (h2.trans (Cert.AdamInORefIdeal.Read.val_main_v7_eq _ _)).trans (Eq.trans ?_ (eq6 m c))
      rw [← e0, ← e2]
    · refine (h3.trans (Cert.AdamInORefIdeal.Read.val_main_v13_eq _ _)).trans (Eq.trans ?_ (eq7 m c))
      rw [← e0, ← e3]

end Cert.Proof

end
-- ==== Proof.Adam.Out.lean ====
/- A mixer's output map: the parts' sum and the AdamW step. -/
module

public import proofs.«01_k».proof.Defs
public import proofs.«01_k».proof.Proof.Adam.Step
public import proofs.«01_k».proof.Proof.Gen.AdamOutIdeal.Value
public import proofs.«01_k».proof.Proof.Gen.AdamOut.Frame
public import proofs.«01_k».proof.Proof.Gen.AdamOutRefIdeal.Read

@[expose] public section

set_option maxRecDepth 16384

noncomputable section

namespace Cert.AdamOutIdeal.Hand

open Cert.AdamOutIdeal Cert.AdamOutIdeal.Gen Cert.Adam Idealize.ShloMosaic Idealize.ShloMosaic.TcCoe Idealize.SL.Sem

/-! ## What the body computes on one block of rows -/

theorem origin : (![0, 0, 0] : Fin 3 → Nat) = fun _ => 0 := by decide

variable (p : Vec Ideal S4x128x2048 .bf16) (w a b : Vec Ideal S1x128x2048 .f32)

/-- The sum of the four parts. -/
def grad (r : Fin 128) (k : Fin 2048) : EReal := sum4 (p (ix3 0 r k)) (p (ix3 1 r k)) (p (ix3 2 r k)) (p (ix3 3 r k))

theorem part0 (r : Fin 128) (k : Fin 2048) : View.ld p r0_0 (ix3 0 r k) = p (ix3 0 r k) := by
  refine congrArg p (funext fun i => Fin.ext ?_)
  match i with
  | ⟨0, _⟩ => rfl
  | ⟨1, _⟩ => exact (Nat.zero_add _).trans (Nat.one_mul _)
  | ⟨2, _⟩ => exact (Nat.zero_add _).trans (Nat.one_mul _)
theorem part1 (r : Fin 128) (k : Fin 2048) : View.ld p r0_1 (ix3 0 r k) = p (ix3 1 r k) := by
  refine congrArg p (funext fun i => Fin.ext ?_)
  match i with
  | ⟨0, _⟩ => rfl
  | ⟨1, _⟩ => exact (Nat.zero_add _).trans (Nat.one_mul _)
  | ⟨2, _⟩ => exact (Nat.zero_add _).trans (Nat.one_mul _)
theorem part2 (r : Fin 128) (k : Fin 2048) : View.ld p r0_2 (ix3 0 r k) = p (ix3 2 r k) := by
  refine congrArg p (funext fun i => Fin.ext ?_)
  match i with
  | ⟨0, _⟩ => rfl
  | ⟨1, _⟩ => exact (Nat.zero_add _).trans (Nat.one_mul _)
  | ⟨2, _⟩ => exact (Nat.zero_add _).trans (Nat.one_mul _)
theorem part3 (r : Fin 128) (k : Fin 2048) : View.ld p r0_3 (ix3 0 r k) = p (ix3 3 r k) := by
  refine congrArg p (funext fun i => Fin.ext ?_)
  match i with
  | ⟨0, _⟩ => rfl
  | ⟨1, _⟩ => exact (Nat.zero_add _).trans (Nat.one_mul _)
  | ⟨2, _⟩ => exact (Nat.zero_add _).trans (Nat.one_mul _)
theorem whole (x : Vec Ideal S1x128x2048 .f32) : View.ld x r0_4 = x := View.ld_unit_zero (S := S1x128x2048) origin _ x

theorem pay5_at (r : Fin 128) (k : Fin 2048) : k0_pay5 (View.ld p r0_0) (View.ld p r0_1) (View.ld p r0_2) (View.ld p r0_3) (ix2 r k) = grad p r k := by
  pointwise [k0_pay5, part0, part1, part2, part3]
  rfl
theorem pay10_at (r : Fin 128) (k : Fin 2048) : k0_pay10 p w a b (ix2 r k) = mom (grad p r k) (a (ix3 0 r k)) := by
  unfold k0_pay10
  rw [whole]
  pointwise [k0_pay7, pay5_at]
  rfl
theorem pay11_at (r : Fin 128) (k : Fin 2048) : k0_pay11 p w a b (ix2 r k) = vel (grad p r k) (b (ix3 0 r k)) := by
  unfold k0_pay11
  rw [whole]
  pointwise [k0_pay8, pay5_at]
  rfl
theorem out4_at (r : Fin 128) (k : Fin 2048) : out0_4 p w a b (ix3 0 r k) = grad p r k := by
  unfold out0_4
  refine (congrFun (View.canon_unit_zero (S := S1x128x2048) origin _ _) _).trans ?_
  pointwise [k0_pay1, pay5_at]
theorem out6_at (r : Fin 128) (k : Fin 2048) : out0_6 p w a b (ix3 0 r k) = mom (grad p r k) (a (ix3 0 r k)) := by
  unfold out0_6
  refine (congrFun (View.canon_unit_zero (S := S1x128x2048) origin _ _) _).trans ?_
  pointwise [k0_pay3, pay10_at]
theorem out7_at (r : Fin 128) (k : Fin 2048) : out0_7 p w a b (ix3 0 r k) = vel (grad p r k) (b (ix3 0 r k)) := by
  unfold out0_7
  refine (congrFun (View.canon_unit_zero (S := S1x128x2048) origin _ _) _).trans ?_
  pointwise [k0_pay4, pay11_at]
theorem out5_at (r : Fin 128) (k : Fin 2048) : out0_5 p w a b (ix3 0 r k)
    = upd (w (ix3 0 r k)) (mom (grad p r k) (a (ix3 0 r k))) (vel (grad p r k) (b (ix3 0 r k))) := by
  unfold out0_5
  rw [whole]
  refine (congrFun (View.canon_unit_zero (S := S1x128x2048) origin _ _) _).trans ?_
  pointwise [k0_pay2, k0_pay6, k0_pay9, pay10_at, pay11_at]
  rfl

/-! ## The blocks, in the argument arrays -/

variable (m : (ℓ : Loc nD τ sig) → Buf (Elt Ideal) ℓ)

/-- Row `r` of block `t`. -/
def at_ (t : ℕ) (r : Fin 128) : Fin 256 := ⟨(128 * t + r.val) % 256, Nat.mod_lt _ (by decide)⟩

theorem idx0 : ∀ t : Fin grid0.N, win0_0.index t 0 = 0 ∧ win0_0.index t 1 = t.val ∧ win0_0.index t 2 = 0 := by decide +kernel
theorem blk0 (c : Dev nD) (t : Fin cfg0.N) (j : Fin 4) (r : Fin 128) (k : Fin 2048) :
    iblk m c 0 t (ix3 j r k) = m ((c : Thread nD τ).loc main_arg0) (ix3 j (at_ t.val r) k) := by
  have ht : t.val < 2 := lt_of_lt_of_eq t.isLt N_0
  show V m c main_arg0 ((win0_0.rect t).emb (ix3 j r k)) = _
  rw [V_main_arg0]
  refine congrArg (m ((c : Thread nD τ).loc main_arg0)) (funext fun a => Fin.ext ?_)
  rw [Pipeline.Window.rect_emb_val win0_0]
  match a with
  | ⟨0, _⟩ => show win0_0.index t 0 * 4 + j.val = j.val; rw [(idx0 t).1]; omega
  | ⟨1, _⟩ => show win0_0.index t 1 * 128 + r.val = (128 * t.val + r.val) % 256; rw [(idx0 t).2.1]; omega
  | ⟨2, _⟩ => show win0_0.index t 2 * 2048 + k.val = k.val; rw [(idx0 t).2.2]; omega
theorem idx1 : ∀ t : Fin grid0.N, win0_1.index t 0 = 0 ∧ win0_1.index t 1 = t.val ∧ win0_1.index t 2 = 0 := by decide +kernel
theorem blk1 (c : Dev nD) (t : Fin cfg0.N) (j : Fin 1) (r : Fin 128) (k : Fin 2048) :
    iblk m c 1 t (ix3 j r k) = m ((c : Thread nD τ).loc main_arg1) (ix3 j (at_ t.val r) k) := by
  have ht : t.val < 2 := lt_of_lt_of_eq t.isLt N_0
  show V m c main_arg1 ((win0_1.rect t).emb (ix3 j r k)) = _
  rw [V_main_arg1]
  refine congrArg (m ((c : Thread nD τ).loc main_arg1)) (funext fun a => Fin.ext ?_)
  rw [Pipeline.Window.rect_emb_val win0_1]
  match a with
  | ⟨0, _⟩ => show win0_1.index t 0 * 1 + j.val = j.val; rw [(idx1 t).1]; omega
  | ⟨1, _⟩ => show win0_1.index t 1 * 128 + r.val = (128 * t.val + r.val) % 256; rw [(idx1 t).2.1]; omega
  | ⟨2, _⟩ => show win0_1.index t 2 * 2048 + k.val = k.val; rw [(idx1 t).2.2]; omega
theorem idx2 : ∀ t : Fin grid0.N, win0_2.index t 0 = 0 ∧ win0_2.index t 1 = t.val ∧ win0_2.index t 2 = 0 := by decide +kernel
theorem blk2 (c : Dev nD) (t : Fin cfg0.N) (j : Fin 1) (r : Fin 128) (k : Fin 2048) :
    iblk m c 2 t (ix3 j r k) = m ((c : Thread nD τ).loc main_arg2) (ix3 j (at_ t.val r) k) := by
  have ht : t.val < 2 := lt_of_lt_of_eq t.isLt N_0
  show V m c main_arg2 ((win0_2.rect t).emb (ix3 j r k)) = _
  rw [V_main_arg2]
  refine congrArg (m ((c : Thread nD τ).loc main_arg2)) (funext fun a => Fin.ext ?_)
  rw [Pipeline.Window.rect_emb_val win0_2]
  match a with
  | ⟨0, _⟩ => show win0_2.index t 0 * 1 + j.val = j.val; rw [(idx2 t).1]; omega
  | ⟨1, _⟩ => show win0_2.index t 1 * 128 + r.val = (128 * t.val + r.val) % 256; rw [(idx2 t).2.1]; omega
  | ⟨2, _⟩ => show win0_2.index t 2 * 2048 + k.val = k.val; rw [(idx2 t).2.2]; omega
theorem idx3 : ∀ t : Fin grid0.N, win0_3.index t 0 = 0 ∧ win0_3.index t 1 = t.val ∧ win0_3.index t 2 = 0 := by decide +kernel
theorem blk3 (c : Dev nD) (t : Fin cfg0.N) (j : Fin 1) (r : Fin 128) (k : Fin 2048) :
    iblk m c 3 t (ix3 j r k) = m ((c : Thread nD τ).loc main_arg3) (ix3 j (at_ t.val r) k) := by
  have ht : t.val < 2 := lt_of_lt_of_eq t.isLt N_0
  show V m c main_arg3 ((win0_3.rect t).emb (ix3 j r k)) = _
  rw [V_main_arg3]
  refine congrArg (m ((c : Thread nD τ).loc main_arg3)) (funext fun a => Fin.ext ?_)
  rw [Pipeline.Window.rect_emb_val win0_3]
  match a with
  | ⟨0, _⟩ => show win0_3.index t 0 * 1 + j.val = j.val; rw [(idx3 t).1]; omega
  | ⟨1, _⟩ => show win0_3.index t 1 * 128 + r.val = (128 * t.val + r.val) % 256; rw [(idx3 t).2.1]; omega
  | ⟨2, _⟩ => show win0_3.index t 2 * 2048 + k.val = k.val; rw [(idx3 t).2.2]; omega

/-! ## The result arrays -/

/-- The gradient, the moments and the update, entry by entry. -/
def gradAt (c : Dev nD) (r : Fin 256) (k : Fin 2048) : EReal :=
  sum4 (m ((c : Thread nD τ).loc main_arg0) (ix3 0 r k)) (m ((c : Thread nD τ).loc main_arg0) (ix3 1 r k))
    (m ((c : Thread nD τ).loc main_arg0) (ix3 2 r k)) (m ((c : Thread nD τ).loc main_arg0) (ix3 3 r k))
def final4 (c : Dev nD) : FVec Ideal S1x256x2048 .f32 := fun i => gradAt m c (i 1) (i 2)
def final6 (c : Dev nD) : FVec Ideal S1x256x2048 .f32 := fun i => mom (gradAt m c (i 1) (i 2)) (m ((c : Thread nD τ).loc main_arg2) (ix3 0 (i 1) (i 2)))
def final7 (c : Dev nD) : FVec Ideal S1x256x2048 .f32 := fun i => vel (gradAt m c (i 1) (i 2)) (m ((c : Thread nD τ).loc main_arg3) (ix3 0 (i 1) (i 2)))
def final5 (c : Dev nD) : FVec Ideal S1x256x2048 .f32 := fun i =>
  upd (m ((c : Thread nD τ).loc main_arg1) (ix3 0 (i 1) (i 2))) (final6 m c (ix3 0 (i 1) (i 2))) (final7 m c (ix3 0 (i 1) (i 2)))

theorem grad_blk (c : Dev nD) (t : Fin cfg0.N) (r : Fin 128) (k : Fin 2048) : grad (iblk m c 0 t) r k = gradAt m c (at_ t.val r) k := by
  unfold grad
  rw [blk0, blk0, blk0, blk0]
  rfl

theorem idx4 : ∀ t : Fin grid0.N, win0_4.index t 0 = 0 ∧ win0_4.index t 1 = t.val ∧ win0_4.index t 2 = 0 := by decide +kernel
theorem flushed4 (c : Dev nD) (t : Fin cfg0.N) : (dats m 0 c).flushed 4 t = ((cfg0.win 4).blk t).view.read (Elt Ideal) (final4 m c) := by
  have ht : t.val < 2 := lt_of_lt_of_eq t.isLt N_0
  rw [Value.flushed4]
  funext y
  idx_vars y
  show out0_4 (F := Ideal) _ _ _ _ (ix3 y0 y1 y2) = final4 m c ((win0_4.rect t).emb (ix3 y0 y1 y2))
  rw [show (win0_4.rect t).emb (ix3 y0 y1 y2) = ix3 y0 (at_ t.val y1) y2 from funext fun a => Fin.ext (by
    rw [Pipeline.Window.rect_emb_val win0_4]
    match a with
    | ⟨0, _⟩ => show win0_4.index t 0 * 1 + y0.val = y0.val; rw [(idx4 t).1]; omega
    | ⟨1, _⟩ => show win0_4.index t 1 * 128 + y1.val = (128 * t.val + y1.val) % 256; rw [(idx4 t).2.1]; omega
    | ⟨2, _⟩ => show win0_4.index t 2 * 2048 + y2.val = y2.val; rw [(idx4 t).2.2]; omega)]
  obtain rfl : y0 = 0 := Subsingleton.elim _ _
  rw [out4_at, grad_blk]
  rfl
theorem arr4 (c : Dev nD) : (dats m 0 c).arrAt 4 cfg0.N = final4 m c :=
  (dats m 0 c).arrAt_eq_of_cover 4 (final4 m c) (fun t _ => flushed4 m c t)
    fun i => by
      have h0 : (i 0 : Nat) < 1 := (i 0).isLt
      have h1 : (i 1 : Nat) < 256 := (i 1).isLt
      have h2 : (i 2 : Nat) < 2048 := (i 2).isLt
      refine ⟨⟨(i 1 : Nat) / 128, lt_of_lt_of_eq (by omega) N_0.symm⟩, flush0_4 _, ?_⟩
      generalize ht : (⟨(i 1 : Nat) / 128, _⟩ : Fin cfg0.N) = t
      have hv : t.val = (i 1 : Nat) / 128 := by rw [← ht]
      show i ∈ ((View.whole main_v0_0).slice (win0_4.rect t)).set
      rw [View.set_slice_whole, Rect.mem_set_unit]
      intro a
      match a with
      | ⟨0, _⟩ => show win0_4.index t 0 * 1 ≤ (i 0 : Nat) ∧ (i 0 : Nat) < win0_4.index t 0 * 1 + 1
                  rw [(idx4 t).1]; omega
      | ⟨1, _⟩ => show win0_4.index t 1 * 128 ≤ (i 1 : Nat) ∧ (i 1 : Nat) < win0_4.index t 1 * 128 + 128
                  rw [(idx4 t).2.1]; omega
      | ⟨2, _⟩ => show win0_4.index t 2 * 2048 ≤ (i 2 : Nat) ∧ (i 2 : Nat) < win0_4.index t 2 * 2048 + 2048
                  rw [(idx4 t).2.2]; omega

theorem idx5 : ∀ t : Fin grid0.N, win0_5.index t 0 = 0 ∧ win0_5.index t 1 = t.val ∧ win0_5.index t 2 = 0 := by decide +kernel
theorem flushed5 (c : Dev nD) (t : Fin cfg0.N) : (dats m 0 c).flushed 5 t = ((cfg0.win 5).blk t).view.read (Elt Ideal) (final5 m c) := by
  have ht : t.val < 2 := lt_of_lt_of_eq t.isLt N_0
  rw [Value.flushed5]
  funext y
  idx_vars y
  show out0_5 (F := Ideal) _ _ _ _ (ix3 y0 y1 y2) = final5 m c ((win0_5.rect t).emb (ix3 y0 y1 y2))
  rw [show (win0_5.rect t).emb (ix3 y0 y1 y2) = ix3 y0 (at_ t.val y1) y2 from funext fun a => Fin.ext (by
    rw [Pipeline.Window.rect_emb_val win0_5]
    match a with
    | ⟨0, _⟩ => show win0_5.index t 0 * 1 + y0.val = y0.val; rw [(idx5 t).1]; omega
    | ⟨1, _⟩ => show win0_5.index t 1 * 128 + y1.val = (128 * t.val + y1.val) % 256; rw [(idx5 t).2.1]; omega
    | ⟨2, _⟩ => show win0_5.index t 2 * 2048 + y2.val = y2.val; rw [(idx5 t).2.2]; omega)]
  obtain rfl : y0 = 0 := Subsingleton.elim _ _
  rw [out5_at, grad_blk, blk1, blk2, blk3]
  rfl
theorem arr5 (c : Dev nD) : (dats m 0 c).arrAt 5 cfg0.N = final5 m c :=
  (dats m 0 c).arrAt_eq_of_cover 5 (final5 m c) (fun t _ => flushed5 m c t)
    fun i => by
      have h0 : (i 0 : Nat) < 1 := (i 0).isLt
      have h1 : (i 1 : Nat) < 256 := (i 1).isLt
      have h2 : (i 2 : Nat) < 2048 := (i 2).isLt
      refine ⟨⟨(i 1 : Nat) / 128, lt_of_lt_of_eq (by omega) N_0.symm⟩, flush0_5 _, ?_⟩
      generalize ht : (⟨(i 1 : Nat) / 128, _⟩ : Fin cfg0.N) = t
      have hv : t.val = (i 1 : Nat) / 128 := by rw [← ht]
      show i ∈ ((View.whole main_v0_1).slice (win0_5.rect t)).set
      rw [View.set_slice_whole, Rect.mem_set_unit]
      intro a
      match a with
      | ⟨0, _⟩ => show win0_5.index t 0 * 1 ≤ (i 0 : Nat) ∧ (i 0 : Nat) < win0_5.index t 0 * 1 + 1
                  rw [(idx5 t).1]; omega
      | ⟨1, _⟩ => show win0_5.index t 1 * 128 ≤ (i 1 : Nat) ∧ (i 1 : Nat) < win0_5.index t 1 * 128 + 128
                  rw [(idx5 t).2.1]; omega
      | ⟨2, _⟩ => show win0_5.index t 2 * 2048 ≤ (i 2 : Nat) ∧ (i 2 : Nat) < win0_5.index t 2 * 2048 + 2048
                  rw [(idx5 t).2.2]; omega

theorem idx6 : ∀ t : Fin grid0.N, win0_6.index t 0 = 0 ∧ win0_6.index t 1 = t.val ∧ win0_6.index t 2 = 0 := by decide +kernel
theorem flushed6 (c : Dev nD) (t : Fin cfg0.N) : (dats m 0 c).flushed 6 t = ((cfg0.win 6).blk t).view.read (Elt Ideal) (final6 m c) := by
  have ht : t.val < 2 := lt_of_lt_of_eq t.isLt N_0
  rw [Value.flushed6]
  funext y
  idx_vars y
  show out0_6 (F := Ideal) _ _ _ _ (ix3 y0 y1 y2) = final6 m c ((win0_6.rect t).emb (ix3 y0 y1 y2))
  rw [show (win0_6.rect t).emb (ix3 y0 y1 y2) = ix3 y0 (at_ t.val y1) y2 from funext fun a => Fin.ext (by
    rw [Pipeline.Window.rect_emb_val win0_6]
    match a with
    | ⟨0, _⟩ => show win0_6.index t 0 * 1 + y0.val = y0.val; rw [(idx6 t).1]; omega
    | ⟨1, _⟩ => show win0_6.index t 1 * 128 + y1.val = (128 * t.val + y1.val) % 256; rw [(idx6 t).2.1]; omega
    | ⟨2, _⟩ => show win0_6.index t 2 * 2048 + y2.val = y2.val; rw [(idx6 t).2.2]; omega)]
  obtain rfl : y0 = 0 := Subsingleton.elim _ _
  rw [out6_at, grad_blk, blk2]
  rfl
theorem arr6 (c : Dev nD) : (dats m 0 c).arrAt 6 cfg0.N = final6 m c :=
  (dats m 0 c).arrAt_eq_of_cover 6 (final6 m c) (fun t _ => flushed6 m c t)
    fun i => by
      have h0 : (i 0 : Nat) < 1 := (i 0).isLt
      have h1 : (i 1 : Nat) < 256 := (i 1).isLt
      have h2 : (i 2 : Nat) < 2048 := (i 2).isLt
      refine ⟨⟨(i 1 : Nat) / 128, lt_of_lt_of_eq (by omega) N_0.symm⟩, flush0_6 _, ?_⟩
      generalize ht : (⟨(i 1 : Nat) / 128, _⟩ : Fin cfg0.N) = t
      have hv : t.val = (i 1 : Nat) / 128 := by rw [← ht]
      show i ∈ ((View.whole main_v0_2).slice (win0_6.rect t)).set
      rw [View.set_slice_whole, Rect.mem_set_unit]
      intro a
      match a with
      | ⟨0, _⟩ => show win0_6.index t 0 * 1 ≤ (i 0 : Nat) ∧ (i 0 : Nat) < win0_6.index t 0 * 1 + 1
                  rw [(idx6 t).1]; omega
      | ⟨1, _⟩ => show win0_6.index t 1 * 128 ≤ (i 1 : Nat) ∧ (i 1 : Nat) < win0_6.index t 1 * 128 + 128
                  rw [(idx6 t).2.1]; omega
      | ⟨2, _⟩ => show win0_6.index t 2 * 2048 ≤ (i 2 : Nat) ∧ (i 2 : Nat) < win0_6.index t 2 * 2048 + 2048
                  rw [(idx6 t).2.2]; omega

theorem idx7 : ∀ t : Fin grid0.N, win0_7.index t 0 = 0 ∧ win0_7.index t 1 = t.val ∧ win0_7.index t 2 = 0 := by decide +kernel
theorem flushed7 (c : Dev nD) (t : Fin cfg0.N) : (dats m 0 c).flushed 7 t = ((cfg0.win 7).blk t).view.read (Elt Ideal) (final7 m c) := by
  have ht : t.val < 2 := lt_of_lt_of_eq t.isLt N_0
  rw [Value.flushed7]
  funext y
  idx_vars y
  show out0_7 (F := Ideal) _ _ _ _ (ix3 y0 y1 y2) = final7 m c ((win0_7.rect t).emb (ix3 y0 y1 y2))
  rw [show (win0_7.rect t).emb (ix3 y0 y1 y2) = ix3 y0 (at_ t.val y1) y2 from funext fun a => Fin.ext (by
    rw [Pipeline.Window.rect_emb_val win0_7]
    match a with
    | ⟨0, _⟩ => show win0_7.index t 0 * 1 + y0.val = y0.val; rw [(idx7 t).1]; omega
    | ⟨1, _⟩ => show win0_7.index t 1 * 128 + y1.val = (128 * t.val + y1.val) % 256; rw [(idx7 t).2.1]; omega
    | ⟨2, _⟩ => show win0_7.index t 2 * 2048 + y2.val = y2.val; rw [(idx7 t).2.2]; omega)]
  obtain rfl : y0 = 0 := Subsingleton.elim _ _
  rw [out7_at, grad_blk, blk3]
  rfl
theorem arr7 (c : Dev nD) : (dats m 0 c).arrAt 7 cfg0.N = final7 m c :=
  (dats m 0 c).arrAt_eq_of_cover 7 (final7 m c) (fun t _ => flushed7 m c t)
    fun i => by
      have h0 : (i 0 : Nat) < 1 := (i 0).isLt
      have h1 : (i 1 : Nat) < 256 := (i 1).isLt
      have h2 : (i 2 : Nat) < 2048 := (i 2).isLt
      refine ⟨⟨(i 1 : Nat) / 128, lt_of_lt_of_eq (by omega) N_0.symm⟩, flush0_7 _, ?_⟩
      generalize ht : (⟨(i 1 : Nat) / 128, _⟩ : Fin cfg0.N) = t
      have hv : t.val = (i 1 : Nat) / 128 := by rw [← ht]
      show i ∈ ((View.whole main_v0_3).slice (win0_7.rect t)).set
      rw [View.set_slice_whole, Rect.mem_set_unit]
      intro a
      match a with
      | ⟨0, _⟩ => show win0_7.index t 0 * 1 ≤ (i 0 : Nat) ∧ (i 0 : Nat) < win0_7.index t 0 * 1 + 1
                  rw [(idx7 t).1]; omega
      | ⟨1, _⟩ => show win0_7.index t 1 * 128 ≤ (i 1 : Nat) ∧ (i 1 : Nat) < win0_7.index t 1 * 128 + 128
                  rw [(idx7 t).2.1]; omega
      | ⟨2, _⟩ => show win0_7.index t 2 * 2048 ≤ (i 2 : Nat) ∧ (i 2 : Nat) < win0_7.index t 2 * 2048 + 2048
                  rw [(idx7 t).2.2]; omega

end Cert.AdamOutIdeal.Hand

namespace Cert.AdamOutRefIdeal.Hand

open Cert.AdamOutRefIdeal Cert.AdamOutRefIdeal.Read Cert.Adam Idealize.ShloMosaic Idealize.ShloMosaic.TcCoe Idealize.SL.Sem

/-! ## The reference, entry by entry -/

variable (p : FVec Ideal S4x256x2048 .bf16) (w a b : FVec Ideal S1x256x2048 .f32)

theorem v2_at (r : Fin 256) (k : Fin 2048) : val_main_v2 (F := Ideal) p (ix3 0 r k) = sum4 (p (ix3 0 r k)) (p (ix3 1 r k)) (p (ix3 2 r k)) (p (ix3 3 r k)) := by
  pointwise [val_main_v2, val_main_v1, val_main_v0, val_main_cst]
  exact Fin.sum_univ_four _
theorem v7_at (r : Fin 256) (k : Fin 2048) : val_main_v7 (F := Ideal) p a (ix3 0 r k) = mom (val_main_v2 (F := Ideal) p (ix3 0 r k)) (a (ix3 0 r k)) := by
  pointwise [val_main_v7, val_main_v6, val_main_v5, val_main_v4, val_main_v3, val_main_cst_0, val_main_cst_1]
  rfl
theorem v13_at (r : Fin 256) (k : Fin 2048) : val_main_v13 (F := Ideal) p b (ix3 0 r k) = vel (val_main_v2 (F := Ideal) p (ix3 0 r k)) (b (ix3 0 r k)) := by
  pointwise [val_main_v13, val_main_v12, val_main_v11, val_main_v10, val_main_v9, val_main_v8, val_main_cst_2, val_main_cst_3]
  rfl
theorem v26_at (r : Fin 256) (k : Fin 2048) : val_main_v26 (F := Ideal) p w a b (ix3 0 r k)
    = upd (w (ix3 0 r k)) (val_main_v7 (F := Ideal) p a (ix3 0 r k)) (val_main_v13 (F := Ideal) p b (ix3 0 r k)) := by
  pointwise [val_main_v26, val_main_v25, val_main_v24, val_main_v23, val_main_v22, val_main_v21, val_main_v20, val_main_v19, val_main_v18, val_main_v17, val_main_v16,
    val_main_v15, val_main_v14, val_main_cst_4, val_main_cst_5, val_main_cst_6, val_main_cst_7, val_main_cst_8]
  rfl

end Cert.AdamOutRefIdeal.Hand

namespace Cert.AdamOutIdeal.Hand

open Cert.AdamOutIdeal Cert.AdamOutIdeal.Gen Cert.AdamOutRefIdeal.Read Cert.AdamOutRefIdeal.Hand Cert.Adam Idealize.ShloMosaic Idealize.ShloMosaic.TcCoe Idealize.SL.Sem

variable (m : (ℓ : Loc nD τ sig) → Buf (Elt Ideal) ℓ)

/-- Each result of the reference is the kernel's. -/
theorem eq4 (c : Dev nD) : val_main_v2 (F := Ideal) (m ((c.tc : Thread nD τ).loc main_arg0)) = final4 m c := by
  funext i
  idx_vars i
  obtain rfl : i0 = 0 := Subsingleton.elim _ _
  exact v2_at _ _ _
theorem eq6 (c : Dev nD) : val_main_v7 (F := Ideal) (m ((c.tc : Thread nD τ).loc main_arg0)) (m ((c.tc : Thread nD τ).loc main_arg2)) = final6 m c := by
  funext i
  idx_vars i
  obtain rfl : i0 = 0 := Subsingleton.elim _ _
  rw [v7_at, eq4]
  rfl
theorem eq7 (c : Dev nD) : val_main_v13 (F := Ideal) (m ((c.tc : Thread nD τ).loc main_arg0)) (m ((c.tc : Thread nD τ).loc main_arg3)) = final7 m c := by
  funext i
  idx_vars i
  obtain rfl : i0 = 0 := Subsingleton.elim _ _
  rw [v13_at, eq4]
  rfl
theorem eq5 (c : Dev nD) : val_main_v26 (F := Ideal) (m ((c.tc : Thread nD τ).loc main_arg0)) (m ((c.tc : Thread nD τ).loc main_arg1))
    (m ((c.tc : Thread nD τ).loc main_arg2)) (m ((c.tc : Thread nD τ).loc main_arg3)) = final5 m c := by
  funext i
  idx_vars i
  obtain rfl : i0 = 0 := Subsingleton.elim _ _
  rw [v26_at, eq6, eq7]
  rfl

end Cert.AdamOutIdeal.Hand

namespace Cert.Proof

open Idealize.ShloMosaic Idealize.SL.Sem Cert.AdamOutIdeal.Hand

theorem AdamOut_frame : Cert.quiescent_AdamOut := fun m g _ => Cert.AdamOut.Gen.frame m g
theorem AdamOut_frame_ideal : Cert.quiescent_AdamOutIdeal := fun m g _ => Cert.AdamOutIdeal.Gen.frame m g
theorem AdamOut_frame_ref : Cert.quiescent_AdamOutRefIdeal := fun m g _ =>
  (θ_run Cert.AdamOutRefIdeal.defs _ _).mono (fun r h => ⟨fun c => (h c).2.2.2.2, sem_eq_zero_of_no_sems (by decide) r.2⟩)
    (Cert.AdamOutRefIdeal.Value.run (F := Ideal) m g)

/-- The gradient, the update and the moments are the reference's. -/
theorem AdamOut_equal : Cert.algebraic_AdamOutIdeal_AdamOutRefIdeal := by
  intro m g m' g' _ hargs
  refine ⟨final4 m, final5 m, final6 m, final7 m, ?_, ?_⟩
  · refine (θ_run Cert.AdamOutIdeal.defs _ _).mono ?_ (Cert.AdamOutIdeal.Value.run_blocks m g)
    intro r h c
    obtain ⟨h0, h1, h2, h3, ha⟩ := h c
    exact ⟨h0.trans (arr4 m c), h1.trans (arr5 m c), h2.trans (arr6 m c), h3.trans (arr7 m c), ha⟩
  · refine (θ_run Cert.AdamOutRefIdeal.defs _ _).mono ?_ (Cert.AdamOutRefIdeal.Value.run (F := Ideal) m' g')
    intro r h c
    obtain ⟨h0, h1, h2, h3, ha⟩ := h c
    obtain ⟨e0, e1, e2, e3⟩ := hargs c
    refine ⟨?_, ?_, ?_, ?_, ha⟩
    · refine (h0.trans (Cert.AdamOutRefIdeal.Read.val_main_v2_eq _)).trans (Eq.trans ?_ (eq4 m c))
      rw [← e0]
    · refine (h1.trans (Cert.AdamOutRefIdeal.Read.val_main_v26_eq _ _ _ _)).trans (Eq.trans ?_ (eq5 m c))
      rw [← e0, ← e1, ← e2, ← e3]
    · refine (h2.trans (Cert.AdamOutRefIdeal.Read.val_main_v7_eq _ _)).trans (Eq.trans ?_ (eq6 m c))
      rw [← e0, ← e2]
    · refine (h3.trans (Cert.AdamOutRefIdeal.Read.val_main_v13_eq _ _)).trans (Eq.trans ?_ (eq7 m c))
      rw [← e0, ← e3]

end Cert.Proof

end
-- ==== Proof.Adam.Small.lean ====
/- The AdamW step of the small weights, packed as one array. -/
module

public import proofs.«01_k».proof.Defs
public import proofs.«01_k».proof.Proof.Adam.Step
public import proofs.«01_k».proof.Proof.Gen.AdamSmallIdeal.Value
public import proofs.«01_k».proof.Proof.Gen.AdamSmall.Frame
public import proofs.«01_k».proof.Proof.Gen.AdamSmallRefIdeal.Read

@[expose] public section

set_option maxRecDepth 16384

noncomputable section

namespace Cert.AdamSmallIdeal.Hand

open Cert.AdamSmallIdeal Cert.AdamSmallIdeal.Gen Cert.Adam Idealize.ShloMosaic Idealize.ShloMosaic.TcCoe Idealize.SL.Sem

/-! ## What the body computes -/

theorem origin : (![0, 0] : Fin 2 → Nat) = fun _ => 0 := by decide

variable (w g a b : Vec Ideal S392x128 .f32)

theorem whole (x : Vec Ideal S392x128 .f32) : View.ld x r0_0 = x := View.ld_unit_zero (S := S392x128) origin _ x

theorem out5_at (r : Fin 392) (k : Fin 128) : out0_5 w g a b (ix2 r k) = mom (g (ix2 r k)) (a (ix2 r k)) := by
  unfold out0_5
  rw [whole, whole]
  refine (congrFun (View.canon_unit_zero (S := S392x128) origin _ _) _).trans ?_
  pointwise [k0_pay1]
  rfl
theorem out6_at (r : Fin 392) (k : Fin 128) : out0_6 w g a b (ix2 r k) = vel (g (ix2 r k)) (b (ix2 r k)) := by
  unfold out0_6
  rw [whole, whole]
  refine (congrFun (View.canon_unit_zero (S := S392x128) origin _ _) _).trans ?_
  pointwise [k0_pay2]
  rfl
theorem out4_at (r : Fin 392) (k : Fin 128) : out0_4 w g a b (ix2 r k)
    = upd (w (ix2 r k)) (mom (g (ix2 r k)) (a (ix2 r k))) (vel (g (ix2 r k)) (b (ix2 r k))) := by
  unfold out0_4
  rw [whole, whole, whole, whole]
  refine (congrFun (View.canon_unit_zero (S := S392x128) origin _ _) _).trans ?_
  pointwise [k0_pay3]
  rfl

/-! ## The result arrays -/

variable (m : (ℓ : Loc nD τ sig) → Buf (Elt Ideal) ℓ)

theorem idx0 : ∀ t : Fin grid0.N, win0_0.index t 0 = 0 ∧ win0_0.index t 1 = 0 := by decide +kernel
theorem blk0 (c : Dev nD) (t : Fin cfg0.N) (r : Fin 392) (k : Fin 128) :
    iblk m c 0 t (ix2 r k) = m ((c : Thread nD τ).loc main_arg0) (ix2 r k) := by
  show V m c main_arg0 ((win0_0.rect t).emb (ix2 r k)) = _
  rw [V_main_arg0]
  refine congrArg (m ((c : Thread nD τ).loc main_arg0)) (funext fun a => Fin.ext ?_)
  rw [Pipeline.Window.rect_emb_val win0_0]
  match a with
  | ⟨0, _⟩ => show win0_0.index t 0 * 392 + r.val = r.val; rw [(idx0 t).1]; omega
  | ⟨1, _⟩ => show win0_0.index t 1 * 128 + k.val = k.val; rw [(idx0 t).2]; omega
theorem idx1 : ∀ t : Fin grid0.N, win0_1.index t 0 = 0 ∧ win0_1.index t 1 = 0 := by decide +kernel
theorem blk1 (c : Dev nD) (t : Fin cfg0.N) (r : Fin 392) (k : Fin 128) :
    iblk m c 1 t (ix2 r k) = m ((c : Thread nD τ).loc main_arg1) (ix2 r k) := by
  show V m c main_arg1 ((win0_1.rect t).emb (ix2 r k)) = _
  rw [V_main_arg1]
  refine congrArg (m ((c : Thread nD τ).loc main_arg1)) (funext fun a => Fin.ext ?_)
  rw [Pipeline.Window.rect_emb_val win0_1]
  match a with
  | ⟨0, _⟩ => show win0_1.index t 0 * 392 + r.val = r.val; rw [(idx1 t).1]; omega
  | ⟨1, _⟩ => show win0_1.index t 1 * 128 + k.val = k.val; rw [(idx1 t).2]; omega
theorem idx2 : ∀ t : Fin grid0.N, win0_2.index t 0 = 0 ∧ win0_2.index t 1 = 0 := by decide +kernel
theorem blk2 (c : Dev nD) (t : Fin cfg0.N) (r : Fin 392) (k : Fin 128) :
    iblk m c 2 t (ix2 r k) = m ((c : Thread nD τ).loc main_arg2) (ix2 r k) := by
  show V m c main_arg2 ((win0_2.rect t).emb (ix2 r k)) = _
  rw [V_main_arg2]
  refine congrArg (m ((c : Thread nD τ).loc main_arg2)) (funext fun a => Fin.ext ?_)
  rw [Pipeline.Window.rect_emb_val win0_2]
  match a with
  | ⟨0, _⟩ => show win0_2.index t 0 * 392 + r.val = r.val; rw [(idx2 t).1]; omega
  | ⟨1, _⟩ => show win0_2.index t 1 * 128 + k.val = k.val; rw [(idx2 t).2]; omega
theorem idx3 : ∀ t : Fin grid0.N, win0_3.index t 0 = 0 ∧ win0_3.index t 1 = 0 := by decide +kernel
theorem blk3 (c : Dev nD) (t : Fin cfg0.N) (r : Fin 392) (k : Fin 128) :
    iblk m c 3 t (ix2 r k) = m ((c : Thread nD τ).loc main_arg3) (ix2 r k) := by
  show V m c main_arg3 ((win0_3.rect t).emb (ix2 r k)) = _
  rw [V_main_arg3]
  refine congrArg (m ((c : Thread nD τ).loc main_arg3)) (funext fun a => Fin.ext ?_)
  rw [Pipeline.Window.rect_emb_val win0_3]
  match a with
  | ⟨0, _⟩ => show win0_3.index t 0 * 392 + r.val = r.val; rw [(idx3 t).1]; omega
  | ⟨1, _⟩ => show win0_3.index t 1 * 128 + k.val = k.val; rw [(idx3 t).2]; omega

/-- The update and the moments, entry by entry. -/
def final5 (c : Dev nD) : FVec Ideal S392x128 .f32 := fun i =>
  mom (m ((c : Thread nD τ).loc main_arg1) i) (m ((c : Thread nD τ).loc main_arg2) i)
def final6 (c : Dev nD) : FVec Ideal S392x128 .f32 := fun i =>
  vel (m ((c : Thread nD τ).loc main_arg1) i) (m ((c : Thread nD τ).loc main_arg3) i)
def final4 (c : Dev nD) : FVec Ideal S392x128 .f32 := fun i =>
  upd (m ((c : Thread nD τ).loc main_arg0) i) (final5 m c i) (final6 m c i)

theorem idx4 : ∀ t : Fin grid0.N, win0_4.index t 0 = 0 ∧ win0_4.index t 1 = 0 := by decide +kernel
theorem flushed4 (c : Dev nD) (t : Fin cfg0.N) : (dats m 0 c).flushed 4 t = ((cfg0.win 4).blk t).view.read (Elt Ideal) (final4 m c) := by
  rw [Value.flushed4]
  funext y
  idx_vars y
  show out0_4 (F := Ideal) _ _ _ _ (ix2 y0 y1) = final4 m c ((win0_4.rect t).emb (ix2 y0 y1))
  rw [show (win0_4.rect t).emb (ix2 y0 y1) = ix2 y0 y1 from funext fun a => Fin.ext (by
    rw [Pipeline.Window.rect_emb_val win0_4]
    match a with
    | ⟨0, _⟩ => show win0_4.index t 0 * 392 + y0.val = y0.val; rw [(idx4 t).1]; omega
    | ⟨1, _⟩ => show win0_4.index t 1 * 128 + y1.val = y1.val; rw [(idx4 t).2]; omega)]
  rw [out4_at, blk0, blk1, blk2, blk3]
  rfl
theorem arr4 (c : Dev nD) : (dats m 0 c).arrAt 4 cfg0.N = final4 m c :=
  (dats m 0 c).arrAt_eq_of_cover 4 (final4 m c) (fun t _ => flushed4 m c t)
    fun i => by
      have h0 : (i 0 : Nat) < 392 := (i 0).isLt
      have h1 : (i 1 : Nat) < 128 := (i 1).isLt
      refine ⟨⟨0, lt_of_lt_of_eq (by omega) N_0.symm⟩, flush0_4 _, ?_⟩
      generalize (⟨0, _⟩ : Fin cfg0.N) = t
      show i ∈ ((View.whole main_v0_0).slice (win0_4.rect t)).set
      rw [View.set_slice_whole, Rect.mem_set_unit]
      intro a
      match a with
      | ⟨0, _⟩ => show win0_4.index t 0 * 392 ≤ (i 0 : Nat) ∧ (i 0 : Nat) < win0_4.index t 0 * 392 + 392
                  rw [(idx4 t).1]; omega
      | ⟨1, _⟩ => show win0_4.index t 1 * 128 ≤ (i 1 : Nat) ∧ (i 1 : Nat) < win0_4.index t 1 * 128 + 128
                  rw [(idx4 t).2]; omega

theorem idx5 : ∀ t : Fin grid0.N, win0_5.index t 0 = 0 ∧ win0_5.index t 1 = 0 := by decide +kernel
theorem flushed5 (c : Dev nD) (t : Fin cfg0.N) : (dats m 0 c).flushed 5 t = ((cfg0.win 5).blk t).view.read (Elt Ideal) (final5 m c) := by
  rw [Value.flushed5]
  funext y
  idx_vars y
  show out0_5 (F := Ideal) _ _ _ _ (ix2 y0 y1) = final5 m c ((win0_5.rect t).emb (ix2 y0 y1))
  rw [show (win0_5.rect t).emb (ix2 y0 y1) = ix2 y0 y1 from funext fun a => Fin.ext (by
    rw [Pipeline.Window.rect_emb_val win0_5]
    match a with
    | ⟨0, _⟩ => show win0_5.index t 0 * 392 + y0.val = y0.val; rw [(idx5 t).1]; omega
    | ⟨1, _⟩ => show win0_5.index t 1 * 128 + y1.val = y1.val; rw [(idx5 t).2]; omega)]
  rw [out5_at, blk1, blk2]
  rfl
theorem arr5 (c : Dev nD) : (dats m 0 c).arrAt 5 cfg0.N = final5 m c :=
  (dats m 0 c).arrAt_eq_of_cover 5 (final5 m c) (fun t _ => flushed5 m c t)
    fun i => by
      have h0 : (i 0 : Nat) < 392 := (i 0).isLt
      have h1 : (i 1 : Nat) < 128 := (i 1).isLt
      refine ⟨⟨0, lt_of_lt_of_eq (by omega) N_0.symm⟩, flush0_5 _, ?_⟩
      generalize (⟨0, _⟩ : Fin cfg0.N) = t
      show i ∈ ((View.whole main_v0_1).slice (win0_5.rect t)).set
      rw [View.set_slice_whole, Rect.mem_set_unit]
      intro a
      match a with
      | ⟨0, _⟩ => show win0_5.index t 0 * 392 ≤ (i 0 : Nat) ∧ (i 0 : Nat) < win0_5.index t 0 * 392 + 392
                  rw [(idx5 t).1]; omega
      | ⟨1, _⟩ => show win0_5.index t 1 * 128 ≤ (i 1 : Nat) ∧ (i 1 : Nat) < win0_5.index t 1 * 128 + 128
                  rw [(idx5 t).2]; omega

theorem idx6 : ∀ t : Fin grid0.N, win0_6.index t 0 = 0 ∧ win0_6.index t 1 = 0 := by decide +kernel
theorem flushed6 (c : Dev nD) (t : Fin cfg0.N) : (dats m 0 c).flushed 6 t = ((cfg0.win 6).blk t).view.read (Elt Ideal) (final6 m c) := by
  rw [Value.flushed6]
  funext y
  idx_vars y
  show out0_6 (F := Ideal) _ _ _ _ (ix2 y0 y1) = final6 m c ((win0_6.rect t).emb (ix2 y0 y1))
  rw [show (win0_6.rect t).emb (ix2 y0 y1) = ix2 y0 y1 from funext fun a => Fin.ext (by
    rw [Pipeline.Window.rect_emb_val win0_6]
    match a with
    | ⟨0, _⟩ => show win0_6.index t 0 * 392 + y0.val = y0.val; rw [(idx6 t).1]; omega
    | ⟨1, _⟩ => show win0_6.index t 1 * 128 + y1.val = y1.val; rw [(idx6 t).2]; omega)]
  rw [out6_at, blk1, blk3]
  rfl
theorem arr6 (c : Dev nD) : (dats m 0 c).arrAt 6 cfg0.N = final6 m c :=
  (dats m 0 c).arrAt_eq_of_cover 6 (final6 m c) (fun t _ => flushed6 m c t)
    fun i => by
      have h0 : (i 0 : Nat) < 392 := (i 0).isLt
      have h1 : (i 1 : Nat) < 128 := (i 1).isLt
      refine ⟨⟨0, lt_of_lt_of_eq (by omega) N_0.symm⟩, flush0_6 _, ?_⟩
      generalize (⟨0, _⟩ : Fin cfg0.N) = t
      show i ∈ ((View.whole main_v0_2).slice (win0_6.rect t)).set
      rw [View.set_slice_whole, Rect.mem_set_unit]
      intro a
      match a with
      | ⟨0, _⟩ => show win0_6.index t 0 * 392 ≤ (i 0 : Nat) ∧ (i 0 : Nat) < win0_6.index t 0 * 392 + 392
                  rw [(idx6 t).1]; omega
      | ⟨1, _⟩ => show win0_6.index t 1 * 128 ≤ (i 1 : Nat) ∧ (i 1 : Nat) < win0_6.index t 1 * 128 + 128
                  rw [(idx6 t).2]; omega

end Cert.AdamSmallIdeal.Hand

namespace Cert.AdamSmallRefIdeal.Hand

open Cert.AdamSmallRefIdeal Cert.AdamSmallRefIdeal.Read Cert.Adam Idealize.ShloMosaic Idealize.ShloMosaic.TcCoe Idealize.SL.Sem

/-! ## The reference, entry by entry -/

variable (w g a b : FVec Ideal S392x128 .f32)

theorem v4_at (r : Fin 392) (k : Fin 128) : val_main_v4 (F := Ideal) g a (ix2 r k) = mom (g (ix2 r k)) (a (ix2 r k)) := by
  pointwise [val_main_v4, val_main_v3, val_main_v2, val_main_v1, val_main_v0, val_main_cst, val_main_cst_0]
  rfl
theorem v10_at (r : Fin 392) (k : Fin 128) : val_main_v10 (F := Ideal) g b (ix2 r k) = vel (g (ix2 r k)) (b (ix2 r k)) := by
  pointwise [val_main_v10, val_main_v9, val_main_v8, val_main_v7, val_main_v6, val_main_v5, val_main_cst_1, val_main_cst_2]
  rfl
theorem v23_at (r : Fin 392) (k : Fin 128) : val_main_v23 (F := Ideal) w g a b (ix2 r k)
    = upd (w (ix2 r k)) (val_main_v4 (F := Ideal) g a (ix2 r k)) (val_main_v10 (F := Ideal) g b (ix2 r k)) := by
  pointwise [val_main_v23, val_main_v22, val_main_v21, val_main_v20, val_main_v19, val_main_v18, val_main_v17, val_main_v16, val_main_v15, val_main_v14, val_main_v13,
    val_main_v12, val_main_v11, val_main_cst_3, val_main_cst_4, val_main_cst_5, val_main_cst_6, val_main_cst_7]
  rfl

end Cert.AdamSmallRefIdeal.Hand

namespace Cert.AdamSmallIdeal.Hand

open Cert.AdamSmallIdeal Cert.AdamSmallIdeal.Gen Cert.AdamSmallRefIdeal.Read Cert.AdamSmallRefIdeal.Hand Cert.Adam Idealize.ShloMosaic Idealize.ShloMosaic.TcCoe Idealize.SL.Sem

variable (m : (ℓ : Loc nD τ sig) → Buf (Elt Ideal) ℓ)

/-- Each result of the reference is the kernel's. -/
theorem eq5 (c : Dev nD) : val_main_v4 (F := Ideal) (m ((c.tc : Thread nD τ).loc main_arg1)) (m ((c.tc : Thread nD τ).loc main_arg2)) = final5 m c := by
  funext i
  idx_vars i
  exact v4_at _ _ _ _
theorem eq6 (c : Dev nD) : val_main_v10 (F := Ideal) (m ((c.tc : Thread nD τ).loc main_arg1)) (m ((c.tc : Thread nD τ).loc main_arg3)) = final6 m c := by
  funext i
  idx_vars i
  exact v10_at _ _ _ _
theorem eq4 (c : Dev nD) : val_main_v23 (F := Ideal) (m ((c.tc : Thread nD τ).loc main_arg0)) (m ((c.tc : Thread nD τ).loc main_arg1))
    (m ((c.tc : Thread nD τ).loc main_arg2)) (m ((c.tc : Thread nD τ).loc main_arg3)) = final4 m c := by
  funext i
  idx_vars i
  rw [v23_at, eq5, eq6]
  rfl

end Cert.AdamSmallIdeal.Hand

namespace Cert.Proof

open Idealize.ShloMosaic Idealize.SL.Sem Cert.AdamSmallIdeal.Hand

theorem AdamSmall_frame : Cert.quiescent_AdamSmall := fun m g _ => Cert.AdamSmall.Gen.frame m g
theorem AdamSmall_frame_ideal : Cert.quiescent_AdamSmallIdeal := fun m g _ => Cert.AdamSmallIdeal.Gen.frame m g
theorem AdamSmall_frame_ref : Cert.quiescent_AdamSmallRefIdeal := fun m g _ =>
  (θ_run Cert.AdamSmallRefIdeal.defs _ _).mono (fun r h => ⟨fun c => (h c).2.2.2, sem_eq_zero_of_no_sems (by decide) r.2⟩)
    (Cert.AdamSmallRefIdeal.Value.run (F := Ideal) m g)

/-- The update and the moments are the reference's. -/
theorem AdamSmall_equal : Cert.algebraic_AdamSmallIdeal_AdamSmallRefIdeal := by
  intro m g m' g' _ hargs
  refine ⟨final4 m, final5 m, final6 m, ?_, ?_⟩
  · refine (θ_run Cert.AdamSmallIdeal.defs _ _).mono ?_ (Cert.AdamSmallIdeal.Value.run_blocks m g)
    intro r h c
    obtain ⟨h0, h1, h2, ha⟩ := h c
    exact ⟨h0.trans (arr4 m c), h1.trans (arr5 m c), h2.trans (arr6 m c), ha⟩
  · refine (θ_run Cert.AdamSmallRefIdeal.defs _ _).mono ?_ (Cert.AdamSmallRefIdeal.Value.run (F := Ideal) m' g')
    intro r h c
    obtain ⟨h0, h1, h2, ha⟩ := h c
    obtain ⟨e0, e1, e2, e3⟩ := hargs c
    refine ⟨?_, ?_, ?_, ha⟩
    · refine (h0.trans (Cert.AdamSmallRefIdeal.Read.val_main_v23_eq _ _ _ _)).trans (Eq.trans ?_ (eq4 m c))
      rw [← e0, ← e1, ← e2, ← e3]
    · refine (h1.trans (Cert.AdamSmallRefIdeal.Read.val_main_v4_eq _ _)).trans (Eq.trans ?_ (eq5 m c))
      rw [← e1, ← e2]
    · refine (h2.trans (Cert.AdamSmallRefIdeal.Read.val_main_v10_eq _ _)).trans (Eq.trans ?_ (eq6 m c))
      rw [← e1, ← e3]

end Cert.Proof

end
-- ==== Proof.lean ====
/- The claim. The frames and the equality of the even mixer's call are assembled here; those of each other call are
   stated at the end of its own module. -/
module

public import proofs.«01_k».proof.Defs
public import proofs.«01_k».proof.Proof.Gen.EvenBwd
public import proofs.«01_k».proof.Proof.Gen.EvenBwd.Skeleton
public import proofs.«01_k».proof.Proof.Gen.EvenBwd.Launch
public import proofs.«01_k».proof.Proof.Gen.EvenBwd.Points
public import proofs.«01_k».proof.Proof.Gen.EvenBwd.Frame
public import proofs.«01_k».proof.Proof.Gen.EvenBwdIdeal
public import proofs.«01_k».proof.Proof.Gen.EvenBwdIdeal.Skeleton
public import proofs.«01_k».proof.Proof.Gen.EvenBwdIdeal.Launch
public import proofs.«01_k».proof.Proof.Gen.EvenBwdIdeal.Points
public import proofs.«01_k».proof.Proof.Gen.EvenBwdIdeal.Frame
public import proofs.«01_k».proof.Proof.Gen.EvenBwdRefIdeal
public import proofs.«01_k».proof.Proof.Gen.EvenBwdRefIdeal.Run
public import proofs.«01_k».proof.Proof.Gen.EvenBwdRefIdeal.Read
public import proofs.«01_k».proof.Proof.Gen.Pre_even_finite
public import proofs.«01_k».proof.Proof.Gen.DwFfn
public import proofs.«01_k».proof.Proof.Gen.DwFfn.Skeleton
public import proofs.«01_k».proof.Proof.Gen.DwFfn.Launch
public import proofs.«01_k».proof.Proof.Gen.DwFfn.Points
public import proofs.«01_k».proof.Proof.Gen.DwFfn.Frame
public import proofs.«01_k».proof.Proof.Gen.DwFfnIdeal
public import proofs.«01_k».proof.Proof.Gen.DwFfnIdeal.Skeleton
public import proofs.«01_k».proof.Proof.Gen.DwFfnIdeal.Launch
public import proofs.«01_k».proof.Proof.Gen.DwFfnIdeal.Points
public import proofs.«01_k».proof.Proof.Gen.DwFfnIdeal.Frame
public import proofs.«01_k».proof.Proof.Gen.DwFfnIdeal.Value
public import proofs.«01_k».proof.Proof.Gen.DwFfnRefIdeal
public import proofs.«01_k».proof.Proof.Gen.DwFfnRefIdeal.Run
public import proofs.«01_k».proof.Proof.Gen.DwFfnRefIdeal.Read
public import proofs.«01_k».proof.Proof.Gen.DxFfn
public import proofs.«01_k».proof.Proof.Gen.DxFfn.Skeleton
public import proofs.«01_k».proof.Proof.Gen.DxFfn.Launch
public import proofs.«01_k».proof.Proof.Gen.DxFfn.Points
public import proofs.«01_k».proof.Proof.Gen.DxFfn.Frame
public import proofs.«01_k».proof.Proof.Gen.DxFfnIdeal
public import proofs.«01_k».proof.Proof.Gen.DxFfnIdeal.Skeleton
public import proofs.«01_k».proof.Proof.Gen.DxFfnIdeal.Launch
public import proofs.«01_k».proof.Proof.Gen.DxFfnIdeal.Points
public import proofs.«01_k».proof.Proof.Gen.DxFfnIdeal.Frame
public import proofs.«01_k».proof.Proof.Gen.DxFfnIdeal.Value
public import proofs.«01_k».proof.Proof.Gen.DxFfnRefIdeal
public import proofs.«01_k».proof.Proof.Gen.DxFfnRefIdeal.Run
public import proofs.«01_k».proof.Proof.Gen.DxFfnRefIdeal.Read
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import proofs.«01_k».proof.Proof.Gen.DxOut
public import proofs.«01_k».proof.Proof.Gen.DxOut.Skeleton
public import proofs.«01_k».proof.Proof.Gen.DxOut.Launch
public import proofs.«01_k».proof.Proof.Gen.DxOut.Points
public import proofs.«01_k».proof.Proof.Gen.DxOut.Frame
public import proofs.«01_k».proof.Proof.Gen.DxOutIdeal
public import proofs.«01_k».proof.Proof.Gen.DxOutIdeal.Skeleton
public import proofs.«01_k».proof.Proof.Gen.DxOutIdeal.Launch
public import proofs.«01_k».proof.Proof.Gen.DxOutIdeal.Points
public import proofs.«01_k».proof.Proof.Gen.DxOutIdeal.Frame
public import proofs.«01_k».proof.Proof.Gen.DxOutIdeal.Value
public import proofs.«01_k».proof.Proof.Gen.DxOutRefIdeal
public import proofs.«01_k».proof.Proof.Gen.DxOutRefIdeal.Run
public import proofs.«01_k».proof.Proof.Gen.DxOutRefIdeal.Read
public import proofs.«01_k».proof.Proof.Gen.DwInO
public import proofs.«01_k».proof.Proof.Gen.DwInO.Skeleton
public import proofs.«01_k».proof.Proof.Gen.DwInO.Launch
public import proofs.«01_k».proof.Proof.Gen.DwInO.Points
public import proofs.«01_k».proof.Proof.Gen.DwInO.Frame
public import proofs.«01_k».proof.Proof.Gen.DwInOIdeal
public import proofs.«01_k».proof.Proof.Gen.DwInOIdeal.Skeleton
public import proofs.«01_k».proof.Proof.Gen.DwInOIdeal.Launch
public import proofs.«01_k».proof.Proof.Gen.DwInOIdeal.Points
public import proofs.«01_k».proof.Proof.Gen.DwInOIdeal.Frame
public import proofs.«01_k».proof.Proof.Gen.DwInOIdeal.Value
public import proofs.«01_k».proof.Proof.Gen.DwInORefIdeal
public import proofs.«01_k».proof.Proof.Gen.DwInORefIdeal.Run
public import proofs.«01_k».proof.Proof.Gen.DwInORefIdeal.Read
public import proofs.«01_k».proof.Proof.Gen.DxInO
public import proofs.«01_k».proof.Proof.Gen.DxInO.Skeleton
public import proofs.«01_k».proof.Proof.Gen.DxInO.Launch
public import proofs.«01_k».proof.Proof.Gen.DxInO.Points
public import proofs.«01_k».proof.Proof.Gen.DxInO.Frame
public import proofs.«01_k».proof.Proof.Gen.DxInOIdeal
public import proofs.«01_k».proof.Proof.Gen.DxInOIdeal.Skeleton
public import proofs.«01_k».proof.Proof.Gen.DxInOIdeal.Launch
public import proofs.«01_k».proof.Proof.Gen.DxInOIdeal.Points
public import proofs.«01_k».proof.Proof.Gen.DxInOIdeal.Frame
public import proofs.«01_k».proof.Proof.Gen.DxInOIdeal.Value
public import proofs.«01_k».proof.Proof.Gen.DxInORefIdeal
public import proofs.«01_k».proof.Proof.Gen.DxInORefIdeal.Run
public import proofs.«01_k».proof.Proof.Gen.DxInORefIdeal.Read
public import proofs.«01_k».proof.Proof.Gen.DwInE
public import proofs.«01_k».proof.Proof.Gen.DwInE.Skeleton
public import proofs.«01_k».proof.Proof.Gen.DwInE.Launch
public import proofs.«01_k».proof.Proof.Gen.DwInE.Points
public import proofs.«01_k».proof.Proof.Gen.DwInE.Frame
public import proofs.«01_k».proof.Proof.Gen.DwInEIdeal
public import proofs.«01_k».proof.Proof.Gen.DwInEIdeal.Skeleton
public import proofs.«01_k».proof.Proof.Gen.DwInEIdeal.Launch
public import proofs.«01_k».proof.Proof.Gen.DwInEIdeal.Points
public import proofs.«01_k».proof.Proof.Gen.DwInEIdeal.Frame
public import proofs.«01_k».proof.Proof.Gen.DwInEIdeal.Value
public import proofs.«01_k».proof.Proof.Gen.DwInERefIdeal
public import proofs.«01_k».proof.Proof.Gen.DwInERefIdeal.Run
public import proofs.«01_k».proof.Proof.Gen.DwInERefIdeal.Read
public import proofs.«01_k».proof.Proof.Gen.DxInE
public import proofs.«01_k».proof.Proof.Gen.DxInE.Skeleton
public import proofs.«01_k».proof.Proof.Gen.DxInE.Launch
public import proofs.«01_k».proof.Proof.Gen.DxInE.Points
public import proofs.«01_k».proof.Proof.Gen.DxInE.Frame
public import proofs.«01_k».proof.Proof.Gen.DxInEIdeal
public import proofs.«01_k».proof.Proof.Gen.DxInEIdeal.Skeleton
public import proofs.«01_k».proof.Proof.Gen.DxInEIdeal.Launch
public import proofs.«01_k».proof.Proof.Gen.DxInEIdeal.Points
public import proofs.«01_k».proof.Proof.Gen.DxInEIdeal.Frame
public import proofs.«01_k».proof.Proof.Gen.DxInEIdeal.Value
public import proofs.«01_k».proof.Proof.Gen.DxInERefIdeal
public import proofs.«01_k».proof.Proof.Gen.DxInERefIdeal.Run
public import proofs.«01_k».proof.Proof.Gen.DxInERefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.InO
public import proofs.«01_k».proof.Proof.Gen.InO.Skeleton
public import proofs.«01_k».proof.Proof.Gen.InO.Launch
public import proofs.«01_k».proof.Proof.Gen.InO.Points
public import proofs.«01_k».proof.Proof.Gen.InO.Frame
public import proofs.«01_k».proof.Proof.Gen.InOIdeal
public import proofs.«01_k».proof.Proof.Gen.InOIdeal.Skeleton
public import proofs.«01_k».proof.Proof.Gen.InOIdeal.Launch
public import proofs.«01_k».proof.Proof.Gen.InOIdeal.Points
public import proofs.«01_k».proof.Proof.Gen.InOIdeal.Frame
public import proofs.«01_k».proof.Proof.Gen.InOIdeal.Value
public import proofs.«01_k».proof.Proof.Gen.InORefIdeal
public import proofs.«01_k».proof.Proof.Gen.InORefIdeal.Run
public import proofs.«01_k».proof.Proof.Gen.InORefIdeal.Read
public import proofs.«01_k».proof.Proof.Gen.InE
public import proofs.«01_k».proof.Proof.Gen.InE.Skeleton
public import proofs.«01_k».proof.Proof.Gen.InE.Launch
public import proofs.«01_k».proof.Proof.Gen.InE.Points
public import proofs.«01_k».proof.Proof.Gen.InE.Frame
public import proofs.«01_k».proof.Proof.Gen.InEIdeal
public import proofs.«01_k».proof.Proof.Gen.InEIdeal.Skeleton
public import proofs.«01_k».proof.Proof.Gen.InEIdeal.Launch
public import proofs.«01_k».proof.Proof.Gen.InEIdeal.Points
public import proofs.«01_k».proof.Proof.Gen.InEIdeal.Frame
public import proofs.«01_k».proof.Proof.Gen.InEIdeal.Value
public import proofs.«01_k».proof.Proof.Gen.InERefIdeal
public import proofs.«01_k».proof.Proof.Gen.InERefIdeal.Run
public import proofs.«01_k».proof.Proof.Gen.InERefIdeal.Read
public import proofs.«01_k».proof.Proof.Gen.OutMix
public import proofs.«01_k».proof.Proof.Gen.OutMix.Skeleton
public import proofs.«01_k».proof.Proof.Gen.OutMix.Launch
public import proofs.«01_k».proof.Proof.Gen.OutMix.Points
public import proofs.«01_k».proof.Proof.Gen.OutMix.Frame
public import proofs.«01_k».proof.Proof.Gen.OutMixIdeal
public import proofs.«01_k».proof.Proof.Gen.OutMixIdeal.Skeleton
public import proofs.«01_k».proof.Proof.Gen.OutMixIdeal.Launch
public import proofs.«01_k».proof.Proof.Gen.OutMixIdeal.Points
public import proofs.«01_k».proof.Proof.Gen.OutMixIdeal.Frame
public import proofs.«01_k».proof.Proof.Gen.OutMixIdeal.Value
public import proofs.«01_k».proof.Proof.Gen.OutMixRefIdeal
public import proofs.«01_k».proof.Proof.Gen.OutMixRefIdeal.Run
public import proofs.«01_k».proof.Proof.Gen.OutMixRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_swiglu_finite
public import proofs.«01_k».proof.Proof.Gen.GradX
public import proofs.«01_k».proof.Proof.Gen.GradX.Skeleton
public import proofs.«01_k».proof.Proof.Gen.GradX.Launch
public import proofs.«01_k».proof.Proof.Gen.GradX.Points
public import proofs.«01_k».proof.Proof.Gen.GradX.Frame
public import proofs.«01_k».proof.Proof.Gen.GradXIdeal
public import proofs.«01_k».proof.Proof.Gen.GradXIdeal.Skeleton
public import proofs.«01_k».proof.Proof.Gen.GradXIdeal.Launch
public import proofs.«01_k».proof.Proof.Gen.GradXIdeal.Points
public import proofs.«01_k».proof.Proof.Gen.GradXIdeal.Frame
public import proofs.«01_k».proof.Proof.Gen.GradXIdeal.Value
public import proofs.«01_k».proof.Proof.Gen.GradXRefIdeal
public import proofs.«01_k».proof.Proof.Gen.GradXRefIdeal.Run
public import proofs.«01_k».proof.Proof.Gen.GradXRefIdeal.Read
public import proofs.«01_k».proof.Proof.Gen.RmsBwd
public import proofs.«01_k».proof.Proof.Gen.RmsBwd.Skeleton
public import proofs.«01_k».proof.Proof.Gen.RmsBwd.Launch
public import proofs.«01_k».proof.Proof.Gen.RmsBwd.Points
public import proofs.«01_k».proof.Proof.Gen.RmsBwd.Frame
public import proofs.«01_k».proof.Proof.Gen.RmsBwdIdeal
public import proofs.«01_k».proof.Proof.Gen.RmsBwdIdeal.Skeleton
public import proofs.«01_k».proof.Proof.Gen.RmsBwdIdeal.Launch
public import proofs.«01_k».proof.Proof.Gen.RmsBwdIdeal.Points
public import proofs.«01_k».proof.Proof.Gen.RmsBwdIdeal.Frame
public import proofs.«01_k».proof.Proof.Gen.RmsBwdIdeal.Value
public import proofs.«01_k».proof.Proof.Gen.RmsBwdRefIdeal
public import proofs.«01_k».proof.Proof.Gen.RmsBwdRefIdeal.Run
public import proofs.«01_k».proof.Proof.Gen.RmsBwdRefIdeal.Read
public import proofs.«01_k».proof.Proof.Gen.RmsFwd
public import proofs.«01_k».proof.Proof.Gen.RmsFwd.Skeleton
public import proofs.«01_k».proof.Proof.Gen.RmsFwd.Launch
public import proofs.«01_k».proof.Proof.Gen.RmsFwd.Points
public import proofs.«01_k».proof.Proof.Gen.RmsFwd.Frame
public import proofs.«01_k».proof.Proof.Gen.RmsFwdIdeal
public import proofs.«01_k».proof.Proof.Gen.RmsFwdIdeal.Skeleton
public import proofs.«01_k».proof.Proof.Gen.RmsFwdIdeal.Launch
public import proofs.«01_k».proof.Proof.Gen.RmsFwdIdeal.Points
public import proofs.«01_k».proof.Proof.Gen.RmsFwdIdeal.Frame
public import proofs.«01_k».proof.Proof.Gen.RmsFwdIdeal.Value
public import proofs.«01_k».proof.Proof.Gen.RmsFwdRefIdeal
public import proofs.«01_k».proof.Proof.Gen.RmsFwdRefIdeal.Run
public import proofs.«01_k».proof.Proof.Gen.RmsFwdRefIdeal.Read
public import proofs.«01_k».proof.Proof.Gen.AdamInE
public import proofs.«01_k».proof.Proof.Gen.AdamInE.Skeleton
public import proofs.«01_k».proof.Proof.Gen.AdamInE.Launch
public import proofs.«01_k».proof.Proof.Gen.AdamInE.Points
public import proofs.«01_k».proof.Proof.Gen.AdamInE.Frame
public import proofs.«01_k».proof.Proof.Gen.AdamInEIdeal
public import proofs.«01_k».proof.Proof.Gen.AdamInEIdeal.Skeleton
public import proofs.«01_k».proof.Proof.Gen.AdamInEIdeal.Launch
public import proofs.«01_k».proof.Proof.Gen.AdamInEIdeal.Points
public import proofs.«01_k».proof.Proof.Gen.AdamInEIdeal.Frame
public import proofs.«01_k».proof.Proof.Gen.AdamInEIdeal.Value
public import proofs.«01_k».proof.Proof.Gen.AdamInERefIdeal
public import proofs.«01_k».proof.Proof.Gen.AdamInERefIdeal.Run
public import proofs.«01_k».proof.Proof.Gen.AdamInERefIdeal.Read
public import proofs.«01_k».proof.Proof.Gen.AdamInO
public import proofs.«01_k».proof.Proof.Gen.AdamInO.Skeleton
public import proofs.«01_k».proof.Proof.Gen.AdamInO.Launch
public import proofs.«01_k».proof.Proof.Gen.AdamInO.Points
public import proofs.«01_k».proof.Proof.Gen.AdamInO.Frame
public import proofs.«01_k».proof.Proof.Gen.AdamInOIdeal
public import proofs.«01_k».proof.Proof.Gen.AdamInOIdeal.Skeleton
public import proofs.«01_k».proof.Proof.Gen.AdamInOIdeal.Launch
public import proofs.«01_k».proof.Proof.Gen.AdamInOIdeal.Points
public import proofs.«01_k».proof.Proof.Gen.AdamInOIdeal.Frame
public import proofs.«01_k».proof.Proof.Gen.AdamInOIdeal.Value
public import proofs.«01_k».proof.Proof.Gen.AdamInORefIdeal
public import proofs.«01_k».proof.Proof.Gen.AdamInORefIdeal.Run
public import proofs.«01_k».proof.Proof.Gen.AdamInORefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Even.Equation
public import proofs.«01_k».proof.Proof.Even.Text
public import proofs.«01_k».proof.Proof.Prod.DwFfn
public import proofs.«01_k».proof.Proof.Prod.DxFfn
public import proofs.«01_k».proof.Proof.Prod.DwOut
public import proofs.«01_k».proof.Proof.Prod.DxOut
public import proofs.«01_k».proof.Proof.Prod.DwInO
public import proofs.«01_k».proof.Proof.Prod.DxInO
public import proofs.«01_k».proof.Proof.Prod.DwInE
public import proofs.«01_k».proof.Proof.Prod.DxInE
public import proofs.«01_k».proof.Proof.Prod.Down
public import proofs.«01_k».proof.Proof.Prod.InO
public import proofs.«01_k».proof.Proof.Prod.InE
public import proofs.«01_k».proof.Proof.Prod.OutMix
public import proofs.«01_k».proof.Proof.Ffn.Equation
public import proofs.«01_k».proof.Proof.Norm.Equation
public import proofs.«01_k».proof.Proof.Norm.Middle
public import proofs.«01_k».proof.Proof.Norm.Forward
public import proofs.«01_k».proof.Proof.Adam.InE
public import proofs.«01_k».proof.Proof.Adam.InO
public import proofs.«01_k».proof.Proof.Adam.Out
public import proofs.«01_k».proof.Proof.Adam.Small
public import Idealize.ShloMosaic.Adequacy
public import Idealize.ShloMosaic.Init

@[expose] public section

noncomputable section

namespace Cert.Proof

open Idealize.ShloMosaic Idealize.SL.Sem

section even
open Cert.EvenBwdIdeal.Hand

/-- The kernel's frame at the words: its text is the idealized program's. -/
theorem frame_even : Cert.quiescent_EvenBwd := Cert.EvenBwd.Hand.frame
theorem frame_even_ideal : Cert.quiescent_EvenBwdIdeal := fun m g _ => Cert.EvenBwdIdeal.Hand.frame (F := Ideal) m g
theorem frame_even_pre : Cert.quiescent_EvenBwdIdeal_pre_even_finite := fun m g _ => Cert.EvenBwdIdeal.Hand.frame (F := Ideal) m g
theorem frame_ref : Cert.quiescent_EvenBwdRefIdeal := fun m g _ =>
  (θ_run Cert.EvenBwdRefIdeal.defs _ _).mono (fun r h => ⟨fun c => (h c).2.2.2.2.2, sem_eq_zero_of_no_sems (by decide) r.2⟩)
    (Cert.EvenBwdRefIdeal.Value.run (F := Ideal) m g)
theorem frame_ref_pre : Cert.quiescent_EvenBwdRefIdeal_pre_even_finite := fun m g _ => frame_ref m g trivial

/-- The two programs' five results are equal. -/
theorem even_equal : Cert.algebraic_EvenBwdIdeal_EvenBwdRefIdeal_pre_even_finite := by
  intro m g m' g' hpre hargs
  have hrow := realRows m hpre
  refine ⟨final0 m, final1 m, final2 m, final3 m, final4 m, ?_, ?_⟩
  · refine (θ_run Cert.EvenBwdIdeal.defs _ _).mono ?_ (θ_run_and (run_values m g) (Cert.EvenBwdIdeal.Hand.frame (F := Ideal) m g))
    rintro r ⟨hv, ha, -⟩ c
    obtain ⟨h0, h1, h2, h3, h4⟩ := hv c
    exact ⟨h0, h1, h2, h3, h4, ha c⟩
  · refine (θ_run Cert.EvenBwdRefIdeal.defs _ _).mono ?_ (Cert.EvenBwdRefIdeal.Value.run (F := Ideal) m' g')
    intro r h c
    obtain ⟨h0, h1, h2, h3, h4, ha⟩ := h c
    obtain ⟨e0, e1, e2, e3, e4, e5, e6, e7⟩ := hargs c
    refine ⟨?_, ?_, ?_, ?_, ?_, ha⟩
    · refine (h0.trans (Cert.EvenBwdRefIdeal.Read.val_main_v122_eq _)).trans (Eq.trans ?_ (eq0 m (hrow c)))
      rw [← e0, ← e1, ← e4, ← e5]
    · refine (h1.trans (Cert.EvenBwdRefIdeal.Read.val_main_v123_eq _)).trans (Eq.trans ?_ (eq1 m c))
      rw [← e0, ← e6, ← e7]
    · refine (h2.trans (Cert.EvenBwdRefIdeal.Read.val_main_v125_eq _)).trans (Eq.trans ?_ (eq2 m c))
      rw [← e0, ← e6, ← e7]
    · refine (h3.trans (Cert.EvenBwdRefIdeal.Read.val_main_v127_eq _)).trans (Eq.trans ?_ (eq3 m (hrow c)))
      rw [← e0, ← e1, ← e2, ← e3, ← e4, ← e5, ← e6]
    · refine (h4.trans (Cert.EvenBwdRefIdeal.Read.val_main_v84_eq _)).trans (Eq.trans ?_ (eq4 m c))
      rw [← e0, ← e2, ← e3, ← e7]
end even

theorem claim : Cert.Claim := ⟨
  Cert.EvenBwd.Gen.facts, Cert.EvenBwdIdeal.Gen.facts, Cert.EvenBwdRefIdeal.Gen.facts,
  Cert.DwFfn.Gen.facts, Cert.DwFfnIdeal.Gen.facts, Cert.DwFfnRefIdeal.Gen.facts,
  Cert.DxFfn.Gen.facts, Cert.DxFfnIdeal.Gen.facts, Cert.DxFfnRefIdeal.Gen.facts,
  Cert.DwOut.Gen.facts, Cert.DwOutIdeal.Gen.facts, Cert.DwOutRefIdeal.Gen.facts,
  Cert.DxOut.Gen.facts, Cert.DxOutIdeal.Gen.facts, Cert.DxOutRefIdeal.Gen.facts,
  Cert.DwInO.Gen.facts, Cert.DwInOIdeal.Gen.facts, Cert.DwInORefIdeal.Gen.facts,
  Cert.DxInO.Gen.facts, Cert.DxInOIdeal.Gen.facts, Cert.DxInORefIdeal.Gen.facts,
  Cert.DwInE.Gen.facts, Cert.DwInEIdeal.Gen.facts, Cert.DwInERefIdeal.Gen.facts,
  Cert.DxInE.Gen.facts, Cert.DxInEIdeal.Gen.facts, Cert.DxInERefIdeal.Gen.facts,
  Cert.Down.Gen.facts, Cert.DownIdeal.Gen.facts, Cert.DownRefIdeal.Gen.facts,
  Cert.InO.Gen.facts, Cert.InOIdeal.Gen.facts, Cert.InORefIdeal.Gen.facts,
  Cert.InE.Gen.facts, Cert.InEIdeal.Gen.facts, Cert.InERefIdeal.Gen.facts,
  Cert.OutMix.Gen.facts, Cert.OutMixIdeal.Gen.facts, Cert.OutMixRefIdeal.Gen.facts,
  Cert.Ffn.Gen.facts, Cert.FfnIdeal.Gen.facts, Cert.FfnRefIdeal.Gen.facts,
  Cert.GradX.Gen.facts, Cert.GradXIdeal.Gen.facts, Cert.GradXRefIdeal.Gen.facts,
  Cert.RmsBwd.Gen.facts, Cert.RmsBwdIdeal.Gen.facts, Cert.RmsBwdRefIdeal.Gen.facts,
  Cert.RmsFwd.Gen.facts, Cert.RmsFwdIdeal.Gen.facts, Cert.RmsFwdRefIdeal.Gen.facts,
  Cert.AdamInE.Gen.facts, Cert.AdamInEIdeal.Gen.facts, Cert.AdamInERefIdeal.Gen.facts,
  Cert.AdamInO.Gen.facts, Cert.AdamInOIdeal.Gen.facts, Cert.AdamInORefIdeal.Gen.facts,
  Cert.AdamOut.Gen.facts, Cert.AdamOutIdeal.Gen.facts, Cert.AdamOutRefIdeal.Gen.facts,
  Cert.AdamSmall.Gen.facts, Cert.AdamSmallIdeal.Gen.facts, Cert.AdamSmallRefIdeal.Gen.facts,
  Cert.Pre_even_finite.Gen.facts, Cert.Pre_swiglu_finite.Gen.facts,
  frame_even, frame_even_ideal, frame_even_pre, frame_ref, frame_ref_pre,
  DwFfn_frame, DwFfn_frame_ideal, DwFfn_frame_ref,
  DxFfn_frame, DxFfn_frame_ideal, DxFfn_frame_ref,
  DwOut_frame, DwOut_frame_ideal, DwOut_frame_ref,
  DxOut_frame, DxOut_frame_ideal, DxOut_frame_ref,
  DwInO_frame, DwInO_frame_ideal, DwInO_frame_ref,
  DxInO_frame, DxInO_frame_ideal, DxInO_frame_ref,
  DwInE_frame, DwInE_frame_ideal, DwInE_frame_ref,
  DxInE_frame, DxInE_frame_ideal, DxInE_frame_ref,
  Down_frame, Down_frame_ideal, Down_frame_ref,
  InO_frame, InO_frame_ideal, InO_frame_ref,
  InE_frame, InE_frame_ideal, InE_frame_ref,
  OutMix_frame, OutMix_frame_ideal, OutMix_frame_ref,
  Ffn_frame, Ffn_frame_ideal, Ffn_frame_pre, Ffn_frame_ref, Ffn_frame_ref_pre,
  GradX_frame, GradX_frame_ideal, GradX_frame_ref,
  RmsBwd_frame, RmsBwd_frame_ideal, RmsBwd_frame_ref,
  RmsFwd_frame, RmsFwd_frame_ideal, RmsFwd_frame_ref,
  AdamInE_frame, AdamInE_frame_ideal, AdamInE_frame_ref,
  AdamInO_frame, AdamInO_frame_ideal, AdamInO_frame_ref,
  AdamOut_frame, AdamOut_frame_ideal, AdamOut_frame_ref,
  AdamSmall_frame, AdamSmall_frame_ideal, AdamSmall_frame_ref,
  trivial, even_equal,
  trivial, DwFfn_equal,
  trivial, DxFfn_equal,
  trivial, DwOut_equal,
  trivial, DxOut_equal,
  trivial, DwInO_equal,
  trivial, DxInO_equal,
  trivial, DwInE_equal,
  trivial, DxInE_equal,
  trivial, Down_equal,
  trivial, InO_equal,
  trivial, InE_equal,
  trivial, OutMix_equal,
  trivial, Ffn_equal,
  trivial, GradX_equal,
  trivial, RmsBwd_equal,
  trivial, RmsFwd_equal,
  trivial, AdamInE_equal,
  trivial, AdamInO_equal,
  trivial, AdamOut_equal,
  trivial, AdamSmall_equal⟩

end Cert.Proof

end
